-- ==== Defs.lean ====
def Pre_Kernel [hPre_routing_ok : Cert.Pre_routing_ok.Facts] (m : (ℓ : Loc Cert.Kernel.nD Cert.Kernel.τ Cert.Kernel.sig) → Buf (Elt Bits) ℓ) : Prop :=
  ∀ c : Dev Cert.Kernel.nD,
    (Cert.Pre_routing_ok.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_routing_ok : Cert.Pre_routing_ok.Facts] (m : (ℓ : Loc Cert.KernelIdeal.nD Cert.KernelIdeal.τ Cert.KernelIdeal.sig) → Buf (Elt Ideal) ℓ) : Prop :=
  ∀ c : Dev Cert.KernelIdeal.nD,
    (Cert.Pre_routing_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_routing_ok : Cert.Pre_routing_ok.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_routing_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def quiescent_Kernel [hKernel : Cert.Kernel.Facts] [hPre_routing_ok : Cert.Pre_routing_ok.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] [hPre_routing_ok : Cert.Pre_routing_ok.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] [hPre_routing_ok : Cert.Pre_routing_ok.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_routing_ok : Cert.Pre_routing_ok.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v13)) (v1 : (c : Dev Cert.KernelIdeal.nD) → Buf (Elt Ideal) ((c.tc : Thread Cert.KernelIdeal.nD Cert.KernelIdeal.τ).loc Cert.KernelIdeal.main_v14)) (v2 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_v14) = v1 c
          ∧ r.2.mem ((c.tc : Thread Cert.KernelIdeal.nD Cert.KernelIdeal.τ).loc Cert.KernelIdeal.main_v15) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6_0) = v0 c
          ∧ r.2.mem ((c.tc : Thread Cert.ReferenceIdeal.nD Cert.ReferenceIdeal.τ).loc Cert.ReferenceIdeal.main_v6_1) = v1 c
          ∧ r.2.mem ((c.tc : Thread Cert.ReferenceIdeal.nD Cert.ReferenceIdeal.τ).loc Cert.ReferenceIdeal.main_v6_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_routing_ok : Cert.Pre_routing_ok.Facts),
    quiescent_Kernel (hKernel := hKernel) (hPre_routing_ok := hPre_routing_ok)
    ∧ quiescent_KernelIdeal (hKernelIdeal := hKernelIdeal) (hPre_routing_ok := hPre_routing_ok)
    ∧ quiescent_ReferenceIdeal (hReferenceIdeal := hReferenceIdeal) (hPre_routing_ok := hPre_routing_ok)
    ∧ preserves_Kernel_KernelIdeal
    ∧ algebraic_KernelIdeal_ReferenceIdeal (hKernelIdeal := hKernelIdeal) (hReferenceIdeal := hReferenceIdeal) (hPre_routing_ok := hPre_routing_ok)
-- ==== Pre_routing_ok.lean ====
abbrev S32x1x5120 : Shape := ⟨3, ![32, 1, 5120]⟩
abbrev S32x1x8 : Shape := ⟨3, ![32, 1, 8]⟩
abbrev S32 : Shape := ⟨1, ![32]⟩
abbrev S32x5120x768 : Shape := ⟨3, ![32, 5120, 768]⟩
abbrev S32x768 : Shape := ⟨2, ![32, 768]⟩
abbrev S32x768x5120 : Shape := ⟨3, ![32, 768, 5120]⟩
abbrev S32x5120 : Shape := ⟨2, ![32, 5120]⟩
abbrev S32x8x5120x16 : Shape := ⟨4, ![32, 8, 5120, 16]⟩
abbrev S32x8x16x768 : Shape := ⟨4, ![32, 8, 16, 768]⟩
abbrev S_ : Shape := ⟨0, ![]⟩
abbrev S8 : Shape := ⟨1, ![8]⟩
abbrev S32x1x8x1 : Shape := ⟨4, ![32, 1, 8, 1]⟩
abbrev S32x1x1x8 : Shape := ⟨4, ![32, 1, 1, 8]⟩
abbrev S32x1x8x8 : Shape := ⟨4, ![32, 1, 8, 8]⟩
abbrev S8x1 : Shape := ⟨2, ![8, 1]⟩
abbrev S1x8 : Shape := ⟨2, ![1, 8]⟩
abbrev S8x8 : Shape := ⟨2, ![8, 8]⟩
abbrev S1x1x8x8 : Shape := ⟨4, ![1, 1, 8, 8]⟩
abbrev S32x1x1x1 : Shape := ⟨4, ![32, 1, 1, 1]⟩

class Facts : Prop where
  bcast_S_S32x1x8 : S_.BroadcastsInDim S32x1x8 (![] : Fin 0 → Fin S32x1x8.rank)
  bcast_S_S32 : S_.BroadcastsInDim S32 (![] : Fin 0 → Fin S32.rank)
  bcast_S32x1x8_S32x1x8x1_0_1_2 : S32x1x8.BroadcastsInDim S32x1x8x1 (![0, 1, 2] : Fin 3 → Fin S32x1x8x1.rank)
  bcast_S32x1x8_S32x1x1x8_0_1_3 : S32x1x8.BroadcastsInDim S32x1x1x8 (![0, 1, 3] : Fin 3 → Fin S32x1x1x8.rank)
  bcast_S32x1x8x1_S32x1x8x8_0_1_2_3 : S32x1x8x1.BroadcastsInDim S32x1x8x8 (![0, 1, 2, 3] : Fin 4 → Fin S32x1x8x8.rank)
  bcast_S32x1x1x8_S32x1x8x8_0_1_2_3 : S32x1x1x8.BroadcastsInDim S32x1x8x8 (![0, 1, 2, 3] : Fin 4 → Fin S32x1x8x8.rank)
  bcast_S8_S8x1_0 : S8.BroadcastsInDim S8x1 (![0] : Fin 1 → Fin S8x1.rank)
  bcast_S8_S1x8_1 : S8.BroadcastsInDim S1x8 (![1] : Fin 1 → Fin S1x8.rank)
  bcast_S8x1_S8x8_0_1 : S8x1.BroadcastsInDim S8x8 (![0, 1] : Fin 2 → Fin S8x8.rank)
  bcast_S1x8_S8x8_0_1 : S1x8.BroadcastsInDim S8x8 (![0, 1] : Fin 2 → Fin S8x8.rank)
  bcast_S8x8_S1x1x8x8_2_3 : S8x8.BroadcastsInDim S1x1x8x8 (![2, 3] : Fin 2 → Fin S1x1x8x8.rank)
  bcast_S1x1x8x8_S32x1x8x8_0_1_2_3 : S1x1x8x8.BroadcastsInDim S32x1x8x8 (![0, 1, 2, 3] : Fin 4 → Fin S32x1x8x8.rank)
  bcast_S32_S32x1x1x1_0 : S32.BroadcastsInDim S32x1x1x1 (![0] : Fin 1 → Fin S32x1x1x1.rank)
  bcast_S32x1x1x1_S32x1x8x1_0_1_2_3 : S32x1x1x1.BroadcastsInDim S32x1x8x1 (![0, 1, 2, 3] : Fin 4 → Fin S32x1x8x1.rank)

variable [Facts]

def fn_part1 {F : FTy → Type} [FloatOps F] (main_v4 : IVec S32x1x8 1) (main_v9 : IVec S32 1) (main_v15 : IVec S32x1x8x8 1) (main_v18 : IVec S8x8 32) (main_v19 : IVec S8x8 32) : IVec S32x1x8x8 1 :=
  let main_v20 : IVec S8x8 1 := cmpi .eq main_v18 main_v19
  let main_v21 : IVec S1x1x8x8 1 := broadcastInDim S1x1x8x8 ![2, 3] bcast_S8x8_S1x1x8x8_2_3 main_v20
  let main_v22 : IVec S32x1x8x8 1 := broadcastInDim S32x1x8x8 ![0, 1, 2, 3] bcast_S1x1x8x8_S32x1x8x8_0_1_2_3 main_v21
  let main_v23 : IVec S32x1x8x8 1 := ori main_v15 main_v22
  let main_v24 : IVec S32x1x8x1 1 := broadcastInDim S32x1x8x1 ![0, 1, 2] bcast_S32x1x8_S32x1x8x1_0_1_2 main_v4
  let main_v25 : IVec S32x1x1x1 1 := broadcastInDim S32x1x1x1 ![0] bcast_S32_S32x1x1x1_0 main_v9
  let main_v26 : IVec S32x1x8x1 1 := broadcastInDim S32x1x8x1 ![0, 1, 2, 3] bcast_S32x1x1x1_S32x1x8x1_0_1_2_3 main_v25
  let main_v27 : IVec S32x1x8x1 1 := andi main_v24 main_v26
  let main_v28 : IVec S32x1x8x8 1 := broadcastInDim S32x1x8x8 ![0, 1, 2, 3] bcast_S32x1x8x1_S32x1x8x8_0_1_2_3 main_v27
  let main_v29 : IVec S32x1x8x8 1 := andi main_v28 main_v23
  main_v29

def fn {F : FTy → Type} [FloatOps F] (main_arg0 : FVec F S32x1x5120 .bf16) (main_arg1 : IVec S32x1x8 32) (main_arg2 : FVec F S32x1x8 .f32) (main_arg3 : IVec S32 32) (main_arg4 : FVec F S32x5120x768 .fp8e4m3) (main_arg5 : FVec F S32x768 .f32) (main_arg6 : FVec F S32x768x5120 .fp8e4m3) (main_arg7 : FVec F S32x5120 .f32) (main_arg8 : FVec F S32x8x5120x16 .bf16) (main_arg9 : FVec F S32x8x16x768 .bf16) : IVec S32x1x8x8 1 :=
  let main_c : IVec S_ 32 := constantI S_ 32 0#32
  let main_v0 : IVec S32x1x8 32 := broadcastInDim S32x1x8 ![] bcast_S_S32x1x8 main_c
  let main_v1 : IVec S32x1x8 1 := cmpi .sge main_arg1 main_v0
  let main_c_0 : IVec S_ 32 := constantI S_ 32 32#32
  let main_v2 : IVec S32x1x8 32 := broadcastInDim S32x1x8 ![] bcast_S_S32x1x8 main_c_0
  let main_v3 : IVec S32x1x8 1 := cmpi .slt main_arg1 main_v2
  let main_v4 : IVec S32x1x8 1 := andi main_v1 main_v3
  let main_c_1 : IVec S_ 32 := constantI S_ 32 4294967295#32
  let main_v5 : IVec S32 32 := broadcastInDim S32 ![] bcast_S_S32 main_c_1
  let main_v6 : IVec S32 1 := cmpi .sge main_arg3 main_v5
  let main_c_2 : IVec S_ 32 := constantI S_ 32 8#32
  let main_v7 : IVec S32 32 := broadcastInDim S32 ![] bcast_S_S32 main_c_2
  let main_v8 : IVec S32 1 := cmpi .slt main_arg3 main_v7
  let main_v9 : IVec S32 1 := andi main_v6 main_v8
  let main_v10 : IVec S8 32 := iotaInDim S8 32 0
  let main_v11 : IVec S32x1x8x1 32 := broadcastInDim S32x1x8x1 ![0, 1, 2] bcast_S32x1x8_S32x1x8x1_0_1_2 main_arg1
  let main_v12 : IVec S32x1x1x8 32 := broadcastInDim S32x1x1x8 ![0, 1, 3] bcast_S32x1x8_S32x1x1x8_0_1_3 main_arg1
  let main_v13 : IVec S32x1x8x8 32 := broadcastInDim S32x1x8x8 ![0, 1, 2, 3] bcast_S32x1x8x1_S32x1x8x8_0_1_2_3 main_v11
  let main_v14 : IVec S32x1x8x8 32 := broadcastInDim S32x1x8x8 ![0, 1, 2, 3] bcast_S32x1x1x8_S32x1x8x8_0_1_2_3 main_v12
  let main_v15 : IVec S32x1x8x8 1 := cmpi .ne main_v13 main_v14
  let main_v16 : IVec S8x1 32 := broadcastInDim S8x1 ![0] bcast_S8_S8x1_0 main_v10
  let main_v17 : IVec S1x8 32 := broadcastInDim S1x8 ![1] bcast_S8_S1x8_1 main_v10
  let main_v18 : IVec S8x8 32 := broadcastInDim S8x8 ![0, 1] bcast_S8x1_S8x8_0_1 main_v16
  let main_v19 : IVec S8x8 32 := broadcastInDim S8x8 ![0, 1] bcast_S1x8_S8x8_0_1 main_v17
  fn_part1 (F := F) main_v4 main_v9 main_v15 main_v18 main_v19
-- ==== Kernel.lean ====
abbrev S32x1x5120 : Shape := ⟨3, ![32, 1, 5120]⟩
abbrev S32x1x8 : Shape := ⟨3, ![32, 1, 8]⟩
abbrev S32 : Shape := ⟨1, ![32]⟩
abbrev S32x5120x768 : Shape := ⟨3, ![32, 5120, 768]⟩
abbrev S32x768 : Shape := ⟨2, ![32, 768]⟩
abbrev S32x768x5120 : Shape := ⟨3, ![32, 768, 5120]⟩
abbrev S32x5120 : Shape := ⟨2, ![32, 5120]⟩
abbrev S32x8x5120x16 : Shape := ⟨4, ![32, 8, 5120, 16]⟩
abbrev S32x8x16x768 : Shape := ⟨4, ![32, 8, 16, 768]⟩
abbrev S32x8 : Shape := ⟨2, ![32, 8]⟩
abbrev S8x32 : Shape := ⟨2, ![8, 32]⟩
abbrev S32x1 : Shape := ⟨2, ![32, 1]⟩
abbrev S32x8x16x5120 : Shape := ⟨4, ![32, 8, 16, 5120]⟩
abbrev S256x16x5120 : Shape := ⟨3, ![256, 16, 5120]⟩
abbrev S256x16x768 : Shape := ⟨3, ![256, 16, 768]⟩
abbrev S1x32 : Shape := ⟨2, ![1, 32]⟩
abbrev S4x5120x768 : Shape := ⟨3, ![4, 5120, 768]⟩
abbrev S4x768x5120 : Shape := ⟨3, ![4, 768, 5120]⟩
abbrev S4x8x16x5120 : Shape := ⟨4, ![4, 8, 16, 5120]⟩
abbrev S4x8x16x768 : Shape := ⟨4, ![4, 8, 16, 768]⟩
abbrev S33 : Shape := ⟨1, ![33]⟩
abbrev S4 : Shape := ⟨1, ![4]⟩
abbrev S1x1 : Shape := ⟨2, ![1, 1]⟩
abbrev S1 : Shape := ⟨1, ![1]⟩
abbrev S_ : Shape := ⟨0, ![]⟩
abbrev S1x5120x768 : Shape := ⟨3, ![1, 5120, 768]⟩
abbrev S5120x768 : Shape := ⟨2, ![5120, 768]⟩
abbrev S1x768x5120 : Shape := ⟨3, ![1, 768, 5120]⟩
abbrev S768x5120 : Shape := ⟨2, ![768, 5120]⟩
abbrev S1x1x16x5120 : Shape := ⟨4, ![1, 1, 16, 5120]⟩
abbrev S16x5120 : Shape := ⟨2, ![16, 5120]⟩
abbrev S1x16x5120 : Shape := ⟨3, ![1, 16, 5120]⟩
abbrev S1x1x16x768 : Shape := ⟨4, ![1, 1, 16, 768]⟩
abbrev S16x768 : Shape := ⟨2, ![16, 768]⟩
abbrev S1x16x768 : Shape := ⟨3, ![1, 16, 768]⟩
abbrev S32x256 : Shape := ⟨2, ![32, 256]⟩
abbrev S32x128 : Shape := ⟨2, ![32, 128]⟩
abbrev S1x768 : Shape := ⟨2, ![1, 768]⟩
abbrev S1x8x16x5120 : Shape := ⟨4, ![1, 8, 16, 5120]⟩
abbrev S8x16x5120 : Shape := ⟨3, ![8, 16, 5120]⟩
abbrev S128x5120 : Shape := ⟨2, ![128, 5120]⟩
abbrev S1x8x16x768 : Shape := ⟨4, ![1, 8, 16, 768]⟩
abbrev S8x16x768 : Shape := ⟨3, ![8, 16, 768]⟩
abbrev S128x768 : Shape := ⟨2, ![128, 768]⟩
abbrev S1x5120 : Shape := ⟨2, ![1, 5120]⟩
abbrev S32x1x1 : Shape := ⟨3, ![32, 1, 1]⟩

abbrev nBuf : Space → Nat
  | .hbm => 28
  | .vmem => 16
  | .smem => 4
  | _ => 0

abbrev bufTy : (tb : Table) → Fin (tcTables nBuf tb) → BufTy
  | .hbm, ⟨0, _⟩ => ⟨S32x1x5120, .bf16⟩
  | .hbm, ⟨1, _⟩ => ⟨S32x1x8, .i32⟩
  | .hbm, ⟨2, _⟩ => ⟨S32x1x8, .f32⟩
  | .hbm, ⟨3, _⟩ => ⟨S32, .i32⟩
  | .hbm, ⟨4, _⟩ => ⟨S32x5120x768, .fp8e4m3⟩
  | .hbm, ⟨5, _⟩ => ⟨S32x768, .f32⟩
  | .hbm, ⟨6, _⟩ => ⟨S32x768x5120, .fp8e4m3⟩
  | .hbm, ⟨7, _⟩ => ⟨S32x5120, .f32⟩
  | .hbm, ⟨8, _⟩ => ⟨S32x8x5120x16, .bf16⟩
  | .hbm, ⟨9, _⟩ => ⟨S32x8x16x768, .bf16⟩
  | .hbm, ⟨10, _⟩ => ⟨S32x8, .i32⟩
  | .hbm, ⟨11, _⟩ => ⟨S8x32, .i32⟩
  | .hbm, ⟨12, _⟩ => ⟨S32x8, .f32⟩
  | .hbm, ⟨13, _⟩ => ⟨S8x32, .f32⟩
  | .hbm, ⟨14, _⟩ => ⟨S32x1, .i32⟩
  | .hbm, ⟨15, _⟩ => ⟨S32, .i32⟩
  | .hbm, ⟨16, _⟩ => ⟨S32x8x16x5120, .bf16⟩
  | .hbm, ⟨17, _⟩ => ⟨S256x16x5120, .bf16⟩
  | .hbm, ⟨18, _⟩ => ⟨S256x16x768, .bf16⟩
  | .hbm, ⟨19, _⟩ => ⟨S1x32, .i32⟩
  | .hbm, ⟨20, _⟩ => ⟨S32x1, .i32⟩
  | .hbm, ⟨21, _⟩ => ⟨S32x5120, .bf16⟩
  | .hbm, ⟨22, _⟩ => ⟨S32x5120, .bf16⟩
  | .hbm, ⟨23, _⟩ => ⟨S32x5120, .fp8e4m3⟩
  | .hbm, ⟨24, _⟩ => ⟨S32x1, .f32⟩
  | .hbm, ⟨25, _⟩ => ⟨S32x1x5120, .bf16⟩
  | .hbm, ⟨26, _⟩ => ⟨S32x1x5120, .fp8e4m3⟩
  | .hbm, ⟨27, _⟩ => ⟨S32x1x1, .f32⟩
  | .local _ .vmem, ⟨0, _⟩ => ⟨S8x32, .i32⟩
  | .local _ .vmem, ⟨1, _⟩ => ⟨S8x32, .f32⟩
  | .local _ .vmem, ⟨2, _⟩ => ⟨S32x1, .i32⟩
  | .local _ .vmem, ⟨3, _⟩ => ⟨S32x5120, .bf16⟩
  | .local _ .vmem, ⟨4, _⟩ => ⟨S32x768, .f32⟩
  | .local _ .vmem, ⟨5, _⟩ => ⟨S32x5120, .f32⟩
  | .local _ .vmem, ⟨6, _⟩ => ⟨S32x5120, .bf16⟩
  | .local _ .vmem, ⟨7, _⟩ => ⟨S32x5120, .fp8e4m3⟩
  | .local _ .vmem, ⟨8, _⟩ => ⟨S32x1, .f32⟩
  | .local _ .vmem, ⟨9, _⟩ => ⟨S4x5120x768, .fp8e4m3⟩
  | .local _ .vmem, ⟨10, _⟩ => ⟨S4x768x5120, .fp8e4m3⟩
  | .local _ .vmem, ⟨11, _⟩ => ⟨S4x8x16x5120, .bf16⟩
  | .local _ .vmem, ⟨12, _⟩ => ⟨S4x8x16x768, .bf16⟩
  | .local _ .vmem, ⟨13, _⟩ => ⟨S32x8, .i32⟩
  | .local _ .vmem, ⟨14, _⟩ => ⟨S32x8, .f32⟩
  | .local _ .vmem, ⟨15, _⟩ => ⟨S32x5120, .f32⟩
  | .local _ .smem, ⟨0, _⟩ => ⟨S8x32, .i32⟩
  | .local _ .smem, ⟨1, _⟩ => ⟨S1x32, .i32⟩
  | .local _ .smem, ⟨2, _⟩ => ⟨S32, .i32⟩
  | .local _ .smem, ⟨3, _⟩ => ⟨S33, .i32⟩
  | _, _ => ⟨S32x1x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .smem, ⟨0, _⟩ => true
  | .smem, ⟨1, _⟩ => true
  | .smem, ⟨2, _⟩ => true
  | .smem, ⟨3, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12_0 : Ref sig .tc := ⟨.hbm, 22, rfl⟩
abbrev main_v12_1 : Ref sig .tc := ⟨.hbm, 23, rfl⟩
abbrev main_v12_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev cc0_stg2_0 : Ref sig .tc := ⟨.vmem, 0, rfl⟩
abbrev cc0_stg3_0 : Ref sig .tc := ⟨.vmem, 1, rfl⟩
abbrev cc0_stg4_0 : Ref sig .tc := ⟨.vmem, 2, rfl⟩
abbrev cc0_stg5_0 : Ref sig .tc := ⟨.vmem, 3, rfl⟩
abbrev cc0_stg6_0 : Ref sig .tc := ⟨.vmem, 4, rfl⟩
abbrev cc0_stg7_0 : Ref sig .tc := ⟨.vmem, 5, rfl⟩
abbrev cc0_stg8_0 : Ref sig .tc := ⟨.vmem, 6, rfl⟩
abbrev cc0_stg9_0 : Ref sig .tc := ⟨.vmem, 7, rfl⟩
abbrev cc0_stg10_0 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_scratch3 : Ref sig .tc := ⟨.vmem, 12, rfl⟩
abbrev cc0_scratch4 : Ref sig .tc := ⟨.vmem, 13, rfl⟩
abbrev cc0_scratch5 : Ref sig .tc := ⟨.vmem, 14, rfl⟩
abbrev cc0_scratch6 : Ref sig .tc := ⟨.vmem, 15, rfl⟩
abbrev cc0_stg0_0 : Ref sig .tc := ⟨.smem, 0, rfl⟩
abbrev cc0_stg1_0 : Ref sig .tc := ⟨.smem, 1, rfl⟩
abbrev cc0_scratch7 : Ref sig .tc := ⟨.smem, 2, rfl⟩
abbrev cc0_scratch8 : Ref sig .tc := ⟨.smem, 3, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := .none

def k0_off1 (v0 : BitVec 32) : Fin 3 → Nat :=
  let c0_i32_4 : BitVec 32 := 0#32
  let c0_i32_5 : BitVec 32 := 0#32
  ![v0.toNat, 0, 0]

def k0_off2 (v0 : BitVec 32) : Fin 3 → Nat :=
  let c0_i32_10 : BitVec 32 := 0#32
  let c0_i32_11 : BitVec 32 := 0#32
  ![v0.toNat, 0, 0]
@[reducible] def k0_t1_loop : Scf.Loop 32 :=
  let c0_i32_16 : BitVec 32 := 0#32
  let c32_i32 : BitVec 32 := 32#32
  let v17 : BitVec 32 := Scalar.addi c0_i32_16 c32_i32
  let c1_i32 : BitVec 32 := 1#32
  ⟨c0_i32_16, v17, c1_i32⟩
def k0_off3 (k0_t1 : Fin k0_t1_loop.trips) : Fin 1 → Nat :=
  let c0_i32_16 : BitVec 32 := 0#32
  let c1_i32 : BitVec 32 := 1#32
  let arg27 : BitVec 32 := Scf.iv c0_i32_16 c1_i32 k0_t1
  let v177 : Index := Scalar.indexCast arg27
  ![v177.toNat]
@[reducible] def k0_t2_loop : Scf.Loop 32 :=
  let c0_i32_18 : BitVec 32 := 0#32
  let c32_i32_19 : BitVec 32 := 32#32
  let v18 : BitVec 32 := Scalar.addi c0_i32_18 c32_i32_19
  let c1_i32_20 : BitVec 32 := 1#32
  ⟨c0_i32_18, v18, c1_i32_20⟩
def k0_off4 (k0_t2 : Fin k0_t2_loop.trips) : Fin 2 → Nat :=
  let c0_103 : Index := 0#32
  let c0_i32_18 : BitVec 32 := 0#32
  let c1_i32_20 : BitVec 32 := 1#32
  let arg27 : BitVec 32 := Scf.iv c0_i32_18 c1_i32_20 k0_t2
  let v177 : Index := Scalar.indexCast arg27
  ![0, v177.toNat]
def k0_off5 (k0_t2 : Fin k0_t2_loop.trips) : Fin 2 → Nat :=
  let c0_106 : Index := 0#32
  let c0_i32_18 : BitVec 32 := 0#32
  let c1_i32_20 : BitVec 32 := 1#32
  let arg27 : BitVec 32 := Scf.iv c0_i32_18 c1_i32_20 k0_t2
  let v181 : Index := Scalar.indexCast arg27
  ![0, v181.toNat]
def k0_off6 (v182 : BitVec 32) : Fin 1 → Nat :=
  let v183 : Index := Scalar.indexCast v182
  ![v183.toNat]

def k0_chk2 (v182 : BitVec 32) : Prop :=
  (∀ a, (k0_off6 v182) a + S1.size a ≤ S32.size a)
theorem k0_off6_inb : ∀ (v182 : BitVec 32) (k0_hw2 : k0_chk2 v182), ∀ a, (k0_off6 v182) a + S1.size a ≤ S32.size a := fun v182 k0_hw2 => k0_hw2

def k0_off7 (k0_t2 : Fin k0_t2_loop.trips) : Fin 2 → Nat :=
  let c1 : Index := 1#32
  let c0_i32_18 : BitVec 32 := 0#32
  let c1_i32_20 : BitVec 32 := 1#32
  let arg27 : BitVec 32 := Scf.iv c0_i32_18 c1_i32_20 k0_t2
  let v188 : Index := Scalar.indexCast arg27
  ![1, v188.toNat]
def k0_off8 (v189 : BitVec 32) : Fin 1 → Nat :=
  let v190 : Index := Scalar.indexCast v189
  ![v190.toNat]

def k0_chk3 (v189 : BitVec 32) : Prop :=
  (∀ a, (k0_off8 v189) a + S1.size a ≤ S32.size a)
theorem k0_off8_inb : ∀ (v189 : BitVec 32) (k0_hw3 : k0_chk3 v189), ∀ a, (k0_off8 v189) a + S1.size a ≤ S32.size a := fun v189 k0_hw3 => k0_hw3

def k0_off9 (k0_t2 : Fin k0_t2_loop.trips) : Fin 2 → Nat :=
  let c2 : Index := 2#32
  let c0_i32_18 : BitVec 32 := 0#32
  let c1_i32_20 : BitVec 32 := 1#32
  let arg27 : BitVec 32 := Scf.iv c0_i32_18 c1_i32_20 k0_t2
  let v195 : Index := Scalar.indexCast arg27
  ![2, v195.toNat]
def k0_off10 (v196 : BitVec 32) : Fin 1 → Nat :=
  let v197 : Index := Scalar.indexCast v196
  ![v197.toNat]

def k0_chk4 (v196 : BitVec 32) : Prop :=
  (∀ a, (k0_off10 v196) a + S1.size a ≤ S32.size a)
theorem k0_off10_inb : ∀ (v196 : BitVec 32) (k0_hw4 : k0_chk4 v196), ∀ a, (k0_off10 v196) a + S1.size a ≤ S32.size a := fun v196 k0_hw4 => k0_hw4

def k0_off11 (k0_t2 : Fin k0_t2_loop.trips) : Fin 2 → Nat :=
  let c3 : Index := 3#32
  let c0_i32_18 : BitVec 32 := 0#32
  let c1_i32_20 : BitVec 32 := 1#32
  let arg27 : BitVec 32 := Scf.iv c0_i32_18 c1_i32_20 k0_t2
  let v202 : Index := Scalar.indexCast arg27
  ![3, v202.toNat]
def k0_off12 (v203 : BitVec 32) : Fin 1 → Nat :=
  let v204 : Index := Scalar.indexCast v203
  ![v204.toNat]

def k0_chk5 (v203 : BitVec 32) : Prop :=
  (∀ a, (k0_off12 v203) a + S1.size a ≤ S32.size a)
theorem k0_off12_inb : ∀ (v203 : BitVec 32) (k0_hw5 : k0_chk5 v203), ∀ a, (k0_off12 v203) a + S1.size a ≤ S32.size a := fun v203 k0_hw5 => k0_hw5

def k0_off13 (k0_t2 : Fin k0_t2_loop.trips) : Fin 2 → Nat :=
  let c4 : Index := 4#32
  let c0_i32_18 : BitVec 32 := 0#32
  let c1_i32_20 : BitVec 32 := 1#32
  let arg27 : BitVec 32 := Scf.iv c0_i32_18 c1_i32_20 k0_t2
  let v209 : Index := Scalar.indexCast arg27
  ![4, v209.toNat]
def k0_off14 (v210 : BitVec 32) : Fin 1 → Nat :=
  let v211 : Index := Scalar.indexCast v210
  ![v211.toNat]

def k0_chk6 (v210 : BitVec 32) : Prop :=
  (∀ a, (k0_off14 v210) a + S1.size a ≤ S32.size a)
theorem k0_off14_inb : ∀ (v210 : BitVec 32) (k0_hw6 : k0_chk6 v210), ∀ a, (k0_off14 v210) a + S1.size a ≤ S32.size a := fun v210 k0_hw6 => k0_hw6

def k0_off15 (k0_t2 : Fin k0_t2_loop.trips) : Fin 2 → Nat :=
  let c5 : Index := 5#32
  let c0_i32_18 : BitVec 32 := 0#32
  let c1_i32_20 : BitVec 32 := 1#32
  let arg27 : BitVec 32 := Scf.iv c0_i32_18 c1_i32_20 k0_t2
  let v216 : Index := Scalar.indexCast arg27
  ![5, v216.toNat]
def k0_off16 (v217 : BitVec 32) : Fin 1 → Nat :=
  let v218 : Index := Scalar.indexCast v217
  ![v218.toNat]

def k0_chk7 (v217 : BitVec 32) : Prop :=
  (∀ a, (k0_off16 v217) a + S1.size a ≤ S32.size a)
theorem k0_off16_inb : ∀ (v217 : BitVec 32) (k0_hw7 : k0_chk7 v217), ∀ a, (k0_off16 v217) a + S1.size a ≤ S32.size a := fun v217 k0_hw7 => k0_hw7

def k0_off17 (k0_t2 : Fin k0_t2_loop.trips) : Fin 2 → Nat :=
  let c6 : Index := 6#32
  let c0_i32_18 : BitVec 32 := 0#32
  let c1_i32_20 : BitVec 32 := 1#32
  let arg27 : BitVec 32 := Scf.iv c0_i32_18 c1_i32_20 k0_t2
  let v223 : Index := Scalar.indexCast arg27
  ![6, v223.toNat]
def k0_off18 (v224 : BitVec 32) : Fin 1 → Nat :=
  let v225 : Index := Scalar.indexCast v224
  ![v225.toNat]

def k0_chk8 (v224 : BitVec 32) : Prop :=
  (∀ a, (k0_off18 v224) a + S1.size a ≤ S32.size a)
theorem k0_off18_inb : ∀ (v224 : BitVec 32) (k0_hw8 : k0_chk8 v224), ∀ a, (k0_off18 v224) a + S1.size a ≤ S32.size a := fun v224 k0_hw8 => k0_hw8

def k0_off19 (k0_t2 : Fin k0_t2_loop.trips) : Fin 2 → Nat :=
  let c7 : Index := 7#32
  let c0_i32_18 : BitVec 32 := 0#32
  let c1_i32_20 : BitVec 32 := 1#32
  let arg27 : BitVec 32 := Scf.iv c0_i32_18 c1_i32_20 k0_t2
  let v230 : Index := Scalar.indexCast arg27
  ![7, v230.toNat]
def k0_off20 (v231 : BitVec 32) : Fin 1 → Nat :=
  let v232 : Index := Scalar.indexCast v231
  ![v232.toNat]

def k0_chk9 (v231 : BitVec 32) : Prop :=
  (∀ a, (k0_off20 v231) a + S1.size a ≤ S32.size a)
theorem k0_off20_inb : ∀ (v231 : BitVec 32) (k0_hw9 : k0_chk9 v231), ∀ a, (k0_off20 v231) a + S1.size a ≤ S32.size a := fun v231 k0_hw9 => k0_hw9

@[reducible] def k0_t3_loop : Scf.Loop 32 :=
  let c0_i32_24 : BitVec 32 := 0#32
  let c32_i32_25 : BitVec 32 := 32#32
  let v20 : BitVec 32 := Scalar.addi c0_i32_24 c32_i32_25
  let c1_i32_26 : BitVec 32 := 1#32
  ⟨c0_i32_24, v20, c1_i32_26⟩
def k0_off21 (arg28 : BitVec 32) : Fin 1 → Nat :=
  let v177 : Index := Scalar.indexCast arg28
  ![v177.toNat]

def k0_chk10 (arg28 : BitVec 32) : Prop :=
  (∀ a, (k0_off21 arg28) a + S1.size a ≤ S33.size a)
theorem k0_off21_inb : ∀ (arg28 : BitVec 32) (k0_hw10 : k0_chk10 arg28), ∀ a, (k0_off21 arg28) a + S1.size a ≤ S33.size a := fun arg28 k0_hw10 => k0_hw10

def k0_off22 (k0_t3 : Fin k0_t3_loop.trips) : Fin 1 → Nat :=
  let c0_i32_24 : BitVec 32 := 0#32
  let c1_i32_26 : BitVec 32 := 1#32
  let arg27 : BitVec 32 := Scf.iv c0_i32_24 c1_i32_26 k0_t3
  let v179 : Index := Scalar.indexCast arg27
  ![v179.toNat]
def k0_off23 (v0 : BitVec 32) : Fin 1 → Nat :=
  let v22 : Index := Scalar.indexCast v0
  ![v22.toNat]

def k0_chk1 (v0 : BitVec 32) : Prop :=
  (∀ a, (k0_off1 v0) a + S1x5120x768.size a ≤ S32x5120x768.size a) ∧
  (∀ (hinb : ∀ a, (k0_off1 v0) a + S1x5120x768.size a ≤ S32x5120x768.size a), (Rect.unit (s := S32x5120x768) (k0_off1 v0) S1x5120x768.size hinb).WholeWords (EltTy.packing .fp8e4m3)) ∧
  (∀ a, (k0_off2 v0) a + S1x768x5120.size a ≤ S32x768x5120.size a) ∧
  (∀ (hinb : ∀ a, (k0_off2 v0) a + S1x768x5120.size a ≤ S32x768x5120.size a), (Rect.unit (s := S32x768x5120) (k0_off2 v0) S1x768x5120.size hinb).WholeWords (EltTy.packing .fp8e4m3)) ∧
  (∀ a, (k0_off23 v0) a + S1.size a ≤ S32.size a)
theorem k0_off1_inb : ∀ (v0 : BitVec 32) (k0_hw1 : k0_chk1 v0), ∀ a, (k0_off1 v0) a + S1x5120x768.size a ≤ S32x5120x768.size a := fun v0 k0_hw1 => k0_hw1.1
theorem k0_off1_wordsfp8e4m3 : ∀ (v0 : BitVec 32) (k0_hw1 : k0_chk1 v0), (Rect.unit (s := S32x5120x768) (k0_off1 v0) S1x5120x768.size (k0_off1_inb v0 k0_hw1)).WholeWords (EltTy.packing .fp8e4m3) := fun v0 k0_hw1 => k0_hw1.2.1 (k0_off1_inb v0 k0_hw1)
theorem k0_off2_inb : ∀ (v0 : BitVec 32) (k0_hw1 : k0_chk1 v0), ∀ a, (k0_off2 v0) a + S1x768x5120.size a ≤ S32x768x5120.size a := fun v0 k0_hw1 => k0_hw1.2.2.1
theorem k0_off2_wordsfp8e4m3 : ∀ (v0 : BitVec 32) (k0_hw1 : k0_chk1 v0), (Rect.unit (s := S32x768x5120) (k0_off2 v0) S1x768x5120.size (k0_off2_inb v0 k0_hw1)).WholeWords (EltTy.packing .fp8e4m3) := fun v0 k0_hw1 => k0_hw1.2.2.2.1 (k0_off2_inb v0 k0_hw1)
theorem k0_off23_inb : ∀ (v0 : BitVec 32) (k0_hw1 : k0_chk1 v0), ∀ a, (k0_off23 v0) a + S1.size a ≤ S32.size a := fun v0 k0_hw1 => k0_hw1.2.2.2.2

def k0_off24 (v0 : BitVec 32) : Fin 3 → Nat :=
  let c8_i32_103 : BitVec 32 := 8#32
  let v177 : BitVec 32 := Scalar.muli v0 c8_i32_103
  let c0_i32_104 : BitVec 32 := 0#32
  let v178 : BitVec 32 := Scalar.addi v177 c0_i32_104
  let c0_i32_110 : BitVec 32 := 0#32
  let c0_i32_111 : BitVec 32 := 0#32
  ![v178.toNat, 0, 0]
def k0_cond1 (v23 : BitVec 32) : BitVec 1 :=
  let c1_i32_28 : BitVec 32 := 1#32
  let v24 : BitVec 32 := Scalar.shrsi v23 c1_i32_28
  let c1_i32_29 : BitVec 32 := 1#32
  let v25 : BitVec 32 := Scalar.andi v24 c1_i32_29
  let c1_i32_30 : BitVec 32 := 1#32
  let v26 : BitVec 1 := Scalar.cmpi .eq v25 c1_i32_30
  let v27 : BitVec 32 := Scalar.extui v26
  let c0_i32_31 : BitVec 32 := 0#32
  let v28 : BitVec 1 := Scalar.cmpi .ne v27 c0_i32_31
  v28

def k0_off25 (v0 : BitVec 32) : Fin 3 → Nat :=
  let c8_i32_103 : BitVec 32 := 8#32
  let v177 : BitVec 32 := Scalar.muli v0 c8_i32_103
  let c0_i32_104 : BitVec 32 := 0#32
  let v178 : BitVec 32 := Scalar.addi v177 c0_i32_104
  let c0_i32_117 : BitVec 32 := 0#32
  let c0_i32_118 : BitVec 32 := 0#32
  ![v178.toNat, 0, 0]
def k0_off26 (v0 : BitVec 32) : Fin 3 → Nat :=
  let c8_i32_103 : BitVec 32 := 8#32
  let v177 : BitVec 32 := Scalar.muli v0 c8_i32_103
  let c1_i32_104 : BitVec 32 := 1#32
  let v178 : BitVec 32 := Scalar.addi v177 c1_i32_104
  let c0_i32_110 : BitVec 32 := 0#32
  let c0_i32_111 : BitVec 32 := 0#32
  ![v178.toNat, 0, 0]
def k0_cond2 (v23 : BitVec 32) : BitVec 1 :=
  let c2_i32 : BitVec 32 := 2#32
  let v29 : BitVec 32 := Scalar.shrsi v23 c2_i32
  let c1_i32_32 : BitVec 32 := 1#32
  let v30 : BitVec 32 := Scalar.andi v29 c1_i32_32
  let c1_i32_33 : BitVec 32 := 1#32
  let v31 : BitVec 1 := Scalar.cmpi .eq v30 c1_i32_33
  let v32 : BitVec 32 := Scalar.extui v31
  let c0_i32_34 : BitVec 32 := 0#32
  let v33 : BitVec 1 := Scalar.cmpi .ne v32 c0_i32_34
  v33

def k0_off27 (v0 : BitVec 32) : Fin 3 → Nat :=
  let c8_i32_103 : BitVec 32 := 8#32
  let v177 : BitVec 32 := Scalar.muli v0 c8_i32_103
  let c1_i32_104 : BitVec 32 := 1#32
  let v178 : BitVec 32 := Scalar.addi v177 c1_i32_104
  let c0_i32_117 : BitVec 32 := 0#32
  let c0_i32_118 : BitVec 32 := 0#32
  ![v178.toNat, 0, 0]
def k0_off28 (v0 : BitVec 32) : Fin 3 → Nat :=
  let c8_i32_103 : BitVec 32 := 8#32
  let v177 : BitVec 32 := Scalar.muli v0 c8_i32_103
  let c2_i32_104 : BitVec 32 := 2#32
  let v178 : BitVec 32 := Scalar.addi v177 c2_i32_104
  let c0_i32_110 : BitVec 32 := 0#32
  let c0_i32_111 : BitVec 32 := 0#32
  ![v178.toNat, 0, 0]
def k0_cond3 (v23 : BitVec 32) : BitVec 1 :=
  let c3_i32 : BitVec 32 := 3#32
  let v34 : BitVec 32 := Scalar.shrsi v23 c3_i32
  let c1_i32_35 : BitVec 32 := 1#32
  let v35 : BitVec 32 := Scalar.andi v34 c1_i32_35
  let c1_i32_36 : BitVec 32 := 1#32
  let v36 : BitVec 1 := Scalar.cmpi .eq v35 c1_i32_36
  let v37 : BitVec 32 := Scalar.extui v36
  let c0_i32_37 : BitVec 32 := 0#32
  let v38 : BitVec 1 := Scalar.cmpi .ne v37 c0_i32_37
  v38

def k0_off29 (v0 : BitVec 32) : Fin 3 → Nat :=
  let c8_i32_103 : BitVec 32 := 8#32
  let v177 : BitVec 32 := Scalar.muli v0 c8_i32_103
  let c2_i32_104 : BitVec 32 := 2#32
  let v178 : BitVec 32 := Scalar.addi v177 c2_i32_104
  let c0_i32_117 : BitVec 32 := 0#32
  let c0_i32_118 : BitVec 32 := 0#32
  ![v178.toNat, 0, 0]
def k0_off30 (v0 : BitVec 32) : Fin 3 → Nat :=
  let c8_i32_103 : BitVec 32 := 8#32
  let v177 : BitVec 32 := Scalar.muli v0 c8_i32_103
  let c3_i32_104 : BitVec 32 := 3#32
  let v178 : BitVec 32 := Scalar.addi v177 c3_i32_104
  let c0_i32_110 : BitVec 32 := 0#32
  let c0_i32_111 : BitVec 32 := 0#32
  ![v178.toNat, 0, 0]
def k0_cond4 (v23 : BitVec 32) : BitVec 1 :=
  let c4_i32 : BitVec 32 := 4#32
  let v39 : BitVec 32 := Scalar.shrsi v23 c4_i32
  let c1_i32_38 : BitVec 32 := 1#32
  let v40 : BitVec 32 := Scalar.andi v39 c1_i32_38
  let c1_i32_39 : BitVec 32 := 1#32
  let v41 : BitVec 1 := Scalar.cmpi .eq v40 c1_i32_39
  let v42 : BitVec 32 := Scalar.extui v41
  let c0_i32_40 : BitVec 32 := 0#32
  let v43 : BitVec 1 := Scalar.cmpi .ne v42 c0_i32_40
  v43

def k0_off31 (v0 : BitVec 32) : Fin 3 → Nat :=
  let c8_i32_103 : BitVec 32 := 8#32
  let v177 : BitVec 32 := Scalar.muli v0 c8_i32_103
  let c3_i32_104 : BitVec 32 := 3#32
  let v178 : BitVec 32 := Scalar.addi v177 c3_i32_104
  let c0_i32_117 : BitVec 32 := 0#32
  let c0_i32_118 : BitVec 32 := 0#32
  ![v178.toNat, 0, 0]
def k0_off32 (v0 : BitVec 32) : Fin 3 → Nat :=
  let c8_i32_103 : BitVec 32 := 8#32
  let v177 : BitVec 32 := Scalar.muli v0 c8_i32_103
  let c4_i32_104 : BitVec 32 := 4#32
  let v178 : BitVec 32 := Scalar.addi v177 c4_i32_104
  let c0_i32_110 : BitVec 32 := 0#32
  let c0_i32_111 : BitVec 32 := 0#32
  ![v178.toNat, 0, 0]
def k0_cond5 (v23 : BitVec 32) : BitVec 1 :=
  let c5_i32 : BitVec 32 := 5#32
  let v44 : BitVec 32 := Scalar.shrsi v23 c5_i32
  let c1_i32_41 : BitVec 32 := 1#32
  let v45 : BitVec 32 := Scalar.andi v44 c1_i32_41
  let c1_i32_42 : BitVec 32 := 1#32
  let v46 : BitVec 1 := Scalar.cmpi .eq v45 c1_i32_42
  let v47 : BitVec 32 := Scalar.extui v46
  let c0_i32_43 : BitVec 32 := 0#32
  let v48 : BitVec 1 := Scalar.cmpi .ne v47 c0_i32_43
  v48

def k0_off33 (v0 : BitVec 32) : Fin 3 → Nat :=
  let c8_i32_103 : BitVec 32 := 8#32
  let v177 : BitVec 32 := Scalar.muli v0 c8_i32_103
  let c4_i32_104 : BitVec 32 := 4#32
  let v178 : BitVec 32 := Scalar.addi v177 c4_i32_104
  let c0_i32_117 : BitVec 32 := 0#32
  let c0_i32_118 : BitVec 32 := 0#32
  ![v178.toNat, 0, 0]
def k0_off34 (v0 : BitVec 32) : Fin 3 → Nat :=
  let c8_i32_103 : BitVec 32 := 8#32
  let v177 : BitVec 32 := Scalar.muli v0 c8_i32_103
  let c5_i32_104 : BitVec 32 := 5#32
  let v178 : BitVec 32 := Scalar.addi v177 c5_i32_104
  let c0_i32_110 : BitVec 32 := 0#32
  let c0_i32_111 : BitVec 32 := 0#32
  ![v178.toNat, 0, 0]
def k0_cond6 (v23 : BitVec 32) : BitVec 1 :=
  let c6_i32 : BitVec 32 := 6#32
  let v49 : BitVec 32 := Scalar.shrsi v23 c6_i32
  let c1_i32_44 : BitVec 32 := 1#32
  let v50 : BitVec 32 := Scalar.andi v49 c1_i32_44
  let c1_i32_45 : BitVec 32 := 1#32
  let v51 : BitVec 1 := Scalar.cmpi .eq v50 c1_i32_45
  let v52 : BitVec 32 := Scalar.extui v51
  let c0_i32_46 : BitVec 32 := 0#32
  let v53 : BitVec 1 := Scalar.cmpi .ne v52 c0_i32_46
  v53

def k0_off35 (v0 : BitVec 32) : Fin 3 → Nat :=
  let c8_i32_103 : BitVec 32 := 8#32
  let v177 : BitVec 32 := Scalar.muli v0 c8_i32_103
  let c5_i32_104 : BitVec 32 := 5#32
  let v178 : BitVec 32 := Scalar.addi v177 c5_i32_104
  let c0_i32_117 : BitVec 32 := 0#32
  let c0_i32_118 : BitVec 32 := 0#32
  ![v178.toNat, 0, 0]
def k0_off36 (v0 : BitVec 32) : Fin 3 → Nat :=
  let c8_i32_103 : BitVec 32 := 8#32
  let v177 : BitVec 32 := Scalar.muli v0 c8_i32_103
  let c6_i32_104 : BitVec 32 := 6#32
  let v178 : BitVec 32 := Scalar.addi v177 c6_i32_104
  let c0_i32_110 : BitVec 32 := 0#32
  let c0_i32_111 : BitVec 32 := 0#32
  ![v178.toNat, 0, 0]
def k0_cond7 (v23 : BitVec 32) : BitVec 1 :=
  let c7_i32 : BitVec 32 := 7#32
  let v54 : BitVec 32 := Scalar.shrsi v23 c7_i32
  let c1_i32_47 : BitVec 32 := 1#32
  let v55 : BitVec 32 := Scalar.andi v54 c1_i32_47
  let c1_i32_48 : BitVec 32 := 1#32
  let v56 : BitVec 1 := Scalar.cmpi .eq v55 c1_i32_48
  let v57 : BitVec 32 := Scalar.extui v56
  let c0_i32_49 : BitVec 32 := 0#32
  let v58 : BitVec 1 := Scalar.cmpi .ne v57 c0_i32_49
  v58

def k0_off37 (v0 : BitVec 32) : Fin 3 → Nat :=
  let c8_i32_103 : BitVec 32 := 8#32
  let v177 : BitVec 32 := Scalar.muli v0 c8_i32_103
  let c6_i32_104 : BitVec 32 := 6#32
  let v178 : BitVec 32 := Scalar.addi v177 c6_i32_104
  let c0_i32_117 : BitVec 32 := 0#32
  let c0_i32_118 : BitVec 32 := 0#32
  ![v178.toNat, 0, 0]
def k0_off38 (v0 : BitVec 32) : Fin 3 → Nat :=
  let c8_i32_103 : BitVec 32 := 8#32
  let v177 : BitVec 32 := Scalar.muli v0 c8_i32_103
  let c7_i32_104 : BitVec 32 := 7#32
  let v178 : BitVec 32 := Scalar.addi v177 c7_i32_104
  let c0_i32_110 : BitVec 32 := 0#32
  let c0_i32_111 : BitVec 32 := 0#32
  ![v178.toNat, 0, 0]
def k0_cond8 (v23 : BitVec 32) : BitVec 1 :=
  let c8_i32 : BitVec 32 := 8#32
  let v59 : BitVec 32 := Scalar.shrsi v23 c8_i32
  let c1_i32_50 : BitVec 32 := 1#32
  let v60 : BitVec 32 := Scalar.andi v59 c1_i32_50
  let c1_i32_51 : BitVec 32 := 1#32
  let v61 : BitVec 1 := Scalar.cmpi .eq v60 c1_i32_51
  let v62 : BitVec 32 := Scalar.extui v61
  let c0_i32_52 : BitVec 32 := 0#32
  let v63 : BitVec 1 := Scalar.cmpi .ne v62 c0_i32_52
  v63

def k0_off39 (v0 : BitVec 32) : Fin 3 → Nat :=
  let c8_i32_103 : BitVec 32 := 8#32
  let v177 : BitVec 32 := Scalar.muli v0 c8_i32_103
  let c7_i32_104 : BitVec 32 := 7#32
  let v178 : BitVec 32 := Scalar.addi v177 c7_i32_104
  let c0_i32_117 : BitVec 32 := 0#32
  let c0_i32_118 : BitVec 32 := 0#32
  ![v178.toNat, 0, 0]

def k0_chk11 (v0 : BitVec 32) (v23 : BitVec 32) : Prop :=
  (∀ (k0_h1 : k0_cond1 v23 = 1#1), ∀ a, (k0_off24 v0) a + S1x16x5120.size a ≤ S256x16x5120.size a) ∧
  (∀ (k0_h1 : k0_cond1 v23 = 1#1), ∀ (hinb : ∀ a, (k0_off24 v0) a + S1x16x5120.size a ≤ S256x16x5120.size a), (Rect.unit (s := S256x16x5120) (k0_off24 v0) S1x16x5120.size hinb).WholeWords (EltTy.packing .bf16)) ∧
  (∀ (k0_h1 : k0_cond1 v23 = 1#1), ∀ a, (k0_off25 v0) a + S1x16x768.size a ≤ S256x16x768.size a) ∧
  (∀ (k0_h1 : k0_cond1 v23 = 1#1), ∀ (hinb : ∀ a, (k0_off25 v0) a + S1x16x768.size a ≤ S256x16x768.size a), (Rect.unit (s := S256x16x768) (k0_off25 v0) S1x16x768.size hinb).WholeWords (EltTy.packing .bf16)) ∧
  (∀ (k0_h2 : k0_cond2 v23 = 1#1), ∀ a, (k0_off26 v0) a + S1x16x5120.size a ≤ S256x16x5120.size a) ∧
  (∀ (k0_h2 : k0_cond2 v23 = 1#1), ∀ (hinb : ∀ a, (k0_off26 v0) a + S1x16x5120.size a ≤ S256x16x5120.size a), (Rect.unit (s := S256x16x5120) (k0_off26 v0) S1x16x5120.size hinb).WholeWords (EltTy.packing .bf16)) ∧
  (∀ (k0_h2 : k0_cond2 v23 = 1#1), ∀ a, (k0_off27 v0) a + S1x16x768.size a ≤ S256x16x768.size a) ∧
  (∀ (k0_h2 : k0_cond2 v23 = 1#1), ∀ (hinb : ∀ a, (k0_off27 v0) a + S1x16x768.size a ≤ S256x16x768.size a), (Rect.unit (s := S256x16x768) (k0_off27 v0) S1x16x768.size hinb).WholeWords (EltTy.packing .bf16)) ∧
  (∀ (k0_h3 : k0_cond3 v23 = 1#1), ∀ a, (k0_off28 v0) a + S1x16x5120.size a ≤ S256x16x5120.size a) ∧
  (∀ (k0_h3 : k0_cond3 v23 = 1#1), ∀ (hinb : ∀ a, (k0_off28 v0) a + S1x16x5120.size a ≤ S256x16x5120.size a), (Rect.unit (s := S256x16x5120) (k0_off28 v0) S1x16x5120.size hinb).WholeWords (EltTy.packing .bf16)) ∧
  (∀ (k0_h3 : k0_cond3 v23 = 1#1), ∀ a, (k0_off29 v0) a + S1x16x768.size a ≤ S256x16x768.size a) ∧
  (∀ (k0_h3 : k0_cond3 v23 = 1#1), ∀ (hinb : ∀ a, (k0_off29 v0) a + S1x16x768.size a ≤ S256x16x768.size a), (Rect.unit (s := S256x16x768) (k0_off29 v0) S1x16x768.size hinb).WholeWords (EltTy.packing .bf16)) ∧
  (∀ (k0_h4 : k0_cond4 v23 = 1#1), ∀ a, (k0_off30 v0) a + S1x16x5120.size a ≤ S256x16x5120.size a) ∧
  (∀ (k0_h4 : k0_cond4 v23 = 1#1), ∀ (hinb : ∀ a, (k0_off30 v0) a + S1x16x5120.size a ≤ S256x16x5120.size a), (Rect.unit (s := S256x16x5120) (k0_off30 v0) S1x16x5120.size hinb).WholeWords (EltTy.packing .bf16)) ∧
  (∀ (k0_h4 : k0_cond4 v23 = 1#1), ∀ a, (k0_off31 v0) a + S1x16x768.size a ≤ S256x16x768.size a) ∧
  (∀ (k0_h4 : k0_cond4 v23 = 1#1), ∀ (hinb : ∀ a, (k0_off31 v0) a + S1x16x768.size a ≤ S256x16x768.size a), (Rect.unit (s := S256x16x768) (k0_off31 v0) S1x16x768.size hinb).WholeWords (EltTy.packing .bf16)) ∧
  (∀ (k0_h5 : k0_cond5 v23 = 1#1), ∀ a, (k0_off32 v0) a + S1x16x5120.size a ≤ S256x16x5120.size a) ∧
  (∀ (k0_h5 : k0_cond5 v23 = 1#1), ∀ (hinb : ∀ a, (k0_off32 v0) a + S1x16x5120.size a ≤ S256x16x5120.size a), (Rect.unit (s := S256x16x5120) (k0_off32 v0) S1x16x5120.size hinb).WholeWords (EltTy.packing .bf16)) ∧
  (∀ (k0_h5 : k0_cond5 v23 = 1#1), ∀ a, (k0_off33 v0) a + S1x16x768.size a ≤ S256x16x768.size a) ∧
  (∀ (k0_h5 : k0_cond5 v23 = 1#1), ∀ (hinb : ∀ a, (k0_off33 v0) a + S1x16x768.size a ≤ S256x16x768.size a), (Rect.unit (s := S256x16x768) (k0_off33 v0) S1x16x768.size hinb).WholeWords (EltTy.packing .bf16)) ∧
  (∀ (k0_h6 : k0_cond6 v23 = 1#1), ∀ a, (k0_off34 v0) a + S1x16x5120.size a ≤ S256x16x5120.size a) ∧
  (∀ (k0_h6 : k0_cond6 v23 = 1#1), ∀ (hinb : ∀ a, (k0_off34 v0) a + S1x16x5120.size a ≤ S256x16x5120.size a), (Rect.unit (s := S256x16x5120) (k0_off34 v0) S1x16x5120.size hinb).WholeWords (EltTy.packing .bf16)) ∧
  (∀ (k0_h6 : k0_cond6 v23 = 1#1), ∀ a, (k0_off35 v0) a + S1x16x768.size a ≤ S256x16x768.size a) ∧
  (∀ (k0_h6 : k0_cond6 v23 = 1#1), ∀ (hinb : ∀ a, (k0_off35 v0) a + S1x16x768.size a ≤ S256x16x768.size a), (Rect.unit (s := S256x16x768) (k0_off35 v0) S1x16x768.size hinb).WholeWords (EltTy.packing .bf16)) ∧
  (∀ (k0_h7 : k0_cond7 v23 = 1#1), ∀ a, (k0_off36 v0) a + S1x16x5120.size a ≤ S256x16x5120.size a) ∧
  (∀ (k0_h7 : k0_cond7 v23 = 1#1), ∀ (hinb : ∀ a, (k0_off36 v0) a + S1x16x5120.size a ≤ S256x16x5120.size a), (Rect.unit (s := S256x16x5120) (k0_off36 v0) S1x16x5120.size hinb).WholeWords (EltTy.packing .bf16)) ∧
  (∀ (k0_h7 : k0_cond7 v23 = 1#1), ∀ a, (k0_off37 v0) a + S1x16x768.size a ≤ S256x16x768.size a) ∧
  (∀ (k0_h7 : k0_cond7 v23 = 1#1), ∀ (hinb : ∀ a, (k0_off37 v0) a + S1x16x768.size a ≤ S256x16x768.size a), (Rect.unit (s := S256x16x768) (k0_off37 v0) S1x16x768.size hinb).WholeWords (EltTy.packing .bf16)) ∧
  (∀ (k0_h8 : k0_cond8 v23 = 1#1), ∀ a, (k0_off38 v0) a + S1x16x5120.size a ≤ S256x16x5120.size a) ∧
  (∀ (k0_h8 : k0_cond8 v23 = 1#1), ∀ (hinb : ∀ a, (k0_off38 v0) a + S1x16x5120.size a ≤ S256x16x5120.size a), (Rect.unit (s := S256x16x5120) (k0_off38 v0) S1x16x5120.size hinb).WholeWords (EltTy.packing .bf16)) ∧
  (∀ (k0_h8 : k0_cond8 v23 = 1#1), ∀ a, (k0_off39 v0) a + S1x16x768.size a ≤ S256x16x768.size a) ∧
  (∀ (k0_h8 : k0_cond8 v23 = 1#1), ∀ (hinb : ∀ a, (k0_off39 v0) a + S1x16x768.size a ≤ S256x16x768.size a), (Rect.unit (s := S256x16x768) (k0_off39 v0) S1x16x768.size hinb).WholeWords (EltTy.packing .bf16))
theorem k0_off24_inb : ∀ (v0 : BitVec 32) (v23 : BitVec 32) (k0_hw11 : k0_chk11 v0 v23), ∀ (k0_h1 : k0_cond1 v23 = 1#1), ∀ a, (k0_off24 v0) a + S1x16x5120.size a ≤ S256x16x5120.size a := fun v0 v23 k0_hw11 k0_h1 => k0_hw11.1 k0_h1
theorem k0_off24_wordsbf16 : ∀ (v0 : BitVec 32) (v23 : BitVec 32) (k0_hw11 : k0_chk11 v0 v23), ∀ (k0_h1 : k0_cond1 v23 = 1#1), (Rect.unit (s := S256x16x5120) (k0_off24 v0) S1x16x5120.size (k0_off24_inb v0 v23 k0_hw11 k0_h1)).WholeWords (EltTy.packing .bf16) := fun v0 v23 k0_hw11 k0_h1 => k0_hw11.2.1 k0_h1 (k0_off24_inb v0 v23 k0_hw11 k0_h1)
theorem k0_off25_inb : ∀ (v0 : BitVec 32) (v23 : BitVec 32) (k0_hw11 : k0_chk11 v0 v23), ∀ (k0_h1 : k0_cond1 v23 = 1#1), ∀ a, (k0_off25 v0) a + S1x16x768.size a ≤ S256x16x768.size a := fun v0 v23 k0_hw11 k0_h1 => k0_hw11.2.2.1 k0_h1
theorem k0_off25_wordsbf16 : ∀ (v0 : BitVec 32) (v23 : BitVec 32) (k0_hw11 : k0_chk11 v0 v23), ∀ (k0_h1 : k0_cond1 v23 = 1#1), (Rect.unit (s := S256x16x768) (k0_off25 v0) S1x16x768.size (k0_off25_inb v0 v23 k0_hw11 k0_h1)).WholeWords (EltTy.packing .bf16) := fun v0 v23 k0_hw11 k0_h1 => k0_hw11.2.2.2.1 k0_h1 (k0_off25_inb v0 v23 k0_hw11 k0_h1)
theorem k0_off26_inb : ∀ (v0 : BitVec 32) (v23 : BitVec 32) (k0_hw11 : k0_chk11 v0 v23), ∀ (k0_h2 : k0_cond2 v23 = 1#1), ∀ a, (k0_off26 v0) a + S1x16x5120.size a ≤ S256x16x5120.size a := fun v0 v23 k0_hw11 k0_h2 => k0_hw11.2.2.2.2.1 k0_h2
theorem k0_off26_wordsbf16 : ∀ (v0 : BitVec 32) (v23 : BitVec 32) (k0_hw11 : k0_chk11 v0 v23), ∀ (k0_h2 : k0_cond2 v23 = 1#1), (Rect.unit (s := S256x16x5120) (k0_off26 v0) S1x16x5120.size (k0_off26_inb v0 v23 k0_hw11 k0_h2)).WholeWords (EltTy.packing .bf16) := fun v0 v23 k0_hw11 k0_h2 => k0_hw11.2.2.2.2.2.1 k0_h2 (k0_off26_inb v0 v23 k0_hw11 k0_h2)
theorem k0_off27_inb : ∀ (v0 : BitVec 32) (v23 : BitVec 32) (k0_hw11 : k0_chk11 v0 v23), ∀ (k0_h2 : k0_cond2 v23 = 1#1), ∀ a, (k0_off27 v0) a + S1x16x768.size a ≤ S256x16x768.size a := fun v0 v23 k0_hw11 k0_h2 => k0_hw11.2.2.2.2.2.2.1 k0_h2
theorem k0_off27_wordsbf16 : ∀ (v0 : BitVec 32) (v23 : BitVec 32) (k0_hw11 : k0_chk11 v0 v23), ∀ (k0_h2 : k0_cond2 v23 = 1#1), (Rect.unit (s := S256x16x768) (k0_off27 v0) S1x16x768.size (k0_off27_inb v0 v23 k0_hw11 k0_h2)).WholeWords (EltTy.packing .bf16) := fun v0 v23 k0_hw11 k0_h2 => k0_hw11.2.2.2.2.2.2.2.1 k0_h2 (k0_off27_inb v0 v23 k0_hw11 k0_h2)
theorem k0_off28_inb : ∀ (v0 : BitVec 32) (v23 : BitVec 32) (k0_hw11 : k0_chk11 v0 v23), ∀ (k0_h3 : k0_cond3 v23 = 1#1), ∀ a, (k0_off28 v0) a + S1x16x5120.size a ≤ S256x16x5120.size a := fun v0 v23 k0_hw11 k0_h3 => k0_hw11.2.2.2.2.2.2.2.2.1 k0_h3
theorem k0_off28_wordsbf16 : ∀ (v0 : BitVec 32) (v23 : BitVec 32) (k0_hw11 : k0_chk11 v0 v23), ∀ (k0_h3 : k0_cond3 v23 = 1#1), (Rect.unit (s := S256x16x5120) (k0_off28 v0) S1x16x5120.size (k0_off28_inb v0 v23 k0_hw11 k0_h3)).WholeWords (EltTy.packing .bf16) := fun v0 v23 k0_hw11 k0_h3 => k0_hw11.2.2.2.2.2.2.2.2.2.1 k0_h3 (k0_off28_inb v0 v23 k0_hw11 k0_h3)
theorem k0_off29_inb : ∀ (v0 : BitVec 32) (v23 : BitVec 32) (k0_hw11 : k0_chk11 v0 v23), ∀ (k0_h3 : k0_cond3 v23 = 1#1), ∀ a, (k0_off29 v0) a + S1x16x768.size a ≤ S256x16x768.size a := fun v0 v23 k0_hw11 k0_h3 => k0_hw11.2.2.2.2.2.2.2.2.2.2.1 k0_h3
theorem k0_off29_wordsbf16 : ∀ (v0 : BitVec 32) (v23 : BitVec 32) (k0_hw11 : k0_chk11 v0 v23), ∀ (k0_h3 : k0_cond3 v23 = 1#1), (Rect.unit (s := S256x16x768) (k0_off29 v0) S1x16x768.size (k0_off29_inb v0 v23 k0_hw11 k0_h3)).WholeWords (EltTy.packing .bf16) := fun v0 v23 k0_hw11 k0_h3 => k0_hw11.2.2.2.2.2.2.2.2.2.2.2.1 k0_h3 (k0_off29_inb v0 v23 k0_hw11 k0_h3)
theorem k0_off30_inb : ∀ (v0 : BitVec 32) (v23 : BitVec 32) (k0_hw11 : k0_chk11 v0 v23), ∀ (k0_h4 : k0_cond4 v23 = 1#1), ∀ a, (k0_off30 v0) a + S1x16x5120.size a ≤ S256x16x5120.size a := fun v0 v23 k0_hw11 k0_h4 => k0_hw11.2.2.2.2.2.2.2.2.2.2.2.2.1 k0_h4
theorem k0_off30_wordsbf16 : ∀ (v0 : BitVec 32) (v23 : BitVec 32) (k0_hw11 : k0_chk11 v0 v23), ∀ (k0_h4 : k0_cond4 v23 = 1#1), (Rect.unit (s := S256x16x5120) (k0_off30 v0) S1x16x5120.size (k0_off30_inb v0 v23 k0_hw11 k0_h4)).WholeWords (EltTy.packing .bf16) := fun v0 v23 k0_hw11 k0_h4 => k0_hw11.2.2.2.2.2.2.2.2.2.2.2.2.2.1 k0_h4 (k0_off30_inb v0 v23 k0_hw11 k0_h4)
theorem k0_off31_inb : ∀ (v0 : BitVec 32) (v23 : BitVec 32) (k0_hw11 : k0_chk11 v0 v23), ∀ (k0_h4 : k0_cond4 v23 = 1#1), ∀ a, (k0_off31 v0) a + S1x16x768.size a ≤ S256x16x768.size a := fun v0 v23 k0_hw11 k0_h4 => k0_hw11.2.2.2.2.2.2.2.2.2.2.2.2.2.2.1 k0_h4
theorem k0_off31_wordsbf16 : ∀ (v0 : BitVec 32) (v23 : BitVec 32) (k0_hw11 : k0_chk11 v0 v23), ∀ (k0_h4 : k0_cond4 v23 = 1#1), (Rect.unit (s := S256x16x768) (k0_off31 v0) S1x16x768.size (k0_off31_inb v0 v23 k0_hw11 k0_h4)).WholeWords (EltTy.packing .bf16) := fun v0 v23 k0_hw11 k0_h4 => k0_hw11.2.2.2.2.2.2.2.2.2.2.2.2.2.2.2.1 k0_h4 (k0_off31_inb v0 v23 k0_hw11 k0_h4)
theorem k0_off32_inb : ∀ (v0 : BitVec 32) (v23 : BitVec 32) (k0_hw11 : k0_chk11 v0 v23), ∀ (k0_h5 : k0_cond5 v23 = 1#1), ∀ a, (k0_off32 v0) a + S1x16x5120.size a ≤ S256x16x5120.size a := fun v0 v23 k0_hw11 k0_h5 => k0_hw11.2.2.2.2.2.2.2.2.2.2.2.2.2.2.2.2.1 k0_h5
theorem k0_off32_wordsbf16 : ∀ (v0 : BitVec 32) (v23 : BitVec 32) (k0_hw11 : k0_chk11 v0 v23), ∀ (k0_h5 : k0_cond5 v23 = 1#1), (Rect.unit (s := S256x16x5120) (k0_off32 v0) S1x16x5120.size (k0_off32_inb v0 v23 k0_hw11 k0_h5)).WholeWords (EltTy.packing .bf16) := fun v0 v23 k0_hw11 k0_h5 => k0_hw11.2.2.2.2.2.2.2.2.2.2.2.2.2.2.2.2.2.1 k0_h5 (k0_off32_inb v0 v23 k0_hw11 k0_h5)
theorem k0_off33_inb : ∀ (v0 : BitVec 32) (v23 : BitVec 32) (k0_hw11 : k0_chk11 v0 v23), ∀ (k0_h5 : k0_cond5 v23 = 1#1), ∀ a, (k0_off33 v0) a + S1x16x768.size a ≤ S256x16x768.size a := fun v0 v23 k0_hw11 k0_h5 => k0_hw11.2.2.2.2.2.2.2.2.2.2.2.2.2.2.2.2.2.2.1 k0_h5
theorem k0_off33_wordsbf16 : ∀ (v0 : BitVec 32) (v23 : BitVec 32) (k0_hw11 : k0_chk11 v0 v23), ∀ (k0_h5 : k0_cond5 v23 = 1#1), (Rect.unit (s := S256x16x768) (k0_off33 v0) S1x16x768.size (k0_off33_inb v0 v23 k0_hw11 k0_h5)).WholeWords (EltTy.packing .bf16) := fun v0 v23 k0_hw11 k0_h5 => k0_hw11.2.2.2.2.2.2.2.2.2.2.2.2.2.2.2.2.2.2.2.1 k0_h5 (k0_off33_inb v0 v23 k0_hw11 k0_h5)
theorem k0_off34_inb : ∀ (v0 : BitVec 32) (v23 : BitVec 32) (k0_hw11 : k0_chk11 v0 v23), ∀ (k0_h6 : k0_cond6 v23 = 1#1), ∀ a, (k0_off34 v0) a + S1x16x5120.size a ≤ S256x16x5120.size a := fun v0 v23 k0_hw11 k0_h6 => k0_hw11.2.2.2.2.2.2.2.2.2.2.2.2.2.2.2.2.2.2.2.2.1 k0_h6
theorem k0_off34_wordsbf16 : ∀ (v0 : BitVec 32) (v23 : BitVec 32) (k0_hw11 : k0_chk11 v0 v23), ∀ (k0_h6 : k0_cond6 v23 = 1#1), (Rect.unit (s := S256x16x5120) (k0_off34 v0) S1x16x5120.size (k0_off34_inb v0 v23 k0_hw11 k0_h6)).WholeWords (EltTy.packing .bf16) := fun v0 v23 k0_hw11 k0_h6 => k0_hw11.2.2.2.2.2.2.2.2.2.2.2.2.2.2.2.2.2.2.2.2.2.1 k0_h6 (k0_off34_inb v0 v23 k0_hw11 k0_h6)
theorem k0_off35_inb : ∀ (v0 : BitVec 32) (v23 : BitVec 32) (k0_hw11 : k0_chk11 v0 v23), ∀ (k0_h6 : k0_cond6 v23 = 1#1), ∀ a, (k0_off35 v0) a + S1x16x768.size a ≤ S256x16x768.size a := fun v0 v23 k0_hw11 k0_h6 => k0_hw11.2.2.2.2.2.2.2.2.2.2.2.2.2.2.2.2.2.2.2.2.2.2.1 k0_h6
theorem k0_off35_wordsbf16 : ∀ (v0 : BitVec 32) (v23 : BitVec 32) (k0_hw11 : k0_chk11 v0 v23), ∀ (k0_h6 : k0_cond6 v23 = 1#1), (Rect.unit (s := S256x16x768) (k0_off35 v0) S1x16x768.size (k0_off35_inb v0 v23 k0_hw11 k0_h6)).WholeWords (EltTy.packing .bf16) := fun v0 v23 k0_hw11 k0_h6 => k0_hw11.2.2.2.2.2.2.2.2.2.2.2.2.2.2.2.2.2.2.2.2.2.2.2.1 k0_h6 (k0_off35_inb v0 v23 k0_hw11 k0_h6)
theorem k0_off36_inb : ∀ (v0 : BitVec 32) (v23 : BitVec 32) (k0_hw11 : k0_chk11 v0 v23), ∀ (k0_h7 : k0_cond7 v23 = 1#1), ∀ a, (k0_off36 v0) a + S1x16x5120.size a ≤ S256x16x5120.size a := fun v0 v23 k0_hw11 k0_h7 => k0_hw11.2.2.2.2.2.2.2.2.2.2.2.2.2.2.2.2.2.2.2.2.2.2.2.2.1 k0_h7
theorem k0_off36_wordsbf16 : ∀ (v0 : BitVec 32) (v23 : BitVec 32) (k0_hw11 : k0_chk11 v0 v23), ∀ (k0_h7 : k0_cond7 v23 = 1#1), (Rect.unit (s := S256x16x5120) (k0_off36 v0) S1x16x5120.size (k0_off36_inb v0 v23 k0_hw11 k0_h7)).WholeWords (EltTy.packing .bf16) := fun v0 v23 k0_hw11 k0_h7 => k0_hw11.2.2.2.2.2.2.2.2.2.2.2.2.2.2.2.2.2.2.2.2.2.2.2.2.2.1 k0_h7 (k0_off36_inb v0 v23 k0_hw11 k0_h7)
theorem k0_off37_inb : ∀ (v0 : BitVec 32) (v23 : BitVec 32) (k0_hw11 : k0_chk11 v0 v23), ∀ (k0_h7 : k0_cond7 v23 = 1#1), ∀ a, (k0_off37 v0) a + S1x16x768.size a ≤ S256x16x768.size a := fun v0 v23 k0_hw11 k0_h7 => k0_hw11.2.2.2.2.2.2.2.2.2.2.2.2.2.2.2.2.2.2.2.2.2.2.2.2.2.2.1 k0_h7
theorem k0_off37_wordsbf16 : ∀ (v0 : BitVec 32) (v23 : BitVec 32) (k0_hw11 : k0_chk11 v0 v23), ∀ (k0_h7 : k0_cond7 v23 = 1#1), (Rect.unit (s := S256x16x768) (k0_off37 v0) S1x16x768.size (k0_off37_inb v0 v23 k0_hw11 k0_h7)).WholeWords (EltTy.packing .bf16) := fun v0 v23 k0_hw11 k0_h7 => k0_hw11.2.2.2.2.2.2.2.2.2.2.2.2.2.2.2.2.2.2.2.2.2.2.2.2.2.2.2.1 k0_h7 (k0_off37_inb v0 v23 k0_hw11 k0_h7)
theorem k0_off38_inb : ∀ (v0 : BitVec 32) (v23 : BitVec 32) (k0_hw11 : k0_chk11 v0 v23), ∀ (k0_h8 : k0_cond8 v23 = 1#1), ∀ a, (k0_off38 v0) a + S1x16x5120.size a ≤ S256x16x5120.size a := fun v0 v23 k0_hw11 k0_h8 => k0_hw11.2.2.2.2.2.2.2.2.2.2.2.2.2.2.2.2.2.2.2.2.2.2.2.2.2.2.2.2.1 k0_h8
theorem k0_off38_wordsbf16 : ∀ (v0 : BitVec 32) (v23 : BitVec 32) (k0_hw11 : k0_chk11 v0 v23), ∀ (k0_h8 : k0_cond8 v23 = 1#1), (Rect.unit (s := S256x16x5120) (k0_off38 v0) S1x16x5120.size (k0_off38_inb v0 v23 k0_hw11 k0_h8)).WholeWords (EltTy.packing .bf16) := fun v0 v23 k0_hw11 k0_h8 => k0_hw11.2.2.2.2.2.2.2.2.2.2.2.2.2.2.2.2.2.2.2.2.2.2.2.2.2.2.2.2.2.1 k0_h8 (k0_off38_inb v0 v23 k0_hw11 k0_h8)
theorem k0_off39_inb : ∀ (v0 : BitVec 32) (v23 : BitVec 32) (k0_hw11 : k0_chk11 v0 v23), ∀ (k0_h8 : k0_cond8 v23 = 1#1), ∀ a, (k0_off39 v0) a + S1x16x768.size a ≤ S256x16x768.size a := fun v0 v23 k0_hw11 k0_h8 => k0_hw11.2.2.2.2.2.2.2.2.2.2.2.2.2.2.2.2.2.2.2.2.2.2.2.2.2.2.2.2.2.2.1 k0_h8
theorem k0_off39_wordsbf16 : ∀ (v0 : BitVec 32) (v23 : BitVec 32) (k0_hw11 : k0_chk11 v0 v23), ∀ (k0_h8 : k0_cond8 v23 = 1#1), (Rect.unit (s := S256x16x768) (k0_off39 v0) S1x16x768.size (k0_off39_inb v0 v23 k0_hw11 k0_h8)).WholeWords (EltTy.packing .bf16) := fun v0 v23 k0_hw11 k0_h8 => k0_hw11.2.2.2.2.2.2.2.2.2.2.2.2.2.2.2.2.2.2.2.2.2.2.2.2.2.2.2.2.2.2.2 k0_h8 (k0_off39_inb v0 v23 k0_hw11 k0_h8)

def k0_off40 : Fin 1 → Nat :=
  let c1_i32_103 : BitVec 32 := 1#32
  let c4_i32_104 : BitVec 32 := 4#32
  let v178 : BitVec 32 := Scalar.remsi c1_i32_103 c4_i32_104
  ![v178.toNat]
def k0_off41 : Fin 3 → Nat :=
  let c1_i32_103 : BitVec 32 := 1#32
  let c4_i32_104 : BitVec 32 := 4#32
  let v178 : BitVec 32 := Scalar.remsi c1_i32_103 c4_i32_104
  let c0_i32_105 : BitVec 32 := 0#32
  let c0_i32_106 : BitVec 32 := 0#32
  ![v178.toNat, 0, 0]
def k0_off42 (v177 : BitVec 32) : Fin 3 → Nat :=
  let c0_i32_107 : BitVec 32 := 0#32
  let c0_i32_108 : BitVec 32 := 0#32
  ![v177.toNat, 0, 0]
def k0_cond9 (v21 : BitVec 32) : BitVec 1 :=
  let c1_i32_53 : BitVec 32 := 1#32
  let v64 : BitVec 1 := Scalar.cmpi .sgt v21 c1_i32_53
  let v65 : BitVec 32 := Scalar.extui v64
  let c0_i32_54 : BitVec 32 := 0#32
  let v66 : BitVec 1 := Scalar.cmpi .ne v65 c0_i32_54
  v66

def k0_off43 (v177 : BitVec 32) : Fin 1 → Nat :=
  let v185 : Index := Scalar.indexCast v177
  ![v185.toNat]
def k0_off44 : Fin 1 → Nat :=
  let c1_i32_103 : BitVec 32 := 1#32
  let c4_i32_104 : BitVec 32 := 4#32
  let v178 : BitVec 32 := Scalar.remsi c1_i32_103 c4_i32_104
  ![v178.toNat]
def k0_off45 : Fin 4 → Nat :=
  let c1_i32_103 : BitVec 32 := 1#32
  let c4_i32_104 : BitVec 32 := 4#32
  let v178 : BitVec 32 := Scalar.remsi c1_i32_103 c4_i32_104
  let c0_i32_147 : BitVec 32 := 0#32
  let c0_i32_148 : BitVec 32 := 0#32
  let c0_i32_149 : BitVec 32 := 0#32
  ![v178.toNat, 0, 0, 0]
def k0_off46 (v177 : BitVec 32) : Fin 3 → Nat :=
  let c8_i32_145 : BitVec 32 := 8#32
  let v233 : BitVec 32 := Scalar.muli v177 c8_i32_145
  let c0_i32_146 : BitVec 32 := 0#32
  let v234 : BitVec 32 := Scalar.addi v233 c0_i32_146
  let c0_i32_150 : BitVec 32 := 0#32
  let c0_i32_151 : BitVec 32 := 0#32
  ![v234.toNat, 0, 0]
def k0_cond10 (v186 : BitVec 32) : BitVec 1 :=
  let c1_i32_109 : BitVec 32 := 1#32
  let v187 : BitVec 32 := Scalar.shrsi v186 c1_i32_109
  let c1_i32_110 : BitVec 32 := 1#32
  let v188 : BitVec 32 := Scalar.andi v187 c1_i32_110
  let c1_i32_111 : BitVec 32 := 1#32
  let v189 : BitVec 1 := Scalar.cmpi .eq v188 c1_i32_111
  let v190 : BitVec 32 := Scalar.extui v189
  let c0_i32_112 : BitVec 32 := 0#32
  let v191 : BitVec 1 := Scalar.cmpi .ne v190 c0_i32_112
  v191

def k0_off47 : Fin 4 → Nat :=
  let c1_i32_103 : BitVec 32 := 1#32
  let c4_i32_104 : BitVec 32 := 4#32
  let v178 : BitVec 32 := Scalar.remsi c1_i32_103 c4_i32_104
  let c0_i32_152 : BitVec 32 := 0#32
  let c0_i32_153 : BitVec 32 := 0#32
  let c0_i32_154 : BitVec 32 := 0#32
  ![v178.toNat, 0, 0, 0]
def k0_off48 (v177 : BitVec 32) : Fin 3 → Nat :=
  let c8_i32_145 : BitVec 32 := 8#32
  let v233 : BitVec 32 := Scalar.muli v177 c8_i32_145
  let c0_i32_146 : BitVec 32 := 0#32
  let v234 : BitVec 32 := Scalar.addi v233 c0_i32_146
  let c0_i32_155 : BitVec 32 := 0#32
  let c0_i32_156 : BitVec 32 := 0#32
  ![v234.toNat, 0, 0]
def k0_off49 : Fin 1 → Nat :=
  let c1_i32_103 : BitVec 32 := 1#32
  let c4_i32_104 : BitVec 32 := 4#32
  let v178 : BitVec 32 := Scalar.remsi c1_i32_103 c4_i32_104
  ![v178.toNat]
def k0_off50 : Fin 4 → Nat :=
  let c1_i32_103 : BitVec 32 := 1#32
  let c4_i32_104 : BitVec 32 := 4#32
  let v178 : BitVec 32 := Scalar.remsi c1_i32_103 c4_i32_104
  let c1_i32_147 : BitVec 32 := 1#32
  let c0_i32_148 : BitVec 32 := 0#32
  let c0_i32_149 : BitVec 32 := 0#32
  ![v178.toNat, 1, 0, 0]
def k0_off51 (v177 : BitVec 32) : Fin 3 → Nat :=
  let c8_i32_145 : BitVec 32 := 8#32
  let v233 : BitVec 32 := Scalar.muli v177 c8_i32_145
  let c1_i32_146 : BitVec 32 := 1#32
  let v234 : BitVec 32 := Scalar.addi v233 c1_i32_146
  let c0_i32_150 : BitVec 32 := 0#32
  let c0_i32_151 : BitVec 32 := 0#32
  ![v234.toNat, 0, 0]
def k0_cond11 (v186 : BitVec 32) : BitVec 1 :=
  let c2_i32_113 : BitVec 32 := 2#32
  let v192 : BitVec 32 := Scalar.shrsi v186 c2_i32_113
  let c1_i32_114 : BitVec 32 := 1#32
  let v193 : BitVec 32 := Scalar.andi v192 c1_i32_114
  let c1_i32_115 : BitVec 32 := 1#32
  let v194 : BitVec 1 := Scalar.cmpi .eq v193 c1_i32_115
  let v195 : BitVec 32 := Scalar.extui v194
  let c0_i32_116 : BitVec 32 := 0#32
  let v196 : BitVec 1 := Scalar.cmpi .ne v195 c0_i32_116
  v196

def k0_off52 : Fin 4 → Nat :=
  let c1_i32_103 : BitVec 32 := 1#32
  let c4_i32_104 : BitVec 32 := 4#32
  let v178 : BitVec 32 := Scalar.remsi c1_i32_103 c4_i32_104
  let c1_i32_152 : BitVec 32 := 1#32
  let c0_i32_153 : BitVec 32 := 0#32
  let c0_i32_154 : BitVec 32 := 0#32
  ![v178.toNat, 1, 0, 0]
def k0_off53 (v177 : BitVec 32) : Fin 3 → Nat :=
  let c8_i32_145 : BitVec 32 := 8#32
  let v233 : BitVec 32 := Scalar.muli v177 c8_i32_145
  let c1_i32_146 : BitVec 32 := 1#32
  let v234 : BitVec 32 := Scalar.addi v233 c1_i32_146
  let c0_i32_155 : BitVec 32 := 0#32
  let c0_i32_156 : BitVec 32 := 0#32
  ![v234.toNat, 0, 0]
def k0_off54 : Fin 1 → Nat :=
  let c1_i32_103 : BitVec 32 := 1#32
  let c4_i32_104 : BitVec 32 := 4#32
  let v178 : BitVec 32 := Scalar.remsi c1_i32_103 c4_i32_104
  ![v178.toNat]
def k0_off55 : Fin 4 → Nat :=
  let c1_i32_103 : BitVec 32 := 1#32
  let c4_i32_104 : BitVec 32 := 4#32
  let v178 : BitVec 32 := Scalar.remsi c1_i32_103 c4_i32_104
  let c2_i32_147 : BitVec 32 := 2#32
  let c0_i32_148 : BitVec 32 := 0#32
  let c0_i32_149 : BitVec 32 := 0#32
  ![v178.toNat, 2, 0, 0]
def k0_off56 (v177 : BitVec 32) : Fin 3 → Nat :=
  let c8_i32_145 : BitVec 32 := 8#32
  let v233 : BitVec 32 := Scalar.muli v177 c8_i32_145
  let c2_i32_146 : BitVec 32 := 2#32
  let v234 : BitVec 32 := Scalar.addi v233 c2_i32_146
  let c0_i32_150 : BitVec 32 := 0#32
  let c0_i32_151 : BitVec 32 := 0#32
  ![v234.toNat, 0, 0]
def k0_cond12 (v186 : BitVec 32) : BitVec 1 :=
  let c3_i32_117 : BitVec 32 := 3#32
  let v197 : BitVec 32 := Scalar.shrsi v186 c3_i32_117
  let c1_i32_118 : BitVec 32 := 1#32
  let v198 : BitVec 32 := Scalar.andi v197 c1_i32_118
  let c1_i32_119 : BitVec 32 := 1#32
  let v199 : BitVec 1 := Scalar.cmpi .eq v198 c1_i32_119
  let v200 : BitVec 32 := Scalar.extui v199
  let c0_i32_120 : BitVec 32 := 0#32
  let v201 : BitVec 1 := Scalar.cmpi .ne v200 c0_i32_120
  v201

def k0_off57 : Fin 4 → Nat :=
  let c1_i32_103 : BitVec 32 := 1#32
  let c4_i32_104 : BitVec 32 := 4#32
  let v178 : BitVec 32 := Scalar.remsi c1_i32_103 c4_i32_104
  let c2_i32_152 : BitVec 32 := 2#32
  let c0_i32_153 : BitVec 32 := 0#32
  let c0_i32_154 : BitVec 32 := 0#32
  ![v178.toNat, 2, 0, 0]
def k0_off58 (v177 : BitVec 32) : Fin 3 → Nat :=
  let c8_i32_145 : BitVec 32 := 8#32
  let v233 : BitVec 32 := Scalar.muli v177 c8_i32_145
  let c2_i32_146 : BitVec 32 := 2#32
  let v234 : BitVec 32 := Scalar.addi v233 c2_i32_146
  let c0_i32_155 : BitVec 32 := 0#32
  let c0_i32_156 : BitVec 32 := 0#32
  ![v234.toNat, 0, 0]
def k0_off59 : Fin 1 → Nat :=
  let c1_i32_103 : BitVec 32 := 1#32
  let c4_i32_104 : BitVec 32 := 4#32
  let v178 : BitVec 32 := Scalar.remsi c1_i32_103 c4_i32_104
  ![v178.toNat]
def k0_off60 : Fin 4 → Nat :=
  let c1_i32_103 : BitVec 32 := 1#32
  let c4_i32_104 : BitVec 32 := 4#32
  let v178 : BitVec 32 := Scalar.remsi c1_i32_103 c4_i32_104
  let c3_i32_147 : BitVec 32 := 3#32
  let c0_i32_148 : BitVec 32 := 0#32
  let c0_i32_149 : BitVec 32 := 0#32
  ![v178.toNat, 3, 0, 0]
def k0_off61 (v177 : BitVec 32) : Fin 3 → Nat :=
  let c8_i32_145 : BitVec 32 := 8#32
  let v233 : BitVec 32 := Scalar.muli v177 c8_i32_145
  let c3_i32_146 : BitVec 32 := 3#32
  let v234 : BitVec 32 := Scalar.addi v233 c3_i32_146
  let c0_i32_150 : BitVec 32 := 0#32
  let c0_i32_151 : BitVec 32 := 0#32
  ![v234.toNat, 0, 0]
def k0_cond13 (v186 : BitVec 32) : BitVec 1 :=
  let c4_i32_121 : BitVec 32 := 4#32
  let v202 : BitVec 32 := Scalar.shrsi v186 c4_i32_121
  let c1_i32_122 : BitVec 32 := 1#32
  let v203 : BitVec 32 := Scalar.andi v202 c1_i32_122
  let c1_i32_123 : BitVec 32 := 1#32
  let v204 : BitVec 1 := Scalar.cmpi .eq v203 c1_i32_123
  let v205 : BitVec 32 := Scalar.extui v204
  let c0_i32_124 : BitVec 32 := 0#32
  let v206 : BitVec 1 := Scalar.cmpi .ne v205 c0_i32_124
  v206

def k0_off62 : Fin 4 → Nat :=
  let c1_i32_103 : BitVec 32 := 1#32
  let c4_i32_104 : BitVec 32 := 4#32
  let v178 : BitVec 32 := Scalar.remsi c1_i32_103 c4_i32_104
  let c3_i32_152 : BitVec 32 := 3#32
  let c0_i32_153 : BitVec 32 := 0#32
  let c0_i32_154 : BitVec 32 := 0#32
  ![v178.toNat, 3, 0, 0]
def k0_off63 (v177 : BitVec 32) : Fin 3 → Nat :=
  let c8_i32_145 : BitVec 32 := 8#32
  let v233 : BitVec 32 := Scalar.muli v177 c8_i32_145
  let c3_i32_146 : BitVec 32 := 3#32
  let v234 : BitVec 32 := Scalar.addi v233 c3_i32_146
  let c0_i32_155 : BitVec 32 := 0#32
  let c0_i32_156 : BitVec 32 := 0#32
  ![v234.toNat, 0, 0]
def k0_off64 : Fin 1 → Nat :=
  let c1_i32_103 : BitVec 32 := 1#32
  let c4_i32_104 : BitVec 32 := 4#32
  let v178 : BitVec 32 := Scalar.remsi c1_i32_103 c4_i32_104
  ![v178.toNat]
def k0_off65 : Fin 4 → Nat :=
  let c1_i32_103 : BitVec 32 := 1#32
  let c4_i32_104 : BitVec 32 := 4#32
  let v178 : BitVec 32 := Scalar.remsi c1_i32_103 c4_i32_104
  let c4_i32_147 : BitVec 32 := 4#32
  let c0_i32_148 : BitVec 32 := 0#32
  let c0_i32_149 : BitVec 32 := 0#32
  ![v178.toNat, 4, 0, 0]
def k0_off66 (v177 : BitVec 32) : Fin 3 → Nat :=
  let c8_i32_145 : BitVec 32 := 8#32
  let v233 : BitVec 32 := Scalar.muli v177 c8_i32_145
  let c4_i32_146 : BitVec 32 := 4#32
  let v234 : BitVec 32 := Scalar.addi v233 c4_i32_146
  let c0_i32_150 : BitVec 32 := 0#32
  let c0_i32_151 : BitVec 32 := 0#32
  ![v234.toNat, 0, 0]
def k0_cond14 (v186 : BitVec 32) : BitVec 1 :=
  let c5_i32_125 : BitVec 32 := 5#32
  let v207 : BitVec 32 := Scalar.shrsi v186 c5_i32_125
  let c1_i32_126 : BitVec 32 := 1#32
  let v208 : BitVec 32 := Scalar.andi v207 c1_i32_126
  let c1_i32_127 : BitVec 32 := 1#32
  let v209 : BitVec 1 := Scalar.cmpi .eq v208 c1_i32_127
  let v210 : BitVec 32 := Scalar.extui v209
  let c0_i32_128 : BitVec 32 := 0#32
  let v211 : BitVec 1 := Scalar.cmpi .ne v210 c0_i32_128
  v211

def k0_off67 : Fin 4 → Nat :=
  let c1_i32_103 : BitVec 32 := 1#32
  let c4_i32_104 : BitVec 32 := 4#32
  let v178 : BitVec 32 := Scalar.remsi c1_i32_103 c4_i32_104
  let c4_i32_152 : BitVec 32 := 4#32
  let c0_i32_153 : BitVec 32 := 0#32
  let c0_i32_154 : BitVec 32 := 0#32
  ![v178.toNat, 4, 0, 0]
def k0_off68 (v177 : BitVec 32) : Fin 3 → Nat :=
  let c8_i32_145 : BitVec 32 := 8#32
  let v233 : BitVec 32 := Scalar.muli v177 c8_i32_145
  let c4_i32_146 : BitVec 32 := 4#32
  let v234 : BitVec 32 := Scalar.addi v233 c4_i32_146
  let c0_i32_155 : BitVec 32 := 0#32
  let c0_i32_156 : BitVec 32 := 0#32
  ![v234.toNat, 0, 0]
def k0_off69 : Fin 1 → Nat :=
  let c1_i32_103 : BitVec 32 := 1#32
  let c4_i32_104 : BitVec 32 := 4#32
  let v178 : BitVec 32 := Scalar.remsi c1_i32_103 c4_i32_104
  ![v178.toNat]
def k0_off70 : Fin 4 → Nat :=
  let c1_i32_103 : BitVec 32 := 1#32
  let c4_i32_104 : BitVec 32 := 4#32
  let v178 : BitVec 32 := Scalar.remsi c1_i32_103 c4_i32_104
  let c5_i32_147 : BitVec 32 := 5#32
  let c0_i32_148 : BitVec 32 := 0#32
  let c0_i32_149 : BitVec 32 := 0#32
  ![v178.toNat, 5, 0, 0]
def k0_off71 (v177 : BitVec 32) : Fin 3 → Nat :=
  let c8_i32_145 : BitVec 32 := 8#32
  let v233 : BitVec 32 := Scalar.muli v177 c8_i32_145
  let c5_i32_146 : BitVec 32 := 5#32
  let v234 : BitVec 32 := Scalar.addi v233 c5_i32_146
  let c0_i32_150 : BitVec 32 := 0#32
  let c0_i32_151 : BitVec 32 := 0#32
  ![v234.toNat, 0, 0]
def k0_cond15 (v186 : BitVec 32) : BitVec 1 :=
  let c6_i32_129 : BitVec 32 := 6#32
  let v212 : BitVec 32 := Scalar.shrsi v186 c6_i32_129
  let c1_i32_130 : BitVec 32 := 1#32
  let v213 : BitVec 32 := Scalar.andi v212 c1_i32_130
  let c1_i32_131 : BitVec 32 := 1#32
  let v214 : BitVec 1 := Scalar.cmpi .eq v213 c1_i32_131
  let v215 : BitVec 32 := Scalar.extui v214
  let c0_i32_132 : BitVec 32 := 0#32
  let v216 : BitVec 1 := Scalar.cmpi .ne v215 c0_i32_132
  v216

def k0_off72 : Fin 4 → Nat :=
  let c1_i32_103 : BitVec 32 := 1#32
  let c4_i32_104 : BitVec 32 := 4#32
  let v178 : BitVec 32 := Scalar.remsi c1_i32_103 c4_i32_104
  let c5_i32_152 : BitVec 32 := 5#32
  let c0_i32_153 : BitVec 32 := 0#32
  let c0_i32_154 : BitVec 32 := 0#32
  ![v178.toNat, 5, 0, 0]
def k0_off73 (v177 : BitVec 32) : Fin 3 → Nat :=
  let c8_i32_145 : BitVec 32 := 8#32
  let v233 : BitVec 32 := Scalar.muli v177 c8_i32_145
  let c5_i32_146 : BitVec 32 := 5#32
  let v234 : BitVec 32 := Scalar.addi v233 c5_i32_146
  let c0_i32_155 : BitVec 32 := 0#32
  let c0_i32_156 : BitVec 32 := 0#32
  ![v234.toNat, 0, 0]
def k0_off74 : Fin 1 → Nat :=
  let c1_i32_103 : BitVec 32 := 1#32
  let c4_i32_104 : BitVec 32 := 4#32
  let v178 : BitVec 32 := Scalar.remsi c1_i32_103 c4_i32_104
  ![v178.toNat]
def k0_off75 : Fin 4 → Nat :=
  let c1_i32_103 : BitVec 32 := 1#32
  let c4_i32_104 : BitVec 32 := 4#32
  let v178 : BitVec 32 := Scalar.remsi c1_i32_103 c4_i32_104
  let c6_i32_147 : BitVec 32 := 6#32
  let c0_i32_148 : BitVec 32 := 0#32
  let c0_i32_149 : BitVec 32 := 0#32
  ![v178.toNat, 6, 0, 0]
def k0_off76 (v177 : BitVec 32) : Fin 3 → Nat :=
  let c8_i32_145 : BitVec 32 := 8#32
  let v233 : BitVec 32 := Scalar.muli v177 c8_i32_145
  let c6_i32_146 : BitVec 32 := 6#32
  let v234 : BitVec 32 := Scalar.addi v233 c6_i32_146
  let c0_i32_150 : BitVec 32 := 0#32
  let c0_i32_151 : BitVec 32 := 0#32
  ![v234.toNat, 0, 0]
def k0_cond16 (v186 : BitVec 32) : BitVec 1 :=
  let c7_i32_133 : BitVec 32 := 7#32
  let v217 : BitVec 32 := Scalar.shrsi v186 c7_i32_133
  let c1_i32_134 : BitVec 32 := 1#32
  let v218 : BitVec 32 := Scalar.andi v217 c1_i32_134
  let c1_i32_135 : BitVec 32 := 1#32
  let v219 : BitVec 1 := Scalar.cmpi .eq v218 c1_i32_135
  let v220 : BitVec 32 := Scalar.extui v219
  let c0_i32_136 : BitVec 32 := 0#32
  let v221 : BitVec 1 := Scalar.cmpi .ne v220 c0_i32_136
  v221

def k0_off77 : Fin 4 → Nat :=
  let c1_i32_103 : BitVec 32 := 1#32
  let c4_i32_104 : BitVec 32 := 4#32
  let v178 : BitVec 32 := Scalar.remsi c1_i32_103 c4_i32_104
  let c6_i32_152 : BitVec 32 := 6#32
  let c0_i32_153 : BitVec 32 := 0#32
  let c0_i32_154 : BitVec 32 := 0#32
  ![v178.toNat, 6, 0, 0]
def k0_off78 (v177 : BitVec 32) : Fin 3 → Nat :=
  let c8_i32_145 : BitVec 32 := 8#32
  let v233 : BitVec 32 := Scalar.muli v177 c8_i32_145
  let c6_i32_146 : BitVec 32 := 6#32
  let v234 : BitVec 32 := Scalar.addi v233 c6_i32_146
  let c0_i32_155 : BitVec 32 := 0#32
  let c0_i32_156 : BitVec 32 := 0#32
  ![v234.toNat, 0, 0]
def k0_off79 : Fin 1 → Nat :=
  let c1_i32_103 : BitVec 32 := 1#32
  let c4_i32_104 : BitVec 32 := 4#32
  let v178 : BitVec 32 := Scalar.remsi c1_i32_103 c4_i32_104
  ![v178.toNat]
def k0_off80 : Fin 4 → Nat :=
  let c1_i32_103 : BitVec 32 := 1#32
  let c4_i32_104 : BitVec 32 := 4#32
  let v178 : BitVec 32 := Scalar.remsi c1_i32_103 c4_i32_104
  let c7_i32_147 : BitVec 32 := 7#32
  let c0_i32_148 : BitVec 32 := 0#32
  let c0_i32_149 : BitVec 32 := 0#32
  ![v178.toNat, 7, 0, 0]
def k0_off81 (v177 : BitVec 32) : Fin 3 → Nat :=
  let c8_i32_145 : BitVec 32 := 8#32
  let v233 : BitVec 32 := Scalar.muli v177 c8_i32_145
  let c7_i32_146 : BitVec 32 := 7#32
  let v234 : BitVec 32 := Scalar.addi v233 c7_i32_146
  let c0_i32_150 : BitVec 32 := 0#32
  let c0_i32_151 : BitVec 32 := 0#32
  ![v234.toNat, 0, 0]
def k0_cond17 (v186 : BitVec 32) : BitVec 1 :=
  let c8_i32_137 : BitVec 32 := 8#32
  let v222 : BitVec 32 := Scalar.shrsi v186 c8_i32_137
  let c1_i32_138 : BitVec 32 := 1#32
  let v223 : BitVec 32 := Scalar.andi v222 c1_i32_138
  let c1_i32_139 : BitVec 32 := 1#32
  let v224 : BitVec 1 := Scalar.cmpi .eq v223 c1_i32_139
  let v225 : BitVec 32 := Scalar.extui v224
  let c0_i32_140 : BitVec 32 := 0#32
  let v226 : BitVec 1 := Scalar.cmpi .ne v225 c0_i32_140
  v226

def k0_off82 : Fin 4 → Nat :=
  let c1_i32_103 : BitVec 32 := 1#32
  let c4_i32_104 : BitVec 32 := 4#32
  let v178 : BitVec 32 := Scalar.remsi c1_i32_103 c4_i32_104
  let c7_i32_152 : BitVec 32 := 7#32
  let c0_i32_153 : BitVec 32 := 0#32
  let c0_i32_154 : BitVec 32 := 0#32
  ![v178.toNat, 7, 0, 0]
def k0_off83 (v177 : BitVec 32) : Fin 3 → Nat :=
  let c8_i32_145 : BitVec 32 := 8#32
  let v233 : BitVec 32 := Scalar.muli v177 c8_i32_145
  let c7_i32_146 : BitVec 32 := 7#32
  let v234 : BitVec 32 := Scalar.addi v233 c7_i32_146
  let c0_i32_155 : BitVec 32 := 0#32
  let c0_i32_156 : BitVec 32 := 0#32
  ![v234.toNat, 0, 0]

def k0_chk13 (v21 : BitVec 32) (v177 : BitVec 32) (v186 : BitVec 32) : Prop :=
  (∀ (k0_h9 : k0_cond9 v21 = 1#1), ∀ (k0_h10 : k0_cond10 v186 = 1#1), ∀ a, (k0_off46 v177) a + S1x16x5120.size a ≤ S256x16x5120.size a) ∧
  (∀ (k0_h9 : k0_cond9 v21 = 1#1), ∀ (k0_h10 : k0_cond10 v186 = 1#1), ∀ (hinb : ∀ a, (k0_off46 v177) a + S1x16x5120.size a ≤ S256x16x5120.size a), (Rect.unit (s := S256x16x5120) (k0_off46 v177) S1x16x5120.size hinb).WholeWords (EltTy.packing .bf16)) ∧
  (∀ (k0_h9 : k0_cond9 v21 = 1#1), ∀ (k0_h10 : k0_cond10 v186 = 1#1), ∀ a, (k0_off48 v177) a + S1x16x768.size a ≤ S256x16x768.size a) ∧
  (∀ (k0_h9 : k0_cond9 v21 = 1#1), ∀ (k0_h10 : k0_cond10 v186 = 1#1), ∀ (hinb : ∀ a, (k0_off48 v177) a + S1x16x768.size a ≤ S256x16x768.size a), (Rect.unit (s := S256x16x768) (k0_off48 v177) S1x16x768.size hinb).WholeWords (EltTy.packing .bf16)) ∧
  (∀ (k0_h9 : k0_cond9 v21 = 1#1), ∀ (k0_h11 : k0_cond11 v186 = 1#1), ∀ a, (k0_off51 v177) a + S1x16x5120.size a ≤ S256x16x5120.size a) ∧
  (∀ (k0_h9 : k0_cond9 v21 = 1#1), ∀ (k0_h11 : k0_cond11 v186 = 1#1), ∀ (hinb : ∀ a, (k0_off51 v177) a + S1x16x5120.size a ≤ S256x16x5120.size a), (Rect.unit (s := S256x16x5120) (k0_off51 v177) S1x16x5120.size hinb).WholeWords (EltTy.packing .bf16)) ∧
  (∀ (k0_h9 : k0_cond9 v21 = 1#1), ∀ (k0_h11 : k0_cond11 v186 = 1#1), ∀ a, (k0_off53 v177) a + S1x16x768.size a ≤ S256x16x768.size a) ∧
  (∀ (k0_h9 : k0_cond9 v21 = 1#1), ∀ (k0_h11 : k0_cond11 v186 = 1#1), ∀ (hinb : ∀ a, (k0_off53 v177) a + S1x16x768.size a ≤ S256x16x768.size a), (Rect.unit (s := S256x16x768) (k0_off53 v177) S1x16x768.size hinb).WholeWords (EltTy.packing .bf16)) ∧
  (∀ (k0_h9 : k0_cond9 v21 = 1#1), ∀ (k0_h12 : k0_cond12 v186 = 1#1), ∀ a, (k0_off56 v177) a + S1x16x5120.size a ≤ S256x16x5120.size a) ∧
  (∀ (k0_h9 : k0_cond9 v21 = 1#1), ∀ (k0_h12 : k0_cond12 v186 = 1#1), ∀ (hinb : ∀ a, (k0_off56 v177) a + S1x16x5120.size a ≤ S256x16x5120.size a), (Rect.unit (s := S256x16x5120) (k0_off56 v177) S1x16x5120.size hinb).WholeWords (EltTy.packing .bf16)) ∧
  (∀ (k0_h9 : k0_cond9 v21 = 1#1), ∀ (k0_h12 : k0_cond12 v186 = 1#1), ∀ a, (k0_off58 v177) a + S1x16x768.size a ≤ S256x16x768.size a) ∧
  (∀ (k0_h9 : k0_cond9 v21 = 1#1), ∀ (k0_h12 : k0_cond12 v186 = 1#1), ∀ (hinb : ∀ a, (k0_off58 v177) a + S1x16x768.size a ≤ S256x16x768.size a), (Rect.unit (s := S256x16x768) (k0_off58 v177) S1x16x768.size hinb).WholeWords (EltTy.packing .bf16)) ∧
  (∀ (k0_h9 : k0_cond9 v21 = 1#1), ∀ (k0_h13 : k0_cond13 v186 = 1#1), ∀ a, (k0_off61 v177) a + S1x16x5120.size a ≤ S256x16x5120.size a) ∧
  (∀ (k0_h9 : k0_cond9 v21 = 1#1), ∀ (k0_h13 : k0_cond13 v186 = 1#1), ∀ (hinb : ∀ a, (k0_off61 v177) a + S1x16x5120.size a ≤ S256x16x5120.size a), (Rect.unit (s := S256x16x5120) (k0_off61 v177) S1x16x5120.size hinb).WholeWords (EltTy.packing .bf16)) ∧
  (∀ (k0_h9 : k0_cond9 v21 = 1#1), ∀ (k0_h13 : k0_cond13 v186 = 1#1), ∀ a, (k0_off63 v177) a + S1x16x768.size a ≤ S256x16x768.size a) ∧
  (∀ (k0_h9 : k0_cond9 v21 = 1#1), ∀ (k0_h13 : k0_cond13 v186 = 1#1), ∀ (hinb : ∀ a, (k0_off63 v177) a + S1x16x768.size a ≤ S256x16x768.size a), (Rect.unit (s := S256x16x768) (k0_off63 v177) S1x16x768.size hinb).WholeWords (EltTy.packing .bf16)) ∧
  (∀ (k0_h9 : k0_cond9 v21 = 1#1), ∀ (k0_h14 : k0_cond14 v186 = 1#1), ∀ a, (k0_off66 v177) a + S1x16x5120.size a ≤ S256x16x5120.size a) ∧
  (∀ (k0_h9 : k0_cond9 v21 = 1#1), ∀ (k0_h14 : k0_cond14 v186 = 1#1), ∀ (hinb : ∀ a, (k0_off66 v177) a + S1x16x5120.size a ≤ S256x16x5120.size a), (Rect.unit (s := S256x16x5120) (k0_off66 v177) S1x16x5120.size hinb).WholeWords (EltTy.packing .bf16)) ∧
  (∀ (k0_h9 : k0_cond9 v21 = 1#1), ∀ (k0_h14 : k0_cond14 v186 = 1#1), ∀ a, (k0_off68 v177) a + S1x16x768.size a ≤ S256x16x768.size a) ∧
  (∀ (k0_h9 : k0_cond9 v21 = 1#1), ∀ (k0_h14 : k0_cond14 v186 = 1#1), ∀ (hinb : ∀ a, (k0_off68 v177) a + S1x16x768.size a ≤ S256x16x768.size a), (Rect.unit (s := S256x16x768) (k0_off68 v177) S1x16x768.size hinb).WholeWords (EltTy.packing .bf16)) ∧
  (∀ (k0_h9 : k0_cond9 v21 = 1#1), ∀ (k0_h15 : k0_cond15 v186 = 1#1), ∀ a, (k0_off71 v177) a + S1x16x5120.size a ≤ S256x16x5120.size a) ∧
  (∀ (k0_h9 : k0_cond9 v21 = 1#1), ∀ (k0_h15 : k0_cond15 v186 = 1#1), ∀ (hinb : ∀ a, (k0_off71 v177) a + S1x16x5120.size a ≤ S256x16x5120.size a), (Rect.unit (s := S256x16x5120) (k0_off71 v177) S1x16x5120.size hinb).WholeWords (EltTy.packing .bf16)) ∧
  (∀ (k0_h9 : k0_cond9 v21 = 1#1), ∀ (k0_h15 : k0_cond15 v186 = 1#1), ∀ a, (k0_off73 v177) a + S1x16x768.size a ≤ S256x16x768.size a) ∧
  (∀ (k0_h9 : k0_cond9 v21 = 1#1), ∀ (k0_h15 : k0_cond15 v186 = 1#1), ∀ (hinb : ∀ a, (k0_off73 v177) a + S1x16x768.size a ≤ S256x16x768.size a), (Rect.unit (s := S256x16x768) (k0_off73 v177) S1x16x768.size hinb).WholeWords (EltTy.packing .bf16)) ∧
  (∀ (k0_h9 : k0_cond9 v21 = 1#1), ∀ (k0_h16 : k0_cond16 v186 = 1#1), ∀ a, (k0_off76 v177) a + S1x16x5120.size a ≤ S256x16x5120.size a) ∧
  (∀ (k0_h9 : k0_cond9 v21 = 1#1), ∀ (k0_h16 : k0_cond16 v186 = 1#1), ∀ (hinb : ∀ a, (k0_off76 v177) a + S1x16x5120.size a ≤ S256x16x5120.size a), (Rect.unit (s := S256x16x5120) (k0_off76 v177) S1x16x5120.size hinb).WholeWords (EltTy.packing .bf16)) ∧
  (∀ (k0_h9 : k0_cond9 v21 = 1#1), ∀ (k0_h16 : k0_cond16 v186 = 1#1), ∀ a, (k0_off78 v177) a + S1x16x768.size a ≤ S256x16x768.size a) ∧
  (∀ (k0_h9 : k0_cond9 v21 = 1#1), ∀ (k0_h16 : k0_cond16 v186 = 1#1), ∀ (hinb : ∀ a, (k0_off78 v177) a + S1x16x768.size a ≤ S256x16x768.size a), (Rect.unit (s := S256x16x768) (k0_off78 v177) S1x16x768.size hinb).WholeWords (EltTy.packing .bf16)) ∧
  (∀ (k0_h9 : k0_cond9 v21 = 1#1), ∀ (k0_h17 : k0_cond17 v186 = 1#1), ∀ a, (k0_off81 v177) a + S1x16x5120.size a ≤ S256x16x5120.size a) ∧
  (∀ (k0_h9 : k0_cond9 v21 = 1#1), ∀ (k0_h17 : k0_cond17 v186 = 1#1), ∀ (hinb : ∀ a, (k0_off81 v177) a + S1x16x5120.size a ≤ S256x16x5120.size a), (Rect.unit (s := S256x16x5120) (k0_off81 v177) S1x16x5120.size hinb).WholeWords (EltTy.packing .bf16)) ∧
  (∀ (k0_h9 : k0_cond9 v21 = 1#1), ∀ (k0_h17 : k0_cond17 v186 = 1#1), ∀ a, (k0_off83 v177) a + S1x16x768.size a ≤ S256x16x768.size a) ∧
  (∀ (k0_h9 : k0_cond9 v21 = 1#1), ∀ (k0_h17 : k0_cond17 v186 = 1#1), ∀ (hinb : ∀ a, (k0_off83 v177) a + S1x16x768.size a ≤ S256x16x768.size a), (Rect.unit (s := S256x16x768) (k0_off83 v177) S1x16x768.size hinb).WholeWords (EltTy.packing .bf16))
theorem k0_off46_inb : ∀ (v21 : BitVec 32) (v177 : BitVec 32) (v186 : BitVec 32) (k0_hw13 : k0_chk13 v21 v177 v186), ∀ (k0_h9 : k0_cond9 v21 = 1#1), ∀ (k0_h10 : k0_cond10 v186 = 1#1), ∀ a, (k0_off46 v177) a + S1x16x5120.size a ≤ S256x16x5120.size a := fun v21 v177 v186 k0_hw13 k0_h9 k0_h10 => k0_hw13.1 k0_h9 k0_h10
theorem k0_off46_wordsbf16 : ∀ (v21 : BitVec 32) (v177 : BitVec 32) (v186 : BitVec 32) (k0_hw13 : k0_chk13 v21 v177 v186), ∀ (k0_h9 : k0_cond9 v21 = 1#1), ∀ (k0_h10 : k0_cond10 v186 = 1#1), (Rect.unit (s := S256x16x5120) (k0_off46 v177) S1x16x5120.size (k0_off46_inb v21 v177 v186 k0_hw13 k0_h9 k0_h10)).WholeWords (EltTy.packing .bf16) := fun v21 v177 v186 k0_hw13 k0_h9 k0_h10 => k0_hw13.2.1 k0_h9 k0_h10 (k0_off46_inb v21 v177 v186 k0_hw13 k0_h9 k0_h10)
theorem k0_off48_inb : ∀ (v21 : BitVec 32) (v177 : BitVec 32) (v186 : BitVec 32) (k0_hw13 : k0_chk13 v21 v177 v186), ∀ (k0_h9 : k0_cond9 v21 = 1#1), ∀ (k0_h10 : k0_cond10 v186 = 1#1), ∀ a, (k0_off48 v177) a + S1x16x768.size a ≤ S256x16x768.size a := fun v21 v177 v186 k0_hw13 k0_h9 k0_h10 => k0_hw13.2.2.1 k0_h9 k0_h10
theorem k0_off48_wordsbf16 : ∀ (v21 : BitVec 32) (v177 : BitVec 32) (v186 : BitVec 32) (k0_hw13 : k0_chk13 v21 v177 v186), ∀ (k0_h9 : k0_cond9 v21 = 1#1), ∀ (k0_h10 : k0_cond10 v186 = 1#1), (Rect.unit (s := S256x16x768) (k0_off48 v177) S1x16x768.size (k0_off48_inb v21 v177 v186 k0_hw13 k0_h9 k0_h10)).WholeWords (EltTy.packing .bf16) := fun v21 v177 v186 k0_hw13 k0_h9 k0_h10 => k0_hw13.2.2.2.1 k0_h9 k0_h10 (k0_off48_inb v21 v177 v186 k0_hw13 k0_h9 k0_h10)
theorem k0_off51_inb : ∀ (v21 : BitVec 32) (v177 : BitVec 32) (v186 : BitVec 32) (k0_hw13 : k0_chk13 v21 v177 v186), ∀ (k0_h9 : k0_cond9 v21 = 1#1), ∀ (k0_h11 : k0_cond11 v186 = 1#1), ∀ a, (k0_off51 v177) a + S1x16x5120.size a ≤ S256x16x5120.size a := fun v21 v177 v186 k0_hw13 k0_h9 k0_h11 => k0_hw13.2.2.2.2.1 k0_h9 k0_h11
theorem k0_off51_wordsbf16 : ∀ (v21 : BitVec 32) (v177 : BitVec 32) (v186 : BitVec 32) (k0_hw13 : k0_chk13 v21 v177 v186), ∀ (k0_h9 : k0_cond9 v21 = 1#1), ∀ (k0_h11 : k0_cond11 v186 = 1#1), (Rect.unit (s := S256x16x5120) (k0_off51 v177) S1x16x5120.size (k0_off51_inb v21 v177 v186 k0_hw13 k0_h9 k0_h11)).WholeWords (EltTy.packing .bf16) := fun v21 v177 v186 k0_hw13 k0_h9 k0_h11 => k0_hw13.2.2.2.2.2.1 k0_h9 k0_h11 (k0_off51_inb v21 v177 v186 k0_hw13 k0_h9 k0_h11)
theorem k0_off53_inb : ∀ (v21 : BitVec 32) (v177 : BitVec 32) (v186 : BitVec 32) (k0_hw13 : k0_chk13 v21 v177 v186), ∀ (k0_h9 : k0_cond9 v21 = 1#1), ∀ (k0_h11 : k0_cond11 v186 = 1#1), ∀ a, (k0_off53 v177) a + S1x16x768.size a ≤ S256x16x768.size a := fun v21 v177 v186 k0_hw13 k0_h9 k0_h11 => k0_hw13.2.2.2.2.2.2.1 k0_h9 k0_h11
theorem k0_off53_wordsbf16 : ∀ (v21 : BitVec 32) (v177 : BitVec 32) (v186 : BitVec 32) (k0_hw13 : k0_chk13 v21 v177 v186), ∀ (k0_h9 : k0_cond9 v21 = 1#1), ∀ (k0_h11 : k0_cond11 v186 = 1#1), (Rect.unit (s := S256x16x768) (k0_off53 v177) S1x16x768.size (k0_off53_inb v21 v177 v186 k0_hw13 k0_h9 k0_h11)).WholeWords (EltTy.packing .bf16) := fun v21 v177 v186 k0_hw13 k0_h9 k0_h11 => k0_hw13.2.2.2.2.2.2.2.1 k0_h9 k0_h11 (k0_off53_inb v21 v177 v186 k0_hw13 k0_h9 k0_h11)
theorem k0_off56_inb : ∀ (v21 : BitVec 32) (v177 : BitVec 32) (v186 : BitVec 32) (k0_hw13 : k0_chk13 v21 v177 v186), ∀ (k0_h9 : k0_cond9 v21 = 1#1), ∀ (k0_h12 : k0_cond12 v186 = 1#1), ∀ a, (k0_off56 v177) a + S1x16x5120.size a ≤ S256x16x5120.size a := fun v21 v177 v186 k0_hw13 k0_h9 k0_h12 => k0_hw13.2.2.2.2.2.2.2.2.1 k0_h9 k0_h12
theorem k0_off56_wordsbf16 : ∀ (v21 : BitVec 32) (v177 : BitVec 32) (v186 : BitVec 32) (k0_hw13 : k0_chk13 v21 v177 v186), ∀ (k0_h9 : k0_cond9 v21 = 1#1), ∀ (k0_h12 : k0_cond12 v186 = 1#1), (Rect.unit (s := S256x16x5120) (k0_off56 v177) S1x16x5120.size (k0_off56_inb v21 v177 v186 k0_hw13 k0_h9 k0_h12)).WholeWords (EltTy.packing .bf16) := fun v21 v177 v186 k0_hw13 k0_h9 k0_h12 => k0_hw13.2.2.2.2.2.2.2.2.2.1 k0_h9 k0_h12 (k0_off56_inb v21 v177 v186 k0_hw13 k0_h9 k0_h12)
theorem k0_off58_inb : ∀ (v21 : BitVec 32) (v177 : BitVec 32) (v186 : BitVec 32) (k0_hw13 : k0_chk13 v21 v177 v186), ∀ (k0_h9 : k0_cond9 v21 = 1#1), ∀ (k0_h12 : k0_cond12 v186 = 1#1), ∀ a, (k0_off58 v177) a + S1x16x768.size a ≤ S256x16x768.size a := fun v21 v177 v186 k0_hw13 k0_h9 k0_h12 => k0_hw13.2.2.2.2.2.2.2.2.2.2.1 k0_h9 k0_h12
theorem k0_off58_wordsbf16 : ∀ (v21 : BitVec 32) (v177 : BitVec 32) (v186 : BitVec 32) (k0_hw13 : k0_chk13 v21 v177 v186), ∀ (k0_h9 : k0_cond9 v21 = 1#1), ∀ (k0_h12 : k0_cond12 v186 = 1#1), (Rect.unit (s := S256x16x768) (k0_off58 v177) S1x16x768.size (k0_off58_inb v21 v177 v186 k0_hw13 k0_h9 k0_h12)).WholeWords (EltTy.packing .bf16) := fun v21 v177 v186 k0_hw13 k0_h9 k0_h12 => k0_hw13.2.2.2.2.2.2.2.2.2.2.2.1 k0_h9 k0_h12 (k0_off58_inb v21 v177 v186 k0_hw13 k0_h9 k0_h12)
theorem k0_off61_inb : ∀ (v21 : BitVec 32) (v177 : BitVec 32) (v186 : BitVec 32) (k0_hw13 : k0_chk13 v21 v177 v186), ∀ (k0_h9 : k0_cond9 v21 = 1#1), ∀ (k0_h13 : k0_cond13 v186 = 1#1), ∀ a, (k0_off61 v177) a + S1x16x5120.size a ≤ S256x16x5120.size a := fun v21 v177 v186 k0_hw13 k0_h9 k0_h13 => k0_hw13.2.2.2.2.2.2.2.2.2.2.2.2.1 k0_h9 k0_h13
theorem k0_off61_wordsbf16 : ∀ (v21 : BitVec 32) (v177 : BitVec 32) (v186 : BitVec 32) (k0_hw13 : k0_chk13 v21 v177 v186), ∀ (k0_h9 : k0_cond9 v21 = 1#1), ∀ (k0_h13 : k0_cond13 v186 = 1#1), (Rect.unit (s := S256x16x5120) (k0_off61 v177) S1x16x5120.size (k0_off61_inb v21 v177 v186 k0_hw13 k0_h9 k0_h13)).WholeWords (EltTy.packing .bf16) := fun v21 v177 v186 k0_hw13 k0_h9 k0_h13 => k0_hw13.2.2.2.2.2.2.2.2.2.2.2.2.2.1 k0_h9 k0_h13 (k0_off61_inb v21 v177 v186 k0_hw13 k0_h9 k0_h13)
theorem k0_off63_inb : ∀ (v21 : BitVec 32) (v177 : BitVec 32) (v186 : BitVec 32) (k0_hw13 : k0_chk13 v21 v177 v186), ∀ (k0_h9 : k0_cond9 v21 = 1#1), ∀ (k0_h13 : k0_cond13 v186 = 1#1), ∀ a, (k0_off63 v177) a + S1x16x768.size a ≤ S256x16x768.size a := fun v21 v177 v186 k0_hw13 k0_h9 k0_h13 => k0_hw13.2.2.2.2.2.2.2.2.2.2.2.2.2.2.1 k0_h9 k0_h13
theorem k0_off63_wordsbf16 : ∀ (v21 : BitVec 32) (v177 : BitVec 32) (v186 : BitVec 32) (k0_hw13 : k0_chk13 v21 v177 v186), ∀ (k0_h9 : k0_cond9 v21 = 1#1), ∀ (k0_h13 : k0_cond13 v186 = 1#1), (Rect.unit (s := S256x16x768) (k0_off63 v177) S1x16x768.size (k0_off63_inb v21 v177 v186 k0_hw13 k0_h9 k0_h13)).WholeWords (EltTy.packing .bf16) := fun v21 v177 v186 k0_hw13 k0_h9 k0_h13 => k0_hw13.2.2.2.2.2.2.2.2.2.2.2.2.2.2.2.1 k0_h9 k0_h13 (k0_off63_inb v21 v177 v186 k0_hw13 k0_h9 k0_h13)
theorem k0_off66_inb : ∀ (v21 : BitVec 32) (v177 : BitVec 32) (v186 : BitVec 32) (k0_hw13 : k0_chk13 v21 v177 v186), ∀ (k0_h9 : k0_cond9 v21 = 1#1), ∀ (k0_h14 : k0_cond14 v186 = 1#1), ∀ a, (k0_off66 v177) a + S1x16x5120.size a ≤ S256x16x5120.size a := fun v21 v177 v186 k0_hw13 k0_h9 k0_h14 => k0_hw13.2.2.2.2.2.2.2.2.2.2.2.2.2.2.2.2.1 k0_h9 k0_h14
theorem k0_off66_wordsbf16 : ∀ (v21 : BitVec 32) (v177 : BitVec 32) (v186 : BitVec 32) (k0_hw13 : k0_chk13 v21 v177 v186), ∀ (k0_h9 : k0_cond9 v21 = 1#1), ∀ (k0_h14 : k0_cond14 v186 = 1#1), (Rect.unit (s := S256x16x5120) (k0_off66 v177) S1x16x5120.size (k0_off66_inb v21 v177 v186 k0_hw13 k0_h9 k0_h14)).WholeWords (EltTy.packing .bf16) := fun v21 v177 v186 k0_hw13 k0_h9 k0_h14 => k0_hw13.2.2.2.2.2.2.2.2.2.2.2.2.2.2.2.2.2.1 k0_h9 k0_h14 (k0_off66_inb v21 v177 v186 k0_hw13 k0_h9 k0_h14)
theorem k0_off68_inb : ∀ (v21 : BitVec 32) (v177 : BitVec 32) (v186 : BitVec 32) (k0_hw13 : k0_chk13 v21 v177 v186), ∀ (k0_h9 : k0_cond9 v21 = 1#1), ∀ (k0_h14 : k0_cond14 v186 = 1#1), ∀ a, (k0_off68 v177) a + S1x16x768.size a ≤ S256x16x768.size a := fun v21 v177 v186 k0_hw13 k0_h9 k0_h14 => k0_hw13.2.2.2.2.2.2.2.2.2.2.2.2.2.2.2.2.2.2.1 k0_h9 k0_h14
theorem k0_off68_wordsbf16 : ∀ (v21 : BitVec 32) (v177 : BitVec 32) (v186 : BitVec 32) (k0_hw13 : k0_chk13 v21 v177 v186), ∀ (k0_h9 : k0_cond9 v21 = 1#1), ∀ (k0_h14 : k0_cond14 v186 = 1#1), (Rect.unit (s := S256x16x768) (k0_off68 v177) S1x16x768.size (k0_off68_inb v21 v177 v186 k0_hw13 k0_h9 k0_h14)).WholeWords (EltTy.packing .bf16) := fun v21 v177 v186 k0_hw13 k0_h9 k0_h14 => k0_hw13.2.2.2.2.2.2.2.2.2.2.2.2.2.2.2.2.2.2.2.1 k0_h9 k0_h14 (k0_off68_inb v21 v177 v186 k0_hw13 k0_h9 k0_h14)
theorem k0_off71_inb : ∀ (v21 : BitVec 32) (v177 : BitVec 32) (v186 : BitVec 32) (k0_hw13 : k0_chk13 v21 v177 v186), ∀ (k0_h9 : k0_cond9 v21 = 1#1), ∀ (k0_h15 : k0_cond15 v186 = 1#1), ∀ a, (k0_off71 v177) a + S1x16x5120.size a ≤ S256x16x5120.size a := fun v21 v177 v186 k0_hw13 k0_h9 k0_h15 => k0_hw13.2.2.2.2.2.2.2.2.2.2.2.2.2.2.2.2.2.2.2.2.1 k0_h9 k0_h15
theorem k0_off71_wordsbf16 : ∀ (v21 : BitVec 32) (v177 : BitVec 32) (v186 : BitVec 32) (k0_hw13 : k0_chk13 v21 v177 v186), ∀ (k0_h9 : k0_cond9 v21 = 1#1), ∀ (k0_h15 : k0_cond15 v186 = 1#1), (Rect.unit (s := S256x16x5120) (k0_off71 v177) S1x16x5120.size (k0_off71_inb v21 v177 v186 k0_hw13 k0_h9 k0_h15)).WholeWords (EltTy.packing .bf16) := fun v21 v177 v186 k0_hw13 k0_h9 k0_h15 => k0_hw13.2.2.2.2.2.2.2.2.2.2.2.2.2.2.2.2.2.2.2.2.2.1 k0_h9 k0_h15 (k0_off71_inb v21 v177 v186 k0_hw13 k0_h9 k0_h15)
theorem k0_off73_inb : ∀ (v21 : BitVec 32) (v177 : BitVec 32) (v186 : BitVec 32) (k0_hw13 : k0_chk13 v21 v177 v186), ∀ (k0_h9 : k0_cond9 v21 = 1#1), ∀ (k0_h15 : k0_cond15 v186 = 1#1), ∀ a, (k0_off73 v177) a + S1x16x768.size a ≤ S256x16x768.size a := fun v21 v177 v186 k0_hw13 k0_h9 k0_h15 => k0_hw13.2.2.2.2.2.2.2.2.2.2.2.2.2.2.2.2.2.2.2.2.2.2.1 k0_h9 k0_h15
theorem k0_off73_wordsbf16 : ∀ (v21 : BitVec 32) (v177 : BitVec 32) (v186 : BitVec 32) (k0_hw13 : k0_chk13 v21 v177 v186), ∀ (k0_h9 : k0_cond9 v21 = 1#1), ∀ (k0_h15 : k0_cond15 v186 = 1#1), (Rect.unit (s := S256x16x768) (k0_off73 v177) S1x16x768.size (k0_off73_inb v21 v177 v186 k0_hw13 k0_h9 k0_h15)).WholeWords (EltTy.packing .bf16) := fun v21 v177 v186 k0_hw13 k0_h9 k0_h15 => k0_hw13.2.2.2.2.2.2.2.2.2.2.2.2.2.2.2.2.2.2.2.2.2.2.2.1 k0_h9 k0_h15 (k0_off73_inb v21 v177 v186 k0_hw13 k0_h9 k0_h15)
theorem k0_off76_inb : ∀ (v21 : BitVec 32) (v177 : BitVec 32) (v186 : BitVec 32) (k0_hw13 : k0_chk13 v21 v177 v186), ∀ (k0_h9 : k0_cond9 v21 = 1#1), ∀ (k0_h16 : k0_cond16 v186 = 1#1), ∀ a, (k0_off76 v177) a + S1x16x5120.size a ≤ S256x16x5120.size a := fun v21 v177 v186 k0_hw13 k0_h9 k0_h16 => k0_hw13.2.2.2.2.2.2.2.2.2.2.2.2.2.2.2.2.2.2.2.2.2.2.2.2.1 k0_h9 k0_h16
theorem k0_off76_wordsbf16 : ∀ (v21 : BitVec 32) (v177 : BitVec 32) (v186 : BitVec 32) (k0_hw13 : k0_chk13 v21 v177 v186), ∀ (k0_h9 : k0_cond9 v21 = 1#1), ∀ (k0_h16 : k0_cond16 v186 = 1#1), (Rect.unit (s := S256x16x5120) (k0_off76 v177) S1x16x5120.size (k0_off76_inb v21 v177 v186 k0_hw13 k0_h9 k0_h16)).WholeWords (EltTy.packing .bf16) := fun v21 v177 v186 k0_hw13 k0_h9 k0_h16 => k0_hw13.2.2.2.2.2.2.2.2.2.2.2.2.2.2.2.2.2.2.2.2.2.2.2.2.2.1 k0_h9 k0_h16 (k0_off76_inb v21 v177 v186 k0_hw13 k0_h9 k0_h16)
theorem k0_off78_inb : ∀ (v21 : BitVec 32) (v177 : BitVec 32) (v186 : BitVec 32) (k0_hw13 : k0_chk13 v21 v177 v186), ∀ (k0_h9 : k0_cond9 v21 = 1#1), ∀ (k0_h16 : k0_cond16 v186 = 1#1), ∀ a, (k0_off78 v177) a + S1x16x768.size a ≤ S256x16x768.size a := fun v21 v177 v186 k0_hw13 k0_h9 k0_h16 => k0_hw13.2.2.2.2.2.2.2.2.2.2.2.2.2.2.2.2.2.2.2.2.2.2.2.2.2.2.1 k0_h9 k0_h16
theorem k0_off78_wordsbf16 : ∀ (v21 : BitVec 32) (v177 : BitVec 32) (v186 : BitVec 32) (k0_hw13 : k0_chk13 v21 v177 v186), ∀ (k0_h9 : k0_cond9 v21 = 1#1), ∀ (k0_h16 : k0_cond16 v186 = 1#1), (Rect.unit (s := S256x16x768) (k0_off78 v177) S1x16x768.size (k0_off78_inb v21 v177 v186 k0_hw13 k0_h9 k0_h16)).WholeWords (EltTy.packing .bf16) := fun v21 v177 v186 k0_hw13 k0_h9 k0_h16 => k0_hw13.2.2.2.2.2.2.2.2.2.2.2.2.2.2.2.2.2.2.2.2.2.2.2.2.2.2.2.1 k0_h9 k0_h16 (k0_off78_inb v21 v177 v186 k0_hw13 k0_h9 k0_h16)
theorem k0_off81_inb : ∀ (v21 : BitVec 32) (v177 : BitVec 32) (v186 : BitVec 32) (k0_hw13 : k0_chk13 v21 v177 v186), ∀ (k0_h9 : k0_cond9 v21 = 1#1), ∀ (k0_h17 : k0_cond17 v186 = 1#1), ∀ a, (k0_off81 v177) a + S1x16x5120.size a ≤ S256x16x5120.size a := fun v21 v177 v186 k0_hw13 k0_h9 k0_h17 => k0_hw13.2.2.2.2.2.2.2.2.2.2.2.2.2.2.2.2.2.2.2.2.2.2.2.2.2.2.2.2.1 k0_h9 k0_h17
theorem k0_off81_wordsbf16 : ∀ (v21 : BitVec 32) (v177 : BitVec 32) (v186 : BitVec 32) (k0_hw13 : k0_chk13 v21 v177 v186), ∀ (k0_h9 : k0_cond9 v21 = 1#1), ∀ (k0_h17 : k0_cond17 v186 = 1#1), (Rect.unit (s := S256x16x5120) (k0_off81 v177) S1x16x5120.size (k0_off81_inb v21 v177 v186 k0_hw13 k0_h9 k0_h17)).WholeWords (EltTy.packing .bf16) := fun v21 v177 v186 k0_hw13 k0_h9 k0_h17 => k0_hw13.2.2.2.2.2.2.2.2.2.2.2.2.2.2.2.2.2.2.2.2.2.2.2.2.2.2.2.2.2.1 k0_h9 k0_h17 (k0_off81_inb v21 v177 v186 k0_hw13 k0_h9 k0_h17)
theorem k0_off83_inb : ∀ (v21 : BitVec 32) (v177 : BitVec 32) (v186 : BitVec 32) (k0_hw13 : k0_chk13 v21 v177 v186), ∀ (k0_h9 : k0_cond9 v21 = 1#1), ∀ (k0_h17 : k0_cond17 v186 = 1#1), ∀ a, (k0_off83 v177) a + S1x16x768.size a ≤ S256x16x768.size a := fun v21 v177 v186 k0_hw13 k0_h9 k0_h17 => k0_hw13.2.2.2.2.2.2.2.2.2.2.2.2.2.2.2.2.2.2.2.2.2.2.2.2.2.2.2.2.2.2.1 k0_h9 k0_h17
theorem k0_off83_wordsbf16 : ∀ (v21 : BitVec 32) (v177 : BitVec 32) (v186 : BitVec 32) (k0_hw13 : k0_chk13 v21 v177 v186), ∀ (k0_h9 : k0_cond9 v21 = 1#1), ∀ (k0_h17 : k0_cond17 v186 = 1#1), (Rect.unit (s := S256x16x768) (k0_off83 v177) S1x16x768.size (k0_off83_inb v21 v177 v186 k0_hw13 k0_h9 k0_h17)).WholeWords (EltTy.packing .bf16) := fun v21 v177 v186 k0_hw13 k0_h9 k0_h17 => k0_hw13.2.2.2.2.2.2.2.2.2.2.2.2.2.2.2.2.2.2.2.2.2.2.2.2.2.2.2.2.2.2.2 k0_h9 k0_h17 (k0_off83_inb v21 v177 v186 k0_hw13 k0_h9 k0_h17)

def k0_off84 : Fin 1 → Nat :=
  let c1_i32_103 : BitVec 32 := 1#32
  let c4_i32_104 : BitVec 32 := 4#32
  let v178 : BitVec 32 := Scalar.remsi c1_i32_103 c4_i32_104
  ![v178.toNat]
def k0_off85 : Fin 3 → Nat :=
  let c1_i32_103 : BitVec 32 := 1#32
  let c4_i32_104 : BitVec 32 := 4#32
  let v178 : BitVec 32 := Scalar.remsi c1_i32_103 c4_i32_104
  let c0_i32_141 : BitVec 32 := 0#32
  let c0_i32_142 : BitVec 32 := 0#32
  ![v178.toNat, 0, 0]
def k0_off86 (v177 : BitVec 32) : Fin 3 → Nat :=
  let c0_i32_143 : BitVec 32 := 0#32
  let c0_i32_144 : BitVec 32 := 0#32
  ![v177.toNat, 0, 0]

def k0_chk12 (v21 : BitVec 32) (v177 : BitVec 32) : Prop :=
  (∀ (k0_h9 : k0_cond9 v21 = 1#1), ∀ a, (k0_off42 v177) a + S1x5120x768.size a ≤ S32x5120x768.size a) ∧
  (∀ (k0_h9 : k0_cond9 v21 = 1#1), ∀ (hinb : ∀ a, (k0_off42 v177) a + S1x5120x768.size a ≤ S32x5120x768.size a), (Rect.unit (s := S32x5120x768) (k0_off42 v177) S1x5120x768.size hinb).WholeWords (EltTy.packing .fp8e4m3)) ∧
  (∀ (k0_h9 : k0_cond9 v21 = 1#1), ∀ a, (k0_off43 v177) a + S1.size a ≤ S32.size a) ∧
  (∀ (k0_h9 : k0_cond9 v21 = 1#1), ∀ a, (k0_off86 v177) a + S1x768x5120.size a ≤ S32x768x5120.size a) ∧
  (∀ (k0_h9 : k0_cond9 v21 = 1#1), ∀ (hinb : ∀ a, (k0_off86 v177) a + S1x768x5120.size a ≤ S32x768x5120.size a), (Rect.unit (s := S32x768x5120) (k0_off86 v177) S1x768x5120.size hinb).WholeWords (EltTy.packing .fp8e4m3))
theorem k0_off42_inb : ∀ (v21 : BitVec 32) (v177 : BitVec 32) (k0_hw12 : k0_chk12 v21 v177), ∀ (k0_h9 : k0_cond9 v21 = 1#1), ∀ a, (k0_off42 v177) a + S1x5120x768.size a ≤ S32x5120x768.size a := fun v21 v177 k0_hw12 k0_h9 => k0_hw12.1 k0_h9
theorem k0_off42_wordsfp8e4m3 : ∀ (v21 : BitVec 32) (v177 : BitVec 32) (k0_hw12 : k0_chk12 v21 v177), ∀ (k0_h9 : k0_cond9 v21 = 1#1), (Rect.unit (s := S32x5120x768) (k0_off42 v177) S1x5120x768.size (k0_off42_inb v21 v177 k0_hw12 k0_h9)).WholeWords (EltTy.packing .fp8e4m3) := fun v21 v177 k0_hw12 k0_h9 => k0_hw12.2.1 k0_h9 (k0_off42_inb v21 v177 k0_hw12 k0_h9)
theorem k0_off43_inb : ∀ (v21 : BitVec 32) (v177 : BitVec 32) (k0_hw12 : k0_chk12 v21 v177), ∀ (k0_h9 : k0_cond9 v21 = 1#1), ∀ a, (k0_off43 v177) a + S1.size a ≤ S32.size a := fun v21 v177 k0_hw12 k0_h9 => k0_hw12.2.2.1 k0_h9
theorem k0_off86_inb : ∀ (v21 : BitVec 32) (v177 : BitVec 32) (k0_hw12 : k0_chk12 v21 v177), ∀ (k0_h9 : k0_cond9 v21 = 1#1), ∀ a, (k0_off86 v177) a + S1x768x5120.size a ≤ S32x768x5120.size a := fun v21 v177 k0_hw12 k0_h9 => k0_hw12.2.2.2.1 k0_h9
theorem k0_off86_wordsfp8e4m3 : ∀ (v21 : BitVec 32) (v177 : BitVec 32) (k0_hw12 : k0_chk12 v21 v177), ∀ (k0_h9 : k0_cond9 v21 = 1#1), (Rect.unit (s := S32x768x5120) (k0_off86 v177) S1x768x5120.size (k0_off86_inb v21 v177 k0_hw12 k0_h9)).WholeWords (EltTy.packing .fp8e4m3) := fun v21 v177 k0_hw12 k0_h9 => k0_hw12.2.2.2.2 k0_h9 (k0_off86_inb v21 v177 k0_hw12 k0_h9)

def k0_off87 : Fin 1 → Nat :=
  let c2_i32_103 : BitVec 32 := 2#32
  let c4_i32_104 : BitVec 32 := 4#32
  let v178 : BitVec 32 := Scalar.remsi c2_i32_103 c4_i32_104
  ![v178.toNat]
def k0_off88 : Fin 3 → Nat :=
  let c2_i32_103 : BitVec 32 := 2#32
  let c4_i32_104 : BitVec 32 := 4#32
  let v178 : BitVec 32 := Scalar.remsi c2_i32_103 c4_i32_104
  let c0_i32_105 : BitVec 32 := 0#32
  let c0_i32_106 : BitVec 32 := 0#32
  ![v178.toNat, 0, 0]
def k0_off89 (v177 : BitVec 32) : Fin 3 → Nat :=
  let c0_i32_107 : BitVec 32 := 0#32
  let c0_i32_108 : BitVec 32 := 0#32
  ![v177.toNat, 0, 0]
def k0_cond18 (v21 : BitVec 32) : BitVec 1 :=
  let c2_i32_55 : BitVec 32 := 2#32
  let v67 : BitVec 1 := Scalar.cmpi .sgt v21 c2_i32_55
  let v68 : BitVec 32 := Scalar.extui v67
  let c0_i32_56 : BitVec 32 := 0#32
  let v69 : BitVec 1 := Scalar.cmpi .ne v68 c0_i32_56
  v69

def k0_off90 (v177 : BitVec 32) : Fin 1 → Nat :=
  let v185 : Index := Scalar.indexCast v177
  ![v185.toNat]
def k0_off91 : Fin 1 → Nat :=
  let c2_i32_103 : BitVec 32 := 2#32
  let c4_i32_104 : BitVec 32 := 4#32
  let v178 : BitVec 32 := Scalar.remsi c2_i32_103 c4_i32_104
  ![v178.toNat]
def k0_off92 : Fin 4 → Nat :=
  let c2_i32_103 : BitVec 32 := 2#32
  let c4_i32_104 : BitVec 32 := 4#32
  let v178 : BitVec 32 := Scalar.remsi c2_i32_103 c4_i32_104
  let c0_i32_147 : BitVec 32 := 0#32
  let c0_i32_148 : BitVec 32 := 0#32
  let c0_i32_149 : BitVec 32 := 0#32
  ![v178.toNat, 0, 0, 0]
def k0_off93 (v177 : BitVec 32) : Fin 3 → Nat :=
  let c8_i32_145 : BitVec 32 := 8#32
  let v233 : BitVec 32 := Scalar.muli v177 c8_i32_145
  let c0_i32_146 : BitVec 32 := 0#32
  let v234 : BitVec 32 := Scalar.addi v233 c0_i32_146
  let c0_i32_150 : BitVec 32 := 0#32
  let c0_i32_151 : BitVec 32 := 0#32
  ![v234.toNat, 0, 0]
def k0_cond19 (v186 : BitVec 32) : BitVec 1 :=
  let c1_i32_109 : BitVec 32 := 1#32
  let v187 : BitVec 32 := Scalar.shrsi v186 c1_i32_109
  let c1_i32_110 : BitVec 32 := 1#32
  let v188 : BitVec 32 := Scalar.andi v187 c1_i32_110
  let c1_i32_111 : BitVec 32 := 1#32
  let v189 : BitVec 1 := Scalar.cmpi .eq v188 c1_i32_111
  let v190 : BitVec 32 := Scalar.extui v189
  let c0_i32_112 : BitVec 32 := 0#32
  let v191 : BitVec 1 := Scalar.cmpi .ne v190 c0_i32_112
  v191

def k0_off94 : Fin 4 → Nat :=
  let c2_i32_103 : BitVec 32 := 2#32
  let c4_i32_104 : BitVec 32 := 4#32
  let v178 : BitVec 32 := Scalar.remsi c2_i32_103 c4_i32_104
  let c0_i32_152 : BitVec 32 := 0#32
  let c0_i32_153 : BitVec 32 := 0#32
  let c0_i32_154 : BitVec 32 := 0#32
  ![v178.toNat, 0, 0, 0]
def k0_off95 (v177 : BitVec 32) : Fin 3 → Nat :=
  let c8_i32_145 : BitVec 32 := 8#32
  let v233 : BitVec 32 := Scalar.muli v177 c8_i32_145
  let c0_i32_146 : BitVec 32 := 0#32
  let v234 : BitVec 32 := Scalar.addi v233 c0_i32_146
  let c0_i32_155 : BitVec 32 := 0#32
  let c0_i32_156 : BitVec 32 := 0#32
  ![v234.toNat, 0, 0]
def k0_off96 : Fin 1 → Nat :=
  let c2_i32_103 : BitVec 32 := 2#32
  let c4_i32_104 : BitVec 32 := 4#32
  let v178 : BitVec 32 := Scalar.remsi c2_i32_103 c4_i32_104
  ![v178.toNat]
def k0_off97 : Fin 4 → Nat :=
  let c2_i32_103 : BitVec 32 := 2#32
  let c4_i32_104 : BitVec 32 := 4#32
  let v178 : BitVec 32 := Scalar.remsi c2_i32_103 c4_i32_104
  let c1_i32_147 : BitVec 32 := 1#32
  let c0_i32_148 : BitVec 32 := 0#32
  let c0_i32_149 : BitVec 32 := 0#32
  ![v178.toNat, 1, 0, 0]
def k0_off98 (v177 : BitVec 32) : Fin 3 → Nat :=
  let c8_i32_145 : BitVec 32 := 8#32
  let v233 : BitVec 32 := Scalar.muli v177 c8_i32_145
  let c1_i32_146 : BitVec 32 := 1#32
  let v234 : BitVec 32 := Scalar.addi v233 c1_i32_146
  let c0_i32_150 : BitVec 32 := 0#32
  let c0_i32_151 : BitVec 32 := 0#32
  ![v234.toNat, 0, 0]
def k0_cond20 (v186 : BitVec 32) : BitVec 1 :=
  let c2_i32_113 : BitVec 32 := 2#32
  let v192 : BitVec 32 := Scalar.shrsi v186 c2_i32_113
  let c1_i32_114 : BitVec 32 := 1#32
  let v193 : BitVec 32 := Scalar.andi v192 c1_i32_114
  let c1_i32_115 : BitVec 32 := 1#32
  let v194 : BitVec 1 := Scalar.cmpi .eq v193 c1_i32_115
  let v195 : BitVec 32 := Scalar.extui v194
  let c0_i32_116 : BitVec 32 := 0#32
  let v196 : BitVec 1 := Scalar.cmpi .ne v195 c0_i32_116
  v196

def k0_off99 : Fin 4 → Nat :=
  let c2_i32_103 : BitVec 32 := 2#32
  let c4_i32_104 : BitVec 32 := 4#32
  let v178 : BitVec 32 := Scalar.remsi c2_i32_103 c4_i32_104
  let c1_i32_152 : BitVec 32 := 1#32
  let c0_i32_153 : BitVec 32 := 0#32
  let c0_i32_154 : BitVec 32 := 0#32
  ![v178.toNat, 1, 0, 0]
def k0_off100 (v177 : BitVec 32) : Fin 3 → Nat :=
  let c8_i32_145 : BitVec 32 := 8#32
  let v233 : BitVec 32 := Scalar.muli v177 c8_i32_145
  let c1_i32_146 : BitVec 32 := 1#32
  let v234 : BitVec 32 := Scalar.addi v233 c1_i32_146
  let c0_i32_155 : BitVec 32 := 0#32
  let c0_i32_156 : BitVec 32 := 0#32
  ![v234.toNat, 0, 0]
def k0_off101 : Fin 1 → Nat :=
  let c2_i32_103 : BitVec 32 := 2#32
  let c4_i32_104 : BitVec 32 := 4#32
  let v178 : BitVec 32 := Scalar.remsi c2_i32_103 c4_i32_104
  ![v178.toNat]
def k0_off102 : Fin 4 → Nat :=
  let c2_i32_103 : BitVec 32 := 2#32
  let c4_i32_104 : BitVec 32 := 4#32
  let v178 : BitVec 32 := Scalar.remsi c2_i32_103 c4_i32_104
  let c2_i32_147 : BitVec 32 := 2#32
  let c0_i32_148 : BitVec 32 := 0#32
  let c0_i32_149 : BitVec 32 := 0#32
  ![v178.toNat, 2, 0, 0]
def k0_off103 (v177 : BitVec 32) : Fin 3 → Nat :=
  let c8_i32_145 : BitVec 32 := 8#32
  let v233 : BitVec 32 := Scalar.muli v177 c8_i32_145
  let c2_i32_146 : BitVec 32 := 2#32
  let v234 : BitVec 32 := Scalar.addi v233 c2_i32_146
  let c0_i32_150 : BitVec 32 := 0#32
  let c0_i32_151 : BitVec 32 := 0#32
  ![v234.toNat, 0, 0]
def k0_cond21 (v186 : BitVec 32) : BitVec 1 :=
  let c3_i32_117 : BitVec 32 := 3#32
  let v197 : BitVec 32 := Scalar.shrsi v186 c3_i32_117
  let c1_i32_118 : BitVec 32 := 1#32
  let v198 : BitVec 32 := Scalar.andi v197 c1_i32_118
  let c1_i32_119 : BitVec 32 := 1#32
  let v199 : BitVec 1 := Scalar.cmpi .eq v198 c1_i32_119
  let v200 : BitVec 32 := Scalar.extui v199
  let c0_i32_120 : BitVec 32 := 0#32
  let v201 : BitVec 1 := Scalar.cmpi .ne v200 c0_i32_120
  v201

def k0_off104 : Fin 4 → Nat :=
  let c2_i32_103 : BitVec 32 := 2#32
  let c4_i32_104 : BitVec 32 := 4#32
  let v178 : BitVec 32 := Scalar.remsi c2_i32_103 c4_i32_104
  let c2_i32_152 : BitVec 32 := 2#32
  let c0_i32_153 : BitVec 32 := 0#32
  let c0_i32_154 : BitVec 32 := 0#32
  ![v178.toNat, 2, 0, 0]
def k0_off105 (v177 : BitVec 32) : Fin 3 → Nat :=
  let c8_i32_145 : BitVec 32 := 8#32
  let v233 : BitVec 32 := Scalar.muli v177 c8_i32_145
  let c2_i32_146 : BitVec 32 := 2#32
  let v234 : BitVec 32 := Scalar.addi v233 c2_i32_146
  let c0_i32_155 : BitVec 32 := 0#32
  let c0_i32_156 : BitVec 32 := 0#32
  ![v234.toNat, 0, 0]
def k0_off106 : Fin 1 → Nat :=
  let c2_i32_103 : BitVec 32 := 2#32
  let c4_i32_104 : BitVec 32 := 4#32
  let v178 : BitVec 32 := Scalar.remsi c2_i32_103 c4_i32_104
  ![v178.toNat]
def k0_off107 : Fin 4 → Nat :=
  let c2_i32_103 : BitVec 32 := 2#32
  let c4_i32_104 : BitVec 32 := 4#32
  let v178 : BitVec 32 := Scalar.remsi c2_i32_103 c4_i32_104
  let c3_i32_147 : BitVec 32 := 3#32
  let c0_i32_148 : BitVec 32 := 0#32
  let c0_i32_149 : BitVec 32 := 0#32
  ![v178.toNat, 3, 0, 0]
def k0_off108 (v177 : BitVec 32) : Fin 3 → Nat :=
  let c8_i32_145 : BitVec 32 := 8#32
  let v233 : BitVec 32 := Scalar.muli v177 c8_i32_145
  let c3_i32_146 : BitVec 32 := 3#32
  let v234 : BitVec 32 := Scalar.addi v233 c3_i32_146
  let c0_i32_150 : BitVec 32 := 0#32
  let c0_i32_151 : BitVec 32 := 0#32
  ![v234.toNat, 0, 0]
def k0_cond22 (v186 : BitVec 32) : BitVec 1 :=
  let c4_i32_121 : BitVec 32 := 4#32
  let v202 : BitVec 32 := Scalar.shrsi v186 c4_i32_121
  let c1_i32_122 : BitVec 32 := 1#32
  let v203 : BitVec 32 := Scalar.andi v202 c1_i32_122
  let c1_i32_123 : BitVec 32 := 1#32
  let v204 : BitVec 1 := Scalar.cmpi .eq v203 c1_i32_123
  let v205 : BitVec 32 := Scalar.extui v204
  let c0_i32_124 : BitVec 32 := 0#32
  let v206 : BitVec 1 := Scalar.cmpi .ne v205 c0_i32_124
  v206

def k0_off109 : Fin 4 → Nat :=
  let c2_i32_103 : BitVec 32 := 2#32
  let c4_i32_104 : BitVec 32 := 4#32
  let v178 : BitVec 32 := Scalar.remsi c2_i32_103 c4_i32_104
  let c3_i32_152 : BitVec 32 := 3#32
  let c0_i32_153 : BitVec 32 := 0#32
  let c0_i32_154 : BitVec 32 := 0#32
  ![v178.toNat, 3, 0, 0]
def k0_off110 (v177 : BitVec 32) : Fin 3 → Nat :=
  let c8_i32_145 : BitVec 32 := 8#32
  let v233 : BitVec 32 := Scalar.muli v177 c8_i32_145
  let c3_i32_146 : BitVec 32 := 3#32
  let v234 : BitVec 32 := Scalar.addi v233 c3_i32_146
  let c0_i32_155 : BitVec 32 := 0#32
  let c0_i32_156 : BitVec 32 := 0#32
  ![v234.toNat, 0, 0]
def k0_off111 : Fin 1 → Nat :=
  let c2_i32_103 : BitVec 32 := 2#32
  let c4_i32_104 : BitVec 32 := 4#32
  let v178 : BitVec 32 := Scalar.remsi c2_i32_103 c4_i32_104
  ![v178.toNat]
def k0_off112 : Fin 4 → Nat :=
  let c2_i32_103 : BitVec 32 := 2#32
  let c4_i32_104 : BitVec 32 := 4#32
  let v178 : BitVec 32 := Scalar.remsi c2_i32_103 c4_i32_104
  let c4_i32_147 : BitVec 32 := 4#32
  let c0_i32_148 : BitVec 32 := 0#32
  let c0_i32_149 : BitVec 32 := 0#32
  ![v178.toNat, 4, 0, 0]
def k0_off113 (v177 : BitVec 32) : Fin 3 → Nat :=
  let c8_i32_145 : BitVec 32 := 8#32
  let v233 : BitVec 32 := Scalar.muli v177 c8_i32_145
  let c4_i32_146 : BitVec 32 := 4#32
  let v234 : BitVec 32 := Scalar.addi v233 c4_i32_146
  let c0_i32_150 : BitVec 32 := 0#32
  let c0_i32_151 : BitVec 32 := 0#32
  ![v234.toNat, 0, 0]
def k0_cond23 (v186 : BitVec 32) : BitVec 1 :=
  let c5_i32_125 : BitVec 32 := 5#32
  let v207 : BitVec 32 := Scalar.shrsi v186 c5_i32_125
  let c1_i32_126 : BitVec 32 := 1#32
  let v208 : BitVec 32 := Scalar.andi v207 c1_i32_126
  let c1_i32_127 : BitVec 32 := 1#32
  let v209 : BitVec 1 := Scalar.cmpi .eq v208 c1_i32_127
  let v210 : BitVec 32 := Scalar.extui v209
  let c0_i32_128 : BitVec 32 := 0#32
  let v211 : BitVec 1 := Scalar.cmpi .ne v210 c0_i32_128
  v211

def k0_off114 : Fin 4 → Nat :=
  let c2_i32_103 : BitVec 32 := 2#32
  let c4_i32_104 : BitVec 32 := 4#32
  let v178 : BitVec 32 := Scalar.remsi c2_i32_103 c4_i32_104
  let c4_i32_152 : BitVec 32 := 4#32
  let c0_i32_153 : BitVec 32 := 0#32
  let c0_i32_154 : BitVec 32 := 0#32
  ![v178.toNat, 4, 0, 0]
def k0_off115 (v177 : BitVec 32) : Fin 3 → Nat :=
  let c8_i32_145 : BitVec 32 := 8#32
  let v233 : BitVec 32 := Scalar.muli v177 c8_i32_145
  let c4_i32_146 : BitVec 32 := 4#32
  let v234 : BitVec 32 := Scalar.addi v233 c4_i32_146
  let c0_i32_155 : BitVec 32 := 0#32
  let c0_i32_156 : BitVec 32 := 0#32
  ![v234.toNat, 0, 0]
def k0_off116 : Fin 1 → Nat :=
  let c2_i32_103 : BitVec 32 := 2#32
  let c4_i32_104 : BitVec 32 := 4#32
  let v178 : BitVec 32 := Scalar.remsi c2_i32_103 c4_i32_104
  ![v178.toNat]
def k0_off117 : Fin 4 → Nat :=
  let c2_i32_103 : BitVec 32 := 2#32
  let c4_i32_104 : BitVec 32 := 4#32
  let v178 : BitVec 32 := Scalar.remsi c2_i32_103 c4_i32_104
  let c5_i32_147 : BitVec 32 := 5#32
  let c0_i32_148 : BitVec 32 := 0#32
  let c0_i32_149 : BitVec 32 := 0#32
  ![v178.toNat, 5, 0, 0]
def k0_off118 (v177 : BitVec 32) : Fin 3 → Nat :=
  let c8_i32_145 : BitVec 32 := 8#32
  let v233 : BitVec 32 := Scalar.muli v177 c8_i32_145
  let c5_i32_146 : BitVec 32 := 5#32
  let v234 : BitVec 32 := Scalar.addi v233 c5_i32_146
  let c0_i32_150 : BitVec 32 := 0#32
  let c0_i32_151 : BitVec 32 := 0#32
  ![v234.toNat, 0, 0]
def k0_cond24 (v186 : BitVec 32) : BitVec 1 :=
  let c6_i32_129 : BitVec 32 := 6#32
  let v212 : BitVec 32 := Scalar.shrsi v186 c6_i32_129
  let c1_i32_130 : BitVec 32 := 1#32
  let v213 : BitVec 32 := Scalar.andi v212 c1_i32_130
  let c1_i32_131 : BitVec 32 := 1#32
  let v214 : BitVec 1 := Scalar.cmpi .eq v213 c1_i32_131
  let v215 : BitVec 32 := Scalar.extui v214
  let c0_i32_132 : BitVec 32 := 0#32
  let v216 : BitVec 1 := Scalar.cmpi .ne v215 c0_i32_132
  v216

def k0_off119 : Fin 4 → Nat :=
  let c2_i32_103 : BitVec 32 := 2#32
  let c4_i32_104 : BitVec 32 := 4#32
  let v178 : BitVec 32 := Scalar.remsi c2_i32_103 c4_i32_104
  let c5_i32_152 : BitVec 32 := 5#32
  let c0_i32_153 : BitVec 32 := 0#32
  let c0_i32_154 : BitVec 32 := 0#32
  ![v178.toNat, 5, 0, 0]
def k0_off120 (v177 : BitVec 32) : Fin 3 → Nat :=
  let c8_i32_145 : BitVec 32 := 8#32
  let v233 : BitVec 32 := Scalar.muli v177 c8_i32_145
  let c5_i32_146 : BitVec 32 := 5#32
  let v234 : BitVec 32 := Scalar.addi v233 c5_i32_146
  let c0_i32_155 : BitVec 32 := 0#32
  let c0_i32_156 : BitVec 32 := 0#32
  ![v234.toNat, 0, 0]
def k0_off121 : Fin 1 → Nat :=
  let c2_i32_103 : BitVec 32 := 2#32
  let c4_i32_104 : BitVec 32 := 4#32
  let v178 : BitVec 32 := Scalar.remsi c2_i32_103 c4_i32_104
  ![v178.toNat]
def k0_off122 : Fin 4 → Nat :=
  let c2_i32_103 : BitVec 32 := 2#32
  let c4_i32_104 : BitVec 32 := 4#32
  let v178 : BitVec 32 := Scalar.remsi c2_i32_103 c4_i32_104
  let c6_i32_147 : BitVec 32 := 6#32
  let c0_i32_148 : BitVec 32 := 0#32
  let c0_i32_149 : BitVec 32 := 0#32
  ![v178.toNat, 6, 0, 0]
def k0_off123 (v177 : BitVec 32) : Fin 3 → Nat :=
  let c8_i32_145 : BitVec 32 := 8#32
  let v233 : BitVec 32 := Scalar.muli v177 c8_i32_145
  let c6_i32_146 : BitVec 32 := 6#32
  let v234 : BitVec 32 := Scalar.addi v233 c6_i32_146
  let c0_i32_150 : BitVec 32 := 0#32
  let c0_i32_151 : BitVec 32 := 0#32
  ![v234.toNat, 0, 0]
def k0_cond25 (v186 : BitVec 32) : BitVec 1 :=
  let c7_i32_133 : BitVec 32 := 7#32
  let v217 : BitVec 32 := Scalar.shrsi v186 c7_i32_133
  let c1_i32_134 : BitVec 32 := 1#32
  let v218 : BitVec 32 := Scalar.andi v217 c1_i32_134
  let c1_i32_135 : BitVec 32 := 1#32
  let v219 : BitVec 1 := Scalar.cmpi .eq v218 c1_i32_135
  let v220 : BitVec 32 := Scalar.extui v219
  let c0_i32_136 : BitVec 32 := 0#32
  let v221 : BitVec 1 := Scalar.cmpi .ne v220 c0_i32_136
  v221

def k0_off124 : Fin 4 → Nat :=
  let c2_i32_103 : BitVec 32 := 2#32
  let c4_i32_104 : BitVec 32 := 4#32
  let v178 : BitVec 32 := Scalar.remsi c2_i32_103 c4_i32_104
  let c6_i32_152 : BitVec 32 := 6#32
  let c0_i32_153 : BitVec 32 := 0#32
  let c0_i32_154 : BitVec 32 := 0#32
  ![v178.toNat, 6, 0, 0]
def k0_off125 (v177 : BitVec 32) : Fin 3 → Nat :=
  let c8_i32_145 : BitVec 32 := 8#32
  let v233 : BitVec 32 := Scalar.muli v177 c8_i32_145
  let c6_i32_146 : BitVec 32 := 6#32
  let v234 : BitVec 32 := Scalar.addi v233 c6_i32_146
  let c0_i32_155 : BitVec 32 := 0#32
  let c0_i32_156 : BitVec 32 := 0#32
  ![v234.toNat, 0, 0]
def k0_off126 : Fin 1 → Nat :=
  let c2_i32_103 : BitVec 32 := 2#32
  let c4_i32_104 : BitVec 32 := 4#32
  let v178 : BitVec 32 := Scalar.remsi c2_i32_103 c4_i32_104
  ![v178.toNat]
def k0_off127 : Fin 4 → Nat :=
  let c2_i32_103 : BitVec 32 := 2#32
  let c4_i32_104 : BitVec 32 := 4#32
  let v178 : BitVec 32 := Scalar.remsi c2_i32_103 c4_i32_104
  let c7_i32_147 : BitVec 32 := 7#32
  let c0_i32_148 : BitVec 32 := 0#32
  let c0_i32_149 : BitVec 32 := 0#32
  ![v178.toNat, 7, 0, 0]
def k0_off128 (v177 : BitVec 32) : Fin 3 → Nat :=
  let c8_i32_145 : BitVec 32 := 8#32
  let v233 : BitVec 32 := Scalar.muli v177 c8_i32_145
  let c7_i32_146 : BitVec 32 := 7#32
  let v234 : BitVec 32 := Scalar.addi v233 c7_i32_146
  let c0_i32_150 : BitVec 32 := 0#32
  let c0_i32_151 : BitVec 32 := 0#32
  ![v234.toNat, 0, 0]
def k0_cond26 (v186 : BitVec 32) : BitVec 1 :=
  let c8_i32_137 : BitVec 32 := 8#32
  let v222 : BitVec 32 := Scalar.shrsi v186 c8_i32_137
  let c1_i32_138 : BitVec 32 := 1#32
  let v223 : BitVec 32 := Scalar.andi v222 c1_i32_138
  let c1_i32_139 : BitVec 32 := 1#32
  let v224 : BitVec 1 := Scalar.cmpi .eq v223 c1_i32_139
  let v225 : BitVec 32 := Scalar.extui v224
  let c0_i32_140 : BitVec 32 := 0#32
  let v226 : BitVec 1 := Scalar.cmpi .ne v225 c0_i32_140
  v226

def k0_off129 : Fin 4 → Nat :=
  let c2_i32_103 : BitVec 32 := 2#32
  let c4_i32_104 : BitVec 32 := 4#32
  let v178 : BitVec 32 := Scalar.remsi c2_i32_103 c4_i32_104
  let c7_i32_152 : BitVec 32 := 7#32
  let c0_i32_153 : BitVec 32 := 0#32
  let c0_i32_154 : BitVec 32 := 0#32
  ![v178.toNat, 7, 0, 0]
def k0_off130 (v177 : BitVec 32) : Fin 3 → Nat :=
  let c8_i32_145 : BitVec 32 := 8#32
  let v233 : BitVec 32 := Scalar.muli v177 c8_i32_145
  let c7_i32_146 : BitVec 32 := 7#32
  let v234 : BitVec 32 := Scalar.addi v233 c7_i32_146
  let c0_i32_155 : BitVec 32 := 0#32
  let c0_i32_156 : BitVec 32 := 0#32
  ![v234.toNat, 0, 0]

def k0_chk15 (v21 : BitVec 32) (v177 : BitVec 32) (v186 : BitVec 32) : Prop :=
  (∀ (k0_h18 : k0_cond18 v21 = 1#1), ∀ (k0_h19 : k0_cond19 v186 = 1#1), ∀ a, (k0_off93 v177) a + S1x16x5120.size a ≤ S256x16x5120.size a) ∧
  (∀ (k0_h18 : k0_cond18 v21 = 1#1), ∀ (k0_h19 : k0_cond19 v186 = 1#1), ∀ (hinb : ∀ a, (k0_off93 v177) a + S1x16x5120.size a ≤ S256x16x5120.size a), (Rect.unit (s := S256x16x5120) (k0_off93 v177) S1x16x5120.size hinb).WholeWords (EltTy.packing .bf16)) ∧
  (∀ (k0_h18 : k0_cond18 v21 = 1#1), ∀ (k0_h19 : k0_cond19 v186 = 1#1), ∀ a, (k0_off95 v177) a + S1x16x768.size a ≤ S256x16x768.size a) ∧
  (∀ (k0_h18 : k0_cond18 v21 = 1#1), ∀ (k0_h19 : k0_cond19 v186 = 1#1), ∀ (hinb : ∀ a, (k0_off95 v177) a + S1x16x768.size a ≤ S256x16x768.size a), (Rect.unit (s := S256x16x768) (k0_off95 v177) S1x16x768.size hinb).WholeWords (EltTy.packing .bf16)) ∧
  (∀ (k0_h18 : k0_cond18 v21 = 1#1), ∀ (k0_h20 : k0_cond20 v186 = 1#1), ∀ a, (k0_off98 v177) a + S1x16x5120.size a ≤ S256x16x5120.size a) ∧
  (∀ (k0_h18 : k0_cond18 v21 = 1#1), ∀ (k0_h20 : k0_cond20 v186 = 1#1), ∀ (hinb : ∀ a, (k0_off98 v177) a + S1x16x5120.size a ≤ S256x16x5120.size a), (Rect.unit (s := S256x16x5120) (k0_off98 v177) S1x16x5120.size hinb).WholeWords (EltTy.packing .bf16)) ∧
  (∀ (k0_h18 : k0_cond18 v21 = 1#1), ∀ (k0_h20 : k0_cond20 v186 = 1#1), ∀ a, (k0_off100 v177) a + S1x16x768.size a ≤ S256x16x768.size a) ∧
  (∀ (k0_h18 : k0_cond18 v21 = 1#1), ∀ (k0_h20 : k0_cond20 v186 = 1#1), ∀ (hinb : ∀ a, (k0_off100 v177) a + S1x16x768.size a ≤ S256x16x768.size a), (Rect.unit (s := S256x16x768) (k0_off100 v177) S1x16x768.size hinb).WholeWords (EltTy.packing .bf16)) ∧
  (∀ (k0_h18 : k0_cond18 v21 = 1#1), ∀ (k0_h21 : k0_cond21 v186 = 1#1), ∀ a, (k0_off103 v177) a + S1x16x5120.size a ≤ S256x16x5120.size a) ∧
  (∀ (k0_h18 : k0_cond18 v21 = 1#1), ∀ (k0_h21 : k0_cond21 v186 = 1#1), ∀ (hinb : ∀ a, (k0_off103 v177) a + S1x16x5120.size a ≤ S256x16x5120.size a), (Rect.unit (s := S256x16x5120) (k0_off103 v177) S1x16x5120.size hinb).WholeWords (EltTy.packing .bf16)) ∧
  (∀ (k0_h18 : k0_cond18 v21 = 1#1), ∀ (k0_h21 : k0_cond21 v186 = 1#1), ∀ a, (k0_off105 v177) a + S1x16x768.size a ≤ S256x16x768.size a) ∧
  (∀ (k0_h18 : k0_cond18 v21 = 1#1), ∀ (k0_h21 : k0_cond21 v186 = 1#1), ∀ (hinb : ∀ a, (k0_off105 v177) a + S1x16x768.size a ≤ S256x16x768.size a), (Rect.unit (s := S256x16x768) (k0_off105 v177) S1x16x768.size hinb).WholeWords (EltTy.packing .bf16)) ∧
  (∀ (k0_h18 : k0_cond18 v21 = 1#1), ∀ (k0_h22 : k0_cond22 v186 = 1#1), ∀ a, (k0_off108 v177) a + S1x16x5120.size a ≤ S256x16x5120.size a) ∧
  (∀ (k0_h18 : k0_cond18 v21 = 1#1), ∀ (k0_h22 : k0_cond22 v186 = 1#1), ∀ (hinb : ∀ a, (k0_off108 v177) a + S1x16x5120.size a ≤ S256x16x5120.size a), (Rect.unit (s := S256x16x5120) (k0_off108 v177) S1x16x5120.size hinb).WholeWords (EltTy.packing .bf16)) ∧
  (∀ (k0_h18 : k0_cond18 v21 = 1#1), ∀ (k0_h22 : k0_cond22 v186 = 1#1), ∀ a, (k0_off110 v177) a + S1x16x768.size a ≤ S256x16x768.size a) ∧
  (∀ (k0_h18 : k0_cond18 v21 = 1#1), ∀ (k0_h22 : k0_cond22 v186 = 1#1), ∀ (hinb : ∀ a, (k0_off110 v177) a + S1x16x768.size a ≤ S256x16x768.size a), (Rect.unit (s := S256x16x768) (k0_off110 v177) S1x16x768.size hinb).WholeWords (EltTy.packing .bf16)) ∧
  (∀ (k0_h18 : k0_cond18 v21 = 1#1), ∀ (k0_h23 : k0_cond23 v186 = 1#1), ∀ a, (k0_off113 v177) a + S1x16x5120.size a ≤ S256x16x5120.size a) ∧
  (∀ (k0_h18 : k0_cond18 v21 = 1#1), ∀ (k0_h23 : k0_cond23 v186 = 1#1), ∀ (hinb : ∀ a, (k0_off113 v177) a + S1x16x5120.size a ≤ S256x16x5120.size a), (Rect.unit (s := S256x16x5120) (k0_off113 v177) S1x16x5120.size hinb).WholeWords (EltTy.packing .bf16)) ∧
  (∀ (k0_h18 : k0_cond18 v21 = 1#1), ∀ (k0_h23 : k0_cond23 v186 = 1#1), ∀ a, (k0_off115 v177) a + S1x16x768.size a ≤ S256x16x768.size a) ∧
  (∀ (k0_h18 : k0_cond18 v21 = 1#1), ∀ (k0_h23 : k0_cond23 v186 = 1#1), ∀ (hinb : ∀ a, (k0_off115 v177) a + S1x16x768.size a ≤ S256x16x768.size a), (Rect.unit (s := S256x16x768) (k0_off115 v177) S1x16x768.size hinb).WholeWords (EltTy.packing .bf16)) ∧
  (∀ (k0_h18 : k0_cond18 v21 = 1#1), ∀ (k0_h24 : k0_cond24 v186 = 1#1), ∀ a, (k0_off118 v177) a + S1x16x5120.size a ≤ S256x16x5120.size a) ∧
  (∀ (k0_h18 : k0_cond18 v21 = 1#1), ∀ (k0_h24 : k0_cond24 v186 = 1#1), ∀ (hinb : ∀ a, (k0_off118 v177) a + S1x16x5120.size a ≤ S256x16x5120.size a), (Rect.unit (s := S256x16x5120) (k0_off118 v177) S1x16x5120.size hinb).WholeWords (EltTy.packing .bf16)) ∧
  (∀ (k0_h18 : k0_cond18 v21 = 1#1), ∀ (k0_h24 : k0_cond24 v186 = 1#1), ∀ a, (k0_off120 v177) a + S1x16x768.size a ≤ S256x16x768.size a) ∧
  (∀ (k0_h18 : k0_cond18 v21 = 1#1), ∀ (k0_h24 : k0_cond24 v186 = 1#1), ∀ (hinb : ∀ a, (k0_off120 v177) a + S1x16x768.size a ≤ S256x16x768.size a), (Rect.unit (s := S256x16x768) (k0_off120 v177) S1x16x768.size hinb).WholeWords (EltTy.packing .bf16)) ∧
  (∀ (k0_h18 : k0_cond18 v21 = 1#1), ∀ (k0_h25 : k0_cond25 v186 = 1#1), ∀ a, (k0_off123 v177) a + S1x16x5120.size a ≤ S256x16x5120.size a) ∧
  (∀ (k0_h18 : k0_cond18 v21 = 1#1), ∀ (k0_h25 : k0_cond25 v186 = 1#1), ∀ (hinb : ∀ a, (k0_off123 v177) a + S1x16x5120.size a ≤ S256x16x5120.size a), (Rect.unit (s := S256x16x5120) (k0_off123 v177) S1x16x5120.size hinb).WholeWords (EltTy.packing .bf16)) ∧
  (∀ (k0_h18 : k0_cond18 v21 = 1#1), ∀ (k0_h25 : k0_cond25 v186 = 1#1), ∀ a, (k0_off125 v177) a + S1x16x768.size a ≤ S256x16x768.size a) ∧
  (∀ (k0_h18 : k0_cond18 v21 = 1#1), ∀ (k0_h25 : k0_cond25 v186 = 1#1), ∀ (hinb : ∀ a, (k0_off125 v177) a + S1x16x768.size a ≤ S256x16x768.size a), (Rect.unit (s := S256x16x768) (k0_off125 v177) S1x16x768.size hinb).WholeWords (EltTy.packing .bf16)) ∧
  (∀ (k0_h18 : k0_cond18 v21 = 1#1), ∀ (k0_h26 : k0_cond26 v186 = 1#1), ∀ a, (k0_off128 v177) a + S1x16x5120.size a ≤ S256x16x5120.size a) ∧
  (∀ (k0_h18 : k0_cond18 v21 = 1#1), ∀ (k0_h26 : k0_cond26 v186 = 1#1), ∀ (hinb : ∀ a, (k0_off128 v177) a + S1x16x5120.size a ≤ S256x16x5120.size a), (Rect.unit (s := S256x16x5120) (k0_off128 v177) S1x16x5120.size hinb).WholeWords (EltTy.packing .bf16)) ∧
  (∀ (k0_h18 : k0_cond18 v21 = 1#1), ∀ (k0_h26 : k0_cond26 v186 = 1#1), ∀ a, (k0_off130 v177) a + S1x16x768.size a ≤ S256x16x768.size a) ∧
  (∀ (k0_h18 : k0_cond18 v21 = 1#1), ∀ (k0_h26 : k0_cond26 v186 = 1#1), ∀ (hinb : ∀ a, (k0_off130 v177) a + S1x16x768.size a ≤ S256x16x768.size a), (Rect.unit (s := S256x16x768) (k0_off130 v177) S1x16x768.size hinb).WholeWords (EltTy.packing .bf16))
theorem k0_off93_inb : ∀ (v21 : BitVec 32) (v177 : BitVec 32) (v186 : BitVec 32) (k0_hw15 : k0_chk15 v21 v177 v186), ∀ (k0_h18 : k0_cond18 v21 = 1#1), ∀ (k0_h19 : k0_cond19 v186 = 1#1), ∀ a, (k0_off93 v177) a + S1x16x5120.size a ≤ S256x16x5120.size a := fun v21 v177 v186 k0_hw15 k0_h18 k0_h19 => k0_hw15.1 k0_h18 k0_h19
theorem k0_off93_wordsbf16 : ∀ (v21 : BitVec 32) (v177 : BitVec 32) (v186 : BitVec 32) (k0_hw15 : k0_chk15 v21 v177 v186), ∀ (k0_h18 : k0_cond18 v21 = 1#1), ∀ (k0_h19 : k0_cond19 v186 = 1#1), (Rect.unit (s := S256x16x5120) (k0_off93 v177) S1x16x5120.size (k0_off93_inb v21 v177 v186 k0_hw15 k0_h18 k0_h19)).WholeWords (EltTy.packing .bf16) := fun v21 v177 v186 k0_hw15 k0_h18 k0_h19 => k0_hw15.2.1 k0_h18 k0_h19 (k0_off93_inb v21 v177 v186 k0_hw15 k0_h18 k0_h19)
theorem k0_off95_inb : ∀ (v21 : BitVec 32) (v177 : BitVec 32) (v186 : BitVec 32) (k0_hw15 : k0_chk15 v21 v177 v186), ∀ (k0_h18 : k0_cond18 v21 = 1#1), ∀ (k0_h19 : k0_cond19 v186 = 1#1), ∀ a, (k0_off95 v177) a + S1x16x768.size a ≤ S256x16x768.size a := fun v21 v177 v186 k0_hw15 k0_h18 k0_h19 => k0_hw15.2.2.1 k0_h18 k0_h19
theorem k0_off95_wordsbf16 : ∀ (v21 : BitVec 32) (v177 : BitVec 32) (v186 : BitVec 32) (k0_hw15 : k0_chk15 v21 v177 v186), ∀ (k0_h18 : k0_cond18 v21 = 1#1), ∀ (k0_h19 : k0_cond19 v186 = 1#1), (Rect.unit (s := S256x16x768) (k0_off95 v177) S1x16x768.size (k0_off95_inb v21 v177 v186 k0_hw15 k0_h18 k0_h19)).WholeWords (EltTy.packing .bf16) := fun v21 v177 v186 k0_hw15 k0_h18 k0_h19 => k0_hw15.2.2.2.1 k0_h18 k0_h19 (k0_off95_inb v21 v177 v186 k0_hw15 k0_h18 k0_h19)
theorem k0_off98_inb : ∀ (v21 : BitVec 32) (v177 : BitVec 32) (v186 : BitVec 32) (k0_hw15 : k0_chk15 v21 v177 v186), ∀ (k0_h18 : k0_cond18 v21 = 1#1), ∀ (k0_h20 : k0_cond20 v186 = 1#1), ∀ a, (k0_off98 v177) a + S1x16x5120.size a ≤ S256x16x5120.size a := fun v21 v177 v186 k0_hw15 k0_h18 k0_h20 => k0_hw15.2.2.2.2.1 k0_h18 k0_h20
theorem k0_off98_wordsbf16 : ∀ (v21 : BitVec 32) (v177 : BitVec 32) (v186 : BitVec 32) (k0_hw15 : k0_chk15 v21 v177 v186), ∀ (k0_h18 : k0_cond18 v21 = 1#1), ∀ (k0_h20 : k0_cond20 v186 = 1#1), (Rect.unit (s := S256x16x5120) (k0_off98 v177) S1x16x5120.size (k0_off98_inb v21 v177 v186 k0_hw15 k0_h18 k0_h20)).WholeWords (EltTy.packing .bf16) := fun v21 v177 v186 k0_hw15 k0_h18 k0_h20 => k0_hw15.2.2.2.2.2.1 k0_h18 k0_h20 (k0_off98_inb v21 v177 v186 k0_hw15 k0_h18 k0_h20)
theorem k0_off100_inb : ∀ (v21 : BitVec 32) (v177 : BitVec 32) (v186 : BitVec 32) (k0_hw15 : k0_chk15 v21 v177 v186), ∀ (k0_h18 : k0_cond18 v21 = 1#1), ∀ (k0_h20 : k0_cond20 v186 = 1#1), ∀ a, (k0_off100 v177) a + S1x16x768.size a ≤ S256x16x768.size a := fun v21 v177 v186 k0_hw15 k0_h18 k0_h20 => k0_hw15.2.2.2.2.2.2.1 k0_h18 k0_h20
theorem k0_off100_wordsbf16 : ∀ (v21 : BitVec 32) (v177 : BitVec 32) (v186 : BitVec 32) (k0_hw15 : k0_chk15 v21 v177 v186), ∀ (k0_h18 : k0_cond18 v21 = 1#1), ∀ (k0_h20 : k0_cond20 v186 = 1#1), (Rect.unit (s := S256x16x768) (k0_off100 v177) S1x16x768.size (k0_off100_inb v21 v177 v186 k0_hw15 k0_h18 k0_h20)).WholeWords (EltTy.packing .bf16) := fun v21 v177 v186 k0_hw15 k0_h18 k0_h20 => k0_hw15.2.2.2.2.2.2.2.1 k0_h18 k0_h20 (k0_off100_inb v21 v177 v186 k0_hw15 k0_h18 k0_h20)
theorem k0_off103_inb : ∀ (v21 : BitVec 32) (v177 : BitVec 32) (v186 : BitVec 32) (k0_hw15 : k0_chk15 v21 v177 v186), ∀ (k0_h18 : k0_cond18 v21 = 1#1), ∀ (k0_h21 : k0_cond21 v186 = 1#1), ∀ a, (k0_off103 v177) a + S1x16x5120.size a ≤ S256x16x5120.size a := fun v21 v177 v186 k0_hw15 k0_h18 k0_h21 => k0_hw15.2.2.2.2.2.2.2.2.1 k0_h18 k0_h21
theorem k0_off103_wordsbf16 : ∀ (v21 : BitVec 32) (v177 : BitVec 32) (v186 : BitVec 32) (k0_hw15 : k0_chk15 v21 v177 v186), ∀ (k0_h18 : k0_cond18 v21 = 1#1), ∀ (k0_h21 : k0_cond21 v186 = 1#1), (Rect.unit (s := S256x16x5120) (k0_off103 v177) S1x16x5120.size (k0_off103_inb v21 v177 v186 k0_hw15 k0_h18 k0_h21)).WholeWords (EltTy.packing .bf16) := fun v21 v177 v186 k0_hw15 k0_h18 k0_h21 => k0_hw15.2.2.2.2.2.2.2.2.2.1 k0_h18 k0_h21 (k0_off103_inb v21 v177 v186 k0_hw15 k0_h18 k0_h21)
theorem k0_off105_inb : ∀ (v21 : BitVec 32) (v177 : BitVec 32) (v186 : BitVec 32) (k0_hw15 : k0_chk15 v21 v177 v186), ∀ (k0_h18 : k0_cond18 v21 = 1#1), ∀ (k0_h21 : k0_cond21 v186 = 1#1), ∀ a, (k0_off105 v177) a + S1x16x768.size a ≤ S256x16x768.size a := fun v21 v177 v186 k0_hw15 k0_h18 k0_h21 => k0_hw15.2.2.2.2.2.2.2.2.2.2.1 k0_h18 k0_h21
theorem k0_off105_wordsbf16 : ∀ (v21 : BitVec 32) (v177 : BitVec 32) (v186 : BitVec 32) (k0_hw15 : k0_chk15 v21 v177 v186), ∀ (k0_h18 : k0_cond18 v21 = 1#1), ∀ (k0_h21 : k0_cond21 v186 = 1#1), (Rect.unit (s := S256x16x768) (k0_off105 v177) S1x16x768.size (k0_off105_inb v21 v177 v186 k0_hw15 k0_h18 k0_h21)).WholeWords (EltTy.packing .bf16) := fun v21 v177 v186 k0_hw15 k0_h18 k0_h21 => k0_hw15.2.2.2.2.2.2.2.2.2.2.2.1 k0_h18 k0_h21 (k0_off105_inb v21 v177 v186 k0_hw15 k0_h18 k0_h21)
theorem k0_off108_inb : ∀ (v21 : BitVec 32) (v177 : BitVec 32) (v186 : BitVec 32) (k0_hw15 : k0_chk15 v21 v177 v186), ∀ (k0_h18 : k0_cond18 v21 = 1#1), ∀ (k0_h22 : k0_cond22 v186 = 1#1), ∀ a, (k0_off108 v177) a + S1x16x5120.size a ≤ S256x16x5120.size a := fun v21 v177 v186 k0_hw15 k0_h18 k0_h22 => k0_hw15.2.2.2.2.2.2.2.2.2.2.2.2.1 k0_h18 k0_h22
theorem k0_off108_wordsbf16 : ∀ (v21 : BitVec 32) (v177 : BitVec 32) (v186 : BitVec 32) (k0_hw15 : k0_chk15 v21 v177 v186), ∀ (k0_h18 : k0_cond18 v21 = 1#1), ∀ (k0_h22 : k0_cond22 v186 = 1#1), (Rect.unit (s := S256x16x5120) (k0_off108 v177) S1x16x5120.size (k0_off108_inb v21 v177 v186 k0_hw15 k0_h18 k0_h22)).WholeWords (EltTy.packing .bf16) := fun v21 v177 v186 k0_hw15 k0_h18 k0_h22 => k0_hw15.2.2.2.2.2.2.2.2.2.2.2.2.2.1 k0_h18 k0_h22 (k0_off108_inb v21 v177 v186 k0_hw15 k0_h18 k0_h22)
theorem k0_off110_inb : ∀ (v21 : BitVec 32) (v177 : BitVec 32) (v186 : BitVec 32) (k0_hw15 : k0_chk15 v21 v177 v186), ∀ (k0_h18 : k0_cond18 v21 = 1#1), ∀ (k0_h22 : k0_cond22 v186 = 1#1), ∀ a, (k0_off110 v177) a + S1x16x768.size a ≤ S256x16x768.size a := fun v21 v177 v186 k0_hw15 k0_h18 k0_h22 => k0_hw15.2.2.2.2.2.2.2.2.2.2.2.2.2.2.1 k0_h18 k0_h22
theorem k0_off110_wordsbf16 : ∀ (v21 : BitVec 32) (v177 : BitVec 32) (v186 : BitVec 32) (k0_hw15 : k0_chk15 v21 v177 v186), ∀ (k0_h18 : k0_cond18 v21 = 1#1), ∀ (k0_h22 : k0_cond22 v186 = 1#1), (Rect.unit (s := S256x16x768) (k0_off110 v177) S1x16x768.size (k0_off110_inb v21 v177 v186 k0_hw15 k0_h18 k0_h22)).WholeWords (EltTy.packing .bf16) := fun v21 v177 v186 k0_hw15 k0_h18 k0_h22 => k0_hw15.2.2.2.2.2.2.2.2.2.2.2.2.2.2.2.1 k0_h18 k0_h22 (k0_off110_inb v21 v177 v186 k0_hw15 k0_h18 k0_h22)
theorem k0_off113_inb : ∀ (v21 : BitVec 32) (v177 : BitVec 32) (v186 : BitVec 32) (k0_hw15 : k0_chk15 v21 v177 v186), ∀ (k0_h18 : k0_cond18 v21 = 1#1), ∀ (k0_h23 : k0_cond23 v186 = 1#1), ∀ a, (k0_off113 v177) a + S1x16x5120.size a ≤ S256x16x5120.size a := fun v21 v177 v186 k0_hw15 k0_h18 k0_h23 => k0_hw15.2.2.2.2.2.2.2.2.2.2.2.2.2.2.2.2.1 k0_h18 k0_h23
theorem k0_off113_wordsbf16 : ∀ (v21 : BitVec 32) (v177 : BitVec 32) (v186 : BitVec 32) (k0_hw15 : k0_chk15 v21 v177 v186), ∀ (k0_h18 : k0_cond18 v21 = 1#1), ∀ (k0_h23 : k0_cond23 v186 = 1#1), (Rect.unit (s := S256x16x5120) (k0_off113 v177) S1x16x5120.size (k0_off113_inb v21 v177 v186 k0_hw15 k0_h18 k0_h23)).WholeWords (EltTy.packing .bf16) := fun v21 v177 v186 k0_hw15 k0_h18 k0_h23 => k0_hw15.2.2.2.2.2.2.2.2.2.2.2.2.2.2.2.2.2.1 k0_h18 k0_h23 (k0_off113_inb v21 v177 v186 k0_hw15 k0_h18 k0_h23)
theorem k0_off115_inb : ∀ (v21 : BitVec 32) (v177 : BitVec 32) (v186 : BitVec 32) (k0_hw15 : k0_chk15 v21 v177 v186), ∀ (k0_h18 : k0_cond18 v21 = 1#1), ∀ (k0_h23 : k0_cond23 v186 = 1#1), ∀ a, (k0_off115 v177) a + S1x16x768.size a ≤ S256x16x768.size a := fun v21 v177 v186 k0_hw15 k0_h18 k0_h23 => k0_hw15.2.2.2.2.2.2.2.2.2.2.2.2.2.2.2.2.2.2.1 k0_h18 k0_h23
theorem k0_off115_wordsbf16 : ∀ (v21 : BitVec 32) (v177 : BitVec 32) (v186 : BitVec 32) (k0_hw15 : k0_chk15 v21 v177 v186), ∀ (k0_h18 : k0_cond18 v21 = 1#1), ∀ (k0_h23 : k0_cond23 v186 = 1#1), (Rect.unit (s := S256x16x768) (k0_off115 v177) S1x16x768.size (k0_off115_inb v21 v177 v186 k0_hw15 k0_h18 k0_h23)).WholeWords (EltTy.packing .bf16) := fun v21 v177 v186 k0_hw15 k0_h18 k0_h23 => k0_hw15.2.2.2.2.2.2.2.2.2.2.2.2.2.2.2.2.2.2.2.1 k0_h18 k0_h23 (k0_off115_inb v21 v177 v186 k0_hw15 k0_h18 k0_h23)
theorem k0_off118_inb : ∀ (v21 : BitVec 32) (v177 : BitVec 32) (v186 : BitVec 32) (k0_hw15 : k0_chk15 v21 v177 v186), ∀ (k0_h18 : k0_cond18 v21 = 1#1), ∀ (k0_h24 : k0_cond24 v186 = 1#1), ∀ a, (k0_off118 v177) a + S1x16x5120.size a ≤ S256x16x5120.size a := fun v21 v177 v186 k0_hw15 k0_h18 k0_h24 => k0_hw15.2.2.2.2.2.2.2.2.2.2.2.2.2.2.2.2.2.2.2.2.1 k0_h18 k0_h24
theorem k0_off118_wordsbf16 : ∀ (v21 : BitVec 32) (v177 : BitVec 32) (v186 : BitVec 32) (k0_hw15 : k0_chk15 v21 v177 v186), ∀ (k0_h18 : k0_cond18 v21 = 1#1), ∀ (k0_h24 : k0_cond24 v186 = 1#1), (Rect.unit (s := S256x16x5120) (k0_off118 v177) S1x16x5120.size (k0_off118_inb v21 v177 v186 k0_hw15 k0_h18 k0_h24)).WholeWords (EltTy.packing .bf16) := fun v21 v177 v186 k0_hw15 k0_h18 k0_h24 => k0_hw15.2.2.2.2.2.2.2.2.2.2.2.2.2.2.2.2.2.2.2.2.2.1 k0_h18 k0_h24 (k0_off118_inb v21 v177 v186 k0_hw15 k0_h18 k0_h24)
theorem k0_off120_inb : ∀ (v21 : BitVec 32) (v177 : BitVec 32) (v186 : BitVec 32) (k0_hw15 : k0_chk15 v21 v177 v186), ∀ (k0_h18 : k0_cond18 v21 = 1#1), ∀ (k0_h24 : k0_cond24 v186 = 1#1), ∀ a, (k0_off120 v177) a + S1x16x768.size a ≤ S256x16x768.size a := fun v21 v177 v186 k0_hw15 k0_h18 k0_h24 => k0_hw15.2.2.2.2.2.2.2.2.2.2.2.2.2.2.2.2.2.2.2.2.2.2.1 k0_h18 k0_h24
theorem k0_off120_wordsbf16 : ∀ (v21 : BitVec 32) (v177 : BitVec 32) (v186 : BitVec 32) (k0_hw15 : k0_chk15 v21 v177 v186), ∀ (k0_h18 : k0_cond18 v21 = 1#1), ∀ (k0_h24 : k0_cond24 v186 = 1#1), (Rect.unit (s := S256x16x768) (k0_off120 v177) S1x16x768.size (k0_off120_inb v21 v177 v186 k0_hw15 k0_h18 k0_h24)).WholeWords (EltTy.packing .bf16) := fun v21 v177 v186 k0_hw15 k0_h18 k0_h24 => k0_hw15.2.2.2.2.2.2.2.2.2.2.2.2.2.2.2.2.2.2.2.2.2.2.2.1 k0_h18 k0_h24 (k0_off120_inb v21 v177 v186 k0_hw15 k0_h18 k0_h24)
theorem k0_off123_inb : ∀ (v21 : BitVec 32) (v177 : BitVec 32) (v186 : BitVec 32) (k0_hw15 : k0_chk15 v21 v177 v186), ∀ (k0_h18 : k0_cond18 v21 = 1#1), ∀ (k0_h25 : k0_cond25 v186 = 1#1), ∀ a, (k0_off123 v177) a + S1x16x5120.size a ≤ S256x16x5120.size a := fun v21 v177 v186 k0_hw15 k0_h18 k0_h25 => k0_hw15.2.2.2.2.2.2.2.2.2.2.2.2.2.2.2.2.2.2.2.2.2.2.2.2.1 k0_h18 k0_h25
theorem k0_off123_wordsbf16 : ∀ (v21 : BitVec 32) (v177 : BitVec 32) (v186 : BitVec 32) (k0_hw15 : k0_chk15 v21 v177 v186), ∀ (k0_h18 : k0_cond18 v21 = 1#1), ∀ (k0_h25 : k0_cond25 v186 = 1#1), (Rect.unit (s := S256x16x5120) (k0_off123 v177) S1x16x5120.size (k0_off123_inb v21 v177 v186 k0_hw15 k0_h18 k0_h25)).WholeWords (EltTy.packing .bf16) := fun v21 v177 v186 k0_hw15 k0_h18 k0_h25 => k0_hw15.2.2.2.2.2.2.2.2.2.2.2.2.2.2.2.2.2.2.2.2.2.2.2.2.2.1 k0_h18 k0_h25 (k0_off123_inb v21 v177 v186 k0_hw15 k0_h18 k0_h25)
theorem k0_off125_inb : ∀ (v21 : BitVec 32) (v177 : BitVec 32) (v186 : BitVec 32) (k0_hw15 : k0_chk15 v21 v177 v186), ∀ (k0_h18 : k0_cond18 v21 = 1#1), ∀ (k0_h25 : k0_cond25 v186 = 1#1), ∀ a, (k0_off125 v177) a + S1x16x768.size a ≤ S256x16x768.size a := fun v21 v177 v186 k0_hw15 k0_h18 k0_h25 => k0_hw15.2.2.2.2.2.2.2.2.2.2.2.2.2.2.2.2.2.2.2.2.2.2.2.2.2.2.1 k0_h18 k0_h25
theorem k0_off125_wordsbf16 : ∀ (v21 : BitVec 32) (v177 : BitVec 32) (v186 : BitVec 32) (k0_hw15 : k0_chk15 v21 v177 v186), ∀ (k0_h18 : k0_cond18 v21 = 1#1), ∀ (k0_h25 : k0_cond25 v186 = 1#1), (Rect.unit (s := S256x16x768) (k0_off125 v177) S1x16x768.size (k0_off125_inb v21 v177 v186 k0_hw15 k0_h18 k0_h25)).WholeWords (EltTy.packing .bf16) := fun v21 v177 v186 k0_hw15 k0_h18 k0_h25 => k0_hw15.2.2.2.2.2.2.2.2.2.2.2.2.2.2.2.2.2.2.2.2.2.2.2.2.2.2.2.1 k0_h18 k0_h25 (k0_off125_inb v21 v177 v186 k0_hw15 k0_h18 k0_h25)
theorem k0_off128_inb : ∀ (v21 : BitVec 32) (v177 : BitVec 32) (v186 : BitVec 32) (k0_hw15 : k0_chk15 v21 v177 v186), ∀ (k0_h18 : k0_cond18 v21 = 1#1), ∀ (k0_h26 : k0_cond26 v186 = 1#1), ∀ a, (k0_off128 v177) a + S1x16x5120.size a ≤ S256x16x5120.size a := fun v21 v177 v186 k0_hw15 k0_h18 k0_h26 => k0_hw15.2.2.2.2.2.2.2.2.2.2.2.2.2.2.2.2.2.2.2.2.2.2.2.2.2.2.2.2.1 k0_h18 k0_h26
theorem k0_off128_wordsbf16 : ∀ (v21 : BitVec 32) (v177 : BitVec 32) (v186 : BitVec 32) (k0_hw15 : k0_chk15 v21 v177 v186), ∀ (k0_h18 : k0_cond18 v21 = 1#1), ∀ (k0_h26 : k0_cond26 v186 = 1#1), (Rect.unit (s := S256x16x5120) (k0_off128 v177) S1x16x5120.size (k0_off128_inb v21 v177 v186 k0_hw15 k0_h18 k0_h26)).WholeWords (EltTy.packing .bf16) := fun v21 v177 v186 k0_hw15 k0_h18 k0_h26 => k0_hw15.2.2.2.2.2.2.2.2.2.2.2.2.2.2.2.2.2.2.2.2.2.2.2.2.2.2.2.2.2.1 k0_h18 k0_h26 (k0_off128_inb v21 v177 v186 k0_hw15 k0_h18 k0_h26)
theorem k0_off130_inb : ∀ (v21 : BitVec 32) (v177 : BitVec 32) (v186 : BitVec 32) (k0_hw15 : k0_chk15 v21 v177 v186), ∀ (k0_h18 : k0_cond18 v21 = 1#1), ∀ (k0_h26 : k0_cond26 v186 = 1#1), ∀ a, (k0_off130 v177) a + S1x16x768.size a ≤ S256x16x768.size a := fun v21 v177 v186 k0_hw15 k0_h18 k0_h26 => k0_hw15.2.2.2.2.2.2.2.2.2.2.2.2.2.2.2.2.2.2.2.2.2.2.2.2.2.2.2.2.2.2.1 k0_h18 k0_h26
theorem k0_off130_wordsbf16 : ∀ (v21 : BitVec 32) (v177 : BitVec 32) (v186 : BitVec 32) (k0_hw15 : k0_chk15 v21 v177 v186), ∀ (k0_h18 : k0_cond18 v21 = 1#1), ∀ (k0_h26 : k0_cond26 v186 = 1#1), (Rect.unit (s := S256x16x768) (k0_off130 v177) S1x16x768.size (k0_off130_inb v21 v177 v186 k0_hw15 k0_h18 k0_h26)).WholeWords (EltTy.packing .bf16) := fun v21 v177 v186 k0_hw15 k0_h18 k0_h26 => k0_hw15.2.2.2.2.2.2.2.2.2.2.2.2.2.2.2.2.2.2.2.2.2.2.2.2.2.2.2.2.2.2.2 k0_h18 k0_h26 (k0_off130_inb v21 v177 v186 k0_hw15 k0_h18 k0_h26)

def k0_off131 : Fin 1 → Nat :=
  let c2_i32_103 : BitVec 32 := 2#32
  let c4_i32_104 : BitVec 32 := 4#32
  let v178 : BitVec 32 := Scalar.remsi c2_i32_103 c4_i32_104
  ![v178.toNat]
def k0_off132 : Fin 3 → Nat :=
  let c2_i32_103 : BitVec 32 := 2#32
  let c4_i32_104 : BitVec 32 := 4#32
  let v178 : BitVec 32 := Scalar.remsi c2_i32_103 c4_i32_104
  let c0_i32_141 : BitVec 32 := 0#32
  let c0_i32_142 : BitVec 32 := 0#32
  ![v178.toNat, 0, 0]
def k0_off133 (v177 : BitVec 32) : Fin 3 → Nat :=
  let c0_i32_143 : BitVec 32 := 0#32
  let c0_i32_144 : BitVec 32 := 0#32
  ![v177.toNat, 0, 0]

def k0_chk14 (v21 : BitVec 32) (v177 : BitVec 32) : Prop :=
  (∀ (k0_h18 : k0_cond18 v21 = 1#1), ∀ a, (k0_off89 v177) a + S1x5120x768.size a ≤ S32x5120x768.size a) ∧
  (∀ (k0_h18 : k0_cond18 v21 = 1#1), ∀ (hinb : ∀ a, (k0_off89 v177) a + S1x5120x768.size a ≤ S32x5120x768.size a), (Rect.unit (s := S32x5120x768) (k0_off89 v177) S1x5120x768.size hinb).WholeWords (EltTy.packing .fp8e4m3)) ∧
  (∀ (k0_h18 : k0_cond18 v21 = 1#1), ∀ a, (k0_off90 v177) a + S1.size a ≤ S32.size a) ∧
  (∀ (k0_h18 : k0_cond18 v21 = 1#1), ∀ a, (k0_off133 v177) a + S1x768x5120.size a ≤ S32x768x5120.size a) ∧
  (∀ (k0_h18 : k0_cond18 v21 = 1#1), ∀ (hinb : ∀ a, (k0_off133 v177) a + S1x768x5120.size a ≤ S32x768x5120.size a), (Rect.unit (s := S32x768x5120) (k0_off133 v177) S1x768x5120.size hinb).WholeWords (EltTy.packing .fp8e4m3))
theorem k0_off89_inb : ∀ (v21 : BitVec 32) (v177 : BitVec 32) (k0_hw14 : k0_chk14 v21 v177), ∀ (k0_h18 : k0_cond18 v21 = 1#1), ∀ a, (k0_off89 v177) a + S1x5120x768.size a ≤ S32x5120x768.size a := fun v21 v177 k0_hw14 k0_h18 => k0_hw14.1 k0_h18
theorem k0_off89_wordsfp8e4m3 : ∀ (v21 : BitVec 32) (v177 : BitVec 32) (k0_hw14 : k0_chk14 v21 v177), ∀ (k0_h18 : k0_cond18 v21 = 1#1), (Rect.unit (s := S32x5120x768) (k0_off89 v177) S1x5120x768.size (k0_off89_inb v21 v177 k0_hw14 k0_h18)).WholeWords (EltTy.packing .fp8e4m3) := fun v21 v177 k0_hw14 k0_h18 => k0_hw14.2.1 k0_h18 (k0_off89_inb v21 v177 k0_hw14 k0_h18)
theorem k0_off90_inb : ∀ (v21 : BitVec 32) (v177 : BitVec 32) (k0_hw14 : k0_chk14 v21 v177), ∀ (k0_h18 : k0_cond18 v21 = 1#1), ∀ a, (k0_off90 v177) a + S1.size a ≤ S32.size a := fun v21 v177 k0_hw14 k0_h18 => k0_hw14.2.2.1 k0_h18
theorem k0_off133_inb : ∀ (v21 : BitVec 32) (v177 : BitVec 32) (k0_hw14 : k0_chk14 v21 v177), ∀ (k0_h18 : k0_cond18 v21 = 1#1), ∀ a, (k0_off133 v177) a + S1x768x5120.size a ≤ S32x768x5120.size a := fun v21 v177 k0_hw14 k0_h18 => k0_hw14.2.2.2.1 k0_h18
theorem k0_off133_wordsfp8e4m3 : ∀ (v21 : BitVec 32) (v177 : BitVec 32) (k0_hw14 : k0_chk14 v21 v177), ∀ (k0_h18 : k0_cond18 v21 = 1#1), (Rect.unit (s := S32x768x5120) (k0_off133 v177) S1x768x5120.size (k0_off133_inb v21 v177 k0_hw14 k0_h18)).WholeWords (EltTy.packing .fp8e4m3) := fun v21 v177 k0_hw14 k0_h18 => k0_hw14.2.2.2.2 k0_h18 (k0_off133_inb v21 v177 k0_hw14 k0_h18)

@[reducible] def k0_t4_loop (v21 : BitVec 32) : Scf.Loop 32 :=
  let c0_i32_94 : BitVec 32 := 0#32
  let v167 : BitVec 32 := Scalar.subi v21 c0_i32_94
  let c1_i32_96 : BitVec 32 := 1#32
  let v169 : BitVec 32 := Scalar.divsi v167 c1_i32_96
  let v170 : BitVec 32 := Scalar.muli v169 c1_i32_96
  let v171 : BitVec 32 := Scalar.addi c0_i32_94 v170
  let c1_i32_97 : BitVec 32 := 1#32
  ⟨c0_i32_94, v171, c1_i32_97⟩

def k0_off134 (v21 : BitVec 32) (k0_t4 : Fin (k0_t4_loop v21).trips) : Fin 1 → Nat :=
  let c0_i32_94 : BitVec 32 := 0#32
  let c1_i32_97 : BitVec 32 := 1#32
  let arg27 : BitVec 32 := Scf.iv c0_i32_94 c1_i32_97 k0_t4
  let v177 : Index := Scalar.indexCast arg27
  ![v177.toNat]
def k0_off135 (v21 : BitVec 32) (k0_t4 : Fin (k0_t4_loop v21).trips) : Fin 1 → Nat :=
  let c0_i32_94 : BitVec 32 := 0#32
  let c1_i32_97 : BitVec 32 := 1#32
  let arg27 : BitVec 32 := Scf.iv c0_i32_94 c1_i32_97 k0_t4
  let c4_i32_200 : BitVec 32 := 4#32
  let v354 : BitVec 32 := Scalar.addi arg27 c4_i32_200
  let c1_i32_201 : BitVec 32 := 1#32
  let v355 : BitVec 32 := Scalar.subi v354 c1_i32_201
  let v356 : Index := Scalar.indexCast v355
  ![v356.toNat]
def k0_cond27 (v21 : BitVec 32) (k0_t4 : Fin (k0_t4_loop v21).trips) : BitVec 1 :=
  let c0_i32_94 : BitVec 32 := 0#32
  let c1_i32_97 : BitVec 32 := 1#32
  let arg27 : BitVec 32 := Scf.iv c0_i32_94 c1_i32_97 k0_t4
  let c4_i32_104 : BitVec 32 := 4#32
  let v180 : BitVec 32 := Scalar.addi arg27 c4_i32_104
  let c1_i32_105 : BitVec 32 := 1#32
  let v181 : BitVec 32 := Scalar.subi v180 c1_i32_105
  let v182 : BitVec 1 := Scalar.cmpi .slt v181 v21
  let v183 : BitVec 32 := Scalar.extui v182
  let c0_i32_106 : BitVec 32 := 0#32
  let v184 : BitVec 1 := Scalar.cmpi .ne v183 c0_i32_106
  v184

def k0_off136 (v21 : BitVec 32) (k0_t4 : Fin (k0_t4_loop v21).trips) : Fin 1 → Nat :=
  let c0_i32_94 : BitVec 32 := 0#32
  let c1_i32_97 : BitVec 32 := 1#32
  let arg27 : BitVec 32 := Scf.iv c0_i32_94 c1_i32_97 k0_t4
  let c4_i32_200 : BitVec 32 := 4#32
  let v354 : BitVec 32 := Scalar.addi arg27 c4_i32_200
  let c1_i32_201 : BitVec 32 := 1#32
  let v355 : BitVec 32 := Scalar.subi v354 c1_i32_201
  let c4_i32_202 : BitVec 32 := 4#32
  let v358 : BitVec 32 := Scalar.remsi v355 c4_i32_202
  ![v358.toNat]
def k0_off137 (v21 : BitVec 32) (k0_t4 : Fin (k0_t4_loop v21).trips) : Fin 3 → Nat :=
  let c0_i32_94 : BitVec 32 := 0#32
  let c1_i32_97 : BitVec 32 := 1#32
  let arg27 : BitVec 32 := Scf.iv c0_i32_94 c1_i32_97 k0_t4
  let c4_i32_200 : BitVec 32 := 4#32
  let v354 : BitVec 32 := Scalar.addi arg27 c4_i32_200
  let c1_i32_201 : BitVec 32 := 1#32
  let v355 : BitVec 32 := Scalar.subi v354 c1_i32_201
  let c4_i32_202 : BitVec 32 := 4#32
  let v358 : BitVec 32 := Scalar.remsi v355 c4_i32_202
  let c0_i32_203 : BitVec 32 := 0#32
  let c0_i32_204 : BitVec 32 := 0#32
  ![v358.toNat, 0, 0]
def k0_off138 (v357 : BitVec 32) : Fin 3 → Nat :=
  let c0_i32_205 : BitVec 32 := 0#32
  let c0_i32_206 : BitVec 32 := 0#32
  ![v357.toNat, 0, 0]

def k0_off139 (v357 : BitVec 32) : Fin 1 → Nat :=
  let v365 : Index := Scalar.indexCast v357
  ![v365.toNat]
def k0_off140 (v21 : BitVec 32) (k0_t4 : Fin (k0_t4_loop v21).trips) : Fin 1 → Nat :=
  let c0_i32_94 : BitVec 32 := 0#32
  let c1_i32_97 : BitVec 32 := 1#32
  let arg27 : BitVec 32 := Scf.iv c0_i32_94 c1_i32_97 k0_t4
  let c4_i32_200 : BitVec 32 := 4#32
  let v354 : BitVec 32 := Scalar.addi arg27 c4_i32_200
  let c1_i32_201 : BitVec 32 := 1#32
  let v355 : BitVec 32 := Scalar.subi v354 c1_i32_201
  let c4_i32_202 : BitVec 32 := 4#32
  let v358 : BitVec 32 := Scalar.remsi v355 c4_i32_202
  ![v358.toNat]
def k0_cond28 (v366 : BitVec 32) : BitVec 1 :=
  let c1_i32_207 : BitVec 32 := 1#32
  let v367 : BitVec 32 := Scalar.shrsi v366 c1_i32_207
  let c1_i32_208 : BitVec 32 := 1#32
  let v368 : BitVec 32 := Scalar.andi v367 c1_i32_208
  let c1_i32_209 : BitVec 32 := 1#32
  let v369 : BitVec 1 := Scalar.cmpi .eq v368 c1_i32_209
  let v370 : BitVec 32 := Scalar.extui v369
  let c0_i32_210 : BitVec 32 := 0#32
  let v371 : BitVec 1 := Scalar.cmpi .ne v370 c0_i32_210
  v371

def k0_off141 (v21 : BitVec 32) (k0_t4 : Fin (k0_t4_loop v21).trips) : Fin 4 → Nat :=
  let c0_i32_94 : BitVec 32 := 0#32
  let c1_i32_97 : BitVec 32 := 1#32
  let arg27 : BitVec 32 := Scf.iv c0_i32_94 c1_i32_97 k0_t4
  let c4_i32_200 : BitVec 32 := 4#32
  let v354 : BitVec 32 := Scalar.addi arg27 c4_i32_200
  let c1_i32_201 : BitVec 32 := 1#32
  let v355 : BitVec 32 := Scalar.subi v354 c1_i32_201
  let c4_i32_202 : BitVec 32 := 4#32
  let v358 : BitVec 32 := Scalar.remsi v355 c4_i32_202
  let c0_i32_245 : BitVec 32 := 0#32
  let c0_i32_246 : BitVec 32 := 0#32
  let c0_i32_247 : BitVec 32 := 0#32
  ![v358.toNat, 0, 0, 0]
def k0_off142 (v357 : BitVec 32) : Fin 3 → Nat :=
  let c8_i32_243 : BitVec 32 := 8#32
  let v413 : BitVec 32 := Scalar.muli v357 c8_i32_243
  let c0_i32_244 : BitVec 32 := 0#32
  let v414 : BitVec 32 := Scalar.addi v413 c0_i32_244
  let c0_i32_248 : BitVec 32 := 0#32
  let c0_i32_249 : BitVec 32 := 0#32
  ![v414.toNat, 0, 0]
def k0_off143 (v21 : BitVec 32) (k0_t4 : Fin (k0_t4_loop v21).trips) : Fin 4 → Nat :=
  let c0_i32_94 : BitVec 32 := 0#32
  let c1_i32_97 : BitVec 32 := 1#32
  let arg27 : BitVec 32 := Scf.iv c0_i32_94 c1_i32_97 k0_t4
  let c4_i32_200 : BitVec 32 := 4#32
  let v354 : BitVec 32 := Scalar.addi arg27 c4_i32_200
  let c1_i32_201 : BitVec 32 := 1#32
  let v355 : BitVec 32 := Scalar.subi v354 c1_i32_201
  let c4_i32_202 : BitVec 32 := 4#32
  let v358 : BitVec 32 := Scalar.remsi v355 c4_i32_202
  let c0_i32_250 : BitVec 32 := 0#32
  let c0_i32_251 : BitVec 32 := 0#32
  let c0_i32_252 : BitVec 32 := 0#32
  ![v358.toNat, 0, 0, 0]
def k0_off144 (v357 : BitVec 32) : Fin 3 → Nat :=
  let c8_i32_243 : BitVec 32 := 8#32
  let v413 : BitVec 32 := Scalar.muli v357 c8_i32_243
  let c0_i32_244 : BitVec 32 := 0#32
  let v414 : BitVec 32 := Scalar.addi v413 c0_i32_244
  let c0_i32_253 : BitVec 32 := 0#32
  let c0_i32_254 : BitVec 32 := 0#32
  ![v414.toNat, 0, 0]
def k0_off145 (v21 : BitVec 32) (k0_t4 : Fin (k0_t4_loop v21).trips) : Fin 1 → Nat :=
  let c0_i32_94 : BitVec 32 := 0#32
  let c1_i32_97 : BitVec 32 := 1#32
  let arg27 : BitVec 32 := Scf.iv c0_i32_94 c1_i32_97 k0_t4
  let c4_i32_200 : BitVec 32 := 4#32
  let v354 : BitVec 32 := Scalar.addi arg27 c4_i32_200
  let c1_i32_201 : BitVec 32 := 1#32
  let v355 : BitVec 32 := Scalar.subi v354 c1_i32_201
  let c4_i32_202 : BitVec 32 := 4#32
  let v358 : BitVec 32 := Scalar.remsi v355 c4_i32_202
  ![v358.toNat]
def k0_cond29 (v366 : BitVec 32) : BitVec 1 :=
  let c2_i32_211 : BitVec 32 := 2#32
  let v372 : BitVec 32 := Scalar.shrsi v366 c2_i32_211
  let c1_i32_212 : BitVec 32 := 1#32
  let v373 : BitVec 32 := Scalar.andi v372 c1_i32_212
  let c1_i32_213 : BitVec 32 := 1#32
  let v374 : BitVec 1 := Scalar.cmpi .eq v373 c1_i32_213
  let v375 : BitVec 32 := Scalar.extui v374
  let c0_i32_214 : BitVec 32 := 0#32
  let v376 : BitVec 1 := Scalar.cmpi .ne v375 c0_i32_214
  v376

def k0_off146 (v21 : BitVec 32) (k0_t4 : Fin (k0_t4_loop v21).trips) : Fin 4 → Nat :=
  let c0_i32_94 : BitVec 32 := 0#32
  let c1_i32_97 : BitVec 32 := 1#32
  let arg27 : BitVec 32 := Scf.iv c0_i32_94 c1_i32_97 k0_t4
  let c4_i32_200 : BitVec 32 := 4#32
  let v354 : BitVec 32 := Scalar.addi arg27 c4_i32_200
  let c1_i32_201 : BitVec 32 := 1#32
  let v355 : BitVec 32 := Scalar.subi v354 c1_i32_201
  let c4_i32_202 : BitVec 32 := 4#32
  let v358 : BitVec 32 := Scalar.remsi v355 c4_i32_202
  let c1_i32_245 : BitVec 32 := 1#32
  let c0_i32_246 : BitVec 32 := 0#32
  let c0_i32_247 : BitVec 32 := 0#32
  ![v358.toNat, 1, 0, 0]
def k0_off147 (v357 : BitVec 32) : Fin 3 → Nat :=
  let c8_i32_243 : BitVec 32 := 8#32
  let v413 : BitVec 32 := Scalar.muli v357 c8_i32_243
  let c1_i32_244 : BitVec 32 := 1#32
  let v414 : BitVec 32 := Scalar.addi v413 c1_i32_244
  let c0_i32_248 : BitVec 32 := 0#32
  let c0_i32_249 : BitVec 32 := 0#32
  ![v414.toNat, 0, 0]
def k0_off148 (v21 : BitVec 32) (k0_t4 : Fin (k0_t4_loop v21).trips) : Fin 4 → Nat :=
  let c0_i32_94 : BitVec 32 := 0#32
  let c1_i32_97 : BitVec 32 := 1#32
  let arg27 : BitVec 32 := Scf.iv c0_i32_94 c1_i32_97 k0_t4
  let c4_i32_200 : BitVec 32 := 4#32
  let v354 : BitVec 32 := Scalar.addi arg27 c4_i32_200
  let c1_i32_201 : BitVec 32 := 1#32
  let v355 : BitVec 32 := Scalar.subi v354 c1_i32_201
  let c4_i32_202 : BitVec 32 := 4#32
  let v358 : BitVec 32 := Scalar.remsi v355 c4_i32_202
  let c1_i32_250 : BitVec 32 := 1#32
  let c0_i32_251 : BitVec 32 := 0#32
  let c0_i32_252 : BitVec 32 := 0#32
  ![v358.toNat, 1, 0, 0]
def k0_off149 (v357 : BitVec 32) : Fin 3 → Nat :=
  let c8_i32_243 : BitVec 32 := 8#32
  let v413 : BitVec 32 := Scalar.muli v357 c8_i32_243
  let c1_i32_244 : BitVec 32 := 1#32
  let v414 : BitVec 32 := Scalar.addi v413 c1_i32_244
  let c0_i32_253 : BitVec 32 := 0#32
  let c0_i32_254 : BitVec 32 := 0#32
  ![v414.toNat, 0, 0]
def k0_off150 (v21 : BitVec 32) (k0_t4 : Fin (k0_t4_loop v21).trips) : Fin 1 → Nat :=
  let c0_i32_94 : BitVec 32 := 0#32
  let c1_i32_97 : BitVec 32 := 1#32
  let arg27 : BitVec 32 := Scf.iv c0_i32_94 c1_i32_97 k0_t4
  let c4_i32_200 : BitVec 32 := 4#32
  let v354 : BitVec 32 := Scalar.addi arg27 c4_i32_200
  let c1_i32_201 : BitVec 32 := 1#32
  let v355 : BitVec 32 := Scalar.subi v354 c1_i32_201
  let c4_i32_202 : BitVec 32 := 4#32
  let v358 : BitVec 32 := Scalar.remsi v355 c4_i32_202
  ![v358.toNat]
def k0_cond30 (v366 : BitVec 32) : BitVec 1 :=
  let c3_i32_215 : BitVec 32 := 3#32
  let v377 : BitVec 32 := Scalar.shrsi v366 c3_i32_215
  let c1_i32_216 : BitVec 32 := 1#32
  let v378 : BitVec 32 := Scalar.andi v377 c1_i32_216
  let c1_i32_217 : BitVec 32 := 1#32
  let v379 : BitVec 1 := Scalar.cmpi .eq v378 c1_i32_217
  let v380 : BitVec 32 := Scalar.extui v379
  let c0_i32_218 : BitVec 32 := 0#32
  let v381 : BitVec 1 := Scalar.cmpi .ne v380 c0_i32_218
  v381

def k0_off151 (v21 : BitVec 32) (k0_t4 : Fin (k0_t4_loop v21).trips) : Fin 4 → Nat :=
  let c0_i32_94 : BitVec 32 := 0#32
  let c1_i32_97 : BitVec 32 := 1#32
  let arg27 : BitVec 32 := Scf.iv c0_i32_94 c1_i32_97 k0_t4
  let c4_i32_200 : BitVec 32 := 4#32
  let v354 : BitVec 32 := Scalar.addi arg27 c4_i32_200
  let c1_i32_201 : BitVec 32 := 1#32
  let v355 : BitVec 32 := Scalar.subi v354 c1_i32_201
  let c4_i32_202 : BitVec 32 := 4#32
  let v358 : BitVec 32 := Scalar.remsi v355 c4_i32_202
  let c2_i32_245 : BitVec 32 := 2#32
  let c0_i32_246 : BitVec 32 := 0#32
  let c0_i32_247 : BitVec 32 := 0#32
  ![v358.toNat, 2, 0, 0]
def k0_off152 (v357 : BitVec 32) : Fin 3 → Nat :=
  let c8_i32_243 : BitVec 32 := 8#32
  let v413 : BitVec 32 := Scalar.muli v357 c8_i32_243
  let c2_i32_244 : BitVec 32 := 2#32
  let v414 : BitVec 32 := Scalar.addi v413 c2_i32_244
  let c0_i32_248 : BitVec 32 := 0#32
  let c0_i32_249 : BitVec 32 := 0#32
  ![v414.toNat, 0, 0]
def k0_off153 (v21 : BitVec 32) (k0_t4 : Fin (k0_t4_loop v21).trips) : Fin 4 → Nat :=
  let c0_i32_94 : BitVec 32 := 0#32
  let c1_i32_97 : BitVec 32 := 1#32
  let arg27 : BitVec 32 := Scf.iv c0_i32_94 c1_i32_97 k0_t4
  let c4_i32_200 : BitVec 32 := 4#32
  let v354 : BitVec 32 := Scalar.addi arg27 c4_i32_200
  let c1_i32_201 : BitVec 32 := 1#32
  let v355 : BitVec 32 := Scalar.subi v354 c1_i32_201
  let c4_i32_202 : BitVec 32 := 4#32
  let v358 : BitVec 32 := Scalar.remsi v355 c4_i32_202
  let c2_i32_250 : BitVec 32 := 2#32
  let c0_i32_251 : BitVec 32 := 0#32
  let c0_i32_252 : BitVec 32 := 0#32
  ![v358.toNat, 2, 0, 0]
def k0_off154 (v357 : BitVec 32) : Fin 3 → Nat :=
  let c8_i32_243 : BitVec 32 := 8#32
  let v413 : BitVec 32 := Scalar.muli v357 c8_i32_243
  let c2_i32_244 : BitVec 32 := 2#32
  let v414 : BitVec 32 := Scalar.addi v413 c2_i32_244
  let c0_i32_253 : BitVec 32 := 0#32
  let c0_i32_254 : BitVec 32 := 0#32
  ![v414.toNat, 0, 0]
def k0_off155 (v21 : BitVec 32) (k0_t4 : Fin (k0_t4_loop v21).trips) : Fin 1 → Nat :=
  let c0_i32_94 : BitVec 32 := 0#32
  let c1_i32_97 : BitVec 32 := 1#32
  let arg27 : BitVec 32 := Scf.iv c0_i32_94 c1_i32_97 k0_t4
  let c4_i32_200 : BitVec 32 := 4#32
  let v354 : BitVec 32 := Scalar.addi arg27 c4_i32_200
  let c1_i32_201 : BitVec 32 := 1#32
  let v355 : BitVec 32 := Scalar.subi v354 c1_i32_201
  let c4_i32_202 : BitVec 32 := 4#32
  let v358 : BitVec 32 := Scalar.remsi v355 c4_i32_202
  ![v358.toNat]
def k0_cond31 (v366 : BitVec 32) : BitVec 1 :=
  let c4_i32_219 : BitVec 32 := 4#32
  let v382 : BitVec 32 := Scalar.shrsi v366 c4_i32_219
  let c1_i32_220 : BitVec 32 := 1#32
  let v383 : BitVec 32 := Scalar.andi v382 c1_i32_220
  let c1_i32_221 : BitVec 32 := 1#32
  let v384 : BitVec 1 := Scalar.cmpi .eq v383 c1_i32_221
  let v385 : BitVec 32 := Scalar.extui v384
  let c0_i32_222 : BitVec 32 := 0#32
  let v386 : BitVec 1 := Scalar.cmpi .ne v385 c0_i32_222
  v386

def k0_off156 (v21 : BitVec 32) (k0_t4 : Fin (k0_t4_loop v21).trips) : Fin 4 → Nat :=
  let c0_i32_94 : BitVec 32 := 0#32
  let c1_i32_97 : BitVec 32 := 1#32
  let arg27 : BitVec 32 := Scf.iv c0_i32_94 c1_i32_97 k0_t4
  let c4_i32_200 : BitVec 32 := 4#32
  let v354 : BitVec 32 := Scalar.addi arg27 c4_i32_200
  let c1_i32_201 : BitVec 32 := 1#32
  let v355 : BitVec 32 := Scalar.subi v354 c1_i32_201
  let c4_i32_202 : BitVec 32 := 4#32
  let v358 : BitVec 32 := Scalar.remsi v355 c4_i32_202
  let c3_i32_245 : BitVec 32 := 3#32
  let c0_i32_246 : BitVec 32 := 0#32
  let c0_i32_247 : BitVec 32 := 0#32
  ![v358.toNat, 3, 0, 0]
def k0_off157 (v357 : BitVec 32) : Fin 3 → Nat :=
  let c8_i32_243 : BitVec 32 := 8#32
  let v413 : BitVec 32 := Scalar.muli v357 c8_i32_243
  let c3_i32_244 : BitVec 32 := 3#32
  let v414 : BitVec 32 := Scalar.addi v413 c3_i32_244
  let c0_i32_248 : BitVec 32 := 0#32
  let c0_i32_249 : BitVec 32 := 0#32
  ![v414.toNat, 0, 0]
def k0_off158 (v21 : BitVec 32) (k0_t4 : Fin (k0_t4_loop v21).trips) : Fin 4 → Nat :=
  let c0_i32_94 : BitVec 32 := 0#32
  let c1_i32_97 : BitVec 32 := 1#32
  let arg27 : BitVec 32 := Scf.iv c0_i32_94 c1_i32_97 k0_t4
  let c4_i32_200 : BitVec 32 := 4#32
  let v354 : BitVec 32 := Scalar.addi arg27 c4_i32_200
  let c1_i32_201 : BitVec 32 := 1#32
  let v355 : BitVec 32 := Scalar.subi v354 c1_i32_201
  let c4_i32_202 : BitVec 32 := 4#32
  let v358 : BitVec 32 := Scalar.remsi v355 c4_i32_202
  let c3_i32_250 : BitVec 32 := 3#32
  let c0_i32_251 : BitVec 32 := 0#32
  let c0_i32_252 : BitVec 32 := 0#32
  ![v358.toNat, 3, 0, 0]
def k0_off159 (v357 : BitVec 32) : Fin 3 → Nat :=
  let c8_i32_243 : BitVec 32 := 8#32
  let v413 : BitVec 32 := Scalar.muli v357 c8_i32_243
  let c3_i32_244 : BitVec 32 := 3#32
  let v414 : BitVec 32 := Scalar.addi v413 c3_i32_244
  let c0_i32_253 : BitVec 32 := 0#32
  let c0_i32_254 : BitVec 32 := 0#32
  ![v414.toNat, 0, 0]
def k0_off160 (v21 : BitVec 32) (k0_t4 : Fin (k0_t4_loop v21).trips) : Fin 1 → Nat :=
  let c0_i32_94 : BitVec 32 := 0#32
  let c1_i32_97 : BitVec 32 := 1#32
  let arg27 : BitVec 32 := Scf.iv c0_i32_94 c1_i32_97 k0_t4
  let c4_i32_200 : BitVec 32 := 4#32
  let v354 : BitVec 32 := Scalar.addi arg27 c4_i32_200
  let c1_i32_201 : BitVec 32 := 1#32
  let v355 : BitVec 32 := Scalar.subi v354 c1_i32_201
  let c4_i32_202 : BitVec 32 := 4#32
  let v358 : BitVec 32 := Scalar.remsi v355 c4_i32_202
  ![v358.toNat]
def k0_cond32 (v366 : BitVec 32) : BitVec 1 :=
  let c5_i32_223 : BitVec 32 := 5#32
  let v387 : BitVec 32 := Scalar.shrsi v366 c5_i32_223
  let c1_i32_224 : BitVec 32 := 1#32
  let v388 : BitVec 32 := Scalar.andi v387 c1_i32_224
  let c1_i32_225 : BitVec 32 := 1#32
  let v389 : BitVec 1 := Scalar.cmpi .eq v388 c1_i32_225
  let v390 : BitVec 32 := Scalar.extui v389
  let c0_i32_226 : BitVec 32 := 0#32
  let v391 : BitVec 1 := Scalar.cmpi .ne v390 c0_i32_226
  v391

def k0_off161 (v21 : BitVec 32) (k0_t4 : Fin (k0_t4_loop v21).trips) : Fin 4 → Nat :=
  let c0_i32_94 : BitVec 32 := 0#32
  let c1_i32_97 : BitVec 32 := 1#32
  let arg27 : BitVec 32 := Scf.iv c0_i32_94 c1_i32_97 k0_t4
  let c4_i32_200 : BitVec 32 := 4#32
  let v354 : BitVec 32 := Scalar.addi arg27 c4_i32_200
  let c1_i32_201 : BitVec 32 := 1#32
  let v355 : BitVec 32 := Scalar.subi v354 c1_i32_201
  let c4_i32_202 : BitVec 32 := 4#32
  let v358 : BitVec 32 := Scalar.remsi v355 c4_i32_202
  let c4_i32_245 : BitVec 32 := 4#32
  let c0_i32_246 : BitVec 32 := 0#32
  let c0_i32_247 : BitVec 32 := 0#32
  ![v358.toNat, 4, 0, 0]
def k0_off162 (v357 : BitVec 32) : Fin 3 → Nat :=
  let c8_i32_243 : BitVec 32 := 8#32
  let v413 : BitVec 32 := Scalar.muli v357 c8_i32_243
  let c4_i32_244 : BitVec 32 := 4#32
  let v414 : BitVec 32 := Scalar.addi v413 c4_i32_244
  let c0_i32_248 : BitVec 32 := 0#32
  let c0_i32_249 : BitVec 32 := 0#32
  ![v414.toNat, 0, 0]
def k0_off163 (v21 : BitVec 32) (k0_t4 : Fin (k0_t4_loop v21).trips) : Fin 4 → Nat :=
  let c0_i32_94 : BitVec 32 := 0#32
  let c1_i32_97 : BitVec 32 := 1#32
  let arg27 : BitVec 32 := Scf.iv c0_i32_94 c1_i32_97 k0_t4
  let c4_i32_200 : BitVec 32 := 4#32
  let v354 : BitVec 32 := Scalar.addi arg27 c4_i32_200
  let c1_i32_201 : BitVec 32 := 1#32
  let v355 : BitVec 32 := Scalar.subi v354 c1_i32_201
  let c4_i32_202 : BitVec 32 := 4#32
  let v358 : BitVec 32 := Scalar.remsi v355 c4_i32_202
  let c4_i32_250 : BitVec 32 := 4#32
  let c0_i32_251 : BitVec 32 := 0#32
  let c0_i32_252 : BitVec 32 := 0#32
  ![v358.toNat, 4, 0, 0]
def k0_off164 (v357 : BitVec 32) : Fin 3 → Nat :=
  let c8_i32_243 : BitVec 32 := 8#32
  let v413 : BitVec 32 := Scalar.muli v357 c8_i32_243
  let c4_i32_244 : BitVec 32 := 4#32
  let v414 : BitVec 32 := Scalar.addi v413 c4_i32_244
  let c0_i32_253 : BitVec 32 := 0#32
  let c0_i32_254 : BitVec 32 := 0#32
  ![v414.toNat, 0, 0]
def k0_off165 (v21 : BitVec 32) (k0_t4 : Fin (k0_t4_loop v21).trips) : Fin 1 → Nat :=
  let c0_i32_94 : BitVec 32 := 0#32
  let c1_i32_97 : BitVec 32 := 1#32
  let arg27 : BitVec 32 := Scf.iv c0_i32_94 c1_i32_97 k0_t4
  let c4_i32_200 : BitVec 32 := 4#32
  let v354 : BitVec 32 := Scalar.addi arg27 c4_i32_200
  let c1_i32_201 : BitVec 32 := 1#32
  let v355 : BitVec 32 := Scalar.subi v354 c1_i32_201
  let c4_i32_202 : BitVec 32 := 4#32
  let v358 : BitVec 32 := Scalar.remsi v355 c4_i32_202
  ![v358.toNat]
def k0_cond33 (v366 : BitVec 32) : BitVec 1 :=
  let c6_i32_227 : BitVec 32 := 6#32
  let v392 : BitVec 32 := Scalar.shrsi v366 c6_i32_227
  let c1_i32_228 : BitVec 32 := 1#32
  let v393 : BitVec 32 := Scalar.andi v392 c1_i32_228
  let c1_i32_229 : BitVec 32 := 1#32
  let v394 : BitVec 1 := Scalar.cmpi .eq v393 c1_i32_229
  let v395 : BitVec 32 := Scalar.extui v394
  let c0_i32_230 : BitVec 32 := 0#32
  let v396 : BitVec 1 := Scalar.cmpi .ne v395 c0_i32_230
  v396

def k0_off166 (v21 : BitVec 32) (k0_t4 : Fin (k0_t4_loop v21).trips) : Fin 4 → Nat :=
  let c0_i32_94 : BitVec 32 := 0#32
  let c1_i32_97 : BitVec 32 := 1#32
  let arg27 : BitVec 32 := Scf.iv c0_i32_94 c1_i32_97 k0_t4
  let c4_i32_200 : BitVec 32 := 4#32
  let v354 : BitVec 32 := Scalar.addi arg27 c4_i32_200
  let c1_i32_201 : BitVec 32 := 1#32
  let v355 : BitVec 32 := Scalar.subi v354 c1_i32_201
  let c4_i32_202 : BitVec 32 := 4#32
  let v358 : BitVec 32 := Scalar.remsi v355 c4_i32_202
  let c5_i32_245 : BitVec 32 := 5#32
  let c0_i32_246 : BitVec 32 := 0#32
  let c0_i32_247 : BitVec 32 := 0#32
  ![v358.toNat, 5, 0, 0]
def k0_off167 (v357 : BitVec 32) : Fin 3 → Nat :=
  let c8_i32_243 : BitVec 32 := 8#32
  let v413 : BitVec 32 := Scalar.muli v357 c8_i32_243
  let c5_i32_244 : BitVec 32 := 5#32
  let v414 : BitVec 32 := Scalar.addi v413 c5_i32_244
  let c0_i32_248 : BitVec 32 := 0#32
  let c0_i32_249 : BitVec 32 := 0#32
  ![v414.toNat, 0, 0]
def k0_off168 (v21 : BitVec 32) (k0_t4 : Fin (k0_t4_loop v21).trips) : Fin 4 → Nat :=
  let c0_i32_94 : BitVec 32 := 0#32
  let c1_i32_97 : BitVec 32 := 1#32
  let arg27 : BitVec 32 := Scf.iv c0_i32_94 c1_i32_97 k0_t4
  let c4_i32_200 : BitVec 32 := 4#32
  let v354 : BitVec 32 := Scalar.addi arg27 c4_i32_200
  let c1_i32_201 : BitVec 32 := 1#32
  let v355 : BitVec 32 := Scalar.subi v354 c1_i32_201
  let c4_i32_202 : BitVec 32 := 4#32
  let v358 : BitVec 32 := Scalar.remsi v355 c4_i32_202
  let c5_i32_250 : BitVec 32 := 5#32
  let c0_i32_251 : BitVec 32 := 0#32
  let c0_i32_252 : BitVec 32 := 0#32
  ![v358.toNat, 5, 0, 0]
def k0_off169 (v357 : BitVec 32) : Fin 3 → Nat :=
  let c8_i32_243 : BitVec 32 := 8#32
  let v413 : BitVec 32 := Scalar.muli v357 c8_i32_243
  let c5_i32_244 : BitVec 32 := 5#32
  let v414 : BitVec 32 := Scalar.addi v413 c5_i32_244
  let c0_i32_253 : BitVec 32 := 0#32
  let c0_i32_254 : BitVec 32 := 0#32
  ![v414.toNat, 0, 0]
def k0_off170 (v21 : BitVec 32) (k0_t4 : Fin (k0_t4_loop v21).trips) : Fin 1 → Nat :=
  let c0_i32_94 : BitVec 32 := 0#32
  let c1_i32_97 : BitVec 32 := 1#32
  let arg27 : BitVec 32 := Scf.iv c0_i32_94 c1_i32_97 k0_t4
  let c4_i32_200 : BitVec 32 := 4#32
  let v354 : BitVec 32 := Scalar.addi arg27 c4_i32_200
  let c1_i32_201 : BitVec 32 := 1#32
  let v355 : BitVec 32 := Scalar.subi v354 c1_i32_201
  let c4_i32_202 : BitVec 32 := 4#32
  let v358 : BitVec 32 := Scalar.remsi v355 c4_i32_202
  ![v358.toNat]
def k0_cond34 (v366 : BitVec 32) : BitVec 1 :=
  let c7_i32_231 : BitVec 32 := 7#32
  let v397 : BitVec 32 := Scalar.shrsi v366 c7_i32_231
  let c1_i32_232 : BitVec 32 := 1#32
  let v398 : BitVec 32 := Scalar.andi v397 c1_i32_232
  let c1_i32_233 : BitVec 32 := 1#32
  let v399 : BitVec 1 := Scalar.cmpi .eq v398 c1_i32_233
  let v400 : BitVec 32 := Scalar.extui v399
  let c0_i32_234 : BitVec 32 := 0#32
  let v401 : BitVec 1 := Scalar.cmpi .ne v400 c0_i32_234
  v401

def k0_off171 (v21 : BitVec 32) (k0_t4 : Fin (k0_t4_loop v21).trips) : Fin 4 → Nat :=
  let c0_i32_94 : BitVec 32 := 0#32
  let c1_i32_97 : BitVec 32 := 1#32
  let arg27 : BitVec 32 := Scf.iv c0_i32_94 c1_i32_97 k0_t4
  let c4_i32_200 : BitVec 32 := 4#32
  let v354 : BitVec 32 := Scalar.addi arg27 c4_i32_200
  let c1_i32_201 : BitVec 32 := 1#32
  let v355 : BitVec 32 := Scalar.subi v354 c1_i32_201
  let c4_i32_202 : BitVec 32 := 4#32
  let v358 : BitVec 32 := Scalar.remsi v355 c4_i32_202
  let c6_i32_245 : BitVec 32 := 6#32
  let c0_i32_246 : BitVec 32 := 0#32
  let c0_i32_247 : BitVec 32 := 0#32
  ![v358.toNat, 6, 0, 0]
def k0_off172 (v357 : BitVec 32) : Fin 3 → Nat :=
  let c8_i32_243 : BitVec 32 := 8#32
  let v413 : BitVec 32 := Scalar.muli v357 c8_i32_243
  let c6_i32_244 : BitVec 32 := 6#32
  let v414 : BitVec 32 := Scalar.addi v413 c6_i32_244
  let c0_i32_248 : BitVec 32 := 0#32
  let c0_i32_249 : BitVec 32 := 0#32
  ![v414.toNat, 0, 0]
def k0_off173 (v21 : BitVec 32) (k0_t4 : Fin (k0_t4_loop v21).trips) : Fin 4 → Nat :=
  let c0_i32_94 : BitVec 32 := 0#32
  let c1_i32_97 : BitVec 32 := 1#32
  let arg27 : BitVec 32 := Scf.iv c0_i32_94 c1_i32_97 k0_t4
  let c4_i32_200 : BitVec 32 := 4#32
  let v354 : BitVec 32 := Scalar.addi arg27 c4_i32_200
  let c1_i32_201 : BitVec 32 := 1#32
  let v355 : BitVec 32 := Scalar.subi v354 c1_i32_201
  let c4_i32_202 : BitVec 32 := 4#32
  let v358 : BitVec 32 := Scalar.remsi v355 c4_i32_202
  let c6_i32_250 : BitVec 32 := 6#32
  let c0_i32_251 : BitVec 32 := 0#32
  let c0_i32_252 : BitVec 32 := 0#32
  ![v358.toNat, 6, 0, 0]
def k0_off174 (v357 : BitVec 32) : Fin 3 → Nat :=
  let c8_i32_243 : BitVec 32 := 8#32
  let v413 : BitVec 32 := Scalar.muli v357 c8_i32_243
  let c6_i32_244 : BitVec 32 := 6#32
  let v414 : BitVec 32 := Scalar.addi v413 c6_i32_244
  let c0_i32_253 : BitVec 32 := 0#32
  let c0_i32_254 : BitVec 32 := 0#32
  ![v414.toNat, 0, 0]
def k0_off175 (v21 : BitVec 32) (k0_t4 : Fin (k0_t4_loop v21).trips) : Fin 1 → Nat :=
  let c0_i32_94 : BitVec 32 := 0#32
  let c1_i32_97 : BitVec 32 := 1#32
  let arg27 : BitVec 32 := Scf.iv c0_i32_94 c1_i32_97 k0_t4
  let c4_i32_200 : BitVec 32 := 4#32
  let v354 : BitVec 32 := Scalar.addi arg27 c4_i32_200
  let c1_i32_201 : BitVec 32 := 1#32
  let v355 : BitVec 32 := Scalar.subi v354 c1_i32_201
  let c4_i32_202 : BitVec 32 := 4#32
  let v358 : BitVec 32 := Scalar.remsi v355 c4_i32_202
  ![v358.toNat]
def k0_cond35 (v366 : BitVec 32) : BitVec 1 :=
  let c8_i32_235 : BitVec 32 := 8#32
  let v402 : BitVec 32 := Scalar.shrsi v366 c8_i32_235
  let c1_i32_236 : BitVec 32 := 1#32
  let v403 : BitVec 32 := Scalar.andi v402 c1_i32_236
  let c1_i32_237 : BitVec 32 := 1#32
  let v404 : BitVec 1 := Scalar.cmpi .eq v403 c1_i32_237
  let v405 : BitVec 32 := Scalar.extui v404
  let c0_i32_238 : BitVec 32 := 0#32
  let v406 : BitVec 1 := Scalar.cmpi .ne v405 c0_i32_238
  v406

def k0_off176 (v21 : BitVec 32) (k0_t4 : Fin (k0_t4_loop v21).trips) : Fin 4 → Nat :=
  let c0_i32_94 : BitVec 32 := 0#32
  let c1_i32_97 : BitVec 32 := 1#32
  let arg27 : BitVec 32 := Scf.iv c0_i32_94 c1_i32_97 k0_t4
  let c4_i32_200 : BitVec 32 := 4#32
  let v354 : BitVec 32 := Scalar.addi arg27 c4_i32_200
  let c1_i32_201 : BitVec 32 := 1#32
  let v355 : BitVec 32 := Scalar.subi v354 c1_i32_201
  let c4_i32_202 : BitVec 32 := 4#32
  let v358 : BitVec 32 := Scalar.remsi v355 c4_i32_202
  let c7_i32_245 : BitVec 32 := 7#32
  let c0_i32_246 : BitVec 32 := 0#32
  let c0_i32_247 : BitVec 32 := 0#32
  ![v358.toNat, 7, 0, 0]
def k0_off177 (v357 : BitVec 32) : Fin 3 → Nat :=
  let c8_i32_243 : BitVec 32 := 8#32
  let v413 : BitVec 32 := Scalar.muli v357 c8_i32_243
  let c7_i32_244 : BitVec 32 := 7#32
  let v414 : BitVec 32 := Scalar.addi v413 c7_i32_244
  let c0_i32_248 : BitVec 32 := 0#32
  let c0_i32_249 : BitVec 32 := 0#32
  ![v414.toNat, 0, 0]
def k0_off178 (v21 : BitVec 32) (k0_t4 : Fin (k0_t4_loop v21).trips) : Fin 4 → Nat :=
  let c0_i32_94 : BitVec 32 := 0#32
  let c1_i32_97 : BitVec 32 := 1#32
  let arg27 : BitVec 32 := Scf.iv c0_i32_94 c1_i32_97 k0_t4
  let c4_i32_200 : BitVec 32 := 4#32
  let v354 : BitVec 32 := Scalar.addi arg27 c4_i32_200
  let c1_i32_201 : BitVec 32 := 1#32
  let v355 : BitVec 32 := Scalar.subi v354 c1_i32_201
  let c4_i32_202 : BitVec 32 := 4#32
  let v358 : BitVec 32 := Scalar.remsi v355 c4_i32_202
  let c7_i32_250 : BitVec 32 := 7#32
  let c0_i32_251 : BitVec 32 := 0#32
  let c0_i32_252 : BitVec 32 := 0#32
  ![v358.toNat, 7, 0, 0]
def k0_off179 (v357 : BitVec 32) : Fin 3 → Nat :=
  let c8_i32_243 : BitVec 32 := 8#32
  let v413 : BitVec 32 := Scalar.muli v357 c8_i32_243
  let c7_i32_244 : BitVec 32 := 7#32
  let v414 : BitVec 32 := Scalar.addi v413 c7_i32_244
  let c0_i32_253 : BitVec 32 := 0#32
  let c0_i32_254 : BitVec 32 := 0#32
  ![v414.toNat, 0, 0]

def k0_chk18_0 (v21 : BitVec 32) (k0_t4 : Fin (k0_t4_loop v21).trips) (v357 : BitVec 32) (v366 : BitVec 32) : Prop :=
  (∀ (k0_h27 : k0_cond27 v21 k0_t4 = 1#1), ∀ (k0_h28 : k0_cond28 v366 = 1#1), ∀ a, (k0_off140 v21 k0_t4) a + S1.size a ≤ S4.size a) ∧
  (∀ (k0_h27 : k0_cond27 v21 k0_t4 = 1#1), ∀ (k0_h28 : k0_cond28 v366 = 1#1), ∀ a, (k0_off141 v21 k0_t4) a + S1x1x16x5120.size a ≤ S4x8x16x5120.size a) ∧
  (∀ (k0_h27 : k0_cond27 v21 k0_t4 = 1#1), ∀ (k0_h28 : k0_cond28 v366 = 1#1), ∀ a, (k0_off142 v357) a + S1x16x5120.size a ≤ S256x16x5120.size a) ∧
  (∀ (k0_h27 : k0_cond27 v21 k0_t4 = 1#1), ∀ (k0_h28 : k0_cond28 v366 = 1#1), ∀ (hinb : ∀ a, (k0_off142 v357) a + S1x16x5120.size a ≤ S256x16x5120.size a), (Rect.unit (s := S256x16x5120) (k0_off142 v357) S1x16x5120.size hinb).WholeWords (EltTy.packing .bf16)) ∧
  (∀ (k0_h27 : k0_cond27 v21 k0_t4 = 1#1), ∀ (k0_h28 : k0_cond28 v366 = 1#1), ∀ (hinb : ∀ a, (k0_off141 v21 k0_t4) a + S1x1x16x5120.size a ≤ S4x8x16x5120.size a), (Rect.unit (s := S4x8x16x5120) (k0_off141 v21 k0_t4) S1x1x16x5120.size hinb).WholeWords (EltTy.packing .bf16)) ∧
  (∀ (k0_h27 : k0_cond27 v21 k0_t4 = 1#1), ∀ (k0_h28 : k0_cond28 v366 = 1#1), ∀ a, (k0_off143 v21 k0_t4) a + S1x1x16x768.size a ≤ S4x8x16x768.size a) ∧
  (∀ (k0_h27 : k0_cond27 v21 k0_t4 = 1#1), ∀ (k0_h28 : k0_cond28 v366 = 1#1), ∀ a, (k0_off144 v357) a + S1x16x768.size a ≤ S256x16x768.size a) ∧
  (∀ (k0_h27 : k0_cond27 v21 k0_t4 = 1#1), ∀ (k0_h28 : k0_cond28 v366 = 1#1), ∀ (hinb : ∀ a, (k0_off144 v357) a + S1x16x768.size a ≤ S256x16x768.size a), (Rect.unit (s := S256x16x768) (k0_off144 v357) S1x16x768.size hinb).WholeWords (EltTy.packing .bf16)) ∧
  (∀ (k0_h27 : k0_cond27 v21 k0_t4 = 1#1), ∀ (k0_h28 : k0_cond28 v366 = 1#1), ∀ (hinb : ∀ a, (k0_off143 v21 k0_t4) a + S1x1x16x768.size a ≤ S4x8x16x768.size a), (Rect.unit (s := S4x8x16x768) (k0_off143 v21 k0_t4) S1x1x16x768.size hinb).WholeWords (EltTy.packing .bf16)) ∧
  (∀ (k0_h27 : k0_cond27 v21 k0_t4 = 1#1), ∀ (k0_h29 : k0_cond29 v366 = 1#1), ∀ a, (k0_off145 v21 k0_t4) a + S1.size a ≤ S4.size a) ∧
  (∀ (k0_h27 : k0_cond27 v21 k0_t4 = 1#1), ∀ (k0_h29 : k0_cond29 v366 = 1#1), ∀ a, (k0_off146 v21 k0_t4) a + S1x1x16x5120.size a ≤ S4x8x16x5120.size a) ∧
  (∀ (k0_h27 : k0_cond27 v21 k0_t4 = 1#1), ∀ (k0_h29 : k0_cond29 v366 = 1#1), ∀ a, (k0_off147 v357) a + S1x16x5120.size a ≤ S256x16x5120.size a) ∧
  (∀ (k0_h27 : k0_cond27 v21 k0_t4 = 1#1), ∀ (k0_h29 : k0_cond29 v366 = 1#1), ∀ (hinb : ∀ a, (k0_off147 v357) a + S1x16x5120.size a ≤ S256x16x5120.size a), (Rect.unit (s := S256x16x5120) (k0_off147 v357) S1x16x5120.size hinb).WholeWords (EltTy.packing .bf16)) ∧
  (∀ (k0_h27 : k0_cond27 v21 k0_t4 = 1#1), ∀ (k0_h29 : k0_cond29 v366 = 1#1), ∀ (hinb : ∀ a, (k0_off146 v21 k0_t4) a + S1x1x16x5120.size a ≤ S4x8x16x5120.size a), (Rect.unit (s := S4x8x16x5120) (k0_off146 v21 k0_t4) S1x1x16x5120.size hinb).WholeWords (EltTy.packing .bf16)) ∧
  (∀ (k0_h27 : k0_cond27 v21 k0_t4 = 1#1), ∀ (k0_h29 : k0_cond29 v366 = 1#1), ∀ a, (k0_off148 v21 k0_t4) a + S1x1x16x768.size a ≤ S4x8x16x768.size a) ∧
  (∀ (k0_h27 : k0_cond27 v21 k0_t4 = 1#1), ∀ (k0_h29 : k0_cond29 v366 = 1#1), ∀ a, (k0_off149 v357) a + S1x16x768.size a ≤ S256x16x768.size a) ∧
  (∀ (k0_h27 : k0_cond27 v21 k0_t4 = 1#1), ∀ (k0_h29 : k0_cond29 v366 = 1#1), ∀ (hinb : ∀ a, (k0_off149 v357) a + S1x16x768.size a ≤ S256x16x768.size a), (Rect.unit (s := S256x16x768) (k0_off149 v357) S1x16x768.size hinb).WholeWords (EltTy.packing .bf16)) ∧
  (∀ (k0_h27 : k0_cond27 v21 k0_t4 = 1#1), ∀ (k0_h29 : k0_cond29 v366 = 1#1), ∀ (hinb : ∀ a, (k0_off148 v21 k0_t4) a + S1x1x16x768.size a ≤ S4x8x16x768.size a), (Rect.unit (s := S4x8x16x768) (k0_off148 v21 k0_t4) S1x1x16x768.size hinb).WholeWords (EltTy.packing .bf16)) ∧
  (∀ (k0_h27 : k0_cond27 v21 k0_t4 = 1#1), ∀ (k0_h30 : k0_cond30 v366 = 1#1), ∀ a, (k0_off150 v21 k0_t4) a + S1.size a ≤ S4.size a) ∧
  (∀ (k0_h27 : k0_cond27 v21 k0_t4 = 1#1), ∀ (k0_h30 : k0_cond30 v366 = 1#1), ∀ a, (k0_off151 v21 k0_t4) a + S1x1x16x5120.size a ≤ S4x8x16x5120.size a) ∧
  (∀ (k0_h27 : k0_cond27 v21 k0_t4 = 1#1), ∀ (k0_h30 : k0_cond30 v366 = 1#1), ∀ a, (k0_off152 v357) a + S1x16x5120.size a ≤ S256x16x5120.size a) ∧
  (∀ (k0_h27 : k0_cond27 v21 k0_t4 = 1#1), ∀ (k0_h30 : k0_cond30 v366 = 1#1), ∀ (hinb : ∀ a, (k0_off152 v357) a + S1x16x5120.size a ≤ S256x16x5120.size a), (Rect.unit (s := S256x16x5120) (k0_off152 v357) S1x16x5120.size hinb).WholeWords (EltTy.packing .bf16)) ∧
  (∀ (k0_h27 : k0_cond27 v21 k0_t4 = 1#1), ∀ (k0_h30 : k0_cond30 v366 = 1#1), ∀ (hinb : ∀ a, (k0_off151 v21 k0_t4) a + S1x1x16x5120.size a ≤ S4x8x16x5120.size a), (Rect.unit (s := S4x8x16x5120) (k0_off151 v21 k0_t4) S1x1x16x5120.size hinb).WholeWords (EltTy.packing .bf16)) ∧
  (∀ (k0_h27 : k0_cond27 v21 k0_t4 = 1#1), ∀ (k0_h30 : k0_cond30 v366 = 1#1), ∀ a, (k0_off153 v21 k0_t4) a + S1x1x16x768.size a ≤ S4x8x16x768.size a) ∧
  (∀ (k0_h27 : k0_cond27 v21 k0_t4 = 1#1), ∀ (k0_h30 : k0_cond30 v366 = 1#1), ∀ a, (k0_off154 v357) a + S1x16x768.size a ≤ S256x16x768.size a) ∧
  (∀ (k0_h27 : k0_cond27 v21 k0_t4 = 1#1), ∀ (k0_h30 : k0_cond30 v366 = 1#1), ∀ (hinb : ∀ a, (k0_off154 v357) a + S1x16x768.size a ≤ S256x16x768.size a), (Rect.unit (s := S256x16x768) (k0_off154 v357) S1x16x768.size hinb).WholeWords (EltTy.packing .bf16)) ∧
  (∀ (k0_h27 : k0_cond27 v21 k0_t4 = 1#1), ∀ (k0_h30 : k0_cond30 v366 = 1#1), ∀ (hinb : ∀ a, (k0_off153 v21 k0_t4) a + S1x1x16x768.size a ≤ S4x8x16x768.size a), (Rect.unit (s := S4x8x16x768) (k0_off153 v21 k0_t4) S1x1x16x768.size hinb).WholeWords (EltTy.packing .bf16)) ∧
  (∀ (k0_h27 : k0_cond27 v21 k0_t4 = 1#1), ∀ (k0_h31 : k0_cond31 v366 = 1#1), ∀ a, (k0_off155 v21 k0_t4) a + S1.size a ≤ S4.size a) ∧
  (∀ (k0_h27 : k0_cond27 v21 k0_t4 = 1#1), ∀ (k0_h31 : k0_cond31 v366 = 1#1), ∀ a, (k0_off156 v21 k0_t4) a + S1x1x16x5120.size a ≤ S4x8x16x5120.size a) ∧
  (∀ (k0_h27 : k0_cond27 v21 k0_t4 = 1#1), ∀ (k0_h31 : k0_cond31 v366 = 1#1), ∀ a, (k0_off157 v357) a + S1x16x5120.size a ≤ S256x16x5120.size a) ∧
  (∀ (k0_h27 : k0_cond27 v21 k0_t4 = 1#1), ∀ (k0_h31 : k0_cond31 v366 = 1#1), ∀ (hinb : ∀ a, (k0_off157 v357) a + S1x16x5120.size a ≤ S256x16x5120.size a), (Rect.unit (s := S256x16x5120) (k0_off157 v357) S1x16x5120.size hinb).WholeWords (EltTy.packing .bf16)) ∧
  (∀ (k0_h27 : k0_cond27 v21 k0_t4 = 1#1), ∀ (k0_h31 : k0_cond31 v366 = 1#1), ∀ (hinb : ∀ a, (k0_off156 v21 k0_t4) a + S1x1x16x5120.size a ≤ S4x8x16x5120.size a), (Rect.unit (s := S4x8x16x5120) (k0_off156 v21 k0_t4) S1x1x16x5120.size hinb).WholeWords (EltTy.packing .bf16))
def k0_chk18_1 (v21 : BitVec 32) (k0_t4 : Fin (k0_t4_loop v21).trips) (v357 : BitVec 32) (v366 : BitVec 32) : Prop :=
  (∀ (k0_h27 : k0_cond27 v21 k0_t4 = 1#1), ∀ (k0_h31 : k0_cond31 v366 = 1#1), ∀ a, (k0_off158 v21 k0_t4) a + S1x1x16x768.size a ≤ S4x8x16x768.size a) ∧
  (∀ (k0_h27 : k0_cond27 v21 k0_t4 = 1#1), ∀ (k0_h31 : k0_cond31 v366 = 1#1), ∀ a, (k0_off159 v357) a + S1x16x768.size a ≤ S256x16x768.size a) ∧
  (∀ (k0_h27 : k0_cond27 v21 k0_t4 = 1#1), ∀ (k0_h31 : k0_cond31 v366 = 1#1), ∀ (hinb : ∀ a, (k0_off159 v357) a + S1x16x768.size a ≤ S256x16x768.size a), (Rect.unit (s := S256x16x768) (k0_off159 v357) S1x16x768.size hinb).WholeWords (EltTy.packing .bf16)) ∧
  (∀ (k0_h27 : k0_cond27 v21 k0_t4 = 1#1), ∀ (k0_h31 : k0_cond31 v366 = 1#1), ∀ (hinb : ∀ a, (k0_off158 v21 k0_t4) a + S1x1x16x768.size a ≤ S4x8x16x768.size a), (Rect.unit (s := S4x8x16x768) (k0_off158 v21 k0_t4) S1x1x16x768.size hinb).WholeWords (EltTy.packing .bf16)) ∧
  (∀ (k0_h27 : k0_cond27 v21 k0_t4 = 1#1), ∀ (k0_h32 : k0_cond32 v366 = 1#1), ∀ a, (k0_off160 v21 k0_t4) a + S1.size a ≤ S4.size a) ∧
  (∀ (k0_h27 : k0_cond27 v21 k0_t4 = 1#1), ∀ (k0_h32 : k0_cond32 v366 = 1#1), ∀ a, (k0_off161 v21 k0_t4) a + S1x1x16x5120.size a ≤ S4x8x16x5120.size a) ∧
  (∀ (k0_h27 : k0_cond27 v21 k0_t4 = 1#1), ∀ (k0_h32 : k0_cond32 v366 = 1#1), ∀ a, (k0_off162 v357) a + S1x16x5120.size a ≤ S256x16x5120.size a) ∧
  (∀ (k0_h27 : k0_cond27 v21 k0_t4 = 1#1), ∀ (k0_h32 : k0_cond32 v366 = 1#1), ∀ (hinb : ∀ a, (k0_off162 v357) a + S1x16x5120.size a ≤ S256x16x5120.size a), (Rect.unit (s := S256x16x5120) (k0_off162 v357) S1x16x5120.size hinb).WholeWords (EltTy.packing .bf16)) ∧
  (∀ (k0_h27 : k0_cond27 v21 k0_t4 = 1#1), ∀ (k0_h32 : k0_cond32 v366 = 1#1), ∀ (hinb : ∀ a, (k0_off161 v21 k0_t4) a + S1x1x16x5120.size a ≤ S4x8x16x5120.size a), (Rect.unit (s := S4x8x16x5120) (k0_off161 v21 k0_t4) S1x1x16x5120.size hinb).WholeWords (EltTy.packing .bf16)) ∧
  (∀ (k0_h27 : k0_cond27 v21 k0_t4 = 1#1), ∀ (k0_h32 : k0_cond32 v366 = 1#1), ∀ a, (k0_off163 v21 k0_t4) a + S1x1x16x768.size a ≤ S4x8x16x768.size a) ∧
  (∀ (k0_h27 : k0_cond27 v21 k0_t4 = 1#1), ∀ (k0_h32 : k0_cond32 v366 = 1#1), ∀ a, (k0_off164 v357) a + S1x16x768.size a ≤ S256x16x768.size a) ∧
  (∀ (k0_h27 : k0_cond27 v21 k0_t4 = 1#1), ∀ (k0_h32 : k0_cond32 v366 = 1#1), ∀ (hinb : ∀ a, (k0_off164 v357) a + S1x16x768.size a ≤ S256x16x768.size a), (Rect.unit (s := S256x16x768) (k0_off164 v357) S1x16x768.size hinb).WholeWords (EltTy.packing .bf16)) ∧
  (∀ (k0_h27 : k0_cond27 v21 k0_t4 = 1#1), ∀ (k0_h32 : k0_cond32 v366 = 1#1), ∀ (hinb : ∀ a, (k0_off163 v21 k0_t4) a + S1x1x16x768.size a ≤ S4x8x16x768.size a), (Rect.unit (s := S4x8x16x768) (k0_off163 v21 k0_t4) S1x1x16x768.size hinb).WholeWords (EltTy.packing .bf16)) ∧
  (∀ (k0_h27 : k0_cond27 v21 k0_t4 = 1#1), ∀ (k0_h33 : k0_cond33 v366 = 1#1), ∀ a, (k0_off165 v21 k0_t4) a + S1.size a ≤ S4.size a) ∧
  (∀ (k0_h27 : k0_cond27 v21 k0_t4 = 1#1), ∀ (k0_h33 : k0_cond33 v366 = 1#1), ∀ a, (k0_off166 v21 k0_t4) a + S1x1x16x5120.size a ≤ S4x8x16x5120.size a) ∧
  (∀ (k0_h27 : k0_cond27 v21 k0_t4 = 1#1), ∀ (k0_h33 : k0_cond33 v366 = 1#1), ∀ a, (k0_off167 v357) a + S1x16x5120.size a ≤ S256x16x5120.size a) ∧
  (∀ (k0_h27 : k0_cond27 v21 k0_t4 = 1#1), ∀ (k0_h33 : k0_cond33 v366 = 1#1), ∀ (hinb : ∀ a, (k0_off167 v357) a + S1x16x5120.size a ≤ S256x16x5120.size a), (Rect.unit (s := S256x16x5120) (k0_off167 v357) S1x16x5120.size hinb).WholeWords (EltTy.packing .bf16)) ∧
  (∀ (k0_h27 : k0_cond27 v21 k0_t4 = 1#1), ∀ (k0_h33 : k0_cond33 v366 = 1#1), ∀ (hinb : ∀ a, (k0_off166 v21 k0_t4) a + S1x1x16x5120.size a ≤ S4x8x16x5120.size a), (Rect.unit (s := S4x8x16x5120) (k0_off166 v21 k0_t4) S1x1x16x5120.size hinb).WholeWords (EltTy.packing .bf16)) ∧
  (∀ (k0_h27 : k0_cond27 v21 k0_t4 = 1#1), ∀ (k0_h33 : k0_cond33 v366 = 1#1), ∀ a, (k0_off168 v21 k0_t4) a + S1x1x16x768.size a ≤ S4x8x16x768.size a) ∧
  (∀ (k0_h27 : k0_cond27 v21 k0_t4 = 1#1), ∀ (k0_h33 : k0_cond33 v366 = 1#1), ∀ a, (k0_off169 v357) a + S1x16x768.size a ≤ S256x16x768.size a) ∧
  (∀ (k0_h27 : k0_cond27 v21 k0_t4 = 1#1), ∀ (k0_h33 : k0_cond33 v366 = 1#1), ∀ (hinb : ∀ a, (k0_off169 v357) a + S1x16x768.size a ≤ S256x16x768.size a), (Rect.unit (s := S256x16x768) (k0_off169 v357) S1x16x768.size hinb).WholeWords (EltTy.packing .bf16)) ∧
  (∀ (k0_h27 : k0_cond27 v21 k0_t4 = 1#1), ∀ (k0_h33 : k0_cond33 v366 = 1#1), ∀ (hinb : ∀ a, (k0_off168 v21 k0_t4) a + S1x1x16x768.size a ≤ S4x8x16x768.size a), (Rect.unit (s := S4x8x16x768) (k0_off168 v21 k0_t4) S1x1x16x768.size hinb).WholeWords (EltTy.packing .bf16)) ∧
  (∀ (k0_h27 : k0_cond27 v21 k0_t4 = 1#1), ∀ (k0_h34 : k0_cond34 v366 = 1#1), ∀ a, (k0_off170 v21 k0_t4) a + S1.size a ≤ S4.size a) ∧
  (∀ (k0_h27 : k0_cond27 v21 k0_t4 = 1#1), ∀ (k0_h34 : k0_cond34 v366 = 1#1), ∀ a, (k0_off171 v21 k0_t4) a + S1x1x16x5120.size a ≤ S4x8x16x5120.size a) ∧
  (∀ (k0_h27 : k0_cond27 v21 k0_t4 = 1#1), ∀ (k0_h34 : k0_cond34 v366 = 1#1), ∀ a, (k0_off172 v357) a + S1x16x5120.size a ≤ S256x16x5120.size a) ∧
  (∀ (k0_h27 : k0_cond27 v21 k0_t4 = 1#1), ∀ (k0_h34 : k0_cond34 v366 = 1#1), ∀ (hinb : ∀ a, (k0_off172 v357) a + S1x16x5120.size a ≤ S256x16x5120.size a), (Rect.unit (s := S256x16x5120) (k0_off172 v357) S1x16x5120.size hinb).WholeWords (EltTy.packing .bf16)) ∧
  (∀ (k0_h27 : k0_cond27 v21 k0_t4 = 1#1), ∀ (k0_h34 : k0_cond34 v366 = 1#1), ∀ (hinb : ∀ a, (k0_off171 v21 k0_t4) a + S1x1x16x5120.size a ≤ S4x8x16x5120.size a), (Rect.unit (s := S4x8x16x5120) (k0_off171 v21 k0_t4) S1x1x16x5120.size hinb).WholeWords (EltTy.packing .bf16)) ∧
  (∀ (k0_h27 : k0_cond27 v21 k0_t4 = 1#1), ∀ (k0_h34 : k0_cond34 v366 = 1#1), ∀ a, (k0_off173 v21 k0_t4) a + S1x1x16x768.size a ≤ S4x8x16x768.size a) ∧
  (∀ (k0_h27 : k0_cond27 v21 k0_t4 = 1#1), ∀ (k0_h34 : k0_cond34 v366 = 1#1), ∀ a, (k0_off174 v357) a + S1x16x768.size a ≤ S256x16x768.size a) ∧
  (∀ (k0_h27 : k0_cond27 v21 k0_t4 = 1#1), ∀ (k0_h34 : k0_cond34 v366 = 1#1), ∀ (hinb : ∀ a, (k0_off174 v357) a + S1x16x768.size a ≤ S256x16x768.size a), (Rect.unit (s := S256x16x768) (k0_off174 v357) S1x16x768.size hinb).WholeWords (EltTy.packing .bf16)) ∧
  (∀ (k0_h27 : k0_cond27 v21 k0_t4 = 1#1), ∀ (k0_h34 : k0_cond34 v366 = 1#1), ∀ (hinb : ∀ a, (k0_off173 v21 k0_t4) a + S1x1x16x768.size a ≤ S4x8x16x768.size a), (Rect.unit (s := S4x8x16x768) (k0_off173 v21 k0_t4) S1x1x16x768.size hinb).WholeWords (EltTy.packing .bf16)) ∧
  (∀ (k0_h27 : k0_cond27 v21 k0_t4 = 1#1), ∀ (k0_h35 : k0_cond35 v366 = 1#1), ∀ a, (k0_off175 v21 k0_t4) a + S1.size a ≤ S4.size a)
def k0_chk18_2 (v21 : BitVec 32) (k0_t4 : Fin (k0_t4_loop v21).trips) (v357 : BitVec 32) (v366 : BitVec 32) : Prop :=
  (∀ (k0_h27 : k0_cond27 v21 k0_t4 = 1#1), ∀ (k0_h35 : k0_cond35 v366 = 1#1), ∀ a, (k0_off176 v21 k0_t4) a + S1x1x16x5120.size a ≤ S4x8x16x5120.size a) ∧
  (∀ (k0_h27 : k0_cond27 v21 k0_t4 = 1#1), ∀ (k0_h35 : k0_cond35 v366 = 1#1), ∀ a, (k0_off177 v357) a + S1x16x5120.size a ≤ S256x16x5120.size a) ∧
  (∀ (k0_h27 : k0_cond27 v21 k0_t4 = 1#1), ∀ (k0_h35 : k0_cond35 v366 = 1#1), ∀ (hinb : ∀ a, (k0_off177 v357) a + S1x16x5120.size a ≤ S256x16x5120.size a), (Rect.unit (s := S256x16x5120) (k0_off177 v357) S1x16x5120.size hinb).WholeWords (EltTy.packing .bf16)) ∧
  (∀ (k0_h27 : k0_cond27 v21 k0_t4 = 1#1), ∀ (k0_h35 : k0_cond35 v366 = 1#1), ∀ (hinb : ∀ a, (k0_off176 v21 k0_t4) a + S1x1x16x5120.size a ≤ S4x8x16x5120.size a), (Rect.unit (s := S4x8x16x5120) (k0_off176 v21 k0_t4) S1x1x16x5120.size hinb).WholeWords (EltTy.packing .bf16)) ∧
  (∀ (k0_h27 : k0_cond27 v21 k0_t4 = 1#1), ∀ (k0_h35 : k0_cond35 v366 = 1#1), ∀ a, (k0_off178 v21 k0_t4) a + S1x1x16x768.size a ≤ S4x8x16x768.size a) ∧
  (∀ (k0_h27 : k0_cond27 v21 k0_t4 = 1#1), ∀ (k0_h35 : k0_cond35 v366 = 1#1), ∀ a, (k0_off179 v357) a + S1x16x768.size a ≤ S256x16x768.size a) ∧
  (∀ (k0_h27 : k0_cond27 v21 k0_t4 = 1#1), ∀ (k0_h35 : k0_cond35 v366 = 1#1), ∀ (hinb : ∀ a, (k0_off179 v357) a + S1x16x768.size a ≤ S256x16x768.size a), (Rect.unit (s := S256x16x768) (k0_off179 v357) S1x16x768.size hinb).WholeWords (EltTy.packing .bf16)) ∧
  (∀ (k0_h27 : k0_cond27 v21 k0_t4 = 1#1), ∀ (k0_h35 : k0_cond35 v366 = 1#1), ∀ (hinb : ∀ a, (k0_off178 v21 k0_t4) a + S1x1x16x768.size a ≤ S4x8x16x768.size a), (Rect.unit (s := S4x8x16x768) (k0_off178 v21 k0_t4) S1x1x16x768.size hinb).WholeWords (EltTy.packing .bf16))
def k0_chk18 (v21 : BitVec 32) (k0_t4 : Fin (k0_t4_loop v21).trips) (v357 : BitVec 32) (v366 : BitVec 32) : Prop :=
  k0_chk18_0 v21 k0_t4 v357 v366 ∧
  k0_chk18_1 v21 k0_t4 v357 v366 ∧
  k0_chk18_2 v21 k0_t4 v357 v366
theorem k0_off140_inb : ∀ (v21 : BitVec 32) (k0_t4 : Fin (k0_t4_loop v21).trips) (v357 : BitVec 32) (v366 : BitVec 32) (k0_hw18 : k0_chk18 v21 k0_t4 v357 v366), ∀ (k0_h27 : k0_cond27 v21 k0_t4 = 1#1), ∀ (k0_h28 : k0_cond28 v366 = 1#1), ∀ a, (k0_off140 v21 k0_t4) a + S1.size a ≤ S4.size a := fun v21 k0_t4 v357 v366 k0_hw18 k0_h27 k0_h28 => k0_hw18.1.1 k0_h27 k0_h28
theorem k0_off141_inb : ∀ (v21 : BitVec 32) (k0_t4 : Fin (k0_t4_loop v21).trips) (v357 : BitVec 32) (v366 : BitVec 32) (k0_hw18 : k0_chk18 v21 k0_t4 v357 v366), ∀ (k0_h27 : k0_cond27 v21 k0_t4 = 1#1), ∀ (k0_h28 : k0_cond28 v366 = 1#1), ∀ a, (k0_off141 v21 k0_t4) a + S1x1x16x5120.size a ≤ S4x8x16x5120.size a := fun v21 k0_t4 v357 v366 k0_hw18 k0_h27 k0_h28 => k0_hw18.1.2.1 k0_h27 k0_h28
theorem k0_off142_inb : ∀ (v21 : BitVec 32) (k0_t4 : Fin (k0_t4_loop v21).trips) (v357 : BitVec 32) (v366 : BitVec 32) (k0_hw18 : k0_chk18 v21 k0_t4 v357 v366), ∀ (k0_h27 : k0_cond27 v21 k0_t4 = 1#1), ∀ (k0_h28 : k0_cond28 v366 = 1#1), ∀ a, (k0_off142 v357) a + S1x16x5120.size a ≤ S256x16x5120.size a := fun v21 k0_t4 v357 v366 k0_hw18 k0_h27 k0_h28 => k0_hw18.1.2.2.1 k0_h27 k0_h28
theorem k0_off142_wordsbf16 : ∀ (v21 : BitVec 32) (k0_t4 : Fin (k0_t4_loop v21).trips) (v357 : BitVec 32) (v366 : BitVec 32) (k0_hw18 : k0_chk18 v21 k0_t4 v357 v366), ∀ (k0_h27 : k0_cond27 v21 k0_t4 = 1#1), ∀ (k0_h28 : k0_cond28 v366 = 1#1), (Rect.unit (s := S256x16x5120) (k0_off142 v357) S1x16x5120.size (k0_off142_inb v21 k0_t4 v357 v366 k0_hw18 k0_h27 k0_h28)).WholeWords (EltTy.packing .bf16) := fun v21 k0_t4 v357 v366 k0_hw18 k0_h27 k0_h28 => k0_hw18.1.2.2.2.1 k0_h27 k0_h28 (k0_off142_inb v21 k0_t4 v357 v366 k0_hw18 k0_h27 k0_h28)
theorem k0_off141_wordsbf16 : ∀ (v21 : BitVec 32) (k0_t4 : Fin (k0_t4_loop v21).trips) (v357 : BitVec 32) (v366 : BitVec 32) (k0_hw18 : k0_chk18 v21 k0_t4 v357 v366), ∀ (k0_h27 : k0_cond27 v21 k0_t4 = 1#1), ∀ (k0_h28 : k0_cond28 v366 = 1#1), (Rect.unit (s := S4x8x16x5120) (k0_off141 v21 k0_t4) S1x1x16x5120.size (k0_off141_inb v21 k0_t4 v357 v366 k0_hw18 k0_h27 k0_h28)).WholeWords (EltTy.packing .bf16) := fun v21 k0_t4 v357 v366 k0_hw18 k0_h27 k0_h28 => k0_hw18.1.2.2.2.2.1 k0_h27 k0_h28 (k0_off141_inb v21 k0_t4 v357 v366 k0_hw18 k0_h27 k0_h28)
theorem k0_off143_inb : ∀ (v21 : BitVec 32) (k0_t4 : Fin (k0_t4_loop v21).trips) (v357 : BitVec 32) (v366 : BitVec 32) (k0_hw18 : k0_chk18 v21 k0_t4 v357 v366), ∀ (k0_h27 : k0_cond27 v21 k0_t4 = 1#1), ∀ (k0_h28 : k0_cond28 v366 = 1#1), ∀ a, (k0_off143 v21 k0_t4) a + S1x1x16x768.size a ≤ S4x8x16x768.size a := fun v21 k0_t4 v357 v366 k0_hw18 k0_h27 k0_h28 => k0_hw18.1.2.2.2.2.2.1 k0_h27 k0_h28
theorem k0_off144_inb : ∀ (v21 : BitVec 32) (k0_t4 : Fin (k0_t4_loop v21).trips) (v357 : BitVec 32) (v366 : BitVec 32) (k0_hw18 : k0_chk18 v21 k0_t4 v357 v366), ∀ (k0_h27 : k0_cond27 v21 k0_t4 = 1#1), ∀ (k0_h28 : k0_cond28 v366 = 1#1), ∀ a, (k0_off144 v357) a + S1x16x768.size a ≤ S256x16x768.size a := fun v21 k0_t4 v357 v366 k0_hw18 k0_h27 k0_h28 => k0_hw18.1.2.2.2.2.2.2.1 k0_h27 k0_h28
theorem k0_off144_wordsbf16 : ∀ (v21 : BitVec 32) (k0_t4 : Fin (k0_t4_loop v21).trips) (v357 : BitVec 32) (v366 : BitVec 32) (k0_hw18 : k0_chk18 v21 k0_t4 v357 v366), ∀ (k0_h27 : k0_cond27 v21 k0_t4 = 1#1), ∀ (k0_h28 : k0_cond28 v366 = 1#1), (Rect.unit (s := S256x16x768) (k0_off144 v357) S1x16x768.size (k0_off144_inb v21 k0_t4 v357 v366 k0_hw18 k0_h27 k0_h28)).WholeWords (EltTy.packing .bf16) := fun v21 k0_t4 v357 v366 k0_hw18 k0_h27 k0_h28 => k0_hw18.1.2.2.2.2.2.2.2.1 k0_h27 k0_h28 (k0_off144_inb v21 k0_t4 v357 v366 k0_hw18 k0_h27 k0_h28)
theorem k0_off143_wordsbf16 : ∀ (v21 : BitVec 32) (k0_t4 : Fin (k0_t4_loop v21).trips) (v357 : BitVec 32) (v366 : BitVec 32) (k0_hw18 : k0_chk18 v21 k0_t4 v357 v366), ∀ (k0_h27 : k0_cond27 v21 k0_t4 = 1#1), ∀ (k0_h28 : k0_cond28 v366 = 1#1), (Rect.unit (s := S4x8x16x768) (k0_off143 v21 k0_t4) S1x1x16x768.size (k0_off143_inb v21 k0_t4 v357 v366 k0_hw18 k0_h27 k0_h28)).WholeWords (EltTy.packing .bf16) := fun v21 k0_t4 v357 v366 k0_hw18 k0_h27 k0_h28 => k0_hw18.1.2.2.2.2.2.2.2.2.1 k0_h27 k0_h28 (k0_off143_inb v21 k0_t4 v357 v366 k0_hw18 k0_h27 k0_h28)
theorem k0_off145_inb : ∀ (v21 : BitVec 32) (k0_t4 : Fin (k0_t4_loop v21).trips) (v357 : BitVec 32) (v366 : BitVec 32) (k0_hw18 : k0_chk18 v21 k0_t4 v357 v366), ∀ (k0_h27 : k0_cond27 v21 k0_t4 = 1#1), ∀ (k0_h29 : k0_cond29 v366 = 1#1), ∀ a, (k0_off145 v21 k0_t4) a + S1.size a ≤ S4.size a := fun v21 k0_t4 v357 v366 k0_hw18 k0_h27 k0_h29 => k0_hw18.1.2.2.2.2.2.2.2.2.2.1 k0_h27 k0_h29
theorem k0_off146_inb : ∀ (v21 : BitVec 32) (k0_t4 : Fin (k0_t4_loop v21).trips) (v357 : BitVec 32) (v366 : BitVec 32) (k0_hw18 : k0_chk18 v21 k0_t4 v357 v366), ∀ (k0_h27 : k0_cond27 v21 k0_t4 = 1#1), ∀ (k0_h29 : k0_cond29 v366 = 1#1), ∀ a, (k0_off146 v21 k0_t4) a + S1x1x16x5120.size a ≤ S4x8x16x5120.size a := fun v21 k0_t4 v357 v366 k0_hw18 k0_h27 k0_h29 => k0_hw18.1.2.2.2.2.2.2.2.2.2.2.1 k0_h27 k0_h29
theorem k0_off147_inb : ∀ (v21 : BitVec 32) (k0_t4 : Fin (k0_t4_loop v21).trips) (v357 : BitVec 32) (v366 : BitVec 32) (k0_hw18 : k0_chk18 v21 k0_t4 v357 v366), ∀ (k0_h27 : k0_cond27 v21 k0_t4 = 1#1), ∀ (k0_h29 : k0_cond29 v366 = 1#1), ∀ a, (k0_off147 v357) a + S1x16x5120.size a ≤ S256x16x5120.size a := fun v21 k0_t4 v357 v366 k0_hw18 k0_h27 k0_h29 => k0_hw18.1.2.2.2.2.2.2.2.2.2.2.2.1 k0_h27 k0_h29
theorem k0_off147_wordsbf16 : ∀ (v21 : BitVec 32) (k0_t4 : Fin (k0_t4_loop v21).trips) (v357 : BitVec 32) (v366 : BitVec 32) (k0_hw18 : k0_chk18 v21 k0_t4 v357 v366), ∀ (k0_h27 : k0_cond27 v21 k0_t4 = 1#1), ∀ (k0_h29 : k0_cond29 v366 = 1#1), (Rect.unit (s := S256x16x5120) (k0_off147 v357) S1x16x5120.size (k0_off147_inb v21 k0_t4 v357 v366 k0_hw18 k0_h27 k0_h29)).WholeWords (EltTy.packing .bf16) := fun v21 k0_t4 v357 v366 k0_hw18 k0_h27 k0_h29 => k0_hw18.1.2.2.2.2.2.2.2.2.2.2.2.2.1 k0_h27 k0_h29 (k0_off147_inb v21 k0_t4 v357 v366 k0_hw18 k0_h27 k0_h29)
theorem k0_off146_wordsbf16 : ∀ (v21 : BitVec 32) (k0_t4 : Fin (k0_t4_loop v21).trips) (v357 : BitVec 32) (v366 : BitVec 32) (k0_hw18 : k0_chk18 v21 k0_t4 v357 v366), ∀ (k0_h27 : k0_cond27 v21 k0_t4 = 1#1), ∀ (k0_h29 : k0_cond29 v366 = 1#1), (Rect.unit (s := S4x8x16x5120) (k0_off146 v21 k0_t4) S1x1x16x5120.size (k0_off146_inb v21 k0_t4 v357 v366 k0_hw18 k0_h27 k0_h29)).WholeWords (EltTy.packing .bf16) := fun v21 k0_t4 v357 v366 k0_hw18 k0_h27 k0_h29 => k0_hw18.1.2.2.2.2.2.2.2.2.2.2.2.2.2.1 k0_h27 k0_h29 (k0_off146_inb v21 k0_t4 v357 v366 k0_hw18 k0_h27 k0_h29)
theorem k0_off148_inb : ∀ (v21 : BitVec 32) (k0_t4 : Fin (k0_t4_loop v21).trips) (v357 : BitVec 32) (v366 : BitVec 32) (k0_hw18 : k0_chk18 v21 k0_t4 v357 v366), ∀ (k0_h27 : k0_cond27 v21 k0_t4 = 1#1), ∀ (k0_h29 : k0_cond29 v366 = 1#1), ∀ a, (k0_off148 v21 k0_t4) a + S1x1x16x768.size a ≤ S4x8x16x768.size a := fun v21 k0_t4 v357 v366 k0_hw18 k0_h27 k0_h29 => k0_hw18.1.2.2.2.2.2.2.2.2.2.2.2.2.2.2.1 k0_h27 k0_h29
theorem k0_off149_inb : ∀ (v21 : BitVec 32) (k0_t4 : Fin (k0_t4_loop v21).trips) (v357 : BitVec 32) (v366 : BitVec 32) (k0_hw18 : k0_chk18 v21 k0_t4 v357 v366), ∀ (k0_h27 : k0_cond27 v21 k0_t4 = 1#1), ∀ (k0_h29 : k0_cond29 v366 = 1#1), ∀ a, (k0_off149 v357) a + S1x16x768.size a ≤ S256x16x768.size a := fun v21 k0_t4 v357 v366 k0_hw18 k0_h27 k0_h29 => k0_hw18.1.2.2.2.2.2.2.2.2.2.2.2.2.2.2.2.1 k0_h27 k0_h29
theorem k0_off149_wordsbf16 : ∀ (v21 : BitVec 32) (k0_t4 : Fin (k0_t4_loop v21).trips) (v357 : BitVec 32) (v366 : BitVec 32) (k0_hw18 : k0_chk18 v21 k0_t4 v357 v366), ∀ (k0_h27 : k0_cond27 v21 k0_t4 = 1#1), ∀ (k0_h29 : k0_cond29 v366 = 1#1), (Rect.unit (s := S256x16x768) (k0_off149 v357) S1x16x768.size (k0_off149_inb v21 k0_t4 v357 v366 k0_hw18 k0_h27 k0_h29)).WholeWords (EltTy.packing .bf16) := fun v21 k0_t4 v357 v366 k0_hw18 k0_h27 k0_h29 => k0_hw18.1.2.2.2.2.2.2.2.2.2.2.2.2.2.2.2.2.1 k0_h27 k0_h29 (k0_off149_inb v21 k0_t4 v357 v366 k0_hw18 k0_h27 k0_h29)
theorem k0_off148_wordsbf16 : ∀ (v21 : BitVec 32) (k0_t4 : Fin (k0_t4_loop v21).trips) (v357 : BitVec 32) (v366 : BitVec 32) (k0_hw18 : k0_chk18 v21 k0_t4 v357 v366), ∀ (k0_h27 : k0_cond27 v21 k0_t4 = 1#1), ∀ (k0_h29 : k0_cond29 v366 = 1#1), (Rect.unit (s := S4x8x16x768) (k0_off148 v21 k0_t4) S1x1x16x768.size (k0_off148_inb v21 k0_t4 v357 v366 k0_hw18 k0_h27 k0_h29)).WholeWords (EltTy.packing .bf16) := fun v21 k0_t4 v357 v366 k0_hw18 k0_h27 k0_h29 => k0_hw18.1.2.2.2.2.2.2.2.2.2.2.2.2.2.2.2.2.2.1 k0_h27 k0_h29 (k0_off148_inb v21 k0_t4 v357 v366 k0_hw18 k0_h27 k0_h29)
theorem k0_off150_inb : ∀ (v21 : BitVec 32) (k0_t4 : Fin (k0_t4_loop v21).trips) (v357 : BitVec 32) (v366 : BitVec 32) (k0_hw18 : k0_chk18 v21 k0_t4 v357 v366), ∀ (k0_h27 : k0_cond27 v21 k0_t4 = 1#1), ∀ (k0_h30 : k0_cond30 v366 = 1#1), ∀ a, (k0_off150 v21 k0_t4) a + S1.size a ≤ S4.size a := fun v21 k0_t4 v357 v366 k0_hw18 k0_h27 k0_h30 => k0_hw18.1.2.2.2.2.2.2.2.2.2.2.2.2.2.2.2.2.2.2.1 k0_h27 k0_h30
theorem k0_off151_inb : ∀ (v21 : BitVec 32) (k0_t4 : Fin (k0_t4_loop v21).trips) (v357 : BitVec 32) (v366 : BitVec 32) (k0_hw18 : k0_chk18 v21 k0_t4 v357 v366), ∀ (k0_h27 : k0_cond27 v21 k0_t4 = 1#1), ∀ (k0_h30 : k0_cond30 v366 = 1#1), ∀ a, (k0_off151 v21 k0_t4) a + S1x1x16x5120.size a ≤ S4x8x16x5120.size a := fun v21 k0_t4 v357 v366 k0_hw18 k0_h27 k0_h30 => k0_hw18.1.2.2.2.2.2.2.2.2.2.2.2.2.2.2.2.2.2.2.2.1 k0_h27 k0_h30
theorem k0_off152_inb : ∀ (v21 : BitVec 32) (k0_t4 : Fin (k0_t4_loop v21).trips) (v357 : BitVec 32) (v366 : BitVec 32) (k0_hw18 : k0_chk18 v21 k0_t4 v357 v366), ∀ (k0_h27 : k0_cond27 v21 k0_t4 = 1#1), ∀ (k0_h30 : k0_cond30 v366 = 1#1), ∀ a, (k0_off152 v357) a + S1x16x5120.size a ≤ S256x16x5120.size a := fun v21 k0_t4 v357 v366 k0_hw18 k0_h27 k0_h30 => k0_hw18.1.2.2.2.2.2.2.2.2.2.2.2.2.2.2.2.2.2.2.2.2.1 k0_h27 k0_h30
theorem k0_off152_wordsbf16 : ∀ (v21 : BitVec 32) (k0_t4 : Fin (k0_t4_loop v21).trips) (v357 : BitVec 32) (v366 : BitVec 32) (k0_hw18 : k0_chk18 v21 k0_t4 v357 v366), ∀ (k0_h27 : k0_cond27 v21 k0_t4 = 1#1), ∀ (k0_h30 : k0_cond30 v366 = 1#1), (Rect.unit (s := S256x16x5120) (k0_off152 v357) S1x16x5120.size (k0_off152_inb v21 k0_t4 v357 v366 k0_hw18 k0_h27 k0_h30)).WholeWords (EltTy.packing .bf16) := fun v21 k0_t4 v357 v366 k0_hw18 k0_h27 k0_h30 => k0_hw18.1.2.2.2.2.2.2.2.2.2.2.2.2.2.2.2.2.2.2.2.2.2.1 k0_h27 k0_h30 (k0_off152_inb v21 k0_t4 v357 v366 k0_hw18 k0_h27 k0_h30)
theorem k0_off151_wordsbf16 : ∀ (v21 : BitVec 32) (k0_t4 : Fin (k0_t4_loop v21).trips) (v357 : BitVec 32) (v366 : BitVec 32) (k0_hw18 : k0_chk18 v21 k0_t4 v357 v366), ∀ (k0_h27 : k0_cond27 v21 k0_t4 = 1#1), ∀ (k0_h30 : k0_cond30 v366 = 1#1), (Rect.unit (s := S4x8x16x5120) (k0_off151 v21 k0_t4) S1x1x16x5120.size (k0_off151_inb v21 k0_t4 v357 v366 k0_hw18 k0_h27 k0_h30)).WholeWords (EltTy.packing .bf16) := fun v21 k0_t4 v357 v366 k0_hw18 k0_h27 k0_h30 => k0_hw18.1.2.2.2.2.2.2.2.2.2.2.2.2.2.2.2.2.2.2.2.2.2.2.1 k0_h27 k0_h30 (k0_off151_inb v21 k0_t4 v357 v366 k0_hw18 k0_h27 k0_h30)
theorem k0_off153_inb : ∀ (v21 : BitVec 32) (k0_t4 : Fin (k0_t4_loop v21).trips) (v357 : BitVec 32) (v366 : BitVec 32) (k0_hw18 : k0_chk18 v21 k0_t4 v357 v366), ∀ (k0_h27 : k0_cond27 v21 k0_t4 = 1#1), ∀ (k0_h30 : k0_cond30 v366 = 1#1), ∀ a, (k0_off153 v21 k0_t4) a + S1x1x16x768.size a ≤ S4x8x16x768.size a := fun v21 k0_t4 v357 v366 k0_hw18 k0_h27 k0_h30 => k0_hw18.1.2.2.2.2.2.2.2.2.2.2.2.2.2.2.2.2.2.2.2.2.2.2.2.1 k0_h27 k0_h30
theorem k0_off154_inb : ∀ (v21 : BitVec 32) (k0_t4 : Fin (k0_t4_loop v21).trips) (v357 : BitVec 32) (v366 : BitVec 32) (k0_hw18 : k0_chk18 v21 k0_t4 v357 v366), ∀ (k0_h27 : k0_cond27 v21 k0_t4 = 1#1), ∀ (k0_h30 : k0_cond30 v366 = 1#1), ∀ a, (k0_off154 v357) a + S1x16x768.size a ≤ S256x16x768.size a := fun v21 k0_t4 v357 v366 k0_hw18 k0_h27 k0_h30 => k0_hw18.1.2.2.2.2.2.2.2.2.2.2.2.2.2.2.2.2.2.2.2.2.2.2.2.2.1 k0_h27 k0_h30
theorem k0_off154_wordsbf16 : ∀ (v21 : BitVec 32) (k0_t4 : Fin (k0_t4_loop v21).trips) (v357 : BitVec 32) (v366 : BitVec 32) (k0_hw18 : k0_chk18 v21 k0_t4 v357 v366), ∀ (k0_h27 : k0_cond27 v21 k0_t4 = 1#1), ∀ (k0_h30 : k0_cond30 v366 = 1#1), (Rect.unit (s := S256x16x768) (k0_off154 v357) S1x16x768.size (k0_off154_inb v21 k0_t4 v357 v366 k0_hw18 k0_h27 k0_h30)).WholeWords (EltTy.packing .bf16) := fun v21 k0_t4 v357 v366 k0_hw18 k0_h27 k0_h30 => k0_hw18.1.2.2.2.2.2.2.2.2.2.2.2.2.2.2.2.2.2.2.2.2.2.2.2.2.2.1 k0_h27 k0_h30 (k0_off154_inb v21 k0_t4 v357 v366 k0_hw18 k0_h27 k0_h30)
theorem k0_off153_wordsbf16 : ∀ (v21 : BitVec 32) (k0_t4 : Fin (k0_t4_loop v21).trips) (v357 : BitVec 32) (v366 : BitVec 32) (k0_hw18 : k0_chk18 v21 k0_t4 v357 v366), ∀ (k0_h27 : k0_cond27 v21 k0_t4 = 1#1), ∀ (k0_h30 : k0_cond30 v366 = 1#1), (Rect.unit (s := S4x8x16x768) (k0_off153 v21 k0_t4) S1x1x16x768.size (k0_off153_inb v21 k0_t4 v357 v366 k0_hw18 k0_h27 k0_h30)).WholeWords (EltTy.packing .bf16) := fun v21 k0_t4 v357 v366 k0_hw18 k0_h27 k0_h30 => k0_hw18.1.2.2.2.2.2.2.2.2.2.2.2.2.2.2.2.2.2.2.2.2.2.2.2.2.2.2.1 k0_h27 k0_h30 (k0_off153_inb v21 k0_t4 v357 v366 k0_hw18 k0_h27 k0_h30)
theorem k0_off155_inb : ∀ (v21 : BitVec 32) (k0_t4 : Fin (k0_t4_loop v21).trips) (v357 : BitVec 32) (v366 : BitVec 32) (k0_hw18 : k0_chk18 v21 k0_t4 v357 v366), ∀ (k0_h27 : k0_cond27 v21 k0_t4 = 1#1), ∀ (k0_h31 : k0_cond31 v366 = 1#1), ∀ a, (k0_off155 v21 k0_t4) a + S1.size a ≤ S4.size a := fun v21 k0_t4 v357 v366 k0_hw18 k0_h27 k0_h31 => k0_hw18.1.2.2.2.2.2.2.2.2.2.2.2.2.2.2.2.2.2.2.2.2.2.2.2.2.2.2.2.1 k0_h27 k0_h31
theorem k0_off156_inb : ∀ (v21 : BitVec 32) (k0_t4 : Fin (k0_t4_loop v21).trips) (v357 : BitVec 32) (v366 : BitVec 32) (k0_hw18 : k0_chk18 v21 k0_t4 v357 v366), ∀ (k0_h27 : k0_cond27 v21 k0_t4 = 1#1), ∀ (k0_h31 : k0_cond31 v366 = 1#1), ∀ a, (k0_off156 v21 k0_t4) a + S1x1x16x5120.size a ≤ S4x8x16x5120.size a := fun v21 k0_t4 v357 v366 k0_hw18 k0_h27 k0_h31 => k0_hw18.1.2.2.2.2.2.2.2.2.2.2.2.2.2.2.2.2.2.2.2.2.2.2.2.2.2.2.2.2.1 k0_h27 k0_h31
theorem k0_off157_inb : ∀ (v21 : BitVec 32) (k0_t4 : Fin (k0_t4_loop v21).trips) (v357 : BitVec 32) (v366 : BitVec 32) (k0_hw18 : k0_chk18 v21 k0_t4 v357 v366), ∀ (k0_h27 : k0_cond27 v21 k0_t4 = 1#1), ∀ (k0_h31 : k0_cond31 v366 = 1#1), ∀ a, (k0_off157 v357) a + S1x16x5120.size a ≤ S256x16x5120.size a := fun v21 k0_t4 v357 v366 k0_hw18 k0_h27 k0_h31 => k0_hw18.1.2.2.2.2.2.2.2.2.2.2.2.2.2.2.2.2.2.2.2.2.2.2.2.2.2.2.2.2.2.1 k0_h27 k0_h31
theorem k0_off157_wordsbf16 : ∀ (v21 : BitVec 32) (k0_t4 : Fin (k0_t4_loop v21).trips) (v357 : BitVec 32) (v366 : BitVec 32) (k0_hw18 : k0_chk18 v21 k0_t4 v357 v366), ∀ (k0_h27 : k0_cond27 v21 k0_t4 = 1#1), ∀ (k0_h31 : k0_cond31 v366 = 1#1), (Rect.unit (s := S256x16x5120) (k0_off157 v357) S1x16x5120.size (k0_off157_inb v21 k0_t4 v357 v366 k0_hw18 k0_h27 k0_h31)).WholeWords (EltTy.packing .bf16) := fun v21 k0_t4 v357 v366 k0_hw18 k0_h27 k0_h31 => k0_hw18.1.2.2.2.2.2.2.2.2.2.2.2.2.2.2.2.2.2.2.2.2.2.2.2.2.2.2.2.2.2.2.1 k0_h27 k0_h31 (k0_off157_inb v21 k0_t4 v357 v366 k0_hw18 k0_h27 k0_h31)
theorem k0_off156_wordsbf16 : ∀ (v21 : BitVec 32) (k0_t4 : Fin (k0_t4_loop v21).trips) (v357 : BitVec 32) (v366 : BitVec 32) (k0_hw18 : k0_chk18 v21 k0_t4 v357 v366), ∀ (k0_h27 : k0_cond27 v21 k0_t4 = 1#1), ∀ (k0_h31 : k0_cond31 v366 = 1#1), (Rect.unit (s := S4x8x16x5120) (k0_off156 v21 k0_t4) S1x1x16x5120.size (k0_off156_inb v21 k0_t4 v357 v366 k0_hw18 k0_h27 k0_h31)).WholeWords (EltTy.packing .bf16) := fun v21 k0_t4 v357 v366 k0_hw18 k0_h27 k0_h31 => k0_hw18.1.2.2.2.2.2.2.2.2.2.2.2.2.2.2.2.2.2.2.2.2.2.2.2.2.2.2.2.2.2.2.2 k0_h27 k0_h31 (k0_off156_inb v21 k0_t4 v357 v366 k0_hw18 k0_h27 k0_h31)
theorem k0_off158_inb : ∀ (v21 : BitVec 32) (k0_t4 : Fin (k0_t4_loop v21).trips) (v357 : BitVec 32) (v366 : BitVec 32) (k0_hw18 : k0_chk18 v21 k0_t4 v357 v366), ∀ (k0_h27 : k0_cond27 v21 k0_t4 = 1#1), ∀ (k0_h31 : k0_cond31 v366 = 1#1), ∀ a, (k0_off158 v21 k0_t4) a + S1x1x16x768.size a ≤ S4x8x16x768.size a := fun v21 k0_t4 v357 v366 k0_hw18 k0_h27 k0_h31 => k0_hw18.2.1.1 k0_h27 k0_h31
theorem k0_off159_inb : ∀ (v21 : BitVec 32) (k0_t4 : Fin (k0_t4_loop v21).trips) (v357 : BitVec 32) (v366 : BitVec 32) (k0_hw18 : k0_chk18 v21 k0_t4 v357 v366), ∀ (k0_h27 : k0_cond27 v21 k0_t4 = 1#1), ∀ (k0_h31 : k0_cond31 v366 = 1#1), ∀ a, (k0_off159 v357) a + S1x16x768.size a ≤ S256x16x768.size a := fun v21 k0_t4 v357 v366 k0_hw18 k0_h27 k0_h31 => k0_hw18.2.1.2.1 k0_h27 k0_h31
theorem k0_off159_wordsbf16 : ∀ (v21 : BitVec 32) (k0_t4 : Fin (k0_t4_loop v21).trips) (v357 : BitVec 32) (v366 : BitVec 32) (k0_hw18 : k0_chk18 v21 k0_t4 v357 v366), ∀ (k0_h27 : k0_cond27 v21 k0_t4 = 1#1), ∀ (k0_h31 : k0_cond31 v366 = 1#1), (Rect.unit (s := S256x16x768) (k0_off159 v357) S1x16x768.size (k0_off159_inb v21 k0_t4 v357 v366 k0_hw18 k0_h27 k0_h31)).WholeWords (EltTy.packing .bf16) := fun v21 k0_t4 v357 v366 k0_hw18 k0_h27 k0_h31 => k0_hw18.2.1.2.2.1 k0_h27 k0_h31 (k0_off159_inb v21 k0_t4 v357 v366 k0_hw18 k0_h27 k0_h31)
theorem k0_off158_wordsbf16 : ∀ (v21 : BitVec 32) (k0_t4 : Fin (k0_t4_loop v21).trips) (v357 : BitVec 32) (v366 : BitVec 32) (k0_hw18 : k0_chk18 v21 k0_t4 v357 v366), ∀ (k0_h27 : k0_cond27 v21 k0_t4 = 1#1), ∀ (k0_h31 : k0_cond31 v366 = 1#1), (Rect.unit (s := S4x8x16x768) (k0_off158 v21 k0_t4) S1x1x16x768.size (k0_off158_inb v21 k0_t4 v357 v366 k0_hw18 k0_h27 k0_h31)).WholeWords (EltTy.packing .bf16) := fun v21 k0_t4 v357 v366 k0_hw18 k0_h27 k0_h31 => k0_hw18.2.1.2.2.2.1 k0_h27 k0_h31 (k0_off158_inb v21 k0_t4 v357 v366 k0_hw18 k0_h27 k0_h31)
theorem k0_off160_inb : ∀ (v21 : BitVec 32) (k0_t4 : Fin (k0_t4_loop v21).trips) (v357 : BitVec 32) (v366 : BitVec 32) (k0_hw18 : k0_chk18 v21 k0_t4 v357 v366), ∀ (k0_h27 : k0_cond27 v21 k0_t4 = 1#1), ∀ (k0_h32 : k0_cond32 v366 = 1#1), ∀ a, (k0_off160 v21 k0_t4) a + S1.size a ≤ S4.size a := fun v21 k0_t4 v357 v366 k0_hw18 k0_h27 k0_h32 => k0_hw18.2.1.2.2.2.2.1 k0_h27 k0_h32
theorem k0_off161_inb : ∀ (v21 : BitVec 32) (k0_t4 : Fin (k0_t4_loop v21).trips) (v357 : BitVec 32) (v366 : BitVec 32) (k0_hw18 : k0_chk18 v21 k0_t4 v357 v366), ∀ (k0_h27 : k0_cond27 v21 k0_t4 = 1#1), ∀ (k0_h32 : k0_cond32 v366 = 1#1), ∀ a, (k0_off161 v21 k0_t4) a + S1x1x16x5120.size a ≤ S4x8x16x5120.size a := fun v21 k0_t4 v357 v366 k0_hw18 k0_h27 k0_h32 => k0_hw18.2.1.2.2.2.2.2.1 k0_h27 k0_h32
theorem k0_off162_inb : ∀ (v21 : BitVec 32) (k0_t4 : Fin (k0_t4_loop v21).trips) (v357 : BitVec 32) (v366 : BitVec 32) (k0_hw18 : k0_chk18 v21 k0_t4 v357 v366), ∀ (k0_h27 : k0_cond27 v21 k0_t4 = 1#1), ∀ (k0_h32 : k0_cond32 v366 = 1#1), ∀ a, (k0_off162 v357) a + S1x16x5120.size a ≤ S256x16x5120.size a := fun v21 k0_t4 v357 v366 k0_hw18 k0_h27 k0_h32 => k0_hw18.2.1.2.2.2.2.2.2.1 k0_h27 k0_h32
theorem k0_off162_wordsbf16 : ∀ (v21 : BitVec 32) (k0_t4 : Fin (k0_t4_loop v21).trips) (v357 : BitVec 32) (v366 : BitVec 32) (k0_hw18 : k0_chk18 v21 k0_t4 v357 v366), ∀ (k0_h27 : k0_cond27 v21 k0_t4 = 1#1), ∀ (k0_h32 : k0_cond32 v366 = 1#1), (Rect.unit (s := S256x16x5120) (k0_off162 v357) S1x16x5120.size (k0_off162_inb v21 k0_t4 v357 v366 k0_hw18 k0_h27 k0_h32)).WholeWords (EltTy.packing .bf16) := fun v21 k0_t4 v357 v366 k0_hw18 k0_h27 k0_h32 => k0_hw18.2.1.2.2.2.2.2.2.2.1 k0_h27 k0_h32 (k0_off162_inb v21 k0_t4 v357 v366 k0_hw18 k0_h27 k0_h32)
theorem k0_off161_wordsbf16 : ∀ (v21 : BitVec 32) (k0_t4 : Fin (k0_t4_loop v21).trips) (v357 : BitVec 32) (v366 : BitVec 32) (k0_hw18 : k0_chk18 v21 k0_t4 v357 v366), ∀ (k0_h27 : k0_cond27 v21 k0_t4 = 1#1), ∀ (k0_h32 : k0_cond32 v366 = 1#1), (Rect.unit (s := S4x8x16x5120) (k0_off161 v21 k0_t4) S1x1x16x5120.size (k0_off161_inb v21 k0_t4 v357 v366 k0_hw18 k0_h27 k0_h32)).WholeWords (EltTy.packing .bf16) := fun v21 k0_t4 v357 v366 k0_hw18 k0_h27 k0_h32 => k0_hw18.2.1.2.2.2.2.2.2.2.2.1 k0_h27 k0_h32 (k0_off161_inb v21 k0_t4 v357 v366 k0_hw18 k0_h27 k0_h32)
theorem k0_off163_inb : ∀ (v21 : BitVec 32) (k0_t4 : Fin (k0_t4_loop v21).trips) (v357 : BitVec 32) (v366 : BitVec 32) (k0_hw18 : k0_chk18 v21 k0_t4 v357 v366), ∀ (k0_h27 : k0_cond27 v21 k0_t4 = 1#1), ∀ (k0_h32 : k0_cond32 v366 = 1#1), ∀ a, (k0_off163 v21 k0_t4) a + S1x1x16x768.size a ≤ S4x8x16x768.size a := fun v21 k0_t4 v357 v366 k0_hw18 k0_h27 k0_h32 => k0_hw18.2.1.2.2.2.2.2.2.2.2.2.1 k0_h27 k0_h32
theorem k0_off164_inb : ∀ (v21 : BitVec 32) (k0_t4 : Fin (k0_t4_loop v21).trips) (v357 : BitVec 32) (v366 : BitVec 32) (k0_hw18 : k0_chk18 v21 k0_t4 v357 v366), ∀ (k0_h27 : k0_cond27 v21 k0_t4 = 1#1), ∀ (k0_h32 : k0_cond32 v366 = 1#1), ∀ a, (k0_off164 v357) a + S1x16x768.size a ≤ S256x16x768.size a := fun v21 k0_t4 v357 v366 k0_hw18 k0_h27 k0_h32 => k0_hw18.2.1.2.2.2.2.2.2.2.2.2.2.1 k0_h27 k0_h32
theorem k0_off164_wordsbf16 : ∀ (v21 : BitVec 32) (k0_t4 : Fin (k0_t4_loop v21).trips) (v357 : BitVec 32) (v366 : BitVec 32) (k0_hw18 : k0_chk18 v21 k0_t4 v357 v366), ∀ (k0_h27 : k0_cond27 v21 k0_t4 = 1#1), ∀ (k0_h32 : k0_cond32 v366 = 1#1), (Rect.unit (s := S256x16x768) (k0_off164 v357) S1x16x768.size (k0_off164_inb v21 k0_t4 v357 v366 k0_hw18 k0_h27 k0_h32)).WholeWords (EltTy.packing .bf16) := fun v21 k0_t4 v357 v366 k0_hw18 k0_h27 k0_h32 => k0_hw18.2.1.2.2.2.2.2.2.2.2.2.2.2.1 k0_h27 k0_h32 (k0_off164_inb v21 k0_t4 v357 v366 k0_hw18 k0_h27 k0_h32)
theorem k0_off163_wordsbf16 : ∀ (v21 : BitVec 32) (k0_t4 : Fin (k0_t4_loop v21).trips) (v357 : BitVec 32) (v366 : BitVec 32) (k0_hw18 : k0_chk18 v21 k0_t4 v357 v366), ∀ (k0_h27 : k0_cond27 v21 k0_t4 = 1#1), ∀ (k0_h32 : k0_cond32 v366 = 1#1), (Rect.unit (s := S4x8x16x768) (k0_off163 v21 k0_t4) S1x1x16x768.size (k0_off163_inb v21 k0_t4 v357 v366 k0_hw18 k0_h27 k0_h32)).WholeWords (EltTy.packing .bf16) := fun v21 k0_t4 v357 v366 k0_hw18 k0_h27 k0_h32 => k0_hw18.2.1.2.2.2.2.2.2.2.2.2.2.2.2.1 k0_h27 k0_h32 (k0_off163_inb v21 k0_t4 v357 v366 k0_hw18 k0_h27 k0_h32)
theorem k0_off165_inb : ∀ (v21 : BitVec 32) (k0_t4 : Fin (k0_t4_loop v21).trips) (v357 : BitVec 32) (v366 : BitVec 32) (k0_hw18 : k0_chk18 v21 k0_t4 v357 v366), ∀ (k0_h27 : k0_cond27 v21 k0_t4 = 1#1), ∀ (k0_h33 : k0_cond33 v366 = 1#1), ∀ a, (k0_off165 v21 k0_t4) a + S1.size a ≤ S4.size a := fun v21 k0_t4 v357 v366 k0_hw18 k0_h27 k0_h33 => k0_hw18.2.1.2.2.2.2.2.2.2.2.2.2.2.2.2.1 k0_h27 k0_h33
theorem k0_off166_inb : ∀ (v21 : BitVec 32) (k0_t4 : Fin (k0_t4_loop v21).trips) (v357 : BitVec 32) (v366 : BitVec 32) (k0_hw18 : k0_chk18 v21 k0_t4 v357 v366), ∀ (k0_h27 : k0_cond27 v21 k0_t4 = 1#1), ∀ (k0_h33 : k0_cond33 v366 = 1#1), ∀ a, (k0_off166 v21 k0_t4) a + S1x1x16x5120.size a ≤ S4x8x16x5120.size a := fun v21 k0_t4 v357 v366 k0_hw18 k0_h27 k0_h33 => k0_hw18.2.1.2.2.2.2.2.2.2.2.2.2.2.2.2.2.1 k0_h27 k0_h33
theorem k0_off167_inb : ∀ (v21 : BitVec 32) (k0_t4 : Fin (k0_t4_loop v21).trips) (v357 : BitVec 32) (v366 : BitVec 32) (k0_hw18 : k0_chk18 v21 k0_t4 v357 v366), ∀ (k0_h27 : k0_cond27 v21 k0_t4 = 1#1), ∀ (k0_h33 : k0_cond33 v366 = 1#1), ∀ a, (k0_off167 v357) a + S1x16x5120.size a ≤ S256x16x5120.size a := fun v21 k0_t4 v357 v366 k0_hw18 k0_h27 k0_h33 => k0_hw18.2.1.2.2.2.2.2.2.2.2.2.2.2.2.2.2.2.1 k0_h27 k0_h33
theorem k0_off167_wordsbf16 : ∀ (v21 : BitVec 32) (k0_t4 : Fin (k0_t4_loop v21).trips) (v357 : BitVec 32) (v366 : BitVec 32) (k0_hw18 : k0_chk18 v21 k0_t4 v357 v366), ∀ (k0_h27 : k0_cond27 v21 k0_t4 = 1#1), ∀ (k0_h33 : k0_cond33 v366 = 1#1), (Rect.unit (s := S256x16x5120) (k0_off167 v357) S1x16x5120.size (k0_off167_inb v21 k0_t4 v357 v366 k0_hw18 k0_h27 k0_h33)).WholeWords (EltTy.packing .bf16) := fun v21 k0_t4 v357 v366 k0_hw18 k0_h27 k0_h33 => k0_hw18.2.1.2.2.2.2.2.2.2.2.2.2.2.2.2.2.2.2.1 k0_h27 k0_h33 (k0_off167_inb v21 k0_t4 v357 v366 k0_hw18 k0_h27 k0_h33)
theorem k0_off166_wordsbf16 : ∀ (v21 : BitVec 32) (k0_t4 : Fin (k0_t4_loop v21).trips) (v357 : BitVec 32) (v366 : BitVec 32) (k0_hw18 : k0_chk18 v21 k0_t4 v357 v366), ∀ (k0_h27 : k0_cond27 v21 k0_t4 = 1#1), ∀ (k0_h33 : k0_cond33 v366 = 1#1), (Rect.unit (s := S4x8x16x5120) (k0_off166 v21 k0_t4) S1x1x16x5120.size (k0_off166_inb v21 k0_t4 v357 v366 k0_hw18 k0_h27 k0_h33)).WholeWords (EltTy.packing .bf16) := fun v21 k0_t4 v357 v366 k0_hw18 k0_h27 k0_h33 => k0_hw18.2.1.2.2.2.2.2.2.2.2.2.2.2.2.2.2.2.2.2.1 k0_h27 k0_h33 (k0_off166_inb v21 k0_t4 v357 v366 k0_hw18 k0_h27 k0_h33)
theorem k0_off168_inb : ∀ (v21 : BitVec 32) (k0_t4 : Fin (k0_t4_loop v21).trips) (v357 : BitVec 32) (v366 : BitVec 32) (k0_hw18 : k0_chk18 v21 k0_t4 v357 v366), ∀ (k0_h27 : k0_cond27 v21 k0_t4 = 1#1), ∀ (k0_h33 : k0_cond33 v366 = 1#1), ∀ a, (k0_off168 v21 k0_t4) a + S1x1x16x768.size a ≤ S4x8x16x768.size a := fun v21 k0_t4 v357 v366 k0_hw18 k0_h27 k0_h33 => k0_hw18.2.1.2.2.2.2.2.2.2.2.2.2.2.2.2.2.2.2.2.2.1 k0_h27 k0_h33
theorem k0_off169_inb : ∀ (v21 : BitVec 32) (k0_t4 : Fin (k0_t4_loop v21).trips) (v357 : BitVec 32) (v366 : BitVec 32) (k0_hw18 : k0_chk18 v21 k0_t4 v357 v366), ∀ (k0_h27 : k0_cond27 v21 k0_t4 = 1#1), ∀ (k0_h33 : k0_cond33 v366 = 1#1), ∀ a, (k0_off169 v357) a + S1x16x768.size a ≤ S256x16x768.size a := fun v21 k0_t4 v357 v366 k0_hw18 k0_h27 k0_h33 => k0_hw18.2.1.2.2.2.2.2.2.2.2.2.2.2.2.2.2.2.2.2.2.2.1 k0_h27 k0_h33
theorem k0_off169_wordsbf16 : ∀ (v21 : BitVec 32) (k0_t4 : Fin (k0_t4_loop v21).trips) (v357 : BitVec 32) (v366 : BitVec 32) (k0_hw18 : k0_chk18 v21 k0_t4 v357 v366), ∀ (k0_h27 : k0_cond27 v21 k0_t4 = 1#1), ∀ (k0_h33 : k0_cond33 v366 = 1#1), (Rect.unit (s := S256x16x768) (k0_off169 v357) S1x16x768.size (k0_off169_inb v21 k0_t4 v357 v366 k0_hw18 k0_h27 k0_h33)).WholeWords (EltTy.packing .bf16) := fun v21 k0_t4 v357 v366 k0_hw18 k0_h27 k0_h33 => k0_hw18.2.1.2.2.2.2.2.2.2.2.2.2.2.2.2.2.2.2.2.2.2.2.1 k0_h27 k0_h33 (k0_off169_inb v21 k0_t4 v357 v366 k0_hw18 k0_h27 k0_h33)
theorem k0_off168_wordsbf16 : ∀ (v21 : BitVec 32) (k0_t4 : Fin (k0_t4_loop v21).trips) (v357 : BitVec 32) (v366 : BitVec 32) (k0_hw18 : k0_chk18 v21 k0_t4 v357 v366), ∀ (k0_h27 : k0_cond27 v21 k0_t4 = 1#1), ∀ (k0_h33 : k0_cond33 v366 = 1#1), (Rect.unit (s := S4x8x16x768) (k0_off168 v21 k0_t4) S1x1x16x768.size (k0_off168_inb v21 k0_t4 v357 v366 k0_hw18 k0_h27 k0_h33)).WholeWords (EltTy.packing .bf16) := fun v21 k0_t4 v357 v366 k0_hw18 k0_h27 k0_h33 => k0_hw18.2.1.2.2.2.2.2.2.2.2.2.2.2.2.2.2.2.2.2.2.2.2.2.1 k0_h27 k0_h33 (k0_off168_inb v21 k0_t4 v357 v366 k0_hw18 k0_h27 k0_h33)
theorem k0_off170_inb : ∀ (v21 : BitVec 32) (k0_t4 : Fin (k0_t4_loop v21).trips) (v357 : BitVec 32) (v366 : BitVec 32) (k0_hw18 : k0_chk18 v21 k0_t4 v357 v366), ∀ (k0_h27 : k0_cond27 v21 k0_t4 = 1#1), ∀ (k0_h34 : k0_cond34 v366 = 1#1), ∀ a, (k0_off170 v21 k0_t4) a + S1.size a ≤ S4.size a := fun v21 k0_t4 v357 v366 k0_hw18 k0_h27 k0_h34 => k0_hw18.2.1.2.2.2.2.2.2.2.2.2.2.2.2.2.2.2.2.2.2.2.2.2.2.1 k0_h27 k0_h34
theorem k0_off171_inb : ∀ (v21 : BitVec 32) (k0_t4 : Fin (k0_t4_loop v21).trips) (v357 : BitVec 32) (v366 : BitVec 32) (k0_hw18 : k0_chk18 v21 k0_t4 v357 v366), ∀ (k0_h27 : k0_cond27 v21 k0_t4 = 1#1), ∀ (k0_h34 : k0_cond34 v366 = 1#1), ∀ a, (k0_off171 v21 k0_t4) a + S1x1x16x5120.size a ≤ S4x8x16x5120.size a := fun v21 k0_t4 v357 v366 k0_hw18 k0_h27 k0_h34 => k0_hw18.2.1.2.2.2.2.2.2.2.2.2.2.2.2.2.2.2.2.2.2.2.2.2.2.2.1 k0_h27 k0_h34
theorem k0_off172_inb : ∀ (v21 : BitVec 32) (k0_t4 : Fin (k0_t4_loop v21).trips) (v357 : BitVec 32) (v366 : BitVec 32) (k0_hw18 : k0_chk18 v21 k0_t4 v357 v366), ∀ (k0_h27 : k0_cond27 v21 k0_t4 = 1#1), ∀ (k0_h34 : k0_cond34 v366 = 1#1), ∀ a, (k0_off172 v357) a + S1x16x5120.size a ≤ S256x16x5120.size a := fun v21 k0_t4 v357 v366 k0_hw18 k0_h27 k0_h34 => k0_hw18.2.1.2.2.2.2.2.2.2.2.2.2.2.2.2.2.2.2.2.2.2.2.2.2.2.2.1 k0_h27 k0_h34
theorem k0_off172_wordsbf16 : ∀ (v21 : BitVec 32) (k0_t4 : Fin (k0_t4_loop v21).trips) (v357 : BitVec 32) (v366 : BitVec 32) (k0_hw18 : k0_chk18 v21 k0_t4 v357 v366), ∀ (k0_h27 : k0_cond27 v21 k0_t4 = 1#1), ∀ (k0_h34 : k0_cond34 v366 = 1#1), (Rect.unit (s := S256x16x5120) (k0_off172 v357) S1x16x5120.size (k0_off172_inb v21 k0_t4 v357 v366 k0_hw18 k0_h27 k0_h34)).WholeWords (EltTy.packing .bf16) := fun v21 k0_t4 v357 v366 k0_hw18 k0_h27 k0_h34 => k0_hw18.2.1.2.2.2.2.2.2.2.2.2.2.2.2.2.2.2.2.2.2.2.2.2.2.2.2.2.1 k0_h27 k0_h34 (k0_off172_inb v21 k0_t4 v357 v366 k0_hw18 k0_h27 k0_h34)
theorem k0_off171_wordsbf16 : ∀ (v21 : BitVec 32) (k0_t4 : Fin (k0_t4_loop v21).trips) (v357 : BitVec 32) (v366 : BitVec 32) (k0_hw18 : k0_chk18 v21 k0_t4 v357 v366), ∀ (k0_h27 : k0_cond27 v21 k0_t4 = 1#1), ∀ (k0_h34 : k0_cond34 v366 = 1#1), (Rect.unit (s := S4x8x16x5120) (k0_off171 v21 k0_t4) S1x1x16x5120.size (k0_off171_inb v21 k0_t4 v357 v366 k0_hw18 k0_h27 k0_h34)).WholeWords (EltTy.packing .bf16) := fun v21 k0_t4 v357 v366 k0_hw18 k0_h27 k0_h34 => k0_hw18.2.1.2.2.2.2.2.2.2.2.2.2.2.2.2.2.2.2.2.2.2.2.2.2.2.2.2.2.1 k0_h27 k0_h34 (k0_off171_inb v21 k0_t4 v357 v366 k0_hw18 k0_h27 k0_h34)
theorem k0_off173_inb : ∀ (v21 : BitVec 32) (k0_t4 : Fin (k0_t4_loop v21).trips) (v357 : BitVec 32) (v366 : BitVec 32) (k0_hw18 : k0_chk18 v21 k0_t4 v357 v366), ∀ (k0_h27 : k0_cond27 v21 k0_t4 = 1#1), ∀ (k0_h34 : k0_cond34 v366 = 1#1), ∀ a, (k0_off173 v21 k0_t4) a + S1x1x16x768.size a ≤ S4x8x16x768.size a := fun v21 k0_t4 v357 v366 k0_hw18 k0_h27 k0_h34 => k0_hw18.2.1.2.2.2.2.2.2.2.2.2.2.2.2.2.2.2.2.2.2.2.2.2.2.2.2.2.2.2.1 k0_h27 k0_h34
theorem k0_off174_inb : ∀ (v21 : BitVec 32) (k0_t4 : Fin (k0_t4_loop v21).trips) (v357 : BitVec 32) (v366 : BitVec 32) (k0_hw18 : k0_chk18 v21 k0_t4 v357 v366), ∀ (k0_h27 : k0_cond27 v21 k0_t4 = 1#1), ∀ (k0_h34 : k0_cond34 v366 = 1#1), ∀ a, (k0_off174 v357) a + S1x16x768.size a ≤ S256x16x768.size a := fun v21 k0_t4 v357 v366 k0_hw18 k0_h27 k0_h34 => k0_hw18.2.1.2.2.2.2.2.2.2.2.2.2.2.2.2.2.2.2.2.2.2.2.2.2.2.2.2.2.2.2.1 k0_h27 k0_h34
theorem k0_off174_wordsbf16 : ∀ (v21 : BitVec 32) (k0_t4 : Fin (k0_t4_loop v21).trips) (v357 : BitVec 32) (v366 : BitVec 32) (k0_hw18 : k0_chk18 v21 k0_t4 v357 v366), ∀ (k0_h27 : k0_cond27 v21 k0_t4 = 1#1), ∀ (k0_h34 : k0_cond34 v366 = 1#1), (Rect.unit (s := S256x16x768) (k0_off174 v357) S1x16x768.size (k0_off174_inb v21 k0_t4 v357 v366 k0_hw18 k0_h27 k0_h34)).WholeWords (EltTy.packing .bf16) := fun v21 k0_t4 v357 v366 k0_hw18 k0_h27 k0_h34 => k0_hw18.2.1.2.2.2.2.2.2.2.2.2.2.2.2.2.2.2.2.2.2.2.2.2.2.2.2.2.2.2.2.2.1 k0_h27 k0_h34 (k0_off174_inb v21 k0_t4 v357 v366 k0_hw18 k0_h27 k0_h34)
theorem k0_off173_wordsbf16 : ∀ (v21 : BitVec 32) (k0_t4 : Fin (k0_t4_loop v21).trips) (v357 : BitVec 32) (v366 : BitVec 32) (k0_hw18 : k0_chk18 v21 k0_t4 v357 v366), ∀ (k0_h27 : k0_cond27 v21 k0_t4 = 1#1), ∀ (k0_h34 : k0_cond34 v366 = 1#1), (Rect.unit (s := S4x8x16x768) (k0_off173 v21 k0_t4) S1x1x16x768.size (k0_off173_inb v21 k0_t4 v357 v366 k0_hw18 k0_h27 k0_h34)).WholeWords (EltTy.packing .bf16) := fun v21 k0_t4 v357 v366 k0_hw18 k0_h27 k0_h34 => k0_hw18.2.1.2.2.2.2.2.2.2.2.2.2.2.2.2.2.2.2.2.2.2.2.2.2.2.2.2.2.2.2.2.2.1 k0_h27 k0_h34 (k0_off173_inb v21 k0_t4 v357 v366 k0_hw18 k0_h27 k0_h34)
theorem k0_off175_inb : ∀ (v21 : BitVec 32) (k0_t4 : Fin (k0_t4_loop v21).trips) (v357 : BitVec 32) (v366 : BitVec 32) (k0_hw18 : k0_chk18 v21 k0_t4 v357 v366), ∀ (k0_h27 : k0_cond27 v21 k0_t4 = 1#1), ∀ (k0_h35 : k0_cond35 v366 = 1#1), ∀ a, (k0_off175 v21 k0_t4) a + S1.size a ≤ S4.size a := fun v21 k0_t4 v357 v366 k0_hw18 k0_h27 k0_h35 => k0_hw18.2.1.2.2.2.2.2.2.2.2.2.2.2.2.2.2.2.2.2.2.2.2.2.2.2.2.2.2.2.2.2.2.2 k0_h27 k0_h35
theorem k0_off176_inb : ∀ (v21 : BitVec 32) (k0_t4 : Fin (k0_t4_loop v21).trips) (v357 : BitVec 32) (v366 : BitVec 32) (k0_hw18 : k0_chk18 v21 k0_t4 v357 v366), ∀ (k0_h27 : k0_cond27 v21 k0_t4 = 1#1), ∀ (k0_h35 : k0_cond35 v366 = 1#1), ∀ a, (k0_off176 v21 k0_t4) a + S1x1x16x5120.size a ≤ S4x8x16x5120.size a := fun v21 k0_t4 v357 v366 k0_hw18 k0_h27 k0_h35 => k0_hw18.2.2.1 k0_h27 k0_h35
theorem k0_off177_inb : ∀ (v21 : BitVec 32) (k0_t4 : Fin (k0_t4_loop v21).trips) (v357 : BitVec 32) (v366 : BitVec 32) (k0_hw18 : k0_chk18 v21 k0_t4 v357 v366), ∀ (k0_h27 : k0_cond27 v21 k0_t4 = 1#1), ∀ (k0_h35 : k0_cond35 v366 = 1#1), ∀ a, (k0_off177 v357) a + S1x16x5120.size a ≤ S256x16x5120.size a := fun v21 k0_t4 v357 v366 k0_hw18 k0_h27 k0_h35 => k0_hw18.2.2.2.1 k0_h27 k0_h35
theorem k0_off177_wordsbf16 : ∀ (v21 : BitVec 32) (k0_t4 : Fin (k0_t4_loop v21).trips) (v357 : BitVec 32) (v366 : BitVec 32) (k0_hw18 : k0_chk18 v21 k0_t4 v357 v366), ∀ (k0_h27 : k0_cond27 v21 k0_t4 = 1#1), ∀ (k0_h35 : k0_cond35 v366 = 1#1), (Rect.unit (s := S256x16x5120) (k0_off177 v357) S1x16x5120.size (k0_off177_inb v21 k0_t4 v357 v366 k0_hw18 k0_h27 k0_h35)).WholeWords (EltTy.packing .bf16) := fun v21 k0_t4 v357 v366 k0_hw18 k0_h27 k0_h35 => k0_hw18.2.2.2.2.1 k0_h27 k0_h35 (k0_off177_inb v21 k0_t4 v357 v366 k0_hw18 k0_h27 k0_h35)
theorem k0_off176_wordsbf16 : ∀ (v21 : BitVec 32) (k0_t4 : Fin (k0_t4_loop v21).trips) (v357 : BitVec 32) (v366 : BitVec 32) (k0_hw18 : k0_chk18 v21 k0_t4 v357 v366), ∀ (k0_h27 : k0_cond27 v21 k0_t4 = 1#1), ∀ (k0_h35 : k0_cond35 v366 = 1#1), (Rect.unit (s := S4x8x16x5120) (k0_off176 v21 k0_t4) S1x1x16x5120.size (k0_off176_inb v21 k0_t4 v357 v366 k0_hw18 k0_h27 k0_h35)).WholeWords (EltTy.packing .bf16) := fun v21 k0_t4 v357 v366 k0_hw18 k0_h27 k0_h35 => k0_hw18.2.2.2.2.2.1 k0_h27 k0_h35 (k0_off176_inb v21 k0_t4 v357 v366 k0_hw18 k0_h27 k0_h35)
theorem k0_off178_inb : ∀ (v21 : BitVec 32) (k0_t4 : Fin (k0_t4_loop v21).trips) (v357 : BitVec 32) (v366 : BitVec 32) (k0_hw18 : k0_chk18 v21 k0_t4 v357 v366), ∀ (k0_h27 : k0_cond27 v21 k0_t4 = 1#1), ∀ (k0_h35 : k0_cond35 v366 = 1#1), ∀ a, (k0_off178 v21 k0_t4) a + S1x1x16x768.size a ≤ S4x8x16x768.size a := fun v21 k0_t4 v357 v366 k0_hw18 k0_h27 k0_h35 => k0_hw18.2.2.2.2.2.2.1 k0_h27 k0_h35
theorem k0_off179_inb : ∀ (v21 : BitVec 32) (k0_t4 : Fin (k0_t4_loop v21).trips) (v357 : BitVec 32) (v366 : BitVec 32) (k0_hw18 : k0_chk18 v21 k0_t4 v357 v366), ∀ (k0_h27 : k0_cond27 v21 k0_t4 = 1#1), ∀ (k0_h35 : k0_cond35 v366 = 1#1), ∀ a, (k0_off179 v357) a + S1x16x768.size a ≤ S256x16x768.size a := fun v21 k0_t4 v357 v366 k0_hw18 k0_h27 k0_h35 => k0_hw18.2.2.2.2.2.2.2.1 k0_h27 k0_h35
theorem k0_off179_wordsbf16 : ∀ (v21 : BitVec 32) (k0_t4 : Fin (k0_t4_loop v21).trips) (v357 : BitVec 32) (v366 : BitVec 32) (k0_hw18 : k0_chk18 v21 k0_t4 v357 v366), ∀ (k0_h27 : k0_cond27 v21 k0_t4 = 1#1), ∀ (k0_h35 : k0_cond35 v366 = 1#1), (Rect.unit (s := S256x16x768) (k0_off179 v357) S1x16x768.size (k0_off179_inb v21 k0_t4 v357 v366 k0_hw18 k0_h27 k0_h35)).WholeWords (EltTy.packing .bf16) := fun v21 k0_t4 v357 v366 k0_hw18 k0_h27 k0_h35 => k0_hw18.2.2.2.2.2.2.2.2.1 k0_h27 k0_h35 (k0_off179_inb v21 k0_t4 v357 v366 k0_hw18 k0_h27 k0_h35)
theorem k0_off178_wordsbf16 : ∀ (v21 : BitVec 32) (k0_t4 : Fin (k0_t4_loop v21).trips) (v357 : BitVec 32) (v366 : BitVec 32) (k0_hw18 : k0_chk18 v21 k0_t4 v357 v366), ∀ (k0_h27 : k0_cond27 v21 k0_t4 = 1#1), ∀ (k0_h35 : k0_cond35 v366 = 1#1), (Rect.unit (s := S4x8x16x768) (k0_off178 v21 k0_t4) S1x1x16x768.size (k0_off178_inb v21 k0_t4 v357 v366 k0_hw18 k0_h27 k0_h35)).WholeWords (EltTy.packing .bf16) := fun v21 k0_t4 v357 v366 k0_hw18 k0_h27 k0_h35 => k0_hw18.2.2.2.2.2.2.2.2.2 k0_h27 k0_h35 (k0_off178_inb v21 k0_t4 v357 v366 k0_hw18 k0_h27 k0_h35)

def k0_off180 (v21 : BitVec 32) (k0_t4 : Fin (k0_t4_loop v21).trips) : Fin 1 → Nat :=
  let c0_i32_94 : BitVec 32 := 0#32
  let c1_i32_97 : BitVec 32 := 1#32
  let arg27 : BitVec 32 := Scf.iv c0_i32_94 c1_i32_97 k0_t4
  let c4_i32_200 : BitVec 32 := 4#32
  let v354 : BitVec 32 := Scalar.addi arg27 c4_i32_200
  let c1_i32_201 : BitVec 32 := 1#32
  let v355 : BitVec 32 := Scalar.subi v354 c1_i32_201
  let c4_i32_202 : BitVec 32 := 4#32
  let v358 : BitVec 32 := Scalar.remsi v355 c4_i32_202
  ![v358.toNat]
def k0_off181 (v21 : BitVec 32) (k0_t4 : Fin (k0_t4_loop v21).trips) : Fin 3 → Nat :=
  let c0_i32_94 : BitVec 32 := 0#32
  let c1_i32_97 : BitVec 32 := 1#32
  let arg27 : BitVec 32 := Scf.iv c0_i32_94 c1_i32_97 k0_t4
  let c4_i32_200 : BitVec 32 := 4#32
  let v354 : BitVec 32 := Scalar.addi arg27 c4_i32_200
  let c1_i32_201 : BitVec 32 := 1#32
  let v355 : BitVec 32 := Scalar.subi v354 c1_i32_201
  let c4_i32_202 : BitVec 32 := 4#32
  let v358 : BitVec 32 := Scalar.remsi v355 c4_i32_202
  let c0_i32_239 : BitVec 32 := 0#32
  let c0_i32_240 : BitVec 32 := 0#32
  ![v358.toNat, 0, 0]
def k0_off182 (v357 : BitVec 32) : Fin 3 → Nat :=
  let c0_i32_241 : BitVec 32 := 0#32
  let c0_i32_242 : BitVec 32 := 0#32
  ![v357.toNat, 0, 0]

def k0_chk17 (v21 : BitVec 32) (k0_t4 : Fin (k0_t4_loop v21).trips) (v357 : BitVec 32) : Prop :=
  (∀ (k0_h27 : k0_cond27 v21 k0_t4 = 1#1), ∀ a, (k0_off138 v357) a + S1x5120x768.size a ≤ S32x5120x768.size a) ∧
  (∀ (k0_h27 : k0_cond27 v21 k0_t4 = 1#1), ∀ (hinb : ∀ a, (k0_off138 v357) a + S1x5120x768.size a ≤ S32x5120x768.size a), (Rect.unit (s := S32x5120x768) (k0_off138 v357) S1x5120x768.size hinb).WholeWords (EltTy.packing .fp8e4m3)) ∧
  (∀ (k0_h27 : k0_cond27 v21 k0_t4 = 1#1), ∀ a, (k0_off139 v357) a + S1.size a ≤ S32.size a) ∧
  (∀ (k0_h27 : k0_cond27 v21 k0_t4 = 1#1), ∀ a, (k0_off182 v357) a + S1x768x5120.size a ≤ S32x768x5120.size a) ∧
  (∀ (k0_h27 : k0_cond27 v21 k0_t4 = 1#1), ∀ (hinb : ∀ a, (k0_off182 v357) a + S1x768x5120.size a ≤ S32x768x5120.size a), (Rect.unit (s := S32x768x5120) (k0_off182 v357) S1x768x5120.size hinb).WholeWords (EltTy.packing .fp8e4m3))
theorem k0_off138_inb : ∀ (v21 : BitVec 32) (k0_t4 : Fin (k0_t4_loop v21).trips) (v357 : BitVec 32) (k0_hw17 : k0_chk17 v21 k0_t4 v357), ∀ (k0_h27 : k0_cond27 v21 k0_t4 = 1#1), ∀ a, (k0_off138 v357) a + S1x5120x768.size a ≤ S32x5120x768.size a := fun v21 k0_t4 v357 k0_hw17 k0_h27 => k0_hw17.1 k0_h27
theorem k0_off138_wordsfp8e4m3 : ∀ (v21 : BitVec 32) (k0_t4 : Fin (k0_t4_loop v21).trips) (v357 : BitVec 32) (k0_hw17 : k0_chk17 v21 k0_t4 v357), ∀ (k0_h27 : k0_cond27 v21 k0_t4 = 1#1), (Rect.unit (s := S32x5120x768) (k0_off138 v357) S1x5120x768.size (k0_off138_inb v21 k0_t4 v357 k0_hw17 k0_h27)).WholeWords (EltTy.packing .fp8e4m3) := fun v21 k0_t4 v357 k0_hw17 k0_h27 => k0_hw17.2.1 k0_h27 (k0_off138_inb v21 k0_t4 v357 k0_hw17 k0_h27)
theorem k0_off139_inb : ∀ (v21 : BitVec 32) (k0_t4 : Fin (k0_t4_loop v21).trips) (v357 : BitVec 32) (k0_hw17 : k0_chk17 v21 k0_t4 v357), ∀ (k0_h27 : k0_cond27 v21 k0_t4 = 1#1), ∀ a, (k0_off139 v357) a + S1.size a ≤ S32.size a := fun v21 k0_t4 v357 k0_hw17 k0_h27 => k0_hw17.2.2.1 k0_h27
theorem k0_off182_inb : ∀ (v21 : BitVec 32) (k0_t4 : Fin (k0_t4_loop v21).trips) (v357 : BitVec 32) (k0_hw17 : k0_chk17 v21 k0_t4 v357), ∀ (k0_h27 : k0_cond27 v21 k0_t4 = 1#1), ∀ a, (k0_off182 v357) a + S1x768x5120.size a ≤ S32x768x5120.size a := fun v21 k0_t4 v357 k0_hw17 k0_h27 => k0_hw17.2.2.2.1 k0_h27
theorem k0_off182_wordsfp8e4m3 : ∀ (v21 : BitVec 32) (k0_t4 : Fin (k0_t4_loop v21).trips) (v357 : BitVec 32) (k0_hw17 : k0_chk17 v21 k0_t4 v357), ∀ (k0_h27 : k0_cond27 v21 k0_t4 = 1#1), (Rect.unit (s := S32x768x5120) (k0_off182 v357) S1x768x5120.size (k0_off182_inb v21 k0_t4 v357 k0_hw17 k0_h27)).WholeWords (EltTy.packing .fp8e4m3) := fun v21 k0_t4 v357 k0_hw17 k0_h27 => k0_hw17.2.2.2.2 k0_h27 (k0_off182_inb v21 k0_t4 v357 k0_hw17 k0_h27)

def k0_off183 (v21 : BitVec 32) (k0_t4 : Fin (k0_t4_loop v21).trips) : Fin 1 → Nat :=
  let c0_i32_94 : BitVec 32 := 0#32
  let c1_i32_97 : BitVec 32 := 1#32
  let arg27 : BitVec 32 := Scf.iv c0_i32_94 c1_i32_97 k0_t4
  let c4_i32_103 : BitVec 32 := 4#32
  let v179 : BitVec 32 := Scalar.remsi arg27 c4_i32_103
  ![v179.toNat]
def k0_off184 (v21 : BitVec 32) (k0_t4 : Fin (k0_t4_loop v21).trips) : Fin 3 → Nat :=
  let c0_i32_94 : BitVec 32 := 0#32
  let c1_i32_97 : BitVec 32 := 1#32
  let arg27 : BitVec 32 := Scf.iv c0_i32_94 c1_i32_97 k0_t4
  let c4_i32_103 : BitVec 32 := 4#32
  let v179 : BitVec 32 := Scalar.remsi arg27 c4_i32_103
  let c0_i32_115 : BitVec 32 := 0#32
  let c0_i32_116 : BitVec 32 := 0#32
  ![v179.toNat, 0, 0]
def k0_off185 (v178 : BitVec 32) : Fin 3 → Nat :=
  let c0_i32_117 : BitVec 32 := 0#32
  let c0_i32_118 : BitVec 32 := 0#32
  ![v178.toNat, 0, 0]

def k0_off186 (v21 : BitVec 32) (k0_t4 : Fin (k0_t4_loop v21).trips) : Fin 3 → Nat :=
  let c0_i32_94 : BitVec 32 := 0#32
  let c1_i32_97 : BitVec 32 := 1#32
  let arg27 : BitVec 32 := Scf.iv c0_i32_94 c1_i32_97 k0_t4
  let c4_i32_103 : BitVec 32 := 4#32
  let v179 : BitVec 32 := Scalar.remsi arg27 c4_i32_103
  let v206 : Index := Scalar.indexCast v179
  let c0_121 : Index := 0#32
  let c0_122 : Index := 0#32
  ![v206.toNat, 0, 0]
def k0_off187 (v178 : BitVec 32) : Fin 2 → Nat :=
  let v212 : Index := Scalar.indexCast v178
  let c0_124 : Index := 0#32
  ![v212.toNat, 0]
def k0_off188 (v178 : BitVec 32) : Fin 1 → Nat :=
  let v216 : Index := Scalar.indexCast v178
  ![v216.toNat]
def k0_off189 (v21 : BitVec 32) (k0_t4 : Fin (k0_t4_loop v21).trips) : Fin 1 → Nat :=
  let c0_i32_94 : BitVec 32 := 0#32
  let c1_i32_97 : BitVec 32 := 1#32
  let arg27 : BitVec 32 := Scf.iv c0_i32_94 c1_i32_97 k0_t4
  let c4_i32_103 : BitVec 32 := 4#32
  let v179 : BitVec 32 := Scalar.remsi arg27 c4_i32_103
  ![v179.toNat]
def k0_cond36 (v217 : BitVec 32) : BitVec 1 :=
  let c1_i32_125 : BitVec 32 := 1#32
  let v218 : BitVec 32 := Scalar.shrsi v217 c1_i32_125
  let c1_i32_126 : BitVec 32 := 1#32
  let v219 : BitVec 32 := Scalar.andi v218 c1_i32_126
  let c1_i32_127 : BitVec 32 := 1#32
  let v220 : BitVec 1 := Scalar.cmpi .eq v219 c1_i32_127
  let v221 : BitVec 32 := Scalar.extui v220
  let c0_i32_128 : BitVec 32 := 0#32
  let v222 : BitVec 1 := Scalar.cmpi .ne v221 c0_i32_128
  v222

def k0_off190 (v21 : BitVec 32) (k0_t4 : Fin (k0_t4_loop v21).trips) : Fin 4 → Nat :=
  let c0_i32_94 : BitVec 32 := 0#32
  let c1_i32_97 : BitVec 32 := 1#32
  let arg27 : BitVec 32 := Scf.iv c0_i32_94 c1_i32_97 k0_t4
  let c4_i32_103 : BitVec 32 := 4#32
  let v179 : BitVec 32 := Scalar.remsi arg27 c4_i32_103
  let c0_i32_202 : BitVec 32 := 0#32
  let c0_i32_203 : BitVec 32 := 0#32
  let c0_i32_204 : BitVec 32 := 0#32
  ![v179.toNat, 0, 0, 0]
def k0_off191 (v178 : BitVec 32) : Fin 3 → Nat :=
  let c8_i32_200 : BitVec 32 := 8#32
  let v354 : BitVec 32 := Scalar.muli v178 c8_i32_200
  let c0_i32_201 : BitVec 32 := 0#32
  let v355 : BitVec 32 := Scalar.addi v354 c0_i32_201
  let c0_i32_205 : BitVec 32 := 0#32
  let c0_i32_206 : BitVec 32 := 0#32
  ![v355.toNat, 0, 0]
def k0_off192 (v21 : BitVec 32) (k0_t4 : Fin (k0_t4_loop v21).trips) : Fin 4 → Nat :=
  let c0_i32_94 : BitVec 32 := 0#32
  let c1_i32_97 : BitVec 32 := 1#32
  let arg27 : BitVec 32 := Scf.iv c0_i32_94 c1_i32_97 k0_t4
  let c4_i32_103 : BitVec 32 := 4#32
  let v179 : BitVec 32 := Scalar.remsi arg27 c4_i32_103
  let c0_i32_207 : BitVec 32 := 0#32
  let c0_i32_208 : BitVec 32 := 0#32
  let c0_i32_209 : BitVec 32 := 0#32
  ![v179.toNat, 0, 0, 0]
def k0_off193 (v178 : BitVec 32) : Fin 3 → Nat :=
  let c8_i32_200 : BitVec 32 := 8#32
  let v354 : BitVec 32 := Scalar.muli v178 c8_i32_200
  let c0_i32_201 : BitVec 32 := 0#32
  let v355 : BitVec 32 := Scalar.addi v354 c0_i32_201
  let c0_i32_210 : BitVec 32 := 0#32
  let c0_i32_211 : BitVec 32 := 0#32
  ![v355.toNat, 0, 0]
def k0_off194 (v21 : BitVec 32) (k0_t4 : Fin (k0_t4_loop v21).trips) : Fin 1 → Nat :=
  let c0_i32_94 : BitVec 32 := 0#32
  let c1_i32_97 : BitVec 32 := 1#32
  let arg27 : BitVec 32 := Scf.iv c0_i32_94 c1_i32_97 k0_t4
  let c4_i32_103 : BitVec 32 := 4#32
  let v179 : BitVec 32 := Scalar.remsi arg27 c4_i32_103
  ![v179.toNat]
def k0_cond37 (v217 : BitVec 32) : BitVec 1 :=
  let c2_i32_129 : BitVec 32 := 2#32
  let v223 : BitVec 32 := Scalar.shrsi v217 c2_i32_129
  let c1_i32_130 : BitVec 32 := 1#32
  let v224 : BitVec 32 := Scalar.andi v223 c1_i32_130
  let c1_i32_131 : BitVec 32 := 1#32
  let v225 : BitVec 1 := Scalar.cmpi .eq v224 c1_i32_131
  let v226 : BitVec 32 := Scalar.extui v225
  let c0_i32_132 : BitVec 32 := 0#32
  let v227 : BitVec 1 := Scalar.cmpi .ne v226 c0_i32_132
  v227

def k0_off195 (v21 : BitVec 32) (k0_t4 : Fin (k0_t4_loop v21).trips) : Fin 4 → Nat :=
  let c0_i32_94 : BitVec 32 := 0#32
  let c1_i32_97 : BitVec 32 := 1#32
  let arg27 : BitVec 32 := Scf.iv c0_i32_94 c1_i32_97 k0_t4
  let c4_i32_103 : BitVec 32 := 4#32
  let v179 : BitVec 32 := Scalar.remsi arg27 c4_i32_103
  let c1_i32_202 : BitVec 32 := 1#32
  let c0_i32_203 : BitVec 32 := 0#32
  let c0_i32_204 : BitVec 32 := 0#32
  ![v179.toNat, 1, 0, 0]
def k0_off196 (v178 : BitVec 32) : Fin 3 → Nat :=
  let c8_i32_200 : BitVec 32 := 8#32
  let v354 : BitVec 32 := Scalar.muli v178 c8_i32_200
  let c1_i32_201 : BitVec 32 := 1#32
  let v355 : BitVec 32 := Scalar.addi v354 c1_i32_201
  let c0_i32_205 : BitVec 32 := 0#32
  let c0_i32_206 : BitVec 32 := 0#32
  ![v355.toNat, 0, 0]
def k0_off197 (v21 : BitVec 32) (k0_t4 : Fin (k0_t4_loop v21).trips) : Fin 4 → Nat :=
  let c0_i32_94 : BitVec 32 := 0#32
  let c1_i32_97 : BitVec 32 := 1#32
  let arg27 : BitVec 32 := Scf.iv c0_i32_94 c1_i32_97 k0_t4
  let c4_i32_103 : BitVec 32 := 4#32
  let v179 : BitVec 32 := Scalar.remsi arg27 c4_i32_103
  let c1_i32_207 : BitVec 32 := 1#32
  let c0_i32_208 : BitVec 32 := 0#32
  let c0_i32_209 : BitVec 32 := 0#32
  ![v179.toNat, 1, 0, 0]
def k0_off198 (v178 : BitVec 32) : Fin 3 → Nat :=
  let c8_i32_200 : BitVec 32 := 8#32
  let v354 : BitVec 32 := Scalar.muli v178 c8_i32_200
  let c1_i32_201 : BitVec 32 := 1#32
  let v355 : BitVec 32 := Scalar.addi v354 c1_i32_201
  let c0_i32_210 : BitVec 32 := 0#32
  let c0_i32_211 : BitVec 32 := 0#32
  ![v355.toNat, 0, 0]
def k0_off199 (v21 : BitVec 32) (k0_t4 : Fin (k0_t4_loop v21).trips) : Fin 1 → Nat :=
  let c0_i32_94 : BitVec 32 := 0#32
  let c1_i32_97 : BitVec 32 := 1#32
  let arg27 : BitVec 32 := Scf.iv c0_i32_94 c1_i32_97 k0_t4
  let c4_i32_103 : BitVec 32 := 4#32
  let v179 : BitVec 32 := Scalar.remsi arg27 c4_i32_103
  ![v179.toNat]
def k0_cond38 (v217 : BitVec 32) : BitVec 1 :=
  let c3_i32_133 : BitVec 32 := 3#32
  let v228 : BitVec 32 := Scalar.shrsi v217 c3_i32_133
  let c1_i32_134 : BitVec 32 := 1#32
  let v229 : BitVec 32 := Scalar.andi v228 c1_i32_134
  let c1_i32_135 : BitVec 32 := 1#32
  let v230 : BitVec 1 := Scalar.cmpi .eq v229 c1_i32_135
  let v231 : BitVec 32 := Scalar.extui v230
  let c0_i32_136 : BitVec 32 := 0#32
  let v232 : BitVec 1 := Scalar.cmpi .ne v231 c0_i32_136
  v232

def k0_off200 (v21 : BitVec 32) (k0_t4 : Fin (k0_t4_loop v21).trips) : Fin 4 → Nat :=
  let c0_i32_94 : BitVec 32 := 0#32
  let c1_i32_97 : BitVec 32 := 1#32
  let arg27 : BitVec 32 := Scf.iv c0_i32_94 c1_i32_97 k0_t4
  let c4_i32_103 : BitVec 32 := 4#32
  let v179 : BitVec 32 := Scalar.remsi arg27 c4_i32_103
  let c2_i32_202 : BitVec 32 := 2#32
  let c0_i32_203 : BitVec 32 := 0#32
  let c0_i32_204 : BitVec 32 := 0#32
  ![v179.toNat, 2, 0, 0]
def k0_off201 (v178 : BitVec 32) : Fin 3 → Nat :=
  let c8_i32_200 : BitVec 32 := 8#32
  let v354 : BitVec 32 := Scalar.muli v178 c8_i32_200
  let c2_i32_201 : BitVec 32 := 2#32
  let v355 : BitVec 32 := Scalar.addi v354 c2_i32_201
  let c0_i32_205 : BitVec 32 := 0#32
  let c0_i32_206 : BitVec 32 := 0#32
  ![v355.toNat, 0, 0]
def k0_off202 (v21 : BitVec 32) (k0_t4 : Fin (k0_t4_loop v21).trips) : Fin 4 → Nat :=
  let c0_i32_94 : BitVec 32 := 0#32
  let c1_i32_97 : BitVec 32 := 1#32
  let arg27 : BitVec 32 := Scf.iv c0_i32_94 c1_i32_97 k0_t4
  let c4_i32_103 : BitVec 32 := 4#32
  let v179 : BitVec 32 := Scalar.remsi arg27 c4_i32_103
  let c2_i32_207 : BitVec 32 := 2#32
  let c0_i32_208 : BitVec 32 := 0#32
  let c0_i32_209 : BitVec 32 := 0#32
  ![v179.toNat, 2, 0, 0]
def k0_off203 (v178 : BitVec 32) : Fin 3 → Nat :=
  let c8_i32_200 : BitVec 32 := 8#32
  let v354 : BitVec 32 := Scalar.muli v178 c8_i32_200
  let c2_i32_201 : BitVec 32 := 2#32
  let v355 : BitVec 32 := Scalar.addi v354 c2_i32_201
  let c0_i32_210 : BitVec 32 := 0#32
  let c0_i32_211 : BitVec 32 := 0#32
  ![v355.toNat, 0, 0]
def k0_off204 (v21 : BitVec 32) (k0_t4 : Fin (k0_t4_loop v21).trips) : Fin 1 → Nat :=
  let c0_i32_94 : BitVec 32 := 0#32
  let c1_i32_97 : BitVec 32 := 1#32
  let arg27 : BitVec 32 := Scf.iv c0_i32_94 c1_i32_97 k0_t4
  let c4_i32_103 : BitVec 32 := 4#32
  let v179 : BitVec 32 := Scalar.remsi arg27 c4_i32_103
  ![v179.toNat]
def k0_cond39 (v217 : BitVec 32) : BitVec 1 :=
  let c4_i32_137 : BitVec 32 := 4#32
  let v233 : BitVec 32 := Scalar.shrsi v217 c4_i32_137
  let c1_i32_138 : BitVec 32 := 1#32
  let v234 : BitVec 32 := Scalar.andi v233 c1_i32_138
  let c1_i32_139 : BitVec 32 := 1#32
  let v235 : BitVec 1 := Scalar.cmpi .eq v234 c1_i32_139
  let v236 : BitVec 32 := Scalar.extui v235
  let c0_i32_140 : BitVec 32 := 0#32
  let v237 : BitVec 1 := Scalar.cmpi .ne v236 c0_i32_140
  v237

def k0_off205 (v21 : BitVec 32) (k0_t4 : Fin (k0_t4_loop v21).trips) : Fin 4 → Nat :=
  let c0_i32_94 : BitVec 32 := 0#32
  let c1_i32_97 : BitVec 32 := 1#32
  let arg27 : BitVec 32 := Scf.iv c0_i32_94 c1_i32_97 k0_t4
  let c4_i32_103 : BitVec 32 := 4#32
  let v179 : BitVec 32 := Scalar.remsi arg27 c4_i32_103
  let c3_i32_202 : BitVec 32 := 3#32
  let c0_i32_203 : BitVec 32 := 0#32
  let c0_i32_204 : BitVec 32 := 0#32
  ![v179.toNat, 3, 0, 0]
def k0_off206 (v178 : BitVec 32) : Fin 3 → Nat :=
  let c8_i32_200 : BitVec 32 := 8#32
  let v354 : BitVec 32 := Scalar.muli v178 c8_i32_200
  let c3_i32_201 : BitVec 32 := 3#32
  let v355 : BitVec 32 := Scalar.addi v354 c3_i32_201
  let c0_i32_205 : BitVec 32 := 0#32
  let c0_i32_206 : BitVec 32 := 0#32
  ![v355.toNat, 0, 0]
def k0_off207 (v21 : BitVec 32) (k0_t4 : Fin (k0_t4_loop v21).trips) : Fin 4 → Nat :=
  let c0_i32_94 : BitVec 32 := 0#32
  let c1_i32_97 : BitVec 32 := 1#32
  let arg27 : BitVec 32 := Scf.iv c0_i32_94 c1_i32_97 k0_t4
  let c4_i32_103 : BitVec 32 := 4#32
  let v179 : BitVec 32 := Scalar.remsi arg27 c4_i32_103
  let c3_i32_207 : BitVec 32 := 3#32
  let c0_i32_208 : BitVec 32 := 0#32
  let c0_i32_209 : BitVec 32 := 0#32
  ![v179.toNat, 3, 0, 0]
def k0_off208 (v178 : BitVec 32) : Fin 3 → Nat :=
  let c8_i32_200 : BitVec 32 := 8#32
  let v354 : BitVec 32 := Scalar.muli v178 c8_i32_200
  let c3_i32_201 : BitVec 32 := 3#32
  let v355 : BitVec 32 := Scalar.addi v354 c3_i32_201
  let c0_i32_210 : BitVec 32 := 0#32
  let c0_i32_211 : BitVec 32 := 0#32
  ![v355.toNat, 0, 0]
def k0_off209 (v21 : BitVec 32) (k0_t4 : Fin (k0_t4_loop v21).trips) : Fin 1 → Nat :=
  let c0_i32_94 : BitVec 32 := 0#32
  let c1_i32_97 : BitVec 32 := 1#32
  let arg27 : BitVec 32 := Scf.iv c0_i32_94 c1_i32_97 k0_t4
  let c4_i32_103 : BitVec 32 := 4#32
  let v179 : BitVec 32 := Scalar.remsi arg27 c4_i32_103
  ![v179.toNat]
def k0_cond40 (v217 : BitVec 32) : BitVec 1 :=
  let c5_i32_141 : BitVec 32 := 5#32
  let v238 : BitVec 32 := Scalar.shrsi v217 c5_i32_141
  let c1_i32_142 : BitVec 32 := 1#32
  let v239 : BitVec 32 := Scalar.andi v238 c1_i32_142
  let c1_i32_143 : BitVec 32 := 1#32
  let v240 : BitVec 1 := Scalar.cmpi .eq v239 c1_i32_143
  let v241 : BitVec 32 := Scalar.extui v240
  let c0_i32_144 : BitVec 32 := 0#32
  let v242 : BitVec 1 := Scalar.cmpi .ne v241 c0_i32_144
  v242

def k0_off210 (v21 : BitVec 32) (k0_t4 : Fin (k0_t4_loop v21).trips) : Fin 4 → Nat :=
  let c0_i32_94 : BitVec 32 := 0#32
  let c1_i32_97 : BitVec 32 := 1#32
  let arg27 : BitVec 32 := Scf.iv c0_i32_94 c1_i32_97 k0_t4
  let c4_i32_103 : BitVec 32 := 4#32
  let v179 : BitVec 32 := Scalar.remsi arg27 c4_i32_103
  let c4_i32_202 : BitVec 32 := 4#32
  let c0_i32_203 : BitVec 32 := 0#32
  let c0_i32_204 : BitVec 32 := 0#32
  ![v179.toNat, 4, 0, 0]
def k0_off211 (v178 : BitVec 32) : Fin 3 → Nat :=
  let c8_i32_200 : BitVec 32 := 8#32
  let v354 : BitVec 32 := Scalar.muli v178 c8_i32_200
  let c4_i32_201 : BitVec 32 := 4#32
  let v355 : BitVec 32 := Scalar.addi v354 c4_i32_201
  let c0_i32_205 : BitVec 32 := 0#32
  let c0_i32_206 : BitVec 32 := 0#32
  ![v355.toNat, 0, 0]
def k0_off212 (v21 : BitVec 32) (k0_t4 : Fin (k0_t4_loop v21).trips) : Fin 4 → Nat :=
  let c0_i32_94 : BitVec 32 := 0#32
  let c1_i32_97 : BitVec 32 := 1#32
  let arg27 : BitVec 32 := Scf.iv c0_i32_94 c1_i32_97 k0_t4
  let c4_i32_103 : BitVec 32 := 4#32
  let v179 : BitVec 32 := Scalar.remsi arg27 c4_i32_103
  let c4_i32_207 : BitVec 32 := 4#32
  let c0_i32_208 : BitVec 32 := 0#32
  let c0_i32_209 : BitVec 32 := 0#32
  ![v179.toNat, 4, 0, 0]
def k0_off213 (v178 : BitVec 32) : Fin 3 → Nat :=
  let c8_i32_200 : BitVec 32 := 8#32
  let v354 : BitVec 32 := Scalar.muli v178 c8_i32_200
  let c4_i32_201 : BitVec 32 := 4#32
  let v355 : BitVec 32 := Scalar.addi v354 c4_i32_201
  let c0_i32_210 : BitVec 32 := 0#32
  let c0_i32_211 : BitVec 32 := 0#32
  ![v355.toNat, 0, 0]
def k0_off214 (v21 : BitVec 32) (k0_t4 : Fin (k0_t4_loop v21).trips) : Fin 1 → Nat :=
  let c0_i32_94 : BitVec 32 := 0#32
  let c1_i32_97 : BitVec 32 := 1#32
  let arg27 : BitVec 32 := Scf.iv c0_i32_94 c1_i32_97 k0_t4
  let c4_i32_103 : BitVec 32 := 4#32
  let v179 : BitVec 32 := Scalar.remsi arg27 c4_i32_103
  ![v179.toNat]
def k0_cond41 (v217 : BitVec 32) : BitVec 1 :=
  let c6_i32_145 : BitVec 32 := 6#32
  let v243 : BitVec 32 := Scalar.shrsi v217 c6_i32_145
  let c1_i32_146 : BitVec 32 := 1#32
  let v244 : BitVec 32 := Scalar.andi v243 c1_i32_146
  let c1_i32_147 : BitVec 32 := 1#32
  let v245 : BitVec 1 := Scalar.cmpi .eq v244 c1_i32_147
  let v246 : BitVec 32 := Scalar.extui v245
  let c0_i32_148 : BitVec 32 := 0#32
  let v247 : BitVec 1 := Scalar.cmpi .ne v246 c0_i32_148
  v247

def k0_off215 (v21 : BitVec 32) (k0_t4 : Fin (k0_t4_loop v21).trips) : Fin 4 → Nat :=
  let c0_i32_94 : BitVec 32 := 0#32
  let c1_i32_97 : BitVec 32 := 1#32
  let arg27 : BitVec 32 := Scf.iv c0_i32_94 c1_i32_97 k0_t4
  let c4_i32_103 : BitVec 32 := 4#32
  let v179 : BitVec 32 := Scalar.remsi arg27 c4_i32_103
  let c5_i32_202 : BitVec 32 := 5#32
  let c0_i32_203 : BitVec 32 := 0#32
  let c0_i32_204 : BitVec 32 := 0#32
  ![v179.toNat, 5, 0, 0]
def k0_off216 (v178 : BitVec 32) : Fin 3 → Nat :=
  let c8_i32_200 : BitVec 32 := 8#32
  let v354 : BitVec 32 := Scalar.muli v178 c8_i32_200
  let c5_i32_201 : BitVec 32 := 5#32
  let v355 : BitVec 32 := Scalar.addi v354 c5_i32_201
  let c0_i32_205 : BitVec 32 := 0#32
  let c0_i32_206 : BitVec 32 := 0#32
  ![v355.toNat, 0, 0]
def k0_off217 (v21 : BitVec 32) (k0_t4 : Fin (k0_t4_loop v21).trips) : Fin 4 → Nat :=
  let c0_i32_94 : BitVec 32 := 0#32
  let c1_i32_97 : BitVec 32 := 1#32
  let arg27 : BitVec 32 := Scf.iv c0_i32_94 c1_i32_97 k0_t4
  let c4_i32_103 : BitVec 32 := 4#32
  let v179 : BitVec 32 := Scalar.remsi arg27 c4_i32_103
  let c5_i32_207 : BitVec 32 := 5#32
  let c0_i32_208 : BitVec 32 := 0#32
  let c0_i32_209 : BitVec 32 := 0#32
  ![v179.toNat, 5, 0, 0]
def k0_off218 (v178 : BitVec 32) : Fin 3 → Nat :=
  let c8_i32_200 : BitVec 32 := 8#32
  let v354 : BitVec 32 := Scalar.muli v178 c8_i32_200
  let c5_i32_201 : BitVec 32 := 5#32
  let v355 : BitVec 32 := Scalar.addi v354 c5_i32_201
  let c0_i32_210 : BitVec 32 := 0#32
  let c0_i32_211 : BitVec 32 := 0#32
  ![v355.toNat, 0, 0]
def k0_off219 (v21 : BitVec 32) (k0_t4 : Fin (k0_t4_loop v21).trips) : Fin 1 → Nat :=
  let c0_i32_94 : BitVec 32 := 0#32
  let c1_i32_97 : BitVec 32 := 1#32
  let arg27 : BitVec 32 := Scf.iv c0_i32_94 c1_i32_97 k0_t4
  let c4_i32_103 : BitVec 32 := 4#32
  let v179 : BitVec 32 := Scalar.remsi arg27 c4_i32_103
  ![v179.toNat]
def k0_cond42 (v217 : BitVec 32) : BitVec 1 :=
  let c7_i32_149 : BitVec 32 := 7#32
  let v248 : BitVec 32 := Scalar.shrsi v217 c7_i32_149
  let c1_i32_150 : BitVec 32 := 1#32
  let v249 : BitVec 32 := Scalar.andi v248 c1_i32_150
  let c1_i32_151 : BitVec 32 := 1#32
  let v250 : BitVec 1 := Scalar.cmpi .eq v249 c1_i32_151
  let v251 : BitVec 32 := Scalar.extui v250
  let c0_i32_152 : BitVec 32 := 0#32
  let v252 : BitVec 1 := Scalar.cmpi .ne v251 c0_i32_152
  v252

def k0_off220 (v21 : BitVec 32) (k0_t4 : Fin (k0_t4_loop v21).trips) : Fin 4 → Nat :=
  let c0_i32_94 : BitVec 32 := 0#32
  let c1_i32_97 : BitVec 32 := 1#32
  let arg27 : BitVec 32 := Scf.iv c0_i32_94 c1_i32_97 k0_t4
  let c4_i32_103 : BitVec 32 := 4#32
  let v179 : BitVec 32 := Scalar.remsi arg27 c4_i32_103
  let c6_i32_202 : BitVec 32 := 6#32
  let c0_i32_203 : BitVec 32 := 0#32
  let c0_i32_204 : BitVec 32 := 0#32
  ![v179.toNat, 6, 0, 0]
def k0_off221 (v178 : BitVec 32) : Fin 3 → Nat :=
  let c8_i32_200 : BitVec 32 := 8#32
  let v354 : BitVec 32 := Scalar.muli v178 c8_i32_200
  let c6_i32_201 : BitVec 32 := 6#32
  let v355 : BitVec 32 := Scalar.addi v354 c6_i32_201
  let c0_i32_205 : BitVec 32 := 0#32
  let c0_i32_206 : BitVec 32 := 0#32
  ![v355.toNat, 0, 0]
def k0_off222 (v21 : BitVec 32) (k0_t4 : Fin (k0_t4_loop v21).trips) : Fin 4 → Nat :=
  let c0_i32_94 : BitVec 32 := 0#32
  let c1_i32_97 : BitVec 32 := 1#32
  let arg27 : BitVec 32 := Scf.iv c0_i32_94 c1_i32_97 k0_t4
  let c4_i32_103 : BitVec 32 := 4#32
  let v179 : BitVec 32 := Scalar.remsi arg27 c4_i32_103
  let c6_i32_207 : BitVec 32 := 6#32
  let c0_i32_208 : BitVec 32 := 0#32
  let c0_i32_209 : BitVec 32 := 0#32
  ![v179.toNat, 6, 0, 0]
def k0_off223 (v178 : BitVec 32) : Fin 3 → Nat :=
  let c8_i32_200 : BitVec 32 := 8#32
  let v354 : BitVec 32 := Scalar.muli v178 c8_i32_200
  let c6_i32_201 : BitVec 32 := 6#32
  let v355 : BitVec 32 := Scalar.addi v354 c6_i32_201
  let c0_i32_210 : BitVec 32 := 0#32
  let c0_i32_211 : BitVec 32 := 0#32
  ![v355.toNat, 0, 0]
def k0_off224 (v21 : BitVec 32) (k0_t4 : Fin (k0_t4_loop v21).trips) : Fin 1 → Nat :=
  let c0_i32_94 : BitVec 32 := 0#32
  let c1_i32_97 : BitVec 32 := 1#32
  let arg27 : BitVec 32 := Scf.iv c0_i32_94 c1_i32_97 k0_t4
  let c4_i32_103 : BitVec 32 := 4#32
  let v179 : BitVec 32 := Scalar.remsi arg27 c4_i32_103
  ![v179.toNat]
def k0_cond43 (v217 : BitVec 32) : BitVec 1 :=
  let c8_i32_153 : BitVec 32 := 8#32
  let v253 : BitVec 32 := Scalar.shrsi v217 c8_i32_153
  let c1_i32_154 : BitVec 32 := 1#32
  let v254 : BitVec 32 := Scalar.andi v253 c1_i32_154
  let c1_i32_155 : BitVec 32 := 1#32
  let v255 : BitVec 1 := Scalar.cmpi .eq v254 c1_i32_155
  let v256 : BitVec 32 := Scalar.extui v255
  let c0_i32_156 : BitVec 32 := 0#32
  let v257 : BitVec 1 := Scalar.cmpi .ne v256 c0_i32_156
  v257

def k0_off225 (v21 : BitVec 32) (k0_t4 : Fin (k0_t4_loop v21).trips) : Fin 4 → Nat :=
  let c0_i32_94 : BitVec 32 := 0#32
  let c1_i32_97 : BitVec 32 := 1#32
  let arg27 : BitVec 32 := Scf.iv c0_i32_94 c1_i32_97 k0_t4
  let c4_i32_103 : BitVec 32 := 4#32
  let v179 : BitVec 32 := Scalar.remsi arg27 c4_i32_103
  let c7_i32_202 : BitVec 32 := 7#32
  let c0_i32_203 : BitVec 32 := 0#32
  let c0_i32_204 : BitVec 32 := 0#32
  ![v179.toNat, 7, 0, 0]
def k0_off226 (v178 : BitVec 32) : Fin 3 → Nat :=
  let c8_i32_200 : BitVec 32 := 8#32
  let v354 : BitVec 32 := Scalar.muli v178 c8_i32_200
  let c7_i32_201 : BitVec 32 := 7#32
  let v355 : BitVec 32 := Scalar.addi v354 c7_i32_201
  let c0_i32_205 : BitVec 32 := 0#32
  let c0_i32_206 : BitVec 32 := 0#32
  ![v355.toNat, 0, 0]
def k0_off227 (v21 : BitVec 32) (k0_t4 : Fin (k0_t4_loop v21).trips) : Fin 4 → Nat :=
  let c0_i32_94 : BitVec 32 := 0#32
  let c1_i32_97 : BitVec 32 := 1#32
  let arg27 : BitVec 32 := Scf.iv c0_i32_94 c1_i32_97 k0_t4
  let c4_i32_103 : BitVec 32 := 4#32
  let v179 : BitVec 32 := Scalar.remsi arg27 c4_i32_103
  let c7_i32_207 : BitVec 32 := 7#32
  let c0_i32_208 : BitVec 32 := 0#32
  let c0_i32_209 : BitVec 32 := 0#32
  ![v179.toNat, 7, 0, 0]
def k0_off228 (v178 : BitVec 32) : Fin 3 → Nat :=
  let c8_i32_200 : BitVec 32 := 8#32
  let v354 : BitVec 32 := Scalar.muli v178 c8_i32_200
  let c7_i32_201 : BitVec 32 := 7#32
  let v355 : BitVec 32 := Scalar.addi v354 c7_i32_201
  let c0_i32_210 : BitVec 32 := 0#32
  let c0_i32_211 : BitVec 32 := 0#32
  ![v355.toNat, 0, 0]

def k0_chk20_0 (v21 : BitVec 32) (k0_t4 : Fin (k0_t4_loop v21).trips) (v178 : BitVec 32) (v217 : BitVec 32) : Prop :=
  (∀ (k0_h36 : k0_cond36 v217 = 1#1), ∀ a, (k0_off189 v21 k0_t4) a + S1.size a ≤ S4.size a) ∧
  (∀ (k0_h36 : k0_cond36 v217 = 1#1), ∀ a, (k0_off190 v21 k0_t4) a + S1x1x16x5120.size a ≤ S4x8x16x5120.size a) ∧
  (∀ (k0_h36 : k0_cond36 v217 = 1#1), ∀ a, (k0_off191 v178) a + S1x16x5120.size a ≤ S256x16x5120.size a) ∧
  (∀ (k0_h36 : k0_cond36 v217 = 1#1), ∀ (hinb : ∀ a, (k0_off191 v178) a + S1x16x5120.size a ≤ S256x16x5120.size a), (Rect.unit (s := S256x16x5120) (k0_off191 v178) S1x16x5120.size hinb).WholeWords (EltTy.packing .bf16)) ∧
  (∀ (k0_h36 : k0_cond36 v217 = 1#1), ∀ (hinb : ∀ a, (k0_off190 v21 k0_t4) a + S1x1x16x5120.size a ≤ S4x8x16x5120.size a), (Rect.unit (s := S4x8x16x5120) (k0_off190 v21 k0_t4) S1x1x16x5120.size hinb).WholeWords (EltTy.packing .bf16)) ∧
  (∀ (k0_h36 : k0_cond36 v217 = 1#1), ∀ a, (k0_off192 v21 k0_t4) a + S1x1x16x768.size a ≤ S4x8x16x768.size a) ∧
  (∀ (k0_h36 : k0_cond36 v217 = 1#1), ∀ a, (k0_off193 v178) a + S1x16x768.size a ≤ S256x16x768.size a) ∧
  (∀ (k0_h36 : k0_cond36 v217 = 1#1), ∀ (hinb : ∀ a, (k0_off193 v178) a + S1x16x768.size a ≤ S256x16x768.size a), (Rect.unit (s := S256x16x768) (k0_off193 v178) S1x16x768.size hinb).WholeWords (EltTy.packing .bf16)) ∧
  (∀ (k0_h36 : k0_cond36 v217 = 1#1), ∀ (hinb : ∀ a, (k0_off192 v21 k0_t4) a + S1x1x16x768.size a ≤ S4x8x16x768.size a), (Rect.unit (s := S4x8x16x768) (k0_off192 v21 k0_t4) S1x1x16x768.size hinb).WholeWords (EltTy.packing .bf16)) ∧
  (∀ (k0_h37 : k0_cond37 v217 = 1#1), ∀ a, (k0_off194 v21 k0_t4) a + S1.size a ≤ S4.size a) ∧
  (∀ (k0_h37 : k0_cond37 v217 = 1#1), ∀ a, (k0_off195 v21 k0_t4) a + S1x1x16x5120.size a ≤ S4x8x16x5120.size a) ∧
  (∀ (k0_h37 : k0_cond37 v217 = 1#1), ∀ a, (k0_off196 v178) a + S1x16x5120.size a ≤ S256x16x5120.size a) ∧
  (∀ (k0_h37 : k0_cond37 v217 = 1#1), ∀ (hinb : ∀ a, (k0_off196 v178) a + S1x16x5120.size a ≤ S256x16x5120.size a), (Rect.unit (s := S256x16x5120) (k0_off196 v178) S1x16x5120.size hinb).WholeWords (EltTy.packing .bf16)) ∧
  (∀ (k0_h37 : k0_cond37 v217 = 1#1), ∀ (hinb : ∀ a, (k0_off195 v21 k0_t4) a + S1x1x16x5120.size a ≤ S4x8x16x5120.size a), (Rect.unit (s := S4x8x16x5120) (k0_off195 v21 k0_t4) S1x1x16x5120.size hinb).WholeWords (EltTy.packing .bf16)) ∧
  (∀ (k0_h37 : k0_cond37 v217 = 1#1), ∀ a, (k0_off197 v21 k0_t4) a + S1x1x16x768.size a ≤ S4x8x16x768.size a) ∧
  (∀ (k0_h37 : k0_cond37 v217 = 1#1), ∀ a, (k0_off198 v178) a + S1x16x768.size a ≤ S256x16x768.size a) ∧
  (∀ (k0_h37 : k0_cond37 v217 = 1#1), ∀ (hinb : ∀ a, (k0_off198 v178) a + S1x16x768.size a ≤ S256x16x768.size a), (Rect.unit (s := S256x16x768) (k0_off198 v178) S1x16x768.size hinb).WholeWords (EltTy.packing .bf16)) ∧
  (∀ (k0_h37 : k0_cond37 v217 = 1#1), ∀ (hinb : ∀ a, (k0_off197 v21 k0_t4) a + S1x1x16x768.size a ≤ S4x8x16x768.size a), (Rect.unit (s := S4x8x16x768) (k0_off197 v21 k0_t4) S1x1x16x768.size hinb).WholeWords (EltTy.packing .bf16)) ∧
  (∀ (k0_h38 : k0_cond38 v217 = 1#1), ∀ a, (k0_off199 v21 k0_t4) a + S1.size a ≤ S4.size a) ∧
  (∀ (k0_h38 : k0_cond38 v217 = 1#1), ∀ a, (k0_off200 v21 k0_t4) a + S1x1x16x5120.size a ≤ S4x8x16x5120.size a) ∧
  (∀ (k0_h38 : k0_cond38 v217 = 1#1), ∀ a, (k0_off201 v178) a + S1x16x5120.size a ≤ S256x16x5120.size a) ∧
  (∀ (k0_h38 : k0_cond38 v217 = 1#1), ∀ (hinb : ∀ a, (k0_off201 v178) a + S1x16x5120.size a ≤ S256x16x5120.size a), (Rect.unit (s := S256x16x5120) (k0_off201 v178) S1x16x5120.size hinb).WholeWords (EltTy.packing .bf16)) ∧
  (∀ (k0_h38 : k0_cond38 v217 = 1#1), ∀ (hinb : ∀ a, (k0_off200 v21 k0_t4) a + S1x1x16x5120.size a ≤ S4x8x16x5120.size a), (Rect.unit (s := S4x8x16x5120) (k0_off200 v21 k0_t4) S1x1x16x5120.size hinb).WholeWords (EltTy.packing .bf16)) ∧
  (∀ (k0_h38 : k0_cond38 v217 = 1#1), ∀ a, (k0_off202 v21 k0_t4) a + S1x1x16x768.size a ≤ S4x8x16x768.size a) ∧
  (∀ (k0_h38 : k0_cond38 v217 = 1#1), ∀ a, (k0_off203 v178) a + S1x16x768.size a ≤ S256x16x768.size a) ∧
  (∀ (k0_h38 : k0_cond38 v217 = 1#1), ∀ (hinb : ∀ a, (k0_off203 v178) a + S1x16x768.size a ≤ S256x16x768.size a), (Rect.unit (s := S256x16x768) (k0_off203 v178) S1x16x768.size hinb).WholeWords (EltTy.packing .bf16)) ∧
  (∀ (k0_h38 : k0_cond38 v217 = 1#1), ∀ (hinb : ∀ a, (k0_off202 v21 k0_t4) a + S1x1x16x768.size a ≤ S4x8x16x768.size a), (Rect.unit (s := S4x8x16x768) (k0_off202 v21 k0_t4) S1x1x16x768.size hinb).WholeWords (EltTy.packing .bf16)) ∧
  (∀ (k0_h39 : k0_cond39 v217 = 1#1), ∀ a, (k0_off204 v21 k0_t4) a + S1.size a ≤ S4.size a) ∧
  (∀ (k0_h39 : k0_cond39 v217 = 1#1), ∀ a, (k0_off205 v21 k0_t4) a + S1x1x16x5120.size a ≤ S4x8x16x5120.size a) ∧
  (∀ (k0_h39 : k0_cond39 v217 = 1#1), ∀ a, (k0_off206 v178) a + S1x16x5120.size a ≤ S256x16x5120.size a) ∧
  (∀ (k0_h39 : k0_cond39 v217 = 1#1), ∀ (hinb : ∀ a, (k0_off206 v178) a + S1x16x5120.size a ≤ S256x16x5120.size a), (Rect.unit (s := S256x16x5120) (k0_off206 v178) S1x16x5120.size hinb).WholeWords (EltTy.packing .bf16)) ∧
  (∀ (k0_h39 : k0_cond39 v217 = 1#1), ∀ (hinb : ∀ a, (k0_off205 v21 k0_t4) a + S1x1x16x5120.size a ≤ S4x8x16x5120.size a), (Rect.unit (s := S4x8x16x5120) (k0_off205 v21 k0_t4) S1x1x16x5120.size hinb).WholeWords (EltTy.packing .bf16))
def k0_chk20_1 (v21 : BitVec 32) (k0_t4 : Fin (k0_t4_loop v21).trips) (v178 : BitVec 32) (v217 : BitVec 32) : Prop :=
  (∀ (k0_h39 : k0_cond39 v217 = 1#1), ∀ a, (k0_off207 v21 k0_t4) a + S1x1x16x768.size a ≤ S4x8x16x768.size a) ∧
  (∀ (k0_h39 : k0_cond39 v217 = 1#1), ∀ a, (k0_off208 v178) a + S1x16x768.size a ≤ S256x16x768.size a) ∧
  (∀ (k0_h39 : k0_cond39 v217 = 1#1), ∀ (hinb : ∀ a, (k0_off208 v178) a + S1x16x768.size a ≤ S256x16x768.size a), (Rect.unit (s := S256x16x768) (k0_off208 v178) S1x16x768.size hinb).WholeWords (EltTy.packing .bf16)) ∧
  (∀ (k0_h39 : k0_cond39 v217 = 1#1), ∀ (hinb : ∀ a, (k0_off207 v21 k0_t4) a + S1x1x16x768.size a ≤ S4x8x16x768.size a), (Rect.unit (s := S4x8x16x768) (k0_off207 v21 k0_t4) S1x1x16x768.size hinb).WholeWords (EltTy.packing .bf16)) ∧
  (∀ (k0_h40 : k0_cond40 v217 = 1#1), ∀ a, (k0_off209 v21 k0_t4) a + S1.size a ≤ S4.size a) ∧
  (∀ (k0_h40 : k0_cond40 v217 = 1#1), ∀ a, (k0_off210 v21 k0_t4) a + S1x1x16x5120.size a ≤ S4x8x16x5120.size a) ∧
  (∀ (k0_h40 : k0_cond40 v217 = 1#1), ∀ a, (k0_off211 v178) a + S1x16x5120.size a ≤ S256x16x5120.size a) ∧
  (∀ (k0_h40 : k0_cond40 v217 = 1#1), ∀ (hinb : ∀ a, (k0_off211 v178) a + S1x16x5120.size a ≤ S256x16x5120.size a), (Rect.unit (s := S256x16x5120) (k0_off211 v178) S1x16x5120.size hinb).WholeWords (EltTy.packing .bf16)) ∧
  (∀ (k0_h40 : k0_cond40 v217 = 1#1), ∀ (hinb : ∀ a, (k0_off210 v21 k0_t4) a + S1x1x16x5120.size a ≤ S4x8x16x5120.size a), (Rect.unit (s := S4x8x16x5120) (k0_off210 v21 k0_t4) S1x1x16x5120.size hinb).WholeWords (EltTy.packing .bf16)) ∧
  (∀ (k0_h40 : k0_cond40 v217 = 1#1), ∀ a, (k0_off212 v21 k0_t4) a + S1x1x16x768.size a ≤ S4x8x16x768.size a) ∧
  (∀ (k0_h40 : k0_cond40 v217 = 1#1), ∀ a, (k0_off213 v178) a + S1x16x768.size a ≤ S256x16x768.size a) ∧
  (∀ (k0_h40 : k0_cond40 v217 = 1#1), ∀ (hinb : ∀ a, (k0_off213 v178) a + S1x16x768.size a ≤ S256x16x768.size a), (Rect.unit (s := S256x16x768) (k0_off213 v178) S1x16x768.size hinb).WholeWords (EltTy.packing .bf16)) ∧
  (∀ (k0_h40 : k0_cond40 v217 = 1#1), ∀ (hinb : ∀ a, (k0_off212 v21 k0_t4) a + S1x1x16x768.size a ≤ S4x8x16x768.size a), (Rect.unit (s := S4x8x16x768) (k0_off212 v21 k0_t4) S1x1x16x768.size hinb).WholeWords (EltTy.packing .bf16)) ∧
  (∀ (k0_h41 : k0_cond41 v217 = 1#1), ∀ a, (k0_off214 v21 k0_t4) a + S1.size a ≤ S4.size a) ∧
  (∀ (k0_h41 : k0_cond41 v217 = 1#1), ∀ a, (k0_off215 v21 k0_t4) a + S1x1x16x5120.size a ≤ S4x8x16x5120.size a) ∧
  (∀ (k0_h41 : k0_cond41 v217 = 1#1), ∀ a, (k0_off216 v178) a + S1x16x5120.size a ≤ S256x16x5120.size a) ∧
  (∀ (k0_h41 : k0_cond41 v217 = 1#1), ∀ (hinb : ∀ a, (k0_off216 v178) a + S1x16x5120.size a ≤ S256x16x5120.size a), (Rect.unit (s := S256x16x5120) (k0_off216 v178) S1x16x5120.size hinb).WholeWords (EltTy.packing .bf16)) ∧
  (∀ (k0_h41 : k0_cond41 v217 = 1#1), ∀ (hinb : ∀ a, (k0_off215 v21 k0_t4) a + S1x1x16x5120.size a ≤ S4x8x16x5120.size a), (Rect.unit (s := S4x8x16x5120) (k0_off215 v21 k0_t4) S1x1x16x5120.size hinb).WholeWords (EltTy.packing .bf16)) ∧
  (∀ (k0_h41 : k0_cond41 v217 = 1#1), ∀ a, (k0_off217 v21 k0_t4) a + S1x1x16x768.size a ≤ S4x8x16x768.size a) ∧
  (∀ (k0_h41 : k0_cond41 v217 = 1#1), ∀ a, (k0_off218 v178) a + S1x16x768.size a ≤ S256x16x768.size a) ∧
  (∀ (k0_h41 : k0_cond41 v217 = 1#1), ∀ (hinb : ∀ a, (k0_off218 v178) a + S1x16x768.size a ≤ S256x16x768.size a), (Rect.unit (s := S256x16x768) (k0_off218 v178) S1x16x768.size hinb).WholeWords (EltTy.packing .bf16)) ∧
  (∀ (k0_h41 : k0_cond41 v217 = 1#1), ∀ (hinb : ∀ a, (k0_off217 v21 k0_t4) a + S1x1x16x768.size a ≤ S4x8x16x768.size a), (Rect.unit (s := S4x8x16x768) (k0_off217 v21 k0_t4) S1x1x16x768.size hinb).WholeWords (EltTy.packing .bf16)) ∧
  (∀ (k0_h42 : k0_cond42 v217 = 1#1), ∀ a, (k0_off219 v21 k0_t4) a + S1.size a ≤ S4.size a) ∧
  (∀ (k0_h42 : k0_cond42 v217 = 1#1), ∀ a, (k0_off220 v21 k0_t4) a + S1x1x16x5120.size a ≤ S4x8x16x5120.size a) ∧
  (∀ (k0_h42 : k0_cond42 v217 = 1#1), ∀ a, (k0_off221 v178) a + S1x16x5120.size a ≤ S256x16x5120.size a) ∧
  (∀ (k0_h42 : k0_cond42 v217 = 1#1), ∀ (hinb : ∀ a, (k0_off221 v178) a + S1x16x5120.size a ≤ S256x16x5120.size a), (Rect.unit (s := S256x16x5120) (k0_off221 v178) S1x16x5120.size hinb).WholeWords (EltTy.packing .bf16)) ∧
  (∀ (k0_h42 : k0_cond42 v217 = 1#1), ∀ (hinb : ∀ a, (k0_off220 v21 k0_t4) a + S1x1x16x5120.size a ≤ S4x8x16x5120.size a), (Rect.unit (s := S4x8x16x5120) (k0_off220 v21 k0_t4) S1x1x16x5120.size hinb).WholeWords (EltTy.packing .bf16)) ∧
  (∀ (k0_h42 : k0_cond42 v217 = 1#1), ∀ a, (k0_off222 v21 k0_t4) a + S1x1x16x768.size a ≤ S4x8x16x768.size a) ∧
  (∀ (k0_h42 : k0_cond42 v217 = 1#1), ∀ a, (k0_off223 v178) a + S1x16x768.size a ≤ S256x16x768.size a) ∧
  (∀ (k0_h42 : k0_cond42 v217 = 1#1), ∀ (hinb : ∀ a, (k0_off223 v178) a + S1x16x768.size a ≤ S256x16x768.size a), (Rect.unit (s := S256x16x768) (k0_off223 v178) S1x16x768.size hinb).WholeWords (EltTy.packing .bf16)) ∧
  (∀ (k0_h42 : k0_cond42 v217 = 1#1), ∀ (hinb : ∀ a, (k0_off222 v21 k0_t4) a + S1x1x16x768.size a ≤ S4x8x16x768.size a), (Rect.unit (s := S4x8x16x768) (k0_off222 v21 k0_t4) S1x1x16x768.size hinb).WholeWords (EltTy.packing .bf16)) ∧
  (∀ (k0_h43 : k0_cond43 v217 = 1#1), ∀ a, (k0_off224 v21 k0_t4) a + S1.size a ≤ S4.size a)
def k0_chk20_2 (v21 : BitVec 32) (k0_t4 : Fin (k0_t4_loop v21).trips) (v178 : BitVec 32) (v217 : BitVec 32) : Prop :=
  (∀ (k0_h43 : k0_cond43 v217 = 1#1), ∀ a, (k0_off225 v21 k0_t4) a + S1x1x16x5120.size a ≤ S4x8x16x5120.size a) ∧
  (∀ (k0_h43 : k0_cond43 v217 = 1#1), ∀ a, (k0_off226 v178) a + S1x16x5120.size a ≤ S256x16x5120.size a) ∧
  (∀ (k0_h43 : k0_cond43 v217 = 1#1), ∀ (hinb : ∀ a, (k0_off226 v178) a + S1x16x5120.size a ≤ S256x16x5120.size a), (Rect.unit (s := S256x16x5120) (k0_off226 v178) S1x16x5120.size hinb).WholeWords (EltTy.packing .bf16)) ∧
  (∀ (k0_h43 : k0_cond43 v217 = 1#1), ∀ (hinb : ∀ a, (k0_off225 v21 k0_t4) a + S1x1x16x5120.size a ≤ S4x8x16x5120.size a), (Rect.unit (s := S4x8x16x5120) (k0_off225 v21 k0_t4) S1x1x16x5120.size hinb).WholeWords (EltTy.packing .bf16)) ∧
  (∀ (k0_h43 : k0_cond43 v217 = 1#1), ∀ a, (k0_off227 v21 k0_t4) a + S1x1x16x768.size a ≤ S4x8x16x768.size a) ∧
  (∀ (k0_h43 : k0_cond43 v217 = 1#1), ∀ a, (k0_off228 v178) a + S1x16x768.size a ≤ S256x16x768.size a) ∧
  (∀ (k0_h43 : k0_cond43 v217 = 1#1), ∀ (hinb : ∀ a, (k0_off228 v178) a + S1x16x768.size a ≤ S256x16x768.size a), (Rect.unit (s := S256x16x768) (k0_off228 v178) S1x16x768.size hinb).WholeWords (EltTy.packing .bf16)) ∧
  (∀ (k0_h43 : k0_cond43 v217 = 1#1), ∀ (hinb : ∀ a, (k0_off227 v21 k0_t4) a + S1x1x16x768.size a ≤ S4x8x16x768.size a), (Rect.unit (s := S4x8x16x768) (k0_off227 v21 k0_t4) S1x1x16x768.size hinb).WholeWords (EltTy.packing .bf16))
def k0_chk20 (v21 : BitVec 32) (k0_t4 : Fin (k0_t4_loop v21).trips) (v178 : BitVec 32) (v217 : BitVec 32) : Prop :=
  k0_chk20_0 v21 k0_t4 v178 v217 ∧
  k0_chk20_1 v21 k0_t4 v178 v217 ∧
  k0_chk20_2 v21 k0_t4 v178 v217
theorem k0_off189_inb : ∀ (v21 : BitVec 32) (k0_t4 : Fin (k0_t4_loop v21).trips) (v178 : BitVec 32) (v217 : BitVec 32) (k0_hw20 : k0_chk20 v21 k0_t4 v178 v217), ∀ (k0_h36 : k0_cond36 v217 = 1#1), ∀ a, (k0_off189 v21 k0_t4) a + S1.size a ≤ S4.size a := fun v21 k0_t4 v178 v217 k0_hw20 k0_h36 => k0_hw20.1.1 k0_h36
theorem k0_off190_inb : ∀ (v21 : BitVec 32) (k0_t4 : Fin (k0_t4_loop v21).trips) (v178 : BitVec 32) (v217 : BitVec 32) (k0_hw20 : k0_chk20 v21 k0_t4 v178 v217), ∀ (k0_h36 : k0_cond36 v217 = 1#1), ∀ a, (k0_off190 v21 k0_t4) a + S1x1x16x5120.size a ≤ S4x8x16x5120.size a := fun v21 k0_t4 v178 v217 k0_hw20 k0_h36 => k0_hw20.1.2.1 k0_h36
theorem k0_off191_inb : ∀ (v21 : BitVec 32) (k0_t4 : Fin (k0_t4_loop v21).trips) (v178 : BitVec 32) (v217 : BitVec 32) (k0_hw20 : k0_chk20 v21 k0_t4 v178 v217), ∀ (k0_h36 : k0_cond36 v217 = 1#1), ∀ a, (k0_off191 v178) a + S1x16x5120.size a ≤ S256x16x5120.size a := fun v21 k0_t4 v178 v217 k0_hw20 k0_h36 => k0_hw20.1.2.2.1 k0_h36
theorem k0_off191_wordsbf16 : ∀ (v21 : BitVec 32) (k0_t4 : Fin (k0_t4_loop v21).trips) (v178 : BitVec 32) (v217 : BitVec 32) (k0_hw20 : k0_chk20 v21 k0_t4 v178 v217), ∀ (k0_h36 : k0_cond36 v217 = 1#1), (Rect.unit (s := S256x16x5120) (k0_off191 v178) S1x16x5120.size (k0_off191_inb v21 k0_t4 v178 v217 k0_hw20 k0_h36)).WholeWords (EltTy.packing .bf16) := fun v21 k0_t4 v178 v217 k0_hw20 k0_h36 => k0_hw20.1.2.2.2.1 k0_h36 (k0_off191_inb v21 k0_t4 v178 v217 k0_hw20 k0_h36)
theorem k0_off190_wordsbf16 : ∀ (v21 : BitVec 32) (k0_t4 : Fin (k0_t4_loop v21).trips) (v178 : BitVec 32) (v217 : BitVec 32) (k0_hw20 : k0_chk20 v21 k0_t4 v178 v217), ∀ (k0_h36 : k0_cond36 v217 = 1#1), (Rect.unit (s := S4x8x16x5120) (k0_off190 v21 k0_t4) S1x1x16x5120.size (k0_off190_inb v21 k0_t4 v178 v217 k0_hw20 k0_h36)).WholeWords (EltTy.packing .bf16) := fun v21 k0_t4 v178 v217 k0_hw20 k0_h36 => k0_hw20.1.2.2.2.2.1 k0_h36 (k0_off190_inb v21 k0_t4 v178 v217 k0_hw20 k0_h36)
theorem k0_off192_inb : ∀ (v21 : BitVec 32) (k0_t4 : Fin (k0_t4_loop v21).trips) (v178 : BitVec 32) (v217 : BitVec 32) (k0_hw20 : k0_chk20 v21 k0_t4 v178 v217), ∀ (k0_h36 : k0_cond36 v217 = 1#1), ∀ a, (k0_off192 v21 k0_t4) a + S1x1x16x768.size a ≤ S4x8x16x768.size a := fun v21 k0_t4 v178 v217 k0_hw20 k0_h36 => k0_hw20.1.2.2.2.2.2.1 k0_h36
theorem k0_off193_inb : ∀ (v21 : BitVec 32) (k0_t4 : Fin (k0_t4_loop v21).trips) (v178 : BitVec 32) (v217 : BitVec 32) (k0_hw20 : k0_chk20 v21 k0_t4 v178 v217), ∀ (k0_h36 : k0_cond36 v217 = 1#1), ∀ a, (k0_off193 v178) a + S1x16x768.size a ≤ S256x16x768.size a := fun v21 k0_t4 v178 v217 k0_hw20 k0_h36 => k0_hw20.1.2.2.2.2.2.2.1 k0_h36
theorem k0_off193_wordsbf16 : ∀ (v21 : BitVec 32) (k0_t4 : Fin (k0_t4_loop v21).trips) (v178 : BitVec 32) (v217 : BitVec 32) (k0_hw20 : k0_chk20 v21 k0_t4 v178 v217), ∀ (k0_h36 : k0_cond36 v217 = 1#1), (Rect.unit (s := S256x16x768) (k0_off193 v178) S1x16x768.size (k0_off193_inb v21 k0_t4 v178 v217 k0_hw20 k0_h36)).WholeWords (EltTy.packing .bf16) := fun v21 k0_t4 v178 v217 k0_hw20 k0_h36 => k0_hw20.1.2.2.2.2.2.2.2.1 k0_h36 (k0_off193_inb v21 k0_t4 v178 v217 k0_hw20 k0_h36)
theorem k0_off192_wordsbf16 : ∀ (v21 : BitVec 32) (k0_t4 : Fin (k0_t4_loop v21).trips) (v178 : BitVec 32) (v217 : BitVec 32) (k0_hw20 : k0_chk20 v21 k0_t4 v178 v217), ∀ (k0_h36 : k0_cond36 v217 = 1#1), (Rect.unit (s := S4x8x16x768) (k0_off192 v21 k0_t4) S1x1x16x768.size (k0_off192_inb v21 k0_t4 v178 v217 k0_hw20 k0_h36)).WholeWords (EltTy.packing .bf16) := fun v21 k0_t4 v178 v217 k0_hw20 k0_h36 => k0_hw20.1.2.2.2.2.2.2.2.2.1 k0_h36 (k0_off192_inb v21 k0_t4 v178 v217 k0_hw20 k0_h36)
theorem k0_off194_inb : ∀ (v21 : BitVec 32) (k0_t4 : Fin (k0_t4_loop v21).trips) (v178 : BitVec 32) (v217 : BitVec 32) (k0_hw20 : k0_chk20 v21 k0_t4 v178 v217), ∀ (k0_h37 : k0_cond37 v217 = 1#1), ∀ a, (k0_off194 v21 k0_t4) a + S1.size a ≤ S4.size a := fun v21 k0_t4 v178 v217 k0_hw20 k0_h37 => k0_hw20.1.2.2.2.2.2.2.2.2.2.1 k0_h37
theorem k0_off195_inb : ∀ (v21 : BitVec 32) (k0_t4 : Fin (k0_t4_loop v21).trips) (v178 : BitVec 32) (v217 : BitVec 32) (k0_hw20 : k0_chk20 v21 k0_t4 v178 v217), ∀ (k0_h37 : k0_cond37 v217 = 1#1), ∀ a, (k0_off195 v21 k0_t4) a + S1x1x16x5120.size a ≤ S4x8x16x5120.size a := fun v21 k0_t4 v178 v217 k0_hw20 k0_h37 => k0_hw20.1.2.2.2.2.2.2.2.2.2.2.1 k0_h37
theorem k0_off196_inb : ∀ (v21 : BitVec 32) (k0_t4 : Fin (k0_t4_loop v21).trips) (v178 : BitVec 32) (v217 : BitVec 32) (k0_hw20 : k0_chk20 v21 k0_t4 v178 v217), ∀ (k0_h37 : k0_cond37 v217 = 1#1), ∀ a, (k0_off196 v178) a + S1x16x5120.size a ≤ S256x16x5120.size a := fun v21 k0_t4 v178 v217 k0_hw20 k0_h37 => k0_hw20.1.2.2.2.2.2.2.2.2.2.2.2.1 k0_h37
theorem k0_off196_wordsbf16 : ∀ (v21 : BitVec 32) (k0_t4 : Fin (k0_t4_loop v21).trips) (v178 : BitVec 32) (v217 : BitVec 32) (k0_hw20 : k0_chk20 v21 k0_t4 v178 v217), ∀ (k0_h37 : k0_cond37 v217 = 1#1), (Rect.unit (s := S256x16x5120) (k0_off196 v178) S1x16x5120.size (k0_off196_inb v21 k0_t4 v178 v217 k0_hw20 k0_h37)).WholeWords (EltTy.packing .bf16) := fun v21 k0_t4 v178 v217 k0_hw20 k0_h37 => k0_hw20.1.2.2.2.2.2.2.2.2.2.2.2.2.1 k0_h37 (k0_off196_inb v21 k0_t4 v178 v217 k0_hw20 k0_h37)
theorem k0_off195_wordsbf16 : ∀ (v21 : BitVec 32) (k0_t4 : Fin (k0_t4_loop v21).trips) (v178 : BitVec 32) (v217 : BitVec 32) (k0_hw20 : k0_chk20 v21 k0_t4 v178 v217), ∀ (k0_h37 : k0_cond37 v217 = 1#1), (Rect.unit (s := S4x8x16x5120) (k0_off195 v21 k0_t4) S1x1x16x5120.size (k0_off195_inb v21 k0_t4 v178 v217 k0_hw20 k0_h37)).WholeWords (EltTy.packing .bf16) := fun v21 k0_t4 v178 v217 k0_hw20 k0_h37 => k0_hw20.1.2.2.2.2.2.2.2.2.2.2.2.2.2.1 k0_h37 (k0_off195_inb v21 k0_t4 v178 v217 k0_hw20 k0_h37)
theorem k0_off197_inb : ∀ (v21 : BitVec 32) (k0_t4 : Fin (k0_t4_loop v21).trips) (v178 : BitVec 32) (v217 : BitVec 32) (k0_hw20 : k0_chk20 v21 k0_t4 v178 v217), ∀ (k0_h37 : k0_cond37 v217 = 1#1), ∀ a, (k0_off197 v21 k0_t4) a + S1x1x16x768.size a ≤ S4x8x16x768.size a := fun v21 k0_t4 v178 v217 k0_hw20 k0_h37 => k0_hw20.1.2.2.2.2.2.2.2.2.2.2.2.2.2.2.1 k0_h37
theorem k0_off198_inb : ∀ (v21 : BitVec 32) (k0_t4 : Fin (k0_t4_loop v21).trips) (v178 : BitVec 32) (v217 : BitVec 32) (k0_hw20 : k0_chk20 v21 k0_t4 v178 v217), ∀ (k0_h37 : k0_cond37 v217 = 1#1), ∀ a, (k0_off198 v178) a + S1x16x768.size a ≤ S256x16x768.size a := fun v21 k0_t4 v178 v217 k0_hw20 k0_h37 => k0_hw20.1.2.2.2.2.2.2.2.2.2.2.2.2.2.2.2.1 k0_h37
theorem k0_off198_wordsbf16 : ∀ (v21 : BitVec 32) (k0_t4 : Fin (k0_t4_loop v21).trips) (v178 : BitVec 32) (v217 : BitVec 32) (k0_hw20 : k0_chk20 v21 k0_t4 v178 v217), ∀ (k0_h37 : k0_cond37 v217 = 1#1), (Rect.unit (s := S256x16x768) (k0_off198 v178) S1x16x768.size (k0_off198_inb v21 k0_t4 v178 v217 k0_hw20 k0_h37)).WholeWords (EltTy.packing .bf16) := fun v21 k0_t4 v178 v217 k0_hw20 k0_h37 => k0_hw20.1.2.2.2.2.2.2.2.2.2.2.2.2.2.2.2.2.1 k0_h37 (k0_off198_inb v21 k0_t4 v178 v217 k0_hw20 k0_h37)
theorem k0_off197_wordsbf16 : ∀ (v21 : BitVec 32) (k0_t4 : Fin (k0_t4_loop v21).trips) (v178 : BitVec 32) (v217 : BitVec 32) (k0_hw20 : k0_chk20 v21 k0_t4 v178 v217), ∀ (k0_h37 : k0_cond37 v217 = 1#1), (Rect.unit (s := S4x8x16x768) (k0_off197 v21 k0_t4) S1x1x16x768.size (k0_off197_inb v21 k0_t4 v178 v217 k0_hw20 k0_h37)).WholeWords (EltTy.packing .bf16) := fun v21 k0_t4 v178 v217 k0_hw20 k0_h37 => k0_hw20.1.2.2.2.2.2.2.2.2.2.2.2.2.2.2.2.2.2.1 k0_h37 (k0_off197_inb v21 k0_t4 v178 v217 k0_hw20 k0_h37)
theorem k0_off199_inb : ∀ (v21 : BitVec 32) (k0_t4 : Fin (k0_t4_loop v21).trips) (v178 : BitVec 32) (v217 : BitVec 32) (k0_hw20 : k0_chk20 v21 k0_t4 v178 v217), ∀ (k0_h38 : k0_cond38 v217 = 1#1), ∀ a, (k0_off199 v21 k0_t4) a + S1.size a ≤ S4.size a := fun v21 k0_t4 v178 v217 k0_hw20 k0_h38 => k0_hw20.1.2.2.2.2.2.2.2.2.2.2.2.2.2.2.2.2.2.2.1 k0_h38
theorem k0_off200_inb : ∀ (v21 : BitVec 32) (k0_t4 : Fin (k0_t4_loop v21).trips) (v178 : BitVec 32) (v217 : BitVec 32) (k0_hw20 : k0_chk20 v21 k0_t4 v178 v217), ∀ (k0_h38 : k0_cond38 v217 = 1#1), ∀ a, (k0_off200 v21 k0_t4) a + S1x1x16x5120.size a ≤ S4x8x16x5120.size a := fun v21 k0_t4 v178 v217 k0_hw20 k0_h38 => k0_hw20.1.2.2.2.2.2.2.2.2.2.2.2.2.2.2.2.2.2.2.2.1 k0_h38
theorem k0_off201_inb : ∀ (v21 : BitVec 32) (k0_t4 : Fin (k0_t4_loop v21).trips) (v178 : BitVec 32) (v217 : BitVec 32) (k0_hw20 : k0_chk20 v21 k0_t4 v178 v217), ∀ (k0_h38 : k0_cond38 v217 = 1#1), ∀ a, (k0_off201 v178) a + S1x16x5120.size a ≤ S256x16x5120.size a := fun v21 k0_t4 v178 v217 k0_hw20 k0_h38 => k0_hw20.1.2.2.2.2.2.2.2.2.2.2.2.2.2.2.2.2.2.2.2.2.1 k0_h38
theorem k0_off201_wordsbf16 : ∀ (v21 : BitVec 32) (k0_t4 : Fin (k0_t4_loop v21).trips) (v178 : BitVec 32) (v217 : BitVec 32) (k0_hw20 : k0_chk20 v21 k0_t4 v178 v217), ∀ (k0_h38 : k0_cond38 v217 = 1#1), (Rect.unit (s := S256x16x5120) (k0_off201 v178) S1x16x5120.size (k0_off201_inb v21 k0_t4 v178 v217 k0_hw20 k0_h38)).WholeWords (EltTy.packing .bf16) := fun v21 k0_t4 v178 v217 k0_hw20 k0_h38 => k0_hw20.1.2.2.2.2.2.2.2.2.2.2.2.2.2.2.2.2.2.2.2.2.2.1 k0_h38 (k0_off201_inb v21 k0_t4 v178 v217 k0_hw20 k0_h38)
theorem k0_off200_wordsbf16 : ∀ (v21 : BitVec 32) (k0_t4 : Fin (k0_t4_loop v21).trips) (v178 : BitVec 32) (v217 : BitVec 32) (k0_hw20 : k0_chk20 v21 k0_t4 v178 v217), ∀ (k0_h38 : k0_cond38 v217 = 1#1), (Rect.unit (s := S4x8x16x5120) (k0_off200 v21 k0_t4) S1x1x16x5120.size (k0_off200_inb v21 k0_t4 v178 v217 k0_hw20 k0_h38)).WholeWords (EltTy.packing .bf16) := fun v21 k0_t4 v178 v217 k0_hw20 k0_h38 => k0_hw20.1.2.2.2.2.2.2.2.2.2.2.2.2.2.2.2.2.2.2.2.2.2.2.1 k0_h38 (k0_off200_inb v21 k0_t4 v178 v217 k0_hw20 k0_h38)
theorem k0_off202_inb : ∀ (v21 : BitVec 32) (k0_t4 : Fin (k0_t4_loop v21).trips) (v178 : BitVec 32) (v217 : BitVec 32) (k0_hw20 : k0_chk20 v21 k0_t4 v178 v217), ∀ (k0_h38 : k0_cond38 v217 = 1#1), ∀ a, (k0_off202 v21 k0_t4) a + S1x1x16x768.size a ≤ S4x8x16x768.size a := fun v21 k0_t4 v178 v217 k0_hw20 k0_h38 => k0_hw20.1.2.2.2.2.2.2.2.2.2.2.2.2.2.2.2.2.2.2.2.2.2.2.2.1 k0_h38
theorem k0_off203_inb : ∀ (v21 : BitVec 32) (k0_t4 : Fin (k0_t4_loop v21).trips) (v178 : BitVec 32) (v217 : BitVec 32) (k0_hw20 : k0_chk20 v21 k0_t4 v178 v217), ∀ (k0_h38 : k0_cond38 v217 = 1#1), ∀ a, (k0_off203 v178) a + S1x16x768.size a ≤ S256x16x768.size a := fun v21 k0_t4 v178 v217 k0_hw20 k0_h38 => k0_hw20.1.2.2.2.2.2.2.2.2.2.2.2.2.2.2.2.2.2.2.2.2.2.2.2.2.1 k0_h38
theorem k0_off203_wordsbf16 : ∀ (v21 : BitVec 32) (k0_t4 : Fin (k0_t4_loop v21).trips) (v178 : BitVec 32) (v217 : BitVec 32) (k0_hw20 : k0_chk20 v21 k0_t4 v178 v217), ∀ (k0_h38 : k0_cond38 v217 = 1#1), (Rect.unit (s := S256x16x768) (k0_off203 v178) S1x16x768.size (k0_off203_inb v21 k0_t4 v178 v217 k0_hw20 k0_h38)).WholeWords (EltTy.packing .bf16) := fun v21 k0_t4 v178 v217 k0_hw20 k0_h38 => k0_hw20.1.2.2.2.2.2.2.2.2.2.2.2.2.2.2.2.2.2.2.2.2.2.2.2.2.2.1 k0_h38 (k0_off203_inb v21 k0_t4 v178 v217 k0_hw20 k0_h38)
theorem k0_off202_wordsbf16 : ∀ (v21 : BitVec 32) (k0_t4 : Fin (k0_t4_loop v21).trips) (v178 : BitVec 32) (v217 : BitVec 32) (k0_hw20 : k0_chk20 v21 k0_t4 v178 v217), ∀ (k0_h38 : k0_cond38 v217 = 1#1), (Rect.unit (s := S4x8x16x768) (k0_off202 v21 k0_t4) S1x1x16x768.size (k0_off202_inb v21 k0_t4 v178 v217 k0_hw20 k0_h38)).WholeWords (EltTy.packing .bf16) := fun v21 k0_t4 v178 v217 k0_hw20 k0_h38 => k0_hw20.1.2.2.2.2.2.2.2.2.2.2.2.2.2.2.2.2.2.2.2.2.2.2.2.2.2.2.1 k0_h38 (k0_off202_inb v21 k0_t4 v178 v217 k0_hw20 k0_h38)
theorem k0_off204_inb : ∀ (v21 : BitVec 32) (k0_t4 : Fin (k0_t4_loop v21).trips) (v178 : BitVec 32) (v217 : BitVec 32) (k0_hw20 : k0_chk20 v21 k0_t4 v178 v217), ∀ (k0_h39 : k0_cond39 v217 = 1#1), ∀ a, (k0_off204 v21 k0_t4) a + S1.size a ≤ S4.size a := fun v21 k0_t4 v178 v217 k0_hw20 k0_h39 => k0_hw20.1.2.2.2.2.2.2.2.2.2.2.2.2.2.2.2.2.2.2.2.2.2.2.2.2.2.2.2.1 k0_h39
theorem k0_off205_inb : ∀ (v21 : BitVec 32) (k0_t4 : Fin (k0_t4_loop v21).trips) (v178 : BitVec 32) (v217 : BitVec 32) (k0_hw20 : k0_chk20 v21 k0_t4 v178 v217), ∀ (k0_h39 : k0_cond39 v217 = 1#1), ∀ a, (k0_off205 v21 k0_t4) a + S1x1x16x5120.size a ≤ S4x8x16x5120.size a := fun v21 k0_t4 v178 v217 k0_hw20 k0_h39 => k0_hw20.1.2.2.2.2.2.2.2.2.2.2.2.2.2.2.2.2.2.2.2.2.2.2.2.2.2.2.2.2.1 k0_h39
theorem k0_off206_inb : ∀ (v21 : BitVec 32) (k0_t4 : Fin (k0_t4_loop v21).trips) (v178 : BitVec 32) (v217 : BitVec 32) (k0_hw20 : k0_chk20 v21 k0_t4 v178 v217), ∀ (k0_h39 : k0_cond39 v217 = 1#1), ∀ a, (k0_off206 v178) a + S1x16x5120.size a ≤ S256x16x5120.size a := fun v21 k0_t4 v178 v217 k0_hw20 k0_h39 => k0_hw20.1.2.2.2.2.2.2.2.2.2.2.2.2.2.2.2.2.2.2.2.2.2.2.2.2.2.2.2.2.2.1 k0_h39
theorem k0_off206_wordsbf16 : ∀ (v21 : BitVec 32) (k0_t4 : Fin (k0_t4_loop v21).trips) (v178 : BitVec 32) (v217 : BitVec 32) (k0_hw20 : k0_chk20 v21 k0_t4 v178 v217), ∀ (k0_h39 : k0_cond39 v217 = 1#1), (Rect.unit (s := S256x16x5120) (k0_off206 v178) S1x16x5120.size (k0_off206_inb v21 k0_t4 v178 v217 k0_hw20 k0_h39)).WholeWords (EltTy.packing .bf16) := fun v21 k0_t4 v178 v217 k0_hw20 k0_h39 => k0_hw20.1.2.2.2.2.2.2.2.2.2.2.2.2.2.2.2.2.2.2.2.2.2.2.2.2.2.2.2.2.2.2.1 k0_h39 (k0_off206_inb v21 k0_t4 v178 v217 k0_hw20 k0_h39)
theorem k0_off205_wordsbf16 : ∀ (v21 : BitVec 32) (k0_t4 : Fin (k0_t4_loop v21).trips) (v178 : BitVec 32) (v217 : BitVec 32) (k0_hw20 : k0_chk20 v21 k0_t4 v178 v217), ∀ (k0_h39 : k0_cond39 v217 = 1#1), (Rect.unit (s := S4x8x16x5120) (k0_off205 v21 k0_t4) S1x1x16x5120.size (k0_off205_inb v21 k0_t4 v178 v217 k0_hw20 k0_h39)).WholeWords (EltTy.packing .bf16) := fun v21 k0_t4 v178 v217 k0_hw20 k0_h39 => k0_hw20.1.2.2.2.2.2.2.2.2.2.2.2.2.2.2.2.2.2.2.2.2.2.2.2.2.2.2.2.2.2.2.2 k0_h39 (k0_off205_inb v21 k0_t4 v178 v217 k0_hw20 k0_h39)
theorem k0_off207_inb : ∀ (v21 : BitVec 32) (k0_t4 : Fin (k0_t4_loop v21).trips) (v178 : BitVec 32) (v217 : BitVec 32) (k0_hw20 : k0_chk20 v21 k0_t4 v178 v217), ∀ (k0_h39 : k0_cond39 v217 = 1#1), ∀ a, (k0_off207 v21 k0_t4) a + S1x1x16x768.size a ≤ S4x8x16x768.size a := fun v21 k0_t4 v178 v217 k0_hw20 k0_h39 => k0_hw20.2.1.1 k0_h39
theorem k0_off208_inb : ∀ (v21 : BitVec 32) (k0_t4 : Fin (k0_t4_loop v21).trips) (v178 : BitVec 32) (v217 : BitVec 32) (k0_hw20 : k0_chk20 v21 k0_t4 v178 v217), ∀ (k0_h39 : k0_cond39 v217 = 1#1), ∀ a, (k0_off208 v178) a + S1x16x768.size a ≤ S256x16x768.size a := fun v21 k0_t4 v178 v217 k0_hw20 k0_h39 => k0_hw20.2.1.2.1 k0_h39
theorem k0_off208_wordsbf16 : ∀ (v21 : BitVec 32) (k0_t4 : Fin (k0_t4_loop v21).trips) (v178 : BitVec 32) (v217 : BitVec 32) (k0_hw20 : k0_chk20 v21 k0_t4 v178 v217), ∀ (k0_h39 : k0_cond39 v217 = 1#1), (Rect.unit (s := S256x16x768) (k0_off208 v178) S1x16x768.size (k0_off208_inb v21 k0_t4 v178 v217 k0_hw20 k0_h39)).WholeWords (EltTy.packing .bf16) := fun v21 k0_t4 v178 v217 k0_hw20 k0_h39 => k0_hw20.2.1.2.2.1 k0_h39 (k0_off208_inb v21 k0_t4 v178 v217 k0_hw20 k0_h39)
theorem k0_off207_wordsbf16 : ∀ (v21 : BitVec 32) (k0_t4 : Fin (k0_t4_loop v21).trips) (v178 : BitVec 32) (v217 : BitVec 32) (k0_hw20 : k0_chk20 v21 k0_t4 v178 v217), ∀ (k0_h39 : k0_cond39 v217 = 1#1), (Rect.unit (s := S4x8x16x768) (k0_off207 v21 k0_t4) S1x1x16x768.size (k0_off207_inb v21 k0_t4 v178 v217 k0_hw20 k0_h39)).WholeWords (EltTy.packing .bf16) := fun v21 k0_t4 v178 v217 k0_hw20 k0_h39 => k0_hw20.2.1.2.2.2.1 k0_h39 (k0_off207_inb v21 k0_t4 v178 v217 k0_hw20 k0_h39)
theorem k0_off209_inb : ∀ (v21 : BitVec 32) (k0_t4 : Fin (k0_t4_loop v21).trips) (v178 : BitVec 32) (v217 : BitVec 32) (k0_hw20 : k0_chk20 v21 k0_t4 v178 v217), ∀ (k0_h40 : k0_cond40 v217 = 1#1), ∀ a, (k0_off209 v21 k0_t4) a + S1.size a ≤ S4.size a := fun v21 k0_t4 v178 v217 k0_hw20 k0_h40 => k0_hw20.2.1.2.2.2.2.1 k0_h40
theorem k0_off210_inb : ∀ (v21 : BitVec 32) (k0_t4 : Fin (k0_t4_loop v21).trips) (v178 : BitVec 32) (v217 : BitVec 32) (k0_hw20 : k0_chk20 v21 k0_t4 v178 v217), ∀ (k0_h40 : k0_cond40 v217 = 1#1), ∀ a, (k0_off210 v21 k0_t4) a + S1x1x16x5120.size a ≤ S4x8x16x5120.size a := fun v21 k0_t4 v178 v217 k0_hw20 k0_h40 => k0_hw20.2.1.2.2.2.2.2.1 k0_h40
theorem k0_off211_inb : ∀ (v21 : BitVec 32) (k0_t4 : Fin (k0_t4_loop v21).trips) (v178 : BitVec 32) (v217 : BitVec 32) (k0_hw20 : k0_chk20 v21 k0_t4 v178 v217), ∀ (k0_h40 : k0_cond40 v217 = 1#1), ∀ a, (k0_off211 v178) a + S1x16x5120.size a ≤ S256x16x5120.size a := fun v21 k0_t4 v178 v217 k0_hw20 k0_h40 => k0_hw20.2.1.2.2.2.2.2.2.1 k0_h40
theorem k0_off211_wordsbf16 : ∀ (v21 : BitVec 32) (k0_t4 : Fin (k0_t4_loop v21).trips) (v178 : BitVec 32) (v217 : BitVec 32) (k0_hw20 : k0_chk20 v21 k0_t4 v178 v217), ∀ (k0_h40 : k0_cond40 v217 = 1#1), (Rect.unit (s := S256x16x5120) (k0_off211 v178) S1x16x5120.size (k0_off211_inb v21 k0_t4 v178 v217 k0_hw20 k0_h40)).WholeWords (EltTy.packing .bf16) := fun v21 k0_t4 v178 v217 k0_hw20 k0_h40 => k0_hw20.2.1.2.2.2.2.2.2.2.1 k0_h40 (k0_off211_inb v21 k0_t4 v178 v217 k0_hw20 k0_h40)
theorem k0_off210_wordsbf16 : ∀ (v21 : BitVec 32) (k0_t4 : Fin (k0_t4_loop v21).trips) (v178 : BitVec 32) (v217 : BitVec 32) (k0_hw20 : k0_chk20 v21 k0_t4 v178 v217), ∀ (k0_h40 : k0_cond40 v217 = 1#1), (Rect.unit (s := S4x8x16x5120) (k0_off210 v21 k0_t4) S1x1x16x5120.size (k0_off210_inb v21 k0_t4 v178 v217 k0_hw20 k0_h40)).WholeWords (EltTy.packing .bf16) := fun v21 k0_t4 v178 v217 k0_hw20 k0_h40 => k0_hw20.2.1.2.2.2.2.2.2.2.2.1 k0_h40 (k0_off210_inb v21 k0_t4 v178 v217 k0_hw20 k0_h40)
theorem k0_off212_inb : ∀ (v21 : BitVec 32) (k0_t4 : Fin (k0_t4_loop v21).trips) (v178 : BitVec 32) (v217 : BitVec 32) (k0_hw20 : k0_chk20 v21 k0_t4 v178 v217), ∀ (k0_h40 : k0_cond40 v217 = 1#1), ∀ a, (k0_off212 v21 k0_t4) a + S1x1x16x768.size a ≤ S4x8x16x768.size a := fun v21 k0_t4 v178 v217 k0_hw20 k0_h40 => k0_hw20.2.1.2.2.2.2.2.2.2.2.2.1 k0_h40
theorem k0_off213_inb : ∀ (v21 : BitVec 32) (k0_t4 : Fin (k0_t4_loop v21).trips) (v178 : BitVec 32) (v217 : BitVec 32) (k0_hw20 : k0_chk20 v21 k0_t4 v178 v217), ∀ (k0_h40 : k0_cond40 v217 = 1#1), ∀ a, (k0_off213 v178) a + S1x16x768.size a ≤ S256x16x768.size a := fun v21 k0_t4 v178 v217 k0_hw20 k0_h40 => k0_hw20.2.1.2.2.2.2.2.2.2.2.2.2.1 k0_h40
theorem k0_off213_wordsbf16 : ∀ (v21 : BitVec 32) (k0_t4 : Fin (k0_t4_loop v21).trips) (v178 : BitVec 32) (v217 : BitVec 32) (k0_hw20 : k0_chk20 v21 k0_t4 v178 v217), ∀ (k0_h40 : k0_cond40 v217 = 1#1), (Rect.unit (s := S256x16x768) (k0_off213 v178) S1x16x768.size (k0_off213_inb v21 k0_t4 v178 v217 k0_hw20 k0_h40)).WholeWords (EltTy.packing .bf16) := fun v21 k0_t4 v178 v217 k0_hw20 k0_h40 => k0_hw20.2.1.2.2.2.2.2.2.2.2.2.2.2.1 k0_h40 (k0_off213_inb v21 k0_t4 v178 v217 k0_hw20 k0_h40)
theorem k0_off212_wordsbf16 : ∀ (v21 : BitVec 32) (k0_t4 : Fin (k0_t4_loop v21).trips) (v178 : BitVec 32) (v217 : BitVec 32) (k0_hw20 : k0_chk20 v21 k0_t4 v178 v217), ∀ (k0_h40 : k0_cond40 v217 = 1#1), (Rect.unit (s := S4x8x16x768) (k0_off212 v21 k0_t4) S1x1x16x768.size (k0_off212_inb v21 k0_t4 v178 v217 k0_hw20 k0_h40)).WholeWords (EltTy.packing .bf16) := fun v21 k0_t4 v178 v217 k0_hw20 k0_h40 => k0_hw20.2.1.2.2.2.2.2.2.2.2.2.2.2.2.1 k0_h40 (k0_off212_inb v21 k0_t4 v178 v217 k0_hw20 k0_h40)
theorem k0_off214_inb : ∀ (v21 : BitVec 32) (k0_t4 : Fin (k0_t4_loop v21).trips) (v178 : BitVec 32) (v217 : BitVec 32) (k0_hw20 : k0_chk20 v21 k0_t4 v178 v217), ∀ (k0_h41 : k0_cond41 v217 = 1#1), ∀ a, (k0_off214 v21 k0_t4) a + S1.size a ≤ S4.size a := fun v21 k0_t4 v178 v217 k0_hw20 k0_h41 => k0_hw20.2.1.2.2.2.2.2.2.2.2.2.2.2.2.2.1 k0_h41
theorem k0_off215_inb : ∀ (v21 : BitVec 32) (k0_t4 : Fin (k0_t4_loop v21).trips) (v178 : BitVec 32) (v217 : BitVec 32) (k0_hw20 : k0_chk20 v21 k0_t4 v178 v217), ∀ (k0_h41 : k0_cond41 v217 = 1#1), ∀ a, (k0_off215 v21 k0_t4) a + S1x1x16x5120.size a ≤ S4x8x16x5120.size a := fun v21 k0_t4 v178 v217 k0_hw20 k0_h41 => k0_hw20.2.1.2.2.2.2.2.2.2.2.2.2.2.2.2.2.1 k0_h41
theorem k0_off216_inb : ∀ (v21 : BitVec 32) (k0_t4 : Fin (k0_t4_loop v21).trips) (v178 : BitVec 32) (v217 : BitVec 32) (k0_hw20 : k0_chk20 v21 k0_t4 v178 v217), ∀ (k0_h41 : k0_cond41 v217 = 1#1), ∀ a, (k0_off216 v178) a + S1x16x5120.size a ≤ S256x16x5120.size a := fun v21 k0_t4 v178 v217 k0_hw20 k0_h41 => k0_hw20.2.1.2.2.2.2.2.2.2.2.2.2.2.2.2.2.2.1 k0_h41
theorem k0_off216_wordsbf16 : ∀ (v21 : BitVec 32) (k0_t4 : Fin (k0_t4_loop v21).trips) (v178 : BitVec 32) (v217 : BitVec 32) (k0_hw20 : k0_chk20 v21 k0_t4 v178 v217), ∀ (k0_h41 : k0_cond41 v217 = 1#1), (Rect.unit (s := S256x16x5120) (k0_off216 v178) S1x16x5120.size (k0_off216_inb v21 k0_t4 v178 v217 k0_hw20 k0_h41)).WholeWords (EltTy.packing .bf16) := fun v21 k0_t4 v178 v217 k0_hw20 k0_h41 => k0_hw20.2.1.2.2.2.2.2.2.2.2.2.2.2.2.2.2.2.2.1 k0_h41 (k0_off216_inb v21 k0_t4 v178 v217 k0_hw20 k0_h41)
theorem k0_off215_wordsbf16 : ∀ (v21 : BitVec 32) (k0_t4 : Fin (k0_t4_loop v21).trips) (v178 : BitVec 32) (v217 : BitVec 32) (k0_hw20 : k0_chk20 v21 k0_t4 v178 v217), ∀ (k0_h41 : k0_cond41 v217 = 1#1), (Rect.unit (s := S4x8x16x5120) (k0_off215 v21 k0_t4) S1x1x16x5120.size (k0_off215_inb v21 k0_t4 v178 v217 k0_hw20 k0_h41)).WholeWords (EltTy.packing .bf16) := fun v21 k0_t4 v178 v217 k0_hw20 k0_h41 => k0_hw20.2.1.2.2.2.2.2.2.2.2.2.2.2.2.2.2.2.2.2.1 k0_h41 (k0_off215_inb v21 k0_t4 v178 v217 k0_hw20 k0_h41)
theorem k0_off217_inb : ∀ (v21 : BitVec 32) (k0_t4 : Fin (k0_t4_loop v21).trips) (v178 : BitVec 32) (v217 : BitVec 32) (k0_hw20 : k0_chk20 v21 k0_t4 v178 v217), ∀ (k0_h41 : k0_cond41 v217 = 1#1), ∀ a, (k0_off217 v21 k0_t4) a + S1x1x16x768.size a ≤ S4x8x16x768.size a := fun v21 k0_t4 v178 v217 k0_hw20 k0_h41 => k0_hw20.2.1.2.2.2.2.2.2.2.2.2.2.2.2.2.2.2.2.2.2.1 k0_h41
theorem k0_off218_inb : ∀ (v21 : BitVec 32) (k0_t4 : Fin (k0_t4_loop v21).trips) (v178 : BitVec 32) (v217 : BitVec 32) (k0_hw20 : k0_chk20 v21 k0_t4 v178 v217), ∀ (k0_h41 : k0_cond41 v217 = 1#1), ∀ a, (k0_off218 v178) a + S1x16x768.size a ≤ S256x16x768.size a := fun v21 k0_t4 v178 v217 k0_hw20 k0_h41 => k0_hw20.2.1.2.2.2.2.2.2.2.2.2.2.2.2.2.2.2.2.2.2.2.1 k0_h41
theorem k0_off218_wordsbf16 : ∀ (v21 : BitVec 32) (k0_t4 : Fin (k0_t4_loop v21).trips) (v178 : BitVec 32) (v217 : BitVec 32) (k0_hw20 : k0_chk20 v21 k0_t4 v178 v217), ∀ (k0_h41 : k0_cond41 v217 = 1#1), (Rect.unit (s := S256x16x768) (k0_off218 v178) S1x16x768.size (k0_off218_inb v21 k0_t4 v178 v217 k0_hw20 k0_h41)).WholeWords (EltTy.packing .bf16) := fun v21 k0_t4 v178 v217 k0_hw20 k0_h41 => k0_hw20.2.1.2.2.2.2.2.2.2.2.2.2.2.2.2.2.2.2.2.2.2.2.1 k0_h41 (k0_off218_inb v21 k0_t4 v178 v217 k0_hw20 k0_h41)
theorem k0_off217_wordsbf16 : ∀ (v21 : BitVec 32) (k0_t4 : Fin (k0_t4_loop v21).trips) (v178 : BitVec 32) (v217 : BitVec 32) (k0_hw20 : k0_chk20 v21 k0_t4 v178 v217), ∀ (k0_h41 : k0_cond41 v217 = 1#1), (Rect.unit (s := S4x8x16x768) (k0_off217 v21 k0_t4) S1x1x16x768.size (k0_off217_inb v21 k0_t4 v178 v217 k0_hw20 k0_h41)).WholeWords (EltTy.packing .bf16) := fun v21 k0_t4 v178 v217 k0_hw20 k0_h41 => k0_hw20.2.1.2.2.2.2.2.2.2.2.2.2.2.2.2.2.2.2.2.2.2.2.2.1 k0_h41 (k0_off217_inb v21 k0_t4 v178 v217 k0_hw20 k0_h41)
theorem k0_off219_inb : ∀ (v21 : BitVec 32) (k0_t4 : Fin (k0_t4_loop v21).trips) (v178 : BitVec 32) (v217 : BitVec 32) (k0_hw20 : k0_chk20 v21 k0_t4 v178 v217), ∀ (k0_h42 : k0_cond42 v217 = 1#1), ∀ a, (k0_off219 v21 k0_t4) a + S1.size a ≤ S4.size a := fun v21 k0_t4 v178 v217 k0_hw20 k0_h42 => k0_hw20.2.1.2.2.2.2.2.2.2.2.2.2.2.2.2.2.2.2.2.2.2.2.2.2.1 k0_h42
theorem k0_off220_inb : ∀ (v21 : BitVec 32) (k0_t4 : Fin (k0_t4_loop v21).trips) (v178 : BitVec 32) (v217 : BitVec 32) (k0_hw20 : k0_chk20 v21 k0_t4 v178 v217), ∀ (k0_h42 : k0_cond42 v217 = 1#1), ∀ a, (k0_off220 v21 k0_t4) a + S1x1x16x5120.size a ≤ S4x8x16x5120.size a := fun v21 k0_t4 v178 v217 k0_hw20 k0_h42 => k0_hw20.2.1.2.2.2.2.2.2.2.2.2.2.2.2.2.2.2.2.2.2.2.2.2.2.2.1 k0_h42
theorem k0_off221_inb : ∀ (v21 : BitVec 32) (k0_t4 : Fin (k0_t4_loop v21).trips) (v178 : BitVec 32) (v217 : BitVec 32) (k0_hw20 : k0_chk20 v21 k0_t4 v178 v217), ∀ (k0_h42 : k0_cond42 v217 = 1#1), ∀ a, (k0_off221 v178) a + S1x16x5120.size a ≤ S256x16x5120.size a := fun v21 k0_t4 v178 v217 k0_hw20 k0_h42 => k0_hw20.2.1.2.2.2.2.2.2.2.2.2.2.2.2.2.2.2.2.2.2.2.2.2.2.2.2.1 k0_h42
theorem k0_off221_wordsbf16 : ∀ (v21 : BitVec 32) (k0_t4 : Fin (k0_t4_loop v21).trips) (v178 : BitVec 32) (v217 : BitVec 32) (k0_hw20 : k0_chk20 v21 k0_t4 v178 v217), ∀ (k0_h42 : k0_cond42 v217 = 1#1), (Rect.unit (s := S256x16x5120) (k0_off221 v178) S1x16x5120.size (k0_off221_inb v21 k0_t4 v178 v217 k0_hw20 k0_h42)).WholeWords (EltTy.packing .bf16) := fun v21 k0_t4 v178 v217 k0_hw20 k0_h42 => k0_hw20.2.1.2.2.2.2.2.2.2.2.2.2.2.2.2.2.2.2.2.2.2.2.2.2.2.2.2.1 k0_h42 (k0_off221_inb v21 k0_t4 v178 v217 k0_hw20 k0_h42)
theorem k0_off220_wordsbf16 : ∀ (v21 : BitVec 32) (k0_t4 : Fin (k0_t4_loop v21).trips) (v178 : BitVec 32) (v217 : BitVec 32) (k0_hw20 : k0_chk20 v21 k0_t4 v178 v217), ∀ (k0_h42 : k0_cond42 v217 = 1#1), (Rect.unit (s := S4x8x16x5120) (k0_off220 v21 k0_t4) S1x1x16x5120.size (k0_off220_inb v21 k0_t4 v178 v217 k0_hw20 k0_h42)).WholeWords (EltTy.packing .bf16) := fun v21 k0_t4 v178 v217 k0_hw20 k0_h42 => k0_hw20.2.1.2.2.2.2.2.2.2.2.2.2.2.2.2.2.2.2.2.2.2.2.2.2.2.2.2.2.1 k0_h42 (k0_off220_inb v21 k0_t4 v178 v217 k0_hw20 k0_h42)
theorem k0_off222_inb : ∀ (v21 : BitVec 32) (k0_t4 : Fin (k0_t4_loop v21).trips) (v178 : BitVec 32) (v217 : BitVec 32) (k0_hw20 : k0_chk20 v21 k0_t4 v178 v217), ∀ (k0_h42 : k0_cond42 v217 = 1#1), ∀ a, (k0_off222 v21 k0_t4) a + S1x1x16x768.size a ≤ S4x8x16x768.size a := fun v21 k0_t4 v178 v217 k0_hw20 k0_h42 => k0_hw20.2.1.2.2.2.2.2.2.2.2.2.2.2.2.2.2.2.2.2.2.2.2.2.2.2.2.2.2.2.1 k0_h42
theorem k0_off223_inb : ∀ (v21 : BitVec 32) (k0_t4 : Fin (k0_t4_loop v21).trips) (v178 : BitVec 32) (v217 : BitVec 32) (k0_hw20 : k0_chk20 v21 k0_t4 v178 v217), ∀ (k0_h42 : k0_cond42 v217 = 1#1), ∀ a, (k0_off223 v178) a + S1x16x768.size a ≤ S256x16x768.size a := fun v21 k0_t4 v178 v217 k0_hw20 k0_h42 => k0_hw20.2.1.2.2.2.2.2.2.2.2.2.2.2.2.2.2.2.2.2.2.2.2.2.2.2.2.2.2.2.2.1 k0_h42
theorem k0_off223_wordsbf16 : ∀ (v21 : BitVec 32) (k0_t4 : Fin (k0_t4_loop v21).trips) (v178 : BitVec 32) (v217 : BitVec 32) (k0_hw20 : k0_chk20 v21 k0_t4 v178 v217), ∀ (k0_h42 : k0_cond42 v217 = 1#1), (Rect.unit (s := S256x16x768) (k0_off223 v178) S1x16x768.size (k0_off223_inb v21 k0_t4 v178 v217 k0_hw20 k0_h42)).WholeWords (EltTy.packing .bf16) := fun v21 k0_t4 v178 v217 k0_hw20 k0_h42 => k0_hw20.2.1.2.2.2.2.2.2.2.2.2.2.2.2.2.2.2.2.2.2.2.2.2.2.2.2.2.2.2.2.2.1 k0_h42 (k0_off223_inb v21 k0_t4 v178 v217 k0_hw20 k0_h42)
theorem k0_off222_wordsbf16 : ∀ (v21 : BitVec 32) (k0_t4 : Fin (k0_t4_loop v21).trips) (v178 : BitVec 32) (v217 : BitVec 32) (k0_hw20 : k0_chk20 v21 k0_t4 v178 v217), ∀ (k0_h42 : k0_cond42 v217 = 1#1), (Rect.unit (s := S4x8x16x768) (k0_off222 v21 k0_t4) S1x1x16x768.size (k0_off222_inb v21 k0_t4 v178 v217 k0_hw20 k0_h42)).WholeWords (EltTy.packing .bf16) := fun v21 k0_t4 v178 v217 k0_hw20 k0_h42 => k0_hw20.2.1.2.2.2.2.2.2.2.2.2.2.2.2.2.2.2.2.2.2.2.2.2.2.2.2.2.2.2.2.2.2.1 k0_h42 (k0_off222_inb v21 k0_t4 v178 v217 k0_hw20 k0_h42)
theorem k0_off224_inb : ∀ (v21 : BitVec 32) (k0_t4 : Fin (k0_t4_loop v21).trips) (v178 : BitVec 32) (v217 : BitVec 32) (k0_hw20 : k0_chk20 v21 k0_t4 v178 v217), ∀ (k0_h43 : k0_cond43 v217 = 1#1), ∀ a, (k0_off224 v21 k0_t4) a + S1.size a ≤ S4.size a := fun v21 k0_t4 v178 v217 k0_hw20 k0_h43 => k0_hw20.2.1.2.2.2.2.2.2.2.2.2.2.2.2.2.2.2.2.2.2.2.2.2.2.2.2.2.2.2.2.2.2.2 k0_h43
theorem k0_off225_inb : ∀ (v21 : BitVec 32) (k0_t4 : Fin (k0_t4_loop v21).trips) (v178 : BitVec 32) (v217 : BitVec 32) (k0_hw20 : k0_chk20 v21 k0_t4 v178 v217), ∀ (k0_h43 : k0_cond43 v217 = 1#1), ∀ a, (k0_off225 v21 k0_t4) a + S1x1x16x5120.size a ≤ S4x8x16x5120.size a := fun v21 k0_t4 v178 v217 k0_hw20 k0_h43 => k0_hw20.2.2.1 k0_h43
theorem k0_off226_inb : ∀ (v21 : BitVec 32) (k0_t4 : Fin (k0_t4_loop v21).trips) (v178 : BitVec 32) (v217 : BitVec 32) (k0_hw20 : k0_chk20 v21 k0_t4 v178 v217), ∀ (k0_h43 : k0_cond43 v217 = 1#1), ∀ a, (k0_off226 v178) a + S1x16x5120.size a ≤ S256x16x5120.size a := fun v21 k0_t4 v178 v217 k0_hw20 k0_h43 => k0_hw20.2.2.2.1 k0_h43
theorem k0_off226_wordsbf16 : ∀ (v21 : BitVec 32) (k0_t4 : Fin (k0_t4_loop v21).trips) (v178 : BitVec 32) (v217 : BitVec 32) (k0_hw20 : k0_chk20 v21 k0_t4 v178 v217), ∀ (k0_h43 : k0_cond43 v217 = 1#1), (Rect.unit (s := S256x16x5120) (k0_off226 v178) S1x16x5120.size (k0_off226_inb v21 k0_t4 v178 v217 k0_hw20 k0_h43)).WholeWords (EltTy.packing .bf16) := fun v21 k0_t4 v178 v217 k0_hw20 k0_h43 => k0_hw20.2.2.2.2.1 k0_h43 (k0_off226_inb v21 k0_t4 v178 v217 k0_hw20 k0_h43)
theorem k0_off225_wordsbf16 : ∀ (v21 : BitVec 32) (k0_t4 : Fin (k0_t4_loop v21).trips) (v178 : BitVec 32) (v217 : BitVec 32) (k0_hw20 : k0_chk20 v21 k0_t4 v178 v217), ∀ (k0_h43 : k0_cond43 v217 = 1#1), (Rect.unit (s := S4x8x16x5120) (k0_off225 v21 k0_t4) S1x1x16x5120.size (k0_off225_inb v21 k0_t4 v178 v217 k0_hw20 k0_h43)).WholeWords (EltTy.packing .bf16) := fun v21 k0_t4 v178 v217 k0_hw20 k0_h43 => k0_hw20.2.2.2.2.2.1 k0_h43 (k0_off225_inb v21 k0_t4 v178 v217 k0_hw20 k0_h43)
theorem k0_off227_inb : ∀ (v21 : BitVec 32) (k0_t4 : Fin (k0_t4_loop v21).trips) (v178 : BitVec 32) (v217 : BitVec 32) (k0_hw20 : k0_chk20 v21 k0_t4 v178 v217), ∀ (k0_h43 : k0_cond43 v217 = 1#1), ∀ a, (k0_off227 v21 k0_t4) a + S1x1x16x768.size a ≤ S4x8x16x768.size a := fun v21 k0_t4 v178 v217 k0_hw20 k0_h43 => k0_hw20.2.2.2.2.2.2.1 k0_h43
theorem k0_off228_inb : ∀ (v21 : BitVec 32) (k0_t4 : Fin (k0_t4_loop v21).trips) (v178 : BitVec 32) (v217 : BitVec 32) (k0_hw20 : k0_chk20 v21 k0_t4 v178 v217), ∀ (k0_h43 : k0_cond43 v217 = 1#1), ∀ a, (k0_off228 v178) a + S1x16x768.size a ≤ S256x16x768.size a := fun v21 k0_t4 v178 v217 k0_hw20 k0_h43 => k0_hw20.2.2.2.2.2.2.2.1 k0_h43
theorem k0_off228_wordsbf16 : ∀ (v21 : BitVec 32) (k0_t4 : Fin (k0_t4_loop v21).trips) (v178 : BitVec 32) (v217 : BitVec 32) (k0_hw20 : k0_chk20 v21 k0_t4 v178 v217), ∀ (k0_h43 : k0_cond43 v217 = 1#1), (Rect.unit (s := S256x16x768) (k0_off228 v178) S1x16x768.size (k0_off228_inb v21 k0_t4 v178 v217 k0_hw20 k0_h43)).WholeWords (EltTy.packing .bf16) := fun v21 k0_t4 v178 v217 k0_hw20 k0_h43 => k0_hw20.2.2.2.2.2.2.2.2.1 k0_h43 (k0_off228_inb v21 k0_t4 v178 v217 k0_hw20 k0_h43)
theorem k0_off227_wordsbf16 : ∀ (v21 : BitVec 32) (k0_t4 : Fin (k0_t4_loop v21).trips) (v178 : BitVec 32) (v217 : BitVec 32) (k0_hw20 : k0_chk20 v21 k0_t4 v178 v217), ∀ (k0_h43 : k0_cond43 v217 = 1#1), (Rect.unit (s := S4x8x16x768) (k0_off227 v21 k0_t4) S1x1x16x768.size (k0_off227_inb v21 k0_t4 v178 v217 k0_hw20 k0_h43)).WholeWords (EltTy.packing .bf16) := fun v21 k0_t4 v178 v217 k0_hw20 k0_h43 => k0_hw20.2.2.2.2.2.2.2.2.2 k0_h43 (k0_off227_inb v21 k0_t4 v178 v217 k0_hw20 k0_h43)

def k0_off229 (v21 : BitVec 32) (k0_t4 : Fin (k0_t4_loop v21).trips) : Fin 4 → Nat :=
  let c0_i32_94 : BitVec 32 := 0#32
  let c1_i32_97 : BitVec 32 := 1#32
  let arg27 : BitVec 32 := Scf.iv c0_i32_94 c1_i32_97 k0_t4
  let c4_i32_103 : BitVec 32 := 4#32
  let v179 : BitVec 32 := Scalar.remsi arg27 c4_i32_103
  let v258 : Index := Scalar.indexCast v179
  let c0_157 : Index := 0#32
  let c0_158 : Index := 0#32
  let c0_159 : Index := 0#32
  ![v258.toNat, 0, 0, 0]
def k0_off230 (v21 : BitVec 32) (k0_t4 : Fin (k0_t4_loop v21).trips) : Fin 4 → Nat :=
  let c0_i32_94 : BitVec 32 := 0#32
  let c1_i32_97 : BitVec 32 := 1#32
  let arg27 : BitVec 32 := Scf.iv c0_i32_94 c1_i32_97 k0_t4
  let c4_i32_103 : BitVec 32 := 4#32
  let v179 : BitVec 32 := Scalar.remsi arg27 c4_i32_103
  let v262 : Index := Scalar.indexCast v179
  let c0_160 : Index := 0#32
  let c0_161 : Index := 0#32
  let c0_162 : Index := 0#32
  ![v262.toNat, 0, 0, 0]
def k0_off231 (v21 : BitVec 32) (k0_t4 : Fin (k0_t4_loop v21).trips) : Fin 1 → Nat :=
  let c0_i32_94 : BitVec 32 := 0#32
  let c1_i32_97 : BitVec 32 := 1#32
  let arg27 : BitVec 32 := Scf.iv c0_i32_94 c1_i32_97 k0_t4
  let c4_i32_103 : BitVec 32 := 4#32
  let v179 : BitVec 32 := Scalar.remsi arg27 c4_i32_103
  ![v179.toNat]
def k0_off232 (v21 : BitVec 32) (k0_t4 : Fin (k0_t4_loop v21).trips) : Fin 3 → Nat :=
  let c0_i32_94 : BitVec 32 := 0#32
  let c1_i32_97 : BitVec 32 := 1#32
  let arg27 : BitVec 32 := Scf.iv c0_i32_94 c1_i32_97 k0_t4
  let c4_i32_103 : BitVec 32 := 4#32
  let v179 : BitVec 32 := Scalar.remsi arg27 c4_i32_103
  let c0_i32_186 : BitVec 32 := 0#32
  let c0_i32_187 : BitVec 32 := 0#32
  ![v179.toNat, 0, 0]
def k0_off233 (v178 : BitVec 32) : Fin 3 → Nat :=
  let c0_i32_188 : BitVec 32 := 0#32
  let c0_i32_189 : BitVec 32 := 0#32
  ![v178.toNat, 0, 0]
def k0_off234 (v21 : BitVec 32) (k0_t4 : Fin (k0_t4_loop v21).trips) : Fin 3 → Nat :=
  let c0_i32_94 : BitVec 32 := 0#32
  let c1_i32_97 : BitVec 32 := 1#32
  let arg27 : BitVec 32 := Scf.iv c0_i32_94 c1_i32_97 k0_t4
  let c4_i32_103 : BitVec 32 := 4#32
  let v179 : BitVec 32 := Scalar.remsi arg27 c4_i32_103
  let v333 : Index := Scalar.indexCast v179
  let c0_190 : Index := 0#32
  let c0_191 : Index := 0#32
  ![v333.toNat, 0, 0]
def k0_off235 (v178 : BitVec 32) : Fin 2 → Nat :=
  let v339 : Index := Scalar.indexCast v178
  let c0_193 : Index := 0#32
  ![v339.toNat, 0]

def k0_chk19 (v178 : BitVec 32) : Prop :=
  (∀ a, (k0_off185 v178) a + S1x5120x768.size a ≤ S32x5120x768.size a) ∧
  (∀ (hinb : ∀ a, (k0_off185 v178) a + S1x5120x768.size a ≤ S32x5120x768.size a), (Rect.unit (s := S32x5120x768) (k0_off185 v178) S1x5120x768.size hinb).WholeWords (EltTy.packing .fp8e4m3)) ∧
  (∀ a, (k0_off187 v178) a + S1x768.size a ≤ S32x768.size a) ∧
  (∀ a, (k0_off188 v178) a + S1.size a ≤ S32.size a) ∧
  (∀ a, (k0_off233 v178) a + S1x768x5120.size a ≤ S32x768x5120.size a) ∧
  (∀ (hinb : ∀ a, (k0_off233 v178) a + S1x768x5120.size a ≤ S32x768x5120.size a), (Rect.unit (s := S32x768x5120) (k0_off233 v178) S1x768x5120.size hinb).WholeWords (EltTy.packing .fp8e4m3)) ∧
  (∀ a, (k0_off235 v178) a + S1x5120.size a ≤ S32x5120.size a)
theorem k0_off185_inb : ∀ (v178 : BitVec 32) (k0_hw19 : k0_chk19 v178), ∀ a, (k0_off185 v178) a + S1x5120x768.size a ≤ S32x5120x768.size a := fun v178 k0_hw19 => k0_hw19.1
theorem k0_off185_wordsfp8e4m3 : ∀ (v178 : BitVec 32) (k0_hw19 : k0_chk19 v178), (Rect.unit (s := S32x5120x768) (k0_off185 v178) S1x5120x768.size (k0_off185_inb v178 k0_hw19)).WholeWords (EltTy.packing .fp8e4m3) := fun v178 k0_hw19 => k0_hw19.2.1 (k0_off185_inb v178 k0_hw19)
theorem k0_off187_inb : ∀ (v178 : BitVec 32) (k0_hw19 : k0_chk19 v178), ∀ a, (k0_off187 v178) a + S1x768.size a ≤ S32x768.size a := fun v178 k0_hw19 => k0_hw19.2.2.1
theorem k0_off188_inb : ∀ (v178 : BitVec 32) (k0_hw19 : k0_chk19 v178), ∀ a, (k0_off188 v178) a + S1.size a ≤ S32.size a := fun v178 k0_hw19 => k0_hw19.2.2.2.1
theorem k0_off233_inb : ∀ (v178 : BitVec 32) (k0_hw19 : k0_chk19 v178), ∀ a, (k0_off233 v178) a + S1x768x5120.size a ≤ S32x768x5120.size a := fun v178 k0_hw19 => k0_hw19.2.2.2.2.1
theorem k0_off233_wordsfp8e4m3 : ∀ (v178 : BitVec 32) (k0_hw19 : k0_chk19 v178), (Rect.unit (s := S32x768x5120) (k0_off233 v178) S1x768x5120.size (k0_off233_inb v178 k0_hw19)).WholeWords (EltTy.packing .fp8e4m3) := fun v178 k0_hw19 => k0_hw19.2.2.2.2.2.1 (k0_off233_inb v178 k0_hw19)
theorem k0_off235_inb : ∀ (v178 : BitVec 32) (k0_hw19 : k0_chk19 v178), ∀ a, (k0_off235 v178) a + S1x5120.size a ≤ S32x5120.size a := fun v178 k0_hw19 => k0_hw19.2.2.2.2.2.2

@[reducible] def k0_t5_loop (v21 : BitVec 32) : Scf.Loop 32 :=
  let c0_i32_94 : BitVec 32 := 0#32
  let v167 : BitVec 32 := Scalar.subi v21 c0_i32_94
  let c1_i32_96 : BitVec 32 := 1#32
  let v169 : BitVec 32 := Scalar.divsi v167 c1_i32_96
  let v170 : BitVec 32 := Scalar.muli v169 c1_i32_96
  let v171 : BitVec 32 := Scalar.addi c0_i32_94 v170
  let v168 : BitVec 32 := Scalar.addi c0_i32_94 v167
  let c1_i32_98 : BitVec 32 := 1#32
  ⟨v171, v168, c1_i32_98⟩
def k0_off236 (v21 : BitVec 32) (k0_t5 : Fin (k0_t5_loop v21).trips) : Fin 1 → Nat :=
  let c0_i32_94 : BitVec 32 := 0#32
  let v167 : BitVec 32 := Scalar.subi v21 c0_i32_94
  let c1_i32_96 : BitVec 32 := 1#32
  let v169 : BitVec 32 := Scalar.divsi v167 c1_i32_96
  let v170 : BitVec 32 := Scalar.muli v169 c1_i32_96
  let v171 : BitVec 32 := Scalar.addi c0_i32_94 v170
  let c1_i32_98 : BitVec 32 := 1#32
  let arg27 : BitVec 32 := Scf.iv v171 c1_i32_98 k0_t5
  let v177 : Index := Scalar.indexCast arg27
  ![v177.toNat]
def k0_off237 (v21 : BitVec 32) (k0_t5 : Fin (k0_t5_loop v21).trips) : Fin 1 → Nat :=
  let c0_i32_94 : BitVec 32 := 0#32
  let v167 : BitVec 32 := Scalar.subi v21 c0_i32_94
  let c1_i32_96 : BitVec 32 := 1#32
  let v169 : BitVec 32 := Scalar.divsi v167 c1_i32_96
  let v170 : BitVec 32 := Scalar.muli v169 c1_i32_96
  let v171 : BitVec 32 := Scalar.addi c0_i32_94 v170
  let c1_i32_98 : BitVec 32 := 1#32
  let arg27 : BitVec 32 := Scf.iv v171 c1_i32_98 k0_t5
  let c4_i32_200 : BitVec 32 := 4#32
  let v354 : BitVec 32 := Scalar.addi arg27 c4_i32_200
  let c1_i32_201 : BitVec 32 := 1#32
  let v355 : BitVec 32 := Scalar.subi v354 c1_i32_201
  let v356 : Index := Scalar.indexCast v355
  ![v356.toNat]
def k0_cond44 (v21 : BitVec 32) (k0_t5 : Fin (k0_t5_loop v21).trips) : BitVec 1 :=
  let c0_i32_94 : BitVec 32 := 0#32
  let v167 : BitVec 32 := Scalar.subi v21 c0_i32_94
  let c1_i32_96 : BitVec 32 := 1#32
  let v169 : BitVec 32 := Scalar.divsi v167 c1_i32_96
  let v170 : BitVec 32 := Scalar.muli v169 c1_i32_96
  let v171 : BitVec 32 := Scalar.addi c0_i32_94 v170
  let c1_i32_98 : BitVec 32 := 1#32
  let arg27 : BitVec 32 := Scf.iv v171 c1_i32_98 k0_t5
  let c4_i32_104 : BitVec 32 := 4#32
  let v180 : BitVec 32 := Scalar.addi arg27 c4_i32_104
  let c1_i32_105 : BitVec 32 := 1#32
  let v181 : BitVec 32 := Scalar.subi v180 c1_i32_105
  let v182 : BitVec 1 := Scalar.cmpi .slt v181 v21
  let v183 : BitVec 32 := Scalar.extui v182
  let c0_i32_106 : BitVec 32 := 0#32
  let v184 : BitVec 1 := Scalar.cmpi .ne v183 c0_i32_106
  v184

def k0_off238 (v21 : BitVec 32) (k0_t5 : Fin (k0_t5_loop v21).trips) : Fin 1 → Nat :=
  let c0_i32_94 : BitVec 32 := 0#32
  let v167 : BitVec 32 := Scalar.subi v21 c0_i32_94
  let c1_i32_96 : BitVec 32 := 1#32
  let v169 : BitVec 32 := Scalar.divsi v167 c1_i32_96
  let v170 : BitVec 32 := Scalar.muli v169 c1_i32_96
  let v171 : BitVec 32 := Scalar.addi c0_i32_94 v170
  let c1_i32_98 : BitVec 32 := 1#32
  let arg27 : BitVec 32 := Scf.iv v171 c1_i32_98 k0_t5
  let c4_i32_200 : BitVec 32 := 4#32
  let v354 : BitVec 32 := Scalar.addi arg27 c4_i32_200
  let c1_i32_201 : BitVec 32 := 1#32
  let v355 : BitVec 32 := Scalar.subi v354 c1_i32_201
  let c4_i32_202 : BitVec 32 := 4#32
  let v358 : BitVec 32 := Scalar.remsi v355 c4_i32_202
  ![v358.toNat]
def k0_off239 (v21 : BitVec 32) (k0_t5 : Fin (k0_t5_loop v21).trips) : Fin 3 → Nat :=
  let c0_i32_94 : BitVec 32 := 0#32
  let v167 : BitVec 32 := Scalar.subi v21 c0_i32_94
  let c1_i32_96 : BitVec 32 := 1#32
  let v169 : BitVec 32 := Scalar.divsi v167 c1_i32_96
  let v170 : BitVec 32 := Scalar.muli v169 c1_i32_96
  let v171 : BitVec 32 := Scalar.addi c0_i32_94 v170
  let c1_i32_98 : BitVec 32 := 1#32
  let arg27 : BitVec 32 := Scf.iv v171 c1_i32_98 k0_t5
  let c4_i32_200 : BitVec 32 := 4#32
  let v354 : BitVec 32 := Scalar.addi arg27 c4_i32_200
  let c1_i32_201 : BitVec 32 := 1#32
  let v355 : BitVec 32 := Scalar.subi v354 c1_i32_201
  let c4_i32_202 : BitVec 32 := 4#32
  let v358 : BitVec 32 := Scalar.remsi v355 c4_i32_202
  let c0_i32_203 : BitVec 32 := 0#32
  let c0_i32_204 : BitVec 32 := 0#32
  ![v358.toNat, 0, 0]
def k0_off240 (v357 : BitVec 32) : Fin 3 → Nat :=
  let c0_i32_205 : BitVec 32 := 0#32
  let c0_i32_206 : BitVec 32 := 0#32
  ![v357.toNat, 0, 0]

def k0_off241 (v357 : BitVec 32) : Fin 1 → Nat :=
  let v365 : Index := Scalar.indexCast v357
  ![v365.toNat]
def k0_off242 (v21 : BitVec 32) (k0_t5 : Fin (k0_t5_loop v21).trips) : Fin 1 → Nat :=
  let c0_i32_94 : BitVec 32 := 0#32
  let v167 : BitVec 32 := Scalar.subi v21 c0_i32_94
  let c1_i32_96 : BitVec 32 := 1#32
  let v169 : BitVec 32 := Scalar.divsi v167 c1_i32_96
  let v170 : BitVec 32 := Scalar.muli v169 c1_i32_96
  let v171 : BitVec 32 := Scalar.addi c0_i32_94 v170
  let c1_i32_98 : BitVec 32 := 1#32
  let arg27 : BitVec 32 := Scf.iv v171 c1_i32_98 k0_t5
  let c4_i32_200 : BitVec 32 := 4#32
  let v354 : BitVec 32 := Scalar.addi arg27 c4_i32_200
  let c1_i32_201 : BitVec 32 := 1#32
  let v355 : BitVec 32 := Scalar.subi v354 c1_i32_201
  let c4_i32_202 : BitVec 32 := 4#32
  let v358 : BitVec 32 := Scalar.remsi v355 c4_i32_202
  ![v358.toNat]
def k0_cond45 (v366 : BitVec 32) : BitVec 1 :=
  let c1_i32_207 : BitVec 32 := 1#32
  let v367 : BitVec 32 := Scalar.shrsi v366 c1_i32_207
  let c1_i32_208 : BitVec 32 := 1#32
  let v368 : BitVec 32 := Scalar.andi v367 c1_i32_208
  let c1_i32_209 : BitVec 32 := 1#32
  let v369 : BitVec 1 := Scalar.cmpi .eq v368 c1_i32_209
  let v370 : BitVec 32 := Scalar.extui v369
  let c0_i32_210 : BitVec 32 := 0#32
  let v371 : BitVec 1 := Scalar.cmpi .ne v370 c0_i32_210
  v371

def k0_off243 (v21 : BitVec 32) (k0_t5 : Fin (k0_t5_loop v21).trips) : Fin 4 → Nat :=
  let c0_i32_94 : BitVec 32 := 0#32
  let v167 : BitVec 32 := Scalar.subi v21 c0_i32_94
  let c1_i32_96 : BitVec 32 := 1#32
  let v169 : BitVec 32 := Scalar.divsi v167 c1_i32_96
  let v170 : BitVec 32 := Scalar.muli v169 c1_i32_96
  let v171 : BitVec 32 := Scalar.addi c0_i32_94 v170
  let c1_i32_98 : BitVec 32 := 1#32
  let arg27 : BitVec 32 := Scf.iv v171 c1_i32_98 k0_t5
  let c4_i32_200 : BitVec 32 := 4#32
  let v354 : BitVec 32 := Scalar.addi arg27 c4_i32_200
  let c1_i32_201 : BitVec 32 := 1#32
  let v355 : BitVec 32 := Scalar.subi v354 c1_i32_201
  let c4_i32_202 : BitVec 32 := 4#32
  let v358 : BitVec 32 := Scalar.remsi v355 c4_i32_202
  let c0_i32_245 : BitVec 32 := 0#32
  let c0_i32_246 : BitVec 32 := 0#32
  let c0_i32_247 : BitVec 32 := 0#32
  ![v358.toNat, 0, 0, 0]
def k0_off244 (v357 : BitVec 32) : Fin 3 → Nat :=
  let c8_i32_243 : BitVec 32 := 8#32
  let v413 : BitVec 32 := Scalar.muli v357 c8_i32_243
  let c0_i32_244 : BitVec 32 := 0#32
  let v414 : BitVec 32 := Scalar.addi v413 c0_i32_244
  let c0_i32_248 : BitVec 32 := 0#32
  let c0_i32_249 : BitVec 32 := 0#32
  ![v414.toNat, 0, 0]
def k0_off245 (v21 : BitVec 32) (k0_t5 : Fin (k0_t5_loop v21).trips) : Fin 4 → Nat :=
  let c0_i32_94 : BitVec 32 := 0#32
  let v167 : BitVec 32 := Scalar.subi v21 c0_i32_94
  let c1_i32_96 : BitVec 32 := 1#32
  let v169 : BitVec 32 := Scalar.divsi v167 c1_i32_96
  let v170 : BitVec 32 := Scalar.muli v169 c1_i32_96
  let v171 : BitVec 32 := Scalar.addi c0_i32_94 v170
  let c1_i32_98 : BitVec 32 := 1#32
  let arg27 : BitVec 32 := Scf.iv v171 c1_i32_98 k0_t5
  let c4_i32_200 : BitVec 32 := 4#32
  let v354 : BitVec 32 := Scalar.addi arg27 c4_i32_200
  let c1_i32_201 : BitVec 32 := 1#32
  let v355 : BitVec 32 := Scalar.subi v354 c1_i32_201
  let c4_i32_202 : BitVec 32 := 4#32
  let v358 : BitVec 32 := Scalar.remsi v355 c4_i32_202
  let c0_i32_250 : BitVec 32 := 0#32
  let c0_i32_251 : BitVec 32 := 0#32
  let c0_i32_252 : BitVec 32 := 0#32
  ![v358.toNat, 0, 0, 0]
def k0_off246 (v357 : BitVec 32) : Fin 3 → Nat :=
  let c8_i32_243 : BitVec 32 := 8#32
  let v413 : BitVec 32 := Scalar.muli v357 c8_i32_243
  let c0_i32_244 : BitVec 32 := 0#32
  let v414 : BitVec 32 := Scalar.addi v413 c0_i32_244
  let c0_i32_253 : BitVec 32 := 0#32
  let c0_i32_254 : BitVec 32 := 0#32
  ![v414.toNat, 0, 0]
def k0_off247 (v21 : BitVec 32) (k0_t5 : Fin (k0_t5_loop v21).trips) : Fin 1 → Nat :=
  let c0_i32_94 : BitVec 32 := 0#32
  let v167 : BitVec 32 := Scalar.subi v21 c0_i32_94
  let c1_i32_96 : BitVec 32 := 1#32
  let v169 : BitVec 32 := Scalar.divsi v167 c1_i32_96
  let v170 : BitVec 32 := Scalar.muli v169 c1_i32_96
  let v171 : BitVec 32 := Scalar.addi c0_i32_94 v170
  let c1_i32_98 : BitVec 32 := 1#32
  let arg27 : BitVec 32 := Scf.iv v171 c1_i32_98 k0_t5
  let c4_i32_200 : BitVec 32 := 4#32
  let v354 : BitVec 32 := Scalar.addi arg27 c4_i32_200
  let c1_i32_201 : BitVec 32 := 1#32
  let v355 : BitVec 32 := Scalar.subi v354 c1_i32_201
  let c4_i32_202 : BitVec 32 := 4#32
  let v358 : BitVec 32 := Scalar.remsi v355 c4_i32_202
  ![v358.toNat]
def k0_cond46 (v366 : BitVec 32) : BitVec 1 :=
  let c2_i32_211 : BitVec 32 := 2#32
  let v372 : BitVec 32 := Scalar.shrsi v366 c2_i32_211
  let c1_i32_212 : BitVec 32 := 1#32
  let v373 : BitVec 32 := Scalar.andi v372 c1_i32_212
  let c1_i32_213 : BitVec 32 := 1#32
  let v374 : BitVec 1 := Scalar.cmpi .eq v373 c1_i32_213
  let v375 : BitVec 32 := Scalar.extui v374
  let c0_i32_214 : BitVec 32 := 0#32
  let v376 : BitVec 1 := Scalar.cmpi .ne v375 c0_i32_214
  v376

def k0_off248 (v21 : BitVec 32) (k0_t5 : Fin (k0_t5_loop v21).trips) : Fin 4 → Nat :=
  let c0_i32_94 : BitVec 32 := 0#32
  let v167 : BitVec 32 := Scalar.subi v21 c0_i32_94
  let c1_i32_96 : BitVec 32 := 1#32
  let v169 : BitVec 32 := Scalar.divsi v167 c1_i32_96
  let v170 : BitVec 32 := Scalar.muli v169 c1_i32_96
  let v171 : BitVec 32 := Scalar.addi c0_i32_94 v170
  let c1_i32_98 : BitVec 32 := 1#32
  let arg27 : BitVec 32 := Scf.iv v171 c1_i32_98 k0_t5
  let c4_i32_200 : BitVec 32 := 4#32
  let v354 : BitVec 32 := Scalar.addi arg27 c4_i32_200
  let c1_i32_201 : BitVec 32 := 1#32
  let v355 : BitVec 32 := Scalar.subi v354 c1_i32_201
  let c4_i32_202 : BitVec 32 := 4#32
  let v358 : BitVec 32 := Scalar.remsi v355 c4_i32_202
  let c1_i32_245 : BitVec 32 := 1#32
  let c0_i32_246 : BitVec 32 := 0#32
  let c0_i32_247 : BitVec 32 := 0#32
  ![v358.toNat, 1, 0, 0]
def k0_off249 (v357 : BitVec 32) : Fin 3 → Nat :=
  let c8_i32_243 : BitVec 32 := 8#32
  let v413 : BitVec 32 := Scalar.muli v357 c8_i32_243
  let c1_i32_244 : BitVec 32 := 1#32
  let v414 : BitVec 32 := Scalar.addi v413 c1_i32_244
  let c0_i32_248 : BitVec 32 := 0#32
  let c0_i32_249 : BitVec 32 := 0#32
  ![v414.toNat, 0, 0]
def k0_off250 (v21 : BitVec 32) (k0_t5 : Fin (k0_t5_loop v21).trips) : Fin 4 → Nat :=
  let c0_i32_94 : BitVec 32 := 0#32
  let v167 : BitVec 32 := Scalar.subi v21 c0_i32_94
  let c1_i32_96 : BitVec 32 := 1#32
  let v169 : BitVec 32 := Scalar.divsi v167 c1_i32_96
  let v170 : BitVec 32 := Scalar.muli v169 c1_i32_96
  let v171 : BitVec 32 := Scalar.addi c0_i32_94 v170
  let c1_i32_98 : BitVec 32 := 1#32
  let arg27 : BitVec 32 := Scf.iv v171 c1_i32_98 k0_t5
  let c4_i32_200 : BitVec 32 := 4#32
  let v354 : BitVec 32 := Scalar.addi arg27 c4_i32_200
  let c1_i32_201 : BitVec 32 := 1#32
  let v355 : BitVec 32 := Scalar.subi v354 c1_i32_201
  let c4_i32_202 : BitVec 32 := 4#32
  let v358 : BitVec 32 := Scalar.remsi v355 c4_i32_202
  let c1_i32_250 : BitVec 32 := 1#32
  let c0_i32_251 : BitVec 32 := 0#32
  let c0_i32_252 : BitVec 32 := 0#32
  ![v358.toNat, 1, 0, 0]
def k0_off251 (v357 : BitVec 32) : Fin 3 → Nat :=
  let c8_i32_243 : BitVec 32 := 8#32
  let v413 : BitVec 32 := Scalar.muli v357 c8_i32_243
  let c1_i32_244 : BitVec 32 := 1#32
  let v414 : BitVec 32 := Scalar.addi v413 c1_i32_244
  let c0_i32_253 : BitVec 32 := 0#32
  let c0_i32_254 : BitVec 32 := 0#32
  ![v414.toNat, 0, 0]
def k0_off252 (v21 : BitVec 32) (k0_t5 : Fin (k0_t5_loop v21).trips) : Fin 1 → Nat :=
  let c0_i32_94 : BitVec 32 := 0#32
  let v167 : BitVec 32 := Scalar.subi v21 c0_i32_94
  let c1_i32_96 : BitVec 32 := 1#32
  let v169 : BitVec 32 := Scalar.divsi v167 c1_i32_96
  let v170 : BitVec 32 := Scalar.muli v169 c1_i32_96
  let v171 : BitVec 32 := Scalar.addi c0_i32_94 v170
  let c1_i32_98 : BitVec 32 := 1#32
  let arg27 : BitVec 32 := Scf.iv v171 c1_i32_98 k0_t5
  let c4_i32_200 : BitVec 32 := 4#32
  let v354 : BitVec 32 := Scalar.addi arg27 c4_i32_200
  let c1_i32_201 : BitVec 32 := 1#32
  let v355 : BitVec 32 := Scalar.subi v354 c1_i32_201
  let c4_i32_202 : BitVec 32 := 4#32
  let v358 : BitVec 32 := Scalar.remsi v355 c4_i32_202
  ![v358.toNat]
def k0_cond47 (v366 : BitVec 32) : BitVec 1 :=
  let c3_i32_215 : BitVec 32 := 3#32
  let v377 : BitVec 32 := Scalar.shrsi v366 c3_i32_215
  let c1_i32_216 : BitVec 32 := 1#32
  let v378 : BitVec 32 := Scalar.andi v377 c1_i32_216
  let c1_i32_217 : BitVec 32 := 1#32
  let v379 : BitVec 1 := Scalar.cmpi .eq v378 c1_i32_217
  let v380 : BitVec 32 := Scalar.extui v379
  let c0_i32_218 : BitVec 32 := 0#32
  let v381 : BitVec 1 := Scalar.cmpi .ne v380 c0_i32_218
  v381

def k0_off253 (v21 : BitVec 32) (k0_t5 : Fin (k0_t5_loop v21).trips) : Fin 4 → Nat :=
  let c0_i32_94 : BitVec 32 := 0#32
  let v167 : BitVec 32 := Scalar.subi v21 c0_i32_94
  let c1_i32_96 : BitVec 32 := 1#32
  let v169 : BitVec 32 := Scalar.divsi v167 c1_i32_96
  let v170 : BitVec 32 := Scalar.muli v169 c1_i32_96
  let v171 : BitVec 32 := Scalar.addi c0_i32_94 v170
  let c1_i32_98 : BitVec 32 := 1#32
  let arg27 : BitVec 32 := Scf.iv v171 c1_i32_98 k0_t5
  let c4_i32_200 : BitVec 32 := 4#32
  let v354 : BitVec 32 := Scalar.addi arg27 c4_i32_200
  let c1_i32_201 : BitVec 32 := 1#32
  let v355 : BitVec 32 := Scalar.subi v354 c1_i32_201
  let c4_i32_202 : BitVec 32 := 4#32
  let v358 : BitVec 32 := Scalar.remsi v355 c4_i32_202
  let c2_i32_245 : BitVec 32 := 2#32
  let c0_i32_246 : BitVec 32 := 0#32
  let c0_i32_247 : BitVec 32 := 0#32
  ![v358.toNat, 2, 0, 0]
def k0_off254 (v357 : BitVec 32) : Fin 3 → Nat :=
  let c8_i32_243 : BitVec 32 := 8#32
  let v413 : BitVec 32 := Scalar.muli v357 c8_i32_243
  let c2_i32_244 : BitVec 32 := 2#32
  let v414 : BitVec 32 := Scalar.addi v413 c2_i32_244
  let c0_i32_248 : BitVec 32 := 0#32
  let c0_i32_249 : BitVec 32 := 0#32
  ![v414.toNat, 0, 0]
def k0_off255 (v21 : BitVec 32) (k0_t5 : Fin (k0_t5_loop v21).trips) : Fin 4 → Nat :=
  let c0_i32_94 : BitVec 32 := 0#32
  let v167 : BitVec 32 := Scalar.subi v21 c0_i32_94
  let c1_i32_96 : BitVec 32 := 1#32
  let v169 : BitVec 32 := Scalar.divsi v167 c1_i32_96
  let v170 : BitVec 32 := Scalar.muli v169 c1_i32_96
  let v171 : BitVec 32 := Scalar.addi c0_i32_94 v170
  let c1_i32_98 : BitVec 32 := 1#32
  let arg27 : BitVec 32 := Scf.iv v171 c1_i32_98 k0_t5
  let c4_i32_200 : BitVec 32 := 4#32
  let v354 : BitVec 32 := Scalar.addi arg27 c4_i32_200
  let c1_i32_201 : BitVec 32 := 1#32
  let v355 : BitVec 32 := Scalar.subi v354 c1_i32_201
  let c4_i32_202 : BitVec 32 := 4#32
  let v358 : BitVec 32 := Scalar.remsi v355 c4_i32_202
  let c2_i32_250 : BitVec 32 := 2#32
  let c0_i32_251 : BitVec 32 := 0#32
  let c0_i32_252 : BitVec 32 := 0#32
  ![v358.toNat, 2, 0, 0]
def k0_off256 (v357 : BitVec 32) : Fin 3 → Nat :=
  let c8_i32_243 : BitVec 32 := 8#32
  let v413 : BitVec 32 := Scalar.muli v357 c8_i32_243
  let c2_i32_244 : BitVec 32 := 2#32
  let v414 : BitVec 32 := Scalar.addi v413 c2_i32_244
  let c0_i32_253 : BitVec 32 := 0#32
  let c0_i32_254 : BitVec 32 := 0#32
  ![v414.toNat, 0, 0]
def k0_off257 (v21 : BitVec 32) (k0_t5 : Fin (k0_t5_loop v21).trips) : Fin 1 → Nat :=
  let c0_i32_94 : BitVec 32 := 0#32
  let v167 : BitVec 32 := Scalar.subi v21 c0_i32_94
  let c1_i32_96 : BitVec 32 := 1#32
  let v169 : BitVec 32 := Scalar.divsi v167 c1_i32_96
  let v170 : BitVec 32 := Scalar.muli v169 c1_i32_96
  let v171 : BitVec 32 := Scalar.addi c0_i32_94 v170
  let c1_i32_98 : BitVec 32 := 1#32
  let arg27 : BitVec 32 := Scf.iv v171 c1_i32_98 k0_t5
  let c4_i32_200 : BitVec 32 := 4#32
  let v354 : BitVec 32 := Scalar.addi arg27 c4_i32_200
  let c1_i32_201 : BitVec 32 := 1#32
  let v355 : BitVec 32 := Scalar.subi v354 c1_i32_201
  let c4_i32_202 : BitVec 32 := 4#32
  let v358 : BitVec 32 := Scalar.remsi v355 c4_i32_202
  ![v358.toNat]
def k0_cond48 (v366 : BitVec 32) : BitVec 1 :=
  let c4_i32_219 : BitVec 32 := 4#32
  let v382 : BitVec 32 := Scalar.shrsi v366 c4_i32_219
  let c1_i32_220 : BitVec 32 := 1#32
  let v383 : BitVec 32 := Scalar.andi v382 c1_i32_220
  let c1_i32_221 : BitVec 32 := 1#32
  let v384 : BitVec 1 := Scalar.cmpi .eq v383 c1_i32_221
  let v385 : BitVec 32 := Scalar.extui v384
  let c0_i32_222 : BitVec 32 := 0#32
  let v386 : BitVec 1 := Scalar.cmpi .ne v385 c0_i32_222
  v386

def k0_off258 (v21 : BitVec 32) (k0_t5 : Fin (k0_t5_loop v21).trips) : Fin 4 → Nat :=
  let c0_i32_94 : BitVec 32 := 0#32
  let v167 : BitVec 32 := Scalar.subi v21 c0_i32_94
  let c1_i32_96 : BitVec 32 := 1#32
  let v169 : BitVec 32 := Scalar.divsi v167 c1_i32_96
  let v170 : BitVec 32 := Scalar.muli v169 c1_i32_96
  let v171 : BitVec 32 := Scalar.addi c0_i32_94 v170
  let c1_i32_98 : BitVec 32 := 1#32
  let arg27 : BitVec 32 := Scf.iv v171 c1_i32_98 k0_t5
  let c4_i32_200 : BitVec 32 := 4#32
  let v354 : BitVec 32 := Scalar.addi arg27 c4_i32_200
  let c1_i32_201 : BitVec 32 := 1#32
  let v355 : BitVec 32 := Scalar.subi v354 c1_i32_201
  let c4_i32_202 : BitVec 32 := 4#32
  let v358 : BitVec 32 := Scalar.remsi v355 c4_i32_202
  let c3_i32_245 : BitVec 32 := 3#32
  let c0_i32_246 : BitVec 32 := 0#32
  let c0_i32_247 : BitVec 32 := 0#32
  ![v358.toNat, 3, 0, 0]
def k0_off259 (v357 : BitVec 32) : Fin 3 → Nat :=
  let c8_i32_243 : BitVec 32 := 8#32
  let v413 : BitVec 32 := Scalar.muli v357 c8_i32_243
  let c3_i32_244 : BitVec 32 := 3#32
  let v414 : BitVec 32 := Scalar.addi v413 c3_i32_244
  let c0_i32_248 : BitVec 32 := 0#32
  let c0_i32_249 : BitVec 32 := 0#32
  ![v414.toNat, 0, 0]
def k0_off260 (v21 : BitVec 32) (k0_t5 : Fin (k0_t5_loop v21).trips) : Fin 4 → Nat :=
  let c0_i32_94 : BitVec 32 := 0#32
  let v167 : BitVec 32 := Scalar.subi v21 c0_i32_94
  let c1_i32_96 : BitVec 32 := 1#32
  let v169 : BitVec 32 := Scalar.divsi v167 c1_i32_96
  let v170 : BitVec 32 := Scalar.muli v169 c1_i32_96
  let v171 : BitVec 32 := Scalar.addi c0_i32_94 v170
  let c1_i32_98 : BitVec 32 := 1#32
  let arg27 : BitVec 32 := Scf.iv v171 c1_i32_98 k0_t5
  let c4_i32_200 : BitVec 32 := 4#32
  let v354 : BitVec 32 := Scalar.addi arg27 c4_i32_200
  let c1_i32_201 : BitVec 32 := 1#32
  let v355 : BitVec 32 := Scalar.subi v354 c1_i32_201
  let c4_i32_202 : BitVec 32 := 4#32
  let v358 : BitVec 32 := Scalar.remsi v355 c4_i32_202
  let c3_i32_250 : BitVec 32 := 3#32
  let c0_i32_251 : BitVec 32 := 0#32
  let c0_i32_252 : BitVec 32 := 0#32
  ![v358.toNat, 3, 0, 0]
def k0_off261 (v357 : BitVec 32) : Fin 3 → Nat :=
  let c8_i32_243 : BitVec 32 := 8#32
  let v413 : BitVec 32 := Scalar.muli v357 c8_i32_243
  let c3_i32_244 : BitVec 32 := 3#32
  let v414 : BitVec 32 := Scalar.addi v413 c3_i32_244
  let c0_i32_253 : BitVec 32 := 0#32
  let c0_i32_254 : BitVec 32 := 0#32
  ![v414.toNat, 0, 0]
def k0_off262 (v21 : BitVec 32) (k0_t5 : Fin (k0_t5_loop v21).trips) : Fin 1 → Nat :=
  let c0_i32_94 : BitVec 32 := 0#32
  let v167 : BitVec 32 := Scalar.subi v21 c0_i32_94
  let c1_i32_96 : BitVec 32 := 1#32
  let v169 : BitVec 32 := Scalar.divsi v167 c1_i32_96
  let v170 : BitVec 32 := Scalar.muli v169 c1_i32_96
  let v171 : BitVec 32 := Scalar.addi c0_i32_94 v170
  let c1_i32_98 : BitVec 32 := 1#32
  let arg27 : BitVec 32 := Scf.iv v171 c1_i32_98 k0_t5
  let c4_i32_200 : BitVec 32 := 4#32
  let v354 : BitVec 32 := Scalar.addi arg27 c4_i32_200
  let c1_i32_201 : BitVec 32 := 1#32
  let v355 : BitVec 32 := Scalar.subi v354 c1_i32_201
  let c4_i32_202 : BitVec 32 := 4#32
  let v358 : BitVec 32 := Scalar.remsi v355 c4_i32_202
  ![v358.toNat]
def k0_cond49 (v366 : BitVec 32) : BitVec 1 :=
  let c5_i32_223 : BitVec 32 := 5#32
  let v387 : BitVec 32 := Scalar.shrsi v366 c5_i32_223
  let c1_i32_224 : BitVec 32 := 1#32
  let v388 : BitVec 32 := Scalar.andi v387 c1_i32_224
  let c1_i32_225 : BitVec 32 := 1#32
  let v389 : BitVec 1 := Scalar.cmpi .eq v388 c1_i32_225
  let v390 : BitVec 32 := Scalar.extui v389
  let c0_i32_226 : BitVec 32 := 0#32
  let v391 : BitVec 1 := Scalar.cmpi .ne v390 c0_i32_226
  v391

def k0_off263 (v21 : BitVec 32) (k0_t5 : Fin (k0_t5_loop v21).trips) : Fin 4 → Nat :=
  let c0_i32_94 : BitVec 32 := 0#32
  let v167 : BitVec 32 := Scalar.subi v21 c0_i32_94
  let c1_i32_96 : BitVec 32 := 1#32
  let v169 : BitVec 32 := Scalar.divsi v167 c1_i32_96
  let v170 : BitVec 32 := Scalar.muli v169 c1_i32_96
  let v171 : BitVec 32 := Scalar.addi c0_i32_94 v170
  let c1_i32_98 : BitVec 32 := 1#32
  let arg27 : BitVec 32 := Scf.iv v171 c1_i32_98 k0_t5
  let c4_i32_200 : BitVec 32 := 4#32
  let v354 : BitVec 32 := Scalar.addi arg27 c4_i32_200
  let c1_i32_201 : BitVec 32 := 1#32
  let v355 : BitVec 32 := Scalar.subi v354 c1_i32_201
  let c4_i32_202 : BitVec 32 := 4#32
  let v358 : BitVec 32 := Scalar.remsi v355 c4_i32_202
  let c4_i32_245 : BitVec 32 := 4#32
  let c0_i32_246 : BitVec 32 := 0#32
  let c0_i32_247 : BitVec 32 := 0#32
  ![v358.toNat, 4, 0, 0]
def k0_off264 (v357 : BitVec 32) : Fin 3 → Nat :=
  let c8_i32_243 : BitVec 32 := 8#32
  let v413 : BitVec 32 := Scalar.muli v357 c8_i32_243
  let c4_i32_244 : BitVec 32 := 4#32
  let v414 : BitVec 32 := Scalar.addi v413 c4_i32_244
  let c0_i32_248 : BitVec 32 := 0#32
  let c0_i32_249 : BitVec 32 := 0#32
  ![v414.toNat, 0, 0]
def k0_off265 (v21 : BitVec 32) (k0_t5 : Fin (k0_t5_loop v21).trips) : Fin 4 → Nat :=
  let c0_i32_94 : BitVec 32 := 0#32
  let v167 : BitVec 32 := Scalar.subi v21 c0_i32_94
  let c1_i32_96 : BitVec 32 := 1#32
  let v169 : BitVec 32 := Scalar.divsi v167 c1_i32_96
  let v170 : BitVec 32 := Scalar.muli v169 c1_i32_96
  let v171 : BitVec 32 := Scalar.addi c0_i32_94 v170
  let c1_i32_98 : BitVec 32 := 1#32
  let arg27 : BitVec 32 := Scf.iv v171 c1_i32_98 k0_t5
  let c4_i32_200 : BitVec 32 := 4#32
  let v354 : BitVec 32 := Scalar.addi arg27 c4_i32_200
  let c1_i32_201 : BitVec 32 := 1#32
  let v355 : BitVec 32 := Scalar.subi v354 c1_i32_201
  let c4_i32_202 : BitVec 32 := 4#32
  let v358 : BitVec 32 := Scalar.remsi v355 c4_i32_202
  let c4_i32_250 : BitVec 32 := 4#32
  let c0_i32_251 : BitVec 32 := 0#32
  let c0_i32_252 : BitVec 32 := 0#32
  ![v358.toNat, 4, 0, 0]
def k0_off266 (v357 : BitVec 32) : Fin 3 → Nat :=
  let c8_i32_243 : BitVec 32 := 8#32
  let v413 : BitVec 32 := Scalar.muli v357 c8_i32_243
  let c4_i32_244 : BitVec 32 := 4#32
  let v414 : BitVec 32 := Scalar.addi v413 c4_i32_244
  let c0_i32_253 : BitVec 32 := 0#32
  let c0_i32_254 : BitVec 32 := 0#32
  ![v414.toNat, 0, 0]
def k0_off267 (v21 : BitVec 32) (k0_t5 : Fin (k0_t5_loop v21).trips) : Fin 1 → Nat :=
  let c0_i32_94 : BitVec 32 := 0#32
  let v167 : BitVec 32 := Scalar.subi v21 c0_i32_94
  let c1_i32_96 : BitVec 32 := 1#32
  let v169 : BitVec 32 := Scalar.divsi v167 c1_i32_96
  let v170 : BitVec 32 := Scalar.muli v169 c1_i32_96
  let v171 : BitVec 32 := Scalar.addi c0_i32_94 v170
  let c1_i32_98 : BitVec 32 := 1#32
  let arg27 : BitVec 32 := Scf.iv v171 c1_i32_98 k0_t5
  let c4_i32_200 : BitVec 32 := 4#32
  let v354 : BitVec 32 := Scalar.addi arg27 c4_i32_200
  let c1_i32_201 : BitVec 32 := 1#32
  let v355 : BitVec 32 := Scalar.subi v354 c1_i32_201
  let c4_i32_202 : BitVec 32 := 4#32
  let v358 : BitVec 32 := Scalar.remsi v355 c4_i32_202
  ![v358.toNat]
def k0_cond50 (v366 : BitVec 32) : BitVec 1 :=
  let c6_i32_227 : BitVec 32 := 6#32
  let v392 : BitVec 32 := Scalar.shrsi v366 c6_i32_227
  let c1_i32_228 : BitVec 32 := 1#32
  let v393 : BitVec 32 := Scalar.andi v392 c1_i32_228
  let c1_i32_229 : BitVec 32 := 1#32
  let v394 : BitVec 1 := Scalar.cmpi .eq v393 c1_i32_229
  let v395 : BitVec 32 := Scalar.extui v394
  let c0_i32_230 : BitVec 32 := 0#32
  let v396 : BitVec 1 := Scalar.cmpi .ne v395 c0_i32_230
  v396

def k0_off268 (v21 : BitVec 32) (k0_t5 : Fin (k0_t5_loop v21).trips) : Fin 4 → Nat :=
  let c0_i32_94 : BitVec 32 := 0#32
  let v167 : BitVec 32 := Scalar.subi v21 c0_i32_94
  let c1_i32_96 : BitVec 32 := 1#32
  let v169 : BitVec 32 := Scalar.divsi v167 c1_i32_96
  let v170 : BitVec 32 := Scalar.muli v169 c1_i32_96
  let v171 : BitVec 32 := Scalar.addi c0_i32_94 v170
  let c1_i32_98 : BitVec 32 := 1#32
  let arg27 : BitVec 32 := Scf.iv v171 c1_i32_98 k0_t5
  let c4_i32_200 : BitVec 32 := 4#32
  let v354 : BitVec 32 := Scalar.addi arg27 c4_i32_200
  let c1_i32_201 : BitVec 32 := 1#32
  let v355 : BitVec 32 := Scalar.subi v354 c1_i32_201
  let c4_i32_202 : BitVec 32 := 4#32
  let v358 : BitVec 32 := Scalar.remsi v355 c4_i32_202
  let c5_i32_245 : BitVec 32 := 5#32
  let c0_i32_246 : BitVec 32 := 0#32
  let c0_i32_247 : BitVec 32 := 0#32
  ![v358.toNat, 5, 0, 0]
def k0_off269 (v357 : BitVec 32) : Fin 3 → Nat :=
  let c8_i32_243 : BitVec 32 := 8#32
  let v413 : BitVec 32 := Scalar.muli v357 c8_i32_243
  let c5_i32_244 : BitVec 32 := 5#32
  let v414 : BitVec 32 := Scalar.addi v413 c5_i32_244
  let c0_i32_248 : BitVec 32 := 0#32
  let c0_i32_249 : BitVec 32 := 0#32
  ![v414.toNat, 0, 0]
def k0_off270 (v21 : BitVec 32) (k0_t5 : Fin (k0_t5_loop v21).trips) : Fin 4 → Nat :=
  let c0_i32_94 : BitVec 32 := 0#32
  let v167 : BitVec 32 := Scalar.subi v21 c0_i32_94
  let c1_i32_96 : BitVec 32 := 1#32
  let v169 : BitVec 32 := Scalar.divsi v167 c1_i32_96
  let v170 : BitVec 32 := Scalar.muli v169 c1_i32_96
  let v171 : BitVec 32 := Scalar.addi c0_i32_94 v170
  let c1_i32_98 : BitVec 32 := 1#32
  let arg27 : BitVec 32 := Scf.iv v171 c1_i32_98 k0_t5
  let c4_i32_200 : BitVec 32 := 4#32
  let v354 : BitVec 32 := Scalar.addi arg27 c4_i32_200
  let c1_i32_201 : BitVec 32 := 1#32
  let v355 : BitVec 32 := Scalar.subi v354 c1_i32_201
  let c4_i32_202 : BitVec 32 := 4#32
  let v358 : BitVec 32 := Scalar.remsi v355 c4_i32_202
  let c5_i32_250 : BitVec 32 := 5#32
  let c0_i32_251 : BitVec 32 := 0#32
  let c0_i32_252 : BitVec 32 := 0#32
  ![v358.toNat, 5, 0, 0]
def k0_off271 (v357 : BitVec 32) : Fin 3 → Nat :=
  let c8_i32_243 : BitVec 32 := 8#32
  let v413 : BitVec 32 := Scalar.muli v357 c8_i32_243
  let c5_i32_244 : BitVec 32 := 5#32
  let v414 : BitVec 32 := Scalar.addi v413 c5_i32_244
  let c0_i32_253 : BitVec 32 := 0#32
  let c0_i32_254 : BitVec 32 := 0#32
  ![v414.toNat, 0, 0]
def k0_off272 (v21 : BitVec 32) (k0_t5 : Fin (k0_t5_loop v21).trips) : Fin 1 → Nat :=
  let c0_i32_94 : BitVec 32 := 0#32
  let v167 : BitVec 32 := Scalar.subi v21 c0_i32_94
  let c1_i32_96 : BitVec 32 := 1#32
  let v169 : BitVec 32 := Scalar.divsi v167 c1_i32_96
  let v170 : BitVec 32 := Scalar.muli v169 c1_i32_96
  let v171 : BitVec 32 := Scalar.addi c0_i32_94 v170
  let c1_i32_98 : BitVec 32 := 1#32
  let arg27 : BitVec 32 := Scf.iv v171 c1_i32_98 k0_t5
  let c4_i32_200 : BitVec 32 := 4#32
  let v354 : BitVec 32 := Scalar.addi arg27 c4_i32_200
  let c1_i32_201 : BitVec 32 := 1#32
  let v355 : BitVec 32 := Scalar.subi v354 c1_i32_201
  let c4_i32_202 : BitVec 32 := 4#32
  let v358 : BitVec 32 := Scalar.remsi v355 c4_i32_202
  ![v358.toNat]
def k0_cond51 (v366 : BitVec 32) : BitVec 1 :=
  let c7_i32_231 : BitVec 32 := 7#32
  let v397 : BitVec 32 := Scalar.shrsi v366 c7_i32_231
  let c1_i32_232 : BitVec 32 := 1#32
  let v398 : BitVec 32 := Scalar.andi v397 c1_i32_232
  let c1_i32_233 : BitVec 32 := 1#32
  let v399 : BitVec 1 := Scalar.cmpi .eq v398 c1_i32_233
  let v400 : BitVec 32 := Scalar.extui v399
  let c0_i32_234 : BitVec 32 := 0#32
  let v401 : BitVec 1 := Scalar.cmpi .ne v400 c0_i32_234
  v401

def k0_off273 (v21 : BitVec 32) (k0_t5 : Fin (k0_t5_loop v21).trips) : Fin 4 → Nat :=
  let c0_i32_94 : BitVec 32 := 0#32
  let v167 : BitVec 32 := Scalar.subi v21 c0_i32_94
  let c1_i32_96 : BitVec 32 := 1#32
  let v169 : BitVec 32 := Scalar.divsi v167 c1_i32_96
  let v170 : BitVec 32 := Scalar.muli v169 c1_i32_96
  let v171 : BitVec 32 := Scalar.addi c0_i32_94 v170
  let c1_i32_98 : BitVec 32 := 1#32
  let arg27 : BitVec 32 := Scf.iv v171 c1_i32_98 k0_t5
  let c4_i32_200 : BitVec 32 := 4#32
  let v354 : BitVec 32 := Scalar.addi arg27 c4_i32_200
  let c1_i32_201 : BitVec 32 := 1#32
  let v355 : BitVec 32 := Scalar.subi v354 c1_i32_201
  let c4_i32_202 : BitVec 32 := 4#32
  let v358 : BitVec 32 := Scalar.remsi v355 c4_i32_202
  let c6_i32_245 : BitVec 32 := 6#32
  let c0_i32_246 : BitVec 32 := 0#32
  let c0_i32_247 : BitVec 32 := 0#32
  ![v358.toNat, 6, 0, 0]
def k0_off274 (v357 : BitVec 32) : Fin 3 → Nat :=
  let c8_i32_243 : BitVec 32 := 8#32
  let v413 : BitVec 32 := Scalar.muli v357 c8_i32_243
  let c6_i32_244 : BitVec 32 := 6#32
  let v414 : BitVec 32 := Scalar.addi v413 c6_i32_244
  let c0_i32_248 : BitVec 32 := 0#32
  let c0_i32_249 : BitVec 32 := 0#32
  ![v414.toNat, 0, 0]
def k0_off275 (v21 : BitVec 32) (k0_t5 : Fin (k0_t5_loop v21).trips) : Fin 4 → Nat :=
  let c0_i32_94 : BitVec 32 := 0#32
  let v167 : BitVec 32 := Scalar.subi v21 c0_i32_94
  let c1_i32_96 : BitVec 32 := 1#32
  let v169 : BitVec 32 := Scalar.divsi v167 c1_i32_96
  let v170 : BitVec 32 := Scalar.muli v169 c1_i32_96
  let v171 : BitVec 32 := Scalar.addi c0_i32_94 v170
  let c1_i32_98 : BitVec 32 := 1#32
  let arg27 : BitVec 32 := Scf.iv v171 c1_i32_98 k0_t5
  let c4_i32_200 : BitVec 32 := 4#32
  let v354 : BitVec 32 := Scalar.addi arg27 c4_i32_200
  let c1_i32_201 : BitVec 32 := 1#32
  let v355 : BitVec 32 := Scalar.subi v354 c1_i32_201
  let c4_i32_202 : BitVec 32 := 4#32
  let v358 : BitVec 32 := Scalar.remsi v355 c4_i32_202
  let c6_i32_250 : BitVec 32 := 6#32
  let c0_i32_251 : BitVec 32 := 0#32
  let c0_i32_252 : BitVec 32 := 0#32
  ![v358.toNat, 6, 0, 0]
def k0_off276 (v357 : BitVec 32) : Fin 3 → Nat :=
  let c8_i32_243 : BitVec 32 := 8#32
  let v413 : BitVec 32 := Scalar.muli v357 c8_i32_243
  let c6_i32_244 : BitVec 32 := 6#32
  let v414 : BitVec 32 := Scalar.addi v413 c6_i32_244
  let c0_i32_253 : BitVec 32 := 0#32
  let c0_i32_254 : BitVec 32 := 0#32
  ![v414.toNat, 0, 0]
def k0_off277 (v21 : BitVec 32) (k0_t5 : Fin (k0_t5_loop v21).trips) : Fin 1 → Nat :=
  let c0_i32_94 : BitVec 32 := 0#32
  let v167 : BitVec 32 := Scalar.subi v21 c0_i32_94
  let c1_i32_96 : BitVec 32 := 1#32
  let v169 : BitVec 32 := Scalar.divsi v167 c1_i32_96
  let v170 : BitVec 32 := Scalar.muli v169 c1_i32_96
  let v171 : BitVec 32 := Scalar.addi c0_i32_94 v170
  let c1_i32_98 : BitVec 32 := 1#32
  let arg27 : BitVec 32 := Scf.iv v171 c1_i32_98 k0_t5
  let c4_i32_200 : BitVec 32 := 4#32
  let v354 : BitVec 32 := Scalar.addi arg27 c4_i32_200
  let c1_i32_201 : BitVec 32 := 1#32
  let v355 : BitVec 32 := Scalar.subi v354 c1_i32_201
  let c4_i32_202 : BitVec 32 := 4#32
  let v358 : BitVec 32 := Scalar.remsi v355 c4_i32_202
  ![v358.toNat]
def k0_cond52 (v366 : BitVec 32) : BitVec 1 :=
  let c8_i32_235 : BitVec 32 := 8#32
  let v402 : BitVec 32 := Scalar.shrsi v366 c8_i32_235
  let c1_i32_236 : BitVec 32 := 1#32
  let v403 : BitVec 32 := Scalar.andi v402 c1_i32_236
  let c1_i32_237 : BitVec 32 := 1#32
  let v404 : BitVec 1 := Scalar.cmpi .eq v403 c1_i32_237
  let v405 : BitVec 32 := Scalar.extui v404
  let c0_i32_238 : BitVec 32 := 0#32
  let v406 : BitVec 1 := Scalar.cmpi .ne v405 c0_i32_238
  v406

def k0_off278 (v21 : BitVec 32) (k0_t5 : Fin (k0_t5_loop v21).trips) : Fin 4 → Nat :=
  let c0_i32_94 : BitVec 32 := 0#32
  let v167 : BitVec 32 := Scalar.subi v21 c0_i32_94
  let c1_i32_96 : BitVec 32 := 1#32
  let v169 : BitVec 32 := Scalar.divsi v167 c1_i32_96
  let v170 : BitVec 32 := Scalar.muli v169 c1_i32_96
  let v171 : BitVec 32 := Scalar.addi c0_i32_94 v170
  let c1_i32_98 : BitVec 32 := 1#32
  let arg27 : BitVec 32 := Scf.iv v171 c1_i32_98 k0_t5
  let c4_i32_200 : BitVec 32 := 4#32
  let v354 : BitVec 32 := Scalar.addi arg27 c4_i32_200
  let c1_i32_201 : BitVec 32 := 1#32
  let v355 : BitVec 32 := Scalar.subi v354 c1_i32_201
  let c4_i32_202 : BitVec 32 := 4#32
  let v358 : BitVec 32 := Scalar.remsi v355 c4_i32_202
  let c7_i32_245 : BitVec 32 := 7#32
  let c0_i32_246 : BitVec 32 := 0#32
  let c0_i32_247 : BitVec 32 := 0#32
  ![v358.toNat, 7, 0, 0]
def k0_off279 (v357 : BitVec 32) : Fin 3 → Nat :=
  let c8_i32_243 : BitVec 32 := 8#32
  let v413 : BitVec 32 := Scalar.muli v357 c8_i32_243
  let c7_i32_244 : BitVec 32 := 7#32
  let v414 : BitVec 32 := Scalar.addi v413 c7_i32_244
  let c0_i32_248 : BitVec 32 := 0#32
  let c0_i32_249 : BitVec 32 := 0#32
  ![v414.toNat, 0, 0]
def k0_off280 (v21 : BitVec 32) (k0_t5 : Fin (k0_t5_loop v21).trips) : Fin 4 → Nat :=
  let c0_i32_94 : BitVec 32 := 0#32
  let v167 : BitVec 32 := Scalar.subi v21 c0_i32_94
  let c1_i32_96 : BitVec 32 := 1#32
  let v169 : BitVec 32 := Scalar.divsi v167 c1_i32_96
  let v170 : BitVec 32 := Scalar.muli v169 c1_i32_96
  let v171 : BitVec 32 := Scalar.addi c0_i32_94 v170
  let c1_i32_98 : BitVec 32 := 1#32
  let arg27 : BitVec 32 := Scf.iv v171 c1_i32_98 k0_t5
  let c4_i32_200 : BitVec 32 := 4#32
  let v354 : BitVec 32 := Scalar.addi arg27 c4_i32_200
  let c1_i32_201 : BitVec 32 := 1#32
  let v355 : BitVec 32 := Scalar.subi v354 c1_i32_201
  let c4_i32_202 : BitVec 32 := 4#32
  let v358 : BitVec 32 := Scalar.remsi v355 c4_i32_202
  let c7_i32_250 : BitVec 32 := 7#32
  let c0_i32_251 : BitVec 32 := 0#32
  let c0_i32_252 : BitVec 32 := 0#32
  ![v358.toNat, 7, 0, 0]
def k0_off281 (v357 : BitVec 32) : Fin 3 → Nat :=
  let c8_i32_243 : BitVec 32 := 8#32
  let v413 : BitVec 32 := Scalar.muli v357 c8_i32_243
  let c7_i32_244 : BitVec 32 := 7#32
  let v414 : BitVec 32 := Scalar.addi v413 c7_i32_244
  let c0_i32_253 : BitVec 32 := 0#32
  let c0_i32_254 : BitVec 32 := 0#32
  ![v414.toNat, 0, 0]

def k0_chk22_0 (v21 : BitVec 32) (k0_t5 : Fin (k0_t5_loop v21).trips) (v357 : BitVec 32) (v366 : BitVec 32) : Prop :=
  (∀ (k0_h44 : k0_cond44 v21 k0_t5 = 1#1), ∀ (k0_h45 : k0_cond45 v366 = 1#1), ∀ a, (k0_off242 v21 k0_t5) a + S1.size a ≤ S4.size a) ∧
  (∀ (k0_h44 : k0_cond44 v21 k0_t5 = 1#1), ∀ (k0_h45 : k0_cond45 v366 = 1#1), ∀ a, (k0_off243 v21 k0_t5) a + S1x1x16x5120.size a ≤ S4x8x16x5120.size a) ∧
  (∀ (k0_h44 : k0_cond44 v21 k0_t5 = 1#1), ∀ (k0_h45 : k0_cond45 v366 = 1#1), ∀ a, (k0_off244 v357) a + S1x16x5120.size a ≤ S256x16x5120.size a) ∧
  (∀ (k0_h44 : k0_cond44 v21 k0_t5 = 1#1), ∀ (k0_h45 : k0_cond45 v366 = 1#1), ∀ (hinb : ∀ a, (k0_off244 v357) a + S1x16x5120.size a ≤ S256x16x5120.size a), (Rect.unit (s := S256x16x5120) (k0_off244 v357) S1x16x5120.size hinb).WholeWords (EltTy.packing .bf16)) ∧
  (∀ (k0_h44 : k0_cond44 v21 k0_t5 = 1#1), ∀ (k0_h45 : k0_cond45 v366 = 1#1), ∀ (hinb : ∀ a, (k0_off243 v21 k0_t5) a + S1x1x16x5120.size a ≤ S4x8x16x5120.size a), (Rect.unit (s := S4x8x16x5120) (k0_off243 v21 k0_t5) S1x1x16x5120.size hinb).WholeWords (EltTy.packing .bf16)) ∧
  (∀ (k0_h44 : k0_cond44 v21 k0_t5 = 1#1), ∀ (k0_h45 : k0_cond45 v366 = 1#1), ∀ a, (k0_off245 v21 k0_t5) a + S1x1x16x768.size a ≤ S4x8x16x768.size a) ∧
  (∀ (k0_h44 : k0_cond44 v21 k0_t5 = 1#1), ∀ (k0_h45 : k0_cond45 v366 = 1#1), ∀ a, (k0_off246 v357) a + S1x16x768.size a ≤ S256x16x768.size a) ∧
  (∀ (k0_h44 : k0_cond44 v21 k0_t5 = 1#1), ∀ (k0_h45 : k0_cond45 v366 = 1#1), ∀ (hinb : ∀ a, (k0_off246 v357) a + S1x16x768.size a ≤ S256x16x768.size a), (Rect.unit (s := S256x16x768) (k0_off246 v357) S1x16x768.size hinb).WholeWords (EltTy.packing .bf16)) ∧
  (∀ (k0_h44 : k0_cond44 v21 k0_t5 = 1#1), ∀ (k0_h45 : k0_cond45 v366 = 1#1), ∀ (hinb : ∀ a, (k0_off245 v21 k0_t5) a + S1x1x16x768.size a ≤ S4x8x16x768.size a), (Rect.unit (s := S4x8x16x768) (k0_off245 v21 k0_t5) S1x1x16x768.size hinb).WholeWords (EltTy.packing .bf16)) ∧
  (∀ (k0_h44 : k0_cond44 v21 k0_t5 = 1#1), ∀ (k0_h46 : k0_cond46 v366 = 1#1), ∀ a, (k0_off247 v21 k0_t5) a + S1.size a ≤ S4.size a) ∧
  (∀ (k0_h44 : k0_cond44 v21 k0_t5 = 1#1), ∀ (k0_h46 : k0_cond46 v366 = 1#1), ∀ a, (k0_off248 v21 k0_t5) a + S1x1x16x5120.size a ≤ S4x8x16x5120.size a) ∧
  (∀ (k0_h44 : k0_cond44 v21 k0_t5 = 1#1), ∀ (k0_h46 : k0_cond46 v366 = 1#1), ∀ a, (k0_off249 v357) a + S1x16x5120.size a ≤ S256x16x5120.size a) ∧
  (∀ (k0_h44 : k0_cond44 v21 k0_t5 = 1#1), ∀ (k0_h46 : k0_cond46 v366 = 1#1), ∀ (hinb : ∀ a, (k0_off249 v357) a + S1x16x5120.size a ≤ S256x16x5120.size a), (Rect.unit (s := S256x16x5120) (k0_off249 v357) S1x16x5120.size hinb).WholeWords (EltTy.packing .bf16)) ∧
  (∀ (k0_h44 : k0_cond44 v21 k0_t5 = 1#1), ∀ (k0_h46 : k0_cond46 v366 = 1#1), ∀ (hinb : ∀ a, (k0_off248 v21 k0_t5) a + S1x1x16x5120.size a ≤ S4x8x16x5120.size a), (Rect.unit (s := S4x8x16x5120) (k0_off248 v21 k0_t5) S1x1x16x5120.size hinb).WholeWords (EltTy.packing .bf16)) ∧
  (∀ (k0_h44 : k0_cond44 v21 k0_t5 = 1#1), ∀ (k0_h46 : k0_cond46 v366 = 1#1), ∀ a, (k0_off250 v21 k0_t5) a + S1x1x16x768.size a ≤ S4x8x16x768.size a) ∧
  (∀ (k0_h44 : k0_cond44 v21 k0_t5 = 1#1), ∀ (k0_h46 : k0_cond46 v366 = 1#1), ∀ a, (k0_off251 v357) a + S1x16x768.size a ≤ S256x16x768.size a) ∧
  (∀ (k0_h44 : k0_cond44 v21 k0_t5 = 1#1), ∀ (k0_h46 : k0_cond46 v366 = 1#1), ∀ (hinb : ∀ a, (k0_off251 v357) a + S1x16x768.size a ≤ S256x16x768.size a), (Rect.unit (s := S256x16x768) (k0_off251 v357) S1x16x768.size hinb).WholeWords (EltTy.packing .bf16)) ∧
  (∀ (k0_h44 : k0_cond44 v21 k0_t5 = 1#1), ∀ (k0_h46 : k0_cond46 v366 = 1#1), ∀ (hinb : ∀ a, (k0_off250 v21 k0_t5) a + S1x1x16x768.size a ≤ S4x8x16x768.size a), (Rect.unit (s := S4x8x16x768) (k0_off250 v21 k0_t5) S1x1x16x768.size hinb).WholeWords (EltTy.packing .bf16)) ∧
  (∀ (k0_h44 : k0_cond44 v21 k0_t5 = 1#1), ∀ (k0_h47 : k0_cond47 v366 = 1#1), ∀ a, (k0_off252 v21 k0_t5) a + S1.size a ≤ S4.size a) ∧
  (∀ (k0_h44 : k0_cond44 v21 k0_t5 = 1#1), ∀ (k0_h47 : k0_cond47 v366 = 1#1), ∀ a, (k0_off253 v21 k0_t5) a + S1x1x16x5120.size a ≤ S4x8x16x5120.size a) ∧
  (∀ (k0_h44 : k0_cond44 v21 k0_t5 = 1#1), ∀ (k0_h47 : k0_cond47 v366 = 1#1), ∀ a, (k0_off254 v357) a + S1x16x5120.size a ≤ S256x16x5120.size a) ∧
  (∀ (k0_h44 : k0_cond44 v21 k0_t5 = 1#1), ∀ (k0_h47 : k0_cond47 v366 = 1#1), ∀ (hinb : ∀ a, (k0_off254 v357) a + S1x16x5120.size a ≤ S256x16x5120.size a), (Rect.unit (s := S256x16x5120) (k0_off254 v357) S1x16x5120.size hinb).WholeWords (EltTy.packing .bf16)) ∧
  (∀ (k0_h44 : k0_cond44 v21 k0_t5 = 1#1), ∀ (k0_h47 : k0_cond47 v366 = 1#1), ∀ (hinb : ∀ a, (k0_off253 v21 k0_t5) a + S1x1x16x5120.size a ≤ S4x8x16x5120.size a), (Rect.unit (s := S4x8x16x5120) (k0_off253 v21 k0_t5) S1x1x16x5120.size hinb).WholeWords (EltTy.packing .bf16)) ∧
  (∀ (k0_h44 : k0_cond44 v21 k0_t5 = 1#1), ∀ (k0_h47 : k0_cond47 v366 = 1#1), ∀ a, (k0_off255 v21 k0_t5) a + S1x1x16x768.size a ≤ S4x8x16x768.size a) ∧
  (∀ (k0_h44 : k0_cond44 v21 k0_t5 = 1#1), ∀ (k0_h47 : k0_cond47 v366 = 1#1), ∀ a, (k0_off256 v357) a + S1x16x768.size a ≤ S256x16x768.size a) ∧
  (∀ (k0_h44 : k0_cond44 v21 k0_t5 = 1#1), ∀ (k0_h47 : k0_cond47 v366 = 1#1), ∀ (hinb : ∀ a, (k0_off256 v357) a + S1x16x768.size a ≤ S256x16x768.size a), (Rect.unit (s := S256x16x768) (k0_off256 v357) S1x16x768.size hinb).WholeWords (EltTy.packing .bf16)) ∧
  (∀ (k0_h44 : k0_cond44 v21 k0_t5 = 1#1), ∀ (k0_h47 : k0_cond47 v366 = 1#1), ∀ (hinb : ∀ a, (k0_off255 v21 k0_t5) a + S1x1x16x768.size a ≤ S4x8x16x768.size a), (Rect.unit (s := S4x8x16x768) (k0_off255 v21 k0_t5) S1x1x16x768.size hinb).WholeWords (EltTy.packing .bf16)) ∧
  (∀ (k0_h44 : k0_cond44 v21 k0_t5 = 1#1), ∀ (k0_h48 : k0_cond48 v366 = 1#1), ∀ a, (k0_off257 v21 k0_t5) a + S1.size a ≤ S4.size a) ∧
  (∀ (k0_h44 : k0_cond44 v21 k0_t5 = 1#1), ∀ (k0_h48 : k0_cond48 v366 = 1#1), ∀ a, (k0_off258 v21 k0_t5) a + S1x1x16x5120.size a ≤ S4x8x16x5120.size a) ∧
  (∀ (k0_h44 : k0_cond44 v21 k0_t5 = 1#1), ∀ (k0_h48 : k0_cond48 v366 = 1#1), ∀ a, (k0_off259 v357) a + S1x16x5120.size a ≤ S256x16x5120.size a) ∧
  (∀ (k0_h44 : k0_cond44 v21 k0_t5 = 1#1), ∀ (k0_h48 : k0_cond48 v366 = 1#1), ∀ (hinb : ∀ a, (k0_off259 v357) a + S1x16x5120.size a ≤ S256x16x5120.size a), (Rect.unit (s := S256x16x5120) (k0_off259 v357) S1x16x5120.size hinb).WholeWords (EltTy.packing .bf16)) ∧
  (∀ (k0_h44 : k0_cond44 v21 k0_t5 = 1#1), ∀ (k0_h48 : k0_cond48 v366 = 1#1), ∀ (hinb : ∀ a, (k0_off258 v21 k0_t5) a + S1x1x16x5120.size a ≤ S4x8x16x5120.size a), (Rect.unit (s := S4x8x16x5120) (k0_off258 v21 k0_t5) S1x1x16x5120.size hinb).WholeWords (EltTy.packing .bf16))
def k0_chk22_1 (v21 : BitVec 32) (k0_t5 : Fin (k0_t5_loop v21).trips) (v357 : BitVec 32) (v366 : BitVec 32) : Prop :=
  (∀ (k0_h44 : k0_cond44 v21 k0_t5 = 1#1), ∀ (k0_h48 : k0_cond48 v366 = 1#1), ∀ a, (k0_off260 v21 k0_t5) a + S1x1x16x768.size a ≤ S4x8x16x768.size a) ∧
  (∀ (k0_h44 : k0_cond44 v21 k0_t5 = 1#1), ∀ (k0_h48 : k0_cond48 v366 = 1#1), ∀ a, (k0_off261 v357) a + S1x16x768.size a ≤ S256x16x768.size a) ∧
  (∀ (k0_h44 : k0_cond44 v21 k0_t5 = 1#1), ∀ (k0_h48 : k0_cond48 v366 = 1#1), ∀ (hinb : ∀ a, (k0_off261 v357) a + S1x16x768.size a ≤ S256x16x768.size a), (Rect.unit (s := S256x16x768) (k0_off261 v357) S1x16x768.size hinb).WholeWords (EltTy.packing .bf16)) ∧
  (∀ (k0_h44 : k0_cond44 v21 k0_t5 = 1#1), ∀ (k0_h48 : k0_cond48 v366 = 1#1), ∀ (hinb : ∀ a, (k0_off260 v21 k0_t5) a + S1x1x16x768.size a ≤ S4x8x16x768.size a), (Rect.unit (s := S4x8x16x768) (k0_off260 v21 k0_t5) S1x1x16x768.size hinb).WholeWords (EltTy.packing .bf16)) ∧
  (∀ (k0_h44 : k0_cond44 v21 k0_t5 = 1#1), ∀ (k0_h49 : k0_cond49 v366 = 1#1), ∀ a, (k0_off262 v21 k0_t5) a + S1.size a ≤ S4.size a) ∧
  (∀ (k0_h44 : k0_cond44 v21 k0_t5 = 1#1), ∀ (k0_h49 : k0_cond49 v366 = 1#1), ∀ a, (k0_off263 v21 k0_t5) a + S1x1x16x5120.size a ≤ S4x8x16x5120.size a) ∧
  (∀ (k0_h44 : k0_cond44 v21 k0_t5 = 1#1), ∀ (k0_h49 : k0_cond49 v366 = 1#1), ∀ a, (k0_off264 v357) a + S1x16x5120.size a ≤ S256x16x5120.size a) ∧
  (∀ (k0_h44 : k0_cond44 v21 k0_t5 = 1#1), ∀ (k0_h49 : k0_cond49 v366 = 1#1), ∀ (hinb : ∀ a, (k0_off264 v357) a + S1x16x5120.size a ≤ S256x16x5120.size a), (Rect.unit (s := S256x16x5120) (k0_off264 v357) S1x16x5120.size hinb).WholeWords (EltTy.packing .bf16)) ∧
  (∀ (k0_h44 : k0_cond44 v21 k0_t5 = 1#1), ∀ (k0_h49 : k0_cond49 v366 = 1#1), ∀ (hinb : ∀ a, (k0_off263 v21 k0_t5) a + S1x1x16x5120.size a ≤ S4x8x16x5120.size a), (Rect.unit (s := S4x8x16x5120) (k0_off263 v21 k0_t5) S1x1x16x5120.size hinb).WholeWords (EltTy.packing .bf16)) ∧
  (∀ (k0_h44 : k0_cond44 v21 k0_t5 = 1#1), ∀ (k0_h49 : k0_cond49 v366 = 1#1), ∀ a, (k0_off265 v21 k0_t5) a + S1x1x16x768.size a ≤ S4x8x16x768.size a) ∧
  (∀ (k0_h44 : k0_cond44 v21 k0_t5 = 1#1), ∀ (k0_h49 : k0_cond49 v366 = 1#1), ∀ a, (k0_off266 v357) a + S1x16x768.size a ≤ S256x16x768.size a) ∧
  (∀ (k0_h44 : k0_cond44 v21 k0_t5 = 1#1), ∀ (k0_h49 : k0_cond49 v366 = 1#1), ∀ (hinb : ∀ a, (k0_off266 v357) a + S1x16x768.size a ≤ S256x16x768.size a), (Rect.unit (s := S256x16x768) (k0_off266 v357) S1x16x768.size hinb).WholeWords (EltTy.packing .bf16)) ∧
  (∀ (k0_h44 : k0_cond44 v21 k0_t5 = 1#1), ∀ (k0_h49 : k0_cond49 v366 = 1#1), ∀ (hinb : ∀ a, (k0_off265 v21 k0_t5) a + S1x1x16x768.size a ≤ S4x8x16x768.size a), (Rect.unit (s := S4x8x16x768) (k0_off265 v21 k0_t5) S1x1x16x768.size hinb).WholeWords (EltTy.packing .bf16)) ∧
  (∀ (k0_h44 : k0_cond44 v21 k0_t5 = 1#1), ∀ (k0_h50 : k0_cond50 v366 = 1#1), ∀ a, (k0_off267 v21 k0_t5) a + S1.size a ≤ S4.size a) ∧
  (∀ (k0_h44 : k0_cond44 v21 k0_t5 = 1#1), ∀ (k0_h50 : k0_cond50 v366 = 1#1), ∀ a, (k0_off268 v21 k0_t5) a + S1x1x16x5120.size a ≤ S4x8x16x5120.size a) ∧
  (∀ (k0_h44 : k0_cond44 v21 k0_t5 = 1#1), ∀ (k0_h50 : k0_cond50 v366 = 1#1), ∀ a, (k0_off269 v357) a + S1x16x5120.size a ≤ S256x16x5120.size a) ∧
  (∀ (k0_h44 : k0_cond44 v21 k0_t5 = 1#1), ∀ (k0_h50 : k0_cond50 v366 = 1#1), ∀ (hinb : ∀ a, (k0_off269 v357) a + S1x16x5120.size a ≤ S256x16x5120.size a), (Rect.unit (s := S256x16x5120) (k0_off269 v357) S1x16x5120.size hinb).WholeWords (EltTy.packing .bf16)) ∧
  (∀ (k0_h44 : k0_cond44 v21 k0_t5 = 1#1), ∀ (k0_h50 : k0_cond50 v366 = 1#1), ∀ (hinb : ∀ a, (k0_off268 v21 k0_t5) a + S1x1x16x5120.size a ≤ S4x8x16x5120.size a), (Rect.unit (s := S4x8x16x5120) (k0_off268 v21 k0_t5) S1x1x16x5120.size hinb).WholeWords (EltTy.packing .bf16)) ∧
  (∀ (k0_h44 : k0_cond44 v21 k0_t5 = 1#1), ∀ (k0_h50 : k0_cond50 v366 = 1#1), ∀ a, (k0_off270 v21 k0_t5) a + S1x1x16x768.size a ≤ S4x8x16x768.size a) ∧
  (∀ (k0_h44 : k0_cond44 v21 k0_t5 = 1#1), ∀ (k0_h50 : k0_cond50 v366 = 1#1), ∀ a, (k0_off271 v357) a + S1x16x768.size a ≤ S256x16x768.size a) ∧
  (∀ (k0_h44 : k0_cond44 v21 k0_t5 = 1#1), ∀ (k0_h50 : k0_cond50 v366 = 1#1), ∀ (hinb : ∀ a, (k0_off271 v357) a + S1x16x768.size a ≤ S256x16x768.size a), (Rect.unit (s := S256x16x768) (k0_off271 v357) S1x16x768.size hinb).WholeWords (EltTy.packing .bf16)) ∧
  (∀ (k0_h44 : k0_cond44 v21 k0_t5 = 1#1), ∀ (k0_h50 : k0_cond50 v366 = 1#1), ∀ (hinb : ∀ a, (k0_off270 v21 k0_t5) a + S1x1x16x768.size a ≤ S4x8x16x768.size a), (Rect.unit (s := S4x8x16x768) (k0_off270 v21 k0_t5) S1x1x16x768.size hinb).WholeWords (EltTy.packing .bf16)) ∧
  (∀ (k0_h44 : k0_cond44 v21 k0_t5 = 1#1), ∀ (k0_h51 : k0_cond51 v366 = 1#1), ∀ a, (k0_off272 v21 k0_t5) a + S1.size a ≤ S4.size a) ∧
  (∀ (k0_h44 : k0_cond44 v21 k0_t5 = 1#1), ∀ (k0_h51 : k0_cond51 v366 = 1#1), ∀ a, (k0_off273 v21 k0_t5) a + S1x1x16x5120.size a ≤ S4x8x16x5120.size a) ∧
  (∀ (k0_h44 : k0_cond44 v21 k0_t5 = 1#1), ∀ (k0_h51 : k0_cond51 v366 = 1#1), ∀ a, (k0_off274 v357) a + S1x16x5120.size a ≤ S256x16x5120.size a) ∧
  (∀ (k0_h44 : k0_cond44 v21 k0_t5 = 1#1), ∀ (k0_h51 : k0_cond51 v366 = 1#1), ∀ (hinb : ∀ a, (k0_off274 v357) a + S1x16x5120.size a ≤ S256x16x5120.size a), (Rect.unit (s := S256x16x5120) (k0_off274 v357) S1x16x5120.size hinb).WholeWords (EltTy.packing .bf16)) ∧
  (∀ (k0_h44 : k0_cond44 v21 k0_t5 = 1#1), ∀ (k0_h51 : k0_cond51 v366 = 1#1), ∀ (hinb : ∀ a, (k0_off273 v21 k0_t5) a + S1x1x16x5120.size a ≤ S4x8x16x5120.size a), (Rect.unit (s := S4x8x16x5120) (k0_off273 v21 k0_t5) S1x1x16x5120.size hinb).WholeWords (EltTy.packing .bf16)) ∧
  (∀ (k0_h44 : k0_cond44 v21 k0_t5 = 1#1), ∀ (k0_h51 : k0_cond51 v366 = 1#1), ∀ a, (k0_off275 v21 k0_t5) a + S1x1x16x768.size a ≤ S4x8x16x768.size a) ∧
  (∀ (k0_h44 : k0_cond44 v21 k0_t5 = 1#1), ∀ (k0_h51 : k0_cond51 v366 = 1#1), ∀ a, (k0_off276 v357) a + S1x16x768.size a ≤ S256x16x768.size a) ∧
  (∀ (k0_h44 : k0_cond44 v21 k0_t5 = 1#1), ∀ (k0_h51 : k0_cond51 v366 = 1#1), ∀ (hinb : ∀ a, (k0_off276 v357) a + S1x16x768.size a ≤ S256x16x768.size a), (Rect.unit (s := S256x16x768) (k0_off276 v357) S1x16x768.size hinb).WholeWords (EltTy.packing .bf16)) ∧
  (∀ (k0_h44 : k0_cond44 v21 k0_t5 = 1#1), ∀ (k0_h51 : k0_cond51 v366 = 1#1), ∀ (hinb : ∀ a, (k0_off275 v21 k0_t5) a + S1x1x16x768.size a ≤ S4x8x16x768.size a), (Rect.unit (s := S4x8x16x768) (k0_off275 v21 k0_t5) S1x1x16x768.size hinb).WholeWords (EltTy.packing .bf16)) ∧
  (∀ (k0_h44 : k0_cond44 v21 k0_t5 = 1#1), ∀ (k0_h52 : k0_cond52 v366 = 1#1), ∀ a, (k0_off277 v21 k0_t5) a + S1.size a ≤ S4.size a)
def k0_chk22_2 (v21 : BitVec 32) (k0_t5 : Fin (k0_t5_loop v21).trips) (v357 : BitVec 32) (v366 : BitVec 32) : Prop :=
  (∀ (k0_h44 : k0_cond44 v21 k0_t5 = 1#1), ∀ (k0_h52 : k0_cond52 v366 = 1#1), ∀ a, (k0_off278 v21 k0_t5) a + S1x1x16x5120.size a ≤ S4x8x16x5120.size a) ∧
  (∀ (k0_h44 : k0_cond44 v21 k0_t5 = 1#1), ∀ (k0_h52 : k0_cond52 v366 = 1#1), ∀ a, (k0_off279 v357) a + S1x16x5120.size a ≤ S256x16x5120.size a) ∧
  (∀ (k0_h44 : k0_cond44 v21 k0_t5 = 1#1), ∀ (k0_h52 : k0_cond52 v366 = 1#1), ∀ (hinb : ∀ a, (k0_off279 v357) a + S1x16x5120.size a ≤ S256x16x5120.size a), (Rect.unit (s := S256x16x5120) (k0_off279 v357) S1x16x5120.size hinb).WholeWords (EltTy.packing .bf16)) ∧
  (∀ (k0_h44 : k0_cond44 v21 k0_t5 = 1#1), ∀ (k0_h52 : k0_cond52 v366 = 1#1), ∀ (hinb : ∀ a, (k0_off278 v21 k0_t5) a + S1x1x16x5120.size a ≤ S4x8x16x5120.size a), (Rect.unit (s := S4x8x16x5120) (k0_off278 v21 k0_t5) S1x1x16x5120.size hinb).WholeWords (EltTy.packing .bf16)) ∧
  (∀ (k0_h44 : k0_cond44 v21 k0_t5 = 1#1), ∀ (k0_h52 : k0_cond52 v366 = 1#1), ∀ a, (k0_off280 v21 k0_t5) a + S1x1x16x768.size a ≤ S4x8x16x768.size a) ∧
  (∀ (k0_h44 : k0_cond44 v21 k0_t5 = 1#1), ∀ (k0_h52 : k0_cond52 v366 = 1#1), ∀ a, (k0_off281 v357) a + S1x16x768.size a ≤ S256x16x768.size a) ∧
  (∀ (k0_h44 : k0_cond44 v21 k0_t5 = 1#1), ∀ (k0_h52 : k0_cond52 v366 = 1#1), ∀ (hinb : ∀ a, (k0_off281 v357) a + S1x16x768.size a ≤ S256x16x768.size a), (Rect.unit (s := S256x16x768) (k0_off281 v357) S1x16x768.size hinb).WholeWords (EltTy.packing .bf16)) ∧
  (∀ (k0_h44 : k0_cond44 v21 k0_t5 = 1#1), ∀ (k0_h52 : k0_cond52 v366 = 1#1), ∀ (hinb : ∀ a, (k0_off280 v21 k0_t5) a + S1x1x16x768.size a ≤ S4x8x16x768.size a), (Rect.unit (s := S4x8x16x768) (k0_off280 v21 k0_t5) S1x1x16x768.size hinb).WholeWords (EltTy.packing .bf16))
def k0_chk22 (v21 : BitVec 32) (k0_t5 : Fin (k0_t5_loop v21).trips) (v357 : BitVec 32) (v366 : BitVec 32) : Prop :=
  k0_chk22_0 v21 k0_t5 v357 v366 ∧
  k0_chk22_1 v21 k0_t5 v357 v366 ∧
  k0_chk22_2 v21 k0_t5 v357 v366
theorem k0_off242_inb : ∀ (v21 : BitVec 32) (k0_t5 : Fin (k0_t5_loop v21).trips) (v357 : BitVec 32) (v366 : BitVec 32) (k0_hw22 : k0_chk22 v21 k0_t5 v357 v366), ∀ (k0_h44 : k0_cond44 v21 k0_t5 = 1#1), ∀ (k0_h45 : k0_cond45 v366 = 1#1), ∀ a, (k0_off242 v21 k0_t5) a + S1.size a ≤ S4.size a := fun v21 k0_t5 v357 v366 k0_hw22 k0_h44 k0_h45 => k0_hw22.1.1 k0_h44 k0_h45
theorem k0_off243_inb : ∀ (v21 : BitVec 32) (k0_t5 : Fin (k0_t5_loop v21).trips) (v357 : BitVec 32) (v366 : BitVec 32) (k0_hw22 : k0_chk22 v21 k0_t5 v357 v366), ∀ (k0_h44 : k0_cond44 v21 k0_t5 = 1#1), ∀ (k0_h45 : k0_cond45 v366 = 1#1), ∀ a, (k0_off243 v21 k0_t5) a + S1x1x16x5120.size a ≤ S4x8x16x5120.size a := fun v21 k0_t5 v357 v366 k0_hw22 k0_h44 k0_h45 => k0_hw22.1.2.1 k0_h44 k0_h45
theorem k0_off244_inb : ∀ (v21 : BitVec 32) (k0_t5 : Fin (k0_t5_loop v21).trips) (v357 : BitVec 32) (v366 : BitVec 32) (k0_hw22 : k0_chk22 v21 k0_t5 v357 v366), ∀ (k0_h44 : k0_cond44 v21 k0_t5 = 1#1), ∀ (k0_h45 : k0_cond45 v366 = 1#1), ∀ a, (k0_off244 v357) a + S1x16x5120.size a ≤ S256x16x5120.size a := fun v21 k0_t5 v357 v366 k0_hw22 k0_h44 k0_h45 => k0_hw22.1.2.2.1 k0_h44 k0_h45
theorem k0_off244_wordsbf16 : ∀ (v21 : BitVec 32) (k0_t5 : Fin (k0_t5_loop v21).trips) (v357 : BitVec 32) (v366 : BitVec 32) (k0_hw22 : k0_chk22 v21 k0_t5 v357 v366), ∀ (k0_h44 : k0_cond44 v21 k0_t5 = 1#1), ∀ (k0_h45 : k0_cond45 v366 = 1#1), (Rect.unit (s := S256x16x5120) (k0_off244 v357) S1x16x5120.size (k0_off244_inb v21 k0_t5 v357 v366 k0_hw22 k0_h44 k0_h45)).WholeWords (EltTy.packing .bf16) := fun v21 k0_t5 v357 v366 k0_hw22 k0_h44 k0_h45 => k0_hw22.1.2.2.2.1 k0_h44 k0_h45 (k0_off244_inb v21 k0_t5 v357 v366 k0_hw22 k0_h44 k0_h45)
theorem k0_off243_wordsbf16 : ∀ (v21 : BitVec 32) (k0_t5 : Fin (k0_t5_loop v21).trips) (v357 : BitVec 32) (v366 : BitVec 32) (k0_hw22 : k0_chk22 v21 k0_t5 v357 v366), ∀ (k0_h44 : k0_cond44 v21 k0_t5 = 1#1), ∀ (k0_h45 : k0_cond45 v366 = 1#1), (Rect.unit (s := S4x8x16x5120) (k0_off243 v21 k0_t5) S1x1x16x5120.size (k0_off243_inb v21 k0_t5 v357 v366 k0_hw22 k0_h44 k0_h45)).WholeWords (EltTy.packing .bf16) := fun v21 k0_t5 v357 v366 k0_hw22 k0_h44 k0_h45 => k0_hw22.1.2.2.2.2.1 k0_h44 k0_h45 (k0_off243_inb v21 k0_t5 v357 v366 k0_hw22 k0_h44 k0_h45)
theorem k0_off245_inb : ∀ (v21 : BitVec 32) (k0_t5 : Fin (k0_t5_loop v21).trips) (v357 : BitVec 32) (v366 : BitVec 32) (k0_hw22 : k0_chk22 v21 k0_t5 v357 v366), ∀ (k0_h44 : k0_cond44 v21 k0_t5 = 1#1), ∀ (k0_h45 : k0_cond45 v366 = 1#1), ∀ a, (k0_off245 v21 k0_t5) a + S1x1x16x768.size a ≤ S4x8x16x768.size a := fun v21 k0_t5 v357 v366 k0_hw22 k0_h44 k0_h45 => k0_hw22.1.2.2.2.2.2.1 k0_h44 k0_h45
theorem k0_off246_inb : ∀ (v21 : BitVec 32) (k0_t5 : Fin (k0_t5_loop v21).trips) (v357 : BitVec 32) (v366 : BitVec 32) (k0_hw22 : k0_chk22 v21 k0_t5 v357 v366), ∀ (k0_h44 : k0_cond44 v21 k0_t5 = 1#1), ∀ (k0_h45 : k0_cond45 v366 = 1#1), ∀ a, (k0_off246 v357) a + S1x16x768.size a ≤ S256x16x768.size a := fun v21 k0_t5 v357 v366 k0_hw22 k0_h44 k0_h45 => k0_hw22.1.2.2.2.2.2.2.1 k0_h44 k0_h45
theorem k0_off246_wordsbf16 : ∀ (v21 : BitVec 32) (k0_t5 : Fin (k0_t5_loop v21).trips) (v357 : BitVec 32) (v366 : BitVec 32) (k0_hw22 : k0_chk22 v21 k0_t5 v357 v366), ∀ (k0_h44 : k0_cond44 v21 k0_t5 = 1#1), ∀ (k0_h45 : k0_cond45 v366 = 1#1), (Rect.unit (s := S256x16x768) (k0_off246 v357) S1x16x768.size (k0_off246_inb v21 k0_t5 v357 v366 k0_hw22 k0_h44 k0_h45)).WholeWords (EltTy.packing .bf16) := fun v21 k0_t5 v357 v366 k0_hw22 k0_h44 k0_h45 => k0_hw22.1.2.2.2.2.2.2.2.1 k0_h44 k0_h45 (k0_off246_inb v21 k0_t5 v357 v366 k0_hw22 k0_h44 k0_h45)
theorem k0_off245_wordsbf16 : ∀ (v21 : BitVec 32) (k0_t5 : Fin (k0_t5_loop v21).trips) (v357 : BitVec 32) (v366 : BitVec 32) (k0_hw22 : k0_chk22 v21 k0_t5 v357 v366), ∀ (k0_h44 : k0_cond44 v21 k0_t5 = 1#1), ∀ (k0_h45 : k0_cond45 v366 = 1#1), (Rect.unit (s := S4x8x16x768) (k0_off245 v21 k0_t5) S1x1x16x768.size (k0_off245_inb v21 k0_t5 v357 v366 k0_hw22 k0_h44 k0_h45)).WholeWords (EltTy.packing .bf16) := fun v21 k0_t5 v357 v366 k0_hw22 k0_h44 k0_h45 => k0_hw22.1.2.2.2.2.2.2.2.2.1 k0_h44 k0_h45 (k0_off245_inb v21 k0_t5 v357 v366 k0_hw22 k0_h44 k0_h45)
theorem k0_off247_inb : ∀ (v21 : BitVec 32) (k0_t5 : Fin (k0_t5_loop v21).trips) (v357 : BitVec 32) (v366 : BitVec 32) (k0_hw22 : k0_chk22 v21 k0_t5 v357 v366), ∀ (k0_h44 : k0_cond44 v21 k0_t5 = 1#1), ∀ (k0_h46 : k0_cond46 v366 = 1#1), ∀ a, (k0_off247 v21 k0_t5) a + S1.size a ≤ S4.size a := fun v21 k0_t5 v357 v366 k0_hw22 k0_h44 k0_h46 => k0_hw22.1.2.2.2.2.2.2.2.2.2.1 k0_h44 k0_h46
theorem k0_off248_inb : ∀ (v21 : BitVec 32) (k0_t5 : Fin (k0_t5_loop v21).trips) (v357 : BitVec 32) (v366 : BitVec 32) (k0_hw22 : k0_chk22 v21 k0_t5 v357 v366), ∀ (k0_h44 : k0_cond44 v21 k0_t5 = 1#1), ∀ (k0_h46 : k0_cond46 v366 = 1#1), ∀ a, (k0_off248 v21 k0_t5) a + S1x1x16x5120.size a ≤ S4x8x16x5120.size a := fun v21 k0_t5 v357 v366 k0_hw22 k0_h44 k0_h46 => k0_hw22.1.2.2.2.2.2.2.2.2.2.2.1 k0_h44 k0_h46
theorem k0_off249_inb : ∀ (v21 : BitVec 32) (k0_t5 : Fin (k0_t5_loop v21).trips) (v357 : BitVec 32) (v366 : BitVec 32) (k0_hw22 : k0_chk22 v21 k0_t5 v357 v366), ∀ (k0_h44 : k0_cond44 v21 k0_t5 = 1#1), ∀ (k0_h46 : k0_cond46 v366 = 1#1), ∀ a, (k0_off249 v357) a + S1x16x5120.size a ≤ S256x16x5120.size a := fun v21 k0_t5 v357 v366 k0_hw22 k0_h44 k0_h46 => k0_hw22.1.2.2.2.2.2.2.2.2.2.2.2.1 k0_h44 k0_h46
theorem k0_off249_wordsbf16 : ∀ (v21 : BitVec 32) (k0_t5 : Fin (k0_t5_loop v21).trips) (v357 : BitVec 32) (v366 : BitVec 32) (k0_hw22 : k0_chk22 v21 k0_t5 v357 v366), ∀ (k0_h44 : k0_cond44 v21 k0_t5 = 1#1), ∀ (k0_h46 : k0_cond46 v366 = 1#1), (Rect.unit (s := S256x16x5120) (k0_off249 v357) S1x16x5120.size (k0_off249_inb v21 k0_t5 v357 v366 k0_hw22 k0_h44 k0_h46)).WholeWords (EltTy.packing .bf16) := fun v21 k0_t5 v357 v366 k0_hw22 k0_h44 k0_h46 => k0_hw22.1.2.2.2.2.2.2.2.2.2.2.2.2.1 k0_h44 k0_h46 (k0_off249_inb v21 k0_t5 v357 v366 k0_hw22 k0_h44 k0_h46)
theorem k0_off248_wordsbf16 : ∀ (v21 : BitVec 32) (k0_t5 : Fin (k0_t5_loop v21).trips) (v357 : BitVec 32) (v366 : BitVec 32) (k0_hw22 : k0_chk22 v21 k0_t5 v357 v366), ∀ (k0_h44 : k0_cond44 v21 k0_t5 = 1#1), ∀ (k0_h46 : k0_cond46 v366 = 1#1), (Rect.unit (s := S4x8x16x5120) (k0_off248 v21 k0_t5) S1x1x16x5120.size (k0_off248_inb v21 k0_t5 v357 v366 k0_hw22 k0_h44 k0_h46)).WholeWords (EltTy.packing .bf16) := fun v21 k0_t5 v357 v366 k0_hw22 k0_h44 k0_h46 => k0_hw22.1.2.2.2.2.2.2.2.2.2.2.2.2.2.1 k0_h44 k0_h46 (k0_off248_inb v21 k0_t5 v357 v366 k0_hw22 k0_h44 k0_h46)
theorem k0_off250_inb : ∀ (v21 : BitVec 32) (k0_t5 : Fin (k0_t5_loop v21).trips) (v357 : BitVec 32) (v366 : BitVec 32) (k0_hw22 : k0_chk22 v21 k0_t5 v357 v366), ∀ (k0_h44 : k0_cond44 v21 k0_t5 = 1#1), ∀ (k0_h46 : k0_cond46 v366 = 1#1), ∀ a, (k0_off250 v21 k0_t5) a + S1x1x16x768.size a ≤ S4x8x16x768.size a := fun v21 k0_t5 v357 v366 k0_hw22 k0_h44 k0_h46 => k0_hw22.1.2.2.2.2.2.2.2.2.2.2.2.2.2.2.1 k0_h44 k0_h46
theorem k0_off251_inb : ∀ (v21 : BitVec 32) (k0_t5 : Fin (k0_t5_loop v21).trips) (v357 : BitVec 32) (v366 : BitVec 32) (k0_hw22 : k0_chk22 v21 k0_t5 v357 v366), ∀ (k0_h44 : k0_cond44 v21 k0_t5 = 1#1), ∀ (k0_h46 : k0_cond46 v366 = 1#1), ∀ a, (k0_off251 v357) a + S1x16x768.size a ≤ S256x16x768.size a := fun v21 k0_t5 v357 v366 k0_hw22 k0_h44 k0_h46 => k0_hw22.1.2.2.2.2.2.2.2.2.2.2.2.2.2.2.2.1 k0_h44 k0_h46
theorem k0_off251_wordsbf16 : ∀ (v21 : BitVec 32) (k0_t5 : Fin (k0_t5_loop v21).trips) (v357 : BitVec 32) (v366 : BitVec 32) (k0_hw22 : k0_chk22 v21 k0_t5 v357 v366), ∀ (k0_h44 : k0_cond44 v21 k0_t5 = 1#1), ∀ (k0_h46 : k0_cond46 v366 = 1#1), (Rect.unit (s := S256x16x768) (k0_off251 v357) S1x16x768.size (k0_off251_inb v21 k0_t5 v357 v366 k0_hw22 k0_h44 k0_h46)).WholeWords (EltTy.packing .bf16) := fun v21 k0_t5 v357 v366 k0_hw22 k0_h44 k0_h46 => k0_hw22.1.2.2.2.2.2.2.2.2.2.2.2.2.2.2.2.2.1 k0_h44 k0_h46 (k0_off251_inb v21 k0_t5 v357 v366 k0_hw22 k0_h44 k0_h46)
theorem k0_off250_wordsbf16 : ∀ (v21 : BitVec 32) (k0_t5 : Fin (k0_t5_loop v21).trips) (v357 : BitVec 32) (v366 : BitVec 32) (k0_hw22 : k0_chk22 v21 k0_t5 v357 v366), ∀ (k0_h44 : k0_cond44 v21 k0_t5 = 1#1), ∀ (k0_h46 : k0_cond46 v366 = 1#1), (Rect.unit (s := S4x8x16x768) (k0_off250 v21 k0_t5) S1x1x16x768.size (k0_off250_inb v21 k0_t5 v357 v366 k0_hw22 k0_h44 k0_h46)).WholeWords (EltTy.packing .bf16) := fun v21 k0_t5 v357 v366 k0_hw22 k0_h44 k0_h46 => k0_hw22.1.2.2.2.2.2.2.2.2.2.2.2.2.2.2.2.2.2.1 k0_h44 k0_h46 (k0_off250_inb v21 k0_t5 v357 v366 k0_hw22 k0_h44 k0_h46)
theorem k0_off252_inb : ∀ (v21 : BitVec 32) (k0_t5 : Fin (k0_t5_loop v21).trips) (v357 : BitVec 32) (v366 : BitVec 32) (k0_hw22 : k0_chk22 v21 k0_t5 v357 v366), ∀ (k0_h44 : k0_cond44 v21 k0_t5 = 1#1), ∀ (k0_h47 : k0_cond47 v366 = 1#1), ∀ a, (k0_off252 v21 k0_t5) a + S1.size a ≤ S4.size a := fun v21 k0_t5 v357 v366 k0_hw22 k0_h44 k0_h47 => k0_hw22.1.2.2.2.2.2.2.2.2.2.2.2.2.2.2.2.2.2.2.1 k0_h44 k0_h47
theorem k0_off253_inb : ∀ (v21 : BitVec 32) (k0_t5 : Fin (k0_t5_loop v21).trips) (v357 : BitVec 32) (v366 : BitVec 32) (k0_hw22 : k0_chk22 v21 k0_t5 v357 v366), ∀ (k0_h44 : k0_cond44 v21 k0_t5 = 1#1), ∀ (k0_h47 : k0_cond47 v366 = 1#1), ∀ a, (k0_off253 v21 k0_t5) a + S1x1x16x5120.size a ≤ S4x8x16x5120.size a := fun v21 k0_t5 v357 v366 k0_hw22 k0_h44 k0_h47 => k0_hw22.1.2.2.2.2.2.2.2.2.2.2.2.2.2.2.2.2.2.2.2.1 k0_h44 k0_h47
theorem k0_off254_inb : ∀ (v21 : BitVec 32) (k0_t5 : Fin (k0_t5_loop v21).trips) (v357 : BitVec 32) (v366 : BitVec 32) (k0_hw22 : k0_chk22 v21 k0_t5 v357 v366), ∀ (k0_h44 : k0_cond44 v21 k0_t5 = 1#1), ∀ (k0_h47 : k0_cond47 v366 = 1#1), ∀ a, (k0_off254 v357) a + S1x16x5120.size a ≤ S256x16x5120.size a := fun v21 k0_t5 v357 v366 k0_hw22 k0_h44 k0_h47 => k0_hw22.1.2.2.2.2.2.2.2.2.2.2.2.2.2.2.2.2.2.2.2.2.1 k0_h44 k0_h47
theorem k0_off254_wordsbf16 : ∀ (v21 : BitVec 32) (k0_t5 : Fin (k0_t5_loop v21).trips) (v357 : BitVec 32) (v366 : BitVec 32) (k0_hw22 : k0_chk22 v21 k0_t5 v357 v366), ∀ (k0_h44 : k0_cond44 v21 k0_t5 = 1#1), ∀ (k0_h47 : k0_cond47 v366 = 1#1), (Rect.unit (s := S256x16x5120) (k0_off254 v357) S1x16x5120.size (k0_off254_inb v21 k0_t5 v357 v366 k0_hw22 k0_h44 k0_h47)).WholeWords (EltTy.packing .bf16) := fun v21 k0_t5 v357 v366 k0_hw22 k0_h44 k0_h47 => k0_hw22.1.2.2.2.2.2.2.2.2.2.2.2.2.2.2.2.2.2.2.2.2.2.1 k0_h44 k0_h47 (k0_off254_inb v21 k0_t5 v357 v366 k0_hw22 k0_h44 k0_h47)
theorem k0_off253_wordsbf16 : ∀ (v21 : BitVec 32) (k0_t5 : Fin (k0_t5_loop v21).trips) (v357 : BitVec 32) (v366 : BitVec 32) (k0_hw22 : k0_chk22 v21 k0_t5 v357 v366), ∀ (k0_h44 : k0_cond44 v21 k0_t5 = 1#1), ∀ (k0_h47 : k0_cond47 v366 = 1#1), (Rect.unit (s := S4x8x16x5120) (k0_off253 v21 k0_t5) S1x1x16x5120.size (k0_off253_inb v21 k0_t5 v357 v366 k0_hw22 k0_h44 k0_h47)).WholeWords (EltTy.packing .bf16) := fun v21 k0_t5 v357 v366 k0_hw22 k0_h44 k0_h47 => k0_hw22.1.2.2.2.2.2.2.2.2.2.2.2.2.2.2.2.2.2.2.2.2.2.2.1 k0_h44 k0_h47 (k0_off253_inb v21 k0_t5 v357 v366 k0_hw22 k0_h44 k0_h47)
theorem k0_off255_inb : ∀ (v21 : BitVec 32) (k0_t5 : Fin (k0_t5_loop v21).trips) (v357 : BitVec 32) (v366 : BitVec 32) (k0_hw22 : k0_chk22 v21 k0_t5 v357 v366), ∀ (k0_h44 : k0_cond44 v21 k0_t5 = 1#1), ∀ (k0_h47 : k0_cond47 v366 = 1#1), ∀ a, (k0_off255 v21 k0_t5) a + S1x1x16x768.size a ≤ S4x8x16x768.size a := fun v21 k0_t5 v357 v366 k0_hw22 k0_h44 k0_h47 => k0_hw22.1.2.2.2.2.2.2.2.2.2.2.2.2.2.2.2.2.2.2.2.2.2.2.2.1 k0_h44 k0_h47
theorem k0_off256_inb : ∀ (v21 : BitVec 32) (k0_t5 : Fin (k0_t5_loop v21).trips) (v357 : BitVec 32) (v366 : BitVec 32) (k0_hw22 : k0_chk22 v21 k0_t5 v357 v366), ∀ (k0_h44 : k0_cond44 v21 k0_t5 = 1#1), ∀ (k0_h47 : k0_cond47 v366 = 1#1), ∀ a, (k0_off256 v357) a + S1x16x768.size a ≤ S256x16x768.size a := fun v21 k0_t5 v357 v366 k0_hw22 k0_h44 k0_h47 => k0_hw22.1.2.2.2.2.2.2.2.2.2.2.2.2.2.2.2.2.2.2.2.2.2.2.2.2.1 k0_h44 k0_h47
theorem k0_off256_wordsbf16 : ∀ (v21 : BitVec 32) (k0_t5 : Fin (k0_t5_loop v21).trips) (v357 : BitVec 32) (v366 : BitVec 32) (k0_hw22 : k0_chk22 v21 k0_t5 v357 v366), ∀ (k0_h44 : k0_cond44 v21 k0_t5 = 1#1), ∀ (k0_h47 : k0_cond47 v366 = 1#1), (Rect.unit (s := S256x16x768) (k0_off256 v357) S1x16x768.size (k0_off256_inb v21 k0_t5 v357 v366 k0_hw22 k0_h44 k0_h47)).WholeWords (EltTy.packing .bf16) := fun v21 k0_t5 v357 v366 k0_hw22 k0_h44 k0_h47 => k0_hw22.1.2.2.2.2.2.2.2.2.2.2.2.2.2.2.2.2.2.2.2.2.2.2.2.2.2.1 k0_h44 k0_h47 (k0_off256_inb v21 k0_t5 v357 v366 k0_hw22 k0_h44 k0_h47)
theorem k0_off255_wordsbf16 : ∀ (v21 : BitVec 32) (k0_t5 : Fin (k0_t5_loop v21).trips) (v357 : BitVec 32) (v366 : BitVec 32) (k0_hw22 : k0_chk22 v21 k0_t5 v357 v366), ∀ (k0_h44 : k0_cond44 v21 k0_t5 = 1#1), ∀ (k0_h47 : k0_cond47 v366 = 1#1), (Rect.unit (s := S4x8x16x768) (k0_off255 v21 k0_t5) S1x1x16x768.size (k0_off255_inb v21 k0_t5 v357 v366 k0_hw22 k0_h44 k0_h47)).WholeWords (EltTy.packing .bf16) := fun v21 k0_t5 v357 v366 k0_hw22 k0_h44 k0_h47 => k0_hw22.1.2.2.2.2.2.2.2.2.2.2.2.2.2.2.2.2.2.2.2.2.2.2.2.2.2.2.1 k0_h44 k0_h47 (k0_off255_inb v21 k0_t5 v357 v366 k0_hw22 k0_h44 k0_h47)
theorem k0_off257_inb : ∀ (v21 : BitVec 32) (k0_t5 : Fin (k0_t5_loop v21).trips) (v357 : BitVec 32) (v366 : BitVec 32) (k0_hw22 : k0_chk22 v21 k0_t5 v357 v366), ∀ (k0_h44 : k0_cond44 v21 k0_t5 = 1#1), ∀ (k0_h48 : k0_cond48 v366 = 1#1), ∀ a, (k0_off257 v21 k0_t5) a + S1.size a ≤ S4.size a := fun v21 k0_t5 v357 v366 k0_hw22 k0_h44 k0_h48 => k0_hw22.1.2.2.2.2.2.2.2.2.2.2.2.2.2.2.2.2.2.2.2.2.2.2.2.2.2.2.2.1 k0_h44 k0_h48
theorem k0_off258_inb : ∀ (v21 : BitVec 32) (k0_t5 : Fin (k0_t5_loop v21).trips) (v357 : BitVec 32) (v366 : BitVec 32) (k0_hw22 : k0_chk22 v21 k0_t5 v357 v366), ∀ (k0_h44 : k0_cond44 v21 k0_t5 = 1#1), ∀ (k0_h48 : k0_cond48 v366 = 1#1), ∀ a, (k0_off258 v21 k0_t5) a + S1x1x16x5120.size a ≤ S4x8x16x5120.size a := fun v21 k0_t5 v357 v366 k0_hw22 k0_h44 k0_h48 => k0_hw22.1.2.2.2.2.2.2.2.2.2.2.2.2.2.2.2.2.2.2.2.2.2.2.2.2.2.2.2.2.1 k0_h44 k0_h48
theorem k0_off259_inb : ∀ (v21 : BitVec 32) (k0_t5 : Fin (k0_t5_loop v21).trips) (v357 : BitVec 32) (v366 : BitVec 32) (k0_hw22 : k0_chk22 v21 k0_t5 v357 v366), ∀ (k0_h44 : k0_cond44 v21 k0_t5 = 1#1), ∀ (k0_h48 : k0_cond48 v366 = 1#1), ∀ a, (k0_off259 v357) a + S1x16x5120.size a ≤ S256x16x5120.size a := fun v21 k0_t5 v357 v366 k0_hw22 k0_h44 k0_h48 => k0_hw22.1.2.2.2.2.2.2.2.2.2.2.2.2.2.2.2.2.2.2.2.2.2.2.2.2.2.2.2.2.2.1 k0_h44 k0_h48
theorem k0_off259_wordsbf16 : ∀ (v21 : BitVec 32) (k0_t5 : Fin (k0_t5_loop v21).trips) (v357 : BitVec 32) (v366 : BitVec 32) (k0_hw22 : k0_chk22 v21 k0_t5 v357 v366), ∀ (k0_h44 : k0_cond44 v21 k0_t5 = 1#1), ∀ (k0_h48 : k0_cond48 v366 = 1#1), (Rect.unit (s := S256x16x5120) (k0_off259 v357) S1x16x5120.size (k0_off259_inb v21 k0_t5 v357 v366 k0_hw22 k0_h44 k0_h48)).WholeWords (EltTy.packing .bf16) := fun v21 k0_t5 v357 v366 k0_hw22 k0_h44 k0_h48 => k0_hw22.1.2.2.2.2.2.2.2.2.2.2.2.2.2.2.2.2.2.2.2.2.2.2.2.2.2.2.2.2.2.2.1 k0_h44 k0_h48 (k0_off259_inb v21 k0_t5 v357 v366 k0_hw22 k0_h44 k0_h48)
theorem k0_off258_wordsbf16 : ∀ (v21 : BitVec 32) (k0_t5 : Fin (k0_t5_loop v21).trips) (v357 : BitVec 32) (v366 : BitVec 32) (k0_hw22 : k0_chk22 v21 k0_t5 v357 v366), ∀ (k0_h44 : k0_cond44 v21 k0_t5 = 1#1), ∀ (k0_h48 : k0_cond48 v366 = 1#1), (Rect.unit (s := S4x8x16x5120) (k0_off258 v21 k0_t5) S1x1x16x5120.size (k0_off258_inb v21 k0_t5 v357 v366 k0_hw22 k0_h44 k0_h48)).WholeWords (EltTy.packing .bf16) := fun v21 k0_t5 v357 v366 k0_hw22 k0_h44 k0_h48 => k0_hw22.1.2.2.2.2.2.2.2.2.2.2.2.2.2.2.2.2.2.2.2.2.2.2.2.2.2.2.2.2.2.2.2 k0_h44 k0_h48 (k0_off258_inb v21 k0_t5 v357 v366 k0_hw22 k0_h44 k0_h48)
theorem k0_off260_inb : ∀ (v21 : BitVec 32) (k0_t5 : Fin (k0_t5_loop v21).trips) (v357 : BitVec 32) (v366 : BitVec 32) (k0_hw22 : k0_chk22 v21 k0_t5 v357 v366), ∀ (k0_h44 : k0_cond44 v21 k0_t5 = 1#1), ∀ (k0_h48 : k0_cond48 v366 = 1#1), ∀ a, (k0_off260 v21 k0_t5) a + S1x1x16x768.size a ≤ S4x8x16x768.size a := fun v21 k0_t5 v357 v366 k0_hw22 k0_h44 k0_h48 => k0_hw22.2.1.1 k0_h44 k0_h48
theorem k0_off261_inb : ∀ (v21 : BitVec 32) (k0_t5 : Fin (k0_t5_loop v21).trips) (v357 : BitVec 32) (v366 : BitVec 32) (k0_hw22 : k0_chk22 v21 k0_t5 v357 v366), ∀ (k0_h44 : k0_cond44 v21 k0_t5 = 1#1), ∀ (k0_h48 : k0_cond48 v366 = 1#1), ∀ a, (k0_off261 v357) a + S1x16x768.size a ≤ S256x16x768.size a := fun v21 k0_t5 v357 v366 k0_hw22 k0_h44 k0_h48 => k0_hw22.2.1.2.1 k0_h44 k0_h48
theorem k0_off261_wordsbf16 : ∀ (v21 : BitVec 32) (k0_t5 : Fin (k0_t5_loop v21).trips) (v357 : BitVec 32) (v366 : BitVec 32) (k0_hw22 : k0_chk22 v21 k0_t5 v357 v366), ∀ (k0_h44 : k0_cond44 v21 k0_t5 = 1#1), ∀ (k0_h48 : k0_cond48 v366 = 1#1), (Rect.unit (s := S256x16x768) (k0_off261 v357) S1x16x768.size (k0_off261_inb v21 k0_t5 v357 v366 k0_hw22 k0_h44 k0_h48)).WholeWords (EltTy.packing .bf16) := fun v21 k0_t5 v357 v366 k0_hw22 k0_h44 k0_h48 => k0_hw22.2.1.2.2.1 k0_h44 k0_h48 (k0_off261_inb v21 k0_t5 v357 v366 k0_hw22 k0_h44 k0_h48)
theorem k0_off260_wordsbf16 : ∀ (v21 : BitVec 32) (k0_t5 : Fin (k0_t5_loop v21).trips) (v357 : BitVec 32) (v366 : BitVec 32) (k0_hw22 : k0_chk22 v21 k0_t5 v357 v366), ∀ (k0_h44 : k0_cond44 v21 k0_t5 = 1#1), ∀ (k0_h48 : k0_cond48 v366 = 1#1), (Rect.unit (s := S4x8x16x768) (k0_off260 v21 k0_t5) S1x1x16x768.size (k0_off260_inb v21 k0_t5 v357 v366 k0_hw22 k0_h44 k0_h48)).WholeWords (EltTy.packing .bf16) := fun v21 k0_t5 v357 v366 k0_hw22 k0_h44 k0_h48 => k0_hw22.2.1.2.2.2.1 k0_h44 k0_h48 (k0_off260_inb v21 k0_t5 v357 v366 k0_hw22 k0_h44 k0_h48)
theorem k0_off262_inb : ∀ (v21 : BitVec 32) (k0_t5 : Fin (k0_t5_loop v21).trips) (v357 : BitVec 32) (v366 : BitVec 32) (k0_hw22 : k0_chk22 v21 k0_t5 v357 v366), ∀ (k0_h44 : k0_cond44 v21 k0_t5 = 1#1), ∀ (k0_h49 : k0_cond49 v366 = 1#1), ∀ a, (k0_off262 v21 k0_t5) a + S1.size a ≤ S4.size a := fun v21 k0_t5 v357 v366 k0_hw22 k0_h44 k0_h49 => k0_hw22.2.1.2.2.2.2.1 k0_h44 k0_h49
theorem k0_off263_inb : ∀ (v21 : BitVec 32) (k0_t5 : Fin (k0_t5_loop v21).trips) (v357 : BitVec 32) (v366 : BitVec 32) (k0_hw22 : k0_chk22 v21 k0_t5 v357 v366), ∀ (k0_h44 : k0_cond44 v21 k0_t5 = 1#1), ∀ (k0_h49 : k0_cond49 v366 = 1#1), ∀ a, (k0_off263 v21 k0_t5) a + S1x1x16x5120.size a ≤ S4x8x16x5120.size a := fun v21 k0_t5 v357 v366 k0_hw22 k0_h44 k0_h49 => k0_hw22.2.1.2.2.2.2.2.1 k0_h44 k0_h49
theorem k0_off264_inb : ∀ (v21 : BitVec 32) (k0_t5 : Fin (k0_t5_loop v21).trips) (v357 : BitVec 32) (v366 : BitVec 32) (k0_hw22 : k0_chk22 v21 k0_t5 v357 v366), ∀ (k0_h44 : k0_cond44 v21 k0_t5 = 1#1), ∀ (k0_h49 : k0_cond49 v366 = 1#1), ∀ a, (k0_off264 v357) a + S1x16x5120.size a ≤ S256x16x5120.size a := fun v21 k0_t5 v357 v366 k0_hw22 k0_h44 k0_h49 => k0_hw22.2.1.2.2.2.2.2.2.1 k0_h44 k0_h49
theorem k0_off264_wordsbf16 : ∀ (v21 : BitVec 32) (k0_t5 : Fin (k0_t5_loop v21).trips) (v357 : BitVec 32) (v366 : BitVec 32) (k0_hw22 : k0_chk22 v21 k0_t5 v357 v366), ∀ (k0_h44 : k0_cond44 v21 k0_t5 = 1#1), ∀ (k0_h49 : k0_cond49 v366 = 1#1), (Rect.unit (s := S256x16x5120) (k0_off264 v357) S1x16x5120.size (k0_off264_inb v21 k0_t5 v357 v366 k0_hw22 k0_h44 k0_h49)).WholeWords (EltTy.packing .bf16) := fun v21 k0_t5 v357 v366 k0_hw22 k0_h44 k0_h49 => k0_hw22.2.1.2.2.2.2.2.2.2.1 k0_h44 k0_h49 (k0_off264_inb v21 k0_t5 v357 v366 k0_hw22 k0_h44 k0_h49)
theorem k0_off263_wordsbf16 : ∀ (v21 : BitVec 32) (k0_t5 : Fin (k0_t5_loop v21).trips) (v357 : BitVec 32) (v366 : BitVec 32) (k0_hw22 : k0_chk22 v21 k0_t5 v357 v366), ∀ (k0_h44 : k0_cond44 v21 k0_t5 = 1#1), ∀ (k0_h49 : k0_cond49 v366 = 1#1), (Rect.unit (s := S4x8x16x5120) (k0_off263 v21 k0_t5) S1x1x16x5120.size (k0_off263_inb v21 k0_t5 v357 v366 k0_hw22 k0_h44 k0_h49)).WholeWords (EltTy.packing .bf16) := fun v21 k0_t5 v357 v366 k0_hw22 k0_h44 k0_h49 => k0_hw22.2.1.2.2.2.2.2.2.2.2.1 k0_h44 k0_h49 (k0_off263_inb v21 k0_t5 v357 v366 k0_hw22 k0_h44 k0_h49)
theorem k0_off265_inb : ∀ (v21 : BitVec 32) (k0_t5 : Fin (k0_t5_loop v21).trips) (v357 : BitVec 32) (v366 : BitVec 32) (k0_hw22 : k0_chk22 v21 k0_t5 v357 v366), ∀ (k0_h44 : k0_cond44 v21 k0_t5 = 1#1), ∀ (k0_h49 : k0_cond49 v366 = 1#1), ∀ a, (k0_off265 v21 k0_t5) a + S1x1x16x768.size a ≤ S4x8x16x768.size a := fun v21 k0_t5 v357 v366 k0_hw22 k0_h44 k0_h49 => k0_hw22.2.1.2.2.2.2.2.2.2.2.2.1 k0_h44 k0_h49
theorem k0_off266_inb : ∀ (v21 : BitVec 32) (k0_t5 : Fin (k0_t5_loop v21).trips) (v357 : BitVec 32) (v366 : BitVec 32) (k0_hw22 : k0_chk22 v21 k0_t5 v357 v366), ∀ (k0_h44 : k0_cond44 v21 k0_t5 = 1#1), ∀ (k0_h49 : k0_cond49 v366 = 1#1), ∀ a, (k0_off266 v357) a + S1x16x768.size a ≤ S256x16x768.size a := fun v21 k0_t5 v357 v366 k0_hw22 k0_h44 k0_h49 => k0_hw22.2.1.2.2.2.2.2.2.2.2.2.2.1 k0_h44 k0_h49
theorem k0_off266_wordsbf16 : ∀ (v21 : BitVec 32) (k0_t5 : Fin (k0_t5_loop v21).trips) (v357 : BitVec 32) (v366 : BitVec 32) (k0_hw22 : k0_chk22 v21 k0_t5 v357 v366), ∀ (k0_h44 : k0_cond44 v21 k0_t5 = 1#1), ∀ (k0_h49 : k0_cond49 v366 = 1#1), (Rect.unit (s := S256x16x768) (k0_off266 v357) S1x16x768.size (k0_off266_inb v21 k0_t5 v357 v366 k0_hw22 k0_h44 k0_h49)).WholeWords (EltTy.packing .bf16) := fun v21 k0_t5 v357 v366 k0_hw22 k0_h44 k0_h49 => k0_hw22.2.1.2.2.2.2.2.2.2.2.2.2.2.1 k0_h44 k0_h49 (k0_off266_inb v21 k0_t5 v357 v366 k0_hw22 k0_h44 k0_h49)
theorem k0_off265_wordsbf16 : ∀ (v21 : BitVec 32) (k0_t5 : Fin (k0_t5_loop v21).trips) (v357 : BitVec 32) (v366 : BitVec 32) (k0_hw22 : k0_chk22 v21 k0_t5 v357 v366), ∀ (k0_h44 : k0_cond44 v21 k0_t5 = 1#1), ∀ (k0_h49 : k0_cond49 v366 = 1#1), (Rect.unit (s := S4x8x16x768) (k0_off265 v21 k0_t5) S1x1x16x768.size (k0_off265_inb v21 k0_t5 v357 v366 k0_hw22 k0_h44 k0_h49)).WholeWords (EltTy.packing .bf16) := fun v21 k0_t5 v357 v366 k0_hw22 k0_h44 k0_h49 => k0_hw22.2.1.2.2.2.2.2.2.2.2.2.2.2.2.1 k0_h44 k0_h49 (k0_off265_inb v21 k0_t5 v357 v366 k0_hw22 k0_h44 k0_h49)
theorem k0_off267_inb : ∀ (v21 : BitVec 32) (k0_t5 : Fin (k0_t5_loop v21).trips) (v357 : BitVec 32) (v366 : BitVec 32) (k0_hw22 : k0_chk22 v21 k0_t5 v357 v366), ∀ (k0_h44 : k0_cond44 v21 k0_t5 = 1#1), ∀ (k0_h50 : k0_cond50 v366 = 1#1), ∀ a, (k0_off267 v21 k0_t5) a + S1.size a ≤ S4.size a := fun v21 k0_t5 v357 v366 k0_hw22 k0_h44 k0_h50 => k0_hw22.2.1.2.2.2.2.2.2.2.2.2.2.2.2.2.1 k0_h44 k0_h50
theorem k0_off268_inb : ∀ (v21 : BitVec 32) (k0_t5 : Fin (k0_t5_loop v21).trips) (v357 : BitVec 32) (v366 : BitVec 32) (k0_hw22 : k0_chk22 v21 k0_t5 v357 v366), ∀ (k0_h44 : k0_cond44 v21 k0_t5 = 1#1), ∀ (k0_h50 : k0_cond50 v366 = 1#1), ∀ a, (k0_off268 v21 k0_t5) a + S1x1x16x5120.size a ≤ S4x8x16x5120.size a := fun v21 k0_t5 v357 v366 k0_hw22 k0_h44 k0_h50 => k0_hw22.2.1.2.2.2.2.2.2.2.2.2.2.2.2.2.2.1 k0_h44 k0_h50
theorem k0_off269_inb : ∀ (v21 : BitVec 32) (k0_t5 : Fin (k0_t5_loop v21).trips) (v357 : BitVec 32) (v366 : BitVec 32) (k0_hw22 : k0_chk22 v21 k0_t5 v357 v366), ∀ (k0_h44 : k0_cond44 v21 k0_t5 = 1#1), ∀ (k0_h50 : k0_cond50 v366 = 1#1), ∀ a, (k0_off269 v357) a + S1x16x5120.size a ≤ S256x16x5120.size a := fun v21 k0_t5 v357 v366 k0_hw22 k0_h44 k0_h50 => k0_hw22.2.1.2.2.2.2.2.2.2.2.2.2.2.2.2.2.2.1 k0_h44 k0_h50
theorem k0_off269_wordsbf16 : ∀ (v21 : BitVec 32) (k0_t5 : Fin (k0_t5_loop v21).trips) (v357 : BitVec 32) (v366 : BitVec 32) (k0_hw22 : k0_chk22 v21 k0_t5 v357 v366), ∀ (k0_h44 : k0_cond44 v21 k0_t5 = 1#1), ∀ (k0_h50 : k0_cond50 v366 = 1#1), (Rect.unit (s := S256x16x5120) (k0_off269 v357) S1x16x5120.size (k0_off269_inb v21 k0_t5 v357 v366 k0_hw22 k0_h44 k0_h50)).WholeWords (EltTy.packing .bf16) := fun v21 k0_t5 v357 v366 k0_hw22 k0_h44 k0_h50 => k0_hw22.2.1.2.2.2.2.2.2.2.2.2.2.2.2.2.2.2.2.1 k0_h44 k0_h50 (k0_off269_inb v21 k0_t5 v357 v366 k0_hw22 k0_h44 k0_h50)
theorem k0_off268_wordsbf16 : ∀ (v21 : BitVec 32) (k0_t5 : Fin (k0_t5_loop v21).trips) (v357 : BitVec 32) (v366 : BitVec 32) (k0_hw22 : k0_chk22 v21 k0_t5 v357 v366), ∀ (k0_h44 : k0_cond44 v21 k0_t5 = 1#1), ∀ (k0_h50 : k0_cond50 v366 = 1#1), (Rect.unit (s := S4x8x16x5120) (k0_off268 v21 k0_t5) S1x1x16x5120.size (k0_off268_inb v21 k0_t5 v357 v366 k0_hw22 k0_h44 k0_h50)).WholeWords (EltTy.packing .bf16) := fun v21 k0_t5 v357 v366 k0_hw22 k0_h44 k0_h50 => k0_hw22.2.1.2.2.2.2.2.2.2.2.2.2.2.2.2.2.2.2.2.1 k0_h44 k0_h50 (k0_off268_inb v21 k0_t5 v357 v366 k0_hw22 k0_h44 k0_h50)
theorem k0_off270_inb : ∀ (v21 : BitVec 32) (k0_t5 : Fin (k0_t5_loop v21).trips) (v357 : BitVec 32) (v366 : BitVec 32) (k0_hw22 : k0_chk22 v21 k0_t5 v357 v366), ∀ (k0_h44 : k0_cond44 v21 k0_t5 = 1#1), ∀ (k0_h50 : k0_cond50 v366 = 1#1), ∀ a, (k0_off270 v21 k0_t5) a + S1x1x16x768.size a ≤ S4x8x16x768.size a := fun v21 k0_t5 v357 v366 k0_hw22 k0_h44 k0_h50 => k0_hw22.2.1.2.2.2.2.2.2.2.2.2.2.2.2.2.2.2.2.2.2.1 k0_h44 k0_h50
theorem k0_off271_inb : ∀ (v21 : BitVec 32) (k0_t5 : Fin (k0_t5_loop v21).trips) (v357 : BitVec 32) (v366 : BitVec 32) (k0_hw22 : k0_chk22 v21 k0_t5 v357 v366), ∀ (k0_h44 : k0_cond44 v21 k0_t5 = 1#1), ∀ (k0_h50 : k0_cond50 v366 = 1#1), ∀ a, (k0_off271 v357) a + S1x16x768.size a ≤ S256x16x768.size a := fun v21 k0_t5 v357 v366 k0_hw22 k0_h44 k0_h50 => k0_hw22.2.1.2.2.2.2.2.2.2.2.2.2.2.2.2.2.2.2.2.2.2.1 k0_h44 k0_h50
theorem k0_off271_wordsbf16 : ∀ (v21 : BitVec 32) (k0_t5 : Fin (k0_t5_loop v21).trips) (v357 : BitVec 32) (v366 : BitVec 32) (k0_hw22 : k0_chk22 v21 k0_t5 v357 v366), ∀ (k0_h44 : k0_cond44 v21 k0_t5 = 1#1), ∀ (k0_h50 : k0_cond50 v366 = 1#1), (Rect.unit (s := S256x16x768) (k0_off271 v357) S1x16x768.size (k0_off271_inb v21 k0_t5 v357 v366 k0_hw22 k0_h44 k0_h50)).WholeWords (EltTy.packing .bf16) := fun v21 k0_t5 v357 v366 k0_hw22 k0_h44 k0_h50 => k0_hw22.2.1.2.2.2.2.2.2.2.2.2.2.2.2.2.2.2.2.2.2.2.2.1 k0_h44 k0_h50 (k0_off271_inb v21 k0_t5 v357 v366 k0_hw22 k0_h44 k0_h50)
theorem k0_off270_wordsbf16 : ∀ (v21 : BitVec 32) (k0_t5 : Fin (k0_t5_loop v21).trips) (v357 : BitVec 32) (v366 : BitVec 32) (k0_hw22 : k0_chk22 v21 k0_t5 v357 v366), ∀ (k0_h44 : k0_cond44 v21 k0_t5 = 1#1), ∀ (k0_h50 : k0_cond50 v366 = 1#1), (Rect.unit (s := S4x8x16x768) (k0_off270 v21 k0_t5) S1x1x16x768.size (k0_off270_inb v21 k0_t5 v357 v366 k0_hw22 k0_h44 k0_h50)).WholeWords (EltTy.packing .bf16) := fun v21 k0_t5 v357 v366 k0_hw22 k0_h44 k0_h50 => k0_hw22.2.1.2.2.2.2.2.2.2.2.2.2.2.2.2.2.2.2.2.2.2.2.2.1 k0_h44 k0_h50 (k0_off270_inb v21 k0_t5 v357 v366 k0_hw22 k0_h44 k0_h50)
theorem k0_off272_inb : ∀ (v21 : BitVec 32) (k0_t5 : Fin (k0_t5_loop v21).trips) (v357 : BitVec 32) (v366 : BitVec 32) (k0_hw22 : k0_chk22 v21 k0_t5 v357 v366), ∀ (k0_h44 : k0_cond44 v21 k0_t5 = 1#1), ∀ (k0_h51 : k0_cond51 v366 = 1#1), ∀ a, (k0_off272 v21 k0_t5) a + S1.size a ≤ S4.size a := fun v21 k0_t5 v357 v366 k0_hw22 k0_h44 k0_h51 => k0_hw22.2.1.2.2.2.2.2.2.2.2.2.2.2.2.2.2.2.2.2.2.2.2.2.2.1 k0_h44 k0_h51
theorem k0_off273_inb : ∀ (v21 : BitVec 32) (k0_t5 : Fin (k0_t5_loop v21).trips) (v357 : BitVec 32) (v366 : BitVec 32) (k0_hw22 : k0_chk22 v21 k0_t5 v357 v366), ∀ (k0_h44 : k0_cond44 v21 k0_t5 = 1#1), ∀ (k0_h51 : k0_cond51 v366 = 1#1), ∀ a, (k0_off273 v21 k0_t5) a + S1x1x16x5120.size a ≤ S4x8x16x5120.size a := fun v21 k0_t5 v357 v366 k0_hw22 k0_h44 k0_h51 => k0_hw22.2.1.2.2.2.2.2.2.2.2.2.2.2.2.2.2.2.2.2.2.2.2.2.2.2.1 k0_h44 k0_h51
theorem k0_off274_inb : ∀ (v21 : BitVec 32) (k0_t5 : Fin (k0_t5_loop v21).trips) (v357 : BitVec 32) (v366 : BitVec 32) (k0_hw22 : k0_chk22 v21 k0_t5 v357 v366), ∀ (k0_h44 : k0_cond44 v21 k0_t5 = 1#1), ∀ (k0_h51 : k0_cond51 v366 = 1#1), ∀ a, (k0_off274 v357) a + S1x16x5120.size a ≤ S256x16x5120.size a := fun v21 k0_t5 v357 v366 k0_hw22 k0_h44 k0_h51 => k0_hw22.2.1.2.2.2.2.2.2.2.2.2.2.2.2.2.2.2.2.2.2.2.2.2.2.2.2.1 k0_h44 k0_h51
theorem k0_off274_wordsbf16 : ∀ (v21 : BitVec 32) (k0_t5 : Fin (k0_t5_loop v21).trips) (v357 : BitVec 32) (v366 : BitVec 32) (k0_hw22 : k0_chk22 v21 k0_t5 v357 v366), ∀ (k0_h44 : k0_cond44 v21 k0_t5 = 1#1), ∀ (k0_h51 : k0_cond51 v366 = 1#1), (Rect.unit (s := S256x16x5120) (k0_off274 v357) S1x16x5120.size (k0_off274_inb v21 k0_t5 v357 v366 k0_hw22 k0_h44 k0_h51)).WholeWords (EltTy.packing .bf16) := fun v21 k0_t5 v357 v366 k0_hw22 k0_h44 k0_h51 => k0_hw22.2.1.2.2.2.2.2.2.2.2.2.2.2.2.2.2.2.2.2.2.2.2.2.2.2.2.2.1 k0_h44 k0_h51 (k0_off274_inb v21 k0_t5 v357 v366 k0_hw22 k0_h44 k0_h51)
theorem k0_off273_wordsbf16 : ∀ (v21 : BitVec 32) (k0_t5 : Fin (k0_t5_loop v21).trips) (v357 : BitVec 32) (v366 : BitVec 32) (k0_hw22 : k0_chk22 v21 k0_t5 v357 v366), ∀ (k0_h44 : k0_cond44 v21 k0_t5 = 1#1), ∀ (k0_h51 : k0_cond51 v366 = 1#1), (Rect.unit (s := S4x8x16x5120) (k0_off273 v21 k0_t5) S1x1x16x5120.size (k0_off273_inb v21 k0_t5 v357 v366 k0_hw22 k0_h44 k0_h51)).WholeWords (EltTy.packing .bf16) := fun v21 k0_t5 v357 v366 k0_hw22 k0_h44 k0_h51 => k0_hw22.2.1.2.2.2.2.2.2.2.2.2.2.2.2.2.2.2.2.2.2.2.2.2.2.2.2.2.2.1 k0_h44 k0_h51 (k0_off273_inb v21 k0_t5 v357 v366 k0_hw22 k0_h44 k0_h51)
theorem k0_off275_inb : ∀ (v21 : BitVec 32) (k0_t5 : Fin (k0_t5_loop v21).trips) (v357 : BitVec 32) (v366 : BitVec 32) (k0_hw22 : k0_chk22 v21 k0_t5 v357 v366), ∀ (k0_h44 : k0_cond44 v21 k0_t5 = 1#1), ∀ (k0_h51 : k0_cond51 v366 = 1#1), ∀ a, (k0_off275 v21 k0_t5) a + S1x1x16x768.size a ≤ S4x8x16x768.size a := fun v21 k0_t5 v357 v366 k0_hw22 k0_h44 k0_h51 => k0_hw22.2.1.2.2.2.2.2.2.2.2.2.2.2.2.2.2.2.2.2.2.2.2.2.2.2.2.2.2.2.1 k0_h44 k0_h51
theorem k0_off276_inb : ∀ (v21 : BitVec 32) (k0_t5 : Fin (k0_t5_loop v21).trips) (v357 : BitVec 32) (v366 : BitVec 32) (k0_hw22 : k0_chk22 v21 k0_t5 v357 v366), ∀ (k0_h44 : k0_cond44 v21 k0_t5 = 1#1), ∀ (k0_h51 : k0_cond51 v366 = 1#1), ∀ a, (k0_off276 v357) a + S1x16x768.size a ≤ S256x16x768.size a := fun v21 k0_t5 v357 v366 k0_hw22 k0_h44 k0_h51 => k0_hw22.2.1.2.2.2.2.2.2.2.2.2.2.2.2.2.2.2.2.2.2.2.2.2.2.2.2.2.2.2.2.1 k0_h44 k0_h51
theorem k0_off276_wordsbf16 : ∀ (v21 : BitVec 32) (k0_t5 : Fin (k0_t5_loop v21).trips) (v357 : BitVec 32) (v366 : BitVec 32) (k0_hw22 : k0_chk22 v21 k0_t5 v357 v366), ∀ (k0_h44 : k0_cond44 v21 k0_t5 = 1#1), ∀ (k0_h51 : k0_cond51 v366 = 1#1), (Rect.unit (s := S256x16x768) (k0_off276 v357) S1x16x768.size (k0_off276_inb v21 k0_t5 v357 v366 k0_hw22 k0_h44 k0_h51)).WholeWords (EltTy.packing .bf16) := fun v21 k0_t5 v357 v366 k0_hw22 k0_h44 k0_h51 => k0_hw22.2.1.2.2.2.2.2.2.2.2.2.2.2.2.2.2.2.2.2.2.2.2.2.2.2.2.2.2.2.2.2.1 k0_h44 k0_h51 (k0_off276_inb v21 k0_t5 v357 v366 k0_hw22 k0_h44 k0_h51)
theorem k0_off275_wordsbf16 : ∀ (v21 : BitVec 32) (k0_t5 : Fin (k0_t5_loop v21).trips) (v357 : BitVec 32) (v366 : BitVec 32) (k0_hw22 : k0_chk22 v21 k0_t5 v357 v366), ∀ (k0_h44 : k0_cond44 v21 k0_t5 = 1#1), ∀ (k0_h51 : k0_cond51 v366 = 1#1), (Rect.unit (s := S4x8x16x768) (k0_off275 v21 k0_t5) S1x1x16x768.size (k0_off275_inb v21 k0_t5 v357 v366 k0_hw22 k0_h44 k0_h51)).WholeWords (EltTy.packing .bf16) := fun v21 k0_t5 v357 v366 k0_hw22 k0_h44 k0_h51 => k0_hw22.2.1.2.2.2.2.2.2.2.2.2.2.2.2.2.2.2.2.2.2.2.2.2.2.2.2.2.2.2.2.2.2.1 k0_h44 k0_h51 (k0_off275_inb v21 k0_t5 v357 v366 k0_hw22 k0_h44 k0_h51)
theorem k0_off277_inb : ∀ (v21 : BitVec 32) (k0_t5 : Fin (k0_t5_loop v21).trips) (v357 : BitVec 32) (v366 : BitVec 32) (k0_hw22 : k0_chk22 v21 k0_t5 v357 v366), ∀ (k0_h44 : k0_cond44 v21 k0_t5 = 1#1), ∀ (k0_h52 : k0_cond52 v366 = 1#1), ∀ a, (k0_off277 v21 k0_t5) a + S1.size a ≤ S4.size a := fun v21 k0_t5 v357 v366 k0_hw22 k0_h44 k0_h52 => k0_hw22.2.1.2.2.2.2.2.2.2.2.2.2.2.2.2.2.2.2.2.2.2.2.2.2.2.2.2.2.2.2.2.2.2 k0_h44 k0_h52
theorem k0_off278_inb : ∀ (v21 : BitVec 32) (k0_t5 : Fin (k0_t5_loop v21).trips) (v357 : BitVec 32) (v366 : BitVec 32) (k0_hw22 : k0_chk22 v21 k0_t5 v357 v366), ∀ (k0_h44 : k0_cond44 v21 k0_t5 = 1#1), ∀ (k0_h52 : k0_cond52 v366 = 1#1), ∀ a, (k0_off278 v21 k0_t5) a + S1x1x16x5120.size a ≤ S4x8x16x5120.size a := fun v21 k0_t5 v357 v366 k0_hw22 k0_h44 k0_h52 => k0_hw22.2.2.1 k0_h44 k0_h52
theorem k0_off279_inb : ∀ (v21 : BitVec 32) (k0_t5 : Fin (k0_t5_loop v21).trips) (v357 : BitVec 32) (v366 : BitVec 32) (k0_hw22 : k0_chk22 v21 k0_t5 v357 v366), ∀ (k0_h44 : k0_cond44 v21 k0_t5 = 1#1), ∀ (k0_h52 : k0_cond52 v366 = 1#1), ∀ a, (k0_off279 v357) a + S1x16x5120.size a ≤ S256x16x5120.size a := fun v21 k0_t5 v357 v366 k0_hw22 k0_h44 k0_h52 => k0_hw22.2.2.2.1 k0_h44 k0_h52
theorem k0_off279_wordsbf16 : ∀ (v21 : BitVec 32) (k0_t5 : Fin (k0_t5_loop v21).trips) (v357 : BitVec 32) (v366 : BitVec 32) (k0_hw22 : k0_chk22 v21 k0_t5 v357 v366), ∀ (k0_h44 : k0_cond44 v21 k0_t5 = 1#1), ∀ (k0_h52 : k0_cond52 v366 = 1#1), (Rect.unit (s := S256x16x5120) (k0_off279 v357) S1x16x5120.size (k0_off279_inb v21 k0_t5 v357 v366 k0_hw22 k0_h44 k0_h52)).WholeWords (EltTy.packing .bf16) := fun v21 k0_t5 v357 v366 k0_hw22 k0_h44 k0_h52 => k0_hw22.2.2.2.2.1 k0_h44 k0_h52 (k0_off279_inb v21 k0_t5 v357 v366 k0_hw22 k0_h44 k0_h52)
theorem k0_off278_wordsbf16 : ∀ (v21 : BitVec 32) (k0_t5 : Fin (k0_t5_loop v21).trips) (v357 : BitVec 32) (v366 : BitVec 32) (k0_hw22 : k0_chk22 v21 k0_t5 v357 v366), ∀ (k0_h44 : k0_cond44 v21 k0_t5 = 1#1), ∀ (k0_h52 : k0_cond52 v366 = 1#1), (Rect.unit (s := S4x8x16x5120) (k0_off278 v21 k0_t5) S1x1x16x5120.size (k0_off278_inb v21 k0_t5 v357 v366 k0_hw22 k0_h44 k0_h52)).WholeWords (EltTy.packing .bf16) := fun v21 k0_t5 v357 v366 k0_hw22 k0_h44 k0_h52 => k0_hw22.2.2.2.2.2.1 k0_h44 k0_h52 (k0_off278_inb v21 k0_t5 v357 v366 k0_hw22 k0_h44 k0_h52)
theorem k0_off280_inb : ∀ (v21 : BitVec 32) (k0_t5 : Fin (k0_t5_loop v21).trips) (v357 : BitVec 32) (v366 : BitVec 32) (k0_hw22 : k0_chk22 v21 k0_t5 v357 v366), ∀ (k0_h44 : k0_cond44 v21 k0_t5 = 1#1), ∀ (k0_h52 : k0_cond52 v366 = 1#1), ∀ a, (k0_off280 v21 k0_t5) a + S1x1x16x768.size a ≤ S4x8x16x768.size a := fun v21 k0_t5 v357 v366 k0_hw22 k0_h44 k0_h52 => k0_hw22.2.2.2.2.2.2.1 k0_h44 k0_h52
theorem k0_off281_inb : ∀ (v21 : BitVec 32) (k0_t5 : Fin (k0_t5_loop v21).trips) (v357 : BitVec 32) (v366 : BitVec 32) (k0_hw22 : k0_chk22 v21 k0_t5 v357 v366), ∀ (k0_h44 : k0_cond44 v21 k0_t5 = 1#1), ∀ (k0_h52 : k0_cond52 v366 = 1#1), ∀ a, (k0_off281 v357) a + S1x16x768.size a ≤ S256x16x768.size a := fun v21 k0_t5 v357 v366 k0_hw22 k0_h44 k0_h52 => k0_hw22.2.2.2.2.2.2.2.1 k0_h44 k0_h52
theorem k0_off281_wordsbf16 : ∀ (v21 : BitVec 32) (k0_t5 : Fin (k0_t5_loop v21).trips) (v357 : BitVec 32) (v366 : BitVec 32) (k0_hw22 : k0_chk22 v21 k0_t5 v357 v366), ∀ (k0_h44 : k0_cond44 v21 k0_t5 = 1#1), ∀ (k0_h52 : k0_cond52 v366 = 1#1), (Rect.unit (s := S256x16x768) (k0_off281 v357) S1x16x768.size (k0_off281_inb v21 k0_t5 v357 v366 k0_hw22 k0_h44 k0_h52)).WholeWords (EltTy.packing .bf16) := fun v21 k0_t5 v357 v366 k0_hw22 k0_h44 k0_h52 => k0_hw22.2.2.2.2.2.2.2.2.1 k0_h44 k0_h52 (k0_off281_inb v21 k0_t5 v357 v366 k0_hw22 k0_h44 k0_h52)
theorem k0_off280_wordsbf16 : ∀ (v21 : BitVec 32) (k0_t5 : Fin (k0_t5_loop v21).trips) (v357 : BitVec 32) (v366 : BitVec 32) (k0_hw22 : k0_chk22 v21 k0_t5 v357 v366), ∀ (k0_h44 : k0_cond44 v21 k0_t5 = 1#1), ∀ (k0_h52 : k0_cond52 v366 = 1#1), (Rect.unit (s := S4x8x16x768) (k0_off280 v21 k0_t5) S1x1x16x768.size (k0_off280_inb v21 k0_t5 v357 v366 k0_hw22 k0_h44 k0_h52)).WholeWords (EltTy.packing .bf16) := fun v21 k0_t5 v357 v366 k0_hw22 k0_h44 k0_h52 => k0_hw22.2.2.2.2.2.2.2.2.2 k0_h44 k0_h52 (k0_off280_inb v21 k0_t5 v357 v366 k0_hw22 k0_h44 k0_h52)

def k0_off282 (v21 : BitVec 32) (k0_t5 : Fin (k0_t5_loop v21).trips) : Fin 1 → Nat :=
  let c0_i32_94 : BitVec 32 := 0#32
  let v167 : BitVec 32 := Scalar.subi v21 c0_i32_94
  let c1_i32_96 : BitVec 32 := 1#32
  let v169 : BitVec 32 := Scalar.divsi v167 c1_i32_96
  let v170 : BitVec 32 := Scalar.muli v169 c1_i32_96
  let v171 : BitVec 32 := Scalar.addi c0_i32_94 v170
  let c1_i32_98 : BitVec 32 := 1#32
  let arg27 : BitVec 32 := Scf.iv v171 c1_i32_98 k0_t5
  let c4_i32_200 : BitVec 32 := 4#32
  let v354 : BitVec 32 := Scalar.addi arg27 c4_i32_200
  let c1_i32_201 : BitVec 32 := 1#32
  let v355 : BitVec 32 := Scalar.subi v354 c1_i32_201
  let c4_i32_202 : BitVec 32 := 4#32
  let v358 : BitVec 32 := Scalar.remsi v355 c4_i32_202
  ![v358.toNat]
def k0_off283 (v21 : BitVec 32) (k0_t5 : Fin (k0_t5_loop v21).trips) : Fin 3 → Nat :=
  let c0_i32_94 : BitVec 32 := 0#32
  let v167 : BitVec 32 := Scalar.subi v21 c0_i32_94
  let c1_i32_96 : BitVec 32 := 1#32
  let v169 : BitVec 32 := Scalar.divsi v167 c1_i32_96
  let v170 : BitVec 32 := Scalar.muli v169 c1_i32_96
  let v171 : BitVec 32 := Scalar.addi c0_i32_94 v170
  let c1_i32_98 : BitVec 32 := 1#32
  let arg27 : BitVec 32 := Scf.iv v171 c1_i32_98 k0_t5
  let c4_i32_200 : BitVec 32 := 4#32
  let v354 : BitVec 32 := Scalar.addi arg27 c4_i32_200
  let c1_i32_201 : BitVec 32 := 1#32
  let v355 : BitVec 32 := Scalar.subi v354 c1_i32_201
  let c4_i32_202 : BitVec 32 := 4#32
  let v358 : BitVec 32 := Scalar.remsi v355 c4_i32_202
  let c0_i32_239 : BitVec 32 := 0#32
  let c0_i32_240 : BitVec 32 := 0#32
  ![v358.toNat, 0, 0]
def k0_off284 (v357 : BitVec 32) : Fin 3 → Nat :=
  let c0_i32_241 : BitVec 32 := 0#32
  let c0_i32_242 : BitVec 32 := 0#32
  ![v357.toNat, 0, 0]

def k0_chk21 (v21 : BitVec 32) (k0_t5 : Fin (k0_t5_loop v21).trips) (v357 : BitVec 32) : Prop :=
  (∀ (k0_h44 : k0_cond44 v21 k0_t5 = 1#1), ∀ a, (k0_off240 v357) a + S1x5120x768.size a ≤ S32x5120x768.size a) ∧
  (∀ (k0_h44 : k0_cond44 v21 k0_t5 = 1#1), ∀ (hinb : ∀ a, (k0_off240 v357) a + S1x5120x768.size a ≤ S32x5120x768.size a), (Rect.unit (s := S32x5120x768) (k0_off240 v357) S1x5120x768.size hinb).WholeWords (EltTy.packing .fp8e4m3)) ∧
  (∀ (k0_h44 : k0_cond44 v21 k0_t5 = 1#1), ∀ a, (k0_off241 v357) a + S1.size a ≤ S32.size a) ∧
  (∀ (k0_h44 : k0_cond44 v21 k0_t5 = 1#1), ∀ a, (k0_off284 v357) a + S1x768x5120.size a ≤ S32x768x5120.size a) ∧
  (∀ (k0_h44 : k0_cond44 v21 k0_t5 = 1#1), ∀ (hinb : ∀ a, (k0_off284 v357) a + S1x768x5120.size a ≤ S32x768x5120.size a), (Rect.unit (s := S32x768x5120) (k0_off284 v357) S1x768x5120.size hinb).WholeWords (EltTy.packing .fp8e4m3))
theorem k0_off240_inb : ∀ (v21 : BitVec 32) (k0_t5 : Fin (k0_t5_loop v21).trips) (v357 : BitVec 32) (k0_hw21 : k0_chk21 v21 k0_t5 v357), ∀ (k0_h44 : k0_cond44 v21 k0_t5 = 1#1), ∀ a, (k0_off240 v357) a + S1x5120x768.size a ≤ S32x5120x768.size a := fun v21 k0_t5 v357 k0_hw21 k0_h44 => k0_hw21.1 k0_h44
theorem k0_off240_wordsfp8e4m3 : ∀ (v21 : BitVec 32) (k0_t5 : Fin (k0_t5_loop v21).trips) (v357 : BitVec 32) (k0_hw21 : k0_chk21 v21 k0_t5 v357), ∀ (k0_h44 : k0_cond44 v21 k0_t5 = 1#1), (Rect.unit (s := S32x5120x768) (k0_off240 v357) S1x5120x768.size (k0_off240_inb v21 k0_t5 v357 k0_hw21 k0_h44)).WholeWords (EltTy.packing .fp8e4m3) := fun v21 k0_t5 v357 k0_hw21 k0_h44 => k0_hw21.2.1 k0_h44 (k0_off240_inb v21 k0_t5 v357 k0_hw21 k0_h44)
theorem k0_off241_inb : ∀ (v21 : BitVec 32) (k0_t5 : Fin (k0_t5_loop v21).trips) (v357 : BitVec 32) (k0_hw21 : k0_chk21 v21 k0_t5 v357), ∀ (k0_h44 : k0_cond44 v21 k0_t5 = 1#1), ∀ a, (k0_off241 v357) a + S1.size a ≤ S32.size a := fun v21 k0_t5 v357 k0_hw21 k0_h44 => k0_hw21.2.2.1 k0_h44
theorem k0_off284_inb : ∀ (v21 : BitVec 32) (k0_t5 : Fin (k0_t5_loop v21).trips) (v357 : BitVec 32) (k0_hw21 : k0_chk21 v21 k0_t5 v357), ∀ (k0_h44 : k0_cond44 v21 k0_t5 = 1#1), ∀ a, (k0_off284 v357) a + S1x768x5120.size a ≤ S32x768x5120.size a := fun v21 k0_t5 v357 k0_hw21 k0_h44 => k0_hw21.2.2.2.1 k0_h44
theorem k0_off284_wordsfp8e4m3 : ∀ (v21 : BitVec 32) (k0_t5 : Fin (k0_t5_loop v21).trips) (v357 : BitVec 32) (k0_hw21 : k0_chk21 v21 k0_t5 v357), ∀ (k0_h44 : k0_cond44 v21 k0_t5 = 1#1), (Rect.unit (s := S32x768x5120) (k0_off284 v357) S1x768x5120.size (k0_off284_inb v21 k0_t5 v357 k0_hw21 k0_h44)).WholeWords (EltTy.packing .fp8e4m3) := fun v21 k0_t5 v357 k0_hw21 k0_h44 => k0_hw21.2.2.2.2 k0_h44 (k0_off284_inb v21 k0_t5 v357 k0_hw21 k0_h44)

def k0_off285 (v21 : BitVec 32) (k0_t5 : Fin (k0_t5_loop v21).trips) : Fin 1 → Nat :=
  let c0_i32_94 : BitVec 32 := 0#32
  let v167 : BitVec 32 := Scalar.subi v21 c0_i32_94
  let c1_i32_96 : BitVec 32 := 1#32
  let v169 : BitVec 32 := Scalar.divsi v167 c1_i32_96
  let v170 : BitVec 32 := Scalar.muli v169 c1_i32_96
  let v171 : BitVec 32 := Scalar.addi c0_i32_94 v170
  let c1_i32_98 : BitVec 32 := 1#32
  let arg27 : BitVec 32 := Scf.iv v171 c1_i32_98 k0_t5
  let c4_i32_103 : BitVec 32 := 4#32
  let v179 : BitVec 32 := Scalar.remsi arg27 c4_i32_103
  ![v179.toNat]
def k0_off286 (v21 : BitVec 32) (k0_t5 : Fin (k0_t5_loop v21).trips) : Fin 3 → Nat :=
  let c0_i32_94 : BitVec 32 := 0#32
  let v167 : BitVec 32 := Scalar.subi v21 c0_i32_94
  let c1_i32_96 : BitVec 32 := 1#32
  let v169 : BitVec 32 := Scalar.divsi v167 c1_i32_96
  let v170 : BitVec 32 := Scalar.muli v169 c1_i32_96
  let v171 : BitVec 32 := Scalar.addi c0_i32_94 v170
  let c1_i32_98 : BitVec 32 := 1#32
  let arg27 : BitVec 32 := Scf.iv v171 c1_i32_98 k0_t5
  let c4_i32_103 : BitVec 32 := 4#32
  let v179 : BitVec 32 := Scalar.remsi arg27 c4_i32_103
  let c0_i32_115 : BitVec 32 := 0#32
  let c0_i32_116 : BitVec 32 := 0#32
  ![v179.toNat, 0, 0]
def k0_off287 (v178 : BitVec 32) : Fin 3 → Nat :=
  let c0_i32_117 : BitVec 32 := 0#32
  let c0_i32_118 : BitVec 32 := 0#32
  ![v178.toNat, 0, 0]

def k0_off288 (v21 : BitVec 32) (k0_t5 : Fin (k0_t5_loop v21).trips) : Fin 3 → Nat :=
  let c0_i32_94 : BitVec 32 := 0#32
  let v167 : BitVec 32 := Scalar.subi v21 c0_i32_94
  let c1_i32_96 : BitVec 32 := 1#32
  let v169 : BitVec 32 := Scalar.divsi v167 c1_i32_96
  let v170 : BitVec 32 := Scalar.muli v169 c1_i32_96
  let v171 : BitVec 32 := Scalar.addi c0_i32_94 v170
  let c1_i32_98 : BitVec 32 := 1#32
  let arg27 : BitVec 32 := Scf.iv v171 c1_i32_98 k0_t5
  let c4_i32_103 : BitVec 32 := 4#32
  let v179 : BitVec 32 := Scalar.remsi arg27 c4_i32_103
  let v206 : Index := Scalar.indexCast v179
  let c0_121 : Index := 0#32
  let c0_122 : Index := 0#32
  ![v206.toNat, 0, 0]
def k0_off289 (v178 : BitVec 32) : Fin 2 → Nat :=
  let v212 : Index := Scalar.indexCast v178
  let c0_124 : Index := 0#32
  ![v212.toNat, 0]
def k0_off290 (v178 : BitVec 32) : Fin 1 → Nat :=
  let v216 : Index := Scalar.indexCast v178
  ![v216.toNat]
def k0_off291 (v21 : BitVec 32) (k0_t5 : Fin (k0_t5_loop v21).trips) : Fin 1 → Nat :=
  let c0_i32_94 : BitVec 32 := 0#32
  let v167 : BitVec 32 := Scalar.subi v21 c0_i32_94
  let c1_i32_96 : BitVec 32 := 1#32
  let v169 : BitVec 32 := Scalar.divsi v167 c1_i32_96
  let v170 : BitVec 32 := Scalar.muli v169 c1_i32_96
  let v171 : BitVec 32 := Scalar.addi c0_i32_94 v170
  let c1_i32_98 : BitVec 32 := 1#32
  let arg27 : BitVec 32 := Scf.iv v171 c1_i32_98 k0_t5
  let c4_i32_103 : BitVec 32 := 4#32
  let v179 : BitVec 32 := Scalar.remsi arg27 c4_i32_103
  ![v179.toNat]
def k0_cond53 (v217 : BitVec 32) : BitVec 1 :=
  let c1_i32_125 : BitVec 32 := 1#32
  let v218 : BitVec 32 := Scalar.shrsi v217 c1_i32_125
  let c1_i32_126 : BitVec 32 := 1#32
  let v219 : BitVec 32 := Scalar.andi v218 c1_i32_126
  let c1_i32_127 : BitVec 32 := 1#32
  let v220 : BitVec 1 := Scalar.cmpi .eq v219 c1_i32_127
  let v221 : BitVec 32 := Scalar.extui v220
  let c0_i32_128 : BitVec 32 := 0#32
  let v222 : BitVec 1 := Scalar.cmpi .ne v221 c0_i32_128
  v222

def k0_off292 (v21 : BitVec 32) (k0_t5 : Fin (k0_t5_loop v21).trips) : Fin 4 → Nat :=
  let c0_i32_94 : BitVec 32 := 0#32
  let v167 : BitVec 32 := Scalar.subi v21 c0_i32_94
  let c1_i32_96 : BitVec 32 := 1#32
  let v169 : BitVec 32 := Scalar.divsi v167 c1_i32_96
  let v170 : BitVec 32 := Scalar.muli v169 c1_i32_96
  let v171 : BitVec 32 := Scalar.addi c0_i32_94 v170
  let c1_i32_98 : BitVec 32 := 1#32
  let arg27 : BitVec 32 := Scf.iv v171 c1_i32_98 k0_t5
  let c4_i32_103 : BitVec 32 := 4#32
  let v179 : BitVec 32 := Scalar.remsi arg27 c4_i32_103
  let c0_i32_202 : BitVec 32 := 0#32
  let c0_i32_203 : BitVec 32 := 0#32
  let c0_i32_204 : BitVec 32 := 0#32
  ![v179.toNat, 0, 0, 0]
def k0_off293 (v178 : BitVec 32) : Fin 3 → Nat :=
  let c8_i32_200 : BitVec 32 := 8#32
  let v354 : BitVec 32 := Scalar.muli v178 c8_i32_200
  let c0_i32_201 : BitVec 32 := 0#32
  let v355 : BitVec 32 := Scalar.addi v354 c0_i32_201
  let c0_i32_205 : BitVec 32 := 0#32
  let c0_i32_206 : BitVec 32 := 0#32
  ![v355.toNat, 0, 0]
def k0_off294 (v21 : BitVec 32) (k0_t5 : Fin (k0_t5_loop v21).trips) : Fin 4 → Nat :=
  let c0_i32_94 : BitVec 32 := 0#32
  let v167 : BitVec 32 := Scalar.subi v21 c0_i32_94
  let c1_i32_96 : BitVec 32 := 1#32
  let v169 : BitVec 32 := Scalar.divsi v167 c1_i32_96
  let v170 : BitVec 32 := Scalar.muli v169 c1_i32_96
  let v171 : BitVec 32 := Scalar.addi c0_i32_94 v170
  let c1_i32_98 : BitVec 32 := 1#32
  let arg27 : BitVec 32 := Scf.iv v171 c1_i32_98 k0_t5
  let c4_i32_103 : BitVec 32 := 4#32
  let v179 : BitVec 32 := Scalar.remsi arg27 c4_i32_103
  let c0_i32_207 : BitVec 32 := 0#32
  let c0_i32_208 : BitVec 32 := 0#32
  let c0_i32_209 : BitVec 32 := 0#32
  ![v179.toNat, 0, 0, 0]
def k0_off295 (v178 : BitVec 32) : Fin 3 → Nat :=
  let c8_i32_200 : BitVec 32 := 8#32
  let v354 : BitVec 32 := Scalar.muli v178 c8_i32_200
  let c0_i32_201 : BitVec 32 := 0#32
  let v355 : BitVec 32 := Scalar.addi v354 c0_i32_201
  let c0_i32_210 : BitVec 32 := 0#32
  let c0_i32_211 : BitVec 32 := 0#32
  ![v355.toNat, 0, 0]
def k0_off296 (v21 : BitVec 32) (k0_t5 : Fin (k0_t5_loop v21).trips) : Fin 1 → Nat :=
  let c0_i32_94 : BitVec 32 := 0#32
  let v167 : BitVec 32 := Scalar.subi v21 c0_i32_94
  let c1_i32_96 : BitVec 32 := 1#32
  let v169 : BitVec 32 := Scalar.divsi v167 c1_i32_96
  let v170 : BitVec 32 := Scalar.muli v169 c1_i32_96
  let v171 : BitVec 32 := Scalar.addi c0_i32_94 v170
  let c1_i32_98 : BitVec 32 := 1#32
  let arg27 : BitVec 32 := Scf.iv v171 c1_i32_98 k0_t5
  let c4_i32_103 : BitVec 32 := 4#32
  let v179 : BitVec 32 := Scalar.remsi arg27 c4_i32_103
  ![v179.toNat]
def k0_cond54 (v217 : BitVec 32) : BitVec 1 :=
  let c2_i32_129 : BitVec 32 := 2#32
  let v223 : BitVec 32 := Scalar.shrsi v217 c2_i32_129
  let c1_i32_130 : BitVec 32 := 1#32
  let v224 : BitVec 32 := Scalar.andi v223 c1_i32_130
  let c1_i32_131 : BitVec 32 := 1#32
  let v225 : BitVec 1 := Scalar.cmpi .eq v224 c1_i32_131
  let v226 : BitVec 32 := Scalar.extui v225
  let c0_i32_132 : BitVec 32 := 0#32
  let v227 : BitVec 1 := Scalar.cmpi .ne v226 c0_i32_132
  v227

def k0_off297 (v21 : BitVec 32) (k0_t5 : Fin (k0_t5_loop v21).trips) : Fin 4 → Nat :=
  let c0_i32_94 : BitVec 32 := 0#32
  let v167 : BitVec 32 := Scalar.subi v21 c0_i32_94
  let c1_i32_96 : BitVec 32 := 1#32
  let v169 : BitVec 32 := Scalar.divsi v167 c1_i32_96
  let v170 : BitVec 32 := Scalar.muli v169 c1_i32_96
  let v171 : BitVec 32 := Scalar.addi c0_i32_94 v170
  let c1_i32_98 : BitVec 32 := 1#32
  let arg27 : BitVec 32 := Scf.iv v171 c1_i32_98 k0_t5
  let c4_i32_103 : BitVec 32 := 4#32
  let v179 : BitVec 32 := Scalar.remsi arg27 c4_i32_103
  let c1_i32_202 : BitVec 32 := 1#32
  let c0_i32_203 : BitVec 32 := 0#32
  let c0_i32_204 : BitVec 32 := 0#32
  ![v179.toNat, 1, 0, 0]
def k0_off298 (v178 : BitVec 32) : Fin 3 → Nat :=
  let c8_i32_200 : BitVec 32 := 8#32
  let v354 : BitVec 32 := Scalar.muli v178 c8_i32_200
  let c1_i32_201 : BitVec 32 := 1#32
  let v355 : BitVec 32 := Scalar.addi v354 c1_i32_201
  let c0_i32_205 : BitVec 32 := 0#32
  let c0_i32_206 : BitVec 32 := 0#32
  ![v355.toNat, 0, 0]
def k0_off299 (v21 : BitVec 32) (k0_t5 : Fin (k0_t5_loop v21).trips) : Fin 4 → Nat :=
  let c0_i32_94 : BitVec 32 := 0#32
  let v167 : BitVec 32 := Scalar.subi v21 c0_i32_94
  let c1_i32_96 : BitVec 32 := 1#32
  let v169 : BitVec 32 := Scalar.divsi v167 c1_i32_96
  let v170 : BitVec 32 := Scalar.muli v169 c1_i32_96
  let v171 : BitVec 32 := Scalar.addi c0_i32_94 v170
  let c1_i32_98 : BitVec 32 := 1#32
  let arg27 : BitVec 32 := Scf.iv v171 c1_i32_98 k0_t5
  let c4_i32_103 : BitVec 32 := 4#32
  let v179 : BitVec 32 := Scalar.remsi arg27 c4_i32_103
  let c1_i32_207 : BitVec 32 := 1#32
  let c0_i32_208 : BitVec 32 := 0#32
  let c0_i32_209 : BitVec 32 := 0#32
  ![v179.toNat, 1, 0, 0]
def k0_off300 (v178 : BitVec 32) : Fin 3 → Nat :=
  let c8_i32_200 : BitVec 32 := 8#32
  let v354 : BitVec 32 := Scalar.muli v178 c8_i32_200
  let c1_i32_201 : BitVec 32 := 1#32
  let v355 : BitVec 32 := Scalar.addi v354 c1_i32_201
  let c0_i32_210 : BitVec 32 := 0#32
  let c0_i32_211 : BitVec 32 := 0#32
  ![v355.toNat, 0, 0]
def k0_off301 (v21 : BitVec 32) (k0_t5 : Fin (k0_t5_loop v21).trips) : Fin 1 → Nat :=
  let c0_i32_94 : BitVec 32 := 0#32
  let v167 : BitVec 32 := Scalar.subi v21 c0_i32_94
  let c1_i32_96 : BitVec 32 := 1#32
  let v169 : BitVec 32 := Scalar.divsi v167 c1_i32_96
  let v170 : BitVec 32 := Scalar.muli v169 c1_i32_96
  let v171 : BitVec 32 := Scalar.addi c0_i32_94 v170
  let c1_i32_98 : BitVec 32 := 1#32
  let arg27 : BitVec 32 := Scf.iv v171 c1_i32_98 k0_t5
  let c4_i32_103 : BitVec 32 := 4#32
  let v179 : BitVec 32 := Scalar.remsi arg27 c4_i32_103
  ![v179.toNat]
def k0_cond55 (v217 : BitVec 32) : BitVec 1 :=
  let c3_i32_133 : BitVec 32 := 3#32
  let v228 : BitVec 32 := Scalar.shrsi v217 c3_i32_133
  let c1_i32_134 : BitVec 32 := 1#32
  let v229 : BitVec 32 := Scalar.andi v228 c1_i32_134
  let c1_i32_135 : BitVec 32 := 1#32
  let v230 : BitVec 1 := Scalar.cmpi .eq v229 c1_i32_135
  let v231 : BitVec 32 := Scalar.extui v230
  let c0_i32_136 : BitVec 32 := 0#32
  let v232 : BitVec 1 := Scalar.cmpi .ne v231 c0_i32_136
  v232

def k0_off302 (v21 : BitVec 32) (k0_t5 : Fin (k0_t5_loop v21).trips) : Fin 4 → Nat :=
  let c0_i32_94 : BitVec 32 := 0#32
  let v167 : BitVec 32 := Scalar.subi v21 c0_i32_94
  let c1_i32_96 : BitVec 32 := 1#32
  let v169 : BitVec 32 := Scalar.divsi v167 c1_i32_96
  let v170 : BitVec 32 := Scalar.muli v169 c1_i32_96
  let v171 : BitVec 32 := Scalar.addi c0_i32_94 v170
  let c1_i32_98 : BitVec 32 := 1#32
  let arg27 : BitVec 32 := Scf.iv v171 c1_i32_98 k0_t5
  let c4_i32_103 : BitVec 32 := 4#32
  let v179 : BitVec 32 := Scalar.remsi arg27 c4_i32_103
  let c2_i32_202 : BitVec 32 := 2#32
  let c0_i32_203 : BitVec 32 := 0#32
  let c0_i32_204 : BitVec 32 := 0#32
  ![v179.toNat, 2, 0, 0]
def k0_off303 (v178 : BitVec 32) : Fin 3 → Nat :=
  let c8_i32_200 : BitVec 32 := 8#32
  let v354 : BitVec 32 := Scalar.muli v178 c8_i32_200
  let c2_i32_201 : BitVec 32 := 2#32
  let v355 : BitVec 32 := Scalar.addi v354 c2_i32_201
  let c0_i32_205 : BitVec 32 := 0#32
  let c0_i32_206 : BitVec 32 := 0#32
  ![v355.toNat, 0, 0]
def k0_off304 (v21 : BitVec 32) (k0_t5 : Fin (k0_t5_loop v21).trips) : Fin 4 → Nat :=
  let c0_i32_94 : BitVec 32 := 0#32
  let v167 : BitVec 32 := Scalar.subi v21 c0_i32_94
  let c1_i32_96 : BitVec 32 := 1#32
  let v169 : BitVec 32 := Scalar.divsi v167 c1_i32_96
  let v170 : BitVec 32 := Scalar.muli v169 c1_i32_96
  let v171 : BitVec 32 := Scalar.addi c0_i32_94 v170
  let c1_i32_98 : BitVec 32 := 1#32
  let arg27 : BitVec 32 := Scf.iv v171 c1_i32_98 k0_t5
  let c4_i32_103 : BitVec 32 := 4#32
  let v179 : BitVec 32 := Scalar.remsi arg27 c4_i32_103
  let c2_i32_207 : BitVec 32 := 2#32
  let c0_i32_208 : BitVec 32 := 0#32
  let c0_i32_209 : BitVec 32 := 0#32
  ![v179.toNat, 2, 0, 0]
def k0_off305 (v178 : BitVec 32) : Fin 3 → Nat :=
  let c8_i32_200 : BitVec 32 := 8#32
  let v354 : BitVec 32 := Scalar.muli v178 c8_i32_200
  let c2_i32_201 : BitVec 32 := 2#32
  let v355 : BitVec 32 := Scalar.addi v354 c2_i32_201
  let c0_i32_210 : BitVec 32 := 0#32
  let c0_i32_211 : BitVec 32 := 0#32
  ![v355.toNat, 0, 0]
def k0_off306 (v21 : BitVec 32) (k0_t5 : Fin (k0_t5_loop v21).trips) : Fin 1 → Nat :=
  let c0_i32_94 : BitVec 32 := 0#32
  let v167 : BitVec 32 := Scalar.subi v21 c0_i32_94
  let c1_i32_96 : BitVec 32 := 1#32
  let v169 : BitVec 32 := Scalar.divsi v167 c1_i32_96
  let v170 : BitVec 32 := Scalar.muli v169 c1_i32_96
  let v171 : BitVec 32 := Scalar.addi c0_i32_94 v170
  let c1_i32_98 : BitVec 32 := 1#32
  let arg27 : BitVec 32 := Scf.iv v171 c1_i32_98 k0_t5
  let c4_i32_103 : BitVec 32 := 4#32
  let v179 : BitVec 32 := Scalar.remsi arg27 c4_i32_103
  ![v179.toNat]
def k0_cond56 (v217 : BitVec 32) : BitVec 1 :=
  let c4_i32_137 : BitVec 32 := 4#32
  let v233 : BitVec 32 := Scalar.shrsi v217 c4_i32_137
  let c1_i32_138 : BitVec 32 := 1#32
  let v234 : BitVec 32 := Scalar.andi v233 c1_i32_138
  let c1_i32_139 : BitVec 32 := 1#32
  let v235 : BitVec 1 := Scalar.cmpi .eq v234 c1_i32_139
  let v236 : BitVec 32 := Scalar.extui v235
  let c0_i32_140 : BitVec 32 := 0#32
  let v237 : BitVec 1 := Scalar.cmpi .ne v236 c0_i32_140
  v237

def k0_off307 (v21 : BitVec 32) (k0_t5 : Fin (k0_t5_loop v21).trips) : Fin 4 → Nat :=
  let c0_i32_94 : BitVec 32 := 0#32
  let v167 : BitVec 32 := Scalar.subi v21 c0_i32_94
  let c1_i32_96 : BitVec 32 := 1#32
  let v169 : BitVec 32 := Scalar.divsi v167 c1_i32_96
  let v170 : BitVec 32 := Scalar.muli v169 c1_i32_96
  let v171 : BitVec 32 := Scalar.addi c0_i32_94 v170
  let c1_i32_98 : BitVec 32 := 1#32
  let arg27 : BitVec 32 := Scf.iv v171 c1_i32_98 k0_t5
  let c4_i32_103 : BitVec 32 := 4#32
  let v179 : BitVec 32 := Scalar.remsi arg27 c4_i32_103
  let c3_i32_202 : BitVec 32 := 3#32
  let c0_i32_203 : BitVec 32 := 0#32
  let c0_i32_204 : BitVec 32 := 0#32
  ![v179.toNat, 3, 0, 0]
def k0_off308 (v178 : BitVec 32) : Fin 3 → Nat :=
  let c8_i32_200 : BitVec 32 := 8#32
  let v354 : BitVec 32 := Scalar.muli v178 c8_i32_200
  let c3_i32_201 : BitVec 32 := 3#32
  let v355 : BitVec 32 := Scalar.addi v354 c3_i32_201
  let c0_i32_205 : BitVec 32 := 0#32
  let c0_i32_206 : BitVec 32 := 0#32
  ![v355.toNat, 0, 0]
def k0_off309 (v21 : BitVec 32) (k0_t5 : Fin (k0_t5_loop v21).trips) : Fin 4 → Nat :=
  let c0_i32_94 : BitVec 32 := 0#32
  let v167 : BitVec 32 := Scalar.subi v21 c0_i32_94
  let c1_i32_96 : BitVec 32 := 1#32
  let v169 : BitVec 32 := Scalar.divsi v167 c1_i32_96
  let v170 : BitVec 32 := Scalar.muli v169 c1_i32_96
  let v171 : BitVec 32 := Scalar.addi c0_i32_94 v170
  let c1_i32_98 : BitVec 32 := 1#32
  let arg27 : BitVec 32 := Scf.iv v171 c1_i32_98 k0_t5
  let c4_i32_103 : BitVec 32 := 4#32
  let v179 : BitVec 32 := Scalar.remsi arg27 c4_i32_103
  let c3_i32_207 : BitVec 32 := 3#32
  let c0_i32_208 : BitVec 32 := 0#32
  let c0_i32_209 : BitVec 32 := 0#32
  ![v179.toNat, 3, 0, 0]
def k0_off310 (v178 : BitVec 32) : Fin 3 → Nat :=
  let c8_i32_200 : BitVec 32 := 8#32
  let v354 : BitVec 32 := Scalar.muli v178 c8_i32_200
  let c3_i32_201 : BitVec 32 := 3#32
  let v355 : BitVec 32 := Scalar.addi v354 c3_i32_201
  let c0_i32_210 : BitVec 32 := 0#32
  let c0_i32_211 : BitVec 32 := 0#32
  ![v355.toNat, 0, 0]
def k0_off311 (v21 : BitVec 32) (k0_t5 : Fin (k0_t5_loop v21).trips) : Fin 1 → Nat :=
  let c0_i32_94 : BitVec 32 := 0#32
  let v167 : BitVec 32 := Scalar.subi v21 c0_i32_94
  let c1_i32_96 : BitVec 32 := 1#32
  let v169 : BitVec 32 := Scalar.divsi v167 c1_i32_96
  let v170 : BitVec 32 := Scalar.muli v169 c1_i32_96
  let v171 : BitVec 32 := Scalar.addi c0_i32_94 v170
  let c1_i32_98 : BitVec 32 := 1#32
  let arg27 : BitVec 32 := Scf.iv v171 c1_i32_98 k0_t5
  let c4_i32_103 : BitVec 32 := 4#32
  let v179 : BitVec 32 := Scalar.remsi arg27 c4_i32_103
  ![v179.toNat]
def k0_cond57 (v217 : BitVec 32) : BitVec 1 :=
  let c5_i32_141 : BitVec 32 := 5#32
  let v238 : BitVec 32 := Scalar.shrsi v217 c5_i32_141
  let c1_i32_142 : BitVec 32 := 1#32
  let v239 : BitVec 32 := Scalar.andi v238 c1_i32_142
  let c1_i32_143 : BitVec 32 := 1#32
  let v240 : BitVec 1 := Scalar.cmpi .eq v239 c1_i32_143
  let v241 : BitVec 32 := Scalar.extui v240
  let c0_i32_144 : BitVec 32 := 0#32
  let v242 : BitVec 1 := Scalar.cmpi .ne v241 c0_i32_144
  v242

def k0_off312 (v21 : BitVec 32) (k0_t5 : Fin (k0_t5_loop v21).trips) : Fin 4 → Nat :=
  let c0_i32_94 : BitVec 32 := 0#32
  let v167 : BitVec 32 := Scalar.subi v21 c0_i32_94
  let c1_i32_96 : BitVec 32 := 1#32
  let v169 : BitVec 32 := Scalar.divsi v167 c1_i32_96
  let v170 : BitVec 32 := Scalar.muli v169 c1_i32_96
  let v171 : BitVec 32 := Scalar.addi c0_i32_94 v170
  let c1_i32_98 : BitVec 32 := 1#32
  let arg27 : BitVec 32 := Scf.iv v171 c1_i32_98 k0_t5
  let c4_i32_103 : BitVec 32 := 4#32
  let v179 : BitVec 32 := Scalar.remsi arg27 c4_i32_103
  let c4_i32_202 : BitVec 32 := 4#32
  let c0_i32_203 : BitVec 32 := 0#32
  let c0_i32_204 : BitVec 32 := 0#32
  ![v179.toNat, 4, 0, 0]
def k0_off313 (v178 : BitVec 32) : Fin 3 → Nat :=
  let c8_i32_200 : BitVec 32 := 8#32
  let v354 : BitVec 32 := Scalar.muli v178 c8_i32_200
  let c4_i32_201 : BitVec 32 := 4#32
  let v355 : BitVec 32 := Scalar.addi v354 c4_i32_201
  let c0_i32_205 : BitVec 32 := 0#32
  let c0_i32_206 : BitVec 32 := 0#32
  ![v355.toNat, 0, 0]
def k0_off314 (v21 : BitVec 32) (k0_t5 : Fin (k0_t5_loop v21).trips) : Fin 4 → Nat :=
  let c0_i32_94 : BitVec 32 := 0#32
  let v167 : BitVec 32 := Scalar.subi v21 c0_i32_94
  let c1_i32_96 : BitVec 32 := 1#32
  let v169 : BitVec 32 := Scalar.divsi v167 c1_i32_96
  let v170 : BitVec 32 := Scalar.muli v169 c1_i32_96
  let v171 : BitVec 32 := Scalar.addi c0_i32_94 v170
  let c1_i32_98 : BitVec 32 := 1#32
  let arg27 : BitVec 32 := Scf.iv v171 c1_i32_98 k0_t5
  let c4_i32_103 : BitVec 32 := 4#32
  let v179 : BitVec 32 := Scalar.remsi arg27 c4_i32_103
  let c4_i32_207 : BitVec 32 := 4#32
  let c0_i32_208 : BitVec 32 := 0#32
  let c0_i32_209 : BitVec 32 := 0#32
  ![v179.toNat, 4, 0, 0]
def k0_off315 (v178 : BitVec 32) : Fin 3 → Nat :=
  let c8_i32_200 : BitVec 32 := 8#32
  let v354 : BitVec 32 := Scalar.muli v178 c8_i32_200
  let c4_i32_201 : BitVec 32 := 4#32
  let v355 : BitVec 32 := Scalar.addi v354 c4_i32_201
  let c0_i32_210 : BitVec 32 := 0#32
  let c0_i32_211 : BitVec 32 := 0#32
  ![v355.toNat, 0, 0]
def k0_off316 (v21 : BitVec 32) (k0_t5 : Fin (k0_t5_loop v21).trips) : Fin 1 → Nat :=
  let c0_i32_94 : BitVec 32 := 0#32
  let v167 : BitVec 32 := Scalar.subi v21 c0_i32_94
  let c1_i32_96 : BitVec 32 := 1#32
  let v169 : BitVec 32 := Scalar.divsi v167 c1_i32_96
  let v170 : BitVec 32 := Scalar.muli v169 c1_i32_96
  let v171 : BitVec 32 := Scalar.addi c0_i32_94 v170
  let c1_i32_98 : BitVec 32 := 1#32
  let arg27 : BitVec 32 := Scf.iv v171 c1_i32_98 k0_t5
  let c4_i32_103 : BitVec 32 := 4#32
  let v179 : BitVec 32 := Scalar.remsi arg27 c4_i32_103
  ![v179.toNat]
def k0_cond58 (v217 : BitVec 32) : BitVec 1 :=
  let c6_i32_145 : BitVec 32 := 6#32
  let v243 : BitVec 32 := Scalar.shrsi v217 c6_i32_145
  let c1_i32_146 : BitVec 32 := 1#32
  let v244 : BitVec 32 := Scalar.andi v243 c1_i32_146
  let c1_i32_147 : BitVec 32 := 1#32
  let v245 : BitVec 1 := Scalar.cmpi .eq v244 c1_i32_147
  let v246 : BitVec 32 := Scalar.extui v245
  let c0_i32_148 : BitVec 32 := 0#32
  let v247 : BitVec 1 := Scalar.cmpi .ne v246 c0_i32_148
  v247

def k0_off317 (v21 : BitVec 32) (k0_t5 : Fin (k0_t5_loop v21).trips) : Fin 4 → Nat :=
  let c0_i32_94 : BitVec 32 := 0#32
  let v167 : BitVec 32 := Scalar.subi v21 c0_i32_94
  let c1_i32_96 : BitVec 32 := 1#32
  let v169 : BitVec 32 := Scalar.divsi v167 c1_i32_96
  let v170 : BitVec 32 := Scalar.muli v169 c1_i32_96
  let v171 : BitVec 32 := Scalar.addi c0_i32_94 v170
  let c1_i32_98 : BitVec 32 := 1#32
  let arg27 : BitVec 32 := Scf.iv v171 c1_i32_98 k0_t5
  let c4_i32_103 : BitVec 32 := 4#32
  let v179 : BitVec 32 := Scalar.remsi arg27 c4_i32_103
  let c5_i32_202 : BitVec 32 := 5#32
  let c0_i32_203 : BitVec 32 := 0#32
  let c0_i32_204 : BitVec 32 := 0#32
  ![v179.toNat, 5, 0, 0]
def k0_off318 (v178 : BitVec 32) : Fin 3 → Nat :=
  let c8_i32_200 : BitVec 32 := 8#32
  let v354 : BitVec 32 := Scalar.muli v178 c8_i32_200
  let c5_i32_201 : BitVec 32 := 5#32
  let v355 : BitVec 32 := Scalar.addi v354 c5_i32_201
  let c0_i32_205 : BitVec 32 := 0#32
  let c0_i32_206 : BitVec 32 := 0#32
  ![v355.toNat, 0, 0]
def k0_off319 (v21 : BitVec 32) (k0_t5 : Fin (k0_t5_loop v21).trips) : Fin 4 → Nat :=
  let c0_i32_94 : BitVec 32 := 0#32
  let v167 : BitVec 32 := Scalar.subi v21 c0_i32_94
  let c1_i32_96 : BitVec 32 := 1#32
  let v169 : BitVec 32 := Scalar.divsi v167 c1_i32_96
  let v170 : BitVec 32 := Scalar.muli v169 c1_i32_96
  let v171 : BitVec 32 := Scalar.addi c0_i32_94 v170
  let c1_i32_98 : BitVec 32 := 1#32
  let arg27 : BitVec 32 := Scf.iv v171 c1_i32_98 k0_t5
  let c4_i32_103 : BitVec 32 := 4#32
  let v179 : BitVec 32 := Scalar.remsi arg27 c4_i32_103
  let c5_i32_207 : BitVec 32 := 5#32
  let c0_i32_208 : BitVec 32 := 0#32
  let c0_i32_209 : BitVec 32 := 0#32
  ![v179.toNat, 5, 0, 0]
def k0_off320 (v178 : BitVec 32) : Fin 3 → Nat :=
  let c8_i32_200 : BitVec 32 := 8#32
  let v354 : BitVec 32 := Scalar.muli v178 c8_i32_200
  let c5_i32_201 : BitVec 32 := 5#32
  let v355 : BitVec 32 := Scalar.addi v354 c5_i32_201
  let c0_i32_210 : BitVec 32 := 0#32
  let c0_i32_211 : BitVec 32 := 0#32
  ![v355.toNat, 0, 0]
def k0_off321 (v21 : BitVec 32) (k0_t5 : Fin (k0_t5_loop v21).trips) : Fin 1 → Nat :=
  let c0_i32_94 : BitVec 32 := 0#32
  let v167 : BitVec 32 := Scalar.subi v21 c0_i32_94
  let c1_i32_96 : BitVec 32 := 1#32
  let v169 : BitVec 32 := Scalar.divsi v167 c1_i32_96
  let v170 : BitVec 32 := Scalar.muli v169 c1_i32_96
  let v171 : BitVec 32 := Scalar.addi c0_i32_94 v170
  let c1_i32_98 : BitVec 32 := 1#32
  let arg27 : BitVec 32 := Scf.iv v171 c1_i32_98 k0_t5
  let c4_i32_103 : BitVec 32 := 4#32
  let v179 : BitVec 32 := Scalar.remsi arg27 c4_i32_103
  ![v179.toNat]
def k0_cond59 (v217 : BitVec 32) : BitVec 1 :=
  let c7_i32_149 : BitVec 32 := 7#32
  let v248 : BitVec 32 := Scalar.shrsi v217 c7_i32_149
  let c1_i32_150 : BitVec 32 := 1#32
  let v249 : BitVec 32 := Scalar.andi v248 c1_i32_150
  let c1_i32_151 : BitVec 32 := 1#32
  let v250 : BitVec 1 := Scalar.cmpi .eq v249 c1_i32_151
  let v251 : BitVec 32 := Scalar.extui v250
  let c0_i32_152 : BitVec 32 := 0#32
  let v252 : BitVec 1 := Scalar.cmpi .ne v251 c0_i32_152
  v252

def k0_off322 (v21 : BitVec 32) (k0_t5 : Fin (k0_t5_loop v21).trips) : Fin 4 → Nat :=
  let c0_i32_94 : BitVec 32 := 0#32
  let v167 : BitVec 32 := Scalar.subi v21 c0_i32_94
  let c1_i32_96 : BitVec 32 := 1#32
  let v169 : BitVec 32 := Scalar.divsi v167 c1_i32_96
  let v170 : BitVec 32 := Scalar.muli v169 c1_i32_96
  let v171 : BitVec 32 := Scalar.addi c0_i32_94 v170
  let c1_i32_98 : BitVec 32 := 1#32
  let arg27 : BitVec 32 := Scf.iv v171 c1_i32_98 k0_t5
  let c4_i32_103 : BitVec 32 := 4#32
  let v179 : BitVec 32 := Scalar.remsi arg27 c4_i32_103
  let c6_i32_202 : BitVec 32 := 6#32
  let c0_i32_203 : BitVec 32 := 0#32
  let c0_i32_204 : BitVec 32 := 0#32
  ![v179.toNat, 6, 0, 0]
def k0_off323 (v178 : BitVec 32) : Fin 3 → Nat :=
  let c8_i32_200 : BitVec 32 := 8#32
  let v354 : BitVec 32 := Scalar.muli v178 c8_i32_200
  let c6_i32_201 : BitVec 32 := 6#32
  let v355 : BitVec 32 := Scalar.addi v354 c6_i32_201
  let c0_i32_205 : BitVec 32 := 0#32
  let c0_i32_206 : BitVec 32 := 0#32
  ![v355.toNat, 0, 0]
def k0_off324 (v21 : BitVec 32) (k0_t5 : Fin (k0_t5_loop v21).trips) : Fin 4 → Nat :=
  let c0_i32_94 : BitVec 32 := 0#32
  let v167 : BitVec 32 := Scalar.subi v21 c0_i32_94
  let c1_i32_96 : BitVec 32 := 1#32
  let v169 : BitVec 32 := Scalar.divsi v167 c1_i32_96
  let v170 : BitVec 32 := Scalar.muli v169 c1_i32_96
  let v171 : BitVec 32 := Scalar.addi c0_i32_94 v170
  let c1_i32_98 : BitVec 32 := 1#32
  let arg27 : BitVec 32 := Scf.iv v171 c1_i32_98 k0_t5
  let c4_i32_103 : BitVec 32 := 4#32
  let v179 : BitVec 32 := Scalar.remsi arg27 c4_i32_103
  let c6_i32_207 : BitVec 32 := 6#32
  let c0_i32_208 : BitVec 32 := 0#32
  let c0_i32_209 : BitVec 32 := 0#32
  ![v179.toNat, 6, 0, 0]
def k0_off325 (v178 : BitVec 32) : Fin 3 → Nat :=
  let c8_i32_200 : BitVec 32 := 8#32
  let v354 : BitVec 32 := Scalar.muli v178 c8_i32_200
  let c6_i32_201 : BitVec 32 := 6#32
  let v355 : BitVec 32 := Scalar.addi v354 c6_i32_201
  let c0_i32_210 : BitVec 32 := 0#32
  let c0_i32_211 : BitVec 32 := 0#32
  ![v355.toNat, 0, 0]
def k0_off326 (v21 : BitVec 32) (k0_t5 : Fin (k0_t5_loop v21).trips) : Fin 1 → Nat :=
  let c0_i32_94 : BitVec 32 := 0#32
  let v167 : BitVec 32 := Scalar.subi v21 c0_i32_94
  let c1_i32_96 : BitVec 32 := 1#32
  let v169 : BitVec 32 := Scalar.divsi v167 c1_i32_96
  let v170 : BitVec 32 := Scalar.muli v169 c1_i32_96
  let v171 : BitVec 32 := Scalar.addi c0_i32_94 v170
  let c1_i32_98 : BitVec 32 := 1#32
  let arg27 : BitVec 32 := Scf.iv v171 c1_i32_98 k0_t5
  let c4_i32_103 : BitVec 32 := 4#32
  let v179 : BitVec 32 := Scalar.remsi arg27 c4_i32_103
  ![v179.toNat]
def k0_cond60 (v217 : BitVec 32) : BitVec 1 :=
  let c8_i32_153 : BitVec 32 := 8#32
  let v253 : BitVec 32 := Scalar.shrsi v217 c8_i32_153
  let c1_i32_154 : BitVec 32 := 1#32
  let v254 : BitVec 32 := Scalar.andi v253 c1_i32_154
  let c1_i32_155 : BitVec 32 := 1#32
  let v255 : BitVec 1 := Scalar.cmpi .eq v254 c1_i32_155
  let v256 : BitVec 32 := Scalar.extui v255
  let c0_i32_156 : BitVec 32 := 0#32
  let v257 : BitVec 1 := Scalar.cmpi .ne v256 c0_i32_156
  v257

def k0_off327 (v21 : BitVec 32) (k0_t5 : Fin (k0_t5_loop v21).trips) : Fin 4 → Nat :=
  let c0_i32_94 : BitVec 32 := 0#32
  let v167 : BitVec 32 := Scalar.subi v21 c0_i32_94
  let c1_i32_96 : BitVec 32 := 1#32
  let v169 : BitVec 32 := Scalar.divsi v167 c1_i32_96
  let v170 : BitVec 32 := Scalar.muli v169 c1_i32_96
  let v171 : BitVec 32 := Scalar.addi c0_i32_94 v170
  let c1_i32_98 : BitVec 32 := 1#32
  let arg27 : BitVec 32 := Scf.iv v171 c1_i32_98 k0_t5
  let c4_i32_103 : BitVec 32 := 4#32
  let v179 : BitVec 32 := Scalar.remsi arg27 c4_i32_103
  let c7_i32_202 : BitVec 32 := 7#32
  let c0_i32_203 : BitVec 32 := 0#32
  let c0_i32_204 : BitVec 32 := 0#32
  ![v179.toNat, 7, 0, 0]
def k0_off328 (v178 : BitVec 32) : Fin 3 → Nat :=
  let c8_i32_200 : BitVec 32 := 8#32
  let v354 : BitVec 32 := Scalar.muli v178 c8_i32_200
  let c7_i32_201 : BitVec 32 := 7#32
  let v355 : BitVec 32 := Scalar.addi v354 c7_i32_201
  let c0_i32_205 : BitVec 32 := 0#32
  let c0_i32_206 : BitVec 32 := 0#32
  ![v355.toNat, 0, 0]
def k0_off329 (v21 : BitVec 32) (k0_t5 : Fin (k0_t5_loop v21).trips) : Fin 4 → Nat :=
  let c0_i32_94 : BitVec 32 := 0#32
  let v167 : BitVec 32 := Scalar.subi v21 c0_i32_94
  let c1_i32_96 : BitVec 32 := 1#32
  let v169 : BitVec 32 := Scalar.divsi v167 c1_i32_96
  let v170 : BitVec 32 := Scalar.muli v169 c1_i32_96
  let v171 : BitVec 32 := Scalar.addi c0_i32_94 v170
  let c1_i32_98 : BitVec 32 := 1#32
  let arg27 : BitVec 32 := Scf.iv v171 c1_i32_98 k0_t5
  let c4_i32_103 : BitVec 32 := 4#32
  let v179 : BitVec 32 := Scalar.remsi arg27 c4_i32_103
  let c7_i32_207 : BitVec 32 := 7#32
  let c0_i32_208 : BitVec 32 := 0#32
  let c0_i32_209 : BitVec 32 := 0#32
  ![v179.toNat, 7, 0, 0]
def k0_off330 (v178 : BitVec 32) : Fin 3 → Nat :=
  let c8_i32_200 : BitVec 32 := 8#32
  let v354 : BitVec 32 := Scalar.muli v178 c8_i32_200
  let c7_i32_201 : BitVec 32 := 7#32
  let v355 : BitVec 32 := Scalar.addi v354 c7_i32_201
  let c0_i32_210 : BitVec 32 := 0#32
  let c0_i32_211 : BitVec 32 := 0#32
  ![v355.toNat, 0, 0]

def k0_chk24_0 (v21 : BitVec 32) (k0_t5 : Fin (k0_t5_loop v21).trips) (v178 : BitVec 32) (v217 : BitVec 32) : Prop :=
  (∀ (k0_h53 : k0_cond53 v217 = 1#1), ∀ a, (k0_off291 v21 k0_t5) a + S1.size a ≤ S4.size a) ∧
  (∀ (k0_h53 : k0_cond53 v217 = 1#1), ∀ a, (k0_off292 v21 k0_t5) a + S1x1x16x5120.size a ≤ S4x8x16x5120.size a) ∧
  (∀ (k0_h53 : k0_cond53 v217 = 1#1), ∀ a, (k0_off293 v178) a + S1x16x5120.size a ≤ S256x16x5120.size a) ∧
  (∀ (k0_h53 : k0_cond53 v217 = 1#1), ∀ (hinb : ∀ a, (k0_off293 v178) a + S1x16x5120.size a ≤ S256x16x5120.size a), (Rect.unit (s := S256x16x5120) (k0_off293 v178) S1x16x5120.size hinb).WholeWords (EltTy.packing .bf16)) ∧
  (∀ (k0_h53 : k0_cond53 v217 = 1#1), ∀ (hinb : ∀ a, (k0_off292 v21 k0_t5) a + S1x1x16x5120.size a ≤ S4x8x16x5120.size a), (Rect.unit (s := S4x8x16x5120) (k0_off292 v21 k0_t5) S1x1x16x5120.size hinb).WholeWords (EltTy.packing .bf16)) ∧
  (∀ (k0_h53 : k0_cond53 v217 = 1#1), ∀ a, (k0_off294 v21 k0_t5) a + S1x1x16x768.size a ≤ S4x8x16x768.size a) ∧
  (∀ (k0_h53 : k0_cond53 v217 = 1#1), ∀ a, (k0_off295 v178) a + S1x16x768.size a ≤ S256x16x768.size a) ∧
  (∀ (k0_h53 : k0_cond53 v217 = 1#1), ∀ (hinb : ∀ a, (k0_off295 v178) a + S1x16x768.size a ≤ S256x16x768.size a), (Rect.unit (s := S256x16x768) (k0_off295 v178) S1x16x768.size hinb).WholeWords (EltTy.packing .bf16)) ∧
  (∀ (k0_h53 : k0_cond53 v217 = 1#1), ∀ (hinb : ∀ a, (k0_off294 v21 k0_t5) a + S1x1x16x768.size a ≤ S4x8x16x768.size a), (Rect.unit (s := S4x8x16x768) (k0_off294 v21 k0_t5) S1x1x16x768.size hinb).WholeWords (EltTy.packing .bf16)) ∧
  (∀ (k0_h54 : k0_cond54 v217 = 1#1), ∀ a, (k0_off296 v21 k0_t5) a + S1.size a ≤ S4.size a) ∧
  (∀ (k0_h54 : k0_cond54 v217 = 1#1), ∀ a, (k0_off297 v21 k0_t5) a + S1x1x16x5120.size a ≤ S4x8x16x5120.size a) ∧
  (∀ (k0_h54 : k0_cond54 v217 = 1#1), ∀ a, (k0_off298 v178) a + S1x16x5120.size a ≤ S256x16x5120.size a) ∧
  (∀ (k0_h54 : k0_cond54 v217 = 1#1), ∀ (hinb : ∀ a, (k0_off298 v178) a + S1x16x5120.size a ≤ S256x16x5120.size a), (Rect.unit (s := S256x16x5120) (k0_off298 v178) S1x16x5120.size hinb).WholeWords (EltTy.packing .bf16)) ∧
  (∀ (k0_h54 : k0_cond54 v217 = 1#1), ∀ (hinb : ∀ a, (k0_off297 v21 k0_t5) a + S1x1x16x5120.size a ≤ S4x8x16x5120.size a), (Rect.unit (s := S4x8x16x5120) (k0_off297 v21 k0_t5) S1x1x16x5120.size hinb).WholeWords (EltTy.packing .bf16)) ∧
  (∀ (k0_h54 : k0_cond54 v217 = 1#1), ∀ a, (k0_off299 v21 k0_t5) a + S1x1x16x768.size a ≤ S4x8x16x768.size a) ∧
  (∀ (k0_h54 : k0_cond54 v217 = 1#1), ∀ a, (k0_off300 v178) a + S1x16x768.size a ≤ S256x16x768.size a) ∧
  (∀ (k0_h54 : k0_cond54 v217 = 1#1), ∀ (hinb : ∀ a, (k0_off300 v178) a + S1x16x768.size a ≤ S256x16x768.size a), (Rect.unit (s := S256x16x768) (k0_off300 v178) S1x16x768.size hinb).WholeWords (EltTy.packing .bf16)) ∧
  (∀ (k0_h54 : k0_cond54 v217 = 1#1), ∀ (hinb : ∀ a, (k0_off299 v21 k0_t5) a + S1x1x16x768.size a ≤ S4x8x16x768.size a), (Rect.unit (s := S4x8x16x768) (k0_off299 v21 k0_t5) S1x1x16x768.size hinb).WholeWords (EltTy.packing .bf16)) ∧
  (∀ (k0_h55 : k0_cond55 v217 = 1#1), ∀ a, (k0_off301 v21 k0_t5) a + S1.size a ≤ S4.size a) ∧
  (∀ (k0_h55 : k0_cond55 v217 = 1#1), ∀ a, (k0_off302 v21 k0_t5) a + S1x1x16x5120.size a ≤ S4x8x16x5120.size a) ∧
  (∀ (k0_h55 : k0_cond55 v217 = 1#1), ∀ a, (k0_off303 v178) a + S1x16x5120.size a ≤ S256x16x5120.size a) ∧
  (∀ (k0_h55 : k0_cond55 v217 = 1#1), ∀ (hinb : ∀ a, (k0_off303 v178) a + S1x16x5120.size a ≤ S256x16x5120.size a), (Rect.unit (s := S256x16x5120) (k0_off303 v178) S1x16x5120.size hinb).WholeWords (EltTy.packing .bf16)) ∧
  (∀ (k0_h55 : k0_cond55 v217 = 1#1), ∀ (hinb : ∀ a, (k0_off302 v21 k0_t5) a + S1x1x16x5120.size a ≤ S4x8x16x5120.size a), (Rect.unit (s := S4x8x16x5120) (k0_off302 v21 k0_t5) S1x1x16x5120.size hinb).WholeWords (EltTy.packing .bf16)) ∧
  (∀ (k0_h55 : k0_cond55 v217 = 1#1), ∀ a, (k0_off304 v21 k0_t5) a + S1x1x16x768.size a ≤ S4x8x16x768.size a) ∧
  (∀ (k0_h55 : k0_cond55 v217 = 1#1), ∀ a, (k0_off305 v178) a + S1x16x768.size a ≤ S256x16x768.size a) ∧
  (∀ (k0_h55 : k0_cond55 v217 = 1#1), ∀ (hinb : ∀ a, (k0_off305 v178) a + S1x16x768.size a ≤ S256x16x768.size a), (Rect.unit (s := S256x16x768) (k0_off305 v178) S1x16x768.size hinb).WholeWords (EltTy.packing .bf16)) ∧
  (∀ (k0_h55 : k0_cond55 v217 = 1#1), ∀ (hinb : ∀ a, (k0_off304 v21 k0_t5) a + S1x1x16x768.size a ≤ S4x8x16x768.size a), (Rect.unit (s := S4x8x16x768) (k0_off304 v21 k0_t5) S1x1x16x768.size hinb).WholeWords (EltTy.packing .bf16)) ∧
  (∀ (k0_h56 : k0_cond56 v217 = 1#1), ∀ a, (k0_off306 v21 k0_t5) a + S1.size a ≤ S4.size a) ∧
  (∀ (k0_h56 : k0_cond56 v217 = 1#1), ∀ a, (k0_off307 v21 k0_t5) a + S1x1x16x5120.size a ≤ S4x8x16x5120.size a) ∧
  (∀ (k0_h56 : k0_cond56 v217 = 1#1), ∀ a, (k0_off308 v178) a + S1x16x5120.size a ≤ S256x16x5120.size a) ∧
  (∀ (k0_h56 : k0_cond56 v217 = 1#1), ∀ (hinb : ∀ a, (k0_off308 v178) a + S1x16x5120.size a ≤ S256x16x5120.size a), (Rect.unit (s := S256x16x5120) (k0_off308 v178) S1x16x5120.size hinb).WholeWords (EltTy.packing .bf16)) ∧
  (∀ (k0_h56 : k0_cond56 v217 = 1#1), ∀ (hinb : ∀ a, (k0_off307 v21 k0_t5) a + S1x1x16x5120.size a ≤ S4x8x16x5120.size a), (Rect.unit (s := S4x8x16x5120) (k0_off307 v21 k0_t5) S1x1x16x5120.size hinb).WholeWords (EltTy.packing .bf16))
def k0_chk24_1 (v21 : BitVec 32) (k0_t5 : Fin (k0_t5_loop v21).trips) (v178 : BitVec 32) (v217 : BitVec 32) : Prop :=
  (∀ (k0_h56 : k0_cond56 v217 = 1#1), ∀ a, (k0_off309 v21 k0_t5) a + S1x1x16x768.size a ≤ S4x8x16x768.size a) ∧
  (∀ (k0_h56 : k0_cond56 v217 = 1#1), ∀ a, (k0_off310 v178) a + S1x16x768.size a ≤ S256x16x768.size a) ∧
  (∀ (k0_h56 : k0_cond56 v217 = 1#1), ∀ (hinb : ∀ a, (k0_off310 v178) a + S1x16x768.size a ≤ S256x16x768.size a), (Rect.unit (s := S256x16x768) (k0_off310 v178) S1x16x768.size hinb).WholeWords (EltTy.packing .bf16)) ∧
  (∀ (k0_h56 : k0_cond56 v217 = 1#1), ∀ (hinb : ∀ a, (k0_off309 v21 k0_t5) a + S1x1x16x768.size a ≤ S4x8x16x768.size a), (Rect.unit (s := S4x8x16x768) (k0_off309 v21 k0_t5) S1x1x16x768.size hinb).WholeWords (EltTy.packing .bf16)) ∧
  (∀ (k0_h57 : k0_cond57 v217 = 1#1), ∀ a, (k0_off311 v21 k0_t5) a + S1.size a ≤ S4.size a) ∧
  (∀ (k0_h57 : k0_cond57 v217 = 1#1), ∀ a, (k0_off312 v21 k0_t5) a + S1x1x16x5120.size a ≤ S4x8x16x5120.size a) ∧
  (∀ (k0_h57 : k0_cond57 v217 = 1#1), ∀ a, (k0_off313 v178) a + S1x16x5120.size a ≤ S256x16x5120.size a) ∧
  (∀ (k0_h57 : k0_cond57 v217 = 1#1), ∀ (hinb : ∀ a, (k0_off313 v178) a + S1x16x5120.size a ≤ S256x16x5120.size a), (Rect.unit (s := S256x16x5120) (k0_off313 v178) S1x16x5120.size hinb).WholeWords (EltTy.packing .bf16)) ∧
  (∀ (k0_h57 : k0_cond57 v217 = 1#1), ∀ (hinb : ∀ a, (k0_off312 v21 k0_t5) a + S1x1x16x5120.size a ≤ S4x8x16x5120.size a), (Rect.unit (s := S4x8x16x5120) (k0_off312 v21 k0_t5) S1x1x16x5120.size hinb).WholeWords (EltTy.packing .bf16)) ∧
  (∀ (k0_h57 : k0_cond57 v217 = 1#1), ∀ a, (k0_off314 v21 k0_t5) a + S1x1x16x768.size a ≤ S4x8x16x768.size a) ∧
  (∀ (k0_h57 : k0_cond57 v217 = 1#1), ∀ a, (k0_off315 v178) a + S1x16x768.size a ≤ S256x16x768.size a) ∧
  (∀ (k0_h57 : k0_cond57 v217 = 1#1), ∀ (hinb : ∀ a, (k0_off315 v178) a + S1x16x768.size a ≤ S256x16x768.size a), (Rect.unit (s := S256x16x768) (k0_off315 v178) S1x16x768.size hinb).WholeWords (EltTy.packing .bf16)) ∧
  (∀ (k0_h57 : k0_cond57 v217 = 1#1), ∀ (hinb : ∀ a, (k0_off314 v21 k0_t5) a + S1x1x16x768.size a ≤ S4x8x16x768.size a), (Rect.unit (s := S4x8x16x768) (k0_off314 v21 k0_t5) S1x1x16x768.size hinb).WholeWords (EltTy.packing .bf16)) ∧
  (∀ (k0_h58 : k0_cond58 v217 = 1#1), ∀ a, (k0_off316 v21 k0_t5) a + S1.size a ≤ S4.size a) ∧
  (∀ (k0_h58 : k0_cond58 v217 = 1#1), ∀ a, (k0_off317 v21 k0_t5) a + S1x1x16x5120.size a ≤ S4x8x16x5120.size a) ∧
  (∀ (k0_h58 : k0_cond58 v217 = 1#1), ∀ a, (k0_off318 v178) a + S1x16x5120.size a ≤ S256x16x5120.size a) ∧
  (∀ (k0_h58 : k0_cond58 v217 = 1#1), ∀ (hinb : ∀ a, (k0_off318 v178) a + S1x16x5120.size a ≤ S256x16x5120.size a), (Rect.unit (s := S256x16x5120) (k0_off318 v178) S1x16x5120.size hinb).WholeWords (EltTy.packing .bf16)) ∧
  (∀ (k0_h58 : k0_cond58 v217 = 1#1), ∀ (hinb : ∀ a, (k0_off317 v21 k0_t5) a + S1x1x16x5120.size a ≤ S4x8x16x5120.size a), (Rect.unit (s := S4x8x16x5120) (k0_off317 v21 k0_t5) S1x1x16x5120.size hinb).WholeWords (EltTy.packing .bf16)) ∧
  (∀ (k0_h58 : k0_cond58 v217 = 1#1), ∀ a, (k0_off319 v21 k0_t5) a + S1x1x16x768.size a ≤ S4x8x16x768.size a) ∧
  (∀ (k0_h58 : k0_cond58 v217 = 1#1), ∀ a, (k0_off320 v178) a + S1x16x768.size a ≤ S256x16x768.size a) ∧
  (∀ (k0_h58 : k0_cond58 v217 = 1#1), ∀ (hinb : ∀ a, (k0_off320 v178) a + S1x16x768.size a ≤ S256x16x768.size a), (Rect.unit (s := S256x16x768) (k0_off320 v178) S1x16x768.size hinb).WholeWords (EltTy.packing .bf16)) ∧
  (∀ (k0_h58 : k0_cond58 v217 = 1#1), ∀ (hinb : ∀ a, (k0_off319 v21 k0_t5) a + S1x1x16x768.size a ≤ S4x8x16x768.size a), (Rect.unit (s := S4x8x16x768) (k0_off319 v21 k0_t5) S1x1x16x768.size hinb).WholeWords (EltTy.packing .bf16)) ∧
  (∀ (k0_h59 : k0_cond59 v217 = 1#1), ∀ a, (k0_off321 v21 k0_t5) a + S1.size a ≤ S4.size a) ∧
  (∀ (k0_h59 : k0_cond59 v217 = 1#1), ∀ a, (k0_off322 v21 k0_t5) a + S1x1x16x5120.size a ≤ S4x8x16x5120.size a) ∧
  (∀ (k0_h59 : k0_cond59 v217 = 1#1), ∀ a, (k0_off323 v178) a + S1x16x5120.size a ≤ S256x16x5120.size a) ∧
  (∀ (k0_h59 : k0_cond59 v217 = 1#1), ∀ (hinb : ∀ a, (k0_off323 v178) a + S1x16x5120.size a ≤ S256x16x5120.size a), (Rect.unit (s := S256x16x5120) (k0_off323 v178) S1x16x5120.size hinb).WholeWords (EltTy.packing .bf16)) ∧
  (∀ (k0_h59 : k0_cond59 v217 = 1#1), ∀ (hinb : ∀ a, (k0_off322 v21 k0_t5) a + S1x1x16x5120.size a ≤ S4x8x16x5120.size a), (Rect.unit (s := S4x8x16x5120) (k0_off322 v21 k0_t5) S1x1x16x5120.size hinb).WholeWords (EltTy.packing .bf16)) ∧
  (∀ (k0_h59 : k0_cond59 v217 = 1#1), ∀ a, (k0_off324 v21 k0_t5) a + S1x1x16x768.size a ≤ S4x8x16x768.size a) ∧
  (∀ (k0_h59 : k0_cond59 v217 = 1#1), ∀ a, (k0_off325 v178) a + S1x16x768.size a ≤ S256x16x768.size a) ∧
  (∀ (k0_h59 : k0_cond59 v217 = 1#1), ∀ (hinb : ∀ a, (k0_off325 v178) a + S1x16x768.size a ≤ S256x16x768.size a), (Rect.unit (s := S256x16x768) (k0_off325 v178) S1x16x768.size hinb).WholeWords (EltTy.packing .bf16)) ∧
  (∀ (k0_h59 : k0_cond59 v217 = 1#1), ∀ (hinb : ∀ a, (k0_off324 v21 k0_t5) a + S1x1x16x768.size a ≤ S4x8x16x768.size a), (Rect.unit (s := S4x8x16x768) (k0_off324 v21 k0_t5) S1x1x16x768.size hinb).WholeWords (EltTy.packing .bf16)) ∧
  (∀ (k0_h60 : k0_cond60 v217 = 1#1), ∀ a, (k0_off326 v21 k0_t5) a + S1.size a ≤ S4.size a)
def k0_chk24_2 (v21 : BitVec 32) (k0_t5 : Fin (k0_t5_loop v21).trips) (v178 : BitVec 32) (v217 : BitVec 32) : Prop :=
  (∀ (k0_h60 : k0_cond60 v217 = 1#1), ∀ a, (k0_off327 v21 k0_t5) a + S1x1x16x5120.size a ≤ S4x8x16x5120.size a) ∧
  (∀ (k0_h60 : k0_cond60 v217 = 1#1), ∀ a, (k0_off328 v178) a + S1x16x5120.size a ≤ S256x16x5120.size a) ∧
  (∀ (k0_h60 : k0_cond60 v217 = 1#1), ∀ (hinb : ∀ a, (k0_off328 v178) a + S1x16x5120.size a ≤ S256x16x5120.size a), (Rect.unit (s := S256x16x5120) (k0_off328 v178) S1x16x5120.size hinb).WholeWords (EltTy.packing .bf16)) ∧
  (∀ (k0_h60 : k0_cond60 v217 = 1#1), ∀ (hinb : ∀ a, (k0_off327 v21 k0_t5) a + S1x1x16x5120.size a ≤ S4x8x16x5120.size a), (Rect.unit (s := S4x8x16x5120) (k0_off327 v21 k0_t5) S1x1x16x5120.size hinb).WholeWords (EltTy.packing .bf16)) ∧
  (∀ (k0_h60 : k0_cond60 v217 = 1#1), ∀ a, (k0_off329 v21 k0_t5) a + S1x1x16x768.size a ≤ S4x8x16x768.size a) ∧
  (∀ (k0_h60 : k0_cond60 v217 = 1#1), ∀ a, (k0_off330 v178) a + S1x16x768.size a ≤ S256x16x768.size a) ∧
  (∀ (k0_h60 : k0_cond60 v217 = 1#1), ∀ (hinb : ∀ a, (k0_off330 v178) a + S1x16x768.size a ≤ S256x16x768.size a), (Rect.unit (s := S256x16x768) (k0_off330 v178) S1x16x768.size hinb).WholeWords (EltTy.packing .bf16)) ∧
  (∀ (k0_h60 : k0_cond60 v217 = 1#1), ∀ (hinb : ∀ a, (k0_off329 v21 k0_t5) a + S1x1x16x768.size a ≤ S4x8x16x768.size a), (Rect.unit (s := S4x8x16x768) (k0_off329 v21 k0_t5) S1x1x16x768.size hinb).WholeWords (EltTy.packing .bf16))
def k0_chk24 (v21 : BitVec 32) (k0_t5 : Fin (k0_t5_loop v21).trips) (v178 : BitVec 32) (v217 : BitVec 32) : Prop :=
  k0_chk24_0 v21 k0_t5 v178 v217 ∧
  k0_chk24_1 v21 k0_t5 v178 v217 ∧
  k0_chk24_2 v21 k0_t5 v178 v217
theorem k0_off291_inb : ∀ (v21 : BitVec 32) (k0_t5 : Fin (k0_t5_loop v21).trips) (v178 : BitVec 32) (v217 : BitVec 32) (k0_hw24 : k0_chk24 v21 k0_t5 v178 v217), ∀ (k0_h53 : k0_cond53 v217 = 1#1), ∀ a, (k0_off291 v21 k0_t5) a + S1.size a ≤ S4.size a := fun v21 k0_t5 v178 v217 k0_hw24 k0_h53 => k0_hw24.1.1 k0_h53
theorem k0_off292_inb : ∀ (v21 : BitVec 32) (k0_t5 : Fin (k0_t5_loop v21).trips) (v178 : BitVec 32) (v217 : BitVec 32) (k0_hw24 : k0_chk24 v21 k0_t5 v178 v217), ∀ (k0_h53 : k0_cond53 v217 = 1#1), ∀ a, (k0_off292 v21 k0_t5) a + S1x1x16x5120.size a ≤ S4x8x16x5120.size a := fun v21 k0_t5 v178 v217 k0_hw24 k0_h53 => k0_hw24.1.2.1 k0_h53
theorem k0_off293_inb : ∀ (v21 : BitVec 32) (k0_t5 : Fin (k0_t5_loop v21).trips) (v178 : BitVec 32) (v217 : BitVec 32) (k0_hw24 : k0_chk24 v21 k0_t5 v178 v217), ∀ (k0_h53 : k0_cond53 v217 = 1#1), ∀ a, (k0_off293 v178) a + S1x16x5120.size a ≤ S256x16x5120.size a := fun v21 k0_t5 v178 v217 k0_hw24 k0_h53 => k0_hw24.1.2.2.1 k0_h53
theorem k0_off293_wordsbf16 : ∀ (v21 : BitVec 32) (k0_t5 : Fin (k0_t5_loop v21).trips) (v178 : BitVec 32) (v217 : BitVec 32) (k0_hw24 : k0_chk24 v21 k0_t5 v178 v217), ∀ (k0_h53 : k0_cond53 v217 = 1#1), (Rect.unit (s := S256x16x5120) (k0_off293 v178) S1x16x5120.size (k0_off293_inb v21 k0_t5 v178 v217 k0_hw24 k0_h53)).WholeWords (EltTy.packing .bf16) := fun v21 k0_t5 v178 v217 k0_hw24 k0_h53 => k0_hw24.1.2.2.2.1 k0_h53 (k0_off293_inb v21 k0_t5 v178 v217 k0_hw24 k0_h53)
theorem k0_off292_wordsbf16 : ∀ (v21 : BitVec 32) (k0_t5 : Fin (k0_t5_loop v21).trips) (v178 : BitVec 32) (v217 : BitVec 32) (k0_hw24 : k0_chk24 v21 k0_t5 v178 v217), ∀ (k0_h53 : k0_cond53 v217 = 1#1), (Rect.unit (s := S4x8x16x5120) (k0_off292 v21 k0_t5) S1x1x16x5120.size (k0_off292_inb v21 k0_t5 v178 v217 k0_hw24 k0_h53)).WholeWords (EltTy.packing .bf16) := fun v21 k0_t5 v178 v217 k0_hw24 k0_h53 => k0_hw24.1.2.2.2.2.1 k0_h53 (k0_off292_inb v21 k0_t5 v178 v217 k0_hw24 k0_h53)
theorem k0_off294_inb : ∀ (v21 : BitVec 32) (k0_t5 : Fin (k0_t5_loop v21).trips) (v178 : BitVec 32) (v217 : BitVec 32) (k0_hw24 : k0_chk24 v21 k0_t5 v178 v217), ∀ (k0_h53 : k0_cond53 v217 = 1#1), ∀ a, (k0_off294 v21 k0_t5) a + S1x1x16x768.size a ≤ S4x8x16x768.size a := fun v21 k0_t5 v178 v217 k0_hw24 k0_h53 => k0_hw24.1.2.2.2.2.2.1 k0_h53
theorem k0_off295_inb : ∀ (v21 : BitVec 32) (k0_t5 : Fin (k0_t5_loop v21).trips) (v178 : BitVec 32) (v217 : BitVec 32) (k0_hw24 : k0_chk24 v21 k0_t5 v178 v217), ∀ (k0_h53 : k0_cond53 v217 = 1#1), ∀ a, (k0_off295 v178) a + S1x16x768.size a ≤ S256x16x768.size a := fun v21 k0_t5 v178 v217 k0_hw24 k0_h53 => k0_hw24.1.2.2.2.2.2.2.1 k0_h53
theorem k0_off295_wordsbf16 : ∀ (v21 : BitVec 32) (k0_t5 : Fin (k0_t5_loop v21).trips) (v178 : BitVec 32) (v217 : BitVec 32) (k0_hw24 : k0_chk24 v21 k0_t5 v178 v217), ∀ (k0_h53 : k0_cond53 v217 = 1#1), (Rect.unit (s := S256x16x768) (k0_off295 v178) S1x16x768.size (k0_off295_inb v21 k0_t5 v178 v217 k0_hw24 k0_h53)).WholeWords (EltTy.packing .bf16) := fun v21 k0_t5 v178 v217 k0_hw24 k0_h53 => k0_hw24.1.2.2.2.2.2.2.2.1 k0_h53 (k0_off295_inb v21 k0_t5 v178 v217 k0_hw24 k0_h53)
theorem k0_off294_wordsbf16 : ∀ (v21 : BitVec 32) (k0_t5 : Fin (k0_t5_loop v21).trips) (v178 : BitVec 32) (v217 : BitVec 32) (k0_hw24 : k0_chk24 v21 k0_t5 v178 v217), ∀ (k0_h53 : k0_cond53 v217 = 1#1), (Rect.unit (s := S4x8x16x768) (k0_off294 v21 k0_t5) S1x1x16x768.size (k0_off294_inb v21 k0_t5 v178 v217 k0_hw24 k0_h53)).WholeWords (EltTy.packing .bf16) := fun v21 k0_t5 v178 v217 k0_hw24 k0_h53 => k0_hw24.1.2.2.2.2.2.2.2.2.1 k0_h53 (k0_off294_inb v21 k0_t5 v178 v217 k0_hw24 k0_h53)
theorem k0_off296_inb : ∀ (v21 : BitVec 32) (k0_t5 : Fin (k0_t5_loop v21).trips) (v178 : BitVec 32) (v217 : BitVec 32) (k0_hw24 : k0_chk24 v21 k0_t5 v178 v217), ∀ (k0_h54 : k0_cond54 v217 = 1#1), ∀ a, (k0_off296 v21 k0_t5) a + S1.size a ≤ S4.size a := fun v21 k0_t5 v178 v217 k0_hw24 k0_h54 => k0_hw24.1.2.2.2.2.2.2.2.2.2.1 k0_h54
theorem k0_off297_inb : ∀ (v21 : BitVec 32) (k0_t5 : Fin (k0_t5_loop v21).trips) (v178 : BitVec 32) (v217 : BitVec 32) (k0_hw24 : k0_chk24 v21 k0_t5 v178 v217), ∀ (k0_h54 : k0_cond54 v217 = 1#1), ∀ a, (k0_off297 v21 k0_t5) a + S1x1x16x5120.size a ≤ S4x8x16x5120.size a := fun v21 k0_t5 v178 v217 k0_hw24 k0_h54 => k0_hw24.1.2.2.2.2.2.2.2.2.2.2.1 k0_h54
theorem k0_off298_inb : ∀ (v21 : BitVec 32) (k0_t5 : Fin (k0_t5_loop v21).trips) (v178 : BitVec 32) (v217 : BitVec 32) (k0_hw24 : k0_chk24 v21 k0_t5 v178 v217), ∀ (k0_h54 : k0_cond54 v217 = 1#1), ∀ a, (k0_off298 v178) a + S1x16x5120.size a ≤ S256x16x5120.size a := fun v21 k0_t5 v178 v217 k0_hw24 k0_h54 => k0_hw24.1.2.2.2.2.2.2.2.2.2.2.2.1 k0_h54
theorem k0_off298_wordsbf16 : ∀ (v21 : BitVec 32) (k0_t5 : Fin (k0_t5_loop v21).trips) (v178 : BitVec 32) (v217 : BitVec 32) (k0_hw24 : k0_chk24 v21 k0_t5 v178 v217), ∀ (k0_h54 : k0_cond54 v217 = 1#1), (Rect.unit (s := S256x16x5120) (k0_off298 v178) S1x16x5120.size (k0_off298_inb v21 k0_t5 v178 v217 k0_hw24 k0_h54)).WholeWords (EltTy.packing .bf16) := fun v21 k0_t5 v178 v217 k0_hw24 k0_h54 => k0_hw24.1.2.2.2.2.2.2.2.2.2.2.2.2.1 k0_h54 (k0_off298_inb v21 k0_t5 v178 v217 k0_hw24 k0_h54)
theorem k0_off297_wordsbf16 : ∀ (v21 : BitVec 32) (k0_t5 : Fin (k0_t5_loop v21).trips) (v178 : BitVec 32) (v217 : BitVec 32) (k0_hw24 : k0_chk24 v21 k0_t5 v178 v217), ∀ (k0_h54 : k0_cond54 v217 = 1#1), (Rect.unit (s := S4x8x16x5120) (k0_off297 v21 k0_t5) S1x1x16x5120.size (k0_off297_inb v21 k0_t5 v178 v217 k0_hw24 k0_h54)).WholeWords (EltTy.packing .bf16) := fun v21 k0_t5 v178 v217 k0_hw24 k0_h54 => k0_hw24.1.2.2.2.2.2.2.2.2.2.2.2.2.2.1 k0_h54 (k0_off297_inb v21 k0_t5 v178 v217 k0_hw24 k0_h54)
theorem k0_off299_inb : ∀ (v21 : BitVec 32) (k0_t5 : Fin (k0_t5_loop v21).trips) (v178 : BitVec 32) (v217 : BitVec 32) (k0_hw24 : k0_chk24 v21 k0_t5 v178 v217), ∀ (k0_h54 : k0_cond54 v217 = 1#1), ∀ a, (k0_off299 v21 k0_t5) a + S1x1x16x768.size a ≤ S4x8x16x768.size a := fun v21 k0_t5 v178 v217 k0_hw24 k0_h54 => k0_hw24.1.2.2.2.2.2.2.2.2.2.2.2.2.2.2.1 k0_h54
theorem k0_off300_inb : ∀ (v21 : BitVec 32) (k0_t5 : Fin (k0_t5_loop v21).trips) (v178 : BitVec 32) (v217 : BitVec 32) (k0_hw24 : k0_chk24 v21 k0_t5 v178 v217), ∀ (k0_h54 : k0_cond54 v217 = 1#1), ∀ a, (k0_off300 v178) a + S1x16x768.size a ≤ S256x16x768.size a := fun v21 k0_t5 v178 v217 k0_hw24 k0_h54 => k0_hw24.1.2.2.2.2.2.2.2.2.2.2.2.2.2.2.2.1 k0_h54
theorem k0_off300_wordsbf16 : ∀ (v21 : BitVec 32) (k0_t5 : Fin (k0_t5_loop v21).trips) (v178 : BitVec 32) (v217 : BitVec 32) (k0_hw24 : k0_chk24 v21 k0_t5 v178 v217), ∀ (k0_h54 : k0_cond54 v217 = 1#1), (Rect.unit (s := S256x16x768) (k0_off300 v178) S1x16x768.size (k0_off300_inb v21 k0_t5 v178 v217 k0_hw24 k0_h54)).WholeWords (EltTy.packing .bf16) := fun v21 k0_t5 v178 v217 k0_hw24 k0_h54 => k0_hw24.1.2.2.2.2.2.2.2.2.2.2.2.2.2.2.2.2.1 k0_h54 (k0_off300_inb v21 k0_t5 v178 v217 k0_hw24 k0_h54)
theorem k0_off299_wordsbf16 : ∀ (v21 : BitVec 32) (k0_t5 : Fin (k0_t5_loop v21).trips) (v178 : BitVec 32) (v217 : BitVec 32) (k0_hw24 : k0_chk24 v21 k0_t5 v178 v217), ∀ (k0_h54 : k0_cond54 v217 = 1#1), (Rect.unit (s := S4x8x16x768) (k0_off299 v21 k0_t5) S1x1x16x768.size (k0_off299_inb v21 k0_t5 v178 v217 k0_hw24 k0_h54)).WholeWords (EltTy.packing .bf16) := fun v21 k0_t5 v178 v217 k0_hw24 k0_h54 => k0_hw24.1.2.2.2.2.2.2.2.2.2.2.2.2.2.2.2.2.2.1 k0_h54 (k0_off299_inb v21 k0_t5 v178 v217 k0_hw24 k0_h54)
theorem k0_off301_inb : ∀ (v21 : BitVec 32) (k0_t5 : Fin (k0_t5_loop v21).trips) (v178 : BitVec 32) (v217 : BitVec 32) (k0_hw24 : k0_chk24 v21 k0_t5 v178 v217), ∀ (k0_h55 : k0_cond55 v217 = 1#1), ∀ a, (k0_off301 v21 k0_t5) a + S1.size a ≤ S4.size a := fun v21 k0_t5 v178 v217 k0_hw24 k0_h55 => k0_hw24.1.2.2.2.2.2.2.2.2.2.2.2.2.2.2.2.2.2.2.1 k0_h55
theorem k0_off302_inb : ∀ (v21 : BitVec 32) (k0_t5 : Fin (k0_t5_loop v21).trips) (v178 : BitVec 32) (v217 : BitVec 32) (k0_hw24 : k0_chk24 v21 k0_t5 v178 v217), ∀ (k0_h55 : k0_cond55 v217 = 1#1), ∀ a, (k0_off302 v21 k0_t5) a + S1x1x16x5120.size a ≤ S4x8x16x5120.size a := fun v21 k0_t5 v178 v217 k0_hw24 k0_h55 => k0_hw24.1.2.2.2.2.2.2.2.2.2.2.2.2.2.2.2.2.2.2.2.1 k0_h55
theorem k0_off303_inb : ∀ (v21 : BitVec 32) (k0_t5 : Fin (k0_t5_loop v21).trips) (v178 : BitVec 32) (v217 : BitVec 32) (k0_hw24 : k0_chk24 v21 k0_t5 v178 v217), ∀ (k0_h55 : k0_cond55 v217 = 1#1), ∀ a, (k0_off303 v178) a + S1x16x5120.size a ≤ S256x16x5120.size a := fun v21 k0_t5 v178 v217 k0_hw24 k0_h55 => k0_hw24.1.2.2.2.2.2.2.2.2.2.2.2.2.2.2.2.2.2.2.2.2.1 k0_h55
theorem k0_off303_wordsbf16 : ∀ (v21 : BitVec 32) (k0_t5 : Fin (k0_t5_loop v21).trips) (v178 : BitVec 32) (v217 : BitVec 32) (k0_hw24 : k0_chk24 v21 k0_t5 v178 v217), ∀ (k0_h55 : k0_cond55 v217 = 1#1), (Rect.unit (s := S256x16x5120) (k0_off303 v178) S1x16x5120.size (k0_off303_inb v21 k0_t5 v178 v217 k0_hw24 k0_h55)).WholeWords (EltTy.packing .bf16) := fun v21 k0_t5 v178 v217 k0_hw24 k0_h55 => k0_hw24.1.2.2.2.2.2.2.2.2.2.2.2.2.2.2.2.2.2.2.2.2.2.1 k0_h55 (k0_off303_inb v21 k0_t5 v178 v217 k0_hw24 k0_h55)
theorem k0_off302_wordsbf16 : ∀ (v21 : BitVec 32) (k0_t5 : Fin (k0_t5_loop v21).trips) (v178 : BitVec 32) (v217 : BitVec 32) (k0_hw24 : k0_chk24 v21 k0_t5 v178 v217), ∀ (k0_h55 : k0_cond55 v217 = 1#1), (Rect.unit (s := S4x8x16x5120) (k0_off302 v21 k0_t5) S1x1x16x5120.size (k0_off302_inb v21 k0_t5 v178 v217 k0_hw24 k0_h55)).WholeWords (EltTy.packing .bf16) := fun v21 k0_t5 v178 v217 k0_hw24 k0_h55 => k0_hw24.1.2.2.2.2.2.2.2.2.2.2.2.2.2.2.2.2.2.2.2.2.2.2.1 k0_h55 (k0_off302_inb v21 k0_t5 v178 v217 k0_hw24 k0_h55)
theorem k0_off304_inb : ∀ (v21 : BitVec 32) (k0_t5 : Fin (k0_t5_loop v21).trips) (v178 : BitVec 32) (v217 : BitVec 32) (k0_hw24 : k0_chk24 v21 k0_t5 v178 v217), ∀ (k0_h55 : k0_cond55 v217 = 1#1), ∀ a, (k0_off304 v21 k0_t5) a + S1x1x16x768.size a ≤ S4x8x16x768.size a := fun v21 k0_t5 v178 v217 k0_hw24 k0_h55 => k0_hw24.1.2.2.2.2.2.2.2.2.2.2.2.2.2.2.2.2.2.2.2.2.2.2.2.1 k0_h55
theorem k0_off305_inb : ∀ (v21 : BitVec 32) (k0_t5 : Fin (k0_t5_loop v21).trips) (v178 : BitVec 32) (v217 : BitVec 32) (k0_hw24 : k0_chk24 v21 k0_t5 v178 v217), ∀ (k0_h55 : k0_cond55 v217 = 1#1), ∀ a, (k0_off305 v178) a + S1x16x768.size a ≤ S256x16x768.size a := fun v21 k0_t5 v178 v217 k0_hw24 k0_h55 => k0_hw24.1.2.2.2.2.2.2.2.2.2.2.2.2.2.2.2.2.2.2.2.2.2.2.2.2.1 k0_h55
theorem k0_off305_wordsbf16 : ∀ (v21 : BitVec 32) (k0_t5 : Fin (k0_t5_loop v21).trips) (v178 : BitVec 32) (v217 : BitVec 32) (k0_hw24 : k0_chk24 v21 k0_t5 v178 v217), ∀ (k0_h55 : k0_cond55 v217 = 1#1), (Rect.unit (s := S256x16x768) (k0_off305 v178) S1x16x768.size (k0_off305_inb v21 k0_t5 v178 v217 k0_hw24 k0_h55)).WholeWords (EltTy.packing .bf16) := fun v21 k0_t5 v178 v217 k0_hw24 k0_h55 => k0_hw24.1.2.2.2.2.2.2.2.2.2.2.2.2.2.2.2.2.2.2.2.2.2.2.2.2.2.1 k0_h55 (k0_off305_inb v21 k0_t5 v178 v217 k0_hw24 k0_h55)
theorem k0_off304_wordsbf16 : ∀ (v21 : BitVec 32) (k0_t5 : Fin (k0_t5_loop v21).trips) (v178 : BitVec 32) (v217 : BitVec 32) (k0_hw24 : k0_chk24 v21 k0_t5 v178 v217), ∀ (k0_h55 : k0_cond55 v217 = 1#1), (Rect.unit (s := S4x8x16x768) (k0_off304 v21 k0_t5) S1x1x16x768.size (k0_off304_inb v21 k0_t5 v178 v217 k0_hw24 k0_h55)).WholeWords (EltTy.packing .bf16) := fun v21 k0_t5 v178 v217 k0_hw24 k0_h55 => k0_hw24.1.2.2.2.2.2.2.2.2.2.2.2.2.2.2.2.2.2.2.2.2.2.2.2.2.2.2.1 k0_h55 (k0_off304_inb v21 k0_t5 v178 v217 k0_hw24 k0_h55)
theorem k0_off306_inb : ∀ (v21 : BitVec 32) (k0_t5 : Fin (k0_t5_loop v21).trips) (v178 : BitVec 32) (v217 : BitVec 32) (k0_hw24 : k0_chk24 v21 k0_t5 v178 v217), ∀ (k0_h56 : k0_cond56 v217 = 1#1), ∀ a, (k0_off306 v21 k0_t5) a + S1.size a ≤ S4.size a := fun v21 k0_t5 v178 v217 k0_hw24 k0_h56 => k0_hw24.1.2.2.2.2.2.2.2.2.2.2.2.2.2.2.2.2.2.2.2.2.2.2.2.2.2.2.2.1 k0_h56
theorem k0_off307_inb : ∀ (v21 : BitVec 32) (k0_t5 : Fin (k0_t5_loop v21).trips) (v178 : BitVec 32) (v217 : BitVec 32) (k0_hw24 : k0_chk24 v21 k0_t5 v178 v217), ∀ (k0_h56 : k0_cond56 v217 = 1#1), ∀ a, (k0_off307 v21 k0_t5) a + S1x1x16x5120.size a ≤ S4x8x16x5120.size a := fun v21 k0_t5 v178 v217 k0_hw24 k0_h56 => k0_hw24.1.2.2.2.2.2.2.2.2.2.2.2.2.2.2.2.2.2.2.2.2.2.2.2.2.2.2.2.2.1 k0_h56
theorem k0_off308_inb : ∀ (v21 : BitVec 32) (k0_t5 : Fin (k0_t5_loop v21).trips) (v178 : BitVec 32) (v217 : BitVec 32) (k0_hw24 : k0_chk24 v21 k0_t5 v178 v217), ∀ (k0_h56 : k0_cond56 v217 = 1#1), ∀ a, (k0_off308 v178) a + S1x16x5120.size a ≤ S256x16x5120.size a := fun v21 k0_t5 v178 v217 k0_hw24 k0_h56 => k0_hw24.1.2.2.2.2.2.2.2.2.2.2.2.2.2.2.2.2.2.2.2.2.2.2.2.2.2.2.2.2.2.1 k0_h56
theorem k0_off308_wordsbf16 : ∀ (v21 : BitVec 32) (k0_t5 : Fin (k0_t5_loop v21).trips) (v178 : BitVec 32) (v217 : BitVec 32) (k0_hw24 : k0_chk24 v21 k0_t5 v178 v217), ∀ (k0_h56 : k0_cond56 v217 = 1#1), (Rect.unit (s := S256x16x5120) (k0_off308 v178) S1x16x5120.size (k0_off308_inb v21 k0_t5 v178 v217 k0_hw24 k0_h56)).WholeWords (EltTy.packing .bf16) := fun v21 k0_t5 v178 v217 k0_hw24 k0_h56 => k0_hw24.1.2.2.2.2.2.2.2.2.2.2.2.2.2.2.2.2.2.2.2.2.2.2.2.2.2.2.2.2.2.2.1 k0_h56 (k0_off308_inb v21 k0_t5 v178 v217 k0_hw24 k0_h56)
theorem k0_off307_wordsbf16 : ∀ (v21 : BitVec 32) (k0_t5 : Fin (k0_t5_loop v21).trips) (v178 : BitVec 32) (v217 : BitVec 32) (k0_hw24 : k0_chk24 v21 k0_t5 v178 v217), ∀ (k0_h56 : k0_cond56 v217 = 1#1), (Rect.unit (s := S4x8x16x5120) (k0_off307 v21 k0_t5) S1x1x16x5120.size (k0_off307_inb v21 k0_t5 v178 v217 k0_hw24 k0_h56)).WholeWords (EltTy.packing .bf16) := fun v21 k0_t5 v178 v217 k0_hw24 k0_h56 => k0_hw24.1.2.2.2.2.2.2.2.2.2.2.2.2.2.2.2.2.2.2.2.2.2.2.2.2.2.2.2.2.2.2.2 k0_h56 (k0_off307_inb v21 k0_t5 v178 v217 k0_hw24 k0_h56)
theorem k0_off309_inb : ∀ (v21 : BitVec 32) (k0_t5 : Fin (k0_t5_loop v21).trips) (v178 : BitVec 32) (v217 : BitVec 32) (k0_hw24 : k0_chk24 v21 k0_t5 v178 v217), ∀ (k0_h56 : k0_cond56 v217 = 1#1), ∀ a, (k0_off309 v21 k0_t5) a + S1x1x16x768.size a ≤ S4x8x16x768.size a := fun v21 k0_t5 v178 v217 k0_hw24 k0_h56 => k0_hw24.2.1.1 k0_h56
theorem k0_off310_inb : ∀ (v21 : BitVec 32) (k0_t5 : Fin (k0_t5_loop v21).trips) (v178 : BitVec 32) (v217 : BitVec 32) (k0_hw24 : k0_chk24 v21 k0_t5 v178 v217), ∀ (k0_h56 : k0_cond56 v217 = 1#1), ∀ a, (k0_off310 v178) a + S1x16x768.size a ≤ S256x16x768.size a := fun v21 k0_t5 v178 v217 k0_hw24 k0_h56 => k0_hw24.2.1.2.1 k0_h56
theorem k0_off310_wordsbf16 : ∀ (v21 : BitVec 32) (k0_t5 : Fin (k0_t5_loop v21).trips) (v178 : BitVec 32) (v217 : BitVec 32) (k0_hw24 : k0_chk24 v21 k0_t5 v178 v217), ∀ (k0_h56 : k0_cond56 v217 = 1#1), (Rect.unit (s := S256x16x768) (k0_off310 v178) S1x16x768.size (k0_off310_inb v21 k0_t5 v178 v217 k0_hw24 k0_h56)).WholeWords (EltTy.packing .bf16) := fun v21 k0_t5 v178 v217 k0_hw24 k0_h56 => k0_hw24.2.1.2.2.1 k0_h56 (k0_off310_inb v21 k0_t5 v178 v217 k0_hw24 k0_h56)
theorem k0_off309_wordsbf16 : ∀ (v21 : BitVec 32) (k0_t5 : Fin (k0_t5_loop v21).trips) (v178 : BitVec 32) (v217 : BitVec 32) (k0_hw24 : k0_chk24 v21 k0_t5 v178 v217), ∀ (k0_h56 : k0_cond56 v217 = 1#1), (Rect.unit (s := S4x8x16x768) (k0_off309 v21 k0_t5) S1x1x16x768.size (k0_off309_inb v21 k0_t5 v178 v217 k0_hw24 k0_h56)).WholeWords (EltTy.packing .bf16) := fun v21 k0_t5 v178 v217 k0_hw24 k0_h56 => k0_hw24.2.1.2.2.2.1 k0_h56 (k0_off309_inb v21 k0_t5 v178 v217 k0_hw24 k0_h56)
theorem k0_off311_inb : ∀ (v21 : BitVec 32) (k0_t5 : Fin (k0_t5_loop v21).trips) (v178 : BitVec 32) (v217 : BitVec 32) (k0_hw24 : k0_chk24 v21 k0_t5 v178 v217), ∀ (k0_h57 : k0_cond57 v217 = 1#1), ∀ a, (k0_off311 v21 k0_t5) a + S1.size a ≤ S4.size a := fun v21 k0_t5 v178 v217 k0_hw24 k0_h57 => k0_hw24.2.1.2.2.2.2.1 k0_h57
theorem k0_off312_inb : ∀ (v21 : BitVec 32) (k0_t5 : Fin (k0_t5_loop v21).trips) (v178 : BitVec 32) (v217 : BitVec 32) (k0_hw24 : k0_chk24 v21 k0_t5 v178 v217), ∀ (k0_h57 : k0_cond57 v217 = 1#1), ∀ a, (k0_off312 v21 k0_t5) a + S1x1x16x5120.size a ≤ S4x8x16x5120.size a := fun v21 k0_t5 v178 v217 k0_hw24 k0_h57 => k0_hw24.2.1.2.2.2.2.2.1 k0_h57
theorem k0_off313_inb : ∀ (v21 : BitVec 32) (k0_t5 : Fin (k0_t5_loop v21).trips) (v178 : BitVec 32) (v217 : BitVec 32) (k0_hw24 : k0_chk24 v21 k0_t5 v178 v217), ∀ (k0_h57 : k0_cond57 v217 = 1#1), ∀ a, (k0_off313 v178) a + S1x16x5120.size a ≤ S256x16x5120.size a := fun v21 k0_t5 v178 v217 k0_hw24 k0_h57 => k0_hw24.2.1.2.2.2.2.2.2.1 k0_h57
theorem k0_off313_wordsbf16 : ∀ (v21 : BitVec 32) (k0_t5 : Fin (k0_t5_loop v21).trips) (v178 : BitVec 32) (v217 : BitVec 32) (k0_hw24 : k0_chk24 v21 k0_t5 v178 v217), ∀ (k0_h57 : k0_cond57 v217 = 1#1), (Rect.unit (s := S256x16x5120) (k0_off313 v178) S1x16x5120.size (k0_off313_inb v21 k0_t5 v178 v217 k0_hw24 k0_h57)).WholeWords (EltTy.packing .bf16) := fun v21 k0_t5 v178 v217 k0_hw24 k0_h57 => k0_hw24.2.1.2.2.2.2.2.2.2.1 k0_h57 (k0_off313_inb v21 k0_t5 v178 v217 k0_hw24 k0_h57)
theorem k0_off312_wordsbf16 : ∀ (v21 : BitVec 32) (k0_t5 : Fin (k0_t5_loop v21).trips) (v178 : BitVec 32) (v217 : BitVec 32) (k0_hw24 : k0_chk24 v21 k0_t5 v178 v217), ∀ (k0_h57 : k0_cond57 v217 = 1#1), (Rect.unit (s := S4x8x16x5120) (k0_off312 v21 k0_t5) S1x1x16x5120.size (k0_off312_inb v21 k0_t5 v178 v217 k0_hw24 k0_h57)).WholeWords (EltTy.packing .bf16) := fun v21 k0_t5 v178 v217 k0_hw24 k0_h57 => k0_hw24.2.1.2.2.2.2.2.2.2.2.1 k0_h57 (k0_off312_inb v21 k0_t5 v178 v217 k0_hw24 k0_h57)
theorem k0_off314_inb : ∀ (v21 : BitVec 32) (k0_t5 : Fin (k0_t5_loop v21).trips) (v178 : BitVec 32) (v217 : BitVec 32) (k0_hw24 : k0_chk24 v21 k0_t5 v178 v217), ∀ (k0_h57 : k0_cond57 v217 = 1#1), ∀ a, (k0_off314 v21 k0_t5) a + S1x1x16x768.size a ≤ S4x8x16x768.size a := fun v21 k0_t5 v178 v217 k0_hw24 k0_h57 => k0_hw24.2.1.2.2.2.2.2.2.2.2.2.1 k0_h57
theorem k0_off315_inb : ∀ (v21 : BitVec 32) (k0_t5 : Fin (k0_t5_loop v21).trips) (v178 : BitVec 32) (v217 : BitVec 32) (k0_hw24 : k0_chk24 v21 k0_t5 v178 v217), ∀ (k0_h57 : k0_cond57 v217 = 1#1), ∀ a, (k0_off315 v178) a + S1x16x768.size a ≤ S256x16x768.size a := fun v21 k0_t5 v178 v217 k0_hw24 k0_h57 => k0_hw24.2.1.2.2.2.2.2.2.2.2.2.2.1 k0_h57
theorem k0_off315_wordsbf16 : ∀ (v21 : BitVec 32) (k0_t5 : Fin (k0_t5_loop v21).trips) (v178 : BitVec 32) (v217 : BitVec 32) (k0_hw24 : k0_chk24 v21 k0_t5 v178 v217), ∀ (k0_h57 : k0_cond57 v217 = 1#1), (Rect.unit (s := S256x16x768) (k0_off315 v178) S1x16x768.size (k0_off315_inb v21 k0_t5 v178 v217 k0_hw24 k0_h57)).WholeWords (EltTy.packing .bf16) := fun v21 k0_t5 v178 v217 k0_hw24 k0_h57 => k0_hw24.2.1.2.2.2.2.2.2.2.2.2.2.2.1 k0_h57 (k0_off315_inb v21 k0_t5 v178 v217 k0_hw24 k0_h57)
theorem k0_off314_wordsbf16 : ∀ (v21 : BitVec 32) (k0_t5 : Fin (k0_t5_loop v21).trips) (v178 : BitVec 32) (v217 : BitVec 32) (k0_hw24 : k0_chk24 v21 k0_t5 v178 v217), ∀ (k0_h57 : k0_cond57 v217 = 1#1), (Rect.unit (s := S4x8x16x768) (k0_off314 v21 k0_t5) S1x1x16x768.size (k0_off314_inb v21 k0_t5 v178 v217 k0_hw24 k0_h57)).WholeWords (EltTy.packing .bf16) := fun v21 k0_t5 v178 v217 k0_hw24 k0_h57 => k0_hw24.2.1.2.2.2.2.2.2.2.2.2.2.2.2.1 k0_h57 (k0_off314_inb v21 k0_t5 v178 v217 k0_hw24 k0_h57)
theorem k0_off316_inb : ∀ (v21 : BitVec 32) (k0_t5 : Fin (k0_t5_loop v21).trips) (v178 : BitVec 32) (v217 : BitVec 32) (k0_hw24 : k0_chk24 v21 k0_t5 v178 v217), ∀ (k0_h58 : k0_cond58 v217 = 1#1), ∀ a, (k0_off316 v21 k0_t5) a + S1.size a ≤ S4.size a := fun v21 k0_t5 v178 v217 k0_hw24 k0_h58 => k0_hw24.2.1.2.2.2.2.2.2.2.2.2.2.2.2.2.1 k0_h58
theorem k0_off317_inb : ∀ (v21 : BitVec 32) (k0_t5 : Fin (k0_t5_loop v21).trips) (v178 : BitVec 32) (v217 : BitVec 32) (k0_hw24 : k0_chk24 v21 k0_t5 v178 v217), ∀ (k0_h58 : k0_cond58 v217 = 1#1), ∀ a, (k0_off317 v21 k0_t5) a + S1x1x16x5120.size a ≤ S4x8x16x5120.size a := fun v21 k0_t5 v178 v217 k0_hw24 k0_h58 => k0_hw24.2.1.2.2.2.2.2.2.2.2.2.2.2.2.2.2.1 k0_h58
theorem k0_off318_inb : ∀ (v21 : BitVec 32) (k0_t5 : Fin (k0_t5_loop v21).trips) (v178 : BitVec 32) (v217 : BitVec 32) (k0_hw24 : k0_chk24 v21 k0_t5 v178 v217), ∀ (k0_h58 : k0_cond58 v217 = 1#1), ∀ a, (k0_off318 v178) a + S1x16x5120.size a ≤ S256x16x5120.size a := fun v21 k0_t5 v178 v217 k0_hw24 k0_h58 => k0_hw24.2.1.2.2.2.2.2.2.2.2.2.2.2.2.2.2.2.1 k0_h58
theorem k0_off318_wordsbf16 : ∀ (v21 : BitVec 32) (k0_t5 : Fin (k0_t5_loop v21).trips) (v178 : BitVec 32) (v217 : BitVec 32) (k0_hw24 : k0_chk24 v21 k0_t5 v178 v217), ∀ (k0_h58 : k0_cond58 v217 = 1#1), (Rect.unit (s := S256x16x5120) (k0_off318 v178) S1x16x5120.size (k0_off318_inb v21 k0_t5 v178 v217 k0_hw24 k0_h58)).WholeWords (EltTy.packing .bf16) := fun v21 k0_t5 v178 v217 k0_hw24 k0_h58 => k0_hw24.2.1.2.2.2.2.2.2.2.2.2.2.2.2.2.2.2.2.1 k0_h58 (k0_off318_inb v21 k0_t5 v178 v217 k0_hw24 k0_h58)
theorem k0_off317_wordsbf16 : ∀ (v21 : BitVec 32) (k0_t5 : Fin (k0_t5_loop v21).trips) (v178 : BitVec 32) (v217 : BitVec 32) (k0_hw24 : k0_chk24 v21 k0_t5 v178 v217), ∀ (k0_h58 : k0_cond58 v217 = 1#1), (Rect.unit (s := S4x8x16x5120) (k0_off317 v21 k0_t5) S1x1x16x5120.size (k0_off317_inb v21 k0_t5 v178 v217 k0_hw24 k0_h58)).WholeWords (EltTy.packing .bf16) := fun v21 k0_t5 v178 v217 k0_hw24 k0_h58 => k0_hw24.2.1.2.2.2.2.2.2.2.2.2.2.2.2.2.2.2.2.2.1 k0_h58 (k0_off317_inb v21 k0_t5 v178 v217 k0_hw24 k0_h58)
theorem k0_off319_inb : ∀ (v21 : BitVec 32) (k0_t5 : Fin (k0_t5_loop v21).trips) (v178 : BitVec 32) (v217 : BitVec 32) (k0_hw24 : k0_chk24 v21 k0_t5 v178 v217), ∀ (k0_h58 : k0_cond58 v217 = 1#1), ∀ a, (k0_off319 v21 k0_t5) a + S1x1x16x768.size a ≤ S4x8x16x768.size a := fun v21 k0_t5 v178 v217 k0_hw24 k0_h58 => k0_hw24.2.1.2.2.2.2.2.2.2.2.2.2.2.2.2.2.2.2.2.2.1 k0_h58
theorem k0_off320_inb : ∀ (v21 : BitVec 32) (k0_t5 : Fin (k0_t5_loop v21).trips) (v178 : BitVec 32) (v217 : BitVec 32) (k0_hw24 : k0_chk24 v21 k0_t5 v178 v217), ∀ (k0_h58 : k0_cond58 v217 = 1#1), ∀ a, (k0_off320 v178) a + S1x16x768.size a ≤ S256x16x768.size a := fun v21 k0_t5 v178 v217 k0_hw24 k0_h58 => k0_hw24.2.1.2.2.2.2.2.2.2.2.2.2.2.2.2.2.2.2.2.2.2.1 k0_h58
theorem k0_off320_wordsbf16 : ∀ (v21 : BitVec 32) (k0_t5 : Fin (k0_t5_loop v21).trips) (v178 : BitVec 32) (v217 : BitVec 32) (k0_hw24 : k0_chk24 v21 k0_t5 v178 v217), ∀ (k0_h58 : k0_cond58 v217 = 1#1), (Rect.unit (s := S256x16x768) (k0_off320 v178) S1x16x768.size (k0_off320_inb v21 k0_t5 v178 v217 k0_hw24 k0_h58)).WholeWords (EltTy.packing .bf16) := fun v21 k0_t5 v178 v217 k0_hw24 k0_h58 => k0_hw24.2.1.2.2.2.2.2.2.2.2.2.2.2.2.2.2.2.2.2.2.2.2.1 k0_h58 (k0_off320_inb v21 k0_t5 v178 v217 k0_hw24 k0_h58)
theorem k0_off319_wordsbf16 : ∀ (v21 : BitVec 32) (k0_t5 : Fin (k0_t5_loop v21).trips) (v178 : BitVec 32) (v217 : BitVec 32) (k0_hw24 : k0_chk24 v21 k0_t5 v178 v217), ∀ (k0_h58 : k0_cond58 v217 = 1#1), (Rect.unit (s := S4x8x16x768) (k0_off319 v21 k0_t5) S1x1x16x768.size (k0_off319_inb v21 k0_t5 v178 v217 k0_hw24 k0_h58)).WholeWords (EltTy.packing .bf16) := fun v21 k0_t5 v178 v217 k0_hw24 k0_h58 => k0_hw24.2.1.2.2.2.2.2.2.2.2.2.2.2.2.2.2.2.2.2.2.2.2.2.1 k0_h58 (k0_off319_inb v21 k0_t5 v178 v217 k0_hw24 k0_h58)
theorem k0_off321_inb : ∀ (v21 : BitVec 32) (k0_t5 : Fin (k0_t5_loop v21).trips) (v178 : BitVec 32) (v217 : BitVec 32) (k0_hw24 : k0_chk24 v21 k0_t5 v178 v217), ∀ (k0_h59 : k0_cond59 v217 = 1#1), ∀ a, (k0_off321 v21 k0_t5) a + S1.size a ≤ S4.size a := fun v21 k0_t5 v178 v217 k0_hw24 k0_h59 => k0_hw24.2.1.2.2.2.2.2.2.2.2.2.2.2.2.2.2.2.2.2.2.2.2.2.2.1 k0_h59
theorem k0_off322_inb : ∀ (v21 : BitVec 32) (k0_t5 : Fin (k0_t5_loop v21).trips) (v178 : BitVec 32) (v217 : BitVec 32) (k0_hw24 : k0_chk24 v21 k0_t5 v178 v217), ∀ (k0_h59 : k0_cond59 v217 = 1#1), ∀ a, (k0_off322 v21 k0_t5) a + S1x1x16x5120.size a ≤ S4x8x16x5120.size a := fun v21 k0_t5 v178 v217 k0_hw24 k0_h59 => k0_hw24.2.1.2.2.2.2.2.2.2.2.2.2.2.2.2.2.2.2.2.2.2.2.2.2.2.1 k0_h59
theorem k0_off323_inb : ∀ (v21 : BitVec 32) (k0_t5 : Fin (k0_t5_loop v21).trips) (v178 : BitVec 32) (v217 : BitVec 32) (k0_hw24 : k0_chk24 v21 k0_t5 v178 v217), ∀ (k0_h59 : k0_cond59 v217 = 1#1), ∀ a, (k0_off323 v178) a + S1x16x5120.size a ≤ S256x16x5120.size a := fun v21 k0_t5 v178 v217 k0_hw24 k0_h59 => k0_hw24.2.1.2.2.2.2.2.2.2.2.2.2.2.2.2.2.2.2.2.2.2.2.2.2.2.2.1 k0_h59
theorem k0_off323_wordsbf16 : ∀ (v21 : BitVec 32) (k0_t5 : Fin (k0_t5_loop v21).trips) (v178 : BitVec 32) (v217 : BitVec 32) (k0_hw24 : k0_chk24 v21 k0_t5 v178 v217), ∀ (k0_h59 : k0_cond59 v217 = 1#1), (Rect.unit (s := S256x16x5120) (k0_off323 v178) S1x16x5120.size (k0_off323_inb v21 k0_t5 v178 v217 k0_hw24 k0_h59)).WholeWords (EltTy.packing .bf16) := fun v21 k0_t5 v178 v217 k0_hw24 k0_h59 => k0_hw24.2.1.2.2.2.2.2.2.2.2.2.2.2.2.2.2.2.2.2.2.2.2.2.2.2.2.2.1 k0_h59 (k0_off323_inb v21 k0_t5 v178 v217 k0_hw24 k0_h59)
theorem k0_off322_wordsbf16 : ∀ (v21 : BitVec 32) (k0_t5 : Fin (k0_t5_loop v21).trips) (v178 : BitVec 32) (v217 : BitVec 32) (k0_hw24 : k0_chk24 v21 k0_t5 v178 v217), ∀ (k0_h59 : k0_cond59 v217 = 1#1), (Rect.unit (s := S4x8x16x5120) (k0_off322 v21 k0_t5) S1x1x16x5120.size (k0_off322_inb v21 k0_t5 v178 v217 k0_hw24 k0_h59)).WholeWords (EltTy.packing .bf16) := fun v21 k0_t5 v178 v217 k0_hw24 k0_h59 => k0_hw24.2.1.2.2.2.2.2.2.2.2.2.2.2.2.2.2.2.2.2.2.2.2.2.2.2.2.2.2.1 k0_h59 (k0_off322_inb v21 k0_t5 v178 v217 k0_hw24 k0_h59)
theorem k0_off324_inb : ∀ (v21 : BitVec 32) (k0_t5 : Fin (k0_t5_loop v21).trips) (v178 : BitVec 32) (v217 : BitVec 32) (k0_hw24 : k0_chk24 v21 k0_t5 v178 v217), ∀ (k0_h59 : k0_cond59 v217 = 1#1), ∀ a, (k0_off324 v21 k0_t5) a + S1x1x16x768.size a ≤ S4x8x16x768.size a := fun v21 k0_t5 v178 v217 k0_hw24 k0_h59 => k0_hw24.2.1.2.2.2.2.2.2.2.2.2.2.2.2.2.2.2.2.2.2.2.2.2.2.2.2.2.2.2.1 k0_h59
theorem k0_off325_inb : ∀ (v21 : BitVec 32) (k0_t5 : Fin (k0_t5_loop v21).trips) (v178 : BitVec 32) (v217 : BitVec 32) (k0_hw24 : k0_chk24 v21 k0_t5 v178 v217), ∀ (k0_h59 : k0_cond59 v217 = 1#1), ∀ a, (k0_off325 v178) a + S1x16x768.size a ≤ S256x16x768.size a := fun v21 k0_t5 v178 v217 k0_hw24 k0_h59 => k0_hw24.2.1.2.2.2.2.2.2.2.2.2.2.2.2.2.2.2.2.2.2.2.2.2.2.2.2.2.2.2.2.1 k0_h59
theorem k0_off325_wordsbf16 : ∀ (v21 : BitVec 32) (k0_t5 : Fin (k0_t5_loop v21).trips) (v178 : BitVec 32) (v217 : BitVec 32) (k0_hw24 : k0_chk24 v21 k0_t5 v178 v217), ∀ (k0_h59 : k0_cond59 v217 = 1#1), (Rect.unit (s := S256x16x768) (k0_off325 v178) S1x16x768.size (k0_off325_inb v21 k0_t5 v178 v217 k0_hw24 k0_h59)).WholeWords (EltTy.packing .bf16) := fun v21 k0_t5 v178 v217 k0_hw24 k0_h59 => k0_hw24.2.1.2.2.2.2.2.2.2.2.2.2.2.2.2.2.2.2.2.2.2.2.2.2.2.2.2.2.2.2.2.1 k0_h59 (k0_off325_inb v21 k0_t5 v178 v217 k0_hw24 k0_h59)
theorem k0_off324_wordsbf16 : ∀ (v21 : BitVec 32) (k0_t5 : Fin (k0_t5_loop v21).trips) (v178 : BitVec 32) (v217 : BitVec 32) (k0_hw24 : k0_chk24 v21 k0_t5 v178 v217), ∀ (k0_h59 : k0_cond59 v217 = 1#1), (Rect.unit (s := S4x8x16x768) (k0_off324 v21 k0_t5) S1x1x16x768.size (k0_off324_inb v21 k0_t5 v178 v217 k0_hw24 k0_h59)).WholeWords (EltTy.packing .bf16) := fun v21 k0_t5 v178 v217 k0_hw24 k0_h59 => k0_hw24.2.1.2.2.2.2.2.2.2.2.2.2.2.2.2.2.2.2.2.2.2.2.2.2.2.2.2.2.2.2.2.2.1 k0_h59 (k0_off324_inb v21 k0_t5 v178 v217 k0_hw24 k0_h59)
theorem k0_off326_inb : ∀ (v21 : BitVec 32) (k0_t5 : Fin (k0_t5_loop v21).trips) (v178 : BitVec 32) (v217 : BitVec 32) (k0_hw24 : k0_chk24 v21 k0_t5 v178 v217), ∀ (k0_h60 : k0_cond60 v217 = 1#1), ∀ a, (k0_off326 v21 k0_t5) a + S1.size a ≤ S4.size a := fun v21 k0_t5 v178 v217 k0_hw24 k0_h60 => k0_hw24.2.1.2.2.2.2.2.2.2.2.2.2.2.2.2.2.2.2.2.2.2.2.2.2.2.2.2.2.2.2.2.2.2 k0_h60
theorem k0_off327_inb : ∀ (v21 : BitVec 32) (k0_t5 : Fin (k0_t5_loop v21).trips) (v178 : BitVec 32) (v217 : BitVec 32) (k0_hw24 : k0_chk24 v21 k0_t5 v178 v217), ∀ (k0_h60 : k0_cond60 v217 = 1#1), ∀ a, (k0_off327 v21 k0_t5) a + S1x1x16x5120.size a ≤ S4x8x16x5120.size a := fun v21 k0_t5 v178 v217 k0_hw24 k0_h60 => k0_hw24.2.2.1 k0_h60
theorem k0_off328_inb : ∀ (v21 : BitVec 32) (k0_t5 : Fin (k0_t5_loop v21).trips) (v178 : BitVec 32) (v217 : BitVec 32) (k0_hw24 : k0_chk24 v21 k0_t5 v178 v217), ∀ (k0_h60 : k0_cond60 v217 = 1#1), ∀ a, (k0_off328 v178) a + S1x16x5120.size a ≤ S256x16x5120.size a := fun v21 k0_t5 v178 v217 k0_hw24 k0_h60 => k0_hw24.2.2.2.1 k0_h60
theorem k0_off328_wordsbf16 : ∀ (v21 : BitVec 32) (k0_t5 : Fin (k0_t5_loop v21).trips) (v178 : BitVec 32) (v217 : BitVec 32) (k0_hw24 : k0_chk24 v21 k0_t5 v178 v217), ∀ (k0_h60 : k0_cond60 v217 = 1#1), (Rect.unit (s := S256x16x5120) (k0_off328 v178) S1x16x5120.size (k0_off328_inb v21 k0_t5 v178 v217 k0_hw24 k0_h60)).WholeWords (EltTy.packing .bf16) := fun v21 k0_t5 v178 v217 k0_hw24 k0_h60 => k0_hw24.2.2.2.2.1 k0_h60 (k0_off328_inb v21 k0_t5 v178 v217 k0_hw24 k0_h60)
theorem k0_off327_wordsbf16 : ∀ (v21 : BitVec 32) (k0_t5 : Fin (k0_t5_loop v21).trips) (v178 : BitVec 32) (v217 : BitVec 32) (k0_hw24 : k0_chk24 v21 k0_t5 v178 v217), ∀ (k0_h60 : k0_cond60 v217 = 1#1), (Rect.unit (s := S4x8x16x5120) (k0_off327 v21 k0_t5) S1x1x16x5120.size (k0_off327_inb v21 k0_t5 v178 v217 k0_hw24 k0_h60)).WholeWords (EltTy.packing .bf16) := fun v21 k0_t5 v178 v217 k0_hw24 k0_h60 => k0_hw24.2.2.2.2.2.1 k0_h60 (k0_off327_inb v21 k0_t5 v178 v217 k0_hw24 k0_h60)
theorem k0_off329_inb : ∀ (v21 : BitVec 32) (k0_t5 : Fin (k0_t5_loop v21).trips) (v178 : BitVec 32) (v217 : BitVec 32) (k0_hw24 : k0_chk24 v21 k0_t5 v178 v217), ∀ (k0_h60 : k0_cond60 v217 = 1#1), ∀ a, (k0_off329 v21 k0_t5) a + S1x1x16x768.size a ≤ S4x8x16x768.size a := fun v21 k0_t5 v178 v217 k0_hw24 k0_h60 => k0_hw24.2.2.2.2.2.2.1 k0_h60
theorem k0_off330_inb : ∀ (v21 : BitVec 32) (k0_t5 : Fin (k0_t5_loop v21).trips) (v178 : BitVec 32) (v217 : BitVec 32) (k0_hw24 : k0_chk24 v21 k0_t5 v178 v217), ∀ (k0_h60 : k0_cond60 v217 = 1#1), ∀ a, (k0_off330 v178) a + S1x16x768.size a ≤ S256x16x768.size a := fun v21 k0_t5 v178 v217 k0_hw24 k0_h60 => k0_hw24.2.2.2.2.2.2.2.1 k0_h60
theorem k0_off330_wordsbf16 : ∀ (v21 : BitVec 32) (k0_t5 : Fin (k0_t5_loop v21).trips) (v178 : BitVec 32) (v217 : BitVec 32) (k0_hw24 : k0_chk24 v21 k0_t5 v178 v217), ∀ (k0_h60 : k0_cond60 v217 = 1#1), (Rect.unit (s := S256x16x768) (k0_off330 v178) S1x16x768.size (k0_off330_inb v21 k0_t5 v178 v217 k0_hw24 k0_h60)).WholeWords (EltTy.packing .bf16) := fun v21 k0_t5 v178 v217 k0_hw24 k0_h60 => k0_hw24.2.2.2.2.2.2.2.2.1 k0_h60 (k0_off330_inb v21 k0_t5 v178 v217 k0_hw24 k0_h60)
theorem k0_off329_wordsbf16 : ∀ (v21 : BitVec 32) (k0_t5 : Fin (k0_t5_loop v21).trips) (v178 : BitVec 32) (v217 : BitVec 32) (k0_hw24 : k0_chk24 v21 k0_t5 v178 v217), ∀ (k0_h60 : k0_cond60 v217 = 1#1), (Rect.unit (s := S4x8x16x768) (k0_off329 v21 k0_t5) S1x1x16x768.size (k0_off329_inb v21 k0_t5 v178 v217 k0_hw24 k0_h60)).WholeWords (EltTy.packing .bf16) := fun v21 k0_t5 v178 v217 k0_hw24 k0_h60 => k0_hw24.2.2.2.2.2.2.2.2.2 k0_h60 (k0_off329_inb v21 k0_t5 v178 v217 k0_hw24 k0_h60)

def k0_off331 (v21 : BitVec 32) (k0_t5 : Fin (k0_t5_loop v21).trips) : Fin 4 → Nat :=
  let c0_i32_94 : BitVec 32 := 0#32
  let v167 : BitVec 32 := Scalar.subi v21 c0_i32_94
  let c1_i32_96 : BitVec 32 := 1#32
  let v169 : BitVec 32 := Scalar.divsi v167 c1_i32_96
  let v170 : BitVec 32 := Scalar.muli v169 c1_i32_96
  let v171 : BitVec 32 := Scalar.addi c0_i32_94 v170
  let c1_i32_98 : BitVec 32 := 1#32
  let arg27 : BitVec 32 := Scf.iv v171 c1_i32_98 k0_t5
  let c4_i32_103 : BitVec 32 := 4#32
  let v179 : BitVec 32 := Scalar.remsi arg27 c4_i32_103
  let v258 : Index := Scalar.indexCast v179
  let c0_157 : Index := 0#32
  let c0_158 : Index := 0#32
  let c0_159 : Index := 0#32
  ![v258.toNat, 0, 0, 0]
def k0_off332 (v21 : BitVec 32) (k0_t5 : Fin (k0_t5_loop v21).trips) : Fin 4 → Nat :=
  let c0_i32_94 : BitVec 32 := 0#32
  let v167 : BitVec 32 := Scalar.subi v21 c0_i32_94
  let c1_i32_96 : BitVec 32 := 1#32
  let v169 : BitVec 32 := Scalar.divsi v167 c1_i32_96
  let v170 : BitVec 32 := Scalar.muli v169 c1_i32_96
  let v171 : BitVec 32 := Scalar.addi c0_i32_94 v170
  let c1_i32_98 : BitVec 32 := 1#32
  let arg27 : BitVec 32 := Scf.iv v171 c1_i32_98 k0_t5
  let c4_i32_103 : BitVec 32 := 4#32
  let v179 : BitVec 32 := Scalar.remsi arg27 c4_i32_103
  let v262 : Index := Scalar.indexCast v179
  let c0_160 : Index := 0#32
  let c0_161 : Index := 0#32
  let c0_162 : Index := 0#32
  ![v262.toNat, 0, 0, 0]
def k0_off333 (v21 : BitVec 32) (k0_t5 : Fin (k0_t5_loop v21).trips) : Fin 1 → Nat :=
  let c0_i32_94 : BitVec 32 := 0#32
  let v167 : BitVec 32 := Scalar.subi v21 c0_i32_94
  let c1_i32_96 : BitVec 32 := 1#32
  let v169 : BitVec 32 := Scalar.divsi v167 c1_i32_96
  let v170 : BitVec 32 := Scalar.muli v169 c1_i32_96
  let v171 : BitVec 32 := Scalar.addi c0_i32_94 v170
  let c1_i32_98 : BitVec 32 := 1#32
  let arg27 : BitVec 32 := Scf.iv v171 c1_i32_98 k0_t5
  let c4_i32_103 : BitVec 32 := 4#32
  let v179 : BitVec 32 := Scalar.remsi arg27 c4_i32_103
  ![v179.toNat]
def k0_off334 (v21 : BitVec 32) (k0_t5 : Fin (k0_t5_loop v21).trips) : Fin 3 → Nat :=
  let c0_i32_94 : BitVec 32 := 0#32
  let v167 : BitVec 32 := Scalar.subi v21 c0_i32_94
  let c1_i32_96 : BitVec 32 := 1#32
  let v169 : BitVec 32 := Scalar.divsi v167 c1_i32_96
  let v170 : BitVec 32 := Scalar.muli v169 c1_i32_96
  let v171 : BitVec 32 := Scalar.addi c0_i32_94 v170
  let c1_i32_98 : BitVec 32 := 1#32
  let arg27 : BitVec 32 := Scf.iv v171 c1_i32_98 k0_t5
  let c4_i32_103 : BitVec 32 := 4#32
  let v179 : BitVec 32 := Scalar.remsi arg27 c4_i32_103
  let c0_i32_186 : BitVec 32 := 0#32
  let c0_i32_187 : BitVec 32 := 0#32
  ![v179.toNat, 0, 0]
def k0_off335 (v178 : BitVec 32) : Fin 3 → Nat :=
  let c0_i32_188 : BitVec 32 := 0#32
  let c0_i32_189 : BitVec 32 := 0#32
  ![v178.toNat, 0, 0]
def k0_off336 (v21 : BitVec 32) (k0_t5 : Fin (k0_t5_loop v21).trips) : Fin 3 → Nat :=
  let c0_i32_94 : BitVec 32 := 0#32
  let v167 : BitVec 32 := Scalar.subi v21 c0_i32_94
  let c1_i32_96 : BitVec 32 := 1#32
  let v169 : BitVec 32 := Scalar.divsi v167 c1_i32_96
  let v170 : BitVec 32 := Scalar.muli v169 c1_i32_96
  let v171 : BitVec 32 := Scalar.addi c0_i32_94 v170
  let c1_i32_98 : BitVec 32 := 1#32
  let arg27 : BitVec 32 := Scf.iv v171 c1_i32_98 k0_t5
  let c4_i32_103 : BitVec 32 := 4#32
  let v179 : BitVec 32 := Scalar.remsi arg27 c4_i32_103
  let v333 : Index := Scalar.indexCast v179
  let c0_190 : Index := 0#32
  let c0_191 : Index := 0#32
  ![v333.toNat, 0, 0]

def k0_chk16_0 (v21 : BitVec 32) : Prop :=
  ((k0_t4_loop v21).OK) ∧
  (∀ k0_t4 : Fin (k0_t4_loop v21).trips, ∀ a, (k0_off134 v21 k0_t4) a + S1.size a ≤ S33.size a) ∧
  (∀ k0_t4 : Fin (k0_t4_loop v21).trips, ∀ (k0_h27 : k0_cond27 v21 k0_t4 = 1#1), ∀ a, (k0_off135 v21 k0_t4) a + S1.size a ≤ S33.size a) ∧
  (∀ k0_t4 : Fin (k0_t4_loop v21).trips, ∀ (k0_h27 : k0_cond27 v21 k0_t4 = 1#1), ∀ a, (k0_off136 v21 k0_t4) a + S1.size a ≤ S4.size a) ∧
  (∀ k0_t4 : Fin (k0_t4_loop v21).trips, ∀ (k0_h27 : k0_cond27 v21 k0_t4 = 1#1), ∀ a, (k0_off137 v21 k0_t4) a + S1x5120x768.size a ≤ S4x5120x768.size a) ∧
  (∀ k0_t4 : Fin (k0_t4_loop v21).trips, ∀ (k0_h27 : k0_cond27 v21 k0_t4 = 1#1), ∀ (hinb : ∀ a, (k0_off137 v21 k0_t4) a + S1x5120x768.size a ≤ S4x5120x768.size a), (Rect.unit (s := S4x5120x768) (k0_off137 v21 k0_t4) S1x5120x768.size hinb).WholeWords (EltTy.packing .fp8e4m3)) ∧
  (∀ k0_t4 : Fin (k0_t4_loop v21).trips, ∀ (k0_h27 : k0_cond27 v21 k0_t4 = 1#1), ∀ a, (k0_off180 v21 k0_t4) a + S1.size a ≤ S4.size a) ∧
  (∀ k0_t4 : Fin (k0_t4_loop v21).trips, ∀ (k0_h27 : k0_cond27 v21 k0_t4 = 1#1), ∀ a, (k0_off181 v21 k0_t4) a + S1x768x5120.size a ≤ S4x768x5120.size a) ∧
  (∀ k0_t4 : Fin (k0_t4_loop v21).trips, ∀ (k0_h27 : k0_cond27 v21 k0_t4 = 1#1), ∀ (hinb : ∀ a, (k0_off181 v21 k0_t4) a + S1x768x5120.size a ≤ S4x768x5120.size a), (Rect.unit (s := S4x768x5120) (k0_off181 v21 k0_t4) S1x768x5120.size hinb).WholeWords (EltTy.packing .fp8e4m3)) ∧
  (∀ k0_t4 : Fin (k0_t4_loop v21).trips, ∀ a, (k0_off183 v21 k0_t4) a + S1.size a ≤ S4.size a) ∧
  (∀ k0_t4 : Fin (k0_t4_loop v21).trips, ∀ a, (k0_off184 v21 k0_t4) a + S1x5120x768.size a ≤ S4x5120x768.size a) ∧
  (∀ k0_t4 : Fin (k0_t4_loop v21).trips, ∀ (hinb : ∀ a, (k0_off184 v21 k0_t4) a + S1x5120x768.size a ≤ S4x5120x768.size a), (Rect.unit (s := S4x5120x768) (k0_off184 v21 k0_t4) S1x5120x768.size hinb).WholeWords (EltTy.packing .fp8e4m3)) ∧
  (∀ k0_t4 : Fin (k0_t4_loop v21).trips, ∀ a, (k0_off186 v21 k0_t4) a + S1x5120x768.size a ≤ S4x5120x768.size a) ∧
  (∀ k0_t4 : Fin (k0_t4_loop v21).trips, ∀ a, (k0_off229 v21 k0_t4) a + S1x8x16x5120.size a ≤ S4x8x16x5120.size a) ∧
  (∀ k0_t4 : Fin (k0_t4_loop v21).trips, ∀ a, (k0_off230 v21 k0_t4) a + S1x8x16x768.size a ≤ S4x8x16x768.size a) ∧
  (∀ k0_t4 : Fin (k0_t4_loop v21).trips, ∀ a, (k0_off231 v21 k0_t4) a + S1.size a ≤ S4.size a) ∧
  (∀ k0_t4 : Fin (k0_t4_loop v21).trips, ∀ a, (k0_off232 v21 k0_t4) a + S1x768x5120.size a ≤ S4x768x5120.size a) ∧
  (∀ k0_t4 : Fin (k0_t4_loop v21).trips, ∀ (hinb : ∀ a, (k0_off232 v21 k0_t4) a + S1x768x5120.size a ≤ S4x768x5120.size a), (Rect.unit (s := S4x768x5120) (k0_off232 v21 k0_t4) S1x768x5120.size hinb).WholeWords (EltTy.packing .fp8e4m3)) ∧
  (∀ k0_t4 : Fin (k0_t4_loop v21).trips, ∀ a, (k0_off234 v21 k0_t4) a + S1x768x5120.size a ≤ S4x768x5120.size a) ∧
  ((k0_t5_loop v21).OK) ∧
  (∀ k0_t5 : Fin (k0_t5_loop v21).trips, ∀ a, (k0_off236 v21 k0_t5) a + S1.size a ≤ S33.size a) ∧
  (∀ k0_t5 : Fin (k0_t5_loop v21).trips, ∀ (k0_h44 : k0_cond44 v21 k0_t5 = 1#1), ∀ a, (k0_off237 v21 k0_t5) a + S1.size a ≤ S33.size a) ∧
  (∀ k0_t5 : Fin (k0_t5_loop v21).trips, ∀ (k0_h44 : k0_cond44 v21 k0_t5 = 1#1), ∀ a, (k0_off238 v21 k0_t5) a + S1.size a ≤ S4.size a) ∧
  (∀ k0_t5 : Fin (k0_t5_loop v21).trips, ∀ (k0_h44 : k0_cond44 v21 k0_t5 = 1#1), ∀ a, (k0_off239 v21 k0_t5) a + S1x5120x768.size a ≤ S4x5120x768.size a) ∧
  (∀ k0_t5 : Fin (k0_t5_loop v21).trips, ∀ (k0_h44 : k0_cond44 v21 k0_t5 = 1#1), ∀ (hinb : ∀ a, (k0_off239 v21 k0_t5) a + S1x5120x768.size a ≤ S4x5120x768.size a), (Rect.unit (s := S4x5120x768) (k0_off239 v21 k0_t5) S1x5120x768.size hinb).WholeWords (EltTy.packing .fp8e4m3)) ∧
  (∀ k0_t5 : Fin (k0_t5_loop v21).trips, ∀ (k0_h44 : k0_cond44 v21 k0_t5 = 1#1), ∀ a, (k0_off282 v21 k0_t5) a + S1.size a ≤ S4.size a) ∧
  (∀ k0_t5 : Fin (k0_t5_loop v21).trips, ∀ (k0_h44 : k0_cond44 v21 k0_t5 = 1#1), ∀ a, (k0_off283 v21 k0_t5) a + S1x768x5120.size a ≤ S4x768x5120.size a) ∧
  (∀ k0_t5 : Fin (k0_t5_loop v21).trips, ∀ (k0_h44 : k0_cond44 v21 k0_t5 = 1#1), ∀ (hinb : ∀ a, (k0_off283 v21 k0_t5) a + S1x768x5120.size a ≤ S4x768x5120.size a), (Rect.unit (s := S4x768x5120) (k0_off283 v21 k0_t5) S1x768x5120.size hinb).WholeWords (EltTy.packing .fp8e4m3)) ∧
  (∀ k0_t5 : Fin (k0_t5_loop v21).trips, ∀ a, (k0_off285 v21 k0_t5) a + S1.size a ≤ S4.size a) ∧
  (∀ k0_t5 : Fin (k0_t5_loop v21).trips, ∀ a, (k0_off286 v21 k0_t5) a + S1x5120x768.size a ≤ S4x5120x768.size a) ∧
  (∀ k0_t5 : Fin (k0_t5_loop v21).trips, ∀ (hinb : ∀ a, (k0_off286 v21 k0_t5) a + S1x5120x768.size a ≤ S4x5120x768.size a), (Rect.unit (s := S4x5120x768) (k0_off286 v21 k0_t5) S1x5120x768.size hinb).WholeWords (EltTy.packing .fp8e4m3)) ∧
  (∀ k0_t5 : Fin (k0_t5_loop v21).trips, ∀ a, (k0_off288 v21 k0_t5) a + S1x5120x768.size a ≤ S4x5120x768.size a)
def k0_chk16_1 (v21 : BitVec 32) : Prop :=
  (∀ k0_t5 : Fin (k0_t5_loop v21).trips, ∀ a, (k0_off331 v21 k0_t5) a + S1x8x16x5120.size a ≤ S4x8x16x5120.size a) ∧
  (∀ k0_t5 : Fin (k0_t5_loop v21).trips, ∀ a, (k0_off332 v21 k0_t5) a + S1x8x16x768.size a ≤ S4x8x16x768.size a) ∧
  (∀ k0_t5 : Fin (k0_t5_loop v21).trips, ∀ a, (k0_off333 v21 k0_t5) a + S1.size a ≤ S4.size a) ∧
  (∀ k0_t5 : Fin (k0_t5_loop v21).trips, ∀ a, (k0_off334 v21 k0_t5) a + S1x768x5120.size a ≤ S4x768x5120.size a) ∧
  (∀ k0_t5 : Fin (k0_t5_loop v21).trips, ∀ (hinb : ∀ a, (k0_off334 v21 k0_t5) a + S1x768x5120.size a ≤ S4x768x5120.size a), (Rect.unit (s := S4x768x5120) (k0_off334 v21 k0_t5) S1x768x5120.size hinb).WholeWords (EltTy.packing .fp8e4m3)) ∧
  (∀ k0_t5 : Fin (k0_t5_loop v21).trips, ∀ a, (k0_off336 v21 k0_t5) a + S1x768x5120.size a ≤ S4x768x5120.size a)
def k0_chk16 (v21 : BitVec 32) : Prop :=
  k0_chk16_0 v21 ∧
  k0_chk16_1 v21
theorem k0_t4_ok : ∀ (v21 : BitVec 32) (k0_hw16 : k0_chk16 v21), (k0_t4_loop v21).OK := fun v21 k0_hw16 => k0_hw16.1.1
theorem k0_off134_inb : ∀ (v21 : BitVec 32) (k0_hw16 : k0_chk16 v21) (k0_t4 : Fin (k0_t4_loop v21).trips), ∀ a, (k0_off134 v21 k0_t4) a + S1.size a ≤ S33.size a := fun v21 k0_hw16 k0_t4 => k0_hw16.1.2.1 k0_t4
theorem k0_off135_inb : ∀ (v21 : BitVec 32) (k0_hw16 : k0_chk16 v21) (k0_t4 : Fin (k0_t4_loop v21).trips), ∀ (k0_h27 : k0_cond27 v21 k0_t4 = 1#1), ∀ a, (k0_off135 v21 k0_t4) a + S1.size a ≤ S33.size a := fun v21 k0_hw16 k0_t4 k0_h27 => k0_hw16.1.2.2.1 k0_t4 k0_h27
theorem k0_off136_inb : ∀ (v21 : BitVec 32) (k0_hw16 : k0_chk16 v21) (k0_t4 : Fin (k0_t4_loop v21).trips), ∀ (k0_h27 : k0_cond27 v21 k0_t4 = 1#1), ∀ a, (k0_off136 v21 k0_t4) a + S1.size a ≤ S4.size a := fun v21 k0_hw16 k0_t4 k0_h27 => k0_hw16.1.2.2.2.1 k0_t4 k0_h27
theorem k0_off137_inb : ∀ (v21 : BitVec 32) (k0_hw16 : k0_chk16 v21) (k0_t4 : Fin (k0_t4_loop v21).trips), ∀ (k0_h27 : k0_cond27 v21 k0_t4 = 1#1), ∀ a, (k0_off137 v21 k0_t4) a + S1x5120x768.size a ≤ S4x5120x768.size a := fun v21 k0_hw16 k0_t4 k0_h27 => k0_hw16.1.2.2.2.2.1 k0_t4 k0_h27
theorem k0_off137_wordsfp8e4m3 : ∀ (v21 : BitVec 32) (k0_hw16 : k0_chk16 v21) (k0_t4 : Fin (k0_t4_loop v21).trips), ∀ (k0_h27 : k0_cond27 v21 k0_t4 = 1#1), (Rect.unit (s := S4x5120x768) (k0_off137 v21 k0_t4) S1x5120x768.size (k0_off137_inb v21 k0_hw16 k0_t4 k0_h27)).WholeWords (EltTy.packing .fp8e4m3) := fun v21 k0_hw16 k0_t4 k0_h27 => k0_hw16.1.2.2.2.2.2.1 k0_t4 k0_h27 (k0_off137_inb v21 k0_hw16 k0_t4 k0_h27)
theorem k0_off180_inb : ∀ (v21 : BitVec 32) (k0_hw16 : k0_chk16 v21) (k0_t4 : Fin (k0_t4_loop v21).trips), ∀ (k0_h27 : k0_cond27 v21 k0_t4 = 1#1), ∀ a, (k0_off180 v21 k0_t4) a + S1.size a ≤ S4.size a := fun v21 k0_hw16 k0_t4 k0_h27 => k0_hw16.1.2.2.2.2.2.2.1 k0_t4 k0_h27
theorem k0_off181_inb : ∀ (v21 : BitVec 32) (k0_hw16 : k0_chk16 v21) (k0_t4 : Fin (k0_t4_loop v21).trips), ∀ (k0_h27 : k0_cond27 v21 k0_t4 = 1#1), ∀ a, (k0_off181 v21 k0_t4) a + S1x768x5120.size a ≤ S4x768x5120.size a := fun v21 k0_hw16 k0_t4 k0_h27 => k0_hw16.1.2.2.2.2.2.2.2.1 k0_t4 k0_h27
theorem k0_off181_wordsfp8e4m3 : ∀ (v21 : BitVec 32) (k0_hw16 : k0_chk16 v21) (k0_t4 : Fin (k0_t4_loop v21).trips), ∀ (k0_h27 : k0_cond27 v21 k0_t4 = 1#1), (Rect.unit (s := S4x768x5120) (k0_off181 v21 k0_t4) S1x768x5120.size (k0_off181_inb v21 k0_hw16 k0_t4 k0_h27)).WholeWords (EltTy.packing .fp8e4m3) := fun v21 k0_hw16 k0_t4 k0_h27 => k0_hw16.1.2.2.2.2.2.2.2.2.1 k0_t4 k0_h27 (k0_off181_inb v21 k0_hw16 k0_t4 k0_h27)
theorem k0_off183_inb : ∀ (v21 : BitVec 32) (k0_hw16 : k0_chk16 v21) (k0_t4 : Fin (k0_t4_loop v21).trips), ∀ a, (k0_off183 v21 k0_t4) a + S1.size a ≤ S4.size a := fun v21 k0_hw16 k0_t4 => k0_hw16.1.2.2.2.2.2.2.2.2.2.1 k0_t4
theorem k0_off184_inb : ∀ (v21 : BitVec 32) (k0_hw16 : k0_chk16 v21) (k0_t4 : Fin (k0_t4_loop v21).trips), ∀ a, (k0_off184 v21 k0_t4) a + S1x5120x768.size a ≤ S4x5120x768.size a := fun v21 k0_hw16 k0_t4 => k0_hw16.1.2.2.2.2.2.2.2.2.2.2.1 k0_t4
theorem k0_off184_wordsfp8e4m3 : ∀ (v21 : BitVec 32) (k0_hw16 : k0_chk16 v21) (k0_t4 : Fin (k0_t4_loop v21).trips), (Rect.unit (s := S4x5120x768) (k0_off184 v21 k0_t4) S1x5120x768.size (k0_off184_inb v21 k0_hw16 k0_t4)).WholeWords (EltTy.packing .fp8e4m3) := fun v21 k0_hw16 k0_t4 => k0_hw16.1.2.2.2.2.2.2.2.2.2.2.2.1 k0_t4 (k0_off184_inb v21 k0_hw16 k0_t4)
theorem k0_off186_inb : ∀ (v21 : BitVec 32) (k0_hw16 : k0_chk16 v21) (k0_t4 : Fin (k0_t4_loop v21).trips), ∀ a, (k0_off186 v21 k0_t4) a + S1x5120x768.size a ≤ S4x5120x768.size a := fun v21 k0_hw16 k0_t4 => k0_hw16.1.2.2.2.2.2.2.2.2.2.2.2.2.1 k0_t4
theorem k0_off229_inb : ∀ (v21 : BitVec 32) (k0_hw16 : k0_chk16 v21) (k0_t4 : Fin (k0_t4_loop v21).trips), ∀ a, (k0_off229 v21 k0_t4) a + S1x8x16x5120.size a ≤ S4x8x16x5120.size a := fun v21 k0_hw16 k0_t4 => k0_hw16.1.2.2.2.2.2.2.2.2.2.2.2.2.2.1 k0_t4
theorem k0_off230_inb : ∀ (v21 : BitVec 32) (k0_hw16 : k0_chk16 v21) (k0_t4 : Fin (k0_t4_loop v21).trips), ∀ a, (k0_off230 v21 k0_t4) a + S1x8x16x768.size a ≤ S4x8x16x768.size a := fun v21 k0_hw16 k0_t4 => k0_hw16.1.2.2.2.2.2.2.2.2.2.2.2.2.2.2.1 k0_t4
theorem k0_off231_inb : ∀ (v21 : BitVec 32) (k0_hw16 : k0_chk16 v21) (k0_t4 : Fin (k0_t4_loop v21).trips), ∀ a, (k0_off231 v21 k0_t4) a + S1.size a ≤ S4.size a := fun v21 k0_hw16 k0_t4 => k0_hw16.1.2.2.2.2.2.2.2.2.2.2.2.2.2.2.2.1 k0_t4
theorem k0_off232_inb : ∀ (v21 : BitVec 32) (k0_hw16 : k0_chk16 v21) (k0_t4 : Fin (k0_t4_loop v21).trips), ∀ a, (k0_off232 v21 k0_t4) a + S1x768x5120.size a ≤ S4x768x5120.size a := fun v21 k0_hw16 k0_t4 => k0_hw16.1.2.2.2.2.2.2.2.2.2.2.2.2.2.2.2.2.1 k0_t4
theorem k0_off232_wordsfp8e4m3 : ∀ (v21 : BitVec 32) (k0_hw16 : k0_chk16 v21) (k0_t4 : Fin (k0_t4_loop v21).trips), (Rect.unit (s := S4x768x5120) (k0_off232 v21 k0_t4) S1x768x5120.size (k0_off232_inb v21 k0_hw16 k0_t4)).WholeWords (EltTy.packing .fp8e4m3) := fun v21 k0_hw16 k0_t4 => k0_hw16.1.2.2.2.2.2.2.2.2.2.2.2.2.2.2.2.2.2.1 k0_t4 (k0_off232_inb v21 k0_hw16 k0_t4)
theorem k0_off234_inb : ∀ (v21 : BitVec 32) (k0_hw16 : k0_chk16 v21) (k0_t4 : Fin (k0_t4_loop v21).trips), ∀ a, (k0_off234 v21 k0_t4) a + S1x768x5120.size a ≤ S4x768x5120.size a := fun v21 k0_hw16 k0_t4 => k0_hw16.1.2.2.2.2.2.2.2.2.2.2.2.2.2.2.2.2.2.2.1 k0_t4
theorem k0_t5_ok : ∀ (v21 : BitVec 32) (k0_hw16 : k0_chk16 v21), (k0_t5_loop v21).OK := fun v21 k0_hw16 => k0_hw16.1.2.2.2.2.2.2.2.2.2.2.2.2.2.2.2.2.2.2.2.1
theorem k0_off236_inb : ∀ (v21 : BitVec 32) (k0_hw16 : k0_chk16 v21) (k0_t5 : Fin (k0_t5_loop v21).trips), ∀ a, (k0_off236 v21 k0_t5) a + S1.size a ≤ S33.size a := fun v21 k0_hw16 k0_t5 => k0_hw16.1.2.2.2.2.2.2.2.2.2.2.2.2.2.2.2.2.2.2.2.2.1 k0_t5
theorem k0_off237_inb : ∀ (v21 : BitVec 32) (k0_hw16 : k0_chk16 v21) (k0_t5 : Fin (k0_t5_loop v21).trips), ∀ (k0_h44 : k0_cond44 v21 k0_t5 = 1#1), ∀ a, (k0_off237 v21 k0_t5) a + S1.size a ≤ S33.size a := fun v21 k0_hw16 k0_t5 k0_h44 => k0_hw16.1.2.2.2.2.2.2.2.2.2.2.2.2.2.2.2.2.2.2.2.2.2.1 k0_t5 k0_h44
theorem k0_off238_inb : ∀ (v21 : BitVec 32) (k0_hw16 : k0_chk16 v21) (k0_t5 : Fin (k0_t5_loop v21).trips), ∀ (k0_h44 : k0_cond44 v21 k0_t5 = 1#1), ∀ a, (k0_off238 v21 k0_t5) a + S1.size a ≤ S4.size a := fun v21 k0_hw16 k0_t5 k0_h44 => k0_hw16.1.2.2.2.2.2.2.2.2.2.2.2.2.2.2.2.2.2.2.2.2.2.2.1 k0_t5 k0_h44
theorem k0_off239_inb : ∀ (v21 : BitVec 32) (k0_hw16 : k0_chk16 v21) (k0_t5 : Fin (k0_t5_loop v21).trips), ∀ (k0_h44 : k0_cond44 v21 k0_t5 = 1#1), ∀ a, (k0_off239 v21 k0_t5) a + S1x5120x768.size a ≤ S4x5120x768.size a := fun v21 k0_hw16 k0_t5 k0_h44 => k0_hw16.1.2.2.2.2.2.2.2.2.2.2.2.2.2.2.2.2.2.2.2.2.2.2.2.1 k0_t5 k0_h44
theorem k0_off239_wordsfp8e4m3 : ∀ (v21 : BitVec 32) (k0_hw16 : k0_chk16 v21) (k0_t5 : Fin (k0_t5_loop v21).trips), ∀ (k0_h44 : k0_cond44 v21 k0_t5 = 1#1), (Rect.unit (s := S4x5120x768) (k0_off239 v21 k0_t5) S1x5120x768.size (k0_off239_inb v21 k0_hw16 k0_t5 k0_h44)).WholeWords (EltTy.packing .fp8e4m3) := fun v21 k0_hw16 k0_t5 k0_h44 => k0_hw16.1.2.2.2.2.2.2.2.2.2.2.2.2.2.2.2.2.2.2.2.2.2.2.2.2.1 k0_t5 k0_h44 (k0_off239_inb v21 k0_hw16 k0_t5 k0_h44)
theorem k0_off282_inb : ∀ (v21 : BitVec 32) (k0_hw16 : k0_chk16 v21) (k0_t5 : Fin (k0_t5_loop v21).trips), ∀ (k0_h44 : k0_cond44 v21 k0_t5 = 1#1), ∀ a, (k0_off282 v21 k0_t5) a + S1.size a ≤ S4.size a := fun v21 k0_hw16 k0_t5 k0_h44 => k0_hw16.1.2.2.2.2.2.2.2.2.2.2.2.2.2.2.2.2.2.2.2.2.2.2.2.2.2.1 k0_t5 k0_h44
theorem k0_off283_inb : ∀ (v21 : BitVec 32) (k0_hw16 : k0_chk16 v21) (k0_t5 : Fin (k0_t5_loop v21).trips), ∀ (k0_h44 : k0_cond44 v21 k0_t5 = 1#1), ∀ a, (k0_off283 v21 k0_t5) a + S1x768x5120.size a ≤ S4x768x5120.size a := fun v21 k0_hw16 k0_t5 k0_h44 => k0_hw16.1.2.2.2.2.2.2.2.2.2.2.2.2.2.2.2.2.2.2.2.2.2.2.2.2.2.2.1 k0_t5 k0_h44
theorem k0_off283_wordsfp8e4m3 : ∀ (v21 : BitVec 32) (k0_hw16 : k0_chk16 v21) (k0_t5 : Fin (k0_t5_loop v21).trips), ∀ (k0_h44 : k0_cond44 v21 k0_t5 = 1#1), (Rect.unit (s := S4x768x5120) (k0_off283 v21 k0_t5) S1x768x5120.size (k0_off283_inb v21 k0_hw16 k0_t5 k0_h44)).WholeWords (EltTy.packing .fp8e4m3) := fun v21 k0_hw16 k0_t5 k0_h44 => k0_hw16.1.2.2.2.2.2.2.2.2.2.2.2.2.2.2.2.2.2.2.2.2.2.2.2.2.2.2.2.1 k0_t5 k0_h44 (k0_off283_inb v21 k0_hw16 k0_t5 k0_h44)
theorem k0_off285_inb : ∀ (v21 : BitVec 32) (k0_hw16 : k0_chk16 v21) (k0_t5 : Fin (k0_t5_loop v21).trips), ∀ a, (k0_off285 v21 k0_t5) a + S1.size a ≤ S4.size a := fun v21 k0_hw16 k0_t5 => k0_hw16.1.2.2.2.2.2.2.2.2.2.2.2.2.2.2.2.2.2.2.2.2.2.2.2.2.2.2.2.2.1 k0_t5
theorem k0_off286_inb : ∀ (v21 : BitVec 32) (k0_hw16 : k0_chk16 v21) (k0_t5 : Fin (k0_t5_loop v21).trips), ∀ a, (k0_off286 v21 k0_t5) a + S1x5120x768.size a ≤ S4x5120x768.size a := fun v21 k0_hw16 k0_t5 => k0_hw16.1.2.2.2.2.2.2.2.2.2.2.2.2.2.2.2.2.2.2.2.2.2.2.2.2.2.2.2.2.2.1 k0_t5
theorem k0_off286_wordsfp8e4m3 : ∀ (v21 : BitVec 32) (k0_hw16 : k0_chk16 v21) (k0_t5 : Fin (k0_t5_loop v21).trips), (Rect.unit (s := S4x5120x768) (k0_off286 v21 k0_t5) S1x5120x768.size (k0_off286_inb v21 k0_hw16 k0_t5)).WholeWords (EltTy.packing .fp8e4m3) := fun v21 k0_hw16 k0_t5 => k0_hw16.1.2.2.2.2.2.2.2.2.2.2.2.2.2.2.2.2.2.2.2.2.2.2.2.2.2.2.2.2.2.2.1 k0_t5 (k0_off286_inb v21 k0_hw16 k0_t5)
theorem k0_off288_inb : ∀ (v21 : BitVec 32) (k0_hw16 : k0_chk16 v21) (k0_t5 : Fin (k0_t5_loop v21).trips), ∀ a, (k0_off288 v21 k0_t5) a + S1x5120x768.size a ≤ S4x5120x768.size a := fun v21 k0_hw16 k0_t5 => k0_hw16.1.2.2.2.2.2.2.2.2.2.2.2.2.2.2.2.2.2.2.2.2.2.2.2.2.2.2.2.2.2.2.2 k0_t5
theorem k0_off331_inb : ∀ (v21 : BitVec 32) (k0_hw16 : k0_chk16 v21) (k0_t5 : Fin (k0_t5_loop v21).trips), ∀ a, (k0_off331 v21 k0_t5) a + S1x8x16x5120.size a ≤ S4x8x16x5120.size a := fun v21 k0_hw16 k0_t5 => k0_hw16.2.1 k0_t5
theorem k0_off332_inb : ∀ (v21 : BitVec 32) (k0_hw16 : k0_chk16 v21) (k0_t5 : Fin (k0_t5_loop v21).trips), ∀ a, (k0_off332 v21 k0_t5) a + S1x8x16x768.size a ≤ S4x8x16x768.size a := fun v21 k0_hw16 k0_t5 => k0_hw16.2.2.1 k0_t5
theorem k0_off333_inb : ∀ (v21 : BitVec 32) (k0_hw16 : k0_chk16 v21) (k0_t5 : Fin (k0_t5_loop v21).trips), ∀ a, (k0_off333 v21 k0_t5) a + S1.size a ≤ S4.size a := fun v21 k0_hw16 k0_t5 => k0_hw16.2.2.2.1 k0_t5
theorem k0_off334_inb : ∀ (v21 : BitVec 32) (k0_hw16 : k0_chk16 v21) (k0_t5 : Fin (k0_t5_loop v21).trips), ∀ a, (k0_off334 v21 k0_t5) a + S1x768x5120.size a ≤ S4x768x5120.size a := fun v21 k0_hw16 k0_t5 => k0_hw16.2.2.2.2.1 k0_t5
theorem k0_off334_wordsfp8e4m3 : ∀ (v21 : BitVec 32) (k0_hw16 : k0_chk16 v21) (k0_t5 : Fin (k0_t5_loop v21).trips), (Rect.unit (s := S4x768x5120) (k0_off334 v21 k0_t5) S1x768x5120.size (k0_off334_inb v21 k0_hw16 k0_t5)).WholeWords (EltTy.packing .fp8e4m3) := fun v21 k0_hw16 k0_t5 => k0_hw16.2.2.2.2.2.1 k0_t5 (k0_off334_inb v21 k0_hw16 k0_t5)
theorem k0_off336_inb : ∀ (v21 : BitVec 32) (k0_hw16 : k0_chk16 v21) (k0_t5 : Fin (k0_t5_loop v21).trips), ∀ a, (k0_off336 v21 k0_t5) a + S1x768x5120.size a ≤ S4x768x5120.size a := fun v21 k0_hw16 k0_t5 => k0_hw16.2.2.2.2.2.2 k0_t5

def k0_off337 (v178 : BitVec 32) : Fin 2 → Nat :=
  let v339 : Index := Scalar.indexCast v178
  let c0_193 : Index := 0#32
  ![v339.toNat, 0]

def k0_chk23 (v178 : BitVec 32) : Prop :=
  (∀ a, (k0_off287 v178) a + S1x5120x768.size a ≤ S32x5120x768.size a) ∧
  (∀ (hinb : ∀ a, (k0_off287 v178) a + S1x5120x768.size a ≤ S32x5120x768.size a), (Rect.unit (s := S32x5120x768) (k0_off287 v178) S1x5120x768.size hinb).WholeWords (EltTy.packing .fp8e4m3)) ∧
  (∀ a, (k0_off289 v178) a + S1x768.size a ≤ S32x768.size a) ∧
  (∀ a, (k0_off290 v178) a + S1.size a ≤ S32.size a) ∧
  (∀ a, (k0_off335 v178) a + S1x768x5120.size a ≤ S32x768x5120.size a) ∧
  (∀ (hinb : ∀ a, (k0_off335 v178) a + S1x768x5120.size a ≤ S32x768x5120.size a), (Rect.unit (s := S32x768x5120) (k0_off335 v178) S1x768x5120.size hinb).WholeWords (EltTy.packing .fp8e4m3)) ∧
  (∀ a, (k0_off337 v178) a + S1x5120.size a ≤ S32x5120.size a)
theorem k0_off287_inb : ∀ (v178 : BitVec 32) (k0_hw23 : k0_chk23 v178), ∀ a, (k0_off287 v178) a + S1x5120x768.size a ≤ S32x5120x768.size a := fun v178 k0_hw23 => k0_hw23.1
theorem k0_off287_wordsfp8e4m3 : ∀ (v178 : BitVec 32) (k0_hw23 : k0_chk23 v178), (Rect.unit (s := S32x5120x768) (k0_off287 v178) S1x5120x768.size (k0_off287_inb v178 k0_hw23)).WholeWords (EltTy.packing .fp8e4m3) := fun v178 k0_hw23 => k0_hw23.2.1 (k0_off287_inb v178 k0_hw23)
theorem k0_off289_inb : ∀ (v178 : BitVec 32) (k0_hw23 : k0_chk23 v178), ∀ a, (k0_off289 v178) a + S1x768.size a ≤ S32x768.size a := fun v178 k0_hw23 => k0_hw23.2.2.1
theorem k0_off290_inb : ∀ (v178 : BitVec 32) (k0_hw23 : k0_chk23 v178), ∀ a, (k0_off290 v178) a + S1.size a ≤ S32.size a := fun v178 k0_hw23 => k0_hw23.2.2.2.1
theorem k0_off335_inb : ∀ (v178 : BitVec 32) (k0_hw23 : k0_chk23 v178), ∀ a, (k0_off335 v178) a + S1x768x5120.size a ≤ S32x768x5120.size a := fun v178 k0_hw23 => k0_hw23.2.2.2.2.1
theorem k0_off335_wordsfp8e4m3 : ∀ (v178 : BitVec 32) (k0_hw23 : k0_chk23 v178), (Rect.unit (s := S32x768x5120) (k0_off335 v178) S1x768x5120.size (k0_off335_inb v178 k0_hw23)).WholeWords (EltTy.packing .fp8e4m3) := fun v178 k0_hw23 => k0_hw23.2.2.2.2.2.1 (k0_off335_inb v178 k0_hw23)
theorem k0_off337_inb : ∀ (v178 : BitVec 32) (k0_hw23 : k0_chk23 v178), ∀ a, (k0_off337 v178) a + S1x5120.size a ≤ S32x5120.size a := fun v178 k0_hw23 => k0_hw23.2.2.2.2.2.2

abbrev stage0_0 : Fin 1 → Memref sig .tc .smem S8x32 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S1x32 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x32 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S32x1 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S32x5120 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S32x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S32x5120 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S32x5120 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S32x5120 .fp8e4m3 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S32x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== ReferenceIdeal.lean ====
abbrev S32x1x5120 : Shape := ⟨3, ![32, 1, 5120]⟩
abbrev S32x1x8 : Shape := ⟨3, ![32, 1, 8]⟩
abbrev S32 : Shape := ⟨1, ![32]⟩
abbrev S32x5120x768 : Shape := ⟨3, ![32, 5120, 768]⟩
abbrev S32x768 : Shape := ⟨2, ![32, 768]⟩
abbrev S32x768x5120 : Shape := ⟨3, ![32, 768, 5120]⟩
abbrev S32x5120 : Shape := ⟨2, ![32, 5120]⟩
abbrev S32x8x5120x16 : Shape := ⟨4, ![32, 8, 5120, 16]⟩
abbrev S32x8x16x768 : Shape := ⟨4, ![32, 8, 16, 768]⟩
abbrev S32x8 : Shape := ⟨2, ![32, 8]⟩
abbrev S32x1 : Shape := ⟨2, ![32, 1]⟩
abbrev S32x1x1 : Shape := ⟨3, ![32, 1, 1]⟩
abbrev S32x246 : Shape := ⟨2, ![32, 246]⟩
abbrev S1x32x5120 : Shape := ⟨3, ![1, 32, 5120]⟩
abbrev S32x32x5120 : Shape := ⟨3, ![32, 32, 5120]⟩
abbrev S32x32x768 : Shape := ⟨3, ![32, 32, 768]⟩
abbrev S1x32x1 : Shape := ⟨3, ![1, 32, 1]⟩
abbrev S32x1x768 : Shape := ⟨3, ![32, 1, 768]⟩
abbrev S32x1x5120x16 : Shape := ⟨4, ![32, 1, 5120, 16]⟩
abbrev S32x5120x16 : Shape := ⟨3, ![32, 5120, 16]⟩
abbrev S32x32x16 : Shape := ⟨3, ![32, 32, 16]⟩
abbrev S32x1x16x768 : Shape := ⟨4, ![32, 1, 16, 768]⟩
abbrev S32x16x768 : Shape := ⟨3, ![32, 16, 768]⟩
abbrev S32x32 : Shape := ⟨2, ![32, 32]⟩
abbrev S32x32x1 : Shape := ⟨3, ![32, 32, 1]⟩
abbrev S32x32x246 : Shape := ⟨3, ![32, 32, 246]⟩

abbrev nBuf : Space → Nat
  | .hbm => 19
  | .vmem => 13
  | .smem => 0
  | _ => 0

abbrev bufTy : (tb : Table) → Fin (tcTables nBuf tb) → BufTy
  | .hbm, ⟨0, _⟩ => ⟨S32x1x5120, .bf16⟩
  | .hbm, ⟨1, _⟩ => ⟨S32x1x8, .i32⟩
  | .hbm, ⟨2, _⟩ => ⟨S32x1x8, .f32⟩
  | .hbm, ⟨3, _⟩ => ⟨S32, .i32⟩
  | .hbm, ⟨4, _⟩ => ⟨S32x5120x768, .fp8e4m3⟩
  | .hbm, ⟨5, _⟩ => ⟨S32x768, .f32⟩
  | .hbm, ⟨6, _⟩ => ⟨S32x768x5120, .fp8e4m3⟩
  | .hbm, ⟨7, _⟩ => ⟨S32x5120, .f32⟩
  | .hbm, ⟨8, _⟩ => ⟨S32x8x5120x16, .bf16⟩
  | .hbm, ⟨9, _⟩ => ⟨S32x8x16x768, .bf16⟩
  | .hbm, ⟨10, _⟩ => ⟨S32x5120, .bf16⟩
  | .hbm, ⟨11, _⟩ => ⟨S32x8, .i32⟩
  | .hbm, ⟨12, _⟩ => ⟨S32x8, .f32⟩
  | .hbm, ⟨13, _⟩ => ⟨S32x1, .i32⟩
  | .hbm, ⟨14, _⟩ => ⟨S32, .i32⟩
  | .hbm, ⟨15, _⟩ => ⟨S32x1, .i32⟩
  | .hbm, ⟨16, _⟩ => ⟨S32x1x5120, .bf16⟩
  | .hbm, ⟨17, _⟩ => ⟨S32x1x5120, .fp8e4m3⟩
  | .hbm, ⟨18, _⟩ => ⟨S32x1x1, .f32⟩
  | .local _ .vmem, ⟨0, _⟩ => ⟨S32x5120, .bf16⟩
  | .local _ .vmem, ⟨1, _⟩ => ⟨S32x8, .i32⟩
  | .local _ .vmem, ⟨2, _⟩ => ⟨S32x8, .f32⟩
  | .local _ .vmem, ⟨3, _⟩ => ⟨S32x1, .i32⟩
  | .local _ .vmem, ⟨4, _⟩ => ⟨S32x5120x768, .fp8e4m3⟩
  | .local _ .vmem, ⟨5, _⟩ => ⟨S32x768, .f32⟩
  | .local _ .vmem, ⟨6, _⟩ => ⟨S32x768x5120, .fp8e4m3⟩
  | .local _ .vmem, ⟨7, _⟩ => ⟨S32x5120, .f32⟩
  | .local _ .vmem, ⟨8, _⟩ => ⟨S32x8x5120x16, .bf16⟩
  | .local _ .vmem, ⟨9, _⟩ => ⟨S32x8x16x768, .bf16⟩
  | .local _ .vmem, ⟨10, _⟩ => ⟨S32x1x5120, .bf16⟩
  | .local _ .vmem, ⟨11, _⟩ => ⟨S32x1x5120, .fp8e4m3⟩
  | .local _ .vmem, ⟨12, _⟩ => ⟨S32x1x1, .f32⟩
  | _, _ => ⟨S32x1x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6_0 : Ref sig .tc := ⟨.hbm, 16, rfl⟩
abbrev main_v6_1 : Ref sig .tc := ⟨.hbm, 17, rfl⟩
abbrev main_v6_2 : Ref sig .tc := ⟨.hbm, 18, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12

abbrev nD : Nat := 1
abbrev τ : Topo := Topo.v7x

variable {F : FTy → Type} [FloatOps F]

abbrev grid0 : Pipeline.Grid := .none

abbrev stage0_0 : Fin 1 → Memref sig .tc .vmem S32x5120 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32x8 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S32x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S32x1 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S32x5120x768 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S32x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S32x768x5120 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S32x5120 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S32x8x5120x16 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S32x8x16x768 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S32x1x5120 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S32x1x5120 .fp8e4m3 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S32x1x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
-- ==== Proof.Copies.lean ====
module

public import Idealize.ShloMosaic.Lib.Pipeline.KitQuiescent
public import Idealize.ShloMosaic.Lib.Ring
public import Idealize.ShloMosaic.Lib.Affine
public import Idealize.ShloMosaic.Lib.Memref
public import Idealize.ShloMosaic.Lib.MemrefSat
public import Idealize.ShloMosaic.Lib.MixedBatch
public import Idealize.ShloMosaic.Lib.Tactic

@[expose] public section

/-!
# Loads, stores and copies over what a memref reads

The rules of the logic, restated over `owns c m q X`: core `c` holds the elements of the memref `m` at share `q`
and reads `X` through it.  A copy turns a share of the source and any contents of the destination into a flight
that delivers the destination at the source's contents and the source's share back.  No statement here speaks of
offsets: a slice of a memref is again a memref.
-/

noncomputable section

namespace Cert.Proof.Copies

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Val : EltTy → Type} {U : Type} [URA U]

local notation "𝕄" => MT nD τ sig Unit Val ℕ U ℕ

variable {Λ : Labels} {defs : Defs nD τ sig Val Λ} (𝒱 : Variants) (c : Thread nD τ) (bd : Option 𝒱.V)
variable {α : Type} {Q : α → sProp (MT nD τ sig Unit Val ℕ U ℕ)}

/-- The memref is held in full, at contents nobody tracks. -/
def anyAt (c : Thread nD τ) {sp : Space} {sh : Shape} {e : EltTy} (m : Memref sig c.2.kind sp sh e) : sProp 𝕄 :=
  iprop(∃ X, owns c m fullShare X)

theorem anyAt_of (c : Thread nD τ) {sp : Space} {sh : Shape} {e : EltTy} (m : Memref sig c.2.kind sp sh e) (X : sh.Idx → Val e) :
    (owns c m fullShare X : sProp 𝕄) ⊢ anyAt c m := by
  unfold anyAt; iintro H; iexists X; iexact H

/-- What a squeezed memref reads, from what the memref reads. -/
theorem owns_squeeze {sp : Space} {sh s' : Shape} {e : EltTy} (m : Memref sig c.2.kind sp sh e) (h : sh.Squeezes s') (q : PosShare TreeShare)
    (X : sh.Idx → Val e) :
    (owns c m q X : sProp 𝕄) ⊢ owns c (m.squeeze s' h) q (fun j => X (Shape.reshapeEquiv h.numel_eq j)) := by
  unfold owns
  iintro ⟨%f, %hf, H⟩
  iexists f
  isplitr
  · ipureintro; subst hf; rfl
  · have e1 : (m.squeeze s' h).view.set = m.view.set := View.set_reshape _ _
    rw [e1]; iexact H

theorem owns_unsqueeze {sp : Space} {sh s' : Shape} {e : EltTy} (m : Memref sig c.2.kind sp sh e) (h : sh.Squeezes s') (q : PosShare TreeShare)
    (X : s'.Idx → Val e) :
    (owns c (m.squeeze s' h) q X : sProp 𝕄) ⊢ owns c m q (fun j => X ((Shape.reshapeEquiv h.numel_eq).symm j)) := by
  unfold owns
  iintro ⟨%f, %hf, H⟩
  iexists f
  isplitr
  · ipureintro; subst hf; funext j
    show _ = m.view.read Val f (Shape.reshapeEquiv h.numel_eq ((Shape.reshapeEquiv h.numel_eq).symm j))
    rw [Equiv.apply_symm_apply]
  · have e1 : (m.squeeze s' h).view.set = m.view.set := View.set_reshape _ _
    rw [e1]; iexact H

/-- A memref held in full and squeezed, at contents nobody tracks. -/
theorem anyAt_squeeze {sp : Space} {sh s' : Shape} {e : EltTy} (m : Memref sig c.2.kind sp sh e) (h : sh.Squeezes s') :
    (anyAt c m : sProp 𝕄) ⊢ anyAt c (m.squeeze s' h) := by
  unfold anyAt; iintro ⟨%X, H⟩; iexists _; iapply (owns_squeeze c m h fullShare X); iexact H

/-- Lending a slice: the slice is held, and the memref comes back when the slice does, unchanged. -/
theorem owns_lend {sp : Space} {sh : Shape} {e : EltTy} (m : Memref sig c.2.kind sp sh e) (q : PosShare TreeShare)
    (r : Rect sh) (hr : ∀ a, r.stride a = 1) (X : sh.Idx → Val e) :
    (owns c m q X : sProp 𝕄)
      ⊢ iprop(owns c (m.slice r hr) q (fun i => X (r.emb i)) ∗ (owns c (m.slice r hr) q (fun i => X (r.emb i)) -∗ owns c m q X)) := by
  iintro H
  ihave H := (owns_slice_split c m q r hr X) $$ H
  icases H with ⟨Hs, ⟨%f, %hf, Hr⟩⟩
  isplitl [Hs]; · iexact Hs
  iintro Hs
  ihave H := (owns_slice_join c m q r hr (fun i => X (r.emb i)) f) $$ [Hs Hr]
  · isplitl [Hs]; · iexact Hs
    iexact Hr
  have e1 : r.overlay (m.view.read Val f) (fun i => X (r.emb i)) = X := by
    funext j
    by_cases hj : j ∈ r.set
    · obtain ⟨i, rfl⟩ := r.exists_idx_of_mem hj
      exact r.overlay_emb _ _ i
    · rw [r.overlay_of_not_mem _ _ hj, hf]
  rw [e1]; iexact H

/-- Lending a squeezed slice. -/
theorem owns_lend_sq {sp : Space} {sh s' : Shape} {e : EltTy} (m : Memref sig c.2.kind sp sh e) (q : PosShare TreeShare)
    (r : Rect sh) (hr : ∀ a, r.stride a = 1) (h : r.shape.Squeezes s') (X : sh.Idx → Val e) :
    (owns c m q X : sProp 𝕄)
      ⊢ iprop(owns c ((m.slice r hr).squeeze s' h) q (fun j => X (r.emb (Shape.reshapeEquiv h.numel_eq j)))
          ∗ (owns c ((m.slice r hr).squeeze s' h) q (fun j => X (r.emb (Shape.reshapeEquiv h.numel_eq j))) -∗ owns c m q X)) := by
  iintro H
  ihave H := (owns_lend c m q r hr X) $$ H
  icases H with ⟨Hs, Hb⟩
  isplitl [Hs]; · iapply (owns_squeeze c (m.slice r hr) h q (fun i => X (r.emb i))); iexact Hs
  iintro Hs
  iapply Hb
  ihave Hs := (owns_unsqueeze c (m.slice r hr) h q _) $$ Hs
  have e1 : (fun j => X (r.emb (Shape.reshapeEquiv h.numel_eq ((Shape.reshapeEquiv h.numel_eq).symm j)))) = fun i => X (r.emb i) := by
    funext j; rw [Equiv.apply_symm_apply]
  rw [← e1]; iexact Hs

/-! ## Loads and stores -/

theorem wp_load_owns {cs : CoreSpace} {s : Shape} {e : EltTy} {m : Memref sig c.2.kind cs s e} {r : Rect s} {hl : m.view.LoadsAt r.toLoadRect}
    {k : (r.shape.Idx → Val e) → Prog (TpuEff nD τ sig Val Λ c.2) α} {q : PosShare TreeShare} {X : s.Idx → Val e} :
    (owns c m q X : sProp 𝕄)
      ⊢ iprop((owns c m q X -∗ wp frame (wpE defs 𝒱 c bd) Set.univ (k (fun i => X (r.emb i))) Q)
          -∗ wp frame (wpE defs 𝒱 c bd) Set.univ (.op (.load m r.toLoadRect hl) k) Q) := by
  unfold owns
  iintro ⟨%f, %hf, H⟩ Hk
  iapply (wp_load 𝒱 c bd Set.univ (S := m.view.set) (View.setOn_subset_set _ _)) $$ H
  iintro H
  subst hf
  iapply Hk
  iexists f; isplitr; · ipureintro; rfl
  iexact H

/-- A load through a rectangle of which only the slice is held. -/
theorem wp_load_slice {cs : CoreSpace} {s : Shape} {e : EltTy} {m : Memref sig c.2.kind cs s e} {r : Rect s} (hr : ∀ a, r.stride a = 1) {hl : m.view.LoadsAt r.toLoadRect}
    {k : (r.shape.Idx → Val e) → Prog (TpuEff nD τ sig Val Λ c.2) α} {q : PosShare TreeShare} {X : r.shape.Idx → Val e} :
    (owns c (m.slice r hr) q X : sProp 𝕄)
      ⊢ iprop((owns c (m.slice r hr) q X -∗ wp frame (wpE defs 𝒱 c bd) Set.univ (k X) Q)
          -∗ wp frame (wpE defs 𝒱 c bd) Set.univ (.op (.load m r.toLoadRect hl) k) Q) := by
  unfold owns
  iintro ⟨%f, %hf, H⟩ Hk
  iapply (wp_load_rect 𝒱 c bd Set.univ (S := (m.access r).set) (f := f) (q := q) (Finset.Subset.refl _)) $$ [H]
  · iexact H
  iintro H
  have hf' : (m.access r).read Val f = X := hf
  rw [hf']
  iapply Hk
  iexists f; isplitr; · ipureintro; exact hf
  iexact H

theorem wp_store_owns {cs : CoreSpace} {s : Shape} {e : EltTy} {m : Memref sig c.2.kind cs s e} {r : Rect s} (hr : ∀ a, r.stride a = 1) {w : r.shape.Idx → Val e}
    {hx : (m.access r).Stores Finset.univ} {hm}
    {k : PUnit → Prog (TpuEff nD τ sig Val Λ c.2) α} {X : s.Idx → Val e} :
    (owns c m fullShare X : sProp 𝕄)
      ⊢ iprop((owns c m fullShare (r.overlay X w) -∗ wp frame (wpE defs 𝒱 c bd) Set.univ (k ⟨⟩) Q)
          -∗ wp frame (wpE defs 𝒱 c bd) Set.univ (.op (.store m r w Finset.univ hx hm) k) Q) := by
  iintro H Hk
  ihave H := (owns_slice_split c m fullShare r hr X) $$ H
  icases H with ⟨Hs, ⟨%f, %hf, Hr⟩⟩
  unfold owns
  icases Hs with ⟨%g, %hg, Hs⟩
  iapply (wp_store 𝒱 c bd Set.univ (S := (m.access r).set) (f := g) (View.setOn_subset_set _ _)) $$ [Hs]
  · iexact Hs
  iintro Hs
  iapply Hk
  ihave H := (owns_slice_join c m fullShare r hr w f) $$ [Hs Hr]
  · isplitl [Hs]
    · unfold owns
      iexists _
      isplitr
      · ipureintro; exact View.read_write_univ (v := (m.access r)) g w
      · iexact Hs
    · iexact Hr
  rw [hf]
  unfold owns
  iexact H

/-! ## Rectangles that are one word, and rectangles that are everything -/

theorem emb_unit_zero {s : Shape} {off : Fin s.rank → Nat} (h : off = fun _ => 0) (inb : ∀ a, off a + s.size a ≤ s.size a)
    (i : (Rect.unit off s.size inb).shape.Idx) : (Rect.unit off s.size inb).emb i = i := by
  subst h
  funext a
  apply Fin.ext
  rw [Rect.emb_apply]
  show 0 + (1 * (i a).val) = (i a).val
  omega

theorem overlay_unit_zero {s : Shape} {α : Type} {off : Fin s.rank → Nat} (h : off = fun _ => 0) (inb : ∀ a, off a + s.size a ≤ s.size a)
    (X : s.Idx → α) (w : (Rect.unit off s.size inb).shape.Idx → α) : (Rect.unit off s.size inb).overlay X w = w := by
  funext j
  have h1 := (Rect.unit off s.size inb).overlay_emb X w j
  rwa [emb_unit_zero h inb j] at h1

/-! ## One copy -/

variable (EC : UEmb Counters (MT nD τ sig Unit Val ℕ U ℕ)) [EC.LandsIn (upEmb : UEmb _ (MT nD τ sig Unit Val ℕ U ℕ))]

/-- A copy of `X` from `src` to `dst` is under way on the cell `sm`; the share `q` of the source is lent to it. -/
def Copying {sp sp' : Space} {s : Shape} {e : EltTy} (src : Memref sig c.2.kind sp s e) (dst : Memref sig c.2.kind sp' s e) (sm : SemLoc sig)
    (N : ℕ) (q : PosShare TreeShare) (X : s.Idx → Val e) : sProp 𝕄 :=
  iprop(∃ (fs : Buf Val (src.view.loc c)) (fd : Buf Val (dst.view.loc c)), ⌜src.view.read Val fs = X⌝
    ∗ Transfers.Flight EC c sm () N iprop((dst.view.loc c ↦[dst.view.set]{fullShare} (dst.view.write Val fd (src.view.read Val fs) Finset.univ))
        ∗ (src.view.loc c ↦[src.view.set]{q} fs)))

theorem wp_copy {sp sp' : Space} {s : Shape} {e : EltTy} {src : Memref sig c.2.kind sp s e} {dst : Memref sig c.2.kind sp' s e} {sm : SemLoc sig}
    {hsrc : src.view.WordExact} {hdst : dst.view.WordExact} {hsem : DmaTarget.Typed (nD := nD) sp sm (.here dst)}
    {k : PUnit → Prog (TpuEff nD τ sig Val Λ c.2) α} {q : PosShare TreeShare} {X : s.Idx → Val e}
    (N : ℕ) (hN : dst.view.amount sm = N) (hN0 : 0 < N) :
    (iprop(owns c src q X ∗ anyAt c dst ∗ semVal (c, sm) 0) : sProp 𝕄)
      ⊢ iprop((Copying c EC src dst sm N q X -∗ wp frame (wpE defs 𝒱 c bd) Set.univ (k ⟨⟩) Q)
          -∗ wp frame (wpE defs 𝒱 c bd) Set.univ (.op (.enqueueDma src (.here dst) sm hsrc hdst hsem) k) Q) := by
  unfold anyAt owns
  iintro ⟨⟨%fs, %hfs, Hs⟩, ⟨%Y, %fd, %hfd, Hd⟩, Hv⟩ Hk
  iapply (Transfers.wp_dmaLocal EC 𝒱 c bd () N hN hN0 (Finset.Subset.refl _)) $$ [Hs Hd Hv]
  · isplitl [Hs]; · iexact Hs
    isplitl [Hd]; · iexact Hd
    iexact Hv
  iintro HF
  iapply Hk
  unfold Copying
  iexists fs, fd
  isplitr; · ipureintro; exact hfs
  iexact HF

theorem wp_await {sp sp' sq sq' : Space} {s s' s'' : Shape} {e e' e'' : EltTy} {src : Memref sig c.2.kind sp s e} {dst : Memref sig c.2.kind sp' s e}
    {sem : DmaSem sig} {κ' : Kind} {srcw : Memref sig c.2.kind sq s' e'} {dstw : Memref sig κ' sq' s'' e''}
    {hsrc : srcw.view.WordExact} {hdst : dstw.view.WordExact}
    {k : PUnit → Prog (TpuEff nD τ sig Val Λ c.2) α} {q : PosShare TreeShare} {X : s.Idx → Val e} {W : Waits sig Unit}
    (N : ℕ) (hN : dstw.view.dmaCredit = N) :
    (iprop(Copying c EC src dst (.dma sem) N q X ∗ owes c 0 W) : sProp 𝕄)
      ⊢ iprop((iprop(owns c dst fullShare X ∗ owns c src q X ∗ semVal (c, SemLoc.dma sem) 0 ∗ (∃ W', owes c 0 W')) -∗ wp frame (wpE defs 𝒱 c bd) Set.univ (k ⟨⟩) Q)
          -∗ wp frame (wpE defs 𝒱 c bd) Set.univ (.op (.waitDma2 sem srcw dstw hsrc hdst) k) Q) := by
  unfold Copying
  iintro ⟨⟨%fs, %fd, %hfs, HF⟩, HW⟩ Hk
  iapply (Transfers.wp_waitLocal EC 𝒱 c bd () hN) $$ [HF HW]
  · isplitl [HF]; · iexact HF
    iexact HW
  iintro ⟨⟨Hd, Hs⟩, Hv, HW⟩
  iapply Hk
  unfold owns
  isplitl [Hd]
  · iexists (dst.view.write Val fd (src.view.read Val fs) Finset.univ)
    isplitr
    · ipureintro; exact (View.read_write_univ (v := dst.view) fd (src.view.read Val fs)).trans hfs
    · iexact Hd
  isplitl [Hs]
  · iexists fs
    isplitr; · ipureintro; exact hfs
    iexact Hs
  isplitl [Hv]; · iexact Hv
  iexists _; iexact HW

/-! ## A list of copies on one cell, collected together -/

/-- The amounts and the deliveries of the copies of one cell, in the order of issue: `k` issued, `u` units consumed. -/
def ListBatch (sm : SemLoc sig) (L : List (ℕ × sProp (MT nD τ sig Unit Val ℕ U ℕ))) (k u : ℕ) : sProp 𝕄 :=
  Transfers.MixedBatch EC c sm () (fun t : Fin L.length => (L.get t).1) (fun t => (L.get t).2) k u

/-- The units of the first `k` copies. -/
def unitsTo (L : List (ℕ × sProp (MT nD τ sig Unit Val ℕ U ℕ))) (k : ℕ) : ℕ := ((L.take k).map Prod.fst).sum

theorem sumTo_list (L : List (ℕ × sProp (MT nD τ sig Unit Val ℕ U ℕ))) : ∀ k, k ≤ L.length →
    Transfers.sumTo (fun t : Fin L.length => (L.get t).1) k = unitsTo L k
  | 0, _ => by simp [unitsTo, Transfers.sumTo_zero]
  | k + 1, h => by
    rw [Transfers.sumTo_succ _ (show k < L.length by omega), sumTo_list L k (by omega)]
    unfold unitsTo
    rw [List.take_add_one, List.getElem?_eq_getElem (show k < L.length by omega), List.map_append, List.sum_append]
    simp only [Option.toList, List.map_cons, List.map_nil, List.sum_cons, List.sum_nil, Nat.add_zero]
    rfl

theorem listBatch_alloc (sm : SemLoc sig) (L : List (ℕ × sProp (MT nD τ sig Unit Val ℕ U ℕ)))
    (hL : ∀ p ∈ L, BI.Storable (upEmb : UEmb _ (MT nD τ sig Unit Val ℕ U ℕ)) p.2) :
    (semVal (c, sm) 0 : sProp 𝕄) ⊢ |={Set.univ}=> ListBatch c EC sm L 0 0 := by
  haveI : ∀ t : Fin L.length, BI.Storable (upEmb : UEmb _ (MT nD τ sig Unit Val ℕ U ℕ)) (L.get t).2 := fun t => hL _ (L.get_mem t)
  exact Transfers.mixedBatch_alloc' EC c () (fun t : Fin L.length => (L.get t).1) (fun t => (L.get t).2)

theorem bigSep_list (L : List (ℕ × sProp (MT nD τ sig Unit Val ℕ U ℕ))) :
    BI.bigSep (Finset.univ : Finset (Fin L.length)) (fun t => (L.get t).2) ⊢ L.foldr (fun p P => iprop(p.2 ∗ P)) (iprop(emp) : sProp 𝕄) := by
  induction L with
  | nil => iintro -; iempintro
  | cons p L ih =>
    have e1 : BI.bigSep (Finset.univ : Finset (Fin (p :: L).length)) (fun t => ((p :: L).get t).2)
        = iprop(p.2 ∗ BI.bigSep (Finset.univ : Finset (Fin L.length)) (fun t => (L.get t).2)) := by
      show BI.bigSep (Finset.univ : Finset (Fin (L.length + 1))) _ = _
      rw [Fin.univ_succ, Finset.cons_eq_insert, BI.bigSep_insert (by simp), BI.bigSep_map]
      rfl
    rw [e1]
    show _ ⊢ iprop(p.2 ∗ L.foldr (fun p P => iprop(p.2 ∗ P)) (iprop(emp) : sProp 𝕄))
    iintro ⟨H, HL⟩
    isplitl [H]; · iexact H
    iapply ih; iexact HL

theorem listBatch_collect (sm : SemLoc sig) (L : List (ℕ × sProp (MT nD τ sig Unit Val ℕ U ℕ))) (hL : ∀ p ∈ L, 0 < p.1) (u : ℕ)
    (hu : u = unitsTo L L.length) :
    (ListBatch c EC sm L L.length u : sProp 𝕄)
      ⊢ |={Set.univ}=> iprop(L.foldr (fun p P => iprop(p.2 ∗ P)) (iprop(emp) : sProp 𝕄) ∗ semVal (c, sm) 0) := by
  subst hu
  rw [← sumTo_list L L.length le_rfl]
  unfold ListBatch
  iintro H
  imod (Transfers.mixedBatch_collect' EC c (fun t => hL _ (L.get_mem t))) $$ H with ⟨H, Hv⟩
  imodintro
  isplitl [H]; · iapply (bigSep_list L); iexact H
  iexact Hv

theorem wp_listCopy {sp sp' : Space} {s : Shape} {e : EltTy} {src : Memref sig c.2.kind sp s e} {dst : Memref sig c.2.kind sp' s e} {sm : SemLoc sig}
    {hsrc : src.view.WordExact} {hdst : dst.view.WordExact} {hsem : DmaTarget.Typed (nD := nD) sp sm (.here dst)}
    {k : PUnit → Prog (TpuEff nD τ sig Val Λ c.2) α} {q : PosShare TreeShare} {X : s.Idx → Val e}
    (L : List (ℕ × sProp (MT nD τ sig Unit Val ℕ U ℕ))) (j N : ℕ) (D : sProp 𝕄) (hL : L[j]? = some (N, D)) (hN : dst.view.amount sm = N)
    (hD : (iprop(owns c dst fullShare X ∗ owns c src q X) : sProp 𝕄) ⊢ D) :
    (iprop(owns c src q X ∗ anyAt c dst ∗ ListBatch c EC sm L j 0) : sProp 𝕄)
      ⊢ iprop((ListBatch c EC sm L (j + 1) 0 -∗ wp frame (wpE defs 𝒱 c bd) Set.univ (k ⟨⟩) Q)
          -∗ wp frame (wpE defs 𝒱 c bd) Set.univ (.op (.enqueueDma src (.here dst) sm hsrc hdst hsem) k) Q) := by
  obtain ⟨hj, hget⟩ := List.getElem?_eq_some_iff.mp hL
  unfold anyAt
  unfold ListBatch
  iintro ⟨Hs, ⟨%Y, Hd⟩, HB⟩ Hk
  ihave Hs := (show owns c src q X ⊢ iprop(∃ f, ⌜src.view.read Val f = X⌝ ∗ (src.view.loc c ↦[src.view.set]{q} f)) from .rfl) $$ Hs
  ihave Hd := (show owns c dst fullShare Y ⊢ iprop(∃ f, ⌜dst.view.read Val f = Y⌝ ∗ (dst.view.loc c ↦[dst.view.set]{fullShare} f)) from .rfl) $$ Hd
  icases Hs with ⟨%fs, %hfs, Hs⟩
  icases Hd with ⟨%fd, %hfd, Hd⟩
  iapply (Transfers.wp_dmaMixedBatch EC 𝒱 c bd () (fun t : Fin L.length => (L.get t).1) (D := fun t : Fin L.length => (L.get t).2) (u := 0) (fs := fs) (fd := fd) (q := q)
      (Finset.Subset.refl _) hj (by show _ = L[j].1; rw [hget]; exact hN) (Nat.zero_le _) ?_) $$ [Hs Hd HB]
  · show _ ⊢ (L[j]).2
    rw [hget]
    refine .trans ?_ hD
    iintro ⟨Hd, Hs⟩
    isplitl [Hd]
    · unfold owns
      iexists (dst.view.write Val fd (src.view.read Val fs) Finset.univ)
      isplitr
      · ipureintro; exact (View.read_write_univ (v := dst.view) fd (src.view.read Val fs)).trans hfs
      · iexact Hd
    · unfold owns
      iexists fs
      isplitr; · ipureintro; exact hfs
      iexact Hs
  · isplitl [Hs]; · iexact Hs
    isplitl [Hd]; · iexact Hd
    iexact HB
  iexact Hk

theorem wp_listAwait {sq sq' : Space} {s' s'' : Shape} {e' e'' : EltTy}
    {sem : DmaSem sig} {κ' : Kind} {srcw : Memref sig c.2.kind sq s' e'} {dstw : Memref sig κ' sq' s'' e''}
    {hsrc : srcw.view.WordExact} {hdst : dstw.view.WordExact}
    {k : PUnit → Prog (TpuEff nD τ sig Val Λ c.2) α} {W : Waits sig Unit}
    (L : List (ℕ × sProp (MT nD τ sig Unit Val ℕ U ℕ))) (u J : ℕ) (hJ : dstw.view.dmaCredit = J) (hu : u + J ≤ unitsTo L L.length) :
    (iprop(ListBatch c EC (.dma sem) L L.length u ∗ owes c 0 W) : sProp 𝕄)
      ⊢ iprop((iprop(ListBatch c EC (.dma sem) L L.length (u + J) ∗ (∃ W', owes c 0 W')) -∗ wp frame (wpE defs 𝒱 c bd) Set.univ (k ⟨⟩) Q)
          -∗ wp frame (wpE defs 𝒱 c bd) Set.univ (.op (.waitDma2 sem srcw dstw hsrc hdst) k) Q) := by
  unfold ListBatch
  iintro ⟨HB, HW⟩ Hk
  iapply (Transfers.wp_waitMixedBatch EC 𝒱 c bd () hJ (by rw [sumTo_list L L.length le_rfl]; exact hu)) $$ [HB HW]
  · isplitl [HB]; · iexact HB
    iexact HW
  iintro ⟨HB, HW⟩
  iapply Hk
  isplitl [HB]; · iexact HB
  iexists _; iexact HW

end Cert.Proof.Copies
-- ==== Proof.Words.lean ====
module

public import proofs.«01_k».proof.Proof.Copies

@[expose] public section

/-!
# Words of a scalar memory

A table of 32-bit words in a scalar memory, as a function of its indices read as numbers; a load of one word and a
store of one word over it.
-/

noncomputable section

namespace Cert.Proof.Words

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Proof.Copies

variable {nD : Nat} {τ : Topo} {sig : RefSig} {Val : EltTy → Type} {U : Type} [URA U]

local notation "𝕄" => MT nD τ sig Unit Val ℕ U ℕ

variable {Λ : Labels} {defs : Defs nD τ sig Val Λ} (𝒱 : Variants) (c : Dev nD) (bd : Option 𝒱.V)
variable {α : Type} {Q : α → sProp (MT nD τ sig Unit Val ℕ U ℕ)}

/-- A row of words, held at share `q`. -/
def words {n : ℕ} (m : Memref sig .tc .smem ⟨1, ![n]⟩ .i32) (q : PosShare TreeShare) (M : ℕ → Val .i32) : sProp 𝕄 :=
  owns (c : Thread nD τ) m q (fun i => M (i 0).val)

/-- A table of words, held at share `q`. -/
def words2 {a b : ℕ} (m : Memref sig .tc .smem ⟨2, ![a, b]⟩ .i32) (q : PosShare TreeShare) (M : ℕ → ℕ → Val .i32) : sProp 𝕄 :=
  owns (c : Thread nD τ) m q (fun i => M (i 0).val (i 1).val)

omit [URA U] in
theorem words_fun {n : ℕ} [Inhabited (Val .i32)] (X : Shape.Idx ⟨1, ![n]⟩ → Val .i32) : ∃ M : ℕ → Val .i32, X = fun i => M (i 0).val :=
  ⟨fun k => if h : k < n then X (fun a => ⟨k, by have : a = 0 := Subsingleton.elim _ _; subst this; exact h⟩) else default, by
    funext i
    have h : (i 0).val < n := (i 0).isLt
    simp only [h, dif_pos]
    congr 1
    funext a
    have : a = 0 := Subsingleton.elim _ _
    subst this
    rfl⟩

theorem anyAt_words {n : ℕ} [Inhabited (Val .i32)] (m : Memref sig .tc .smem ⟨1, ![n]⟩ .i32) :
    (anyAt (c : Thread nD τ) m : sProp 𝕄) ⊢ iprop(∃ M, words c m fullShare M) := by
  unfold anyAt words
  iintro ⟨%X, H⟩
  obtain ⟨M, rfl⟩ := words_fun X
  iexists M
  iexact H

theorem words_anyAt {n : ℕ} (m : Memref sig .tc .smem ⟨1, ![n]⟩ .i32) (M : ℕ → Val .i32) :
    (words c m fullShare M : sProp 𝕄) ⊢ anyAt (c : Thread nD τ) m := by
  unfold words anyAt
  iintro H
  iexists (fun i => M (i 0).val)
  iexact H

theorem emb_unit_val {s : Shape} {off size : Fin s.rank → ℕ} {inb} (j : (Rect.unit (s := s) off size inb).shape.Idx) (a : Fin s.rank) :
    ((Rect.unit (s := s) off size inb).emb j a).val = off a + (j a).val := by
  rw [Rect.emb_apply]
  show off a + 1 * (j a).val = _
  omega

theorem words_congr {n : ℕ} (m : Memref sig .tc .smem ⟨1, ![n]⟩ .i32) (q : PosShare TreeShare) (M M' : ℕ → Val .i32) (h : ∀ j, j < n → M j = M' j) :
    (words c m q M : sProp 𝕄) ⊢ words c m q M' := by
  unfold words
  have e : (fun i : Shape.Idx ⟨1, ![n]⟩ => M (i 0).val) = fun i => M' (i 0).val := funext fun i => h _ (i 0).isLt
  rw [e]

theorem wp_done (a : α) : Q a ⊢ wp frame (wpE defs 𝒱 (c : Thread nD τ) bd) Set.univ (.ret a) Q := by
  rw [wp_ret]
  iintro H
  imodintro
  iexact H

theorem wp_retBind {β : Type} {b : β} {k : β → Prog (TpuEff nD τ sig Val Λ (c : Thread nD τ).2) α} :
    wp frame (wpE defs 𝒱 (c : Thread nD τ) bd) Set.univ (k b) Q ⊢ wp frame (wpE defs 𝒱 (c : Thread nD τ) bd) Set.univ ((Prog.ret b).bind k) Q := .rfl

theorem wp_seq {β : Type} {m : Prog (TpuEff nD τ sig Val Λ (c : Thread nD τ).2) β} {k : β → Prog (TpuEff nD τ sig Val Λ (c : Thread nD τ).2) α} :
    wp frame (wpE defs 𝒱 (c : Thread nD τ) bd) Set.univ m (fun b => wp frame (wpE defs 𝒱 (c : Thread nD τ) bd) Set.univ (k b) Q)
      ⊢ wp frame (wpE defs 𝒱 (c : Thread nD τ) bd) Set.univ (m >>= k) Q := by
  rw [wp_bind]

theorem one_pos' {n : ℕ} (h : n = 1) : 0 < n := h.symm ▸ Nat.one_pos

theorem numel1 {n : ℕ} {off : Fin 1 → ℕ} {inb} : (Rect.unit (s := ⟨1, ![n]⟩) off ![1] inb).shape.numel = 1 := rfl
theorem numel2 {a b : ℕ} {off : Fin 2 → ℕ} {inb} : (Rect.unit (s := ⟨2, ![a, b]⟩) off ![1, 1] inb).shape.numel = 1 := rfl

theorem wp_word {n : ℕ} {m : Memref sig .tc .smem ⟨1, ![n]⟩ .i32} {off : Fin 1 → ℕ} {inb}
    {k : Val .i32 → Prog (TpuEff nD τ sig Val Λ (c : Thread nD τ).2) α} {q : PosShare TreeShare} {M : ℕ → Val .i32} :
    (words c m q M : sProp 𝕄)
      ⊢ iprop((words c m q M -∗ wp frame (wpE defs 𝒱 (c : Thread nD τ) bd) Set.univ (k (M (off 0))) Q)
          -∗ wp frame (wpE defs 𝒱 (c : Thread nD τ) bd) Set.univ (smemLoad m (Rect.unit off ![1] inb) numel1 rfl >>= k) Q) := by
  unfold words
  have h := wp_load_owns (defs := defs) (U := U) (Q := Q) 𝒱 (c : Thread nD τ) bd (m := m) (r := Rect.unit off ![1] inb)
    (hl := View.loadsAt_rect (View.loads_smem_one rfl numel1)) (k := fun f => k (f (Shape.Idx.first (one_pos' numel1)))) (q := q)
    (X := fun i => M (i 0).val)
  have e : M ((Rect.unit (s := ⟨1, ![n]⟩) off ![1] inb).emb (Shape.Idx.first (one_pos' numel1)) 0).val = M (off 0) := by
    rw [emb_unit_val]
    congr 1
  rw [← e]
  exact h

theorem wp_word2 {a b : ℕ} {m : Memref sig .tc .smem ⟨2, ![a, b]⟩ .i32} {off : Fin 2 → ℕ} {inb}
    {k : Val .i32 → Prog (TpuEff nD τ sig Val Λ (c : Thread nD τ).2) α} {q : PosShare TreeShare} {M : ℕ → ℕ → Val .i32} :
    (words2 c m q M : sProp 𝕄)
      ⊢ iprop((words2 c m q M -∗ wp frame (wpE defs 𝒱 (c : Thread nD τ) bd) Set.univ (k (M (off 0) (off 1))) Q)
          -∗ wp frame (wpE defs 𝒱 (c : Thread nD τ) bd) Set.univ (smemLoad m (Rect.unit off ![1, 1] inb) numel2 rfl >>= k) Q) := by
  unfold words2
  have h := wp_load_owns (defs := defs) (U := U) (Q := Q) 𝒱 (c : Thread nD τ) bd (m := m) (r := Rect.unit off ![1, 1] inb)
    (hl := View.loadsAt_rect (View.loads_smem_one rfl numel2)) (k := fun f => k (f (Shape.Idx.first (one_pos' numel2)))) (q := q)
    (X := fun i => M (i 0).val (i 1).val)
  have e : M ((Rect.unit (s := ⟨2, ![a, b]⟩) off ![1, 1] inb).emb (Shape.Idx.first (one_pos' numel2)) 0).val
      ((Rect.unit (s := ⟨2, ![a, b]⟩) off ![1, 1] inb).emb (Shape.Idx.first (one_pos' numel2)) 1).val = M (off 0) (off 1) := by
    rw [emb_unit_val, emb_unit_val]
    congr 1
  rw [← e]
  exact h

theorem wp_setWord {n : ℕ} {m : Memref sig .tc .smem ⟨1, ![n]⟩ .i32} {off : Fin 1 → ℕ} {inb} {w : Val .i32}
    {k : PUnit → Prog (TpuEff nD τ sig Val Λ (c : Thread nD τ).2) α} {M : ℕ → Val .i32} :
    (words c m fullShare M : sProp 𝕄)
      ⊢ iprop((words c m fullShare (Function.update M (off 0) w) -∗ wp frame (wpE defs 𝒱 (c : Thread nD τ) bd) Set.univ (k ⟨⟩) Q)
          -∗ wp frame (wpE defs 𝒱 (c : Thread nD τ) bd) Set.univ
            (.op (.store m (Rect.unit (s := ⟨1, ![n]⟩) off ![1] inb) (fun _ => w) Finset.univ (View.stores_smem_one rfl numel1) (.inl rfl)) k) Q) := by
  unfold words
  have h := wp_store_owns (defs := defs) (U := U) (Q := Q) 𝒱 (c : Thread nD τ) bd (m := m) (r := Rect.unit off ![1] inb) (fun _ => rfl)
    (w := fun _ => w) (hx := View.stores_smem_one rfl numel1) (hm := .inl rfl) (k := k) (X := fun i => M (i 0).val)
  have e : (Rect.unit (s := ⟨1, ![n]⟩) off ![1] inb).overlay (fun i => M (i 0).val) (fun _ => w)
      = fun i : Shape.Idx ⟨1, ![n]⟩ => Function.update M (off 0) w (i 0).val := by
    funext i
    by_cases hi : i ∈ (Rect.unit (s := ⟨1, ![n]⟩) off ![1] inb).set
    · rw [← Rect.map_emb_univ] at hi
      obtain ⟨j, -, rfl⟩ := Finset.mem_map.1 hi
      have e1 : ((Rect.unit (s := ⟨1, ![n]⟩) off ![1] inb).emb j 0).val = off 0 := by
        rw [emb_unit_val]
        have : (j 0).val < 1 := (j 0).isLt
        omega
      rw [e1, Function.update_self]
      exact Rect.overlay_emb _ _ _ j
    · rw [Function.update_of_ne]
      · exact Rect.overlay_of_not_mem _ _ _ hi
      · intro hc
        apply hi
        rw [Rect.mem_set_unit]
        intro a
        have : a = 0 := Subsingleton.elim _ _
        subst this
        exact ⟨hc.ge, by show (i 0).val < off 0 + 1; omega⟩
  rw [e] at h
  exact h

end Cert.Proof.Words
-- ==== Proof.Tables.lean ====
module

public import proofs.«01_k».proof.Proof.Words

@[expose] public section

/-!
# The tables the kernel builds in scalar memory

Each expert has a mask: bit `a + 1` says that some token of adapter `a` is routed to the expert, and bit 0 that a token
without adapter is.  The order lists the experts whose mask is not zero, the first expert of token 0 in front.
-/

noncomputable section

namespace Cert.Proof.Tables

open Idealize.ShloMosaic

/-- Or the word `w` into the mask of expert `e`. -/
def orAt (M : ℕ → BitVec 32) (e w : BitVec 32) : ℕ → BitVec 32 :=
  Function.update M e.toNat (Scalar.ori (M e.toNat) w)

/-- The bit of a token whose adapter is `a`. -/
def bitOf (a : BitVec 32) : BitVec 32 := Scalar.shli 1#32 (Scalar.addi a 1#32)

/-- One token: its bit goes into the masks of its eight experts. -/
def token (E : ℕ → ℕ → BitVec 32) (A : ℕ → ℕ → BitVec 32) (t : ℕ) (M : ℕ → BitVec 32) : ℕ → BitVec 32 :=
  orAt (orAt (orAt (orAt (orAt (orAt (orAt (orAt M (E 0 t) (bitOf (A 0 t))) (E 1 t) (bitOf (A 0 t))) (E 2 t) (bitOf (A 0 t)))
    (E 3 t) (bitOf (A 0 t))) (E 4 t) (bitOf (A 0 t))) (E 5 t) (bitOf (A 0 t))) (E 6 t) (bitOf (A 0 t))) (E 7 t) (bitOf (A 0 t))

/-- The masks after the first `t` tokens. -/
def masks (E : ℕ → ℕ → BitVec 32) (A : ℕ → ℕ → BitVec 32) : ℕ → ℕ → BitVec 32
  | 0 => fun _ => 0#32
  | t + 1 => token E A t (masks E A t)

/-- The value of a loop's counter at trip `t`. -/
abbrev iv (t : ℕ) : BitVec 32 := Scf.iv 0#32 1#32 t

/-- How far the count of experts moves at expert `t`. -/
def bump (M : ℕ → BitVec 32) (v0 : BitVec 32) (t : ℕ) : BitVec 32 :=
  Scalar.select (Scalar.andi (Scalar.cmpi .ne (M t) 0#32) (Scalar.cmpi .ne (iv t) v0)) 1#32 0#32

/-- The count of experts and their list after looking at the first `t` experts. -/
def order (M : ℕ → BitVec 32) (v0 : BitVec 32) (O0 : ℕ → BitVec 32) : ℕ → BitVec 32 × (ℕ → BitVec 32)
  | 0 => (1#32, Function.update O0 0 v0)
  | t + 1 => (Scalar.addi (order M v0 O0 t).1 (bump M v0 t), Function.update (order M v0 O0 t).2 (order M v0 O0 t).1.toNat (iv t))

theorem iv_eq (t : ℕ) : iv t = BitVec.ofNat 32 t := by
  show 0#32 + BitVec.ofNat 32 t * 1#32 = _
  simp

theorem iv01 (t : ℕ) (h : t < 32) : (iv t).toNat = t := by
  rw [iv_eq, BitVec.toNat_ofNat]; omega

theorem bump_cases (M : ℕ → BitVec 32) (v0 : BitVec 32) (t : ℕ) :
    ((M t ≠ 0#32 ∧ iv t ≠ v0) ∧ bump M v0 t = 1#32) ∨ (¬ (M t ≠ 0#32 ∧ iv t ≠ v0) ∧ bump M v0 t = 0#32) := by
  unfold bump Scalar.select Scalar.andi Scalar.cmpi
  by_cases h1 : M t = 0#32
  · simp [IntOp.cmpi, IntOp.andi, h1]
  by_cases h2 : iv t = v0
  · simp [IntOp.cmpi, IntOp.andi, h2]
  have e1 : (M t != 0#32) = true := bne_iff_ne.mpr h1
  have e2 : (iv t != v0) = true := bne_iff_ne.mpr h2
  simp [IntOp.cmpi, IntOp.andi, h1, h2, e1, e2]

theorem order_le (M : ℕ → BitVec 32) (v0 : BitVec 32) (O0 : ℕ → BitVec 32) (t : ℕ) (ht : t ≤ 32) :
    1 ≤ (order M v0 O0 t).1.toNat ∧ (order M v0 O0 t).1.toNat ≤ t + 1 := by
  induction t with
  | zero => exact ⟨le_refl 1, le_refl 1⟩
  | succ t ih =>
    have ih := ih (by omega)
    show 1 ≤ ((order M v0 O0 t).1 + bump M v0 t).toNat ∧ ((order M v0 O0 t).1 + bump M v0 t).toNat ≤ t + 1 + 1
    rw [BitVec.toNat_add]
    rcases bump_cases M v0 t with ⟨-, h⟩ | ⟨-, h⟩
    · rw [h]; have : (1#32 : BitVec 32).toNat = 1 := rfl; omega
    · rw [h]; have : (0#32 : BitVec 32).toNat = 0 := rfl; omega

/-- The expert a word names. -/
def fin32 (v : BitVec 32) : Fin 32 := ⟨v.toNat % 32, Nat.mod_lt _ (by decide)⟩
theorem fin32_val (v : BitVec 32) (h : v.toNat < 32) : (fin32 v).val = v.toNat := Nat.mod_eq_of_lt h

end Cert.Proof.Tables
-- ==== Proof.Slots.lean ====
module

public import proofs.«01_k».proof.Defs
public import proofs.«01_k».proof.Proof.Copies
public import Idealize.SL.ProofMode.BigOp

@[expose] public section

/-!
# The four slots of the ring

Expert weights and adapter weights are copied ahead of their use into one of four slots.  A slot is *idle* (its
buffers hold anything, its cells are at zero) or *busy* with an expert `e`: the two weight matrices of `e` are under
way, and so are the adapters that some token routed to `e` uses, all of those on one cell.  A slot keeps a share of
each of the four arrays in main memory; a copy borrows the slice it reads and gives it back.
-/

noncomputable section

namespace Cert.Proof.Slots

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Proof.Copies
open Cert.Kernel (S4x5120x768 S4x768x5120 S4x8x16x5120 S4x8x16x768 S32x5120x768 S32x768x5120 S256x16x5120 S256x16x768
  S1x5120x768 S1x768x5120 S1x16x5120 S1x16x768 S1x1x16x5120 S1x1x16x768 S1x8x16x5120 S1x8x16x768 S5120x768 S768x5120 S16x5120 S16x768 S4 S1 S_)

variable {nD : Nat} {τ : Topo} {sig : RefSig} {Val : EltTy → Type} [∀ e, Nonempty (Val e)] {U : Type} [URA U]

local notation "𝕄" => MT nD τ sig Unit Val ℕ U ℕ

variable {Λ : Labels} {defs : Defs nD τ sig Val Λ} (𝒱 : Variants) (c : Dev nD) (bd : Option 𝒱.V)
variable {α : Type} {Q : α → sProp (MT nD τ sig Unit Val ℕ U ℕ)}
variable (EC : UEmb Counters (MT nD τ sig Unit Val ℕ U ℕ)) [EC.LandsIn (upEmb : UEmb _ (MT nD τ sig Unit Val ℕ U ℕ))]

/-- The arrays in main memory, the ring's buffers, and its cells. -/
structure Bufs (sig : RefSig) where
  up : Memref sig .tc .hbm S32x5120x768 .fp8e4m3
  dn : Memref sig .tc .hbm S32x768x5120 .fp8e4m3
  la : Memref sig .tc .hbm S256x16x5120 .bf16
  lb : Memref sig .tc .hbm S256x16x768 .bf16
  ub : Memref sig .tc .vmem S4x5120x768 .fp8e4m3
  db : Memref sig .tc .vmem S4x768x5120 .fp8e4m3
  ab : Memref sig .tc .vmem S4x8x16x5120 .bf16
  bb : Memref sig .tc .vmem S4x8x16x768 .bf16
  su : DmaSems sig S4
  sd : DmaSems sig S4
  sl : DmaSems sig S4

/-- What the four arrays hold. -/
structure Vals (Val : EltTy → Type) where
  xu : S32x5120x768.Idx → Val .fp8e4m3
  xd : S32x768x5120.Idx → Val .fp8e4m3
  xa : S256x16x5120.Idx → Val .bf16
  xb : S256x16x768.Idx → Val .bf16

theorem sqU : S1x5120x768.Squeezes S5120x768 := by decide
theorem sqD : S1x768x5120.Squeezes S768x5120 := by decide
theorem sqA : S1x1x16x5120.Squeezes S16x5120 := by decide
theorem sqB : S1x1x16x768.Squeezes S16x768 := by decide
theorem sqHA : S1x16x5120.Squeezes S16x5120 := by decide
theorem sqHB : S1x16x768.Squeezes S16x768 := by decide
theorem sqS : S1.Squeezes S_ := by decide

theorem inbS (s : Fin 4) : ∀ a, (![s.val] : Fin 1 → ℕ) a + S1.size a ≤ S4.size a := by
  intro a; fin_cases a; show s.val + 1 ≤ 4; omega
theorem inbU (s : Fin 4) : ∀ a, (![s.val, 0, 0] : Fin 3 → ℕ) a + S1x5120x768.size a ≤ S4x5120x768.size a := by
  intro a; fin_cases a
  · show s.val + 1 ≤ 4; omega
  · show 0 + 5120 ≤ 5120; omega
  · show 0 + 768 ≤ 768; omega
theorem inbD (s : Fin 4) : ∀ a, (![s.val, 0, 0] : Fin 3 → ℕ) a + S1x768x5120.size a ≤ S4x768x5120.size a := by
  intro a; fin_cases a
  · show s.val + 1 ≤ 4; omega
  · show 0 + 768 ≤ 768; omega
  · show 0 + 5120 ≤ 5120; omega
theorem inbHU (e : Fin 32) : ∀ a, (![e.val, 0, 0] : Fin 3 → ℕ) a + S1x5120x768.size a ≤ S32x5120x768.size a := by
  intro a; fin_cases a
  · show e.val + 1 ≤ 32; omega
  · show 0 + 5120 ≤ 5120; omega
  · show 0 + 768 ≤ 768; omega
theorem inbHD (e : Fin 32) : ∀ a, (![e.val, 0, 0] : Fin 3 → ℕ) a + S1x768x5120.size a ≤ S32x768x5120.size a := by
  intro a; fin_cases a
  · show e.val + 1 ≤ 32; omega
  · show 0 + 768 ≤ 768; omega
  · show 0 + 5120 ≤ 5120; omega
theorem inbHA (e : Fin 32) (a : Fin 8) : ∀ i, (![e.val * 8 + a.val, 0, 0] : Fin 3 → ℕ) i + S1x16x5120.size i ≤ S256x16x5120.size i := by
  intro i; fin_cases i
  · show e.val * 8 + a.val + 1 ≤ 256; omega
  · show 0 + 16 ≤ 16; omega
  · show 0 + 5120 ≤ 5120; omega
theorem inbHB (e : Fin 32) (a : Fin 8) : ∀ i, (![e.val * 8 + a.val, 0, 0] : Fin 3 → ℕ) i + S1x16x768.size i ≤ S256x16x768.size i := by
  intro i; fin_cases i
  · show e.val * 8 + a.val + 1 ≤ 256; omega
  · show 0 + 16 ≤ 16; omega
  · show 0 + 768 ≤ 768; omega
theorem inbA (s : Fin 4) (a : Fin 8) : ∀ i, (![s.val, a.val, 0, 0] : Fin 4 → ℕ) i + S1x1x16x5120.size i ≤ S4x8x16x5120.size i := by
  intro i; fin_cases i
  · show s.val + 1 ≤ 4; omega
  · show a.val + 1 ≤ 8; omega
  · show 0 + 16 ≤ 16; omega
  · show 0 + 5120 ≤ 5120; omega
theorem inbB (s : Fin 4) (a : Fin 8) : ∀ i, (![s.val, a.val, 0, 0] : Fin 4 → ℕ) i + S1x1x16x768.size i ≤ S4x8x16x768.size i := by
  intro i; fin_cases i
  · show s.val + 1 ≤ 4; omega
  · show a.val + 1 ≤ 8; omega
  · show 0 + 16 ≤ 16; omega
  · show 0 + 768 ≤ 768; omega

/-! ## Slot `s`'s part of each buffer, and expert `e`'s of each array -/

variable (R : Bufs sig) (V : Vals Val)

abbrev rU (s : Fin 4) : Rect S4x5120x768 := Rect.unit ![s.val, 0, 0] S1x5120x768.size (inbU s)
abbrev rD (s : Fin 4) : Rect S4x768x5120 := Rect.unit ![s.val, 0, 0] S1x768x5120.size (inbD s)
abbrev rA (s : Fin 4) (a : Fin 8) : Rect S4x8x16x5120 := Rect.unit ![s.val, a.val, 0, 0] S1x1x16x5120.size (inbA s a)
abbrev rB (s : Fin 4) (a : Fin 8) : Rect S4x8x16x768 := Rect.unit ![s.val, a.val, 0, 0] S1x1x16x768.size (inbB s a)
abbrev rHU (e : Fin 32) : Rect S32x5120x768 := Rect.unit ![e.val, 0, 0] S1x5120x768.size (inbHU e)
abbrev rHD (e : Fin 32) : Rect S32x768x5120 := Rect.unit ![e.val, 0, 0] S1x768x5120.size (inbHD e)
abbrev rHA (e : Fin 32) (a : Fin 8) : Rect S256x16x5120 := Rect.unit ![e.val * 8 + a.val, 0, 0] S1x16x5120.size (inbHA e a)
abbrev rHB (e : Fin 32) (a : Fin 8) : Rect S256x16x768 := Rect.unit ![e.val * 8 + a.val, 0, 0] S1x16x768.size (inbHB e a)

abbrev upSl (s : Fin 4) : Memref sig .tc .vmem S1x5120x768 .fp8e4m3 := R.ub.slice (rU s) (fun _ => rfl)
abbrev dnSl (s : Fin 4) : Memref sig .tc .vmem S1x768x5120 .fp8e4m3 := R.db.slice (rD s) (fun _ => rfl)
abbrev aSl (s : Fin 4) (a : Fin 8) : Memref sig .tc .vmem S1x1x16x5120 .bf16 := R.ab.slice (rA s a) (fun _ => rfl)
abbrev bSl (s : Fin 4) (a : Fin 8) : Memref sig .tc .vmem S1x1x16x768 .bf16 := R.bb.slice (rB s a) (fun _ => rfl)
abbrev upH (e : Fin 32) : Memref sig .tc .hbm S1x5120x768 .fp8e4m3 := R.up.slice (rHU e) (fun _ => rfl)
abbrev dnH (e : Fin 32) : Memref sig .tc .hbm S1x768x5120 .fp8e4m3 := R.dn.slice (rHD e) (fun _ => rfl)
abbrev aH (e : Fin 32) (a : Fin 8) : Memref sig .tc .hbm S1x16x5120 .bf16 := R.la.slice (rHA e a) (fun _ => rfl)
abbrev bH (e : Fin 32) (a : Fin 8) : Memref sig .tc .hbm S1x16x768 .bf16 := R.lb.slice (rHB e a) (fun _ => rfl)
abbrev cell (m : DmaSems sig S4) (s : Fin 4) : DmaSem sig := ((m.slice (Rect.unit (s := S4) ![s.val] S1.size (inbS s))).squeeze S_ sqS).sem

/-- Expert `e`'s weights, as its slice of the array reads, and as the squeezed slice does. -/
abbrev upVal (e : Fin 32) : S1x5120x768.Idx → Val .fp8e4m3 := fun i => V.xu ((rHU e).emb i)
abbrev dnVal (e : Fin 32) : S1x768x5120.Idx → Val .fp8e4m3 := fun i => V.xd ((rHD e).emb i)
abbrev upVal' (e : Fin 32) : S5120x768.Idx → Val .fp8e4m3 := fun j => upVal V e (Shape.reshapeEquiv sqU.numel_eq j)
abbrev dnVal' (e : Fin 32) : S768x5120.Idx → Val .fp8e4m3 := fun j => dnVal V e (Shape.reshapeEquiv sqD.numel_eq j)
abbrev aVal' (e : Fin 32) (a : Fin 8) : S16x5120.Idx → Val .bf16 := fun j => V.xa ((rHA e a).emb (Shape.reshapeEquiv sqHA.numel_eq j))
abbrev bVal' (e : Fin 32) (a : Fin 8) : S16x768.Idx → Val .bf16 := fun j => V.xb ((rHB e a).emb (Shape.reshapeEquiv sqHB.numel_eq j))
/-- What the adapter's part of a slot reads after the copy. -/
abbrev aVal (e : Fin 32) (a : Fin 8) : S1x1x16x5120.Idx → Val .bf16 := fun i => aVal' V e a ((Shape.reshapeEquiv sqA.numel_eq).symm i)
abbrev bVal (e : Fin 32) (a : Fin 8) : S1x1x16x768.Idx → Val .bf16 := fun i => bVal' V e a ((Shape.reshapeEquiv sqB.numel_eq).symm i)

variable (q : Fin 4 → PosShare TreeShare) (qL : Fin 4 → Fin 8 → PosShare TreeShare)

/-! ## The weights of a slot -/

def IdleU (s : Fin 4) : sProp 𝕄 :=
  iprop(anyAt (c : Thread nD τ) (upSl R s) ∗ owns (c : Thread nD τ) R.up (q s) V.xu ∗ semVal ((c : Thread nD τ), SemLoc.dma (cell R.su s)) 0)
def BusyU (s : Fin 4) (e : Fin 32) : sProp 𝕄 :=
  iprop(Copying (c : Thread nD τ) EC ((upH R e).squeeze S5120x768 sqU) ((upSl R s).squeeze S5120x768 sqU) (.dma (cell R.su s))
      (((upSl R s).squeeze S5120x768 sqU).view.dmaCredit) (q s) (upVal' V e)
    ∗ (owns (c : Thread nD τ) ((upH R e).squeeze S5120x768 sqU) (q s) (upVal' V e) -∗ owns (c : Thread nD τ) R.up (q s) V.xu))
def LandU (s : Fin 4) (e : Fin 32) : sProp 𝕄 :=
  iprop(owns (c : Thread nD τ) (upSl R s) fullShare (upVal V e) ∗ owns (c : Thread nD τ) R.up (q s) V.xu
    ∗ semVal ((c : Thread nD τ), SemLoc.dma (cell R.su s)) 0)
def IdleD (s : Fin 4) : sProp 𝕄 :=
  iprop(anyAt (c : Thread nD τ) (dnSl R s) ∗ owns (c : Thread nD τ) R.dn (q s) V.xd ∗ semVal ((c : Thread nD τ), SemLoc.dma (cell R.sd s)) 0)
def BusyD (s : Fin 4) (e : Fin 32) : sProp 𝕄 :=
  iprop(Copying (c : Thread nD τ) EC ((dnH R e).squeeze S768x5120 sqD) ((dnSl R s).squeeze S768x5120 sqD) (.dma (cell R.sd s))
      (((dnSl R s).squeeze S768x5120 sqD).view.dmaCredit) (q s) (dnVal' V e)
    ∗ (owns (c : Thread nD τ) ((dnH R e).squeeze S768x5120 sqD) (q s) (dnVal' V e) -∗ owns (c : Thread nD τ) R.dn (q s) V.xd))
def LandD (s : Fin 4) (e : Fin 32) : sProp 𝕄 :=
  iprop(owns (c : Thread nD τ) (dnSl R s) fullShare (dnVal V e) ∗ owns (c : Thread nD τ) R.dn (q s) V.xd
    ∗ semVal ((c : Thread nD τ), SemLoc.dma (cell R.sd s)) 0)

theorem credit_pos {sp : Space} {s : Shape} {e : EltTy} (m : Memref sig .tc sp s e) (h : 0 < s.numel) : 0 < m.view.dmaCredit :=
  m.view.dmaCredit_pos h

theorem owns_unsqueeze_eq {sp : Space} {sh s' : Shape} {e : EltTy} (m : Memref sig .tc sp sh e) (h : sh.Squeezes s') (X : sh.Idx → Val e) :
    (owns (c : Thread nD τ) (m.squeeze s' h) fullShare (fun j => X (Shape.reshapeEquiv h.numel_eq j)) : sProp 𝕄) ⊢ owns (c : Thread nD τ) m fullShare X := by
  refine (owns_unsqueeze (c : Thread nD τ) m h fullShare _).trans ?_
  rw [show (fun j => X (Shape.reshapeEquiv h.numel_eq ((Shape.reshapeEquiv h.numel_eq).symm j))) = X from
    funext fun j => by rw [Equiv.apply_symm_apply]]

theorem wp_startU (s : Fin 4) (e : Fin 32) {oX oD : Fin 3 → ℕ} {oS : Fin 1 → ℕ} {iX iD iS hX hD} {sq sq' sq''} {h1 h2 h3}
    {k : PUnit → Prog (TpuEff nD τ sig Val Λ .tc) α} (hoX : oX = ![e.val, 0, 0]) (hoD : oD = ![s.val, 0, 0]) (hoS : oS = ![s.val]) :
    (IdleU c R V q s : sProp 𝕄)
      ⊢ iprop((BusyU c EC R V q s e -∗ wp frame (wpE defs 𝒱 (c : Thread nD τ) bd) Set.univ (k ⟨⟩) Q)
          -∗ wp frame (wpE defs 𝒱 (c : Thread nD τ) bd) Set.univ
              (.op (.enqueueDma ((R.up.slice (Rect.unit (s := S32x5120x768) oX S1x5120x768.size iX) hX).squeeze S5120x768 sq)
                (.here ((R.ub.slice (Rect.unit (s := S4x5120x768) oD S1x5120x768.size iD) hD).squeeze S5120x768 sq'))
                (.dma ((R.su.slice (Rect.unit (s := S4) oS S1.size iS)).squeeze S_ sq'').sem) h1 h2 h3) k) Q) := by
  subst hoX hoD hoS
  unfold IdleU BusyU
  iintro ⟨Hd, Hs, Hv⟩ Hk
  ihave Hs := (owns_lend_sq (c : Thread nD τ) R.up (q s) (rHU e) (fun _ => rfl) sqU V.xu) $$ Hs
  icases Hs with ⟨Hs, Hb⟩
  ihave Hd := (anyAt_squeeze (c : Thread nD τ) (upSl R s) sqU) $$ Hd
  iapply (wp_copy 𝒱 (c : Thread nD τ) bd EC _ rfl (credit_pos _ (by decide))) $$ [Hs Hd Hv]
  · isplitl [Hs]; · iexact Hs
    isplitl [Hd]; · iexact Hd
    iexact Hv
  iintro HC
  iapply Hk
  isplitl [HC]; · iexact HC
  iexact Hb

theorem wp_awaitU (s : Fin 4) (e : Fin 32) {oD : Fin 3 → ℕ} {oS : Fin 1 → ℕ} {iD iS hD} {sq' sq''}     {sp' : Space} {s' : Shape} {e' : EltTy} {srcw : Memref sig .tc sp' s' e'} {W : Waits sig Unit}
    {h1 : srcw.view.WordExact} {h2}
    {k : PUnit → Prog (TpuEff nD τ sig Val Λ .tc) α} (hoD : oD = ![s.val, 0, 0]) (hoS : oS = ![s.val]) :
    (iprop(BusyU c EC R V q s e ∗ owes (c : Thread nD τ) 0 W) : sProp 𝕄)
      ⊢ iprop((iprop(LandU c R V q s e ∗ (∃ W', owes (c : Thread nD τ) 0 W')) -∗ wp frame (wpE defs 𝒱 (c : Thread nD τ) bd) Set.univ (k ⟨⟩) Q)
          -∗ wp frame (wpE defs 𝒱 (c : Thread nD τ) bd) Set.univ
              (.op (.waitDma2 ((R.su.slice (Rect.unit (s := S4) oS S1.size iS)).squeeze S_ sq'').sem srcw
                ((R.ub.slice (Rect.unit (s := S4x5120x768) oD S1x5120x768.size iD) hD).squeeze S5120x768 sq') h1 h2) k) Q) := by
  subst hoD hoS
  unfold BusyU LandU
  iintro ⟨⟨HC, Hb⟩, HW⟩ Hk
  iapply (wp_await 𝒱 (c : Thread nD τ) bd EC _ rfl) $$ [HC HW]
  · isplitl [HC]; · iexact HC
    iexact HW
  iintro ⟨Hd, Hs, Hv, HW⟩
  iapply Hk
  isplitr [HW]
  · isplitl [Hd]
    · iapply (owns_unsqueeze_eq c (upSl R s) sqU (upVal V e)); iexact Hd
    isplitr [Hv]
    · iapply Hb; iexact Hs
    iexact Hv
  iexact HW

theorem landU_idle (s : Fin 4) (e : Fin 32) : (LandU c R V q s e : sProp 𝕄) ⊢ IdleU c R V q s := by
  unfold LandU IdleU
  iintro ⟨H, HS⟩
  isplitl [H]; · iapply (anyAt_of (c : Thread nD τ) (upSl R s)); iexact H
  iexact HS

theorem wp_startD (s : Fin 4) (e : Fin 32) {oX oD : Fin 3 → ℕ} {oS : Fin 1 → ℕ} {iX iD iS hX hD} {sq sq' sq''} {h1 h2 h3}
    {k : PUnit → Prog (TpuEff nD τ sig Val Λ .tc) α} (hoX : oX = ![e.val, 0, 0]) (hoD : oD = ![s.val, 0, 0]) (hoS : oS = ![s.val]) :
    (IdleD c R V q s : sProp 𝕄)
      ⊢ iprop((BusyD c EC R V q s e -∗ wp frame (wpE defs 𝒱 (c : Thread nD τ) bd) Set.univ (k ⟨⟩) Q)
          -∗ wp frame (wpE defs 𝒱 (c : Thread nD τ) bd) Set.univ
              (.op (.enqueueDma ((R.dn.slice (Rect.unit (s := S32x768x5120) oX S1x768x5120.size iX) hX).squeeze S768x5120 sq)
                (.here ((R.db.slice (Rect.unit (s := S4x768x5120) oD S1x768x5120.size iD) hD).squeeze S768x5120 sq'))
                (.dma ((R.sd.slice (Rect.unit (s := S4) oS S1.size iS)).squeeze S_ sq'').sem) h1 h2 h3) k) Q) := by
  subst hoX hoD hoS
  unfold IdleD BusyD
  iintro ⟨Hd, Hs, Hv⟩ Hk
  ihave Hs := (owns_lend_sq (c : Thread nD τ) R.dn (q s) (rHD e) (fun _ => rfl) sqD V.xd) $$ Hs
  icases Hs with ⟨Hs, Hb⟩
  ihave Hd := (anyAt_squeeze (c : Thread nD τ) (dnSl R s) sqD) $$ Hd
  iapply (wp_copy 𝒱 (c : Thread nD τ) bd EC _ rfl (credit_pos _ (by decide))) $$ [Hs Hd Hv]
  · isplitl [Hs]; · iexact Hs
    isplitl [Hd]; · iexact Hd
    iexact Hv
  iintro HC
  iapply Hk
  isplitl [HC]; · iexact HC
  iexact Hb

theorem wp_awaitD (s : Fin 4) (e : Fin 32) {oD : Fin 3 → ℕ} {oS : Fin 1 → ℕ} {iD iS hD} {sq' sq''}     {sp' : Space} {s' : Shape} {e' : EltTy} {srcw : Memref sig .tc sp' s' e'} {W : Waits sig Unit}
    {h1 : srcw.view.WordExact} {h2}
    {k : PUnit → Prog (TpuEff nD τ sig Val Λ .tc) α} (hoD : oD = ![s.val, 0, 0]) (hoS : oS = ![s.val]) :
    (iprop(BusyD c EC R V q s e ∗ owes (c : Thread nD τ) 0 W) : sProp 𝕄)
      ⊢ iprop((iprop(LandD c R V q s e ∗ (∃ W', owes (c : Thread nD τ) 0 W')) -∗ wp frame (wpE defs 𝒱 (c : Thread nD τ) bd) Set.univ (k ⟨⟩) Q)
          -∗ wp frame (wpE defs 𝒱 (c : Thread nD τ) bd) Set.univ
              (.op (.waitDma2 ((R.sd.slice (Rect.unit (s := S4) oS S1.size iS)).squeeze S_ sq'').sem srcw
                ((R.db.slice (Rect.unit (s := S4x768x5120) oD S1x768x5120.size iD) hD).squeeze S768x5120 sq') h1 h2) k) Q) := by
  subst hoD hoS
  unfold BusyD LandD
  iintro ⟨⟨HC, Hb⟩, HW⟩ Hk
  iapply (wp_await 𝒱 (c : Thread nD τ) bd EC _ rfl) $$ [HC HW]
  · isplitl [HC]; · iexact HC
    iexact HW
  iintro ⟨Hd, Hs, Hv, HW⟩
  iapply Hk
  isplitr [HW]
  · isplitl [Hd]
    · iapply (owns_unsqueeze_eq c (dnSl R s) sqD (dnVal V e)); iexact Hd
    isplitr [Hv]
    · iapply Hb; iexact Hs
    iexact Hv
  iexact HW

theorem landD_idle (s : Fin 4) (e : Fin 32) : (LandD c R V q s e : sProp 𝕄) ⊢ IdleD c R V q s := by
  unfold LandD IdleD
  iintro ⟨H, HS⟩
  isplitl [H]; · iapply (anyAt_of (c : Thread nD τ) (dnSl R s)); iexact H
  iexact HS

/-! ## The adapters of a slot -/

/-- The test of bit `k` of a mask, as the kernel makes it. -/
def bitCond (m k : BitVec 32) : BitVec 1 :=
  Scalar.cmpi .ne (Scalar.extui (Scalar.cmpi .eq (Scalar.andi (Scalar.shrsi m k) 1#32) 1#32)) 0#32
/-- Mask `m` asks for adapter `a`. -/
def used (m : BitVec 32) (a : Fin 8) : Prop := bitCond m (BitVec.ofNat 32 (a.val + 1)) = 1#1
instance (m : BitVec 32) (a : Fin 8) : Decidable (used m a) := by unfold used; infer_instance

/-- An adapter's part of a slot and its shares of the two arrays. -/
def IdleP (s : Fin 4) (a : Fin 8) : sProp 𝕄 :=
  iprop((anyAt (c : Thread nD τ) (aSl R s a) ∗ anyAt (c : Thread nD τ) (bSl R s a))
    ∗ owns (c : Thread nD τ) R.la (qL s a) V.xa ∗ owns (c : Thread nD τ) R.lb (qL s a) V.xb)
/-- What gives the shares back once the slices lent to the copies return. -/
def LentP (s : Fin 4) (e : Fin 32) (a : Fin 8) : sProp 𝕄 :=
  iprop((owns (c : Thread nD τ) ((aH R e a).squeeze S16x5120 sqHA) (qL s a) (aVal' V e a) -∗ owns (c : Thread nD τ) R.la (qL s a) V.xa)
    ∗ (owns (c : Thread nD τ) ((bH R e a).squeeze S16x768 sqHB) (qL s a) (bVal' V e a) -∗ owns (c : Thread nD τ) R.lb (qL s a) V.xb))
/-- What the copies of an adapter bring. -/
def DA (s : Fin 4) (e : Fin 32) (a : Fin 8) : sProp 𝕄 :=
  iprop(owns (c : Thread nD τ) ((aSl R s a).squeeze S16x5120 sqA) fullShare (aVal' V e a)
    ∗ owns (c : Thread nD τ) ((aH R e a).squeeze S16x5120 sqHA) (qL s a) (aVal' V e a))
def DB (s : Fin 4) (e : Fin 32) (a : Fin 8) : sProp 𝕄 :=
  iprop(owns (c : Thread nD τ) ((bSl R s a).squeeze S16x768 sqB) fullShare (bVal' V e a)
    ∗ owns (c : Thread nD τ) ((bH R e a).squeeze S16x768 sqHB) (qL s a) (bVal' V e a))
/-- An adapter's part of a slot when all copies have arrived. -/
def LandP (s : Fin 4) (e : Fin 32) (m : BitVec 32) (a : Fin 8) : sProp 𝕄 :=
  iprop((if used m a then iprop(owns (c : Thread nD τ) (aSl R s a) fullShare (aVal V e a) ∗ owns (c : Thread nD τ) (bSl R s a) fullShare (bVal V e a))
      else iprop(anyAt (c : Thread nD τ) (aSl R s a) ∗ anyAt (c : Thread nD τ) (bSl R s a)))
    ∗ owns (c : Thread nD τ) R.la (qL s a) V.xa ∗ owns (c : Thread nD τ) R.lb (qL s a) V.xb)

theorem storable_owns {sp : Space} {s : Shape} {e : EltTy} (c : Thread nD τ) (m : Memref sig c.2.kind sp s e) (q : PosShare TreeShare) (X : s.Idx → Val e) :
    BI.Storable (upEmb : UEmb _ (MT nD τ sig Unit Val ℕ U ℕ)) (owns c m q X) := by
  show BI.Storable _ iprop(∃ f, ⌜m.view.read Val f = X⌝ ∗ (m.view.loc c ↦[m.view.set]{q} f))
  infer_instance

variable (τ U) in
/-- The copies of the first `j` adapters, in the order they are started. -/
def LL (s : Fin 4) (e : Fin 32) (m : BitVec 32) : ℕ → List (ℕ × sProp (MT nD τ sig Unit Val ℕ U ℕ))
  | 0 => []
  | j + 1 => LL s e m j ++ (if h : j < 8 then
      (if used m ⟨j, h⟩ then [((((aSl R s ⟨j, h⟩).squeeze S16x5120 sqA).view.dmaCredit), DA c R V qL s e ⟨j, h⟩),
        ((((bSl R s ⟨j, h⟩).squeeze S16x768 sqB).view.dmaCredit), DB c R V qL s e ⟨j, h⟩)] else []) else [])

theorem LL_mem (s : Fin 4) (e : Fin 32) (m : BitVec 32) (j : ℕ) : ∀ p ∈ LL τ U c R V qL s e m j,
    0 < p.1 ∧ BI.Storable (upEmb : UEmb _ (MT nD τ sig Unit Val ℕ U ℕ)) p.2 := by
  induction j with
  | zero => intro p hp; cases hp
  | succ j ih =>
    intro p hp
    rw [LL, List.mem_append] at hp
    rcases hp with hp | hp
    · exact ih p hp
    · split_ifs at hp with h hu
      · rw [List.mem_cons, List.mem_singleton] at hp
        rcases hp with rfl | rfl
        · refine ⟨credit_pos _ (by decide), ?_⟩
          haveI := fun m q X => @storable_owns nD τ sig Val _ U _ .vmem S16x5120 .bf16 (c : Thread nD τ) m q X
          haveI := fun m q X => @storable_owns nD τ sig Val _ U _ .hbm S16x5120 .bf16 (c : Thread nD τ) m q X
          unfold DA; infer_instance
        · refine ⟨credit_pos _ (by decide), ?_⟩
          haveI := fun m q X => @storable_owns nD τ sig Val _ U _ .vmem S16x768 .bf16 (c : Thread nD τ) m q X
          haveI := fun m q X => @storable_owns nD τ sig Val _ U _ .hbm S16x768 .bf16 (c : Thread nD τ) m q X
          unfold DB; infer_instance
      · cases hp
      · cases hp

theorem LL_prefix (s : Fin 4) (e : Fin 32) (m : BitVec 32) {j k : ℕ} (h : j ≤ k) : LL τ U c R V qL s e m j <+: LL τ U c R V qL s e m k := by
  induction k, h using Nat.le_induction with
  | base => exact List.prefix_refl _
  | succ k hk ih => exact ih.trans (by rw [LL]; exact List.prefix_append _ _)

theorem LL_used (s : Fin 4) (e : Fin 32) (m : BitVec 32) (a : Fin 8) (h : used m a) :
    LL τ U c R V qL s e m (a.val + 1) = LL τ U c R V qL s e m a.val ++ [((((aSl R s a).squeeze S16x5120 sqA).view.dmaCredit), DA c R V qL s e a),
        ((((bSl R s a).squeeze S16x768 sqB).view.dmaCredit), DB c R V qL s e a)] := by
  rw [LL, dif_pos a.isLt, if_pos h]
theorem LL_unused (s : Fin 4) (e : Fin 32) (m : BitVec 32) (a : Fin 8) (h : ¬ used m a) :
    LL τ U c R V qL s e m (a.val + 1) = LL τ U c R V qL s e m a.val := by
  rw [LL, dif_pos a.isLt, if_neg h, List.append_nil]

variable (τ U) in
/-- How many copies the first `j` adapters start, and what they credit. -/
abbrev cnt (s : Fin 4) (e : Fin 32) (m : BitVec 32) (j : ℕ) : ℕ := (LL τ U c R V qL s e m j).length
variable (τ U) in
abbrev uns (s : Fin 4) (e : Fin 32) (m : BitVec 32) (j : ℕ) : ℕ := ((LL τ U c R V qL s e m j).map Prod.fst).sum

theorem LL_get (s : Fin 4) (e : Fin 32) (m : BitVec 32) (a : Fin 8) (h : used m a) :
    (LL τ U c R V qL s e m 8)[cnt τ U c R V qL s e m a.val]? = some ((((aSl R s a).squeeze S16x5120 sqA).view.dmaCredit), DA c R V qL s e a)
    ∧ (LL τ U c R V qL s e m 8)[cnt τ U c R V qL s e m a.val + 1]? = some ((((bSl R s a).squeeze S16x768 sqB).view.dmaCredit), DB c R V qL s e a) := by
  obtain ⟨t, ht⟩ := LL_prefix (τ := τ) (U := U) c R V qL s e m (j := a.val + 1) (k := 8) a.isLt
  rw [LL_used c R V qL s e m a h] at ht
  rw [← ht]
  constructor <;> simp [cnt]

theorem uns_le (s : Fin 4) (e : Fin 32) (m : BitVec 32) {j k : ℕ} (h : j ≤ k) : uns τ U c R V qL s e m j ≤ uns τ U c R V qL s e m k := by
  obtain ⟨t, ht⟩ := LL_prefix (τ := τ) (U := U) c R V qL s e m h
  unfold uns
  rw [← ht, List.map_append, List.sum_append]; omega

theorem unitsTo_all (s : Fin 4) (e : Fin 32) (m : BitVec 32) :
    unitsTo (LL τ U c R V qL s e m 8) (LL τ U c R V qL s e m 8).length = uns τ U c R V qL s e m 8 := by
  unfold unitsTo; rw [List.take_length]

/-- Adapters before `j` have been dealt with; the cell's copies so far are those they ask for. -/
def Starting (s : Fin 4) (e : Fin 32) (m : BitVec 32) (j : ℕ) : sProp 𝕄 :=
  iprop(BI.bigSep Finset.univ (fun a : Fin 8 => if a.val < j ∧ used m a then LentP c R V qL s e a else IdleP c R V qL s a)
    ∗ ListBatch (c : Thread nD τ) EC (.dma (cell R.sl s)) (LL τ U c R V qL s e m 8) (cnt τ U c R V qL s e m j) 0)
/-- All copies are under way, those of the adapters before `j` have been waited for. -/
def Waiting (s : Fin 4) (e : Fin 32) (m : BitVec 32) (j : ℕ) : sProp 𝕄 :=
  iprop(BI.bigSep Finset.univ (fun a : Fin 8 => if used m a then LentP c R V qL s e a else IdleP c R V qL s a)
    ∗ ListBatch (c : Thread nD τ) EC (.dma (cell R.sl s)) (LL τ U c R V qL s e m 8) (LL τ U c R V qL s e m 8).length (uns τ U c R V qL s e m j))
def IdleL (s : Fin 4) : sProp 𝕄 :=
  iprop(BI.bigSep Finset.univ (fun a : Fin 8 => IdleP c R V qL s a) ∗ semVal ((c : Thread nD τ), SemLoc.dma (cell R.sl s)) 0)
def LandL (s : Fin 4) (e : Fin 32) (m : BitVec 32) : sProp 𝕄 :=
  iprop(BI.bigSep Finset.univ (fun a : Fin 8 => LandP c R V qL s e m a) ∗ semVal ((c : Thread nD τ), SemLoc.dma (cell R.sl s)) 0)

theorem start_zero (s : Fin 4) (e : Fin 32) (m : BitVec 32) : (IdleL c R V qL s : sProp 𝕄) ⊢ |={Set.univ}=> Starting c EC R V qL s e m 0 := by
  unfold IdleL Starting
  iintro ⟨H, Hv⟩
  imod (listBatch_alloc (c : Thread nD τ) EC (.dma (cell R.sl s)) (LL τ U c R V qL s e m 8) (fun p hp => (LL_mem c R V qL s e m 8 p hp).2)) $$ Hv with Hv
  imodintro
  isplitl [H]
  · simp only [Nat.not_lt_zero, false_and, if_false]; iexact H
  iexact Hv

theorem start_eight (s : Fin 4) (e : Fin 32) (m : BitVec 32) : (Starting c EC R V qL s e m 8 : sProp 𝕄) ⊢ Waiting c EC R V qL s e m 0 := by
  unfold Starting Waiting
  iintro ⟨H, Hv⟩
  isplitl [H]
  · simp only [Fin.is_lt, true_and]; iexact H
  iexact Hv

theorem bigSep_swap (a : Fin 8) (f g : Fin 8 → sProp (MT nD τ sig Unit Val ℕ U ℕ)) (h : ∀ b, b ≠ a → f b = g b) :
    (BI.bigSep Finset.univ f : sProp 𝕄) ⊢ iprop(f a ∗ (g a -∗ BI.bigSep Finset.univ g)) := by
  have e1 : BI.bigSep Finset.univ f = iprop(f a ∗ BI.bigSep (Finset.univ.erase a) g) := by
    rw [← BI.bigSep_congr (Φ := f) (Ψ := g) (s := Finset.univ.erase a) (fun b hb => h b (Finset.ne_of_mem_erase hb))]
    exact BI.bigSep_univ_split a
  have e2 : BI.bigSep Finset.univ g = iprop(g a ∗ BI.bigSep (Finset.univ.erase a) g) := BI.bigSep_univ_split a
  rw [e1, e2]
  iintro ⟨H, HR⟩
  isplitl [H]; · iexact H
  iintro HG
  isplitl [HG]; · iexact HG
  iexact HR

section Pair
variable (s : Fin 4) (e : Fin 32) (m : BitVec 32) (a : Fin 8)

/-- The same slices at offsets the program computes. -/
abbrev atHA (o : Fin 3 → ℕ) (i : ∀ k, o k + S1x16x5120.size k ≤ S256x16x5120.size k) : Memref sig .tc .hbm S16x5120 .bf16 :=
  (R.la.slice (Rect.unit (s := S256x16x5120) o S1x16x5120.size i) (fun _ => rfl)).squeeze S16x5120 sqHA
abbrev atHB (o : Fin 3 → ℕ) (i : ∀ k, o k + S1x16x768.size k ≤ S256x16x768.size k) : Memref sig .tc .hbm S16x768 .bf16 :=
  (R.lb.slice (Rect.unit (s := S256x16x768) o S1x16x768.size i) (fun _ => rfl)).squeeze S16x768 sqHB
abbrev atA (o : Fin 4 → ℕ) (i : ∀ k, o k + S1x1x16x5120.size k ≤ S4x8x16x5120.size k) : Memref sig .tc .vmem S16x5120 .bf16 :=
  (R.ab.slice (Rect.unit (s := S4x8x16x5120) o S1x1x16x5120.size i) (fun _ => rfl)).squeeze S16x5120 sqA
abbrev atB (o : Fin 4 → ℕ) (i : ∀ k, o k + S1x1x16x768.size k ≤ S4x8x16x768.size k) : Memref sig .tc .vmem S16x768 .bf16 :=
  (R.bb.slice (Rect.unit (s := S4x8x16x768) o S1x1x16x768.size i) (fun _ => rfl)).squeeze S16x768 sqB
abbrev atS (o : Fin 1 → ℕ) (i : ∀ k, o k + S1.size k ≤ S4.size k) : DmaSem sig :=
  ((R.sl.slice (Rect.unit (s := S4) o S1.size i)).squeeze S_ sqS).sem

theorem starting_skip (hu : ¬ used m a) : (Starting c EC R V qL s e m a.val : sProp 𝕄) ⊢ Starting c EC R V qL s e m (a.val + 1) := by
  have hb : (BI.bigSep Finset.univ (fun a' : Fin 8 => if a'.val < a.val ∧ used m a' then LentP c R V qL s e a' else IdleP c R V qL s a') : sProp 𝕄)
      = BI.bigSep Finset.univ (fun a' : Fin 8 => if a'.val < a.val + 1 ∧ used m a' then LentP c R V qL s e a' else IdleP c R V qL s a') := by
    apply BI.bigSep_congr
    intro b _
    by_cases hb : b = a
    · subst hb; rw [if_neg (fun x => hu x.2), if_neg (fun x => hu x.2)]
    · have : b.val ≠ a.val := fun x => hb (Fin.ext x)
      simp only [show (b.val < a.val + 1) ↔ (b.val < a.val) by omega]
  have hc : cnt τ U c R V qL s e m (a.val + 1) = cnt τ U c R V qL s e m a.val := by unfold cnt; rw [LL_unused c R V qL s e m a hu]
  unfold Starting
  rw [hb, hc]

theorem wp_startBoth (hu : used m a) {h1 h2 h3 h4 h5 h6} {K : PUnit → Prog (TpuEff nD τ sig Val Λ .tc) α} :
    (Starting c EC R V qL s e m a.val : sProp 𝕄)
      ⊢ iprop((Starting c EC R V qL s e m (a.val + 1) -∗ wp frame (wpE defs 𝒱 (c : Thread nD τ) bd) Set.univ (K ⟨⟩) Q)
          -∗ wp frame (wpE defs 𝒱 (c : Thread nD τ) bd) Set.univ
              (.op (.enqueueDma ((aH R e a).squeeze S16x5120 sqHA) (.here ((aSl R s a).squeeze S16x5120 sqA)) (.dma (cell R.sl s)) h1 h2 h3) fun _ =>
                .op (.enqueueDma ((bH R e a).squeeze S16x768 sqHB) (.here ((bSl R s a).squeeze S16x768 sqB)) (.dma (cell R.sl s)) h4 h5 h6) K) Q) := by
  obtain ⟨g1, g2⟩ := LL_get (τ := τ) (U := U) c R V qL s e m a hu
  have hcnt : cnt τ U c R V qL s e m (a.val + 1) = cnt τ U c R V qL s e m a.val + 1 + 1 := by
    unfold cnt; rw [LL_used c R V qL s e m a hu, List.length_append]; rfl
  have hsw := bigSep_swap (τ := τ) (U := U) a (fun a' : Fin 8 => if a'.val < a.val ∧ used m a' then LentP c R V qL s e a' else IdleP c R V qL s a')
    (fun a' : Fin 8 => if a'.val < a.val + 1 ∧ used m a' then LentP c R V qL s e a' else IdleP c R V qL s a') (fun b hb => by
      have : b.val ≠ a.val := fun x => hb (Fin.ext x)
      simp only [show (b.val < a.val + 1) ↔ (b.val < a.val) by omega])
  simp only [lt_irrefl, false_and, if_false, Nat.lt_succ_self, hu, and_self, if_true] at hsw
  unfold Starting
  rw [hcnt]
  iintro ⟨HP, HB⟩ Hk
  ihave HP := hsw $$ HP
  icases HP with ⟨HI, HP⟩
  ihave HI := (show (IdleP c R V qL s a : sProp 𝕄) ⊢ iprop((anyAt (c : Thread nD τ) (aSl R s a) ∗ anyAt (c : Thread nD τ) (bSl R s a))
    ∗ owns (c : Thread nD τ) R.la (qL s a) V.xa ∗ owns (c : Thread nD τ) R.lb (qL s a) V.xb) from .rfl) $$ HI
  icases HI with ⟨⟨HA, HB'⟩, HsA, HsB⟩
  ihave HA := (anyAt_squeeze (c : Thread nD τ) (aSl R s a) sqA) $$ HA
  ihave HB' := (anyAt_squeeze (c : Thread nD τ) (bSl R s a) sqB) $$ HB'
  ihave HsA := (owns_lend_sq (c : Thread nD τ) R.la (qL s a) (rHA e a) (fun _ => rfl) sqHA V.xa) $$ HsA
  ihave HsB := (owns_lend_sq (c : Thread nD τ) R.lb (qL s a) (rHB e a) (fun _ => rfl) sqHB V.xb) $$ HsB
  icases HsA with ⟨HsA, WA⟩
  icases HsB with ⟨HsB, WB⟩
  iapply (wp_listCopy 𝒱 (c : Thread nD τ) bd EC (LL τ U c R V qL s e m 8) _ _ _ g1 rfl (show _ ⊢ DA c R V qL s e a from .rfl)) $$ [HsA HA HB]
  · isplitl [HsA]; · iexact HsA
    isplitl [HA]; · iexact HA
    iexact HB
  iintro HB
  iapply (wp_listCopy 𝒱 (c : Thread nD τ) bd EC (LL τ U c R V qL s e m 8) _ _ _ g2 rfl (show _ ⊢ DB c R V qL s e a from .rfl)) $$ [HsB HB' HB]
  · isplitl [HsB]; · iexact HsB
    isplitl [HB']; · iexact HB'
    iexact HB
  iintro HB
  iapply Hk
  isplitr [HB]
  · iapply HP
    unfold LentP
    isplitl [WA]; · iexact WA
    iexact WB
  iexact HB

/-- Start the two copies of adapter `a`, if the mask asks for it. -/
theorem wp_startPair {C : Prop} [Decidable C] (hC : C ↔ used m a) {oA oB : Fin 3 → ℕ} {pA pB : Fin 4 → ℕ} {oS oS' : Fin 1 → ℕ}
    {iA : C → _} {iB : C → _} {jA : C → _} {jB : C → _} {iS : C → _} {iS' : C → _}
    {h1 : ∀ h : C, (atHA R oA (iA h)).view.WordExact} {h2 : ∀ h : C, (atA R pA (jA h)).view.WordExact}
    {h3 : ∀ h : C, DmaTarget.Typed (nD := nD) .hbm (.dma (atS R oS (iS h))) (.here (p := (c : Thread nD τ).2) (atA R pA (jA h)))}
    {h4 : ∀ h : C, (atHB R oB (iB h)).view.WordExact} {h5 : ∀ h : C, (atB R pB (jB h)).view.WordExact}
    {h6 : ∀ h : C, DmaTarget.Typed (nD := nD) .hbm (.dma (atS R oS' (iS' h))) (.here (p := (c : Thread nD τ).2) (atB R pB (jB h)))}
    {K : PUnit → Prog (TpuEff nD τ sig Val Λ .tc) α}
    (hoA : C → oA = ![e.val * 8 + a.val, 0, 0]) (hoB : C → oB = ![e.val * 8 + a.val, 0, 0])
    (hpA : C → pA = ![s.val, a.val, 0, 0]) (hpB : C → pB = ![s.val, a.val, 0, 0])
    (hoS : C → oS = ![s.val]) (hoS' : C → oS' = ![s.val]) :
    (Starting c EC R V qL s e m a.val : sProp 𝕄)
      ⊢ iprop((Starting c EC R V qL s e m (a.val + 1) -∗ wp frame (wpE defs 𝒱 (c : Thread nD τ) bd) Set.univ (K ⟨⟩) Q)
          -∗ wp frame (wpE defs 𝒱 (c : Thread nD τ) bd) Set.univ
              (if h : C then
                (.op (.enqueueDma (atHA R oA (iA h)) (.here (atA R pA (jA h))) (.dma (atS R oS (iS h))) (h1 h) (h2 h) (h3 h)) fun _ =>
                .op (.enqueueDma (atHB R oB (iB h)) (.here (atB R pB (jB h))) (.dma (atS R oS' (iS' h))) (h4 h) (h5 h) (h6 h)) K)
              else K ⟨⟩) Q) := by
  by_cases h : C
  · rw [dif_pos h]
    obtain rfl := hoA h; obtain rfl := hoB h; obtain rfl := hpA h; obtain rfl := hpB h; obtain rfl := hoS h; obtain rfl := hoS' h
    exact wp_startBoth 𝒱 c bd EC R V qL s e m a (hC.mp h)
  · rw [dif_neg h]
    iintro H Hk
    iapply Hk
    iapply (starting_skip c EC R V qL s e m a (fun h' => h (hC.mpr h'))); iexact H

/-- Wait for the two copies of adapter `a`, if the mask asks for it. -/
theorem wp_waitPair {C : Prop} [Decidable C] (hC : C ↔ used m a) {pA pB : Fin 4 → ℕ} {oS oS' : Fin 1 → ℕ}
    {jA : C → _} {jB : C → _} {iS : C → _} {iS' : C → _} {sp sp' : Space} {s1 s2 : Shape} {e1 e2 : EltTy}
    {srcA : C → Memref sig .tc sp s1 e1} {srcB : C → Memref sig .tc sp' s2 e2}
    {h1 : ∀ h : C, (srcA h).view.WordExact} {h2 : ∀ h : C, (atA R pA (jA h)).view.WordExact}
    {h4 : ∀ h : C, (srcB h).view.WordExact} {h5 : ∀ h : C, (atB R pB (jB h)).view.WordExact}
    {K : PUnit → Prog (TpuEff nD τ sig Val Λ .tc) α} {W : Waits sig Unit}
    (hpA : C → pA = ![s.val, a.val, 0, 0]) (hpB : C → pB = ![s.val, a.val, 0, 0])
    (hoS : C → oS = ![s.val]) (hoS' : C → oS' = ![s.val]) :
    (iprop(Waiting c EC R V qL s e m a.val ∗ owes (c : Thread nD τ) 0 W) : sProp 𝕄)
      ⊢ iprop((iprop(Waiting c EC R V qL s e m (a.val + 1) ∗ (∃ W', owes (c : Thread nD τ) 0 W')) -∗ wp frame (wpE defs 𝒱 (c : Thread nD τ) bd) Set.univ (K ⟨⟩) Q)
          -∗ wp frame (wpE defs 𝒱 (c : Thread nD τ) bd) Set.univ
              (if h : C then
                (.op (.waitDma2 (atS R oS (iS h)) (srcA h) (atA R pA (jA h)) (h1 h) (h2 h)) fun _ =>
                .op (.waitDma2 (atS R oS' (iS' h)) (srcB h) (atB R pB (jB h)) (h4 h) (h5 h)) K)
              else K ⟨⟩) Q) := by
  by_cases h : C
  · rw [dif_pos h]
    obtain rfl := hpA h; obtain rfl := hpB h; obtain rfl := hoS h; obtain rfl := hoS' h
    have hu := hC.mp h
    have hle := uns_le (τ := τ) (U := U) c R V qL s e m (j := a.val + 1) (k := 8) a.isLt
    have hun : uns τ U c R V qL s e m (a.val + 1) = uns τ U c R V qL s e m a.val + ((aSl R s a).squeeze S16x5120 sqA).view.dmaCredit
        + ((bSl R s a).squeeze S16x768 sqB).view.dmaCredit := by
      unfold uns; rw [LL_used c R V qL s e m a hu, List.map_append, List.sum_append]; simp [Nat.add_assoc]
    have hall := unitsTo_all (τ := τ) (U := U) c R V qL s e m
    have hb1 : uns τ U c R V qL s e m a.val + ((aSl R s a).squeeze S16x5120 sqA).view.dmaCredit ≤ unitsTo (LL τ U c R V qL s e m 8) (LL τ U c R V qL s e m 8).length := by
      rw [hall]; exact le_trans (Nat.le_add_right _ _) (hun ▸ hle)
    have hb2 : uns τ U c R V qL s e m a.val + ((aSl R s a).squeeze S16x5120 sqA).view.dmaCredit + ((bSl R s a).squeeze S16x768 sqB).view.dmaCredit ≤ unitsTo (LL τ U c R V qL s e m 8) (LL τ U c R V qL s e m 8).length := by
      rw [hall, ← hun]; exact hle
    unfold Waiting
    rw [hun]
    iintro ⟨⟨HP, HB⟩, HW⟩ Hk
    iapply (wp_listAwait 𝒱 (c : Thread nD τ) bd EC (LL τ U c R V qL s e m 8) _ (((aSl R s a).squeeze S16x5120 sqA).view.dmaCredit) rfl
      hb1) $$ [HB HW]
    · isplitl [HB]; · iexact HB
      iexact HW
    iintro ⟨HB, ⟨%W1, HW⟩⟩
    iapply (wp_listAwait 𝒱 (c : Thread nD τ) bd EC (LL τ U c R V qL s e m 8) _ (((bSl R s a).squeeze S16x768 sqB).view.dmaCredit) rfl
      hb2) $$ [HB HW]
    · isplitl [HB]; · iexact HB
      iexact HW
    iintro ⟨HB, HW⟩
    iapply Hk
    isplitr [HW]
    · isplitl [HP]; · iexact HP
      iexact HB
    iexact HW
  · rw [dif_neg h]
    have hu : ¬ used m a := fun h' => h (hC.mpr h')
    unfold Waiting uns
    rw [LL_unused c R V qL s e m a hu]
    iintro ⟨H, HW⟩ Hk
    iapply Hk
    isplitl [H]; · iexact H
    iexists W; iexact HW

end Pair

/-! ## Collecting a slot -/

theorem bigSep_insert8 (f : Fin 8 → sProp (MT nD τ sig Unit Val ℕ U ℕ)) (i : Fin 8) (t : Finset (Fin 8)) (h : i ∉ t) :
    (BI.bigSep (insert i t) f : sProp 𝕄) = iprop(f i ∗ BI.bigSep t f) := BI.bigSep_insert h

theorem fold_append (L L' : List (ℕ × sProp (MT nD τ sig Unit Val ℕ U ℕ))) :
    ((L ++ L').foldr (fun p P => iprop(p.2 ∗ P)) (iprop(emp) : sProp 𝕄))
      ⊢ iprop(L.foldr (fun p P => iprop(p.2 ∗ P)) (iprop(emp) : sProp 𝕄) ∗ L'.foldr (fun p P => iprop(p.2 ∗ P)) (iprop(emp) : sProp 𝕄)) := by
  induction L with
  | nil => iintro H; isplitr; · iempintro
           iexact H
  | cons p L ih =>
    show iprop(p.2 ∗ (L ++ L').foldr _ _) ⊢ iprop((p.2 ∗ L.foldr _ _) ∗ _)
    iintro ⟨H, HL⟩
    ihave HL := ih $$ HL
    icases HL with ⟨H1, H2⟩
    isplitr [H2]
    · isplitl [H]; · iexact H
      iexact H1
    iexact H2

theorem fold_LL (s : Fin 4) (e : Fin 32) (m : BitVec 32) : ∀ j, j ≤ 8 →
    ((LL τ U c R V qL s e m j).foldr (fun p P => iprop(p.2 ∗ P)) (iprop(emp) : sProp 𝕄))
      ⊢ BI.bigSep (Finset.univ.filter (fun a : Fin 8 => a.val < j)) (fun a => if used m a then iprop(DA c R V qL s e a ∗ DB c R V qL s e a) else iprop(emp))
  | 0, _ => by
    rw [show (Finset.univ.filter (fun a : Fin 8 => a.val < 0)) = ∅ by ext; simp, BI.bigSep_empty]
    iintro -; iempintro
  | j + 1, hj => by
    have ih := fold_LL s e m j (by omega)
    have hs : (Finset.univ.filter (fun a : Fin 8 => a.val < j + 1)) = insert (⟨j, hj⟩ : Fin 8) (Finset.univ.filter (fun a : Fin 8 => a.val < j)) := by
      ext b; simp only [Finset.mem_filter, Finset.mem_univ, true_and, Finset.mem_insert, Fin.ext_iff]; omega
    rw [hs, bigSep_insert8 _ _ _ (by simp)]
    by_cases hu : used m ⟨j, hj⟩
    · rw [if_pos hu]
      have e1 := LL_used (τ := τ) (U := U) c R V qL s e m ⟨j, hj⟩ hu
      simp only at e1
      rw [e1]
      iintro H
      ihave H := (fold_append _ _) $$ H
      icases H with ⟨H1, H2⟩
      ihave H2 := (show List.foldr (fun p P => iprop(p.2 ∗ P)) (iprop(emp) : sProp 𝕄) [((((aSl R s ⟨j, hj⟩).squeeze S16x5120 sqA).view.dmaCredit), DA c R V qL s e ⟨j, hj⟩),
        ((((bSl R s ⟨j, hj⟩).squeeze S16x768 sqB).view.dmaCredit), DB c R V qL s e ⟨j, hj⟩)] ⊢ iprop(DA c R V qL s e ⟨j, hj⟩ ∗ DB c R V qL s e ⟨j, hj⟩ ∗ emp) from .rfl) $$ H2
      icases H2 with ⟨HA, HB, -⟩
      isplitl [HA HB]
      · isplitl [HA]; · iexact HA
        iexact HB
      iapply ih; iexact H1
    · rw [if_neg hu]
      have e1 := LL_unused (τ := τ) (U := U) c R V qL s e m ⟨j, hj⟩ hu
      simp only at e1
      rw [e1]
      iintro H
      isplitr; · iempintro
      iapply ih; iexact H

theorem landP_of (s : Fin 4) (e : Fin 32) (m : BitVec 32) (a : Fin 8) :
    (iprop((if used m a then LentP c R V qL s e a else IdleP c R V qL s a)
      ∗ (if used m a then iprop(DA c R V qL s e a ∗ DB c R V qL s e a) else iprop(emp))) : sProp 𝕄) ⊢ LandP c R V qL s e m a := by
  unfold LandP
  by_cases hu : used m a
  · rw [if_pos hu, if_pos hu, if_pos hu]
    unfold LentP DA DB
    iintro ⟨⟨WA, WB⟩, ⟨HA, HsA⟩, ⟨HB, HsB⟩⟩
    isplitl [HA HB]
    · isplitl [HA]
      · iapply (owns_unsqueeze (c : Thread nD τ) (aSl R s a) sqA fullShare (aVal' V e a)); iexact HA
      · iapply (owns_unsqueeze (c : Thread nD τ) (bSl R s a) sqB fullShare (bVal' V e a)); iexact HB
    isplitl [WA HsA]
    · iapply WA; iexact HsA
    · iapply WB; iexact HsB
  · rw [if_neg hu, if_neg hu, if_neg hu]
    unfold IdleP
    iintro ⟨H, -⟩
    iexact H

theorem landL_of (s : Fin 4) (e : Fin 32) (m : BitVec 32) : (Waiting c EC R V qL s e m 8 : sProp 𝕄) ⊢ |={Set.univ}=> LandL c R V qL s e m := by
  unfold Waiting LandL
  iintro ⟨HP, HB⟩
  imod (listBatch_collect (c : Thread nD τ) EC (.dma (cell R.sl s)) (LL τ U c R V qL s e m 8) (fun p hp => (LL_mem c R V qL s e m 8 p hp).1) _
    (unitsTo_all (τ := τ) (U := U) c R V qL s e m).symm) $$ HB with ⟨HB, Hv⟩
  imodintro
  isplitr [Hv]
  · ihave HB := (fold_LL c R V qL s e m 8 le_rfl) $$ HB
    rw [show (Finset.univ.filter (fun a : Fin 8 => a.val < 8)) = Finset.univ by ext b; simp]
    iapply (show iprop(BI.bigSep Finset.univ (fun a : Fin 8 => if used m a then LentP c R V qL s e a else IdleP c R V qL s a)
        ∗ BI.bigSep Finset.univ (fun a : Fin 8 => if used m a then iprop(DA c R V qL s e a ∗ DB c R V qL s e a) else iprop(emp)))
        ⊢ (BI.bigSep Finset.univ (fun a : Fin 8 => LandP c R V qL s e m a) : sProp 𝕄) from
      ((BI.equiv_iff.mpr (BI.bigSep_sep _ _ _).symm).1 : _ ⊢ BI.bigSep Finset.univ (fun a : Fin 8 => iprop((if used m a then LentP c R V qL s e a else IdleP c R V qL s a)
        ∗ (if used m a then iprop(DA c R V qL s e a ∗ DB c R V qL s e a) else iprop(emp))))).trans (BI.bigSep_mono (fun a _ => landP_of c R V qL s e m a)))
    isplitl [HP]; · iexact HP
    iexact HB
  iexact Hv

theorem landP_idle (s : Fin 4) (e : Fin 32) (m : BitVec 32) (a : Fin 8) : (LandP c R V qL s e m a : sProp 𝕄) ⊢ IdleP c R V qL s a := by
  unfold LandP IdleP
  by_cases hu : used m a
  · rw [if_pos hu]
    iintro ⟨⟨HA, HB⟩, H⟩
    isplitl [HA HB]
    · isplitl [HA]
      · iapply (anyAt_of (c : Thread nD τ) (aSl R s a)); iexact HA
      · iapply (anyAt_of (c : Thread nD τ) (bSl R s a)); iexact HB
    iexact H
  · rw [if_neg hu]

/-- A slot at rest, and a slot at work on expert `e` with mask `m`. -/
def Idle (s : Fin 4) : sProp 𝕄 := iprop(IdleU c R V q s ∗ IdleD c R V q s ∗ IdleL c R V qL s)
def Busy (s : Fin 4) (e : Fin 32) (m : BitVec 32) : sProp 𝕄 := iprop(BusyU c EC R V q s e ∗ BusyD c EC R V q s e ∗ Waiting c EC R V qL s e m 0)

end Cert.Proof.Slots
-- ==== Proof.Ring.lean ====
module

public import proofs.«01_k».proof.Proof.Slots

@[expose] public section

/-!
# Cutting the ring's buffers into slots, and joining them again

The whole buffers, the full shares of the four arrays and the twelve cells are four idle slots and a remainder of
shares.  A load of one whole slot goes through the parts the adapters' copies have filled.
-/

noncomputable section

namespace Cert.Proof.Slots

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Proof.Copies
open Cert.Kernel (S4x5120x768 S4x768x5120 S4x8x16x5120 S4x8x16x768 S32x5120x768 S32x768x5120 S256x16x5120 S256x16x768
  S1x5120x768 S1x768x5120 S1x16x5120 S1x16x768 S1x1x16x5120 S1x1x16x768 S1x8x16x5120 S1x8x16x768 S5120x768 S768x5120 S16x5120 S16x768 S4 S1 S_)

variable {nD : Nat} {τ : Topo} {sig : RefSig} {Val : EltTy → Type} [∀ e, Nonempty (Val e)] {U : Type} [URA U]

local notation "𝕄" => MT nD τ sig Unit Val ℕ U ℕ

variable {Λ : Labels} {defs : Defs nD τ sig Val Λ} (𝒱 : Variants) (c : Dev nD) (bd : Option 𝒱.V)
variable {α : Type} {Q : α → sProp (MT nD τ sig Unit Val ℕ U ℕ)}

/-! ## Shares -/

/-- The `i`-th of the shares cut from `p` one after another, and what is left after `n`. -/
def tok (p : PosShare TreeShare) : ℕ → PosShare TreeShare
  | 0 => p.left
  | i + 1 => tok p.right i
def rest (p : PosShare TreeShare) : ℕ → PosShare TreeShare
  | 0 => p
  | n + 1 => rest p.right n

theorem bigSep_finSucc {n : ℕ} (f : Fin (n + 1) → sProp (MT nD τ sig Unit Val ℕ U ℕ)) :
    (BI.bigSep Finset.univ f : sProp 𝕄) = iprop(f 0 ∗ BI.bigSep Finset.univ (fun i : Fin n => f i.succ)) := by
  rw [Fin.univ_succ, Finset.cons_eq_insert, BI.bigSep_insert (by simp), BI.bigSep_map]; rfl

theorem owns_toks {sp : Space} {s : Shape} {e : EltTy} (m : Memref sig .tc sp s e) (X : s.Idx → Val e) : ∀ (n : ℕ) (p : PosShare TreeShare),
    (owns (c : Thread nD τ) m p X : sProp 𝕄)
      ⊣⊢ iprop(BI.bigSep Finset.univ (fun i : Fin n => owns (c : Thread nD τ) m (tok p i.val) X) ∗ owns (c : Thread nD τ) m (rest p n) X)
  | 0, p => by
    rw [show (Finset.univ : Finset (Fin 0)) = ∅ from rfl, BI.bigSep_empty]
    constructor
    · iintro H; isplitr; · iempintro
      iexact H
    · iintro ⟨-, H⟩; iexact H
  | n + 1, p => by
    rw [bigSep_finSucc]
    have ih := owns_toks m X n p.right
    have h2 := owns_halves (U := U) (Lvl := ℕ) (Name := ℕ) (Ix := Unit) (c : Thread nD τ) m p X
    constructor
    · iintro H
      ihave H := h2.1 $$ H
      icases H with ⟨Hl, Hr⟩
      ihave Hr := ih.1 $$ Hr
      icases Hr with ⟨Hr, H0⟩
      isplitr [H0]
      · isplitl [Hl]; · iexact Hl
        iexact Hr
      iexact H0
    · iintro ⟨⟨Hl, Hr⟩, H0⟩
      iapply h2.2
      isplitl [Hl]; · iexact Hl
      iapply ih.2
      isplitl [Hr]; · iexact Hr
      iexact H0

/-! ## Parts -/

section Parts
variable {sp : Space} {s : Shape} {e : EltTy} (m : Memref sig .tc sp s e) {T : Type} [Fintype T] [DecidableEq T]
  (r : T → Rect s) (hr : ∀ t a, (r t).stride a = 1) (hd : ∀ t t', t ≠ t' → Disjoint (r t).set (r t').set)

include hd in
theorem anyAt_cut (hcov : (Finset.univ : Finset T).biUnion (fun t => (r t).set) = Finset.univ) :
    (anyAt (c : Thread nD τ) m : sProp 𝕄) ⊢ BI.bigSep Finset.univ (fun t => anyAt (c : Thread nD τ) (m.slice (r t) (hr t))) := by
  unfold anyAt
  iintro ⟨%X, H⟩
  ihave H := (owns_rects (c : Thread nD τ) m fullShare r hr hd hcov X) $$ H
  iapply (show (BI.bigSep Finset.univ (fun t => owns (c : Thread nD τ) (m.slice (r t) (hr t)) fullShare (fun j => X ((r t).emb j))) : sProp 𝕄)
      ⊢ BI.bigSep Finset.univ (fun t => iprop(∃ X, owns (c : Thread nD τ) (m.slice (r t) (hr t)) fullShare X)) from
    BI.bigSep_mono (fun t _ => anyAt_of (c : Thread nD τ) (m.slice (r t) (hr t)) _))
  iexact H

include hd in
theorem anyAt_glue (hcov : (Finset.univ : Finset T).biUnion (fun t => (r t).set) = Finset.univ) :
    (BI.bigSep Finset.univ (fun t => anyAt (c : Thread nD τ) (m.slice (r t) (hr t))) : sProp 𝕄) ⊢ anyAt (c : Thread nD τ) m := by
  unfold anyAt
  refine (BI.bigSep_exists_pi Finset.univ (fun t X => owns (c : Thread nD τ) (m.slice (r t) (hr t)) fullShare X)).trans ?_
  iintro ⟨%Xs, H⟩
  have hg (t : T) : (fun j => Rect.glue r hcov Xs ((r t).emb j)) = Xs t := funext fun y => Rect.glue_emb r hcov hd Xs t y
  iexists (Rect.glue r hcov Xs)
  iapply (owns_of_rects (c : Thread nD τ) m fullShare r hr hd hcov (Rect.glue r hcov Xs))
  simp only [hg]
  iexact H

end Parts

/-- A load through parts owned one by one. -/
theorem wp_load_parts {cs : CoreSpace} {s : Shape} {e : EltTy} (m : Memref sig .tc cs s e) {T : Type} [Fintype T] [DecidableEq T]
    (r : T → Rect s) (hr : ∀ t a, (r t).stride a = 1) (hd : ∀ t t', t ≠ t' → Disjoint (r t).set (r t').set)
    (ρ : Rect s) (hρ : ρ.set ⊆ (Finset.univ : Finset T).biUnion (fun t => (r t).set)) {hl : m.view.LoadsAt ρ.toLoadRect}
    {k : (ρ.shape.Idx → Val e) → Prog (TpuEff nD τ sig Val Λ .tc) α} (Y : (t : T) → (r t).shape.Idx → Val e) :
    (BI.bigSep Finset.univ (fun t => owns (c : Thread nD τ) (m.slice (r t) (hr t)) fullShare (Y t)) : sProp 𝕄)
      ⊢ iprop((∀ Z : ρ.shape.Idx → Val e, iprop(⌜∀ t i j, ρ.emb j = (r t).emb i → Z j = Y t i⌝
            ∗ BI.bigSep Finset.univ (fun t => owns (c : Thread nD τ) (m.slice (r t) (hr t)) fullShare (Y t)))
          -∗ wp frame (wpE defs 𝒱 (c : Thread nD τ) bd) Set.univ (k Z) Q)
        -∗ wp frame (wpE defs 𝒱 (c : Thread nD τ) bd) Set.univ (.op (.load m ρ.toLoadRect hl) k) Q) := by
  have hdv (t t' : T) (htt : t ≠ t') : Disjoint (m.view.slice (r t)).set (m.view.slice (r t')).set := by
    rw [View.set_slice, View.set_slice]; exact (Finset.disjoint_map _).mpr (hd t t' htt)
  have h1 : (BI.bigSep Finset.univ (fun t => owns (c : Thread nD τ) (m.slice (r t) (hr t)) fullShare (Y t)) : sProp 𝕄)
      ⊢ iprop(∃ g : Buf Val (m.view.loc (c : Thread nD τ)), ⌜∀ t i, m.view.read Val g ((r t).emb i) = Y t i⌝
          ∗ (m.view.loc (c : Thread nD τ) ↦[(Finset.univ : Finset T).biUnion (fun t => (m.view.slice (r t)).set)]{fullShare} g)) := by
    refine (show _ ⊢ BI.bigSep Finset.univ (fun t => iprop(∃ f : Buf Val (m.view.loc (c : Thread nD τ)), ⌜(m.view.slice (r t)).read Val f = Y t⌝
      ∗ (m.view.loc (c : Thread nD τ) ↦[(m.view.slice (r t)).set]{fullShare} f))) from .rfl).trans ?_
    refine (BI.bigSep_exists_pi Finset.univ _).trans ?_
    iintro ⟨%fs, H⟩
    ihave H := (BI.bigSep_pure_sep Finset.univ (fun t => (m.view.slice (r t)).read Val (fs t) = Y t)
      (fun t => (m.view.loc (c : Thread nD τ) ↦[(m.view.slice (r t)).set]{fullShare} (fs t) : sProp 𝕄))) $$ H
    icases H with ⟨%hf, H⟩
    ihave H := (pointsTo_biUnion_join Finset.univ (fun t => (m.view.slice (r t)).set) fs (fun _ => Classical.arbitrary _)
      (fun t _ t' _ h => hdv t t' h)) $$ H
    icases H with ⟨%g, %hg, H⟩
    iexists g
    isplitr
    · ipureintro
      intro t i
      rw [← hf t (Finset.mem_univ t)]
      show (m.view.slice (r t)).read Val g i = (m.view.slice (r t)).read Val (fs t) i
      unfold View.read
      rw [hg t (Finset.mem_univ t) _ (Finset.mem_map_of_mem _ (Finset.mem_univ i))]
    iexact H
  have h2 (g : Buf Val (m.view.loc (c : Thread nD τ))) (hg : ∀ t i, m.view.read Val g ((r t).emb i) = Y t i) :
      (m.view.loc (c : Thread nD τ) ↦[(Finset.univ : Finset T).biUnion (fun t => (m.view.slice (r t)).set)]{fullShare} g : sProp 𝕄)
        ⊢ BI.bigSep Finset.univ (fun t => owns (c : Thread nD τ) (m.slice (r t) (hr t)) fullShare (Y t)) := by
    refine (Entails.of_eq (pointsTo_biUnion (ℓ := m.view.loc (c : Thread nD τ)) Finset.univ (fun t => (m.view.slice (r t)).set) (fun t _ t' _ h => hdv t t' h))).trans ?_
    refine BI.bigSep_mono (fun t _ => ?_)
    show _ ⊢ iprop(∃ f : Buf Val (m.view.loc (c : Thread nD τ)), ⌜(m.view.slice (r t)).read Val f = Y t⌝
      ∗ (m.view.loc (c : Thread nD τ) ↦[(m.view.slice (r t)).set]{fullShare} f))
    iintro H
    iexists g
    isplitr; · ipureintro; funext i; exact hg t i
    iexact H
  have h3 : (m.access ρ).set ⊆ (Finset.univ : Finset T).biUnion (fun t => (m.view.slice (r t)).set) := by
    intro x hx
    have hx' : x ∈ (m.view.slice ρ).set := hx
    rw [View.set_slice, Finset.mem_map] at hx'
    obtain ⟨y, hy, rfl⟩ := hx'
    obtain ⟨t, _, ht⟩ := Finset.mem_biUnion.mp (hρ hy)
    refine Finset.mem_biUnion.mpr ⟨t, Finset.mem_univ _, ?_⟩
    rw [View.set_slice]; exact Finset.mem_map_of_mem _ ht
  iintro H Hk
  ihave H := h1 $$ H
  icases H with ⟨%g, %hg, H⟩
  iapply (wp_load_rect 𝒱 (c : Thread nD τ) bd Set.univ (m := m) (r := ρ) (q := fullShare) (f := g)
    (S := (Finset.univ : Finset T).biUnion (fun t => (m.view.slice (r t)).set)) h3) $$ [H]
  · iexact H
  iintro H
  iapply Hk
  isplitr
  · ipureintro
    intro t i j hij
    rw [← hg t i, ← hij]; rfl
  iapply (h2 g hg)
  iexact H

/-! ## The slots cover the buffers -/

theorem mem_rU (s : Fin 4) (j : S4x5120x768.Idx) : j ∈ (rU s).set ↔ (j 0).val = s.val := by
  rw [Rect.mem_set_unit]
  constructor
  · intro h; have := h 0
    have h1 : s.val ≤ (j 0).val := this.1
    have h2 : (j 0).val < s.val + 1 := this.2
    omega
  · intro h a
    fin_cases a
    · exact ⟨(show s.val ≤ (j 0).val by omega), (show (j 0).val < s.val + 1 by omega)⟩
    · exact ⟨Nat.zero_le _, (show (j 1).val < 0 + 5120 by have : (j 1).val < 5120 := (j 1).isLt; omega)⟩
    · exact ⟨Nat.zero_le _, (show (j 2).val < 0 + 768 by have : (j 2).val < 768 := (j 2).isLt; omega)⟩
theorem mem_rD (s : Fin 4) (j : S4x768x5120.Idx) : j ∈ (rD s).set ↔ (j 0).val = s.val := by
  rw [Rect.mem_set_unit]
  constructor
  · intro h; have := h 0
    have h1 : s.val ≤ (j 0).val := this.1
    have h2 : (j 0).val < s.val + 1 := this.2
    omega
  · intro h a
    fin_cases a
    · exact ⟨(show s.val ≤ (j 0).val by omega), (show (j 0).val < s.val + 1 by omega)⟩
    · exact ⟨Nat.zero_le _, (show (j 1).val < 0 + 768 by have : (j 1).val < 768 := (j 1).isLt; omega)⟩
    · exact ⟨Nat.zero_le _, (show (j 2).val < 0 + 5120 by have : (j 2).val < 5120 := (j 2).isLt; omega)⟩
theorem mem_rA (s : Fin 4) (a : Fin 8) (j : S4x8x16x5120.Idx) : j ∈ (rA s a).set ↔ ((j 0).val = s.val ∧ (j 1).val = a.val) := by
  rw [Rect.mem_set_unit]
  constructor
  · intro h; have := h 0; have t := h 1
    have h1 : s.val ≤ (j 0).val := this.1
    have h2 : (j 0).val < s.val + 1 := this.2
    have h3 : a.val ≤ (j 1).val := t.1
    have h4 : (j 1).val < a.val + 1 := t.2
    omega
  · intro h i
    fin_cases i
    · exact ⟨(show s.val ≤ (j 0).val by omega), (show (j 0).val < s.val + 1 by omega)⟩
    · exact ⟨(show a.val ≤ (j 1).val by omega), (show (j 1).val < a.val + 1 by omega)⟩
    · exact ⟨Nat.zero_le _, (show (j 2).val < 0 + 16 by have : (j 2).val < 16 := (j 2).isLt; omega)⟩
    · exact ⟨Nat.zero_le _, (show (j 3).val < 0 + 5120 by have : (j 3).val < 5120 := (j 3).isLt; omega)⟩
theorem mem_rB (s : Fin 4) (a : Fin 8) (j : S4x8x16x768.Idx) : j ∈ (rB s a).set ↔ ((j 0).val = s.val ∧ (j 1).val = a.val) := by
  rw [Rect.mem_set_unit]
  constructor
  · intro h; have := h 0; have t := h 1
    have h1 : s.val ≤ (j 0).val := this.1
    have h2 : (j 0).val < s.val + 1 := this.2
    have h3 : a.val ≤ (j 1).val := t.1
    have h4 : (j 1).val < a.val + 1 := t.2
    omega
  · intro h i
    fin_cases i
    · exact ⟨(show s.val ≤ (j 0).val by omega), (show (j 0).val < s.val + 1 by omega)⟩
    · exact ⟨(show a.val ≤ (j 1).val by omega), (show (j 1).val < a.val + 1 by omega)⟩
    · exact ⟨Nat.zero_le _, (show (j 2).val < 0 + 16 by have : (j 2).val < 16 := (j 2).isLt; omega)⟩
    · exact ⟨Nat.zero_le _, (show (j 3).val < 0 + 768 by have : (j 3).val < 768 := (j 3).isLt; omega)⟩

/-- A family of rectangles told apart by a function of the index is disjoint, and covers if the function is onto. -/
theorem fam_disjoint {s : Shape} {T : Type} (r : T → Rect s) (f : s.Idx → T) (h : ∀ t j, j ∈ (r t).set ↔ f j = t) :
    ∀ t t', t ≠ t' → Disjoint (r t).set (r t').set := fun t t' ht =>
  Finset.disjoint_left.mpr fun j h1 h2 => ht (((h t j).mp h1).symm.trans ((h t' j).mp h2))
theorem fam_cover {s : Shape} {T : Type} [Fintype T] (r : T → Rect s) (f : s.Idx → T) (h : ∀ t j, j ∈ (r t).set ↔ f j = t) :
    (Finset.univ : Finset T).biUnion (fun t => (r t).set) = Finset.univ := by
  ext j; simp only [Finset.mem_biUnion, Finset.mem_univ, true_and, iff_true]; exact ⟨f j, (h _ _).mpr rfl⟩

theorem fam_U (t : Fin 4) (j : S4x5120x768.Idx) : j ∈ (rU t).set ↔ (j 0 : Fin 4) = t := (mem_rU t j).trans Fin.ext_iff.symm
theorem fam_D (t : Fin 4) (j : S4x768x5120.Idx) : j ∈ (rD t).set ↔ (j 0 : Fin 4) = t := (mem_rD t j).trans Fin.ext_iff.symm
theorem fam_A (t : Fin 4 × Fin 8) (j : S4x8x16x5120.Idx) : j ∈ (rA t.1 t.2).set ↔ ((j 0 : Fin 4), (j 1 : Fin 8)) = t :=
  (mem_rA t.1 t.2 j).trans ⟨fun h => Prod.ext (Fin.ext h.1) (Fin.ext h.2), fun h => ⟨congrArg (fun x : Fin 4 × Fin 8 => x.1.val) h, congrArg (fun x : Fin 4 × Fin 8 => x.2.val) h⟩⟩
theorem fam_B (t : Fin 4 × Fin 8) (j : S4x8x16x768.Idx) : j ∈ (rB t.1 t.2).set ↔ ((j 0 : Fin 4), (j 1 : Fin 8)) = t :=
  (mem_rB t.1 t.2 j).trans ⟨fun h => Prod.ext (Fin.ext h.1) (Fin.ext h.2), fun h => ⟨congrArg (fun x : Fin 4 × Fin 8 => x.1.val) h, congrArg (fun x : Fin 4 × Fin 8 => x.2.val) h⟩⟩

/-! ## Four idle slots -/

variable (R : Bufs sig) (V : Vals Val)

/-- The share of an expert array a slot holds; of an adapter array, the share an adapter of a slot holds. -/
def qs (s : Fin 4) : PosShare TreeShare := tok fullShare s.val
def qLs (s : Fin 4) (a : Fin 8) : PosShare TreeShare := tok (tok fullShare s.val) a.val

abbrev cells (m : DmaSems sig S4) : sProp 𝕄 := BI.bigSep Finset.univ fun s : Fin 4 => semVal ((c : Thread nD τ), SemLoc.dma (cell m s)) 0

theorem idleU_all : (iprop(anyAt (c : Thread nD τ) R.ub ∗ owns (c : Thread nD τ) R.up fullShare V.xu ∗ cells c R.su) : sProp 𝕄)
    ⊣⊢ iprop(BI.bigSep Finset.univ (fun s => IdleU c R V qs s) ∗ owns (c : Thread nD τ) R.up (rest fullShare 4) V.xu) := by
  unfold IdleU cells
  rw [BI.bigSep_sep', BI.bigSep_sep']
  have h1 := anyAt_cut (τ := τ) (U := U) (Val := Val) c R.ub rU (fun _ _ => rfl) (fam_disjoint rU _ fam_U) (fam_cover rU _ fam_U)
  have h2 := anyAt_glue (τ := τ) (U := U) (Val := Val) c R.ub rU (fun _ _ => rfl) (fam_disjoint rU _ fam_U) (fam_cover rU _ fam_U)
  have h3 := owns_toks (τ := τ) (U := U) c R.up V.xu 4 fullShare
  constructor
  · iintro ⟨H1, H2, H3⟩
    ihave H1 := h1 $$ H1
    ihave H2 := h3.1 $$ H2
    icases H2 with ⟨H2, H0⟩
    isplitr [H0]
    · isplitl [H1]; · iexact H1
      isplitl [H2]; · iexact H2
      iexact H3
    iexact H0
  · iintro ⟨⟨H1, H2, H3⟩, H0⟩
    isplitl [H1]; · iapply h2; iexact H1
    isplitl [H2 H0]
    · iapply h3.2
      isplitl [H2]; · iexact H2
      iexact H0
    iexact H3

theorem idleD_all : (iprop(anyAt (c : Thread nD τ) R.db ∗ owns (c : Thread nD τ) R.dn fullShare V.xd ∗ cells c R.sd) : sProp 𝕄)
    ⊣⊢ iprop(BI.bigSep Finset.univ (fun s => IdleD c R V qs s) ∗ owns (c : Thread nD τ) R.dn (rest fullShare 4) V.xd) := by
  unfold IdleD cells
  rw [BI.bigSep_sep', BI.bigSep_sep']
  have h1 := anyAt_cut (τ := τ) (U := U) (Val := Val) c R.db rD (fun _ _ => rfl) (fam_disjoint rD _ fam_D) (fam_cover rD _ fam_D)
  have h2 := anyAt_glue (τ := τ) (U := U) (Val := Val) c R.db rD (fun _ _ => rfl) (fam_disjoint rD _ fam_D) (fam_cover rD _ fam_D)
  have h3 := owns_toks (τ := τ) (U := U) c R.dn V.xd 4 fullShare
  constructor
  · iintro ⟨H1, H2, H3⟩
    ihave H1 := h1 $$ H1
    ihave H2 := h3.1 $$ H2
    icases H2 with ⟨H2, H0⟩
    isplitr [H0]
    · isplitl [H1]; · iexact H1
      isplitl [H2]; · iexact H2
      iexact H3
    iexact H0
  · iintro ⟨⟨H1, H2, H3⟩, H0⟩
    isplitl [H1]; · iapply h2; iexact H1
    isplitl [H2 H0]
    · iapply h3.2
      isplitl [H2]; · iexact H2
      iexact H0
    iexact H3

/-- The shares of an adapter array, one for each adapter of each slot, and what is left. -/
theorem owns_toks2 {sp : Space} {s : Shape} {e : EltTy} (m : Memref sig .tc sp s e) (X : s.Idx → Val e) :
    (owns (c : Thread nD τ) m fullShare X : sProp 𝕄)
      ⊣⊢ iprop(BI.bigSep Finset.univ (fun s : Fin 4 => BI.bigSep Finset.univ (fun a : Fin 8 => owns (c : Thread nD τ) m (qLs s a) X))
        ∗ (BI.bigSep Finset.univ (fun s : Fin 4 => owns (c : Thread nD τ) m (rest (tok fullShare s.val) 8) X)
          ∗ owns (c : Thread nD τ) m (rest fullShare 4) X)) := by
  have h3 := owns_toks (τ := τ) (U := U) c m X 4 fullShare
  have h4 : (BI.bigSep Finset.univ (fun s : Fin 4 => owns (c : Thread nD τ) m (tok fullShare s.val) X) : sProp 𝕄)
      = iprop(BI.bigSep Finset.univ (fun s : Fin 4 => BI.bigSep Finset.univ (fun a : Fin 8 => owns (c : Thread nD τ) m (qLs s a) X))
        ∗ BI.bigSep Finset.univ (fun s : Fin 4 => owns (c : Thread nD τ) m (rest (tok fullShare s.val) 8) X)) := by
    rw [← BI.bigSep_sep']
    exact BI.bigSep_congr fun s _ =>
      have h := owns_toks (τ := τ) (U := U) c m X 8 (tok fullShare s.val)
      Entails.antisymm h.1 h.2
  rw [h4] at h3
  constructor
  · iintro H
    ihave H := h3.1 $$ H
    icases H with ⟨⟨H1, H2⟩, H3⟩
    isplitl [H1]; · iexact H1
    isplitl [H2]; · iexact H2
    iexact H3
  · iintro ⟨H1, H2, H3⟩
    iapply h3.2
    isplitr [H3]
    · isplitl [H1]; · iexact H1
      iexact H2
    iexact H3

/-- What is left of the adapter arrays beside the slots. -/
def RestL : sProp 𝕄 :=
  iprop((BI.bigSep Finset.univ (fun s : Fin 4 => owns (c : Thread nD τ) R.la (rest (tok fullShare s.val) 8) V.xa)
          ∗ owns (c : Thread nD τ) R.la (rest fullShare 4) V.xa)
    ∗ (BI.bigSep Finset.univ (fun s : Fin 4 => owns (c : Thread nD τ) R.lb (rest (tok fullShare s.val) 8) V.xb)
          ∗ owns (c : Thread nD τ) R.lb (rest fullShare 4) V.xb))

theorem idleL_all : (iprop((anyAt (c : Thread nD τ) R.ab ∗ anyAt (c : Thread nD τ) R.bb) ∗ (owns (c : Thread nD τ) R.la fullShare V.xa
      ∗ owns (c : Thread nD τ) R.lb fullShare V.xb) ∗ cells c R.sl) : sProp 𝕄)
    ⊣⊢ iprop(BI.bigSep Finset.univ (fun s => IdleL c R V qLs s) ∗ RestL c R V) := by
  have e0 : (BI.bigSep Finset.univ (fun s => IdleL c R V qLs s) : sProp 𝕄)
      = iprop(((BI.bigSep Finset.univ (fun t : Fin 4 × Fin 8 => anyAt (c : Thread nD τ) (aSl R t.1 t.2))
          ∗ BI.bigSep Finset.univ (fun t : Fin 4 × Fin 8 => anyAt (c : Thread nD τ) (bSl R t.1 t.2)))
        ∗ BI.bigSep Finset.univ (fun s : Fin 4 => BI.bigSep Finset.univ (fun a : Fin 8 => owns (c : Thread nD τ) R.la (qLs s a) V.xa))
        ∗ BI.bigSep Finset.univ (fun s : Fin 4 => BI.bigSep Finset.univ (fun a : Fin 8 => owns (c : Thread nD τ) R.lb (qLs s a) V.xb)))
        ∗ cells c R.sl) := by
    unfold IdleL IdleP cells
    rw [BI.bigSep_univ_prod, BI.bigSep_univ_prod]
    simp only [BI.bigSep_sep']
  have h1 := anyAt_cut (τ := τ) (U := U) (Val := Val) c R.ab (fun t : Fin 4 × Fin 8 => rA t.1 t.2) (fun _ _ => rfl) (fam_disjoint _ _ fam_A) (fam_cover _ _ fam_A)
  have h2 := anyAt_glue (τ := τ) (U := U) (Val := Val) c R.ab (fun t : Fin 4 × Fin 8 => rA t.1 t.2) (fun _ _ => rfl) (fam_disjoint _ _ fam_A) (fam_cover _ _ fam_A)
  have h1' := anyAt_cut (τ := τ) (U := U) (Val := Val) c R.bb (fun t : Fin 4 × Fin 8 => rB t.1 t.2) (fun _ _ => rfl) (fam_disjoint _ _ fam_B) (fam_cover _ _ fam_B)
  have h2' := anyAt_glue (τ := τ) (U := U) (Val := Val) c R.bb (fun t : Fin 4 × Fin 8 => rB t.1 t.2) (fun _ _ => rfl) (fam_disjoint _ _ fam_B) (fam_cover _ _ fam_B)
  have h3 := owns_toks2 (τ := τ) (U := U) c R.la V.xa
  have h3' := owns_toks2 (τ := τ) (U := U) c R.lb V.xb
  rw [e0]
  unfold RestL
  constructor
  · iintro ⟨⟨HA, HB⟩, ⟨SA, SB⟩, Hv⟩
    ihave HA := h1 $$ HA
    ihave HB := h1' $$ HB
    ihave SA := h3.1 $$ SA
    ihave SB := h3'.1 $$ SB
    icases SA with ⟨SA, RA⟩
    icases SB with ⟨SB, RB⟩
    isplitr [RA RB]
    · isplitr [Hv]
      · isplitl [HA HB]
        · isplitl [HA]; · iexact HA
          iexact HB
        isplitl [SA]; · iexact SA
        iexact SB
      iexact Hv
    isplitl [RA]; · iexact RA
    iexact RB
  · iintro ⟨⟨⟨⟨HA, HB⟩, SA, SB⟩, Hv⟩, RA, RB⟩
    isplitl [HA HB]
    · isplitl [HA]
      · iapply h2; iexact HA
      · iapply h2'; iexact HB
    isplitl [SA SB RA RB]
    · isplitl [SA RA]
      · iapply h3.2
        isplitl [SA]; · iexact SA
        iexact RA
      · iapply h3'.2
        isplitl [SB]; · iexact SB
        iexact RB
    iexact Hv

end Cert.Proof.Slots
-- ==== Proof.RingState.lean ====
module

public import proofs.«01_k».proof.Proof.Ring

@[expose] public section

/-!
# The state of the ring

Expert number `j` of the order occupies slot `j % 4`.  Between two trips the experts `lo … hi - 1` are under way; all
other slots are idle.
-/

noncomputable section

namespace Cert.Proof.RingState

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Proof.Copies Cert.Proof.Slots

variable {nD : Nat} {τ : Topo} {sig : RefSig} {Val : EltTy → Type} [∀ e, Nonempty (Val e)] {U : Type} [URA U]

local notation "𝕄" => MT nD τ sig Unit Val ℕ U ℕ

variable (c : Dev nD)
variable (EC : UEmb Counters (MT nD τ sig Unit Val ℕ U ℕ)) [EC.LandsIn (upEmb : UEmb _ (MT nD τ sig Unit Val ℕ U ℕ))]
variable (R : Bufs sig) (V : Vals Val)

/-- The slot of expert number `j`. -/
def slot (j : ℕ) : Fin 4 := ⟨j % 4, Nat.mod_lt _ (by decide)⟩

/-- The expert number a slot is for, from `lo` on. -/
def num (lo : ℕ) (s : Fin 4) : ℕ := lo + (s.val + 4 - lo % 4) % 4

variable (n : ℕ) (ord : ℕ → Fin 32) (msk : Fin 32 → BitVec 32)

def RingSt (lo hi : ℕ) : sProp 𝕄 :=
  BI.bigSep Finset.univ fun s : Fin 4 =>
    if num lo s < hi ∧ num lo s < n then Busy c EC R V qs qLs s (ord (num lo s)) (msk (ord (num lo s))) else Idle c R V qs qLs s

theorem bigSep_swap4 {T : Type} [Fintype T] [DecidableEq T] (a : T) (f g : T → sProp (MT nD τ sig Unit Val ℕ U ℕ)) (h : ∀ b, b ≠ a → f b = g b) :
    (BI.bigSep Finset.univ f : sProp 𝕄) ⊢ iprop(f a ∗ (g a -∗ BI.bigSep Finset.univ g)) := by
  have e1 : BI.bigSep Finset.univ f = iprop(f a ∗ BI.bigSep (Finset.univ.erase a) g) := by
    rw [← BI.bigSep_congr (s := Finset.univ.erase a) (fun b hb => h b (Finset.ne_of_mem_erase hb))]
    exact BI.bigSep_univ_split a
  have e2 : BI.bigSep Finset.univ g = iprop(g a ∗ BI.bigSep (Finset.univ.erase a) g) := BI.bigSep_univ_split a
  rw [e1, e2]
  iintro ⟨Hf, H⟩
  isplitl [Hf]
  · iexact Hf
  · iintro Hg
    isplitl [Hg]
    · iexact Hg
    · iexact H

theorem num_slot (lo : ℕ) (j : ℕ) (h1 : lo ≤ j) (h2 : j < lo + 4) : num lo (slot j) = j := by
  unfold num slot; dsimp only; omega
theorem slot_num (lo : ℕ) (s : Fin 4) : slot (num lo s) = s := by
  unfold num slot; apply Fin.ext; dsimp only; have := s.isLt; omega

theorem ring_take_idle (lo hi : ℕ) (h1 : lo ≤ hi) (h2 : hi < lo + 4) (hn : hi < n) :
    (RingSt c EC R V n ord msk lo hi : sProp 𝕄)
      ⊢ iprop(Idle c R V qs qLs (slot hi) ∗ (Busy c EC R V qs qLs (slot hi) (ord hi) (msk (ord hi)) -∗ RingSt c EC R V n ord msk lo (hi + 1))) := by
  unfold RingSt
  have h := bigSep_swap4 (τ := τ) (U := U) (slot hi)
    (fun s : Fin 4 => if num lo s < hi ∧ num lo s < n then Busy c EC R V qs qLs s (ord (num lo s)) (msk (ord (num lo s))) else Idle c R V qs qLs s)
    (fun s : Fin 4 => if num lo s < hi + 1 ∧ num lo s < n then Busy c EC R V qs qLs s (ord (num lo s)) (msk (ord (num lo s))) else Idle c R V qs qLs s)
    (by
      intro b hb
      have : num lo b ≠ hi := fun hh => hb (by rw [← hh, slot_num])
      have e : (num lo b < hi ∧ num lo b < n) = (num lo b < hi + 1 ∧ num lo b < n) := by
        apply propext; omega
      simp only [e])
  rw [num_slot lo hi h1 h2, if_neg (by omega), if_pos (by omega)] at h
  exact h

theorem ring_skip (lo hi : ℕ) (hn : n ≤ hi) :
    (RingSt c EC R V n ord msk lo hi : sProp 𝕄) = RingSt c EC R V n ord msk lo (hi + 1) := by
  unfold RingSt
  apply BI.bigSep_congr
  intro s _
  have e : (num lo s < hi ∧ num lo s < n) = (num lo s < hi + 1 ∧ num lo s < n) := by
    apply propext; omega
  simp only [e]

theorem ring_take_busy (lo hi : ℕ) (h1 : lo < hi) (h2 : hi ≤ lo + 4) (hn : lo < n) :
    (RingSt c EC R V n ord msk lo hi : sProp 𝕄)
      ⊢ iprop(Busy c EC R V qs qLs (slot lo) (ord lo) (msk (ord lo)) ∗ (Idle c R V qs qLs (slot lo) -∗ RingSt c EC R V n ord msk (lo + 1) hi)) := by
  unfold RingSt
  have h := bigSep_swap4 (τ := τ) (U := U) (slot lo)
    (fun s : Fin 4 => if num lo s < hi ∧ num lo s < n then Busy c EC R V qs qLs s (ord (num lo s)) (msk (ord (num lo s))) else Idle c R V qs qLs s)
    (fun s : Fin 4 => if num (lo + 1) s < hi ∧ num (lo + 1) s < n then Busy c EC R V qs qLs s (ord (num (lo + 1) s)) (msk (ord (num (lo + 1) s))) else Idle c R V qs qLs s)
    (by
      intro b hb
      have hne : num lo b ≠ lo := fun hh => hb (by rw [← slot_num lo b, hh])
      have e : num (lo + 1) b = num lo b := by
        unfold num at hne ⊢
        have := b.isLt
        omega
      rw [e])
  have e2 : num (lo + 1) (slot lo) = lo + 4 := by
    unfold num slot; dsimp only; omega
  rw [num_slot lo lo le_rfl (by omega), if_pos (by omega), e2, if_neg (by omega)] at h
  exact h

theorem ring_idle (lo hi : ℕ) (hn : n ≤ lo ∨ hi ≤ lo) :
    (RingSt c EC R V n ord msk lo hi : sProp 𝕄) = BI.bigSep Finset.univ fun s : Fin 4 => Idle c R V qs qLs s := by
  unfold RingSt
  apply BI.bigSep_congr
  intro s _
  rw [if_neg]
  unfold num
  omega

/-- The first expert's copies, started piece by piece, and the other slots idle. -/
theorem ring_one (hn : 0 < n) :
    (iprop(BI.bigSep Finset.univ (fun s : Fin 4 => if s = 0 then BusyU c EC R V qs s (ord 0) else IdleU c R V qs s)
        ∗ BI.bigSep Finset.univ (fun s : Fin 4 => if s = 0 then BusyD c EC R V qs s (ord 0) else IdleD c R V qs s)
        ∗ BI.bigSep Finset.univ (fun s : Fin 4 => if s = 0 then Waiting c EC R V qLs s (ord 0) (msk (ord 0)) 0 else IdleL c R V qLs s)) : sProp 𝕄)
      ⊢ RingSt c EC R V n ord msk 0 1 := by
  have e : (RingSt c EC R V n ord msk 0 1 : sProp 𝕄) = iprop(BI.bigSep Finset.univ (fun s : Fin 4 => if s = 0 then BusyU c EC R V qs s (ord 0) else IdleU c R V qs s)
        ∗ BI.bigSep Finset.univ (fun s : Fin 4 => if s = 0 then BusyD c EC R V qs s (ord 0) else IdleD c R V qs s)
        ∗ BI.bigSep Finset.univ (fun s : Fin 4 => if s = 0 then Waiting c EC R V qLs s (ord 0) (msk (ord 0)) 0 else IdleL c R V qLs s)) := by
    unfold RingSt
    rw [← BI.bigSep_sep', ← BI.bigSep_sep']
    apply BI.bigSep_congr
    intro s _
    by_cases hs : s = 0
    · subst hs
      have e0 : num 0 0 = 0 := rfl
      rw [e0, if_pos ⟨Nat.zero_lt_one, hn⟩, if_pos rfl, if_pos rfl, if_pos rfl]
      rfl
    · have hv : s.val ≠ 0 := fun h => hs (Fin.ext h)
      rw [if_neg (by unfold num; have := s.isLt; omega), if_neg hs, if_neg hs, if_neg hs]
      rfl
  rw [e]

/-- Four idle slots, piece by piece. -/
theorem idle_all : (BI.bigSep Finset.univ (fun s : Fin 4 => Idle c R V qs qLs s) : sProp 𝕄)
    = iprop(BI.bigSep Finset.univ (fun s => IdleU c R V qs s) ∗ BI.bigSep Finset.univ (fun s => IdleD c R V qs s)
      ∗ BI.bigSep Finset.univ (fun s => IdleL c R V qLs s)) := by
  rw [← BI.bigSep_sep', ← BI.bigSep_sep']
  rfl

end Cert.Proof.RingState
-- ==== Proof.K.Control.lean ====
module

public import proofs.«01_k».proof.Proof.Words
public import proofs.«01_k».proof.Proof.Tables
public import proofs.«01_k».proof.Proof.RingState
public import proofs.«01_k».proof.Proof.Gen.Kernel.Skeleton

@[expose] public section

/-!
# The loops that build the adapter masks and the order of the experts
-/

set_option maxRecDepth 16384

noncomputable section

namespace Cert.Proof.K

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Proof.Copies Cert.Proof.Words Cert.Proof.Tables Cert.Proof.Slots Cert.Proof.RingState
open Cert.Kernel Cert.Kernel.Gen

variable {F : FTy → Type} [FloatOps F] {U : Type} [URA U]

local notation "𝕄" => MT nD τ sig Unit (Elt F) ℕ U ℕ

variable {defs : Defs nD τ sig (Elt F) Λ₀} (𝒱 : Variants) (c : Dev nD) (bd : Option 𝒱.V)
variable (arg0 : Memref sig .tc .smem S8x32 .i32) (harg0 : arg0.IsWhole) (arg1 : Memref sig .tc .smem S1x32 .i32) (harg1 : arg1.IsWhole) (arg2 : Memref sig .tc .vmem S8x32 .i32) (harg2 : arg2.IsWhole) (arg3 : Memref sig .tc .vmem S8x32 .f32) (harg3 : arg3.IsWhole) (arg4 : Memref sig .tc .vmem S32x1 .i32) (harg4 : arg4.IsWhole) (arg5 : Memref sig .tc .vmem S32x5120 .bf16) (harg5 : arg5.IsWhole) (arg6 : Memref sig .tc .vmem S32x768 .f32) (harg6 : arg6.IsWhole) (arg7 : Memref sig .tc .vmem S32x5120 .f32) (harg7 : arg7.IsWhole) (arg8 : Memref sig .tc .hbm S32x5120x768 .fp8e4m3) (harg8 : arg8.IsWhole) (arg9 : Memref sig .tc .hbm S32x768x5120 .fp8e4m3) (harg9 : arg9.IsWhole) (arg10 : Memref sig .tc .hbm S256x16x5120 .bf16) (harg10 : arg10.IsWhole) (arg11 : Memref sig .tc .hbm S256x16x768 .bf16) (harg11 : arg11.IsWhole) (arg12 : Memref sig .tc .vmem S32x5120 .bf16) (harg12 : arg12.IsWhole) (arg13 : Memref sig .tc .vmem S32x5120 .fp8e4m3) (harg13 : arg13.IsWhole) (arg14 : Memref sig .tc .vmem S32x1 .f32) (harg14 : arg14.IsWhole) (arg15 : Memref sig .tc .vmem S4x5120x768 .fp8e4m3) (harg15 : arg15.IsWhole) (arg16 : Memref sig .tc .vmem S4x768x5120 .fp8e4m3) (harg16 : arg16.IsWhole) (arg17 : Memref sig .tc .vmem S4x8x16x5120 .bf16) (harg17 : arg17.IsWhole) (arg18 : Memref sig .tc .vmem S4x8x16x768 .bf16) (harg18 : arg18.IsWhole) (arg19 : Memref sig .tc .vmem S32x8 .i32) (harg19 : arg19.IsWhole) (arg20 : Memref sig .tc .vmem S32x8 .f32) (harg20 : arg20.IsWhole) (arg21 : Memref sig .tc .vmem S32x5120 .f32) (harg21 : arg21.IsWhole) (arg22 : Memref sig .tc .smem S32 .i32) (harg22 : arg22.IsWhole) (arg23 : Memref sig .tc .smem S33 .i32) (harg23 : arg23.IsWhole) (arg24 : DmaSems sig S4) (arg25 : DmaSems sig S4) (arg26 : DmaSems sig S4)

theorem t1_trips : k0_t1_loop.trips = 32 := by decide
theorem t2_trips : k0_t2_loop.trips = 32 := by decide
theorem t3_trips : k0_t3_loop.trips = 32 := by decide

/-- The first loop writes zero to every mask. -/
theorem wp_t1 {Q : Unit → sProp (MT nD τ sig Unit (Elt F) ℕ U ℕ)} :
    (anyAt (c : Thread nD τ) arg22 : sProp 𝕄)
      ⊢ iprop((words c arg22 fullShare (fun _ => (0#32 : BitVec 32)) -∗ Q ()) -∗
        wp frame (wpE defs 𝒱 (c : Thread nD τ) bd) Set.univ (Scf.Loop.for k0_t1_loop k0_t1_ok ⟨⟩ (k0_t1_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 arg25 arg26)) Q) := by
  have hstep : ∀ (t : Fin (Scf.trips k0_t1_loop.lb k0_t1_loop.ub k0_t1_loop.st)) (a : Unit), iprop(∃ M : ℕ → BitVec 32, ⌜∀ j, j < t.val → M j = 0#32⌝ ∗ words c arg22 fullShare M)
      ⊢ wp frame (wpE defs 𝒱 (c : Thread nD τ) bd) Set.univ (k0_t1_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 arg25 arg26 t a)
        (fun _ => iprop(∃ M : ℕ → BitVec 32, ⌜∀ j, j < t.val + 1 → M j = 0#32⌝ ∗ (words c arg22 fullShare M : sProp 𝕄))) := by
    intro t _
    iintro ⟨%M, %hM, H⟩
    sl_unfold [k0_t1_body]
    iapply (wp_word 𝒱 c bd) $$ H
    iintro H
    iapply (wp_setWord 𝒱 c bd) $$ H
    iintro H
    iapply (wp_done 𝒱 c bd ())
    iexists _
    isplitr
    rotate_left
    · iexact H
    · ipureintro
      have ht : t.val < 32 := lt_of_lt_of_eq t.isLt t1_trips
      have ho : k0_off3 t 0 = t.val := iv01 t.val ht
      rw [ho]
      intro j hj
      by_cases h : j = t.val
      · subst h; rw [Function.update_self]
      · rw [Function.update_of_ne h]; exact hM j (by omega)
  iintro H HQ
  ihave H := (anyAt_words c arg22) $$ H
  icases H with ⟨%M0, H⟩
  iapply (Scf.wp_for frame (wpE defs 𝒱 (c : Thread nD τ) bd) Set.univ k0_t1_loop.lb k0_t1_loop.ub k0_t1_loop.st k0_t1_ok ⟨⟩ (k0_t1_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 arg25 arg26)
    (fun t _ => iprop(∃ M : ℕ → BitVec 32, ⌜∀ j, j < t → M j = 0#32⌝ ∗ words c arg22 fullShare M)) hstep)
  isplitl [H]
  · iexists M0
    isplitr
    · ipureintro; intro j hj; omega
    · iexact H
  · iintro %a ⟨%M, %hM, H⟩
    iapply HQ
    iapply (words_congr c arg22 fullShare M (fun _ => 0#32) (fun j hj => hM j (by have := t1_trips; change j < k0_t1_loop.trips; omega)))
    iexact H

/-- One word's bits go into a mask. -/
theorem wp_or {α : Type} {Q : α → sProp (MT nD τ sig Unit (Elt F) ℕ U ℕ)} {m : Memref sig .tc .smem S32 .i32} {off : Fin 1 → ℕ} {inb} {M : ℕ → BitVec 32} {e w : BitVec 32}
    {k : PUnit → Prog (TpuEff nD τ sig (Elt F) Λ₀ (c : Thread nD τ).2) α} (he : off 0 = e.toNat) :
    (words c m fullShare M : sProp 𝕄)
      ⊢ iprop((words c m fullShare (orAt M e w) -∗ wp frame (wpE defs 𝒱 (c : Thread nD τ) bd) Set.univ (k ⟨⟩) Q) -∗
        wp frame (wpE defs 𝒱 (c : Thread nD τ) bd) Set.univ
          (smemLoad m (Rect.unit (s := S32) off S1.size inb) numel1_S1 rfl >>= fun v =>
            smemLoad m (Rect.unit (s := S32) off S1.size inb) numel1_S1 rfl >>= fun _ =>
              .op (.store m (Rect.unit (s := S32) off S1.size inb) (fun _ => (Scalar.ori v w : BitVec 32)) Finset.univ (View.stores_smem_one rfl numel1_S1) (.inl rfl)) k) Q) := by
  iintro H HQ
  iapply (wp_word 𝒱 c bd) $$ H
  iintro H
  iapply (wp_word 𝒱 c bd) $$ H
  iintro H
  iapply (wp_setWord 𝒱 c bd) $$ H
  iintro H
  have h : Function.update M (off 0) (Scalar.ori (M (off 0)) w) = orAt M e w := by unfold orAt; rw [he]
  iapply HQ
  ihave H := (show words c m fullShare (Function.update M (off 0) (Scalar.ori (M (off 0)) w)) ⊢ (words c m fullShare (orAt M e w) : sProp 𝕄) from by rw [h]) $$ H
  iexact H

theorem chk_of (e : BitVec 32) (h : e.toNat < 32) : ∀ a : Fin 1, (![e.toNat] : Fin 1 → ℕ) a + S1.size a ≤ S32.size a := by
  intro a; fin_cases a; show e.toNat + 1 ≤ 32; omega

/-- The second loop sets, token by token, the token's bit in the masks of its experts. -/
theorem wp_t2 {Q : Unit → sProp (MT nD τ sig Unit (Elt F) ℕ U ℕ)} (q0 q1 : PosShare TreeShare) (E A : ℕ → ℕ → BitVec 32) (hE : ∀ k t, k < 8 → t < 32 → (E k t).toNat < 32) :
    (iprop(words2 c arg0 q0 E ∗ words2 c arg1 q1 A ∗ words c arg22 fullShare (fun _ => (0#32 : BitVec 32))) : sProp 𝕄)
      ⊢ iprop((iprop(words2 c arg0 q0 E ∗ words2 c arg1 q1 A ∗ words c arg22 fullShare (masks E A 32)) -∗ Q ()) -∗
        wp frame (wpE defs 𝒱 (c : Thread nD τ) bd) Set.univ (Scf.Loop.for k0_t2_loop k0_t2_ok ⟨⟩ (k0_t2_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 arg25 arg26)) Q) := by
  have hstep : ∀ (t : Fin (Scf.trips k0_t2_loop.lb k0_t2_loop.ub k0_t2_loop.st)) (a : Unit),
      iprop(words2 c arg0 q0 E ∗ words2 c arg1 q1 A ∗ words c arg22 fullShare (masks E A t.val))
      ⊢ wp frame (wpE defs 𝒱 (c : Thread nD τ) bd) Set.univ (k0_t2_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 arg25 arg26 t a)
        (fun _ => iprop(words2 c arg0 q0 E ∗ words2 c arg1 q1 A ∗ (words c arg22 fullShare (masks E A (t.val + 1)) : sProp 𝕄))) := by
    intro t _
    have ht : t.val < 32 := lt_of_lt_of_eq t.isLt t2_trips
    have hiv : (iv t.val).toNat = t.val := iv01 t.val ht
    have hw : A 0 (iv t.val).toNat = A 0 t.val := by rw [hiv]
    have hk : ∀ k, E k (iv t.val).toNat = E k t.val := by intro k; rw [hiv]
    have hlt : ∀ k, k < 8 → (E k (iv t.val).toNat).toNat < 32 := by intro k h; rw [hiv]; exact hE k _ h ht
    have hend : orAt (orAt (orAt (orAt (orAt (orAt (orAt (orAt (masks E A t.val) (E 0 (iv t.val).toNat) (bitOf (A 0 (iv t.val).toNat))) (E 1 (iv t.val).toNat) (bitOf (A 0 (iv t.val).toNat))) (E 2 (iv t.val).toNat) (bitOf (A 0 (iv t.val).toNat)))
        (E 3 (iv t.val).toNat) (bitOf (A 0 (iv t.val).toNat))) (E 4 (iv t.val).toNat) (bitOf (A 0 (iv t.val).toNat))) (E 5 (iv t.val).toNat) (bitOf (A 0 (iv t.val).toNat))) (E 6 (iv t.val).toNat) (bitOf (A 0 (iv t.val).toNat))) (E 7 (iv t.val).toNat) (bitOf (A 0 (iv t.val).toNat))
        = masks E A (t.val + 1) := by rw [hw, hk, hk, hk, hk, hk, hk, hk, hk]; rfl
    iintro ⟨H0, H1, H⟩
    sl_unfold [k0_t2_body]
    irw [wp_bind]
    irw [k0_part1_eq_skeleton]
    sl_unfold [k0_part1_skel]
    iapply (wp_word2 𝒱 c bd) $$ H1
    iintro H1
    iapply (wp_word2 𝒱 c bd) $$ H0
    iintro H0
    iapply (wp_assume 𝒱 (c : Thread nD τ) bd Set.univ (chk_of _ (hlt 0 (by decide))))
    iapply (wp_or 𝒱 c bd (e := E 0 (iv t.val).toNat) (w := bitOf (A 0 (iv t.val).toNat)) rfl) $$ H
    iintro H
    iapply (wp_word2 𝒱 c bd) $$ H0
    iintro H0
    iapply (wp_assume 𝒱 (c : Thread nD τ) bd Set.univ (chk_of _ (hlt 1 (by decide))))
    iapply (wp_or 𝒱 c bd (e := E 1 (iv t.val).toNat) (w := bitOf (A 0 (iv t.val).toNat)) rfl) $$ H
    iintro H
    iapply (wp_word2 𝒱 c bd) $$ H0
    iintro H0
    iapply (wp_assume 𝒱 (c : Thread nD τ) bd Set.univ (chk_of _ (hlt 2 (by decide))))
    iapply (wp_or 𝒱 c bd (e := E 2 (iv t.val).toNat) (w := bitOf (A 0 (iv t.val).toNat)) rfl) $$ H
    iintro H
    iapply (wp_word2 𝒱 c bd) $$ H0
    iintro H0
    iapply (wp_assume 𝒱 (c : Thread nD τ) bd Set.univ (chk_of _ (hlt 3 (by decide))))
    iapply (wp_or 𝒱 c bd (e := E 3 (iv t.val).toNat) (w := bitOf (A 0 (iv t.val).toNat)) rfl) $$ H
    iintro H
    iapply (wp_word2 𝒱 c bd) $$ H0
    iintro H0
    iapply (wp_assume 𝒱 (c : Thread nD τ) bd Set.univ (chk_of _ (hlt 4 (by decide))))
    iapply (wp_or 𝒱 c bd (e := E 4 (iv t.val).toNat) (w := bitOf (A 0 (iv t.val).toNat)) rfl) $$ H
    iintro H
    iapply (wp_done 𝒱 c bd)
    iapply (wp_word2 𝒱 c bd) $$ H0
    iintro H0
    iapply (wp_assume 𝒱 (c : Thread nD τ) bd Set.univ (chk_of _ (hlt 5 (by decide))))
    iapply (wp_or 𝒱 c bd (e := E 5 (iv t.val).toNat) (w := bitOf (A 0 (iv t.val).toNat)) rfl) $$ H
    iintro H
    iapply (wp_word2 𝒱 c bd) $$ H0
    iintro H0
    iapply (wp_assume 𝒱 (c : Thread nD τ) bd Set.univ (chk_of _ (hlt 6 (by decide))))
    iapply (wp_or 𝒱 c bd (e := E 6 (iv t.val).toNat) (w := bitOf (A 0 (iv t.val).toNat)) rfl) $$ H
    iintro H
    iapply (wp_word2 𝒱 c bd) $$ H0
    iintro H0
    iapply (wp_assume 𝒱 (c : Thread nD τ) bd Set.univ (chk_of _ (hlt 7 (by decide))))
    iapply (wp_or 𝒱 c bd (e := E 7 (iv t.val).toNat) (w := bitOf (A 0 (iv t.val).toNat)) rfl) $$ H
    iintro H
    iapply (wp_done 𝒱 c bd ())
    isplitl [H0]
    · iexact H0
    isplitl [H1]
    · iexact H1
    · ihave H := (Entails.of_eq (congrArg (fun M => (words c arg22 fullShare M : sProp 𝕄)) hend)) $$ H
      iexact H
  iintro ⟨H0, H1, H⟩ HQ
  iapply (Scf.wp_for frame (wpE defs 𝒱 (c : Thread nD τ) bd) Set.univ k0_t2_loop.lb k0_t2_loop.ub k0_t2_loop.st k0_t2_ok ⟨⟩ (k0_t2_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 arg25 arg26)
    (fun t _ => iprop(words2 c arg0 q0 E ∗ words2 c arg1 q1 A ∗ words c arg22 fullShare (masks E A t))) hstep)
  isplitl [H0 H1 H]
  · isplitl [H0]
    · iexact H0
    isplitl [H1]
    · iexact H1
    · iexact H
  · iintro %a ⟨H0, H1, H⟩
    iapply HQ
    isplitl [H0]
    · iexact H0
    isplitl [H1]
    · iexact H1
    · iexact H

theorem chk10_of (n : BitVec 32) (h : n.toNat < 33) : k0_chk10 n := by
  intro a
  fin_cases a
  show n.toNat + 1 ≤ 33
  exact h

/-- The third loop lists the experts that have work: `v0` first, then the others by number. -/
theorem wp_t3 {q2 : PosShare TreeShare} {M O0 : ℕ → BitVec 32} {v0 : BitVec 32} {hw : k0_chk1 v0} {Q : BitVec 32 → sProp (MT nD τ sig Unit (Elt F) ℕ U ℕ)} :
    iprop(words c arg22 q2 M ∗ words c arg23 fullShare (Function.update O0 0 v0))
      ⊢ iprop((words c arg22 q2 M ∗ words c arg23 fullShare (order M v0 O0 32).2 -∗ Q (order M v0 O0 32).1) -∗
        wp frame (wpE defs 𝒱 (c : Thread nD τ) bd) Set.univ (Scf.Loop.for k0_t3_loop k0_t3_ok 1#32 (k0_t3_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 arg25 arg26 v0 hw 1#32 0#32 1#32)) Q) := by
  have hstep : ∀ (t : Fin (Scf.trips k0_t3_loop.lb k0_t3_loop.ub k0_t3_loop.st)) (a : BitVec 32),
      iprop(⌜a = (order M v0 O0 t.val).1⌝ ∗ words c arg22 q2 M ∗ words c arg23 fullShare (order M v0 O0 t.val).2)
      ⊢ wp frame (wpE defs 𝒱 (c : Thread nD τ) bd) Set.univ (k0_t3_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 arg25 arg26 v0 hw 1#32 0#32 1#32 t a)
        (fun a => iprop(⌜a = (order M v0 O0 (t.val + 1)).1⌝ ∗ words c arg22 q2 M ∗ (words c arg23 fullShare (order M v0 O0 (t.val + 1)).2 : sProp 𝕄))) := by
    intro t a
    have ht : t.val < 32 := lt_of_lt_of_eq t.isLt t3_trips
    have ho := order_le M v0 O0 t.val (by omega)
    have hs : Scalar.addi (order M v0 O0 t.val).1 (Scalar.select (Scalar.andi (Scalar.cmpi .ne (M (k0_off22 t 0)) 0#32) (Scalar.cmpi .ne (iv t.val) v0)) 1#32 0#32)
        = (order M v0 O0 (t.val + 1)).1 := by
      have ho : k0_off22 t 0 = t.val := iv01 t.val ht
      rw [ho]
      rfl
    have he : Function.update (order M v0 O0 t.val).2 (k0_off21 (order M v0 O0 t.val).1 0) (iv t.val) = (order M v0 O0 (t.val + 1)).2 := rfl
    iintro ⟨%ha, HM, H⟩
    subst ha
    sl_unfold [k0_t3_body]
    iapply (wp_assume 𝒱 (c : Thread nD τ) bd Set.univ (chk10_of _ (by omega)))
    iapply (wp_word 𝒱 c bd) $$ H
    iintro H
    iapply (wp_setWord 𝒱 c bd) $$ H
    iintro H
    iapply (wp_word 𝒱 c bd) $$ HM
    iintro HM
    iapply (wp_done 𝒱 c bd)
    isplitr
    · ipureintro
      exact hs
    isplitl [HM]
    · iexact HM
    · ihave H := (Entails.of_eq (congrArg (fun M => (words c arg23 fullShare M : sProp 𝕄)) he)) $$ H
      iexact H
  iintro ⟨HM, H⟩ HQ
  iapply (Scf.wp_for frame (wpE defs 𝒱 (c : Thread nD τ) bd) Set.univ k0_t3_loop.lb k0_t3_loop.ub k0_t3_loop.st k0_t3_ok (1#32 : BitVec 32) (k0_t3_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 arg25 arg26 v0 hw 1#32 0#32 1#32)
    (fun t a => iprop(⌜a = (order M v0 O0 t).1⌝ ∗ words c arg22 q2 M ∗ words c arg23 fullShare (order M v0 O0 t).2)) hstep)
  isplitl [H HM]
  · isplitr
    · ipureintro; rfl
    isplitl [HM]
    · iexact HM
    · iexact H
  · iintro %a ⟨%ha, HM, H⟩
    have ha' : a = (order M v0 O0 32).1 := ha
    subst ha'
    iapply HQ
    isplitl [HM]
    · iexact HM
    · iexact H

end Cert.Proof.K
-- ==== Proof.Nums.lean ====
module

public import proofs.«01_k».proof.Proof.Tables
public import Idealize.ShloMosaic.Lib.Affine

@[expose] public section

/-!
# The kernel's index arithmetic

Rows of the adapter arrays, slots of the ring, and the counters' comparisons, as natural numbers.
-/

set_option maxRecDepth 16384

noncomputable section

namespace Cert.Proof.Nums

open Idealize.ShloMosaic
open Cert.Proof.Tables

theorem row_eq (v : BitVec 32) (hv : v.toNat < 32) (a : ℕ) (ha : a < 8) :
    (Scalar.addi (Scalar.muli v 8#32) (BitVec.ofNat 32 a)).toNat = v.toNat * 8 + a := by
  show (v * 8#32 + BitVec.ofNat 32 a).toNat = _
  rw [BitVec.toNat_add, BitVec.toNat_mul, BitVec.toNat_ofNat, BitVec.toNat_ofNat]
  omega

theorem row_le (v : BitVec 32) (hv : v.toNat < 32) (a : ℕ) (ha : a < 8) :
    (Scalar.addi (Scalar.muli v 8#32) (BitVec.ofNat 32 a)).toNat + 1 ≤ 256 := by
  rw [row_eq v hv a ha]; omega

theorem slot_next' : ∀ t : Fin 40, (Scalar.remsi (Scalar.subi (Scalar.addi (iv t.val) 4#32) 1#32) 4#32).toNat = (t.val + 3) % 4 := by decide
theorem slot_now' : ∀ t : Fin 40, (Scalar.remsi (iv t.val) 4#32).toNat = t.val % 4 := by decide
theorem next' : ∀ t : Fin 40, (Scalar.subi (Scalar.addi (iv t.val) 4#32) 1#32).toNat = t.val + 3 := by decide
theorem more' : ∀ t : Fin 34, ∀ n : Fin 34, (Scalar.cmpi .ne (Scalar.extui (Scalar.cmpi .slt (Scalar.subi (Scalar.addi (iv t.val) 4#32) 1#32) (BitVec.ofNat 32 n.val)) : BitVec 32) 0#32 = 1#1)
    ↔ t.val + 3 < n.val := by decide
theorem sgt1' : ∀ n : Fin 34, (Scalar.cmpi .ne (Scalar.extui (Scalar.cmpi .sgt (BitVec.ofNat 32 n.val) 1#32) : BitVec 32) 0#32 = 1#1) ↔ 1 < n.val := by decide
theorem sgt2' : ∀ n : Fin 34, (Scalar.cmpi .ne (Scalar.extui (Scalar.cmpi .sgt (BitVec.ofNat 32 n.val) 2#32) : BitVec 32) 0#32 = 1#1) ↔ 2 < n.val := by decide

theorem slot_next (t : ℕ) (h : t < 40) : (Scalar.remsi (Scalar.subi (Scalar.addi (iv t) 4#32) 1#32) 4#32).toNat = (t + 3) % 4 := slot_next' ⟨t, h⟩
theorem slot_now (t : ℕ) (h : t < 40) : (Scalar.remsi (iv t) 4#32).toNat = t % 4 := slot_now' ⟨t, h⟩
theorem next (t : ℕ) (h : t < 40) : (Scalar.subi (Scalar.addi (iv t) 4#32) 1#32).toNat = t + 3 := next' ⟨t, h⟩
theorem ofNat_toNat (n : BitVec 32) : BitVec.ofNat 32 n.toNat = n := by simp
theorem more (t : ℕ) (ht : t < 34) (n : BitVec 32) (h : n.toNat < 34) :
    (Scalar.cmpi .ne (Scalar.extui (Scalar.cmpi .slt (Scalar.subi (Scalar.addi (iv t) 4#32) 1#32) n) : BitVec 32) 0#32 = 1#1) ↔ t + 3 < n.toNat := by
  have := more' ⟨t, ht⟩ ⟨n.toNat, h⟩
  rwa [ofNat_toNat] at this
theorem sgt1 (n : BitVec 32) (h : n.toNat < 34) : (Scalar.cmpi .ne (Scalar.extui (Scalar.cmpi .sgt n 1#32) : BitVec 32) 0#32 = 1#1) ↔ 1 < n.toNat := by
  have := sgt1' ⟨n.toNat, h⟩
  rwa [ofNat_toNat] at this
theorem sgt2 (n : BitVec 32) (h : n.toNat < 34) : (Scalar.cmpi .ne (Scalar.extui (Scalar.cmpi .sgt n 2#32) : BitVec 32) 0#32 = 1#1) ↔ 2 < n.toNat := by
  have := sgt2' ⟨n.toNat, h⟩
  rwa [ofNat_toNat] at this

theorem slot1 : (Scalar.remsi 1#32 4#32).toNat = 1 := by decide
theorem slot2 : (Scalar.remsi 2#32 4#32).toNat = 2 := by decide
theorem eta1 {a b : ℕ} (h : a = b) : (![a] : Fin 1 → ℕ) = ![b] := by rw [h]
theorem eta3 {a b : ℕ} (h : a = b) : (![a, 0, 0] : Fin 3 → ℕ) = ![b, 0, 0] := by rw [h]
theorem eta4 {a b k : ℕ} (h : a = b) : (![a, k, 0, 0] : Fin 4 → ℕ) = ![b, k, 0, 0] := by rw [h]
theorem eta4' {a b : ℕ} (h : a = b) : (![a, 0, 0, 0] : Fin 4 → ℕ) = ![b, 0, 0, 0] := by rw [h]
theorem row_off (v : BitVec 32) (h : v.toNat < 32) (a : ℕ) (ha : a < 8) :
    (![(Scalar.addi (Scalar.muli v 8#32) (BitVec.ofNat 32 a)).toNat, 0, 0] : Fin 3 → ℕ) = ![(fin32 v).val * 8 + a, 0, 0] :=
  eta3 (by rw [row_eq v h a ha, fin32_val v h])

end Cert.Proof.Nums
-- ==== Proof.K.Checks.lean ====
module

public import proofs.«01_k».proof.Proof.Nums
public import proofs.«01_k».proof.Proof.Gen.Kernel.Skeleton

@[expose] public section

/-!
# The side conditions of the kernel's offsets

They hold for expert ids below 32 and at most 33 experts in the order.
-/

set_option maxRecDepth 16384

noncomputable section

namespace Cert.Proof.K

open Idealize.ShloMosaic
open Cert.Proof.Tables Cert.Proof.Nums
open Cert.Kernel Cert.Kernel.Gen

theorem t4_trips (v : BitVec 32) (h : v.toNat < 34) : (k0_t4_loop v).trips = v.toNat := by
  have : ∀ n : Fin 34, (k0_t4_loop (BitVec.ofNat 32 n.val)).trips = n.val := by decide
  have := this ⟨v.toNat, h⟩
  rwa [ofNat_toNat] at this

theorem t5_trips (v : BitVec 32) (h : v.toNat < 34) : (k0_t5_loop v).trips = 0 := by
  have : ∀ n : Fin 34, (k0_t5_loop (BitVec.ofNat 32 n.val)).trips = 0 := by decide
  have := this ⟨v.toNat, h⟩
  rwa [ofNat_toNat] at this

theorem t4_ok (v : BitVec 32) (h : v.toNat < 34) : (k0_t4_loop v).OK := by
  have : ∀ n : Fin 34, (k0_t4_loop (BitVec.ofNat 32 n.val)).OK := by decide
  have := this ⟨v.toNat, h⟩
  rwa [ofNat_toNat] at this

theorem t5_ok (v : BitVec 32) (h : v.toNat < 34) : (k0_t5_loop v).OK := by
  have : ∀ n : Fin 34, (k0_t5_loop (BitVec.ofNat 32 n.val)).OK := by decide
  have := this ⟨v.toNat, h⟩
  rwa [ofNat_toNat] at this

theorem chk1 (v : BitVec 32) (hv : v.toNat < 32) : k0_chk1 v := by
  have h : v.toNat + 1 ≤ 32 := hv
  unfold k0_chk1
  repeat' refine And.intro ?_ ?_
  all_goals intros
  all_goals first
    | exact Affine.words_rows (by decide) rfl rfl
    | (rename_i a; fin_cases a <;> first | exact Nat.le_of_eq rfl | exact Nat.le_of_ble_eq_true rfl | exact h)

theorem chk11 (v m : BitVec 32) (hv : v.toNat < 32) : k0_chk11 v m := by
  have r0 := row_le v hv 0 (by decide)
  have r1 := row_le v hv 1 (by decide)
  have r2 := row_le v hv 2 (by decide)
  have r3 := row_le v hv 3 (by decide)
  have r4 := row_le v hv 4 (by decide)
  have r5 := row_le v hv 5 (by decide)
  have r6 := row_le v hv 6 (by decide)
  have r7 := row_le v hv 7 (by decide)
  unfold k0_chk11
  repeat' refine And.intro ?_ ?_
  all_goals intros
  all_goals first
    | exact Affine.words_rows (by decide) rfl rfl
    | (rename_i a; fin_cases a <;> first | exact Nat.le_of_eq rfl | exact Nat.le_of_ble_eq_true rfl | exact r0 | exact r1 | exact r2 | exact r3 | exact r4 | exact r5 | exact r6 | exact r7)

theorem chk12 (n v : BitVec 32) (hv : v.toNat < 32) : k0_chk12 n v := by
  have h : v.toNat + 1 ≤ 32 := hv
  unfold k0_chk12
  repeat' refine And.intro ?_ ?_
  all_goals intros
  all_goals first
    | exact Affine.words_rows (by decide) rfl rfl
    | (rename_i a; fin_cases a <;> first | exact Nat.le_of_eq rfl | exact Nat.le_of_ble_eq_true rfl | exact h)

set_option maxHeartbeats 2000000 in
theorem chk14 (n v : BitVec 32) (hv : v.toNat < 32) : k0_chk14 n v := by
  have h : v.toNat + 1 ≤ 32 := hv
  unfold k0_chk14
  repeat' refine And.intro ?_ ?_
  all_goals intros
  all_goals first
    | exact Affine.words_rows (by decide) rfl rfl
    | (rename_i a; fin_cases a <;> first | exact Nat.le_of_eq rfl | exact Nat.le_of_ble_eq_true rfl | exact h)

set_option maxHeartbeats 2000000 in
theorem chk13 (n v m : BitVec 32) (hv : v.toNat < 32) : k0_chk13 n v m := by
  have r0 := row_le v hv 0 (by decide)
  have r1 := row_le v hv 1 (by decide)
  have r2 := row_le v hv 2 (by decide)
  have r3 := row_le v hv 3 (by decide)
  have r4 := row_le v hv 4 (by decide)
  have r5 := row_le v hv 5 (by decide)
  have r6 := row_le v hv 6 (by decide)
  have r7 := row_le v hv 7 (by decide)
  unfold k0_chk13
  repeat' refine And.intro ?_ ?_
  all_goals intros
  all_goals first
    | exact Affine.words_rows (by decide) rfl rfl
    | (rename_i a; fin_cases a <;> first | exact Nat.le_of_eq rfl | exact Nat.le_of_ble_eq_true rfl | exact r0 | exact r1 | exact r2 | exact r3 | exact r4 | exact r5 | exact r6 | exact r7)

set_option maxHeartbeats 2000000 in
theorem chk15 (n v m : BitVec 32) (hv : v.toNat < 32) : k0_chk15 n v m := by
  have r0 := row_le v hv 0 (by decide)
  have r1 := row_le v hv 1 (by decide)
  have r2 := row_le v hv 2 (by decide)
  have r3 := row_le v hv 3 (by decide)
  have r4 := row_le v hv 4 (by decide)
  have r5 := row_le v hv 5 (by decide)
  have r6 := row_le v hv 6 (by decide)
  have r7 := row_le v hv 7 (by decide)
  unfold k0_chk15
  repeat' refine And.intro ?_ ?_
  all_goals intros
  all_goals first
    | exact Affine.words_rows (by decide) rfl rfl
    | (rename_i a; fin_cases a <;> first | exact Nat.le_of_eq rfl | exact Nat.le_of_ble_eq_true rfl | exact r0 | exact r1 | exact r2 | exact r3 | exact r4 | exact r5 | exact r6 | exact r7)

set_option maxHeartbeats 2000000 in
theorem chk17 (n : BitVec 32) (hn : n.toNat ≤ 33) (t : Fin (k0_t4_loop n).trips) (v : BitVec 32) (hv : v.toNat < 32) : k0_chk17 n t v := by
  have ht : t.val < 33 := lt_of_lt_of_le t.isLt (by rw [t4_trips n (by omega)]; omega)
  have s0 : (Scalar.remsi (iv t.val) 4#32).toNat + 1 ≤ 4 := by rw [slot_now t.val (by omega)]; omega
  have s3 : (Scalar.remsi (Scalar.subi (Scalar.addi (iv t.val) 4#32) 1#32) 4#32).toNat + 1 ≤ 4 := by rw [slot_next t.val (by omega)]; omega
  have h : v.toNat + 1 ≤ 32 := hv
  unfold k0_chk17
  repeat' refine And.intro ?_ ?_
  all_goals intros
  all_goals first
    | exact Affine.words_rows (by decide) rfl rfl
    | (rename_i a; fin_cases a <;> first | exact Nat.le_of_eq rfl | exact Nat.le_of_ble_eq_true rfl | exact h | exact s3)

theorem chk19 (v : BitVec 32) (hv : v.toNat < 32) : k0_chk19 v := by
  have h : v.toNat + 1 ≤ 32 := hv
  unfold k0_chk19
  repeat' refine And.intro ?_ ?_
  all_goals intros
  all_goals first
    | exact Affine.words_rows (by decide) rfl rfl
    | (rename_i a; fin_cases a <;> first | exact Nat.le_of_eq rfl | exact Nat.le_of_ble_eq_true rfl | exact h)

set_option maxHeartbeats 2000000 in
theorem chk18 (n : BitVec 32) (hn : n.toNat ≤ 33) (t : Fin (k0_t4_loop n).trips) (v : BitVec 32) (hv : v.toNat < 32) (m : BitVec 32) : k0_chk18 n t v m := by
  have ht : t.val < 33 := lt_of_lt_of_le t.isLt (by rw [t4_trips n (by omega)]; omega)
  have s0 : (Scalar.remsi (iv t.val) 4#32).toNat + 1 ≤ 4 := by rw [slot_now t.val (by omega)]; omega
  have s3 : (Scalar.remsi (Scalar.subi (Scalar.addi (iv t.val) 4#32) 1#32) 4#32).toNat + 1 ≤ 4 := by rw [slot_next t.val (by omega)]; omega
  have h : v.toNat + 1 ≤ 32 := hv
  have r0 := row_le v hv 0 (by decide)
  have r1 := row_le v hv 1 (by decide)
  have r2 := row_le v hv 2 (by decide)
  have r3 := row_le v hv 3 (by decide)
  have r4 := row_le v hv 4 (by decide)
  have r5 := row_le v hv 5 (by decide)
  have r6 := row_le v hv 6 (by decide)
  have r7 := row_le v hv 7 (by decide)
  unfold k0_chk18 k0_chk18_0 k0_chk18_1 k0_chk18_2
  repeat' refine And.intro ?_ ?_
  all_goals intros
  all_goals first
    | exact Affine.words_rows (by decide) rfl rfl
    | (rename_i a; fin_cases a <;> first | exact Nat.le_of_eq rfl | exact Nat.le_of_ble_eq_true rfl | exact h | exact s3 | exact r0 | exact r1 | exact r2 | exact r3 | exact r4 | exact r5 | exact r6 | exact r7)

set_option maxHeartbeats 2000000 in
theorem chk20 (n : BitVec 32) (hn : n.toNat ≤ 33) (t : Fin (k0_t4_loop n).trips) (v : BitVec 32) (hv : v.toNat < 32) (m : BitVec 32) : k0_chk20 n t v m := by
  have ht : t.val < 33 := lt_of_lt_of_le t.isLt (by rw [t4_trips n (by omega)]; omega)
  have s0 : (Scalar.remsi (iv t.val) 4#32).toNat + 1 ≤ 4 := by rw [slot_now t.val (by omega)]; omega
  have s3 : (Scalar.remsi (Scalar.subi (Scalar.addi (iv t.val) 4#32) 1#32) 4#32).toNat + 1 ≤ 4 := by rw [slot_next t.val (by omega)]; omega
  have h : v.toNat + 1 ≤ 32 := hv
  have r0 := row_le v hv 0 (by decide)
  have r1 := row_le v hv 1 (by decide)
  have r2 := row_le v hv 2 (by decide)
  have r3 := row_le v hv 3 (by decide)
  have r4 := row_le v hv 4 (by decide)
  have r5 := row_le v hv 5 (by decide)
  have r6 := row_le v hv 6 (by decide)
  have r7 := row_le v hv 7 (by decide)
  unfold k0_chk20 k0_chk20_0 k0_chk20_1 k0_chk20_2
  repeat' refine And.intro ?_ ?_
  all_goals intros
  all_goals first
    | exact Affine.words_rows (by decide) rfl rfl
    | (rename_i a; fin_cases a <;> first | exact Nat.le_of_eq rfl | exact Nat.le_of_ble_eq_true rfl | exact h | exact s0 | exact r0 | exact r1 | exact r2 | exact r3 | exact r4 | exact r5 | exact r6 | exact r7)

set_option maxHeartbeats 2000000 in
theorem chk16 (n : BitVec 32) (hn : n.toNat ≤ 33) : k0_chk16 n := by
  have hs : ∀ t : Fin (k0_t4_loop n).trips, t.val < n.toNat ∧ (iv t.val).toNat + 1 ≤ 33 ∧ (Scalar.remsi (iv t.val) 4#32).toNat + 1 ≤ 4
      ∧ (Scalar.remsi (Scalar.subi (Scalar.addi (iv t.val) 4#32) 1#32) 4#32).toNat + 1 ≤ 4
      ∧ (k0_cond27 n t = 1#1 → (Scalar.subi (Scalar.addi (iv t.val) 4#32) 1#32).toNat + 1 ≤ 33) := by
    intro t
    have ht : t.val < n.toNat := lt_of_lt_of_le t.isLt (by rw [t4_trips n (by omega)])
    refine ⟨ht, ?_, ?_, ?_, ?_⟩
    · rw [iv_eq, BitVec.toNat_ofNat]; omega
    · rw [slot_now t.val (by omega)]; omega
    · rw [slot_next t.val (by omega)]; omega
    · intro h
      have := (more t.val (by omega) n (by omega)).mp h
      rw [next t.val (by omega)]; omega
  have h5' : ∀ t : Fin (k0_t5_loop n).trips, False := fun t => absurd (lt_of_lt_of_eq t.isLt (t5_trips n (by omega))) (Nat.not_lt_zero _)
  unfold k0_chk16 k0_chk16_0 k0_chk16_1
  rw [eq_true (t4_ok n (by omega)), eq_true (t5_ok n (by omega))]
  repeat' refine And.intro ?_ ?_
  all_goals first
    | exact True.intro
    | (intro t; with_reducible exact (h5' t).elim)
    | skip
  all_goals intro t
  all_goals obtain ⟨-, h1, h2, h3, h4⟩ := hs t
  all_goals intros
  all_goals first
    | exact Affine.words_rows (by decide) rfl rfl
    | (rename_i hc a; replace h4 := h4 hc; fin_cases a <;> first | exact Nat.le_of_eq rfl | exact Nat.le_of_ble_eq_true rfl | exact h1 | exact h2 | exact h3 | exact h4)
    | (rename_i a; fin_cases a <;> first | exact Nat.le_of_eq rfl | exact Nat.le_of_ble_eq_true rfl | exact h1 | exact h2 | exact h3)

end Cert.Proof.K
-- ==== Proof.Pairs.lean ====
module

public import proofs.«01_k».proof.Defs
public import proofs.«01_k».proof.Proof.Slots
public import Idealize.SL.ProofMode.BigOp

@[expose] public section

/-!
# The copies of one adapter, by the adapter's number
-/

noncomputable section

namespace Cert.Proof.Slots

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Proof.Copies
open Cert.Kernel (S4x5120x768 S4x768x5120 S4x8x16x5120 S4x8x16x768 S32x5120x768 S32x768x5120 S256x16x5120 S256x16x768
  S1x5120x768 S1x768x5120 S1x16x5120 S1x16x768 S1x1x16x5120 S1x1x16x768 S1x8x16x5120 S1x8x16x768 S5120x768 S768x5120 S16x5120 S16x768 S4 S1 S_)

variable {nD : Nat} {τ : Topo} {sig : RefSig} {Val : EltTy → Type} [∀ e, Nonempty (Val e)] {U : Type} [URA U]

local notation "𝕄" => MT nD τ sig Unit Val ℕ U ℕ

variable {Λ : Labels} {defs : Defs nD τ sig Val Λ} (𝒱 : Variants) (c : Dev nD) (bd : Option 𝒱.V)
variable {α : Type} {Q : α → sProp (MT nD τ sig Unit Val ℕ U ℕ)}
variable (EC : UEmb Counters (MT nD τ sig Unit Val ℕ U ℕ)) [EC.LandsIn (upEmb : UEmb _ (MT nD τ sig Unit Val ℕ U ℕ))]

variable (R : Bufs sig) (V : Vals Val) (q : Fin 4 → PosShare TreeShare) (qL : Fin 4 → Fin 8 → PosShare TreeShare)

/-- Start the two copies of adapter number `a`, if the mask asks for it. -/
theorem wp_startNo (s : Fin 4) (e : Fin 32) (m : BitVec 32) (a j : ℕ) (ha : a < 8) (hj : j = a + 1) {C : Prop} [Decidable C] (hC : C ↔ bitCond m (BitVec.ofNat 32 (a + 1)) = 1#1) {oA oB : Fin 3 → ℕ} {pA pB : Fin 4 → ℕ} {oS oS' : Fin 1 → ℕ}
    {iA : C → _} {iB : C → _} {jA : C → _} {jB : C → _} {iS : C → _} {iS' : C → _}
    {h1 : ∀ h : C, (atHA R oA (iA h)).view.WordExact} {h2 : ∀ h : C, (atA R pA (jA h)).view.WordExact}
    {h3 : ∀ h : C, DmaTarget.Typed (nD := nD) .hbm (.dma (atS R oS (iS h))) (.here (p := (c : Thread nD τ).2) (atA R pA (jA h)))}
    {h4 : ∀ h : C, (atHB R oB (iB h)).view.WordExact} {h5 : ∀ h : C, (atB R pB (jB h)).view.WordExact}
    {h6 : ∀ h : C, DmaTarget.Typed (nD := nD) .hbm (.dma (atS R oS' (iS' h))) (.here (p := (c : Thread nD τ).2) (atB R pB (jB h)))}
    {K : PUnit → Prog (TpuEff nD τ sig Val Λ .tc) α}
    (hoA : C → oA = ![e.val * 8 + a, 0, 0]) (hoB : C → oB = ![e.val * 8 + a, 0, 0])
    (hpA : C → pA = ![s.val, a, 0, 0]) (hpB : C → pB = ![s.val, a, 0, 0])
    (hoS : C → oS = ![s.val]) (hoS' : C → oS' = ![s.val]) :
    (Starting c EC R V qL s e m a : sProp 𝕄)
      ⊢ iprop((Starting c EC R V qL s e m (j) -∗ wp frame (wpE defs 𝒱 (c : Thread nD τ) bd) Set.univ (K ⟨⟩) Q)
          -∗ wp frame (wpE defs 𝒱 (c : Thread nD τ) bd) Set.univ
              (if h : C then
                (.op (.enqueueDma (atHA R oA (iA h)) (.here (atA R pA (jA h))) (.dma (atS R oS (iS h))) (h1 h) (h2 h) (h3 h)) fun _ =>
                .op (.enqueueDma (atHB R oB (iB h)) (.here (atB R pB (jB h))) (.dma (atS R oS' (iS' h))) (h4 h) (h5 h) (h6 h)) K)
              else K ⟨⟩) Q) := by
  subst hj
  exact wp_startPair 𝒱 c bd EC R V qL s e m ⟨a, ha⟩ hC hoA hoB hpA hpB hoS hoS'

/-- Wait for them. -/
theorem wp_waitNo (s : Fin 4) (e : Fin 32) (m : BitVec 32) (a j : ℕ) (ha : a < 8) (hj : j = a + 1) {C : Prop} [Decidable C] (hC : C ↔ bitCond m (BitVec.ofNat 32 (a + 1)) = 1#1) {pA pB : Fin 4 → ℕ} {oS oS' : Fin 1 → ℕ}
    {jA : C → _} {jB : C → _} {iS : C → _} {iS' : C → _} {sp sp' : Space} {s1 s2 : Shape} {e1 e2 : EltTy}
    {srcA : C → Memref sig .tc sp s1 e1} {srcB : C → Memref sig .tc sp' s2 e2}
    {h1 : ∀ h : C, (srcA h).view.WordExact} {h2 : ∀ h : C, (atA R pA (jA h)).view.WordExact}
    {h4 : ∀ h : C, (srcB h).view.WordExact} {h5 : ∀ h : C, (atB R pB (jB h)).view.WordExact}
    {K : PUnit → Prog (TpuEff nD τ sig Val Λ .tc) α} {W : Waits sig Unit}
    (hpA : C → pA = ![s.val, a, 0, 0]) (hpB : C → pB = ![s.val, a, 0, 0])
    (hoS : C → oS = ![s.val]) (hoS' : C → oS' = ![s.val]) :
    (iprop(Waiting c EC R V qL s e m a ∗ owes (c : Thread nD τ) 0 W) : sProp 𝕄)
      ⊢ iprop((iprop(Waiting c EC R V qL s e m (j) ∗ (∃ W', owes (c : Thread nD τ) 0 W')) -∗ wp frame (wpE defs 𝒱 (c : Thread nD τ) bd) Set.univ (K ⟨⟩) Q)
          -∗ wp frame (wpE defs 𝒱 (c : Thread nD τ) bd) Set.univ
              (if h : C then
                (.op (.waitDma2 (atS R oS (iS h)) (srcA h) (atA R pA (jA h)) (h1 h) (h2 h)) fun _ =>
                .op (.waitDma2 (atS R oS' (iS' h)) (srcB h) (atB R pB (jB h)) (h4 h) (h5 h)) K)
              else K ⟨⟩) Q) := by
  subst hj
  exact wp_waitPair 𝒱 c bd EC R V qL s e m ⟨a, ha⟩ hC hpA hpB hoS hoS'

/-! ## Loads and stores of whole buffers -/

theorem zero2 : (![0, 0] : Fin 2 → ℕ) = fun _ => 0 := by funext a; fin_cases a <;> rfl
theorem zero4 : (![0, 0, 0, 0] : Fin 4 → ℕ) = fun _ => 0 := by funext a; fin_cases a <;> rfl

theorem wp_loadAll {cs : CoreSpace} {s : Shape} {e : EltTy} {m : Memref sig .tc cs s e} {off : Fin s.rank → ℕ} {inb : ∀ a, off a + s.size a ≤ s.size a} (ho : off = fun _ => 0)
    {hl : m.view.LoadsAt (Rect.unit off s.size inb).toLoadRect}
    {k : (s.Idx → Val e) → Prog (TpuEff nD τ sig Val Λ .tc) α} {q : PosShare TreeShare} {X : s.Idx → Val e} :
    (owns (c : Thread nD τ) m q X : sProp 𝕄)
      ⊢ iprop((owns (c : Thread nD τ) m q X -∗ wp frame (wpE defs 𝒱 (c : Thread nD τ) bd) Set.univ (k X) Q)
          -∗ wp frame (wpE defs 𝒱 (c : Thread nD τ) bd) Set.univ (.op (.load m (Rect.unit off s.size inb).toLoadRect hl) k) Q) := by
  have h := wp_load_owns (defs := defs) (U := U) (Q := Q) 𝒱 (c : Thread nD τ) bd (m := m) (r := Rect.unit off s.size inb) (hl := hl) (k := k) (q := q) (X := X)
  have e : (fun i => X ((Rect.unit off s.size inb).emb i)) = X := by
    funext i; exact congrArg X (emb_unit_zero ho inb i)
  rw [e] at h
  exact h

theorem wp_storeAll {cs : CoreSpace} {s : Shape} {e : EltTy} {m : Memref sig .tc cs s e} {off : Fin s.rank → ℕ} {inb : ∀ a, off a + s.size a ≤ s.size a} (ho : off = fun _ => 0)
    {w : s.Idx → Val e} {hx : (m.access (Rect.unit off s.size inb)).Stores Finset.univ} {hm}
    {k : PUnit → Prog (TpuEff nD τ sig Val Λ .tc) α} {X : s.Idx → Val e} :
    (owns (c : Thread nD τ) m fullShare X : sProp 𝕄)
      ⊢ iprop((owns (c : Thread nD τ) m fullShare w -∗ wp frame (wpE defs 𝒱 (c : Thread nD τ) bd) Set.univ (k ⟨⟩) Q)
          -∗ wp frame (wpE defs 𝒱 (c : Thread nD τ) bd) Set.univ (.op (.store m (Rect.unit off s.size inb) w Finset.univ hx hm) k) Q) := by
  have h := wp_store_owns (defs := defs) (U := U) (Q := Q) 𝒱 (c : Thread nD τ) bd (m := m) (r := Rect.unit off s.size inb) (fun _ => rfl) (w := w) (hx := hx) (hm := hm) (k := k) (X := X)
  rw [overlay_unit_zero ho inb X w] at h
  exact h

theorem wp_ifPos {C : Prop} [Decidable C] (h : C) {a : C → Prog (TpuEff nD τ sig Val Λ .tc) α} {b : ¬ C → Prog (TpuEff nD τ sig Val Λ .tc) α} :
    wp frame (wpE defs 𝒱 (c : Thread nD τ) bd) Set.univ (a h) Q ⊢ wp frame (wpE defs 𝒱 (c : Thread nD τ) bd) Set.univ (if h : C then a h else b h) Q := by
  rw [dif_pos h]
theorem wp_ifNeg {C : Prop} [Decidable C] (h : ¬ C) {a : C → Prog (TpuEff nD τ sig Val Λ .tc) α} {b : ¬ C → Prog (TpuEff nD τ sig Val Λ .tc) α} :
    wp frame (wpE defs 𝒱 (c : Thread nD τ) bd) Set.univ (b h) Q ⊢ wp frame (wpE defs 𝒱 (c : Thread nD τ) bd) Set.univ (if h : C then a h else b h) Q := by
  rw [dif_neg h]

end Cert.Proof.Slots
-- ==== Proof.K.Start.lean ====
module

public import proofs.«01_k».proof.Proof.K.Control
public import proofs.«01_k».proof.Proof.K.Checks
public import proofs.«01_k».proof.Proof.Pairs

@[expose] public section

/-!
# The kernel up to its loop over experts: the copies of the first expert
-/

set_option maxRecDepth 16384

noncomputable section

namespace Cert.Proof.K

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Proof.Copies Cert.Proof.Words Cert.Proof.Tables Cert.Proof.Slots Cert.Proof.RingState Cert.Proof.Nums
open Cert.Kernel Cert.Kernel.Gen

variable {F : FTy → Type} [FloatOps F] {U : Type} [URA U]

local notation "𝕄" => MT nD τ sig Unit (Elt F) ℕ U ℕ

variable {defs : Defs nD τ sig (Elt F) Λ₀} (𝒱 : Variants) (c : Dev nD) (bd : Option 𝒱.V)
variable (EC : UEmb Counters (MT nD τ sig Unit (Elt F) ℕ U ℕ)) [EC.LandsIn (upEmb : UEmb _ (MT nD τ sig Unit (Elt F) ℕ U ℕ))]
variable (V : Vals (Elt F))
variable (arg0 : Memref sig .tc .smem S8x32 .i32) (harg0 : arg0.IsWhole) (arg1 : Memref sig .tc .smem S1x32 .i32) (harg1 : arg1.IsWhole) (arg2 : Memref sig .tc .vmem S8x32 .i32) (harg2 : arg2.IsWhole) (arg3 : Memref sig .tc .vmem S8x32 .f32) (harg3 : arg3.IsWhole) (arg4 : Memref sig .tc .vmem S32x1 .i32) (harg4 : arg4.IsWhole) (arg5 : Memref sig .tc .vmem S32x5120 .bf16) (harg5 : arg5.IsWhole) (arg6 : Memref sig .tc .vmem S32x768 .f32) (harg6 : arg6.IsWhole) (arg7 : Memref sig .tc .vmem S32x5120 .f32) (harg7 : arg7.IsWhole) (arg8 : Memref sig .tc .hbm S32x5120x768 .fp8e4m3) (harg8 : arg8.IsWhole) (arg9 : Memref sig .tc .hbm S32x768x5120 .fp8e4m3) (harg9 : arg9.IsWhole) (arg10 : Memref sig .tc .hbm S256x16x5120 .bf16) (harg10 : arg10.IsWhole) (arg11 : Memref sig .tc .hbm S256x16x768 .bf16) (harg11 : arg11.IsWhole) (arg12 : Memref sig .tc .vmem S32x5120 .bf16) (harg12 : arg12.IsWhole) (arg13 : Memref sig .tc .vmem S32x5120 .fp8e4m3) (harg13 : arg13.IsWhole) (arg14 : Memref sig .tc .vmem S32x1 .f32) (harg14 : arg14.IsWhole) (arg15 : Memref sig .tc .vmem S4x5120x768 .fp8e4m3) (harg15 : arg15.IsWhole) (arg16 : Memref sig .tc .vmem S4x768x5120 .fp8e4m3) (harg16 : arg16.IsWhole) (arg17 : Memref sig .tc .vmem S4x8x16x5120 .bf16) (harg17 : arg17.IsWhole) (arg18 : Memref sig .tc .vmem S4x8x16x768 .bf16) (harg18 : arg18.IsWhole) (arg19 : Memref sig .tc .vmem S32x8 .i32) (harg19 : arg19.IsWhole) (arg20 : Memref sig .tc .vmem S32x8 .f32) (harg20 : arg20.IsWhole) (arg21 : Memref sig .tc .vmem S32x5120 .f32) (harg21 : arg21.IsWhole) (arg22 : Memref sig .tc .smem S32 .i32) (harg22 : arg22.IsWhole) (arg23 : Memref sig .tc .smem S33 .i32) (harg23 : arg23.IsWhole) (arg24 : DmaSems sig S4) (arg25 : DmaSems sig S4) (arg26 : DmaSems sig S4)

theorem owns_of_anyAt {sp : Space} {sh : Shape} {e : EltTy} (m : Memref sig .tc sp sh e) :
    (anyAt (c : Thread nD τ) m : sProp 𝕄) ⊢ iprop(∃ X, owns (c : Thread nD τ) m fullShare X) := .rfl

theorem wp_part14 {q0 q1 : PosShare TreeShare} {E A : ℕ → ℕ → BitVec 32} (hE : ∀ k t, k < 8 → t < 32 → (E k t).toNat < 32)
    {Q : (Σ' (v0 : Elt F .i32) (k0_hw1 : k0_chk1 v0) (c1_i32_23 : BitVec 32) (c0_i32_24 : BitVec 32), BitVec 32) → sProp (MT nD τ sig Unit (Elt F) ℕ U ℕ)} :
    iprop(words2 c arg0 q0 E ∗ words2 c arg1 q1 A ∗ anyAt (c : Thread nD τ) arg22 ∗ anyAt (c : Thread nD τ) arg23 ∗ anyAt (c : Thread nD τ) arg18
        ∗ IdleU c (Bufs.mk arg8 arg9 arg10 arg11 arg15 arg16 arg17 arg18 arg24 arg25 arg26) V qs 0 ∗ IdleD c (Bufs.mk arg8 arg9 arg10 arg11 arg15 arg16 arg17 arg18 arg24 arg25 arg26) V qs 0)
      ⊢ iprop((∀ O0 : ℕ → BitVec 32, words2 c arg0 q0 E ∗ words2 c arg1 q1 A ∗ words c arg22 fullShare (masks E A 32)
            ∗ words c arg23 fullShare (Function.update O0 0 (E 0 0)) ∗ anyAt (c : Thread nD τ) arg18
            ∗ BusyU c EC (Bufs.mk arg8 arg9 arg10 arg11 arg15 arg16 arg17 arg18 arg24 arg25 arg26) V qs 0 (fin32 (E 0 0)) ∗ BusyD c EC (Bufs.mk arg8 arg9 arg10 arg11 arg15 arg16 arg17 arg18 arg24 arg25 arg26) V qs 0 (fin32 (E 0 0))
            -∗ Q ⟨E 0 0, chk1 _ (hE 0 0 (by decide) (by decide)), 1#32, 0#32, 1#32⟩) -∗
        wp frame (wpE defs 𝒱 (c : Thread nD τ) bd) Set.univ (k0_part14 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 arg25 arg26) Q) := by
  have h0 := hE 0 0 (by decide) (by decide)
  have ho1 : k0_off1 (E 0 0) = ![(fin32 (E 0 0)).val, 0, 0] := by rw [fin32_val _ h0]; rfl
  have ho2 : k0_off2 (E 0 0) = ![(fin32 (E 0 0)).val, 0, 0] := by rw [fin32_val _ h0]; rfl
  rw [k0_part14_eq_skeleton]
  iintro ⟨H0, H1, H22, H23, H18, HU, HD⟩ HQ
  sl_unfold [k0_part14_skel]
  iapply (wp_word2 𝒱 c bd) $$ H0
  iintro H0
  iapply (wp_assume 𝒱 (c : Thread nD τ) bd Set.univ (chk1 _ h0))
  iapply (wp_startU 𝒱 c bd EC (Bufs.mk arg8 arg9 arg10 arg11 arg15 arg16 arg17 arg18 arg24 arg25 arg26) V qs 0 (fin32 (E 0 0)) ho1 rfl rfl) $$ HU
  iintro HU
  iapply (wp_startD 𝒱 c bd EC (Bufs.mk arg8 arg9 arg10 arg11 arg15 arg16 arg17 arg18 arg24 arg25 arg26) V qs 0 (fin32 (E 0 0)) ho2 rfl rfl) $$ HD
  iintro HD
  ihave H18 := (owns_of_anyAt c arg18) $$ H18
  icases H18 with ⟨%X, H18⟩
  iapply (wp_load_owns 𝒱 (c : Thread nD τ) bd) $$ H18
  iintro H18
  iapply (wp_store_owns 𝒱 (c : Thread nD τ) bd (fun _ => rfl)) $$ H18
  iintro H18
  iapply (wp_retBind 𝒱 c bd)
  iapply (wp_seq 𝒱 c bd)
  iapply (wp_t1 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 arg25 arg26) $$ H22
  iintro H22
  iapply (wp_seq 𝒱 c bd)
  iapply (wp_t2 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 arg25 arg26 q0 q1 E A hE) $$ [H0 H1 H22]
  · isplitl [H0]
    · iexact H0
    isplitl [H1]
    · iexact H1
    · iexact H22
  iintro ⟨H0, H1, H22⟩
  ihave H23 := (anyAt_words c arg23) $$ H23
  icases H23 with ⟨%O0, H23⟩
  iapply (wp_word 𝒱 c bd) $$ H23
  iintro H23
  iapply (wp_setWord 𝒱 c bd) $$ H23
  iintro H23
  iapply (wp_done 𝒱 c bd)
  iapply (show Q ⟨E 0 0, chk1 _ h0, 1#32, 0#32, 1#32⟩ ⊢ Q ⟨E ((![0, 0] : Fin 2 → ℕ) 0) ((![0, 0] : Fin 2 → ℕ) 1), chk1 _ h0, 1#32, 0#32, 1#32⟩ from .rfl)
  iapply HQ
  isplitl [H0]
  · iexact H0
  isplitl [H1]
  · iexact H1
  isplitl [H22]
  · iexact H22
  isplitl [H23]
  · iexact H23
  isplitl [H18]
  · iapply (anyAt_of (c : Thread nD τ) arg18) $$ H18
  isplitl [HU]
  · iexact HU
  · iexact HD

theorem wp_part15 {q2 : PosShare TreeShare} {M O0 : ℕ → BitVec 32} {v0 : BitVec 32} (h0 : v0.toNat < 32) {hw : k0_chk1 v0}
    {Q : (Σ' (v21 : BitVec 32) (k0_hw16 : k0_chk16 v21) (v23 : Elt F .i32) (k0_hw11 : k0_chk11 v0 v23), BitVec 32) → sProp (MT nD τ sig Unit (Elt F) ℕ U ℕ)} :
    iprop(words c arg22 q2 M ∗ words c arg23 fullShare (Function.update O0 0 v0)
        ∗ Starting c EC (Bufs.mk arg8 arg9 arg10 arg11 arg15 arg16 arg17 arg18 arg24 arg25 arg26) V qLs 0 (fin32 v0) (M v0.toNat) 0)
      ⊢ iprop((words c arg22 q2 M ∗ words c arg23 fullShare (order M v0 O0 32).2
            ∗ Starting c EC (Bufs.mk arg8 arg9 arg10 arg11 arg15 arg16 arg17 arg18 arg24 arg25 arg26) V qLs 0 (fin32 v0) (M v0.toNat) 5
            -∗ Q ⟨(order M v0 O0 32).1, chk16 _ (order_le M v0 O0 32 (le_refl _)).2, M (k0_off23 v0 0), chk11 _ _ h0,
              Scalar.andi (Scalar.shrsi (M (k0_off23 v0 0)) 6#32) 1#32⟩) -∗
        wp frame (wpE defs 𝒱 (c : Thread nD τ) bd) Set.univ (k0_part15 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 arg25 arg26 v0 hw 1#32 0#32 1#32) Q) := by
  rw [k0_part15_eq_skeleton]
  iintro ⟨H22, H23, HS⟩ HQ
  sl_unfold [k0_part15_skel]
  iapply (wp_seq 𝒱 c bd)
  iapply (wp_t3 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 arg25 arg26) $$ [H22 H23]
  · isplitl [H22]
    · iexact H22
    · iexact H23
  iintro ⟨H22, H23⟩
  iapply (wp_assume 𝒱 (c : Thread nD τ) bd Set.univ (chk16 _ (order_le M v0 O0 32 (le_refl _)).2))
  iapply (wp_word 𝒱 c bd) $$ H22
  iintro H22
  iapply (wp_assume 𝒱 (c : Thread nD τ) bd Set.univ (chk11 _ _ h0))
  iapply (wp_retBind 𝒱 c bd)
  iapply (wp_startNo 𝒱 c bd EC (Bufs.mk arg8 arg9 arg10 arg11 arg15 arg16 arg17 arg18 arg24 arg25 arg26) V qLs 0 (fin32 v0) (M v0.toNat) 0 1 (by decide) rfl (C := k0_cond1 (M (k0_off23 v0 0)) = 1#1) Iff.rfl
    (oA := k0_off24 v0) (oB := k0_off25 v0) (pA := ![0, 0, 0, 0]) (pB := ![0, 0, 0, 0]) (oS := ![0]) (oS' := ![0])
    (fun _ => row_off v0 h0 0 (by decide)) (fun _ => row_off v0 h0 0 (by decide)) (fun _ => rfl) (fun _ => rfl) (fun _ => rfl) (fun _ => rfl)) $$ HS
  iintro HS
  iapply (wp_retBind 𝒱 c bd)
  iapply (wp_startNo 𝒱 c bd EC (Bufs.mk arg8 arg9 arg10 arg11 arg15 arg16 arg17 arg18 arg24 arg25 arg26) V qLs 0 (fin32 v0) (M v0.toNat) 1 2 (by decide) rfl (C := k0_cond2 (M (k0_off23 v0 0)) = 1#1) Iff.rfl
    (oA := k0_off26 v0) (oB := k0_off27 v0) (pA := ![0, 1, 0, 0]) (pB := ![0, 1, 0, 0]) (oS := ![0]) (oS' := ![0])
    (fun _ => row_off v0 h0 1 (by decide)) (fun _ => row_off v0 h0 1 (by decide)) (fun _ => rfl) (fun _ => rfl) (fun _ => rfl) (fun _ => rfl)) $$ HS
  iintro HS
  iapply (wp_retBind 𝒱 c bd)
  iapply (wp_startNo 𝒱 c bd EC (Bufs.mk arg8 arg9 arg10 arg11 arg15 arg16 arg17 arg18 arg24 arg25 arg26) V qLs 0 (fin32 v0) (M v0.toNat) 2 3 (by decide) rfl (C := k0_cond3 (M (k0_off23 v0 0)) = 1#1) Iff.rfl
    (oA := k0_off28 v0) (oB := k0_off29 v0) (pA := ![0, 2, 0, 0]) (pB := ![0, 2, 0, 0]) (oS := ![0]) (oS' := ![0])
    (fun _ => row_off v0 h0 2 (by decide)) (fun _ => row_off v0 h0 2 (by decide)) (fun _ => rfl) (fun _ => rfl) (fun _ => rfl) (fun _ => rfl)) $$ HS
  iintro HS
  iapply (wp_retBind 𝒱 c bd)
  iapply (wp_startNo 𝒱 c bd EC (Bufs.mk arg8 arg9 arg10 arg11 arg15 arg16 arg17 arg18 arg24 arg25 arg26) V qLs 0 (fin32 v0) (M v0.toNat) 3 4 (by decide) rfl (C := k0_cond4 (M (k0_off23 v0 0)) = 1#1) Iff.rfl
    (oA := k0_off30 v0) (oB := k0_off31 v0) (pA := ![0, 3, 0, 0]) (pB := ![0, 3, 0, 0]) (oS := ![0]) (oS' := ![0])
    (fun _ => row_off v0 h0 3 (by decide)) (fun _ => row_off v0 h0 3 (by decide)) (fun _ => rfl) (fun _ => rfl) (fun _ => rfl) (fun _ => rfl)) $$ HS
  iintro HS
  iapply (wp_retBind 𝒱 c bd)
  iapply (wp_startNo 𝒱 c bd EC (Bufs.mk arg8 arg9 arg10 arg11 arg15 arg16 arg17 arg18 arg24 arg25 arg26) V qLs 0 (fin32 v0) (M v0.toNat) 4 5 (by decide) rfl (C := k0_cond5 (M (k0_off23 v0 0)) = 1#1) Iff.rfl
    (oA := k0_off32 v0) (oB := k0_off33 v0) (pA := ![0, 4, 0, 0]) (pB := ![0, 4, 0, 0]) (oS := ![0]) (oS' := ![0])
    (fun _ => row_off v0 h0 4 (by decide)) (fun _ => row_off v0 h0 4 (by decide)) (fun _ => rfl) (fun _ => rfl) (fun _ => rfl) (fun _ => rfl)) $$ HS
  iintro HS
  iapply (wp_retBind 𝒱 c bd)
  iapply (wp_done 𝒱 c bd)
  iapply HQ
  isplitl [H22]
  · iexact H22
  isplitl [H23]
  · iexact H23
  · iexact HS

end Cert.Proof.K
-- ==== Proof.K.Second.lean ====
module

public import proofs.«01_k».proof.Proof.K.Start

@[expose] public section

/-!
# The kernel up to its loop over experts: the copies of the second and the third expert
-/

set_option maxRecDepth 16384

noncomputable section

namespace Cert.Proof.K

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Proof.Copies Cert.Proof.Words Cert.Proof.Tables Cert.Proof.Slots Cert.Proof.RingState Cert.Proof.Nums
open Cert.Kernel Cert.Kernel.Gen

variable {F : FTy → Type} [FloatOps F] {U : Type} [URA U]

local notation "𝕄" => MT nD τ sig Unit (Elt F) ℕ U ℕ

variable {defs : Defs nD τ sig (Elt F) Λ₀} (𝒱 : Variants) (c : Dev nD) (bd : Option 𝒱.V)
variable (EC : UEmb Counters (MT nD τ sig Unit (Elt F) ℕ U ℕ)) [EC.LandsIn (upEmb : UEmb _ (MT nD τ sig Unit (Elt F) ℕ U ℕ))]
variable (V : Vals (Elt F))
variable (arg0 : Memref sig .tc .smem S8x32 .i32) (harg0 : arg0.IsWhole) (arg1 : Memref sig .tc .smem S1x32 .i32) (harg1 : arg1.IsWhole) (arg2 : Memref sig .tc .vmem S8x32 .i32) (harg2 : arg2.IsWhole) (arg3 : Memref sig .tc .vmem S8x32 .f32) (harg3 : arg3.IsWhole) (arg4 : Memref sig .tc .vmem S32x1 .i32) (harg4 : arg4.IsWhole) (arg5 : Memref sig .tc .vmem S32x5120 .bf16) (harg5 : arg5.IsWhole) (arg6 : Memref sig .tc .vmem S32x768 .f32) (harg6 : arg6.IsWhole) (arg7 : Memref sig .tc .vmem S32x5120 .f32) (harg7 : arg7.IsWhole) (arg8 : Memref sig .tc .hbm S32x5120x768 .fp8e4m3) (harg8 : arg8.IsWhole) (arg9 : Memref sig .tc .hbm S32x768x5120 .fp8e4m3) (harg9 : arg9.IsWhole) (arg10 : Memref sig .tc .hbm S256x16x5120 .bf16) (harg10 : arg10.IsWhole) (arg11 : Memref sig .tc .hbm S256x16x768 .bf16) (harg11 : arg11.IsWhole) (arg12 : Memref sig .tc .vmem S32x5120 .bf16) (harg12 : arg12.IsWhole) (arg13 : Memref sig .tc .vmem S32x5120 .fp8e4m3) (harg13 : arg13.IsWhole) (arg14 : Memref sig .tc .vmem S32x1 .f32) (harg14 : arg14.IsWhole) (arg15 : Memref sig .tc .vmem S4x5120x768 .fp8e4m3) (harg15 : arg15.IsWhole) (arg16 : Memref sig .tc .vmem S4x768x5120 .fp8e4m3) (harg16 : arg16.IsWhole) (arg17 : Memref sig .tc .vmem S4x8x16x5120 .bf16) (harg17 : arg17.IsWhole) (arg18 : Memref sig .tc .vmem S4x8x16x768 .bf16) (harg18 : arg18.IsWhole) (arg19 : Memref sig .tc .vmem S32x8 .i32) (harg19 : arg19.IsWhole) (arg20 : Memref sig .tc .vmem S32x8 .f32) (harg20 : arg20.IsWhole) (arg21 : Memref sig .tc .vmem S32x5120 .f32) (harg21 : arg21.IsWhole) (arg22 : Memref sig .tc .smem S32 .i32) (harg22 : arg22.IsWhole) (arg23 : Memref sig .tc .smem S33 .i32) (harg23 : arg23.IsWhole) (arg24 : DmaSems sig S4) (arg25 : DmaSems sig S4) (arg26 : DmaSems sig S4)

theorem wp_part2 {q2 : PosShare TreeShare} {M O : ℕ → BitVec 32} {n : BitVec 32} {hc : k0_cond9 n = 1#1} (hv : (O ((![1] : Fin 1 → ℕ) 0)).toNat < 32) {m : BitVec 32} (hm : M (O ((![1] : Fin 1 → ℕ) 0)).toNat = m)
    {Q : (Σ' (v177 : Elt F .i32) (k0_hw12 : k0_chk12 n v177) (v186 : Elt F .i32), k0_chk13 n v177 v186) → sProp (MT nD τ sig Unit (Elt F) ℕ U ℕ)} :
    iprop(words c arg22 q2 M ∗ words c arg23 fullShare O ∗ IdleU c (Bufs.mk arg8 arg9 arg10 arg11 arg15 arg16 arg17 arg18 arg24 arg25 arg26) V qs 1 ∗ Starting c EC (Bufs.mk arg8 arg9 arg10 arg11 arg15 arg16 arg17 arg18 arg24 arg25 arg26) V qLs 1 (fin32 (O ((![1] : Fin 1 → ℕ) 0))) m 0)
      ⊢ iprop((words c arg22 q2 M ∗ words c arg23 fullShare O ∗ BusyU c EC (Bufs.mk arg8 arg9 arg10 arg11 arg15 arg16 arg17 arg18 arg24 arg25 arg26) V qs 1 (fin32 (O ((![1] : Fin 1 → ℕ) 0)))
            ∗ Starting c EC (Bufs.mk arg8 arg9 arg10 arg11 arg15 arg16 arg17 arg18 arg24 arg25 arg26) V qLs 1 (fin32 (O ((![1] : Fin 1 → ℕ) 0))) m 4
            -∗ Q ⟨(O ((![1] : Fin 1 → ℕ) 0)), chk12 _ _ hv, M (k0_off43 (O ((![1] : Fin 1 → ℕ) 0)) 0), chk13 _ _ _ hv⟩) -∗
        wp frame (wpE defs 𝒱 (c : Thread nD τ) bd) Set.univ (k0_part2 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 arg25 arg26 n hc) Q) := by
  rw [k0_part2_eq_skeleton]
  iintro ⟨H22, H23, HU, HS⟩ HQ
  sl_unfold [k0_part2_skel]
  iapply (wp_word 𝒱 c bd) $$ H23
  iintro H23
  iapply (wp_assume 𝒱 (c : Thread nD τ) bd Set.univ (chk12 _ _ hv))
  iapply (wp_startU 𝒱 c bd EC (Bufs.mk arg8 arg9 arg10 arg11 arg15 arg16 arg17 arg18 arg24 arg25 arg26) V qs 1 (fin32 (O ((![1] : Fin 1 → ℕ) 0))) (oX := k0_off42 (O ((![1] : Fin 1 → ℕ) 0))) (oD := k0_off41) (oS := k0_off40) (eta3 (fin32_val _ hv).symm) (eta3 slot1) (eta1 slot1)) $$ HU
  iintro HU
  iapply (wp_word 𝒱 c bd) $$ H22
  iintro H22
  iapply (wp_assume 𝒱 (c : Thread nD τ) bd Set.univ (chk13 _ _ _ hv))
  iapply (wp_retBind 𝒱 c bd)
  iapply (wp_startNo 𝒱 c bd EC (Bufs.mk arg8 arg9 arg10 arg11 arg15 arg16 arg17 arg18 arg24 arg25 arg26) V qLs 1 (fin32 (O ((![1] : Fin 1 → ℕ) 0))) m 0 1 (by decide) rfl (C := k0_cond10 (M (k0_off43 (O ((![1] : Fin 1 → ℕ) 0)) 0)) = 1#1) (by subst hm; exact Iff.rfl)
    (oA := (k0_off46 (O ((![1] : Fin 1 → ℕ) 0)))) (oB := (k0_off48 (O ((![1] : Fin 1 → ℕ) 0)))) (pA := k0_off45) (pB := k0_off47) (oS := k0_off44) (oS' := k0_off44)
    (fun _ => row_off (O ((![1] : Fin 1 → ℕ) 0)) hv 0 (by decide)) (fun _ => row_off (O ((![1] : Fin 1 → ℕ) 0)) hv 0 (by decide)) (fun _ => eta4' slot1) (fun _ => eta4' slot1) (fun _ => eta1 slot1) (fun _ => eta1 slot1)) $$ HS
  iintro HS
  iapply (wp_retBind 𝒱 c bd)
  iapply (wp_startNo 𝒱 c bd EC (Bufs.mk arg8 arg9 arg10 arg11 arg15 arg16 arg17 arg18 arg24 arg25 arg26) V qLs 1 (fin32 (O ((![1] : Fin 1 → ℕ) 0))) m 1 2 (by decide) rfl (C := k0_cond11 (M (k0_off43 (O ((![1] : Fin 1 → ℕ) 0)) 0)) = 1#1) (by subst hm; exact Iff.rfl)
    (oA := (k0_off51 (O ((![1] : Fin 1 → ℕ) 0)))) (oB := (k0_off53 (O ((![1] : Fin 1 → ℕ) 0)))) (pA := k0_off50) (pB := k0_off52) (oS := k0_off49) (oS' := k0_off49)
    (fun _ => row_off (O ((![1] : Fin 1 → ℕ) 0)) hv 1 (by decide)) (fun _ => row_off (O ((![1] : Fin 1 → ℕ) 0)) hv 1 (by decide)) (fun _ => eta4 slot1) (fun _ => eta4 slot1) (fun _ => eta1 slot1) (fun _ => eta1 slot1)) $$ HS
  iintro HS
  iapply (wp_retBind 𝒱 c bd)
  iapply (wp_startNo 𝒱 c bd EC (Bufs.mk arg8 arg9 arg10 arg11 arg15 arg16 arg17 arg18 arg24 arg25 arg26) V qLs 1 (fin32 (O ((![1] : Fin 1 → ℕ) 0))) m 2 3 (by decide) rfl (C := k0_cond12 (M (k0_off43 (O ((![1] : Fin 1 → ℕ) 0)) 0)) = 1#1) (by subst hm; exact Iff.rfl)
    (oA := (k0_off56 (O ((![1] : Fin 1 → ℕ) 0)))) (oB := (k0_off58 (O ((![1] : Fin 1 → ℕ) 0)))) (pA := k0_off55) (pB := k0_off57) (oS := k0_off54) (oS' := k0_off54)
    (fun _ => row_off (O ((![1] : Fin 1 → ℕ) 0)) hv 2 (by decide)) (fun _ => row_off (O ((![1] : Fin 1 → ℕ) 0)) hv 2 (by decide)) (fun _ => eta4 slot1) (fun _ => eta4 slot1) (fun _ => eta1 slot1) (fun _ => eta1 slot1)) $$ HS
  iintro HS
  iapply (wp_retBind 𝒱 c bd)
  iapply (wp_startNo 𝒱 c bd EC (Bufs.mk arg8 arg9 arg10 arg11 arg15 arg16 arg17 arg18 arg24 arg25 arg26) V qLs 1 (fin32 (O ((![1] : Fin 1 → ℕ) 0))) m 3 4 (by decide) rfl (C := k0_cond13 (M (k0_off43 (O ((![1] : Fin 1 → ℕ) 0)) 0)) = 1#1) (by subst hm; exact Iff.rfl)
    (oA := (k0_off61 (O ((![1] : Fin 1 → ℕ) 0)))) (oB := (k0_off63 (O ((![1] : Fin 1 → ℕ) 0)))) (pA := k0_off60) (pB := k0_off62) (oS := k0_off59) (oS' := k0_off59)
    (fun _ => row_off (O ((![1] : Fin 1 → ℕ) 0)) hv 3 (by decide)) (fun _ => row_off (O ((![1] : Fin 1 → ℕ) 0)) hv 3 (by decide)) (fun _ => eta4 slot1) (fun _ => eta4 slot1) (fun _ => eta1 slot1) (fun _ => eta1 slot1)) $$ HS
  iintro HS
  iapply (wp_retBind 𝒱 c bd)
  iapply (wp_done 𝒱 c bd)
  iapply HQ
  isplitl [H22]
  · iexact H22
  isplitl [H23]
  · iexact H23
  isplitl [HU]
  · iexact HU
  · iexact HS

theorem wp_part3 {q2 : PosShare TreeShare} {M O : ℕ → BitVec 32} {n : BitVec 32} {hc : k0_cond18 n = 1#1} (hv : (O ((![2] : Fin 1 → ℕ) 0)).toNat < 32) {m : BitVec 32} (hm : M (O ((![2] : Fin 1 → ℕ) 0)).toNat = m)
    {Q : (Σ' (v177 : Elt F .i32) (k0_hw12 : k0_chk14 n v177) (v186 : Elt F .i32), k0_chk15 n v177 v186) → sProp (MT nD τ sig Unit (Elt F) ℕ U ℕ)} :
    iprop(words c arg22 q2 M ∗ words c arg23 fullShare O ∗ IdleU c (Bufs.mk arg8 arg9 arg10 arg11 arg15 arg16 arg17 arg18 arg24 arg25 arg26) V qs 2 ∗ Starting c EC (Bufs.mk arg8 arg9 arg10 arg11 arg15 arg16 arg17 arg18 arg24 arg25 arg26) V qLs 2 (fin32 (O ((![2] : Fin 1 → ℕ) 0))) m 0)
      ⊢ iprop((words c arg22 q2 M ∗ words c arg23 fullShare O ∗ BusyU c EC (Bufs.mk arg8 arg9 arg10 arg11 arg15 arg16 arg17 arg18 arg24 arg25 arg26) V qs 2 (fin32 (O ((![2] : Fin 1 → ℕ) 0)))
            ∗ Starting c EC (Bufs.mk arg8 arg9 arg10 arg11 arg15 arg16 arg17 arg18 arg24 arg25 arg26) V qLs 2 (fin32 (O ((![2] : Fin 1 → ℕ) 0))) m 4
            -∗ Q ⟨(O ((![2] : Fin 1 → ℕ) 0)), chk14 _ _ hv, M (k0_off90 (O ((![2] : Fin 1 → ℕ) 0)) 0), chk15 _ _ _ hv⟩) -∗
        wp frame (wpE defs 𝒱 (c : Thread nD τ) bd) Set.univ (k0_part3 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 arg25 arg26 n hc) Q) := by
  rw [k0_part3_eq_skeleton]
  iintro ⟨H22, H23, HU, HS⟩ HQ
  sl_unfold [k0_part3_skel]
  iapply (wp_word 𝒱 c bd) $$ H23
  iintro H23
  iapply (wp_assume 𝒱 (c : Thread nD τ) bd Set.univ (chk14 _ _ hv))
  iapply (wp_startU 𝒱 c bd EC (Bufs.mk arg8 arg9 arg10 arg11 arg15 arg16 arg17 arg18 arg24 arg25 arg26) V qs 2 (fin32 (O ((![2] : Fin 1 → ℕ) 0))) (oX := k0_off89 (O ((![2] : Fin 1 → ℕ) 0))) (oD := k0_off88) (oS := k0_off87) (eta3 (fin32_val _ hv).symm) (eta3 slot2) (eta1 slot2)) $$ HU
  iintro HU
  iapply (wp_word 𝒱 c bd) $$ H22
  iintro H22
  iapply (wp_assume 𝒱 (c : Thread nD τ) bd Set.univ (chk15 _ _ _ hv))
  iapply (wp_retBind 𝒱 c bd)
  iapply (wp_startNo 𝒱 c bd EC (Bufs.mk arg8 arg9 arg10 arg11 arg15 arg16 arg17 arg18 arg24 arg25 arg26) V qLs 2 (fin32 (O ((![2] : Fin 1 → ℕ) 0))) m 0 1 (by decide) rfl (C := k0_cond19 (M (k0_off90 (O ((![2] : Fin 1 → ℕ) 0)) 0)) = 1#1) (by subst hm; exact Iff.rfl)
    (oA := (k0_off93 (O ((![2] : Fin 1 → ℕ) 0)))) (oB := (k0_off95 (O ((![2] : Fin 1 → ℕ) 0)))) (pA := k0_off92) (pB := k0_off94) (oS := k0_off91) (oS' := k0_off91)
    (fun _ => row_off (O ((![2] : Fin 1 → ℕ) 0)) hv 0 (by decide)) (fun _ => row_off (O ((![2] : Fin 1 → ℕ) 0)) hv 0 (by decide)) (fun _ => eta4' slot2) (fun _ => eta4' slot2) (fun _ => eta1 slot2) (fun _ => eta1 slot2)) $$ HS
  iintro HS
  iapply (wp_retBind 𝒱 c bd)
  iapply (wp_startNo 𝒱 c bd EC (Bufs.mk arg8 arg9 arg10 arg11 arg15 arg16 arg17 arg18 arg24 arg25 arg26) V qLs 2 (fin32 (O ((![2] : Fin 1 → ℕ) 0))) m 1 2 (by decide) rfl (C := k0_cond20 (M (k0_off90 (O ((![2] : Fin 1 → ℕ) 0)) 0)) = 1#1) (by subst hm; exact Iff.rfl)
    (oA := (k0_off98 (O ((![2] : Fin 1 → ℕ) 0)))) (oB := (k0_off100 (O ((![2] : Fin 1 → ℕ) 0)))) (pA := k0_off97) (pB := k0_off99) (oS := k0_off96) (oS' := k0_off96)
    (fun _ => row_off (O ((![2] : Fin 1 → ℕ) 0)) hv 1 (by decide)) (fun _ => row_off (O ((![2] : Fin 1 → ℕ) 0)) hv 1 (by decide)) (fun _ => eta4 slot2) (fun _ => eta4 slot2) (fun _ => eta1 slot2) (fun _ => eta1 slot2)) $$ HS
  iintro HS
  iapply (wp_retBind 𝒱 c bd)
  iapply (wp_startNo 𝒱 c bd EC (Bufs.mk arg8 arg9 arg10 arg11 arg15 arg16 arg17 arg18 arg24 arg25 arg26) V qLs 2 (fin32 (O ((![2] : Fin 1 → ℕ) 0))) m 2 3 (by decide) rfl (C := k0_cond21 (M (k0_off90 (O ((![2] : Fin 1 → ℕ) 0)) 0)) = 1#1) (by subst hm; exact Iff.rfl)
    (oA := (k0_off103 (O ((![2] : Fin 1 → ℕ) 0)))) (oB := (k0_off105 (O ((![2] : Fin 1 → ℕ) 0)))) (pA := k0_off102) (pB := k0_off104) (oS := k0_off101) (oS' := k0_off101)
    (fun _ => row_off (O ((![2] : Fin 1 → ℕ) 0)) hv 2 (by decide)) (fun _ => row_off (O ((![2] : Fin 1 → ℕ) 0)) hv 2 (by decide)) (fun _ => eta4 slot2) (fun _ => eta4 slot2) (fun _ => eta1 slot2) (fun _ => eta1 slot2)) $$ HS
  iintro HS
  iapply (wp_retBind 𝒱 c bd)
  iapply (wp_startNo 𝒱 c bd EC (Bufs.mk arg8 arg9 arg10 arg11 arg15 arg16 arg17 arg18 arg24 arg25 arg26) V qLs 2 (fin32 (O ((![2] : Fin 1 → ℕ) 0))) m 3 4 (by decide) rfl (C := k0_cond22 (M (k0_off90 (O ((![2] : Fin 1 → ℕ) 0)) 0)) = 1#1) (by subst hm; exact Iff.rfl)
    (oA := (k0_off108 (O ((![2] : Fin 1 → ℕ) 0)))) (oB := (k0_off110 (O ((![2] : Fin 1 → ℕ) 0)))) (pA := k0_off107) (pB := k0_off109) (oS := k0_off106) (oS' := k0_off106)
    (fun _ => row_off (O ((![2] : Fin 1 → ℕ) 0)) hv 3 (by decide)) (fun _ => row_off (O ((![2] : Fin 1 → ℕ) 0)) hv 3 (by decide)) (fun _ => eta4 slot2) (fun _ => eta4 slot2) (fun _ => eta1 slot2) (fun _ => eta1 slot2)) $$ HS
  iintro HS
  iapply (wp_retBind 𝒱 c bd)
  iapply (wp_done 𝒱 c bd)
  iapply HQ
  isplitl [H22]
  · iexact H22
  isplitl [H23]
  · iexact H23
  isplitl [HU]
  · iexact HU
  · iexact HS

theorem wp_part16 {q2 q5 : PosShare TreeShare} {M O : ℕ → BitVec 32} {n v0 v50 : BitVec 32} {hw11 : k0_chk11 v0 (M (k0_off23 v0 0))} (hv0 : v0.toNat < 32)
    (hn1 : 1 ≤ n.toNat) (hn : n.toNat ≤ 33) (hO : ∀ j, j < n.toNat → (O j).toNat < 32) {X5 : S32x5120.Idx → Elt F .bf16}
    {Q : (Σ' (v72 : FVec F S32x5120 .f32) (v78 : IVec S32x256 32) (v83 : IVec S32x256 1), IVec S32x256 1) → sProp (MT nD τ sig Unit (Elt F) ℕ U ℕ)} :
    iprop(words c arg22 q2 M ∗ words c arg23 fullShare O ∗ Starting c EC (Bufs.mk arg8 arg9 arg10 arg11 arg15 arg16 arg17 arg18 arg24 arg25 arg26) V qLs 0 (fin32 v0) (M v0.toNat) 5
        ∗ (Waiting c EC (Bufs.mk arg8 arg9 arg10 arg11 arg15 arg16 arg17 arg18 arg24 arg25 arg26) V qLs 0 (fin32 v0) (M v0.toNat) 0 -∗ RingSt c EC (Bufs.mk arg8 arg9 arg10 arg11 arg15 arg16 arg17 arg18 arg24 arg25 arg26) V n.toNat (fun j => fin32 (O j)) (fun e => M e.val) 0 1)
        ∗ owns (c : Thread nD τ) arg5 q5 X5)
      ⊢ iprop((words c arg22 q2 M ∗ words c arg23 fullShare O ∗ RingSt c EC (Bufs.mk arg8 arg9 arg10 arg11 arg15 arg16 arg17 arg18 arg24 arg25 arg26) V n.toNat (fun j => fin32 (O j)) (fun e => M e.val) 0 3 ∗ owns (c : Thread nD τ) arg5 q5 X5
            -∗ Q ⟨k0_pay26 X5, iota .tc S32x256 32 [1] iota_S32x256_d1_w32, k0_pay27 X5, k0_pay28⟩) -∗
        wp frame (wpE defs 𝒱 (c : Thread nD τ) bd) Set.univ (k0_part16 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 arg25 arg26 v0 n (M (k0_off23 v0 0)) hw11 v50) Q) := by
  rw [k0_part16_eq_skeleton]
  have e1 := sgt1 n (by omega)
  have e2 := sgt2 n (by omega)
  iintro ⟨H22, H23, HS, HR, H5⟩ HQ
  sl_unfold [k0_part16_skel]
  iapply (wp_startNo 𝒱 c bd EC (Bufs.mk arg8 arg9 arg10 arg11 arg15 arg16 arg17 arg18 arg24 arg25 arg26) V qLs 0 (fin32 v0) (M v0.toNat) 5 6 (by decide) rfl (C := k0_cond6 (M (k0_off23 v0 0)) = 1#1) Iff.rfl
    (oA := k0_off34 v0) (oB := k0_off35 v0) (pA := ![0, 5, 0, 0]) (pB := ![0, 5, 0, 0]) (oS := ![0]) (oS' := ![0])
    (fun _ => row_off v0 hv0 5 (by decide)) (fun _ => row_off v0 hv0 5 (by decide)) (fun _ => rfl) (fun _ => rfl) (fun _ => rfl) (fun _ => rfl)) $$ HS
  iintro HS
  iapply (wp_retBind 𝒱 c bd)
  iapply (wp_startNo 𝒱 c bd EC (Bufs.mk arg8 arg9 arg10 arg11 arg15 arg16 arg17 arg18 arg24 arg25 arg26) V qLs 0 (fin32 v0) (M v0.toNat) 6 7 (by decide) rfl (C := k0_cond7 (M (k0_off23 v0 0)) = 1#1) Iff.rfl
    (oA := k0_off36 v0) (oB := k0_off37 v0) (pA := ![0, 6, 0, 0]) (pB := ![0, 6, 0, 0]) (oS := ![0]) (oS' := ![0])
    (fun _ => row_off v0 hv0 6 (by decide)) (fun _ => row_off v0 hv0 6 (by decide)) (fun _ => rfl) (fun _ => rfl) (fun _ => rfl) (fun _ => rfl)) $$ HS
  iintro HS
  iapply (wp_retBind 𝒱 c bd)
  iapply (wp_startNo 𝒱 c bd EC (Bufs.mk arg8 arg9 arg10 arg11 arg15 arg16 arg17 arg18 arg24 arg25 arg26) V qLs 0 (fin32 v0) (M v0.toNat) 7 8 (by decide) rfl (C := k0_cond8 (M (k0_off23 v0 0)) = 1#1) Iff.rfl
    (oA := k0_off38 v0) (oB := k0_off39 v0) (pA := ![0, 7, 0, 0]) (pB := ![0, 7, 0, 0]) (oS := ![0]) (oS' := ![0])
    (fun _ => row_off v0 hv0 7 (by decide)) (fun _ => row_off v0 hv0 7 (by decide)) (fun _ => rfl) (fun _ => rfl) (fun _ => rfl) (fun _ => rfl)) $$ HS
  iintro HS
  iapply (wp_retBind 𝒱 c bd)
  ihave HS := (start_eight c EC (Bufs.mk arg8 arg9 arg10 arg11 arg15 arg16 arg17 arg18 arg24 arg25 arg26) V qLs 0 (fin32 v0) (M v0.toNat)) $$ HS
  ihave HR := HR $$ HS
  by_cases c1 : 1 < n.toNat
  · have h1 : (O ((![1] : Fin 1 → ℕ) 0)).toNat < 32 := hO 1 c1
    iapply (wp_ifPos 𝒱 c bd (C := k0_cond9 n = 1#1) (e1.mpr c1))
    ihave HR := (ring_take_idle c EC (Bufs.mk arg8 arg9 arg10 arg11 arg15 arg16 arg17 arg18 arg24 arg25 arg26) V n.toNat (fun j => fin32 (O j)) (fun e => M e.val) 0 1 (by omega) (by omega) (by omega)) $$ HR
    icases HR with ⟨HI, HR⟩
    ihave HI := (show (Idle c (Bufs.mk arg8 arg9 arg10 arg11 arg15 arg16 arg17 arg18 arg24 arg25 arg26) V qs qLs (slot 1) : sProp 𝕄) ⊢ iprop(IdleU c (Bufs.mk arg8 arg9 arg10 arg11 arg15 arg16 arg17 arg18 arg24 arg25 arg26) V qs 1 ∗ IdleD c (Bufs.mk arg8 arg9 arg10 arg11 arg15 arg16 arg17 arg18 arg24 arg25 arg26) V qs 1 ∗ IdleL c (Bufs.mk arg8 arg9 arg10 arg11 arg15 arg16 arg17 arg18 arg24 arg25 arg26) V qLs 1) from .rfl) $$ HI
    icases HI with ⟨HU, HD, HL⟩
    imod (start_zero c EC (Bufs.mk arg8 arg9 arg10 arg11 arg15 arg16 arg17 arg18 arg24 arg25 arg26) V qLs 1 (fin32 (O ((![1] : Fin 1 → ℕ) 0))) (M (fin32 (O ((![1] : Fin 1 → ℕ) 0))).val)) $$ HL with HS
    iapply (wp_seq 𝒱 c bd)
    iapply (wp_part2 𝒱 c bd EC V arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 arg25 arg26 h1 (congrArg M (fin32_val (O ((![1] : Fin 1 → ℕ) 0)) h1).symm)) $$ [H22 H23 HU HS]
    · isplitl [H22]
      · iexact H22
      isplitl [H23]
      · iexact H23
      isplitl [HU]
      · iexact HU
      · iexact HS
    iintro ⟨H22, H23, HU, HS⟩
    iapply (wp_startNo 𝒱 c bd EC (Bufs.mk arg8 arg9 arg10 arg11 arg15 arg16 arg17 arg18 arg24 arg25 arg26) V qLs 1 (fin32 (O ((![1] : Fin 1 → ℕ) 0))) (M (fin32 (O ((![1] : Fin 1 → ℕ) 0))).val) 4 5 (by decide) rfl (C := k0_cond14 (M (k0_off43 (O ((![1] : Fin 1 → ℕ) 0)) 0)) = 1#1) (by rw [fin32_val (O ((![1] : Fin 1 → ℕ) 0)) h1]; exact Iff.rfl)
      (oA := (k0_off66 (O ((![1] : Fin 1 → ℕ) 0)))) (oB := (k0_off68 (O ((![1] : Fin 1 → ℕ) 0)))) (pA := k0_off65) (pB := k0_off67) (oS := k0_off64) (oS' := k0_off64)
      (fun _ => row_off (O ((![1] : Fin 1 → ℕ) 0)) h1 4 (by decide)) (fun _ => row_off (O ((![1] : Fin 1 → ℕ) 0)) h1 4 (by decide)) (fun _ => eta4 slot1) (fun _ => eta4 slot1) (fun _ => eta1 slot1) (fun _ => eta1 slot1)) $$ HS
    iintro HS
    iapply (wp_retBind 𝒱 c bd)
    iapply (wp_startNo 𝒱 c bd EC (Bufs.mk arg8 arg9 arg10 arg11 arg15 arg16 arg17 arg18 arg24 arg25 arg26) V qLs 1 (fin32 (O ((![1] : Fin 1 → ℕ) 0))) (M (fin32 (O ((![1] : Fin 1 → ℕ) 0))).val) 5 6 (by decide) rfl (C := k0_cond15 (M (k0_off43 (O ((![1] : Fin 1 → ℕ) 0)) 0)) = 1#1) (by rw [fin32_val (O ((![1] : Fin 1 → ℕ) 0)) h1]; exact Iff.rfl)
      (oA := (k0_off71 (O ((![1] : Fin 1 → ℕ) 0)))) (oB := (k0_off73 (O ((![1] : Fin 1 → ℕ) 0)))) (pA := k0_off70) (pB := k0_off72) (oS := k0_off69) (oS' := k0_off69)
      (fun _ => row_off (O ((![1] : Fin 1 → ℕ) 0)) h1 5 (by decide)) (fun _ => row_off (O ((![1] : Fin 1 → ℕ) 0)) h1 5 (by decide)) (fun _ => eta4 slot1) (fun _ => eta4 slot1) (fun _ => eta1 slot1) (fun _ => eta1 slot1)) $$ HS
    iintro HS
    iapply (wp_retBind 𝒱 c bd)
    iapply (wp_startNo 𝒱 c bd EC (Bufs.mk arg8 arg9 arg10 arg11 arg15 arg16 arg17 arg18 arg24 arg25 arg26) V qLs 1 (fin32 (O ((![1] : Fin 1 → ℕ) 0))) (M (fin32 (O ((![1] : Fin 1 → ℕ) 0))).val) 6 7 (by decide) rfl (C := k0_cond16 (M (k0_off43 (O ((![1] : Fin 1 → ℕ) 0)) 0)) = 1#1) (by rw [fin32_val (O ((![1] : Fin 1 → ℕ) 0)) h1]; exact Iff.rfl)
      (oA := (k0_off76 (O ((![1] : Fin 1 → ℕ) 0)))) (oB := (k0_off78 (O ((![1] : Fin 1 → ℕ) 0)))) (pA := k0_off75) (pB := k0_off77) (oS := k0_off74) (oS' := k0_off74)
      (fun _ => row_off (O ((![1] : Fin 1 → ℕ) 0)) h1 6 (by decide)) (fun _ => row_off (O ((![1] : Fin 1 → ℕ) 0)) h1 6 (by decide)) (fun _ => eta4 slot1) (fun _ => eta4 slot1) (fun _ => eta1 slot1) (fun _ => eta1 slot1)) $$ HS
    iintro HS
    iapply (wp_retBind 𝒱 c bd)
    iapply (wp_startNo 𝒱 c bd EC (Bufs.mk arg8 arg9 arg10 arg11 arg15 arg16 arg17 arg18 arg24 arg25 arg26) V qLs 1 (fin32 (O ((![1] : Fin 1 → ℕ) 0))) (M (fin32 (O ((![1] : Fin 1 → ℕ) 0))).val) 7 8 (by decide) rfl (C := k0_cond17 (M (k0_off43 (O ((![1] : Fin 1 → ℕ) 0)) 0)) = 1#1) (by rw [fin32_val (O ((![1] : Fin 1 → ℕ) 0)) h1]; exact Iff.rfl)
      (oA := (k0_off81 (O ((![1] : Fin 1 → ℕ) 0)))) (oB := (k0_off83 (O ((![1] : Fin 1 → ℕ) 0)))) (pA := k0_off80) (pB := k0_off82) (oS := k0_off79) (oS' := k0_off79)
      (fun _ => row_off (O ((![1] : Fin 1 → ℕ) 0)) h1 7 (by decide)) (fun _ => row_off (O ((![1] : Fin 1 → ℕ) 0)) h1 7 (by decide)) (fun _ => eta4 slot1) (fun _ => eta4 slot1) (fun _ => eta1 slot1) (fun _ => eta1 slot1)) $$ HS
    iintro HS
    iapply (wp_retBind 𝒱 c bd)
    iapply (wp_startD 𝒱 c bd EC (Bufs.mk arg8 arg9 arg10 arg11 arg15 arg16 arg17 arg18 arg24 arg25 arg26) V qs 1 (fin32 (O ((![1] : Fin 1 → ℕ) 0))) (oX := k0_off86 (O ((![1] : Fin 1 → ℕ) 0))) (oD := k0_off85) (oS := k0_off84) (eta3 (fin32_val _ h1).symm) (eta3 slot1) (eta1 slot1)) $$ HD
    iintro HD
    ihave HS := (start_eight c EC (Bufs.mk arg8 arg9 arg10 arg11 arg15 arg16 arg17 arg18 arg24 arg25 arg26) V qLs 1 (fin32 (O ((![1] : Fin 1 → ℕ) 0))) (M (fin32 (O ((![1] : Fin 1 → ℕ) 0))).val)) $$ HS
    ihave HR := HR $$ [HU HD HS]
    · iapply (show iprop(BusyU c EC (Bufs.mk arg8 arg9 arg10 arg11 arg15 arg16 arg17 arg18 arg24 arg25 arg26) V qs 1 (fin32 (O ((![1] : Fin 1 → ℕ) 0))) ∗ BusyD c EC (Bufs.mk arg8 arg9 arg10 arg11 arg15 arg16 arg17 arg18 arg24 arg25 arg26) V qs 1 (fin32 (O ((![1] : Fin 1 → ℕ) 0))) ∗ Waiting c EC (Bufs.mk arg8 arg9 arg10 arg11 arg15 arg16 arg17 arg18 arg24 arg25 arg26) V qLs 1 (fin32 (O ((![1] : Fin 1 → ℕ) 0))) (M (fin32 (O ((![1] : Fin 1 → ℕ) 0))).val) 0)
        ⊢ (Busy c EC (Bufs.mk arg8 arg9 arg10 arg11 arg15 arg16 arg17 arg18 arg24 arg25 arg26) V qs qLs (slot 1) (fin32 (O 1)) (M (fin32 (O 1)).val) : sProp 𝕄) from .rfl)
      isplitl [HU]
      · iexact HU
      isplitl [HD]
      · iexact HD
      · iexact HS
    iapply (wp_retBind 𝒱 c bd)
    by_cases c2 : 2 < n.toNat
    · have h2 : (O ((![2] : Fin 1 → ℕ) 0)).toNat < 32 := hO 2 c2
      iapply (wp_ifPos 𝒱 c bd (C := k0_cond18 n = 1#1) (e2.mpr c2))
      ihave HR := (ring_take_idle c EC (Bufs.mk arg8 arg9 arg10 arg11 arg15 arg16 arg17 arg18 arg24 arg25 arg26) V n.toNat (fun j => fin32 (O j)) (fun e => M e.val) 0 2 (by omega) (by omega) (by omega)) $$ HR
      icases HR with ⟨HI, HR⟩
      ihave HI := (show (Idle c (Bufs.mk arg8 arg9 arg10 arg11 arg15 arg16 arg17 arg18 arg24 arg25 arg26) V qs qLs (slot 2) : sProp 𝕄) ⊢ iprop(IdleU c (Bufs.mk arg8 arg9 arg10 arg11 arg15 arg16 arg17 arg18 arg24 arg25 arg26) V qs 2 ∗ IdleD c (Bufs.mk arg8 arg9 arg10 arg11 arg15 arg16 arg17 arg18 arg24 arg25 arg26) V qs 2 ∗ IdleL c (Bufs.mk arg8 arg9 arg10 arg11 arg15 arg16 arg17 arg18 arg24 arg25 arg26) V qLs 2) from .rfl) $$ HI
      icases HI with ⟨HU, HD, HL⟩
      imod (start_zero c EC (Bufs.mk arg8 arg9 arg10 arg11 arg15 arg16 arg17 arg18 arg24 arg25 arg26) V qLs 2 (fin32 (O ((![2] : Fin 1 → ℕ) 0))) (M (fin32 (O ((![2] : Fin 1 → ℕ) 0))).val)) $$ HL with HS
      iapply (wp_seq 𝒱 c bd)
      iapply (wp_part3 𝒱 c bd EC V arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 arg25 arg26 h2 (congrArg M (fin32_val (O ((![2] : Fin 1 → ℕ) 0)) h2).symm)) $$ [H22 H23 HU HS]
      · isplitl [H22]
        · iexact H22
        isplitl [H23]
        · iexact H23
        isplitl [HU]
        · iexact HU
        · iexact HS
      iintro ⟨H22, H23, HU, HS⟩
      iapply (wp_startNo 𝒱 c bd EC (Bufs.mk arg8 arg9 arg10 arg11 arg15 arg16 arg17 arg18 arg24 arg25 arg26) V qLs 2 (fin32 (O ((![2] : Fin 1 → ℕ) 0))) (M (fin32 (O ((![2] : Fin 1 → ℕ) 0))).val) 4 5 (by decide) rfl (C := k0_cond23 (M (k0_off90 (O ((![2] : Fin 1 → ℕ) 0)) 0)) = 1#1) (by rw [fin32_val (O ((![2] : Fin 1 → ℕ) 0)) h2]; exact Iff.rfl)
        (oA := (k0_off113 (O ((![2] : Fin 1 → ℕ) 0)))) (oB := (k0_off115 (O ((![2] : Fin 1 → ℕ) 0)))) (pA := k0_off112) (pB := k0_off114) (oS := k0_off111) (oS' := k0_off111)
        (fun _ => row_off (O ((![2] : Fin 1 → ℕ) 0)) h2 4 (by decide)) (fun _ => row_off (O ((![2] : Fin 1 → ℕ) 0)) h2 4 (by decide)) (fun _ => eta4 slot2) (fun _ => eta4 slot2) (fun _ => eta1 slot2) (fun _ => eta1 slot2)) $$ HS
      iintro HS
      iapply (wp_retBind 𝒱 c bd)
      iapply (wp_startNo 𝒱 c bd EC (Bufs.mk arg8 arg9 arg10 arg11 arg15 arg16 arg17 arg18 arg24 arg25 arg26) V qLs 2 (fin32 (O ((![2] : Fin 1 → ℕ) 0))) (M (fin32 (O ((![2] : Fin 1 → ℕ) 0))).val) 5 6 (by decide) rfl (C := k0_cond24 (M (k0_off90 (O ((![2] : Fin 1 → ℕ) 0)) 0)) = 1#1) (by rw [fin32_val (O ((![2] : Fin 1 → ℕ) 0)) h2]; exact Iff.rfl)
        (oA := (k0_off118 (O ((![2] : Fin 1 → ℕ) 0)))) (oB := (k0_off120 (O ((![2] : Fin 1 → ℕ) 0)))) (pA := k0_off117) (pB := k0_off119) (oS := k0_off116) (oS' := k0_off116)
        (fun _ => row_off (O ((![2] : Fin 1 → ℕ) 0)) h2 5 (by decide)) (fun _ => row_off (O ((![2] : Fin 1 → ℕ) 0)) h2 5 (by decide)) (fun _ => eta4 slot2) (fun _ => eta4 slot2) (fun _ => eta1 slot2) (fun _ => eta1 slot2)) $$ HS
      iintro HS
      iapply (wp_retBind 𝒱 c bd)
      iapply (wp_startNo 𝒱 c bd EC (Bufs.mk arg8 arg9 arg10 arg11 arg15 arg16 arg17 arg18 arg24 arg25 arg26) V qLs 2 (fin32 (O ((![2] : Fin 1 → ℕ) 0))) (M (fin32 (O ((![2] : Fin 1 → ℕ) 0))).val) 6 7 (by decide) rfl (C := k0_cond25 (M (k0_off90 (O ((![2] : Fin 1 → ℕ) 0)) 0)) = 1#1) (by rw [fin32_val (O ((![2] : Fin 1 → ℕ) 0)) h2]; exact Iff.rfl)
        (oA := (k0_off123 (O ((![2] : Fin 1 → ℕ) 0)))) (oB := (k0_off125 (O ((![2] : Fin 1 → ℕ) 0)))) (pA := k0_off122) (pB := k0_off124) (oS := k0_off121) (oS' := k0_off121)
        (fun _ => row_off (O ((![2] : Fin 1 → ℕ) 0)) h2 6 (by decide)) (fun _ => row_off (O ((![2] : Fin 1 → ℕ) 0)) h2 6 (by decide)) (fun _ => eta4 slot2) (fun _ => eta4 slot2) (fun _ => eta1 slot2) (fun _ => eta1 slot2)) $$ HS
      iintro HS
      iapply (wp_retBind 𝒱 c bd)
      iapply (wp_startNo 𝒱 c bd EC (Bufs.mk arg8 arg9 arg10 arg11 arg15 arg16 arg17 arg18 arg24 arg25 arg26) V qLs 2 (fin32 (O ((![2] : Fin 1 → ℕ) 0))) (M (fin32 (O ((![2] : Fin 1 → ℕ) 0))).val) 7 8 (by decide) rfl (C := k0_cond26 (M (k0_off90 (O ((![2] : Fin 1 → ℕ) 0)) 0)) = 1#1) (by rw [fin32_val (O ((![2] : Fin 1 → ℕ) 0)) h2]; exact Iff.rfl)
        (oA := (k0_off128 (O ((![2] : Fin 1 → ℕ) 0)))) (oB := (k0_off130 (O ((![2] : Fin 1 → ℕ) 0)))) (pA := k0_off127) (pB := k0_off129) (oS := k0_off126) (oS' := k0_off126)
        (fun _ => row_off (O ((![2] : Fin 1 → ℕ) 0)) h2 7 (by decide)) (fun _ => row_off (O ((![2] : Fin 1 → ℕ) 0)) h2 7 (by decide)) (fun _ => eta4 slot2) (fun _ => eta4 slot2) (fun _ => eta1 slot2) (fun _ => eta1 slot2)) $$ HS
      iintro HS
      iapply (wp_retBind 𝒱 c bd)
      iapply (wp_startD 𝒱 c bd EC (Bufs.mk arg8 arg9 arg10 arg11 arg15 arg16 arg17 arg18 arg24 arg25 arg26) V qs 2 (fin32 (O ((![2] : Fin 1 → ℕ) 0))) (oX := k0_off133 (O ((![2] : Fin 1 → ℕ) 0))) (oD := k0_off132) (oS := k0_off131) (eta3 (fin32_val _ h2).symm) (eta3 slot2) (eta1 slot2)) $$ HD
      iintro HD
      ihave HS := (start_eight c EC (Bufs.mk arg8 arg9 arg10 arg11 arg15 arg16 arg17 arg18 arg24 arg25 arg26) V qLs 2 (fin32 (O ((![2] : Fin 1 → ℕ) 0))) (M (fin32 (O ((![2] : Fin 1 → ℕ) 0))).val)) $$ HS
      ihave HR := HR $$ [HU HD HS]
      · iapply (show iprop(BusyU c EC (Bufs.mk arg8 arg9 arg10 arg11 arg15 arg16 arg17 arg18 arg24 arg25 arg26) V qs 2 (fin32 (O ((![2] : Fin 1 → ℕ) 0))) ∗ BusyD c EC (Bufs.mk arg8 arg9 arg10 arg11 arg15 arg16 arg17 arg18 arg24 arg25 arg26) V qs 2 (fin32 (O ((![2] : Fin 1 → ℕ) 0))) ∗ Waiting c EC (Bufs.mk arg8 arg9 arg10 arg11 arg15 arg16 arg17 arg18 arg24 arg25 arg26) V qLs 2 (fin32 (O ((![2] : Fin 1 → ℕ) 0))) (M (fin32 (O ((![2] : Fin 1 → ℕ) 0))).val) 0)
          ⊢ (Busy c EC (Bufs.mk arg8 arg9 arg10 arg11 arg15 arg16 arg17 arg18 arg24 arg25 arg26) V qs qLs (slot 2) (fin32 (O 2)) (M (fin32 (O 2)).val) : sProp 𝕄) from .rfl)
        isplitl [HU]
        · iexact HU
        isplitl [HD]
        · iexact HD
        · iexact HS
      iapply (wp_retBind 𝒱 c bd)
      iapply (wp_loadAll 𝒱 c bd zero2) $$ H5
      iintro H5
      iapply (wp_done 𝒱 c bd)
      iapply HQ
      isplitl [H22]
      · iexact H22
      isplitl [H23]
      · iexact H23
      isplitl [HR]
      · iexact HR
      · iexact H5
    · iapply (wp_ifNeg 𝒱 c bd (C := k0_cond18 n = 1#1) (fun h => c2 (e2.mp h)))
      ihave HR := (Entails.of_eq (ring_skip c EC (Bufs.mk arg8 arg9 arg10 arg11 arg15 arg16 arg17 arg18 arg24 arg25 arg26) V n.toNat (fun j => fin32 (O j)) (fun e => M e.val) 0 2 (by omega))) $$ HR
      iapply (wp_loadAll 𝒱 c bd zero2) $$ H5
      iintro H5
      iapply (wp_done 𝒱 c bd)
      iapply HQ
      isplitl [H22]
      · iexact H22
      isplitl [H23]
      · iexact H23
      isplitl [HR]
      · iexact HR
      · iexact H5
  · iapply (wp_ifNeg 𝒱 c bd (C := k0_cond9 n = 1#1) (fun h => c1 (e1.mp h)))
    iapply (wp_ifNeg 𝒱 c bd (C := k0_cond18 n = 1#1) (fun h => c1 (lt_trans (by decide) (e2.mp h))))
    ihave HR := (Entails.of_eq (ring_skip c EC (Bufs.mk arg8 arg9 arg10 arg11 arg15 arg16 arg17 arg18 arg24 arg25 arg26) V n.toNat (fun j => fin32 (O j)) (fun e => M e.val) 0 1 (by omega))) $$ HR
    ihave HR := (Entails.of_eq (ring_skip c EC (Bufs.mk arg8 arg9 arg10 arg11 arg15 arg16 arg17 arg18 arg24 arg25 arg26) V n.toNat (fun j => fin32 (O j)) (fun e => M e.val) 0 2 (by omega))) $$ HR
    iapply (wp_loadAll 𝒱 c bd zero2) $$ H5
    iintro H5
    iapply (wp_done 𝒱 c bd)
    iapply HQ
    isplitl [H22]
    · iexact H22
    isplitl [H23]
    · iexact H23
    isplitl [HR]
    · iexact HR
    · iexact H5

end Cert.Proof.K
-- ==== Proof.Adapters.lean ====
module

public import proofs.«01_k».proof.Defs
public import proofs.«01_k».proof.Proof.Pairs
public import proofs.«01_k».proof.Proof.Ring
public import Idealize.ShloMosaic.Lib.ValueLayout

@[expose] public section

/-!
# Reading the factors of the adapters of a slot
-/

noncomputable section

namespace Cert.Proof.Slots

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Proof.Copies
open Idealize.ShloMosaic.ValueIdx
open Cert.Kernel (S4x5120x768 S4x768x5120 S4x8x16x5120 S4x8x16x768 S32x5120x768 S32x768x5120 S256x16x5120 S256x16x768
  S1x5120x768 S1x768x5120 S1x16x5120 S1x16x768 S1x1x16x5120 S1x1x16x768 S1x8x16x5120 S1x8x16x768 S5120x768 S768x5120 S16x5120 S16x768 S4 S1 S_)

variable {nD : Nat} {τ : Topo} {sig : RefSig} {Val : EltTy → Type} [∀ e, Nonempty (Val e)] {U : Type} [URA U]

local notation "𝕄" => MT nD τ sig Unit Val ℕ U ℕ

variable {Λ : Labels} {defs : Defs nD τ sig Val Λ} (𝒱 : Variants) (c : Dev nD) (bd : Option 𝒱.V)
variable {α : Type} {Q : α → sProp (MT nD τ sig Unit Val ℕ U ℕ)}

variable (R : Bufs sig) (V : Vals Val) (q : Fin 4 → PosShare TreeShare) (qL : Fin 4 → Fin 8 → PosShare TreeShare)

/-- A load of a slot of the up weights' buffer. -/
theorem wp_load_upSlot (s : Fin 4) {o : Fin 3 → ℕ} (ho : o = ![s.val, 0, 0]) {i} {X : S1x5120x768.Idx → Val .fp8e4m3} {hl}
    {k : (S1x5120x768.Idx → Val .fp8e4m3) → Prog (TpuEff nD τ sig Val Λ .tc) α} :
    (owns (c : Thread nD τ) (upSl R s) fullShare X : sProp 𝕄)
      ⊢ iprop((owns (c : Thread nD τ) (upSl R s) fullShare X -∗ wp frame (wpE defs 𝒱 (c : Thread nD τ) bd) Set.univ (k X) Q)
          -∗ wp frame (wpE defs 𝒱 (c : Thread nD τ) bd) Set.univ
              (.op (.load R.ub (Rect.unit (s := S4x5120x768) o S1x5120x768.size i).toLoadRect hl) k) Q) := by
  subst ho
  exact wp_load_slice 𝒱 (c : Thread nD τ) bd (fun _ => rfl)

/-- A load of a slot of the down weights' buffer. -/
theorem wp_load_dnSlot (s : Fin 4) {o : Fin 3 → ℕ} (ho : o = ![s.val, 0, 0]) {i} {X : S1x768x5120.Idx → Val .fp8e4m3} {hl}
    {k : (S1x768x5120.Idx → Val .fp8e4m3) → Prog (TpuEff nD τ sig Val Λ .tc) α} :
    (owns (c : Thread nD τ) (dnSl R s) fullShare X : sProp 𝕄)
      ⊢ iprop((owns (c : Thread nD τ) (dnSl R s) fullShare X -∗ wp frame (wpE defs 𝒱 (c : Thread nD τ) bd) Set.univ (k X) Q)
          -∗ wp frame (wpE defs 𝒱 (c : Thread nD τ) bd) Set.univ
              (.op (.load R.db (Rect.unit (s := S4x768x5120) o S1x768x5120.size i).toLoadRect hl) k) Q) := by
  subst ho
  exact wp_load_slice 𝒱 (c : Thread nD τ) bd (fun _ => rfl)

/-- The row of the adapters' array that holds adapter `a` of expert `e`. -/
def rowNo (e : Fin 32) (a : Fin 8) : Fin 256 := ⟨e.val * 8 + a.val, by omega⟩

/-- A loaded slot of first factors: the factor of each adapter in use. -/
def FactA (e : Fin 32) (m : BitVec 32) (A : S1x8x16x5120.Idx → Val .bf16) : Prop :=
  ∀ a, used m a → ∀ (r : Fin 16) (d : Fin 5120), A (ix4 (0 : Fin 1) a r d) = V.xa (ix3 (rowNo e a) r d)
/-- A loaded slot of second factors: the factor of each adapter in use. -/
def FactB (e : Fin 32) (m : BitVec 32) (B : S1x8x16x768.Idx → Val .bf16) : Prop :=
  ∀ a, used m a → ∀ (r : Fin 16) (d : Fin 768), B (ix4 (0 : Fin 1) a r d) = V.xb (ix3 (rowNo e a) r d)

theorem aVal_at (e : Fin 32) (a : Fin 8) (r : Fin 16) (d : Fin 5120) :
    aVal V e a (ix4 (0 : Fin 1) (0 : Fin 1) r d) = V.xa (ix3 (rowNo e a) r d) := by
  have h1 : (Shape.reshapeEquiv sqA.numel_eq).symm (ix4 (0 : Fin 1) (0 : Fin 1) r d) = ix2 r d := by
    rw [Equiv.symm_apply_eq]; exact (reshapeEquiv_ix2_11ab _ r d).symm
  show V.xa ((rHA e a).emb (Shape.reshapeEquiv sqHA.numel_eq ((Shape.reshapeEquiv sqA.numel_eq).symm (ix4 (0 : Fin 1) (0 : Fin 1) r d)))) = _
  rw [h1]
  refine congrArg V.xa ?_
  rw [show Shape.reshapeEquiv sqHA.numel_eq (ix2 r d) = ix3 (0 : Fin 1) r d from reshapeEquiv_ix2_1ab _ r d]
  funext k
  apply Fin.ext
  fin_cases k
  · show e.val * 8 + a.val + 1 * 0 = e.val * 8 + a.val; omega
  · show 0 + 1 * r.val = r.val; omega
  · show 0 + 1 * d.val = d.val; omega

theorem bVal_at (e : Fin 32) (a : Fin 8) (r : Fin 16) (d : Fin 768) :
    bVal V e a (ix4 (0 : Fin 1) (0 : Fin 1) r d) = V.xb (ix3 (rowNo e a) r d) := by
  have h1 : (Shape.reshapeEquiv sqB.numel_eq).symm (ix4 (0 : Fin 1) (0 : Fin 1) r d) = ix2 r d := by
    rw [Equiv.symm_apply_eq]; exact (reshapeEquiv_ix2_11ab _ r d).symm
  show V.xb ((rHB e a).emb (Shape.reshapeEquiv sqHB.numel_eq ((Shape.reshapeEquiv sqB.numel_eq).symm (ix4 (0 : Fin 1) (0 : Fin 1) r d)))) = _
  rw [h1]
  refine congrArg V.xb ?_
  rw [show Shape.reshapeEquiv sqHB.numel_eq (ix2 r d) = ix3 (0 : Fin 1) r d from reshapeEquiv_ix2_1ab _ r d]
  funext k
  apply Fin.ext
  fin_cases k
  · show e.val * 8 + a.val + 1 * 0 = e.val * 8 + a.val; omega
  · show 0 + 1 * r.val = r.val; omega
  · show 0 + 1 * d.val = d.val; omega

/-- The contents of an adapter's part of a slot: what was copied, if the mask asks for the adapter. -/
def Part (e : Fin 32) (m : BitVec 32) (a : Fin 8) : Type :=
  {Y : (S1x1x16x5120.Idx → Val .bf16) × (S1x1x16x768.Idx → Val .bf16) // used m a → Y.1 = aVal V e a ∧ Y.2 = bVal V e a}

instance (e : Fin 32) (m : BitVec 32) (a : Fin 8) : Nonempty (Part V e m a) := ⟨⟨(aVal V e a, bVal V e a), fun _ => ⟨rfl, rfl⟩⟩⟩

theorem landP_part (s : Fin 4) (e : Fin 32) (m : BitVec 32) (a : Fin 8) :
    (LandP c R V qL s e m a : sProp 𝕄)
      ⊢ iprop(∃ Y : Part V e m a, (owns (c : Thread nD τ) (aSl R s a) fullShare Y.1.1 ∗ owns (c : Thread nD τ) (bSl R s a) fullShare Y.1.2)
          ∗ owns (c : Thread nD τ) R.la (qL s a) V.xa ∗ owns (c : Thread nD τ) R.lb (qL s a) V.xb) := by
  unfold LandP
  by_cases h : used m a
  · rw [if_pos h]
    iintro ⟨H, HS⟩
    iexists (⟨(aVal V e a, bVal V e a), fun _ => ⟨rfl, rfl⟩⟩ : Part V e m a)
    isplitl [H]
    · iexact H
    · iexact HS
  · rw [if_neg h]
    unfold anyAt
    iintro ⟨⟨⟨%X, HX⟩, %Y, HY⟩, HS⟩
    iexists (⟨(X, Y), fun h' => (h h').elim⟩ : Part V e m a)
    isplitl [HX HY]
    · isplitl [HX]
      · iexact HX
      · iexact HY
    · iexact HS

/-- The loads of all first and second factors of a slot whose copies have arrived. -/
theorem wp_load_lora (s : Fin 4) (e : Fin 32) (m : BitVec 32) {oA oB : Fin 4 → ℕ} (hA : oA = ![s.val, 0, 0, 0]) (hB : oB = ![s.val, 0, 0, 0]) {iA iB hl hl'}
    {k : (S1x8x16x5120.Idx → Val .bf16) → (S1x8x16x768.Idx → Val .bf16) → Prog (TpuEff nD τ sig Val Λ .tc) α} :
    (LandL c R V qL s e m : sProp 𝕄)
      ⊢ iprop((∀ A B, iprop(⌜FactA V e m A ∧ FactB V e m B⌝ ∗ IdleL c R V qL s) -∗ wp frame (wpE defs 𝒱 (c : Thread nD τ) bd) Set.univ (k A B) Q)
          -∗ wp frame (wpE defs 𝒱 (c : Thread nD τ) bd) Set.univ
              (.op (.load R.ab (Rect.unit (s := S4x8x16x5120) oA S1x8x16x5120.size iA).toLoadRect hl) fun A =>
                .op (.load R.bb (Rect.unit (s := S4x8x16x768) oB S1x8x16x768.size iB).toLoadRect hl') fun B => k A B) Q) := by
  subst hA hB
  have hsA : (Rect.unit (s := S4x8x16x5120) ![s.val, 0, 0, 0] S1x8x16x5120.size iA).set ⊆ (Finset.univ : Finset (Fin 8)).biUnion (fun a => (rA s a).set) := by
    intro j hj
    rw [Rect.mem_set_unit] at hj
    rw [Finset.mem_biUnion]
    refine ⟨(j 1 : Fin 8), Finset.mem_univ _, (mem_rA s _ j).mpr ⟨?_, rfl⟩⟩
    have h := hj 0
    have h1 : s.val ≤ (j 0).val := h.1
    have h2 : (j 0).val < s.val + 1 := h.2
    omega
  have hsB : (Rect.unit (s := S4x8x16x768) ![s.val, 0, 0, 0] S1x8x16x768.size iB).set ⊆ (Finset.univ : Finset (Fin 8)).biUnion (fun a => (rB s a).set) := by
    intro j hj
    rw [Rect.mem_set_unit] at hj
    rw [Finset.mem_biUnion]
    refine ⟨(j 1 : Fin 8), Finset.mem_univ _, (mem_rB s _ j).mpr ⟨?_, rfl⟩⟩
    have h := hj 0
    have h1 : s.val ≤ (j 0).val := h.1
    have h2 : (j 0).val < s.val + 1 := h.2
    omega
  have hdA : ∀ t t' : Fin 8, t ≠ t' → Disjoint (rA s t).set (rA s t').set := by
    intro t t' h
    rw [Finset.disjoint_left]
    intro j hj hj'
    exact h (Fin.ext (((mem_rA s t j).mp hj).2.symm.trans ((mem_rA s t' j).mp hj').2))
  have hdB : ∀ t t' : Fin 8, t ≠ t' → Disjoint (rB s t).set (rB s t').set := by
    intro t t' h
    rw [Finset.disjoint_left]
    intro j hj hj'
    exact h (Fin.ext (((mem_rB s t j).mp hj).2.symm.trans ((mem_rB s t' j).mp hj').2))
  have e1 : (BI.bigSep Finset.univ (fun a : Fin 8 => LandP c R V qL s e m a) : sProp 𝕄)
      ⊢ iprop(∃ Y : (a : Fin 8) → Part V e m a, BI.bigSep Finset.univ (fun a => owns (c : Thread nD τ) (aSl R s a) fullShare (Y a).1.1)
          ∗ BI.bigSep Finset.univ (fun a => owns (c : Thread nD τ) (bSl R s a) fullShare (Y a).1.2)
          ∗ BI.bigSep Finset.univ (fun a => iprop(owns (c : Thread nD τ) R.la (qL s a) V.xa ∗ owns (c : Thread nD τ) R.lb (qL s a) V.xb))) := by
    refine (BI.bigSep_mono fun a _ => landP_part c R V qL s e m a).trans ?_
    refine (bigSep_exists_pi Finset.univ _).trans ?_
    iintro ⟨%Y, H⟩
    iexists Y
    ihave H := (Entails.of_eq (BI.bigSep_sep' Finset.univ _ _)) $$ H
    icases H with ⟨H, HS⟩
    ihave H := (Entails.of_eq (BI.bigSep_sep' Finset.univ _ _)) $$ H
    icases H with ⟨HA, HB⟩
    isplitl [HA]
    · iexact HA
    isplitl [HB]
    · iexact HB
    · iexact HS
  have e2 : ∀ Y : (a : Fin 8) → Part V e m a, (iprop(BI.bigSep Finset.univ (fun a => owns (c : Thread nD τ) (aSl R s a) fullShare (Y a).1.1)
          ∗ BI.bigSep Finset.univ (fun a => owns (c : Thread nD τ) (bSl R s a) fullShare (Y a).1.2)
          ∗ BI.bigSep Finset.univ (fun a => iprop(owns (c : Thread nD τ) R.la (qL s a) V.xa ∗ owns (c : Thread nD τ) R.lb (qL s a) V.xb))) : sProp 𝕄)
      ⊢ BI.bigSep Finset.univ (fun a : Fin 8 => IdleP c R V qL s a) := by
    intro Y
    have h1 : (iprop(BI.bigSep Finset.univ (fun a => owns (c : Thread nD τ) (aSl R s a) fullShare (Y a).1.1)
          ∗ BI.bigSep Finset.univ (fun a => owns (c : Thread nD τ) (bSl R s a) fullShare (Y a).1.2)
          ∗ BI.bigSep Finset.univ (fun a => iprop(owns (c : Thread nD τ) R.la (qL s a) V.xa ∗ owns (c : Thread nD τ) R.lb (qL s a) V.xb))) : sProp 𝕄)
        = BI.bigSep Finset.univ (fun a : Fin 8 => iprop(owns (c : Thread nD τ) (aSl R s a) fullShare (Y a).1.1 ∗ owns (c : Thread nD τ) (bSl R s a) fullShare (Y a).1.2
          ∗ (owns (c : Thread nD τ) R.la (qL s a) V.xa ∗ owns (c : Thread nD τ) R.lb (qL s a) V.xb))) := by
      rw [← BI.bigSep_sep', ← BI.bigSep_sep']
    rw [h1]
    refine BI.bigSep_mono fun a _ => ?_
    show (iprop(owns (c : Thread nD τ) (aSl R s a) fullShare (Y a).1.1 ∗ owns (c : Thread nD τ) (bSl R s a) fullShare (Y a).1.2
          ∗ (owns (c : Thread nD τ) R.la (qL s a) V.xa ∗ owns (c : Thread nD τ) R.lb (qL s a) V.xb)) : sProp 𝕄) ⊢ IdleP c R V qL s a
    unfold IdleP
    iintro ⟨HA, HB, HS⟩
    isplitl [HA HB]
    · isplitl [HA]
      · iapply (anyAt_of (c : Thread nD τ) (aSl R s a)); iexact HA
      · iapply (anyAt_of (c : Thread nD τ) (bSl R s a)); iexact HB
    · iexact HS
  unfold LandL IdleL
  iintro ⟨H, Hv⟩ Hk
  ihave H := e1 $$ H
  icases H with ⟨%Y, HA, HB, HS⟩
  iapply (wp_load_parts 𝒱 c bd R.ab (fun a : Fin 8 => rA s a) (fun _ _ => rfl) hdA
    (Rect.unit (s := S4x8x16x5120) ![s.val, 0, 0, 0] S1x8x16x5120.size iA) hsA (fun a => (Y a).1.1)) $$ HA
  iintro %A ⟨%hA, HA⟩
  iapply (wp_load_parts 𝒱 c bd R.bb (fun a : Fin 8 => rB s a) (fun _ _ => rfl) hdB
    (Rect.unit (s := S4x8x16x768) ![s.val, 0, 0, 0] S1x8x16x768.size iB) hsB (fun a => (Y a).1.2)) $$ HB
  iintro %B ⟨%hB, HB⟩
  ispecialize Hk $$ %A %B
  iapply Hk
  isplitr
  · ipureintro
    refine ⟨fun a hu r d => ?_, fun a hu r d => ?_⟩
    · have h1 := hA a (ix4 (0 : Fin 1) (0 : Fin 1) r d) (ix4 (0 : Fin 1) a r d) (by
        funext k
        apply Fin.ext
        fin_cases k
        · rfl
        · show 0 + 1 * a.val = a.val + 1 * 0; omega
        · rfl
        · rfl)
      have h2 := congrFun ((Y a).2 hu).1 (ix4 (0 : Fin 1) (0 : Fin 1) r d)
      exact h1.trans (h2.trans (aVal_at V e a r d))
    · have h1 := hB a (ix4 (0 : Fin 1) (0 : Fin 1) r d) (ix4 (0 : Fin 1) a r d) (by
        funext k
        apply Fin.ext
        fin_cases k
        · rfl
        · show 0 + 1 * a.val = a.val + 1 * 0; omega
        · rfl
        · rfl)
      have h2 := congrFun ((Y a).2 hu).2 (ix4 (0 : Fin 1) (0 : Fin 1) r d)
      exact h1.trans (h2.trans (bVal_at V e a r d))
  isplitl [HA HB HS]
  · iapply (e2 Y)
    isplitl [HA]
    · iexact HA
    isplitl [HB]
    · iexact HB
    · iexact HS
  · iexact Hv

end Cert.Proof.Slots
-- ==== Proof.K.Trip.lean ====
module

public import proofs.«01_k».proof.Proof.K.Start
public import proofs.«01_k».proof.Proof.Adapters

@[expose] public section

/-!
# One trip of the loop over experts
-/

set_option maxRecDepth 16384

noncomputable section

namespace Cert.Proof.K

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Proof.Copies Cert.Proof.Words Cert.Proof.Tables Cert.Proof.Slots Cert.Proof.RingState Cert.Proof.Nums
open Cert.Kernel Cert.Kernel.Gen

variable {F : FTy → Type} [FloatOps F] {U : Type} [URA U]

local notation "𝕄" => MT nD τ sig Unit (Elt F) ℕ U ℕ

variable {defs : Defs nD τ sig (Elt F) Λ₀} (𝒱 : Variants) (c : Dev nD) (bd : Option 𝒱.V)
variable (EC : UEmb Counters (MT nD τ sig Unit (Elt F) ℕ U ℕ)) [EC.LandsIn (upEmb : UEmb _ (MT nD τ sig Unit (Elt F) ℕ U ℕ))]
variable (V : Vals (Elt F))
variable (arg0 : Memref sig .tc .smem S8x32 .i32) (harg0 : arg0.IsWhole) (arg1 : Memref sig .tc .smem S1x32 .i32) (harg1 : arg1.IsWhole) (arg2 : Memref sig .tc .vmem S8x32 .i32) (harg2 : arg2.IsWhole) (arg3 : Memref sig .tc .vmem S8x32 .f32) (harg3 : arg3.IsWhole) (arg4 : Memref sig .tc .vmem S32x1 .i32) (harg4 : arg4.IsWhole) (arg5 : Memref sig .tc .vmem S32x5120 .bf16) (harg5 : arg5.IsWhole) (arg6 : Memref sig .tc .vmem S32x768 .f32) (harg6 : arg6.IsWhole) (arg7 : Memref sig .tc .vmem S32x5120 .f32) (harg7 : arg7.IsWhole) (arg8 : Memref sig .tc .hbm S32x5120x768 .fp8e4m3) (harg8 : arg8.IsWhole) (arg9 : Memref sig .tc .hbm S32x768x5120 .fp8e4m3) (harg9 : arg9.IsWhole) (arg10 : Memref sig .tc .hbm S256x16x5120 .bf16) (harg10 : arg10.IsWhole) (arg11 : Memref sig .tc .hbm S256x16x768 .bf16) (harg11 : arg11.IsWhole) (arg12 : Memref sig .tc .vmem S32x5120 .bf16) (harg12 : arg12.IsWhole) (arg13 : Memref sig .tc .vmem S32x5120 .fp8e4m3) (harg13 : arg13.IsWhole) (arg14 : Memref sig .tc .vmem S32x1 .f32) (harg14 : arg14.IsWhole) (arg15 : Memref sig .tc .vmem S4x5120x768 .fp8e4m3) (harg15 : arg15.IsWhole) (arg16 : Memref sig .tc .vmem S4x768x5120 .fp8e4m3) (harg16 : arg16.IsWhole) (arg17 : Memref sig .tc .vmem S4x8x16x5120 .bf16) (harg17 : arg17.IsWhole) (arg18 : Memref sig .tc .vmem S4x8x16x768 .bf16) (harg18 : arg18.IsWhole) (arg19 : Memref sig .tc .vmem S32x8 .i32) (harg19 : arg19.IsWhole) (arg20 : Memref sig .tc .vmem S32x8 .f32) (harg20 : arg20.IsWhole) (arg21 : Memref sig .tc .vmem S32x5120 .f32) (harg21 : arg21.IsWhole) (arg22 : Memref sig .tc .smem S32 .i32) (harg22 : arg22.IsWhole) (arg23 : Memref sig .tc .smem S33 .i32) (harg23 : arg23.IsWhole) (arg24 : DmaSems sig S4) (arg25 : DmaSems sig S4) (arg26 : DmaSems sig S4)

theorem wp_part4 {q2 : PosShare TreeShare} {M O : ℕ → BitVec 32} {n : BitVec 32} {hw16 : k0_chk16 n} (t : Fin (k0_t4_loop n).trips) (ht : t.val < n.toNat) (hn : n.toNat ≤ 33) {arg27 : BitVec 32} {hc : k0_cond27 n t = 1#1}
    (hv : (O (k0_off135 n t 0)).toNat < 32) {m : BitVec 32} (hm : M (O (k0_off135 n t 0)).toNat = m)
    {Q : (Σ' (v357 : Elt F .i32) (k0_hw17 : k0_chk17 n t v357) (v366 : Elt F .i32) (k0_hw18 : k0_chk18 n t v357 v366), BitVec 32) → sProp (MT nD τ sig Unit (Elt F) ℕ U ℕ)} :
    iprop(words c arg22 q2 M ∗ words c arg23 fullShare O ∗ IdleU c (Bufs.mk arg8 arg9 arg10 arg11 arg15 arg16 arg17 arg18 arg24 arg25 arg26) V qs (slot (t.val + 3)) ∗ Starting c EC (Bufs.mk arg8 arg9 arg10 arg11 arg15 arg16 arg17 arg18 arg24 arg25 arg26) V qLs (slot (t.val + 3)) (fin32 (O (k0_off135 n t 0))) m 0)
      ⊢ iprop((words c arg22 q2 M ∗ words c arg23 fullShare O ∗ BusyU c EC (Bufs.mk arg8 arg9 arg10 arg11 arg15 arg16 arg17 arg18 arg24 arg25 arg26) V qs (slot (t.val + 3)) (fin32 (O (k0_off135 n t 0)))
            ∗ Starting c EC (Bufs.mk arg8 arg9 arg10 arg11 arg15 arg16 arg17 arg18 arg24 arg25 arg26) V qLs (slot (t.val + 3)) (fin32 (O (k0_off135 n t 0))) m 3
            -∗ Q ⟨(O (k0_off135 n t 0)), chk17 n hn t _ hv, M (k0_off139 (O (k0_off135 n t 0)) 0), chk18 n hn t _ hv _, Scalar.extui (Scalar.cmpi .eq (Scalar.andi (Scalar.shrsi (M (k0_off139 (O (k0_off135 n t 0)) 0)) 4#32) 1#32) 1#32)⟩) -∗
        wp frame (wpE defs 𝒱 (c : Thread nD τ) bd) Set.univ (k0_part4 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 arg25 arg26 n hw16 t arg27 hc) Q) := by
  rw [k0_part4_eq_skeleton]
  iintro ⟨H22, H23, HU, HS⟩ HQ
  sl_unfold [k0_part4_skel]
  iapply (wp_word 𝒱 c bd) $$ H23
  iintro H23
  iapply (wp_assume 𝒱 (c : Thread nD τ) bd Set.univ (chk17 n hn t _ hv))
  iapply (wp_startU 𝒱 c bd EC (Bufs.mk arg8 arg9 arg10 arg11 arg15 arg16 arg17 arg18 arg24 arg25 arg26) V qs (slot (t.val + 3)) (fin32 (O (k0_off135 n t 0))) (oX := k0_off138 (O (k0_off135 n t 0))) (oD := k0_off137 n t) (oS := k0_off136 n t) (eta3 (fin32_val _ hv).symm) (eta3 (slot_next t.val (by omega))) (eta1 (slot_next t.val (by omega)))) $$ HU
  iintro HU
  iapply (wp_word 𝒱 c bd) $$ H22
  iintro H22
  iapply (wp_assume 𝒱 (c : Thread nD τ) bd Set.univ (chk18 n hn t _ hv _))
  iapply (wp_retBind 𝒱 c bd)
  iapply (wp_startNo 𝒱 c bd EC (Bufs.mk arg8 arg9 arg10 arg11 arg15 arg16 arg17 arg18 arg24 arg25 arg26) V qLs (slot (t.val + 3)) (fin32 (O (k0_off135 n t 0))) m 0 1 (by decide) rfl (C := k0_cond28 (M (k0_off139 (O (k0_off135 n t 0)) 0)) = 1#1) (by subst hm; exact Iff.rfl)
    (oA := (k0_off142 (O (k0_off135 n t 0)))) (oB := (k0_off144 (O (k0_off135 n t 0)))) (pA := k0_off141 n t) (pB := k0_off143 n t) (oS := k0_off140 n t) (oS' := k0_off140 n t)
    (fun _ => row_off (O (k0_off135 n t 0)) hv 0 (by decide)) (fun _ => row_off (O (k0_off135 n t 0)) hv 0 (by decide)) (fun _ => eta4' (slot_next t.val (by omega))) (fun _ => eta4' (slot_next t.val (by omega))) (fun _ => eta1 (slot_next t.val (by omega))) (fun _ => eta1 (slot_next t.val (by omega)))) $$ HS
  iintro HS
  iapply (wp_retBind 𝒱 c bd)
  iapply (wp_startNo 𝒱 c bd EC (Bufs.mk arg8 arg9 arg10 arg11 arg15 arg16 arg17 arg18 arg24 arg25 arg26) V qLs (slot (t.val + 3)) (fin32 (O (k0_off135 n t 0))) m 1 2 (by decide) rfl (C := k0_cond29 (M (k0_off139 (O (k0_off135 n t 0)) 0)) = 1#1) (by subst hm; exact Iff.rfl)
    (oA := (k0_off147 (O (k0_off135 n t 0)))) (oB := (k0_off149 (O (k0_off135 n t 0)))) (pA := k0_off146 n t) (pB := k0_off148 n t) (oS := k0_off145 n t) (oS' := k0_off145 n t)
    (fun _ => row_off (O (k0_off135 n t 0)) hv 1 (by decide)) (fun _ => row_off (O (k0_off135 n t 0)) hv 1 (by decide)) (fun _ => eta4 (slot_next t.val (by omega))) (fun _ => eta4 (slot_next t.val (by omega))) (fun _ => eta1 (slot_next t.val (by omega))) (fun _ => eta1 (slot_next t.val (by omega)))) $$ HS
  iintro HS
  iapply (wp_retBind 𝒱 c bd)
  iapply (wp_startNo 𝒱 c bd EC (Bufs.mk arg8 arg9 arg10 arg11 arg15 arg16 arg17 arg18 arg24 arg25 arg26) V qLs (slot (t.val + 3)) (fin32 (O (k0_off135 n t 0))) m 2 3 (by decide) rfl (C := k0_cond30 (M (k0_off139 (O (k0_off135 n t 0)) 0)) = 1#1) (by subst hm; exact Iff.rfl)
    (oA := (k0_off152 (O (k0_off135 n t 0)))) (oB := (k0_off154 (O (k0_off135 n t 0)))) (pA := k0_off151 n t) (pB := k0_off153 n t) (oS := k0_off150 n t) (oS' := k0_off150 n t)
    (fun _ => row_off (O (k0_off135 n t 0)) hv 2 (by decide)) (fun _ => row_off (O (k0_off135 n t 0)) hv 2 (by decide)) (fun _ => eta4 (slot_next t.val (by omega))) (fun _ => eta4 (slot_next t.val (by omega))) (fun _ => eta1 (slot_next t.val (by omega))) (fun _ => eta1 (slot_next t.val (by omega)))) $$ HS
  iintro HS
  iapply (wp_retBind 𝒱 c bd)
  iapply (wp_done 𝒱 c bd)
  iapply HQ
  isplitl [H22]
  · iexact H22
  isplitl [H23]
  · iexact H23
  isplitl [HU]
  · iexact HU
  · iexact HS

theorem wp_part5 {q2 : PosShare TreeShare} {M O : ℕ → BitVec 32} {n : BitVec 32} {hw16 : k0_chk16 n} (t : Fin (k0_t4_loop n).trips) (ht : t.val < n.toNat) (hn : n.toNat ≤ 33) {v107 : FVec F S32x1 .f32} (hv : (O (k0_off134 n t 0)).toNat < 32) (hO : ∀ j, j < n.toNat → (O j).toNat < 32)
    {W : Waits sig Unit} {X19 : S32x8.Idx → Elt F .i32} {X20 : S32x8.Idx → Elt F .f32} {X13 : S32x5120.Idx → Elt F .fp8e4m3}
    {Q : (Σ' (v178 : Elt F .i32) (k0_hw19 : k0_chk19 v178) (v179 : BitVec 32) (v192 : IVec S32x1 1) (v197 : FVec F S32x1 .f32), FVec F S32x768 .f32) → sProp (MT nD τ sig Unit (Elt F) ℕ U ℕ)} :
    iprop(words c arg22 q2 M ∗ words c arg23 fullShare O ∗ RingSt c EC (Bufs.mk arg8 arg9 arg10 arg11 arg15 arg16 arg17 arg18 arg24 arg25 arg26) V n.toNat (fun j => fin32 (O j)) (fun e => M e.val) t.val (t.val + 3) ∗ owes (c : Thread nD τ) 0 W
        ∗ owns (c : Thread nD τ) arg19 fullShare X19 ∗ owns (c : Thread nD τ) arg20 fullShare X20 ∗ owns (c : Thread nD τ) arg13 fullShare X13)
      ⊢ iprop((words c arg22 q2 M ∗ words c arg23 fullShare O ∗ LandU c (Bufs.mk arg8 arg9 arg10 arg11 arg15 arg16 arg17 arg18 arg24 arg25 arg26) V qs (slot t.val) (fin32 (O (k0_off134 n t 0))) ∗ BusyD c EC (Bufs.mk arg8 arg9 arg10 arg11 arg15 arg16 arg17 arg18 arg24 arg25 arg26) V qs (slot t.val) (fin32 (O (k0_off134 n t 0)))
            ∗ Waiting c EC (Bufs.mk arg8 arg9 arg10 arg11 arg15 arg16 arg17 arg18 arg24 arg25 arg26) V qLs (slot t.val) (fin32 (O (k0_off134 n t 0))) (M (O (k0_off134 n t 0)).toNat) 0
            ∗ (Idle c (Bufs.mk arg8 arg9 arg10 arg11 arg15 arg16 arg17 arg18 arg24 arg25 arg26) V qs qLs (slot t.val) -∗ RingSt c EC (Bufs.mk arg8 arg9 arg10 arg11 arg15 arg16 arg17 arg18 arg24 arg25 arg26) V n.toNat (fun j => fin32 (O j)) (fun e => M e.val) (t.val + 1) (t.val + 4)) ∗ (∃ W', owes (c : Thread nD τ) 0 W')
            ∗ owns (c : Thread nD τ) arg19 fullShare X19 ∗ owns (c : Thread nD τ) arg20 fullShare X20 ∗ owns (c : Thread nD τ) arg13 fullShare X13
            -∗ Q ⟨(O (k0_off134 n t 0)), chk19 _ hv, Scalar.remsi (Scf.iv 0#32 1#32 t) 4#32, k0_pay6 (O (k0_off134 n t 0)) X19, k0_pay7 (O (k0_off134 n t 0)) X19 X20, k0_pay8 v107 X13 (upVal V (fin32 (O (k0_off134 n t 0))))⟩) -∗
        wp frame (wpE defs 𝒱 (c : Thread nD τ) bd) Set.univ (k0_part5 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 arg25 arg26 n hw16 v107 0#32 1#32 t) Q) := by
  rw [k0_part5_eq_skeleton]
  have e0 : k0_off134 n t 0 = t.val := by
    show (iv t.val).toNat = t.val
    rw [iv_eq, BitVec.toNat_ofNat]; omega
  have eO : O t.val = (O (k0_off134 n t 0)) := by rw [e0]
  iintro ⟨H22, H23, HR, Ho, H19, H20, H13⟩ HQ
  sl_unfold [k0_part5_skel]
  iapply (wp_word 𝒱 c bd) $$ H23
  iintro H23
  iapply (wp_assume 𝒱 (c : Thread nD τ) bd Set.univ (chk19 _ hv))
  iapply (wp_retBind 𝒱 c bd)
  by_cases h3 : t.val + 3 < n.toNat
  · have hc : k0_cond27 n t = 1#1 := (more t.val (by omega) n (by omega)).mpr h3
    have e3 : k0_off135 n t 0 = t.val + 3 := next t.val (by omega)
    have eO3 : O (t.val + 3) = (O (k0_off135 n t 0)) := by rw [e3]
    have hv3 : (O (k0_off135 n t 0)).toNat < 32 := eO3 ▸ hO _ h3
    iapply (wp_ifPos 𝒱 c bd (C := k0_cond27 n t = 1#1) hc)
    ihave HR := (ring_take_idle c EC (Bufs.mk arg8 arg9 arg10 arg11 arg15 arg16 arg17 arg18 arg24 arg25 arg26) V n.toNat (fun j => fin32 (O j)) (fun e => M e.val) t.val (t.val + 3) (by omega) (by omega) h3) $$ HR
    icases HR with ⟨HI, HR⟩
    ihave HI := (show (Idle c (Bufs.mk arg8 arg9 arg10 arg11 arg15 arg16 arg17 arg18 arg24 arg25 arg26) V qs qLs (slot (t.val + 3)) : sProp 𝕄) ⊢ iprop(IdleU c (Bufs.mk arg8 arg9 arg10 arg11 arg15 arg16 arg17 arg18 arg24 arg25 arg26) V qs (slot (t.val + 3)) ∗ IdleD c (Bufs.mk arg8 arg9 arg10 arg11 arg15 arg16 arg17 arg18 arg24 arg25 arg26) V qs (slot (t.val + 3)) ∗ IdleL c (Bufs.mk arg8 arg9 arg10 arg11 arg15 arg16 arg17 arg18 arg24 arg25 arg26) V qLs (slot (t.val + 3))) from .rfl) $$ HI
    icases HI with ⟨HU, HD, HL⟩
    imod (start_zero c EC (Bufs.mk arg8 arg9 arg10 arg11 arg15 arg16 arg17 arg18 arg24 arg25 arg26) V qLs (slot (t.val + 3)) (fin32 (O (k0_off135 n t 0))) (M (O (k0_off135 n t 0)).toNat)) $$ HL with HS
    iapply (wp_seq 𝒱 c bd)
    iapply (wp_part4 𝒱 c bd EC V arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 arg25 arg26 t ht hn hv3 rfl) $$ [H22 H23 HU HS]
    · isplitl [H22]
      · iexact H22
      isplitl [H23]
      · iexact H23
      isplitl [HU]
      · iexact HU
      · iexact HS
    iintro ⟨H22, H23, HU, HS⟩
    iapply (wp_startNo 𝒱 c bd EC (Bufs.mk arg8 arg9 arg10 arg11 arg15 arg16 arg17 arg18 arg24 arg25 arg26) V qLs (slot (t.val + 3)) (fin32 (O (k0_off135 n t 0))) (M (O (k0_off135 n t 0)).toNat) 3 4 (by decide) rfl (C := k0_cond31 (M (k0_off139 (O (k0_off135 n t 0)) 0)) = 1#1) Iff.rfl
      (oA := (k0_off157 (O (k0_off135 n t 0)))) (oB := (k0_off159 (O (k0_off135 n t 0)))) (pA := k0_off156 n t) (pB := k0_off158 n t) (oS := k0_off155 n t) (oS' := k0_off155 n t)
      (fun _ => row_off (O (k0_off135 n t 0)) hv3 3 (by decide)) (fun _ => row_off (O (k0_off135 n t 0)) hv3 3 (by decide)) (fun _ => eta4 (slot_next t.val (by omega))) (fun _ => eta4 (slot_next t.val (by omega))) (fun _ => eta1 (slot_next t.val (by omega))) (fun _ => eta1 (slot_next t.val (by omega)))) $$ HS
    iintro HS
    iapply (wp_retBind 𝒱 c bd)
    iapply (wp_startNo 𝒱 c bd EC (Bufs.mk arg8 arg9 arg10 arg11 arg15 arg16 arg17 arg18 arg24 arg25 arg26) V qLs (slot (t.val + 3)) (fin32 (O (k0_off135 n t 0))) (M (O (k0_off135 n t 0)).toNat) 4 5 (by decide) rfl (C := k0_cond32 (M (k0_off139 (O (k0_off135 n t 0)) 0)) = 1#1) Iff.rfl
      (oA := (k0_off162 (O (k0_off135 n t 0)))) (oB := (k0_off164 (O (k0_off135 n t 0)))) (pA := k0_off161 n t) (pB := k0_off163 n t) (oS := k0_off160 n t) (oS' := k0_off160 n t)
      (fun _ => row_off (O (k0_off135 n t 0)) hv3 4 (by decide)) (fun _ => row_off (O (k0_off135 n t 0)) hv3 4 (by decide)) (fun _ => eta4 (slot_next t.val (by omega))) (fun _ => eta4 (slot_next t.val (by omega))) (fun _ => eta1 (slot_next t.val (by omega))) (fun _ => eta1 (slot_next t.val (by omega)))) $$ HS
    iintro HS
    iapply (wp_retBind 𝒱 c bd)
    iapply (wp_startNo 𝒱 c bd EC (Bufs.mk arg8 arg9 arg10 arg11 arg15 arg16 arg17 arg18 arg24 arg25 arg26) V qLs (slot (t.val + 3)) (fin32 (O (k0_off135 n t 0))) (M (O (k0_off135 n t 0)).toNat) 5 6 (by decide) rfl (C := k0_cond33 (M (k0_off139 (O (k0_off135 n t 0)) 0)) = 1#1) Iff.rfl
      (oA := (k0_off167 (O (k0_off135 n t 0)))) (oB := (k0_off169 (O (k0_off135 n t 0)))) (pA := k0_off166 n t) (pB := k0_off168 n t) (oS := k0_off165 n t) (oS' := k0_off165 n t)
      (fun _ => row_off (O (k0_off135 n t 0)) hv3 5 (by decide)) (fun _ => row_off (O (k0_off135 n t 0)) hv3 5 (by decide)) (fun _ => eta4 (slot_next t.val (by omega))) (fun _ => eta4 (slot_next t.val (by omega))) (fun _ => eta1 (slot_next t.val (by omega))) (fun _ => eta1 (slot_next t.val (by omega)))) $$ HS
    iintro HS
    iapply (wp_retBind 𝒱 c bd)
    iapply (wp_startNo 𝒱 c bd EC (Bufs.mk arg8 arg9 arg10 arg11 arg15 arg16 arg17 arg18 arg24 arg25 arg26) V qLs (slot (t.val + 3)) (fin32 (O (k0_off135 n t 0))) (M (O (k0_off135 n t 0)).toNat) 6 7 (by decide) rfl (C := k0_cond34 (M (k0_off139 (O (k0_off135 n t 0)) 0)) = 1#1) Iff.rfl
      (oA := (k0_off172 (O (k0_off135 n t 0)))) (oB := (k0_off174 (O (k0_off135 n t 0)))) (pA := k0_off171 n t) (pB := k0_off173 n t) (oS := k0_off170 n t) (oS' := k0_off170 n t)
      (fun _ => row_off (O (k0_off135 n t 0)) hv3 6 (by decide)) (fun _ => row_off (O (k0_off135 n t 0)) hv3 6 (by decide)) (fun _ => eta4 (slot_next t.val (by omega))) (fun _ => eta4 (slot_next t.val (by omega))) (fun _ => eta1 (slot_next t.val (by omega))) (fun _ => eta1 (slot_next t.val (by omega)))) $$ HS
    iintro HS
    iapply (wp_retBind 𝒱 c bd)
    iapply (wp_startNo 𝒱 c bd EC (Bufs.mk arg8 arg9 arg10 arg11 arg15 arg16 arg17 arg18 arg24 arg25 arg26) V qLs (slot (t.val + 3)) (fin32 (O (k0_off135 n t 0))) (M (O (k0_off135 n t 0)).toNat) 7 8 (by decide) rfl (C := k0_cond35 (M (k0_off139 (O (k0_off135 n t 0)) 0)) = 1#1) Iff.rfl
      (oA := (k0_off177 (O (k0_off135 n t 0)))) (oB := (k0_off179 (O (k0_off135 n t 0)))) (pA := k0_off176 n t) (pB := k0_off178 n t) (oS := k0_off175 n t) (oS' := k0_off175 n t)
      (fun _ => row_off (O (k0_off135 n t 0)) hv3 7 (by decide)) (fun _ => row_off (O (k0_off135 n t 0)) hv3 7 (by decide)) (fun _ => eta4 (slot_next t.val (by omega))) (fun _ => eta4 (slot_next t.val (by omega))) (fun _ => eta1 (slot_next t.val (by omega))) (fun _ => eta1 (slot_next t.val (by omega)))) $$ HS
    iintro HS
    iapply (wp_retBind 𝒱 c bd)
    iapply (wp_startD 𝒱 c bd EC (Bufs.mk arg8 arg9 arg10 arg11 arg15 arg16 arg17 arg18 arg24 arg25 arg26) V qs (slot (t.val + 3)) (fin32 (O (k0_off135 n t 0))) (oX := k0_off182 (O (k0_off135 n t 0))) (oD := k0_off181 n t) (oS := k0_off180 n t) (eta3 (fin32_val _ hv3).symm) (eta3 (slot_next t.val (by omega))) (eta1 (slot_next t.val (by omega)))) $$ HD
    iintro HD
    ihave HS := (start_eight c EC (Bufs.mk arg8 arg9 arg10 arg11 arg15 arg16 arg17 arg18 arg24 arg25 arg26) V qLs (slot (t.val + 3)) (fin32 (O (k0_off135 n t 0))) (M (O (k0_off135 n t 0)).toNat)) $$ HS
    ihave HR := HR $$ [HU HD HS]
    · iapply (show iprop(BusyU c EC (Bufs.mk arg8 arg9 arg10 arg11 arg15 arg16 arg17 arg18 arg24 arg25 arg26) V qs (slot (t.val + 3)) (fin32 (O (k0_off135 n t 0))) ∗ BusyD c EC (Bufs.mk arg8 arg9 arg10 arg11 arg15 arg16 arg17 arg18 arg24 arg25 arg26) V qs (slot (t.val + 3)) (fin32 (O (k0_off135 n t 0))) ∗ Waiting c EC (Bufs.mk arg8 arg9 arg10 arg11 arg15 arg16 arg17 arg18 arg24 arg25 arg26) V qLs (slot (t.val + 3)) (fin32 (O (k0_off135 n t 0))) (M (O (k0_off135 n t 0)).toNat) 0)
        ⊢ (Busy c EC (Bufs.mk arg8 arg9 arg10 arg11 arg15 arg16 arg17 arg18 arg24 arg25 arg26) V qs qLs (slot (t.val + 3)) (fin32 (O (t.val + 3))) (M (fin32 (O (t.val + 3))).val) : sProp 𝕄) from
          Entails.of_eq (by rw [fin32_val (O (t.val + 3)) (hO _ h3), eO3]; rfl))
      isplitl [HU]
      · iexact HU
      isplitl [HD]
      · iexact HD
      · iexact HS
    iapply (wp_retBind 𝒱 c bd)
    iapply (wp_loadAll 𝒱 c bd zero2) $$ H19
    iintro H19
    iapply (wp_loadAll 𝒱 c bd zero2) $$ H20
    iintro H20
    ihave HR := (ring_take_busy c EC (Bufs.mk arg8 arg9 arg10 arg11 arg15 arg16 arg17 arg18 arg24 arg25 arg26) V n.toNat (fun j => fin32 (O j)) (fun e => M e.val) t.val (t.val + 4) (by omega) (by omega) ht) $$ HR
    icases HR with ⟨HB, HR⟩
    ihave HB := (show (Busy c EC (Bufs.mk arg8 arg9 arg10 arg11 arg15 arg16 arg17 arg18 arg24 arg25 arg26) V qs qLs (slot t.val) (fin32 (O t.val)) (M (fin32 (O t.val)).val) : sProp 𝕄)
        ⊢ iprop(BusyU c EC (Bufs.mk arg8 arg9 arg10 arg11 arg15 arg16 arg17 arg18 arg24 arg25 arg26) V qs (slot t.val) (fin32 (O (k0_off134 n t 0))) ∗ BusyD c EC (Bufs.mk arg8 arg9 arg10 arg11 arg15 arg16 arg17 arg18 arg24 arg25 arg26) V qs (slot t.val) (fin32 (O (k0_off134 n t 0))) ∗ Waiting c EC (Bufs.mk arg8 arg9 arg10 arg11 arg15 arg16 arg17 arg18 arg24 arg25 arg26) V qLs (slot t.val) (fin32 (O (k0_off134 n t 0))) (M (O (k0_off134 n t 0)).toNat) 0)
        from Entails.of_eq (by rw [fin32_val (O t.val) (eO ▸ hv), eO]; rfl)) $$ HB
    icases HB with ⟨HU, HD, HS⟩
    ihave HUo : iprop(BusyU c EC (Bufs.mk arg8 arg9 arg10 arg11 arg15 arg16 arg17 arg18 arg24 arg25 arg26) V qs (slot t.val) (fin32 (O (k0_off134 n t 0))) ∗ owes (c : Thread nD τ) 0 W) $$ [HU Ho]
    · isplitl [HU]
      · iexact HU
      · iexact Ho
    iapply (wp_awaitU 𝒱 c bd EC (Bufs.mk arg8 arg9 arg10 arg11 arg15 arg16 arg17 arg18 arg24 arg25 arg26) V qs (slot t.val) (fin32 (O (k0_off134 n t 0))) (oD := k0_off184 n t) (oS := k0_off183 n t) (eta3 (slot_now t.val (by omega))) (eta1 (slot_now t.val (by omega)))) $$ HUo
    iintro ⟨HU, Ho⟩
    iapply (wp_loadAll 𝒱 c bd zero2) $$ H13
    iintro H13
    ihave HU := (show (LandU c (Bufs.mk arg8 arg9 arg10 arg11 arg15 arg16 arg17 arg18 arg24 arg25 arg26) V qs (slot t.val) (fin32 (O (k0_off134 n t 0))) : sProp 𝕄) ⊢ iprop(owns (c : Thread nD τ) (upSl (Bufs.mk arg8 arg9 arg10 arg11 arg15 arg16 arg17 arg18 arg24 arg25 arg26) (slot t.val)) fullShare (upVal V (fin32 (O (k0_off134 n t 0)))) ∗ (owns (c : Thread nD τ) (upSl (Bufs.mk arg8 arg9 arg10 arg11 arg15 arg16 arg17 arg18 arg24 arg25 arg26) (slot t.val)) fullShare (upVal V (fin32 (O (k0_off134 n t 0)))) -∗ LandU c (Bufs.mk arg8 arg9 arg10 arg11 arg15 arg16 arg17 arg18 arg24 arg25 arg26) V qs (slot t.val) (fin32 (O (k0_off134 n t 0)))))
        from by unfold LandU; iintro ⟨H, HX⟩; isplitl [H]; { iexact H }; iintro H; isplitl [H]; { iexact H }; iexact HX) $$ HU
    icases HU with ⟨HU, HUw⟩
    iapply (wp_load_upSlot 𝒱 c bd (Bufs.mk arg8 arg9 arg10 arg11 arg15 arg16 arg17 arg18 arg24 arg25 arg26) (slot t.val) (o := k0_off186 n t) (eta3 (slot_now t.val (by omega)))) $$ HU
    iintro HU
    ihave HU := HUw $$ HU
    iapply (wp_done 𝒱 c bd)
    iapply HQ
    isplitl [H22]
    · iexact H22
    isplitl [H23]
    · iexact H23
    isplitl [HU]
    · iexact HU
    isplitl [HD]
    · iexact HD
    isplitl [HS]
    · iexact HS
    isplitl [HR]
    · iexact HR
    isplitl [Ho]
    · iexact Ho
    isplitl [H19]
    · iexact H19
    isplitl [H20]
    · iexact H20
    · iexact H13
  · have hc : ¬ k0_cond27 n t = 1#1 := fun h => h3 ((more t.val (by omega) n (by omega)).mp h)
    iapply (wp_ifNeg 𝒱 c bd (C := k0_cond27 n t = 1#1) hc)
    ihave HR := (Entails.of_eq (ring_skip c EC (Bufs.mk arg8 arg9 arg10 arg11 arg15 arg16 arg17 arg18 arg24 arg25 arg26) V n.toNat (fun j => fin32 (O j)) (fun e => M e.val) t.val (t.val + 3) (by omega))) $$ HR
    iapply (wp_loadAll 𝒱 c bd zero2) $$ H19
    iintro H19
    iapply (wp_loadAll 𝒱 c bd zero2) $$ H20
    iintro H20
    ihave HR := (ring_take_busy c EC (Bufs.mk arg8 arg9 arg10 arg11 arg15 arg16 arg17 arg18 arg24 arg25 arg26) V n.toNat (fun j => fin32 (O j)) (fun e => M e.val) t.val (t.val + 4) (by omega) (by omega) ht) $$ HR
    icases HR with ⟨HB, HR⟩
    ihave HB := (show (Busy c EC (Bufs.mk arg8 arg9 arg10 arg11 arg15 arg16 arg17 arg18 arg24 arg25 arg26) V qs qLs (slot t.val) (fin32 (O t.val)) (M (fin32 (O t.val)).val) : sProp 𝕄)
        ⊢ iprop(BusyU c EC (Bufs.mk arg8 arg9 arg10 arg11 arg15 arg16 arg17 arg18 arg24 arg25 arg26) V qs (slot t.val) (fin32 (O (k0_off134 n t 0))) ∗ BusyD c EC (Bufs.mk arg8 arg9 arg10 arg11 arg15 arg16 arg17 arg18 arg24 arg25 arg26) V qs (slot t.val) (fin32 (O (k0_off134 n t 0))) ∗ Waiting c EC (Bufs.mk arg8 arg9 arg10 arg11 arg15 arg16 arg17 arg18 arg24 arg25 arg26) V qLs (slot t.val) (fin32 (O (k0_off134 n t 0))) (M (O (k0_off134 n t 0)).toNat) 0)
        from Entails.of_eq (by rw [fin32_val (O t.val) (eO ▸ hv), eO]; rfl)) $$ HB
    icases HB with ⟨HU, HD, HS⟩
    ihave HUo : iprop(BusyU c EC (Bufs.mk arg8 arg9 arg10 arg11 arg15 arg16 arg17 arg18 arg24 arg25 arg26) V qs (slot t.val) (fin32 (O (k0_off134 n t 0))) ∗ owes (c : Thread nD τ) 0 W) $$ [HU Ho]
    · isplitl [HU]
      · iexact HU
      · iexact Ho
    iapply (wp_awaitU 𝒱 c bd EC (Bufs.mk arg8 arg9 arg10 arg11 arg15 arg16 arg17 arg18 arg24 arg25 arg26) V qs (slot t.val) (fin32 (O (k0_off134 n t 0))) (oD := k0_off184 n t) (oS := k0_off183 n t) (eta3 (slot_now t.val (by omega))) (eta1 (slot_now t.val (by omega)))) $$ HUo
    iintro ⟨HU, Ho⟩
    iapply (wp_loadAll 𝒱 c bd zero2) $$ H13
    iintro H13
    ihave HU := (show (LandU c (Bufs.mk arg8 arg9 arg10 arg11 arg15 arg16 arg17 arg18 arg24 arg25 arg26) V qs (slot t.val) (fin32 (O (k0_off134 n t 0))) : sProp 𝕄) ⊢ iprop(owns (c : Thread nD τ) (upSl (Bufs.mk arg8 arg9 arg10 arg11 arg15 arg16 arg17 arg18 arg24 arg25 arg26) (slot t.val)) fullShare (upVal V (fin32 (O (k0_off134 n t 0)))) ∗ (owns (c : Thread nD τ) (upSl (Bufs.mk arg8 arg9 arg10 arg11 arg15 arg16 arg17 arg18 arg24 arg25 arg26) (slot t.val)) fullShare (upVal V (fin32 (O (k0_off134 n t 0)))) -∗ LandU c (Bufs.mk arg8 arg9 arg10 arg11 arg15 arg16 arg17 arg18 arg24 arg25 arg26) V qs (slot t.val) (fin32 (O (k0_off134 n t 0)))))
        from by unfold LandU; iintro ⟨H, HX⟩; isplitl [H]; { iexact H }; iintro H; isplitl [H]; { iexact H }; iexact HX) $$ HU
    icases HU with ⟨HU, HUw⟩
    iapply (wp_load_upSlot 𝒱 c bd (Bufs.mk arg8 arg9 arg10 arg11 arg15 arg16 arg17 arg18 arg24 arg25 arg26) (slot t.val) (o := k0_off186 n t) (eta3 (slot_now t.val (by omega)))) $$ HU
    iintro HU
    ihave HU := HUw $$ HU
    iapply (wp_done 𝒱 c bd)
    iapply HQ
    isplitl [H22]
    · iexact H22
    isplitl [H23]
    · iexact H23
    isplitl [HU]
    · iexact HU
    isplitl [HD]
    · iexact HD
    isplitl [HS]
    · iexact HS
    isplitl [HR]
    · iexact HR
    isplitl [Ho]
    · iexact Ho
    isplitl [H19]
    · iexact H19
    isplitl [H20]
    · iexact H20
    · iexact H13

theorem wp_part6 {q2 q6 : PosShare TreeShare} {M : ℕ → BitVec 32} {n : BitVec 32} (t : Fin (k0_t4_loop n).trips) (hn : n.toNat ≤ 33) (htn : t.val < 34) {v : BitVec 32} {hw19 : k0_chk19 v} (hv : v.toNat < 32)
    {v211 : FVec F S32x768 .f32} {W0 : Waits sig Unit} {X6 : S32x768.Idx → Elt F .f32}
    {Q : (Σ' (v215 : FVec F S32x768 .f32) (v217 : Elt F .i32) (k0_hw20 : k0_chk20 n t v v217), BitVec 32) → sProp (MT nD τ sig Unit (Elt F) ℕ U ℕ)} :
    iprop(words c arg22 q2 M ∗ owns (c : Thread nD τ) arg6 q6 X6 ∗ Waiting c EC (Bufs.mk arg8 arg9 arg10 arg11 arg15 arg16 arg17 arg18 arg24 arg25 arg26) V qLs (slot t.val) (fin32 v) (M v.toNat) 0 ∗ owes (c : Thread nD τ) 0 W0)
      ⊢ iprop((words c arg22 q2 M ∗ owns (c : Thread nD τ) arg6 q6 X6 ∗ Waiting c EC (Bufs.mk arg8 arg9 arg10 arg11 arg15 arg16 arg17 arg18 arg24 arg25 arg26) V qLs (slot t.val) (fin32 v) (M v.toNat) 5 ∗ (∃ W', owes (c : Thread nD τ) 0 W')
            -∗ Q ⟨k0_pay9 v211 (fun i : (Rect.unit (s := S32x768) (k0_off187 v) S1x768.size (k0_off187_inb v (chk19 v hv))).shape.Idx => X6 ((Rect.unit (s := S32x768) (k0_off187 v) S1x768.size (k0_off187_inb v (chk19 v hv))).emb i)), M (k0_off188 v 0), chk20 n hn t v hv _, Scalar.shrsi (M (k0_off188 v 0)) 6#32⟩) -∗
        wp frame (wpE defs 𝒱 (c : Thread nD τ) bd) Set.univ (k0_part6 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 arg25 arg26 n t v hw19 v211) Q) := by
  rw [k0_part6_eq_skeleton]
  iintro ⟨H22, H6, HS, Ho⟩ HQ
  sl_unfold [k0_part6_skel]
  iapply (wp_load_owns 𝒱 (c : Thread nD τ) bd) $$ H6
  iintro H6
  iapply (wp_word 𝒱 c bd) $$ H22
  iintro H22
  iapply (wp_assume 𝒱 (c : Thread nD τ) bd Set.univ (chk20 n hn t v hv _))
  iapply (wp_retBind 𝒱 c bd)
  ihave HW : iprop(Waiting c EC (Bufs.mk arg8 arg9 arg10 arg11 arg15 arg16 arg17 arg18 arg24 arg25 arg26) V qLs (slot t.val) (fin32 v) (M v.toNat) 0 ∗ owes (c : Thread nD τ) 0 W0) $$ [HS Ho]
  · isplitl [HS]
    · iexact HS
    · iexact Ho
  iapply (wp_waitNo 𝒱 c bd EC (Bufs.mk arg8 arg9 arg10 arg11 arg15 arg16 arg17 arg18 arg24 arg25 arg26) V qLs (slot t.val) (fin32 v) (M v.toNat) 0 1 (by decide) rfl (C := k0_cond36 (M (k0_off188 v 0)) = 1#1) Iff.rfl
    (pA := k0_off190 n t) (pB := k0_off192 n t) (oS := k0_off189 n t) (oS' := k0_off189 n t)
    (fun _ => eta4' (slot_now t.val (by omega))) (fun _ => eta4' (slot_now t.val (by omega))) (fun _ => eta1 (slot_now t.val (by omega))) (fun _ => eta1 (slot_now t.val (by omega)))) $$ HW
  iintro ⟨HS, %W1, Ho⟩
  iapply (wp_retBind 𝒱 c bd)
  ihave HW : iprop(Waiting c EC (Bufs.mk arg8 arg9 arg10 arg11 arg15 arg16 arg17 arg18 arg24 arg25 arg26) V qLs (slot t.val) (fin32 v) (M v.toNat) 1 ∗ owes (c : Thread nD τ) 0 W1) $$ [HS Ho]
  · isplitl [HS]
    · iexact HS
    · iexact Ho
  iapply (wp_waitNo 𝒱 c bd EC (Bufs.mk arg8 arg9 arg10 arg11 arg15 arg16 arg17 arg18 arg24 arg25 arg26) V qLs (slot t.val) (fin32 v) (M v.toNat) 1 2 (by decide) rfl (C := k0_cond37 (M (k0_off188 v 0)) = 1#1) Iff.rfl
    (pA := k0_off195 n t) (pB := k0_off197 n t) (oS := k0_off194 n t) (oS' := k0_off194 n t)
    (fun _ => eta4 (slot_now t.val (by omega))) (fun _ => eta4 (slot_now t.val (by omega))) (fun _ => eta1 (slot_now t.val (by omega))) (fun _ => eta1 (slot_now t.val (by omega)))) $$ HW
  iintro ⟨HS, %W2, Ho⟩
  iapply (wp_retBind 𝒱 c bd)
  ihave HW : iprop(Waiting c EC (Bufs.mk arg8 arg9 arg10 arg11 arg15 arg16 arg17 arg18 arg24 arg25 arg26) V qLs (slot t.val) (fin32 v) (M v.toNat) 2 ∗ owes (c : Thread nD τ) 0 W2) $$ [HS Ho]
  · isplitl [HS]
    · iexact HS
    · iexact Ho
  iapply (wp_waitNo 𝒱 c bd EC (Bufs.mk arg8 arg9 arg10 arg11 arg15 arg16 arg17 arg18 arg24 arg25 arg26) V qLs (slot t.val) (fin32 v) (M v.toNat) 2 3 (by decide) rfl (C := k0_cond38 (M (k0_off188 v 0)) = 1#1) Iff.rfl
    (pA := k0_off200 n t) (pB := k0_off202 n t) (oS := k0_off199 n t) (oS' := k0_off199 n t)
    (fun _ => eta4 (slot_now t.val (by omega))) (fun _ => eta4 (slot_now t.val (by omega))) (fun _ => eta1 (slot_now t.val (by omega))) (fun _ => eta1 (slot_now t.val (by omega)))) $$ HW
  iintro ⟨HS, %W3, Ho⟩
  iapply (wp_retBind 𝒱 c bd)
  ihave HW : iprop(Waiting c EC (Bufs.mk arg8 arg9 arg10 arg11 arg15 arg16 arg17 arg18 arg24 arg25 arg26) V qLs (slot t.val) (fin32 v) (M v.toNat) 3 ∗ owes (c : Thread nD τ) 0 W3) $$ [HS Ho]
  · isplitl [HS]
    · iexact HS
    · iexact Ho
  iapply (wp_waitNo 𝒱 c bd EC (Bufs.mk arg8 arg9 arg10 arg11 arg15 arg16 arg17 arg18 arg24 arg25 arg26) V qLs (slot t.val) (fin32 v) (M v.toNat) 3 4 (by decide) rfl (C := k0_cond39 (M (k0_off188 v 0)) = 1#1) Iff.rfl
    (pA := k0_off205 n t) (pB := k0_off207 n t) (oS := k0_off204 n t) (oS' := k0_off204 n t)
    (fun _ => eta4 (slot_now t.val (by omega))) (fun _ => eta4 (slot_now t.val (by omega))) (fun _ => eta1 (slot_now t.val (by omega))) (fun _ => eta1 (slot_now t.val (by omega)))) $$ HW
  iintro ⟨HS, %W4, Ho⟩
  iapply (wp_retBind 𝒱 c bd)
  ihave HW : iprop(Waiting c EC (Bufs.mk arg8 arg9 arg10 arg11 arg15 arg16 arg17 arg18 arg24 arg25 arg26) V qLs (slot t.val) (fin32 v) (M v.toNat) 4 ∗ owes (c : Thread nD τ) 0 W4) $$ [HS Ho]
  · isplitl [HS]
    · iexact HS
    · iexact Ho
  iapply (wp_waitNo 𝒱 c bd EC (Bufs.mk arg8 arg9 arg10 arg11 arg15 arg16 arg17 arg18 arg24 arg25 arg26) V qLs (slot t.val) (fin32 v) (M v.toNat) 4 5 (by decide) rfl (C := k0_cond40 (M (k0_off188 v 0)) = 1#1) Iff.rfl
    (pA := k0_off210 n t) (pB := k0_off212 n t) (oS := k0_off209 n t) (oS' := k0_off209 n t)
    (fun _ => eta4 (slot_now t.val (by omega))) (fun _ => eta4 (slot_now t.val (by omega))) (fun _ => eta1 (slot_now t.val (by omega))) (fun _ => eta1 (slot_now t.val (by omega)))) $$ HW
  iintro ⟨HS, %W5, Ho⟩
  iapply (wp_retBind 𝒱 c bd)
  iapply (wp_done 𝒱 c bd)
  iapply HQ
  isplitl [H22]
  · iexact H22
  isplitl [H6]
  · iexact H6
  isplitl [HS]
  · iexact HS
  · iexists W5; iexact Ho

theorem wp_part7 {q5 : PosShare TreeShare} {n : BitVec 32} (t : Fin (k0_t4_loop n).trips) (hn : n.toNat ≤ 33) (htn : t.val < 34) {v : BitVec 32} {v21 : BitVec 32} {m : BitVec 32} {hw16 : k0_chk16 n} {v166 : IVec S32x128 1} {v179 : BitVec 32} {v192 : IVec S32x1 1}
    {v215 : FVec F S32x768 .f32} {hw20 : k0_chk20 n t v m} {v243 : BitVec 32} (hv : v.toNat < 32) {W5 : Waits sig Unit} {X5 : S32x5120.Idx → Elt F .bf16}
    {Q : FVec F S32x768 .f32 → sProp (MT nD τ sig Unit (Elt F) ℕ U ℕ)} :
    iprop(owns (c : Thread nD τ) arg5 q5 X5 ∗ Waiting c EC (Bufs.mk arg8 arg9 arg10 arg11 arg15 arg16 arg17 arg18 arg24 arg25 arg26) V qLs (slot t.val) (fin32 v) m 5 ∗ owes (c : Thread nD τ) 0 W5)
      ⊢ iprop((∀ A B, iprop(⌜FactA V (fin32 v) m A ∧ FactB V (fin32 v) m B⌝ ∗ owns (c : Thread nD τ) arg5 q5 X5 ∗ IdleL c (Bufs.mk arg8 arg9 arg10 arg11 arg15 arg16 arg17 arg18 arg24 arg25 arg26) V qLs (slot t.val) ∗ (∃ W', owes (c : Thread nD τ) 0 W'))
            -∗ Q (k0_pay10 v166 v192 v215 A B X5)) -∗
        wp frame (wpE defs 𝒱 (c : Thread nD τ) bd) Set.univ (k0_part7 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 arg25 arg26 n hw16 v166 t v v179 v192 v215 m hw20 v243) Q) := by
  rw [k0_part7_eq_skeleton]
  iintro ⟨H5, HS, Ho⟩ HQ
  sl_unfold [k0_part7_skel]
  ihave HW : iprop(Waiting c EC (Bufs.mk arg8 arg9 arg10 arg11 arg15 arg16 arg17 arg18 arg24 arg25 arg26) V qLs (slot t.val) (fin32 v) m 5 ∗ owes (c : Thread nD τ) 0 W5) $$ [HS Ho]
  · isplitl [HS]
    · iexact HS
    · iexact Ho
  iapply (wp_waitNo 𝒱 c bd EC (Bufs.mk arg8 arg9 arg10 arg11 arg15 arg16 arg17 arg18 arg24 arg25 arg26) V qLs (slot t.val) (fin32 v) m 5 6 (by decide) rfl (C := k0_cond41 m = 1#1) Iff.rfl
    (pA := k0_off215 n t) (pB := k0_off217 n t) (oS := k0_off214 n t) (oS' := k0_off214 n t)
    (fun _ => eta4 (slot_now t.val (by omega))) (fun _ => eta4 (slot_now t.val (by omega))) (fun _ => eta1 (slot_now t.val (by omega))) (fun _ => eta1 (slot_now t.val (by omega)))) $$ HW
  iintro ⟨HS, %W6, Ho⟩
  iapply (wp_retBind 𝒱 c bd)
  ihave HW : iprop(Waiting c EC (Bufs.mk arg8 arg9 arg10 arg11 arg15 arg16 arg17 arg18 arg24 arg25 arg26) V qLs (slot t.val) (fin32 v) m 6 ∗ owes (c : Thread nD τ) 0 W6) $$ [HS Ho]
  · isplitl [HS]
    · iexact HS
    · iexact Ho
  iapply (wp_waitNo 𝒱 c bd EC (Bufs.mk arg8 arg9 arg10 arg11 arg15 arg16 arg17 arg18 arg24 arg25 arg26) V qLs (slot t.val) (fin32 v) m 6 7 (by decide) rfl (C := k0_cond42 m = 1#1) Iff.rfl
    (pA := k0_off220 n t) (pB := k0_off222 n t) (oS := k0_off219 n t) (oS' := k0_off219 n t)
    (fun _ => eta4 (slot_now t.val (by omega))) (fun _ => eta4 (slot_now t.val (by omega))) (fun _ => eta1 (slot_now t.val (by omega))) (fun _ => eta1 (slot_now t.val (by omega)))) $$ HW
  iintro ⟨HS, %W7, Ho⟩
  iapply (wp_retBind 𝒱 c bd)
  ihave HW : iprop(Waiting c EC (Bufs.mk arg8 arg9 arg10 arg11 arg15 arg16 arg17 arg18 arg24 arg25 arg26) V qLs (slot t.val) (fin32 v) m 7 ∗ owes (c : Thread nD τ) 0 W7) $$ [HS Ho]
  · isplitl [HS]
    · iexact HS
    · iexact Ho
  iapply (wp_waitNo 𝒱 c bd EC (Bufs.mk arg8 arg9 arg10 arg11 arg15 arg16 arg17 arg18 arg24 arg25 arg26) V qLs (slot t.val) (fin32 v) m 7 8 (by decide) rfl (C := k0_cond43 m = 1#1) Iff.rfl
    (pA := k0_off225 n t) (pB := k0_off227 n t) (oS := k0_off224 n t) (oS' := k0_off224 n t)
    (fun _ => eta4 (slot_now t.val (by omega))) (fun _ => eta4 (slot_now t.val (by omega))) (fun _ => eta1 (slot_now t.val (by omega))) (fun _ => eta1 (slot_now t.val (by omega)))) $$ HW
  iintro ⟨HS, %W8, Ho⟩
  iapply (wp_retBind 𝒱 c bd)
  imod (landL_of c EC (Bufs.mk arg8 arg9 arg10 arg11 arg15 arg16 arg17 arg18 arg24 arg25 arg26) V qLs (slot t.val) (fin32 v) m) $$ HS with HS
  iapply (wp_load_lora 𝒱 c bd (Bufs.mk arg8 arg9 arg10 arg11 arg15 arg16 arg17 arg18 arg24 arg25 arg26) V qLs (slot t.val) (fin32 v) m (oA := k0_off229 n t) (oB := k0_off230 n t) (eta4' (slot_now t.val (by omega))) (eta4' (slot_now t.val (by omega)))) $$ HS
  iintro %A %B ⟨%hAB, HL⟩
  iapply (wp_loadAll 𝒱 c bd zero2) $$ H5
  iintro H5
  iapply (wp_done 𝒱 c bd)
  ispecialize HQ $$ %A %B
  iapply HQ
  isplitr
  · ipureintro; exact hAB
  isplitl [H5]
  · iexact H5
  isplitl [HL]
  · iexact HL
  · iexists W8; iexact Ho

end Cert.Proof.K
-- ==== Proof.K.Loop.lean ====
module

public import proofs.«01_k».proof.Proof.K.Trip

@[expose] public section

/-!
# The loop over experts
-/

set_option maxRecDepth 16384

noncomputable section

namespace Cert.Proof.K

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Proof.Copies Cert.Proof.Words Cert.Proof.Tables Cert.Proof.Slots Cert.Proof.RingState Cert.Proof.Nums
open Cert.Kernel Cert.Kernel.Gen

variable {F : FTy → Type} [FloatOps F] {U : Type} [URA U]

local notation "𝕄" => MT nD τ sig Unit (Elt F) ℕ U ℕ

variable {defs : Defs nD τ sig (Elt F) Λ₀} (𝒱 : Variants) (c : Dev nD) (bd : Option 𝒱.V)
variable (EC : UEmb Counters (MT nD τ sig Unit (Elt F) ℕ U ℕ)) [EC.LandsIn (upEmb : UEmb _ (MT nD τ sig Unit (Elt F) ℕ U ℕ))]
variable (V : Vals (Elt F))
variable (arg0 : Memref sig .tc .smem S8x32 .i32) (harg0 : arg0.IsWhole) (arg1 : Memref sig .tc .smem S1x32 .i32) (harg1 : arg1.IsWhole) (arg2 : Memref sig .tc .vmem S8x32 .i32) (harg2 : arg2.IsWhole) (arg3 : Memref sig .tc .vmem S8x32 .f32) (harg3 : arg3.IsWhole) (arg4 : Memref sig .tc .vmem S32x1 .i32) (harg4 : arg4.IsWhole) (arg5 : Memref sig .tc .vmem S32x5120 .bf16) (harg5 : arg5.IsWhole) (arg6 : Memref sig .tc .vmem S32x768 .f32) (harg6 : arg6.IsWhole) (arg7 : Memref sig .tc .vmem S32x5120 .f32) (harg7 : arg7.IsWhole) (arg8 : Memref sig .tc .hbm S32x5120x768 .fp8e4m3) (harg8 : arg8.IsWhole) (arg9 : Memref sig .tc .hbm S32x768x5120 .fp8e4m3) (harg9 : arg9.IsWhole) (arg10 : Memref sig .tc .hbm S256x16x5120 .bf16) (harg10 : arg10.IsWhole) (arg11 : Memref sig .tc .hbm S256x16x768 .bf16) (harg11 : arg11.IsWhole) (arg12 : Memref sig .tc .vmem S32x5120 .bf16) (harg12 : arg12.IsWhole) (arg13 : Memref sig .tc .vmem S32x5120 .fp8e4m3) (harg13 : arg13.IsWhole) (arg14 : Memref sig .tc .vmem S32x1 .f32) (harg14 : arg14.IsWhole) (arg15 : Memref sig .tc .vmem S4x5120x768 .fp8e4m3) (harg15 : arg15.IsWhole) (arg16 : Memref sig .tc .vmem S4x768x5120 .fp8e4m3) (harg16 : arg16.IsWhole) (arg17 : Memref sig .tc .vmem S4x8x16x5120 .bf16) (harg17 : arg17.IsWhole) (arg18 : Memref sig .tc .vmem S4x8x16x768 .bf16) (harg18 : arg18.IsWhole) (arg19 : Memref sig .tc .vmem S32x8 .i32) (harg19 : arg19.IsWhole) (arg20 : Memref sig .tc .vmem S32x8 .f32) (harg20 : arg20.IsWhole) (arg21 : Memref sig .tc .vmem S32x5120 .f32) (harg21 : arg21.IsWhole) (arg22 : Memref sig .tc .smem S32 .i32) (harg22 : arg22.IsWhole) (arg23 : Memref sig .tc .smem S33 .i32) (harg23 : arg23.IsWhole) (arg24 : DmaSems sig S4) (arg25 : DmaSems sig S4) (arg26 : DmaSems sig S4)

/-- The row of the up weights' scales the kernel loads for an expert. -/
def row6 (X6 : S32x768.Idx → Elt F .f32) (v : BitVec 32) (hv : v.toNat < 32) : Vec F S1x768 .f32 :=
  fun i : (Rect.unit (s := S32x768) (k0_off187 v) S1x768.size (k0_off187_inb v (chk19 v hv))).shape.Idx => X6 ((Rect.unit (s := S32x768) (k0_off187 v) S1x768.size (k0_off187_inb v (chk19 v hv))).emb i)
/-- The row of the down weights' scales the kernel loads for an expert. -/
def row7 (X7 : S32x5120.Idx → Elt F .f32) (v : BitVec 32) (hv : v.toNat < 32) : Vec F S1x5120 .f32 :=
  fun i : (Rect.unit (s := S32x5120) (k0_off235 v) S1x5120.size (k0_off235_inb v (chk19 v hv))).shape.Idx => X7 ((Rect.unit (s := S32x5120) (k0_off235 v) S1x5120.size (k0_off235_inb v (chk19 v hv))).emb i)

/-- The gated product of one expert: its up product and the low-rank correction. -/
def hidden (v107 : FVec F S32x1 .f32) (v166 : IVec S32x128 1) (X19 : S32x8.Idx → Elt F .i32) (X13 : S32x5120.Idx → Elt F .fp8e4m3)
    (X5 : S32x5120.Idx → Elt F .bf16) (v : BitVec 32) (UP : S1x5120x768.Idx → Elt F .fp8e4m3) (R6 : Vec F S1x768 .f32)
    (A : S1x8x16x5120.Idx → Elt F .bf16) (B : S1x8x16x768.Idx → Elt F .bf16) : FVec F S32x768 .f32 :=
  k0_pay10 v166 (k0_pay6 v X19) (k0_pay9 (k0_pay8 v107 X13 UP) R6) A B X5

/-- What one trip of the loop over experts makes of the accumulator. -/
def stepAcc (v107 : FVec F S32x1 .f32) (v166 : IVec S32x128 1) (X19 : S32x8.Idx → Elt F .i32) (X20 : S32x8.Idx → Elt F .f32) (X13 : S32x5120.Idx → Elt F .fp8e4m3)
    (X5 : S32x5120.Idx → Elt F .bf16) (v : BitVec 32) (UP : S1x5120x768.Idx → Elt F .fp8e4m3) (DN : S1x768x5120.Idx → Elt F .fp8e4m3) (R6 : Vec F S1x768 .f32) (R7 : Vec F S1x5120 .f32)
    (A : S1x8x16x5120.Idx → Elt F .bf16) (B : S1x8x16x768.Idx → Elt F .bf16) (acc : S32x5120.Idx → Elt F .f32) : S32x5120.Idx → Elt F .f32 :=
  k0_pay2 (k0_pay6 v X19) (k0_pay7 v X19 X20) (k0_pay13 (hidden v107 v166 X19 X13 X5 v UP R6 A B)) (k0_pay14 (hidden v107 v166 X19 X13 X5 v UP R6 A B))
    (Scalar.ofBits .f32 0xC3E00000#32) DN R7 acc

/-- The arrays a trip reads. -/
def Held (q2 q5 q6 q7 : PosShare TreeShare) (M O : ℕ → BitVec 32) (X5 : S32x5120.Idx → Elt F .bf16) (X6 : S32x768.Idx → Elt F .f32) (X7 : S32x5120.Idx → Elt F .f32)
    (X13 : S32x5120.Idx → Elt F .fp8e4m3) (X19 : S32x8.Idx → Elt F .i32) (X20 : S32x8.Idx → Elt F .f32) : sProp (MT nD τ sig Unit (Elt F) ℕ U ℕ) :=
  iprop(words c arg22 q2 M ∗ words c arg23 fullShare O ∗ owns (c : Thread nD τ) arg5 q5 X5 ∗ owns (c : Thread nD τ) arg6 q6 X6 ∗ owns (c : Thread nD τ) arg7 q7 X7
    ∗ owns (c : Thread nD τ) arg13 fullShare X13 ∗ owns (c : Thread nD τ) arg19 fullShare X19 ∗ owns (c : Thread nD τ) arg20 fullShare X20)

theorem wp_part8 {v277 : FVec F S32x768 .f32} {Q : (Σ' (v314 : FVec F S32x1 .f32) (v321 : FVec F S32x768 .f32), F .f32) → sProp (MT nD τ sig Unit (Elt F) ℕ U ℕ)} :
    Q ⟨k0_pay13 v277, k0_pay14 v277, Scalar.ofBits .f32 0xC3E00000#32⟩ ⊢ wp frame (wpE defs 𝒱 (c : Thread nD τ) bd) Set.univ (k0_part8 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 arg25 arg26 v277) Q := by
  rw [k0_part8_eq_skeleton]
  iintro HQ
  sl_unfold [k0_part8_skel]
  iapply (wp_done 𝒱 c bd)
  iexact HQ

variable {q2 q5 q6 q7 : PosShare TreeShare} {M O : ℕ → BitVec 32} {X5 : S32x5120.Idx → Elt F .bf16} {X6 : S32x768.Idx → Elt F .f32} {X7 : S32x5120.Idx → Elt F .f32}
    {X13 : S32x5120.Idx → Elt F .fp8e4m3} {X19 : S32x8.Idx → Elt F .i32} {X20 : S32x8.Idx → Elt F .f32}

theorem wp_trip {n : BitVec 32} {hw16 : k0_chk16 n} (hn : n.toNat ≤ 33) (hO : ∀ j, j < n.toNat → (O j).toNat < 32)
    {v107 : FVec F S32x1 .f32} {v162 : IVec S32x128 32} {v163 : Vec F S32x1 .i32} (Pacc : ℕ → (S32x5120.Idx → Elt F .f32) → Prop)
    (hstep : ∀ j acc A B, j < n.toNat → ∀ hv : (O j).toNat < 32, Pacc j acc → FactA V (fin32 (O j)) (M (O j).toNat) A → FactB V (fin32 (O j)) (M (O j).toNat) B →
      Pacc (j + 1) (stepAcc v107 (k0_pay1 v162 v163) X19 X20 X13 X5 (O j) (upVal V (fin32 (O j))) (dnVal V (fin32 (O j))) (row6 X6 (O j) hv) (row7 X7 (O j) hv) A B acc))
    (t : Fin (k0_t4_loop n).trips) (a : BitVec 32) (ht : t.val < n.toNat) :
    (iprop(Held c arg5 arg6 arg7 arg13 arg19 arg20 arg22 arg23 q2 q5 q6 q7 M O X5 X6 X7 X13 X19 X20 ∗ RingSt c EC (Bufs.mk arg8 arg9 arg10 arg11 arg15 arg16 arg17 arg18 arg24 arg25 arg26) V n.toNat (fun j => fin32 (O j)) (fun e => M e.val) t.val (t.val + 3)
        ∗ (∃ W, owes (c : Thread nD τ) 0 W) ∗ (∃ acc, ⌜Pacc t.val acc⌝ ∗ owns (c : Thread nD τ) arg21 fullShare acc)) : sProp 𝕄)
      ⊢ wp frame (wpE defs 𝒱 (c : Thread nD τ) bd) Set.univ (k0_t4_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 arg25 arg26 n hw16 v107 v162 v163 t a)
        (fun _ => iprop(Held c arg5 arg6 arg7 arg13 arg19 arg20 arg22 arg23 q2 q5 q6 q7 M O X5 X6 X7 X13 X19 X20 ∗ RingSt c EC (Bufs.mk arg8 arg9 arg10 arg11 arg15 arg16 arg17 arg18 arg24 arg25 arg26) V n.toNat (fun j => fin32 (O j)) (fun e => M e.val) (t.val + 1) (t.val + 4)
        ∗ (∃ W, owes (c : Thread nD τ) 0 W) ∗ (∃ acc, ⌜Pacc (t.val + 1) acc⌝ ∗ owns (c : Thread nD τ) arg21 fullShare acc))) := by
  have e0 : k0_off134 n t 0 = t.val := by
    show (iv t.val).toNat = t.val
    rw [iv_eq, BitVec.toNat_ofNat]; omega
  have hv : (O (k0_off134 n t 0)).toNat < 32 := by rw [e0]; exact hO _ ht
  have hstep' : ∀ acc A B, Pacc t.val acc → FactA V (fin32 (O (k0_off134 n t 0))) (M (O (k0_off134 n t 0)).toNat) A → FactB V (fin32 (O (k0_off134 n t 0))) (M (O (k0_off134 n t 0)).toNat) B →
      Pacc (t.val + 1) (stepAcc v107 (k0_pay1 v162 v163) X19 X20 X13 X5 (O (k0_off134 n t 0)) (upVal V (fin32 (O (k0_off134 n t 0)))) (dnVal V (fin32 (O (k0_off134 n t 0)))) (row6 X6 (O (k0_off134 n t 0)) hv) (row7 X7 (O (k0_off134 n t 0)) hv) A B acc) := by
    revert hv
    rw [e0]
    intro hv acc A B h1 h2 h3
    exact hstep t.val acc A B ht hv h1 h2 h3
  unfold Held
  iintro ⟨⟨H22, H23, H5, H6, H7, H13, H19, H20⟩, HR, ⟨%W, Ho⟩, ⟨%acc, %hacc, H21⟩⟩
  sl_unfold [k0_t4_body]
  iapply (wp_seq 𝒱 c bd)
  iapply (wp_part5 𝒱 c bd EC V arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 arg25 arg26 t ht hn hv hO) $$ [H22 H23 HR Ho H19 H20 H13]
  · isplitl [H22]
    · iexact H22
    isplitl [H23]
    · iexact H23
    isplitl [HR]
    · iexact HR
    isplitl [Ho]
    · iexact Ho
    isplitl [H19]
    · iexact H19
    isplitl [H20]
    · iexact H20
    · iexact H13
  iintro ⟨H22, H23, HU, HD, HS, HR, ⟨%W1, Ho⟩, H19, H20, H13⟩
  iapply (wp_seq 𝒱 c bd)
  iapply (wp_part6 𝒱 c bd EC V arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 arg25 arg26 t hn (by omega) hv) $$ [H22 H6 HS Ho]
  · isplitl [H22]
    · iexact H22
    isplitl [H6]
    · iexact H6
    isplitl [HS]
    · iexact HS
    · iexact Ho
  iintro ⟨H22, H6, HS, ⟨%W2, Ho⟩⟩
  iapply (wp_seq 𝒱 c bd)
  iapply (wp_part7 𝒱 c bd EC V arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 arg25 arg26 t hn (by omega) (v := (O (k0_off134 n t 0))) (v21 := n) (m := M (k0_off188 (O (k0_off134 n t 0)) 0)) hv) $$ [H5 HS Ho]
  · isplitl [H5]
    · iexact H5
    isplitl [HS]
    · iexact HS
    · iexact Ho
  iintro %A %B ⟨%hAB, H5, HL, ⟨%W3, Ho⟩⟩
  iapply (wp_seq 𝒱 c bd)
  iapply (wp_part8 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 arg25 arg26)
  ihave HDo : iprop(BusyD c EC (Bufs.mk arg8 arg9 arg10 arg11 arg15 arg16 arg17 arg18 arg24 arg25 arg26) V qs (slot t.val) (fin32 (O (k0_off134 n t 0))) ∗ owes (c : Thread nD τ) 0 W3) $$ [HD Ho]
  · isplitl [HD]
    · iexact HD
    · iexact Ho
  iapply (wp_awaitD 𝒱 c bd EC (Bufs.mk arg8 arg9 arg10 arg11 arg15 arg16 arg17 arg18 arg24 arg25 arg26) V qs (slot t.val) (fin32 (O (k0_off134 n t 0))) (oD := k0_off232 n t) (oS := k0_off231 n t) (eta3 (slot_now t.val (by omega))) (eta1 (slot_now t.val (by omega)))) $$ HDo
  iintro ⟨HD, %W4, Ho⟩
  ihave HD := (show (LandD c (Bufs.mk arg8 arg9 arg10 arg11 arg15 arg16 arg17 arg18 arg24 arg25 arg26) V qs (slot t.val) (fin32 (O (k0_off134 n t 0))) : sProp 𝕄) ⊢ iprop(owns (c : Thread nD τ) (dnSl (Bufs.mk arg8 arg9 arg10 arg11 arg15 arg16 arg17 arg18 arg24 arg25 arg26) (slot t.val)) fullShare (dnVal V (fin32 (O (k0_off134 n t 0)))) ∗ (owns (c : Thread nD τ) (dnSl (Bufs.mk arg8 arg9 arg10 arg11 arg15 arg16 arg17 arg18 arg24 arg25 arg26) (slot t.val)) fullShare (dnVal V (fin32 (O (k0_off134 n t 0)))) -∗ LandD c (Bufs.mk arg8 arg9 arg10 arg11 arg15 arg16 arg17 arg18 arg24 arg25 arg26) V qs (slot t.val) (fin32 (O (k0_off134 n t 0)))))
      from by unfold LandD; iintro ⟨H, HX⟩; isplitl [H]; { iexact H }; iintro H; isplitl [H]; { iexact H }; iexact HX) $$ HD
  icases HD with ⟨HD, HDw⟩
  iapply (wp_load_dnSlot 𝒱 c bd (Bufs.mk arg8 arg9 arg10 arg11 arg15 arg16 arg17 arg18 arg24 arg25 arg26) (slot t.val) (o := k0_off234 n t) (eta3 (slot_now t.val (by omega)))) $$ HD
  iintro HD
  ihave HD := HDw $$ HD
  iapply (wp_load_owns 𝒱 (c : Thread nD τ) bd) $$ H7
  iintro H7
  iapply (wp_loadAll 𝒱 c bd zero2) $$ H21
  iintro H21
  iapply (wp_loadAll 𝒱 c bd zero2) $$ H21
  iintro H21
  iapply (wp_storeAll 𝒱 c bd zero2) $$ H21
  iintro H21
  iapply (wp_done 𝒱 c bd)
  ihave HU := (landU_idle c (Bufs.mk arg8 arg9 arg10 arg11 arg15 arg16 arg17 arg18 arg24 arg25 arg26) V qs (slot t.val) (fin32 (O (k0_off134 n t 0)))) $$ HU
  ihave HD := (landD_idle c (Bufs.mk arg8 arg9 arg10 arg11 arg15 arg16 arg17 arg18 arg24 arg25 arg26) V qs (slot t.val) (fin32 (O (k0_off134 n t 0)))) $$ HD
  ihave HR := HR $$ [HU HD HL]
  · iapply (show iprop(IdleU c (Bufs.mk arg8 arg9 arg10 arg11 arg15 arg16 arg17 arg18 arg24 arg25 arg26) V qs (slot t.val) ∗ IdleD c (Bufs.mk arg8 arg9 arg10 arg11 arg15 arg16 arg17 arg18 arg24 arg25 arg26) V qs (slot t.val) ∗ IdleL c (Bufs.mk arg8 arg9 arg10 arg11 arg15 arg16 arg17 arg18 arg24 arg25 arg26) V qLs (slot t.val)) ⊢ (Idle c (Bufs.mk arg8 arg9 arg10 arg11 arg15 arg16 arg17 arg18 arg24 arg25 arg26) V qs qLs (slot t.val) : sProp 𝕄) from .rfl)
    isplitl [HU]
    · iexact HU
    isplitl [HD]
    · iexact HD
    · iexact HL
  isplitl [H22 H23 H5 H6 H7 H13 H19 H20]
  · isplitl [H22]
    · iexact H22
    isplitl [H23]
    · iexact H23
    isplitl [H5]
    · iexact H5
    isplitl [H6]
    · iexact H6
    isplitl [H7]
    · iexact H7
    isplitl [H13]
    · iexact H13
    isplitl [H19]
    · iexact H19
    · iexact H20
  isplitl [HR]
  · iexact HR
  isplitl [Ho]
  · iexists W4; iexact Ho
  iexists _
  isplitr
  rotate_left
  · iexact H21
  · ipureintro
    exact hstep' acc A B hacc hAB.1 hAB.2

theorem wp_t4 {n : BitVec 32} {hw16 : k0_chk16 n} (hn : n.toNat ≤ 33) (hO : ∀ j, j < n.toNat → (O j).toNat < 32)
    {v107 : FVec F S32x1 .f32} {v162 : IVec S32x128 32} {v163 : Vec F S32x1 .i32} (Pacc : ℕ → (S32x5120.Idx → Elt F .f32) → Prop)
    (hstep : ∀ j acc A B, j < n.toNat → ∀ hv : (O j).toNat < 32, Pacc j acc → FactA V (fin32 (O j)) (M (O j).toNat) A → FactB V (fin32 (O j)) (M (O j).toNat) B →
      Pacc (j + 1) (stepAcc v107 (k0_pay1 v162 v163) X19 X20 X13 X5 (O j) (upVal V (fin32 (O j))) (dnVal V (fin32 (O j))) (row6 X6 (O j) hv) (row7 X7 (O j) hv) A B acc))
    {W : Waits sig Unit} {acc0 : S32x5120.Idx → Elt F .f32} (h0 : Pacc 0 acc0) {Q : BitVec 32 → sProp (MT nD τ sig Unit (Elt F) ℕ U ℕ)} :
    iprop(Held c arg5 arg6 arg7 arg13 arg19 arg20 arg22 arg23 q2 q5 q6 q7 M O X5 X6 X7 X13 X19 X20 ∗ RingSt c EC (Bufs.mk arg8 arg9 arg10 arg11 arg15 arg16 arg17 arg18 arg24 arg25 arg26) V n.toNat (fun j => fin32 (O j)) (fun e => M e.val) 0 3
        ∗ owes (c : Thread nD τ) 0 W ∗ owns (c : Thread nD τ) arg21 fullShare acc0)
      ⊢ iprop((∀ a, iprop(Held c arg5 arg6 arg7 arg13 arg19 arg20 arg22 arg23 q2 q5 q6 q7 M O X5 X6 X7 X13 X19 X20 ∗ RingSt c EC (Bufs.mk arg8 arg9 arg10 arg11 arg15 arg16 arg17 arg18 arg24 arg25 arg26) V n.toNat (fun j => fin32 (O j)) (fun e => M e.val) n.toNat (n.toNat + 3)
        ∗ (∃ W, owes (c : Thread nD τ) 0 W) ∗ (∃ acc, ⌜Pacc n.toNat acc⌝ ∗ owns (c : Thread nD τ) arg21 fullShare acc)) -∗ Q a) -∗
      wp frame (wpE defs 𝒱 (c : Thread nD τ) bd) Set.univ (Scf.Loop.for (k0_t4_loop n) (k0_t4_ok n hw16) 0#32 (k0_t4_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 arg25 arg26 n hw16 v107 v162 v163)) Q) := by
  have htr := t4_trips n (by omega)
  have hbody : ∀ (t : Fin (Scf.trips (k0_t4_loop n).lb (k0_t4_loop n).ub (k0_t4_loop n).st)) (a : BitVec 32),
      (iprop(Held c arg5 arg6 arg7 arg13 arg19 arg20 arg22 arg23 q2 q5 q6 q7 M O X5 X6 X7 X13 X19 X20 ∗ RingSt c EC (Bufs.mk arg8 arg9 arg10 arg11 arg15 arg16 arg17 arg18 arg24 arg25 arg26) V n.toNat (fun j => fin32 (O j)) (fun e => M e.val) t.val (t.val + 3)
        ∗ (∃ W, owes (c : Thread nD τ) 0 W) ∗ (∃ acc, ⌜Pacc t.val acc⌝ ∗ owns (c : Thread nD τ) arg21 fullShare acc)) : sProp 𝕄)
      ⊢ wp frame (wpE defs 𝒱 (c : Thread nD τ) bd) Set.univ (k0_t4_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 arg25 arg26 n hw16 v107 v162 v163 t a)
        (fun _ => iprop(Held c arg5 arg6 arg7 arg13 arg19 arg20 arg22 arg23 q2 q5 q6 q7 M O X5 X6 X7 X13 X19 X20 ∗ RingSt c EC (Bufs.mk arg8 arg9 arg10 arg11 arg15 arg16 arg17 arg18 arg24 arg25 arg26) V n.toNat (fun j => fin32 (O j)) (fun e => M e.val) (t.val + 1) (t.val + 1 + 3)
        ∗ (∃ W, owes (c : Thread nD τ) 0 W) ∗ (∃ acc, ⌜Pacc (t.val + 1) acc⌝ ∗ owns (c : Thread nD τ) arg21 fullShare acc))) := fun t a =>
    wp_trip 𝒱 c bd EC V arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 arg25 arg26 hn hO Pacc hstep t a (htr ▸ t.isLt)
  iintro ⟨HH, HR, Ho, H21⟩ HQ
  iapply (Scf.wp_for frame (wpE defs 𝒱 (c : Thread nD τ) bd) Set.univ (k0_t4_loop n).lb (k0_t4_loop n).ub (k0_t4_loop n).st (k0_t4_ok n hw16) 0#32 (k0_t4_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 arg25 arg26 n hw16 v107 v162 v163)
    (fun t _ => iprop(Held c arg5 arg6 arg7 arg13 arg19 arg20 arg22 arg23 q2 q5 q6 q7 M O X5 X6 X7 X13 X19 X20 ∗ RingSt c EC (Bufs.mk arg8 arg9 arg10 arg11 arg15 arg16 arg17 arg18 arg24 arg25 arg26) V n.toNat (fun j => fin32 (O j)) (fun e => M e.val) t (t + 3)
        ∗ (∃ W, owes (c : Thread nD τ) 0 W) ∗ (∃ acc, ⌜Pacc t acc⌝ ∗ owns (c : Thread nD τ) arg21 fullShare acc))) hbody)
  isplitl [HH HR Ho H21]
  · isplitl [HH]
    · iexact HH
    isplitl [HR]
    · iexact HR
    isplitl [Ho]
    · iexists W; iexact Ho
    iexists acc0
    isplitr
    · ipureintro; exact h0
    · iexact H21
  · iintro %a H
    ispecialize HQ $$ %a
    iapply HQ
    iapply (show iprop(Held c arg5 arg6 arg7 arg13 arg19 arg20 arg22 arg23 q2 q5 q6 q7 M O X5 X6 X7 X13 X19 X20 ∗ RingSt c EC (Bufs.mk arg8 arg9 arg10 arg11 arg15 arg16 arg17 arg18 arg24 arg25 arg26) V n.toNat (fun j => fin32 (O j)) (fun e => M e.val) (k0_t4_loop n).trips ((k0_t4_loop n).trips + 3)
        ∗ (∃ W, owes (c : Thread nD τ) 0 W) ∗ (∃ acc, ⌜Pacc (k0_t4_loop n).trips acc⌝ ∗ owns (c : Thread nD τ) arg21 fullShare acc)) ⊢ (iprop(Held c arg5 arg6 arg7 arg13 arg19 arg20 arg22 arg23 q2 q5 q6 q7 M O X5 X6 X7 X13 X19 X20 ∗ RingSt c EC (Bufs.mk arg8 arg9 arg10 arg11 arg15 arg16 arg17 arg18 arg24 arg25 arg26) V n.toNat (fun j => fin32 (O j)) (fun e => M e.val) n.toNat (n.toNat + 3)
        ∗ (∃ W, owes (c : Thread nD τ) 0 W) ∗ (∃ acc, ⌜Pacc n.toNat acc⌝ ∗ owns (c : Thread nD τ) arg21 fullShare acc)) : sProp 𝕄) from Entails.of_eq (by rw [htr]))
    iexact H

end Cert.Proof.K
-- ==== Proof.Order.lean ====
module

public import proofs.«01_k».proof.Proof.Tables
public import Mathlib.Algebra.BigOperators.Group.Finset.Basic

@[expose] public section

/-!
# The list of experts the kernel works through
-/

namespace Cert.Proof.Tables

open Idealize.ShloMosaic

variable (M : ℕ → BitVec 32) (v0 : BitVec 32) (O0 : ℕ → BitVec 32)

theorem order_succ_2 (t : ℕ) : (order M v0 O0 (t + 1)).2 = Function.update (order M v0 O0 t).2 (order M v0 O0 t).1.toNat (iv t) := rfl

/-- The list starts with the first token's first expert. -/
theorem order_zero (t : ℕ) (ht : t ≤ 32) : (order M v0 O0 t).2 0 = v0 := by
  induction t with
  | zero => exact Function.update_self (β := fun _ : ℕ => BitVec 32) (0 : ℕ) v0 O0
  | succ t ih =>
    rw [order_succ_2, Function.update_of_ne]
    · exact ih (by omega)
    · have := (order_le M v0 O0 t (by omega)).1; omega

theorem order_count (t : ℕ) (ht : t < 32) : (order M v0 O0 (t + 1)).1.toNat = (order M v0 O0 t).1.toNat + (if M t ≠ 0#32 ∧ t ≠ v0.toNat then 1 else 0) := by
  have h := order_le M v0 O0 t (by omega)
  show ((order M v0 O0 t).1 + bump M v0 t).toNat = _
  have hv : iv t ≠ v0 ↔ t ≠ v0.toNat := by
    constructor
    · intro hne he
      apply hne
      apply BitVec.eq_of_toNat_eq
      rw [iv01 t ht]; exact he
    · intro hne he
      apply hne
      rw [← he, iv01 t ht]
  rw [BitVec.toNat_add]
  rcases bump_cases M v0 t with ⟨hb, h'⟩ | ⟨hb, h'⟩
  · rw [h', if_pos ⟨hb.1, hv.mp hb.2⟩]; have : (1#32 : BitVec 32).toNat = 1 := rfl; omega
  · rw [h', if_neg (fun hh => hb ⟨hh.1, hv.mpr hh.2⟩)]; have : (0#32 : BitVec 32).toNat = 0 := rfl; omega

/-- Every entry of the list is an expert's number. -/
theorem order_lt (h0 : v0.toNat < 32) (t : ℕ) (ht : t ≤ 32) : ∀ j, j < (order M v0 O0 t).1.toNat → ((order M v0 O0 t).2 j).toNat < 32 := by
  induction t with
  | zero =>
    intro j hj
    have hj : j < 1 := hj
    obtain rfl : j = 0 := by omega
    rw [show (order M v0 O0 0).2 0 = v0 from Function.update_self (β := fun _ : ℕ => BitVec 32) (0 : ℕ) v0 O0]; exact h0
  | succ t ih =>
    intro j hj
    rw [order_count M v0 O0 t (by omega)] at hj
    rw [order_succ_2]
    by_cases h : j = (order M v0 O0 t).1.toNat
    · rw [h, Function.update_self, iv01 t (by omega)]; omega
    · rw [Function.update_of_ne h]
      exact ih (by omega) j (by split at hj <;> omega)

/-- A sum over the list is a sum over the first expert and the others some token asks for. -/
theorem order_sum {α : Type} [AddCommMonoid α] (f : ℕ → α) (t : ℕ) (ht : t ≤ 32) :
    ∑ j ∈ Finset.range (order M v0 O0 t).1.toNat, f ((order M v0 O0 t).2 j).toNat
      = f v0.toNat + ∑ e ∈ Finset.range t, (if M e ≠ 0#32 ∧ e ≠ v0.toNat then f e else 0) := by
  induction t with
  | zero =>
    show ∑ j ∈ Finset.range 1, f (Function.update O0 0 v0 j).toNat = _
    rw [Finset.sum_range_one, Function.update_self, Finset.sum_range_zero, add_zero]
  | succ t ih =>
    rw [order_count M v0 O0 t (by omega), Finset.sum_range_succ _ t, ← add_assoc, ← ih (by omega), order_succ_2]
    have e : ∑ j ∈ Finset.range (order M v0 O0 t).1.toNat, f (Function.update (order M v0 O0 t).2 (order M v0 O0 t).1.toNat (iv t) j).toNat
        = ∑ j ∈ Finset.range (order M v0 O0 t).1.toNat, f ((order M v0 O0 t).2 j).toNat := by
      apply Finset.sum_congr rfl
      intro j hj
      rw [Function.update_of_ne (Finset.mem_range.mp hj).ne]
    by_cases h : M t ≠ 0#32 ∧ t ≠ v0.toNat
    · rw [if_pos h, if_pos h, Finset.sum_range_succ, e, Function.update_self, iv01 t (by omega)]
    · rw [if_neg h, if_neg h, Nat.add_zero, e, add_zero]

end Cert.Proof.Tables
-- ==== Proof.K.Body.lean ====
module

public import proofs.«01_k».proof.Proof.K.Second
public import proofs.«01_k».proof.Proof.K.Loop
public import proofs.«01_k».proof.Proof.Order

@[expose] public section

/-!
# The whole kernel
-/

set_option maxRecDepth 16384

noncomputable section

namespace Cert.Proof.K

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Proof.Copies Cert.Proof.Words Cert.Proof.Tables Cert.Proof.Slots Cert.Proof.RingState Cert.Proof.Nums
open Cert.Kernel Cert.Kernel.Gen

variable {F : FTy → Type} [FloatOps F] {U : Type} [URA U]

local notation "𝕄" => MT nD τ sig Unit (Elt F) ℕ U ℕ

variable {defs : Defs nD τ sig (Elt F) Λ₀} (𝒱 : Variants) (c : Dev nD) (bd : Option 𝒱.V)
variable (EC : UEmb Counters (MT nD τ sig Unit (Elt F) ℕ U ℕ)) [EC.LandsIn (upEmb : UEmb _ (MT nD τ sig Unit (Elt F) ℕ U ℕ))]
variable (V : Vals (Elt F))
variable (arg0 : Memref sig .tc .smem S8x32 .i32) (harg0 : arg0.IsWhole) (arg1 : Memref sig .tc .smem S1x32 .i32) (harg1 : arg1.IsWhole) (arg2 : Memref sig .tc .vmem S8x32 .i32) (harg2 : arg2.IsWhole) (arg3 : Memref sig .tc .vmem S8x32 .f32) (harg3 : arg3.IsWhole) (arg4 : Memref sig .tc .vmem S32x1 .i32) (harg4 : arg4.IsWhole) (arg5 : Memref sig .tc .vmem S32x5120 .bf16) (harg5 : arg5.IsWhole) (arg6 : Memref sig .tc .vmem S32x768 .f32) (harg6 : arg6.IsWhole) (arg7 : Memref sig .tc .vmem S32x5120 .f32) (harg7 : arg7.IsWhole) (arg8 : Memref sig .tc .hbm S32x5120x768 .fp8e4m3) (harg8 : arg8.IsWhole) (arg9 : Memref sig .tc .hbm S32x768x5120 .fp8e4m3) (harg9 : arg9.IsWhole) (arg10 : Memref sig .tc .hbm S256x16x5120 .bf16) (harg10 : arg10.IsWhole) (arg11 : Memref sig .tc .hbm S256x16x768 .bf16) (harg11 : arg11.IsWhole) (arg12 : Memref sig .tc .vmem S32x5120 .bf16) (harg12 : arg12.IsWhole) (arg13 : Memref sig .tc .vmem S32x5120 .fp8e4m3) (harg13 : arg13.IsWhole) (arg14 : Memref sig .tc .vmem S32x1 .f32) (harg14 : arg14.IsWhole) (arg15 : Memref sig .tc .vmem S4x5120x768 .fp8e4m3) (harg15 : arg15.IsWhole) (arg16 : Memref sig .tc .vmem S4x768x5120 .fp8e4m3) (harg16 : arg16.IsWhole) (arg17 : Memref sig .tc .vmem S4x8x16x5120 .bf16) (harg17 : arg17.IsWhole) (arg18 : Memref sig .tc .vmem S4x8x16x768 .bf16) (harg18 : arg18.IsWhole) (arg19 : Memref sig .tc .vmem S32x8 .i32) (harg19 : arg19.IsWhole) (arg20 : Memref sig .tc .vmem S32x8 .f32) (harg20 : arg20.IsWhole) (arg21 : Memref sig .tc .vmem S32x5120 .f32) (harg21 : arg21.IsWhole) (arg22 : Memref sig .tc .smem S32 .i32) (harg22 : arg22.IsWhole) (arg23 : Memref sig .tc .smem S33 .i32) (harg23 : arg23.IsWhole) (arg24 : DmaSems sig S4) (arg25 : DmaSems sig S4) (arg26 : DmaSems sig S4)

theorem wp_part17 {q2 : PosShare TreeShare} {X2 : S8x32.Idx → Elt F .i32} {v72 : FVec F S32x5120 .f32} {v78 : IVec S32x256 32} {v83 v85 : IVec S32x256 1}
    {Q : (Σ' (v107 : FVec F S32x1 .f32), IVec S32x8 32) → sProp (MT nD τ sig Unit (Elt F) ℕ U ℕ)} :
    iprop(anyAt (c : Thread nD τ) arg13 ∗ anyAt (c : Thread nD τ) arg14 ∗ owns (c : Thread nD τ) arg2 q2 X2)
      ⊢ iprop((owns (c : Thread nD τ) arg13 fullShare (k0_pay31 v72 v78 v83 v85) ∗ owns (c : Thread nD τ) arg14 fullShare (k0_pay30 v78 v83 v85) ∗ owns (c : Thread nD τ) arg2 q2 X2
          -∗ Q ⟨k0_pay30 v78 v83 v85, k0_pay32 X2⟩) -∗
        wp frame (wpE defs 𝒱 (c : Thread nD τ) bd) Set.univ (k0_part17 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 arg25 arg26 v72 v78 v83 v85) Q) := by
  rw [k0_part17_eq_skeleton]
  iintro ⟨H13, H14, H2⟩ HQ
  sl_unfold [k0_part17_skel]
  ihave H13 := (owns_of_anyAt c arg13) $$ H13
  icases H13 with ⟨%X13, H13⟩
  ihave H14 := (owns_of_anyAt c arg14) $$ H14
  icases H14 with ⟨%X14, H14⟩
  iapply (wp_loadAll 𝒱 c bd zero2) $$ H13
  iintro H13
  iapply (wp_storeAll 𝒱 c bd zero2) $$ H13
  iintro H13
  iapply (wp_loadAll 𝒱 c bd zero2) $$ H14
  iintro H14
  iapply (wp_storeAll 𝒱 c bd zero2) $$ H14
  iintro H14
  iapply (wp_loadAll 𝒱 c bd zero2) $$ H2
  iintro H2
  iapply (wp_done 𝒱 c bd)
  iapply HQ
  isplitl [H13]
  · iexact H13
  isplitl [H14]
  · iexact H14
  · iexact H2

theorem wp_part18 {q3 q4 : PosShare TreeShare} {X3 : S8x32.Idx → Elt F .f32} {X4 : S32x1.Idx → Elt F .i32} {v124 : IVec S32x8 32}
    {Q : (Σ' (v162 : IVec S32x128 32), Vec F S32x1 .i32) → sProp (MT nD τ sig Unit (Elt F) ℕ U ℕ)} :
    iprop(anyAt (c : Thread nD τ) arg19 ∗ anyAt (c : Thread nD τ) arg20 ∗ anyAt (c : Thread nD τ) arg21 ∗ owns (c : Thread nD τ) arg3 q3 X3 ∗ owns (c : Thread nD τ) arg4 q4 X4)
      ⊢ iprop((owns (c : Thread nD τ) arg19 fullShare (k0_pay33 v124) ∗ owns (c : Thread nD τ) arg20 fullShare (k0_pay34 X3) ∗ owns (c : Thread nD τ) arg21 fullShare (k0_pay35 (F := F))
          ∗ owns (c : Thread nD τ) arg3 q3 X3 ∗ owns (c : Thread nD τ) arg4 q4 X4
          -∗ Q ⟨k0_pay36, X4⟩) -∗
        wp frame (wpE defs 𝒱 (c : Thread nD τ) bd) Set.univ (k0_part18 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 arg25 arg26 v124) Q) := by
  rw [k0_part18_eq_skeleton]
  iintro ⟨H19, H20, H21, H3, H4⟩ HQ
  sl_unfold [k0_part18_skel]
  ihave H19 := (owns_of_anyAt c arg19) $$ H19
  icases H19 with ⟨%X19, H19⟩
  ihave H20 := (owns_of_anyAt c arg20) $$ H20
  icases H20 with ⟨%X20, H20⟩
  ihave H21 := (owns_of_anyAt c arg21) $$ H21
  icases H21 with ⟨%X21, H21⟩
  iapply (wp_loadAll 𝒱 c bd zero2) $$ H19
  iintro H19
  iapply (wp_storeAll 𝒱 c bd zero2) $$ H19
  iintro H19
  iapply (wp_loadAll 𝒱 c bd zero2) $$ H3
  iintro H3
  iapply (wp_loadAll 𝒱 c bd zero2) $$ H20
  iintro H20
  iapply (wp_storeAll 𝒱 c bd zero2) $$ H20
  iintro H20
  iapply (wp_loadAll 𝒱 c bd zero2) $$ H21
  iintro H21
  iapply (wp_storeAll 𝒱 c bd zero2) $$ H21
  iintro H21
  iapply (wp_loadAll 𝒱 c bd zero2) $$ H4
  iintro H4
  iapply (wp_done 𝒱 c bd)
  iapply HQ
  isplitl [H19]
  · iexact H19
  isplitl [H20]
  · iexact H20
  isplitl [H21]
  · iexact H21
  isplitl [H3]
  · iexact H3
  · iexact H4

/-- The remainder loop makes no trip. -/
theorem wp_t5 {n : BitVec 32} {hw16 : k0_chk16 n} (hn : n.toNat ≤ 33) {v107 : FVec F S32x1 .f32} {v162 : IVec S32x128 32} {v163 : Vec F S32x1 .i32} {v171 a0 : BitVec 32}
    {Q : BitVec 32 → sProp (MT nD τ sig Unit (Elt F) ℕ U ℕ)} :
    (iprop(∀ a, Q a) : sProp 𝕄) ⊢
      wp frame (wpE defs 𝒱 (c : Thread nD τ) bd) Set.univ (Scf.Loop.for (k0_t5_loop n) (k0_t5_ok n hw16) a0 (k0_t5_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 arg25 arg26 n hw16 v107 v162 v163 v171)) Q := by
  have htr := t5_trips n (by omega)
  have hbody : ∀ (t : Fin (Scf.trips (k0_t5_loop n).lb (k0_t5_loop n).ub (k0_t5_loop n).st)) (a : BitVec 32),
      (iprop(∀ a, Q a) : sProp 𝕄)
      ⊢ wp frame (wpE defs 𝒱 (c : Thread nD τ) bd) Set.univ (k0_t5_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 arg25 arg26 n hw16 v107 v162 v163 v171 t a)
        (fun _ => iprop(∀ a, Q a)) := fun t a => absurd (lt_of_lt_of_eq (show t.val < (k0_t5_loop n).trips from t.isLt) htr) (Nat.not_lt_zero _)
  iintro H
  iapply (Scf.wp_for frame (wpE defs 𝒱 (c : Thread nD τ) bd) Set.univ (k0_t5_loop n).lb (k0_t5_loop n).ub (k0_t5_loop n).st (k0_t5_ok n hw16) a0 (k0_t5_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 arg25 arg26 n hw16 v107 v162 v163 v171)
    (fun _ _ => iprop(∀ a, Q a)) hbody)
  isplitl [H]
  · iexact H
  · iintro %a H
    ispecialize H $$ %a
    iexact H

/-- The row scales the kernel computes. -/
def scaleOf (X5 : S32x5120.Idx → Elt F .bf16) : FVec F S32x1 .f32 := k0_pay30 (iota .tc S32x256 32 [1] iota_S32x256_d1_w32) (k0_pay27 X5) k0_pay28
/-- The codes the kernel computes. -/
def codesOf (X5 : S32x5120.Idx → Elt F .bf16) : FVec F S32x5120 .fp8e4m3 := k0_pay31 (k0_pay26 X5) (iota .tc S32x256 32 [1] iota_S32x256_d1_w32) (k0_pay27 X5) k0_pay28

/-- The arrays the kernel only reads. -/
def Reads (q : Fin 8 → PosShare TreeShare) (E A : ℕ → ℕ → BitVec 32) (X2 : S8x32.Idx → Elt F .i32) (X3 : S8x32.Idx → Elt F .f32) (X4 : S32x1.Idx → Elt F .i32)
    (X5 : S32x5120.Idx → Elt F .bf16) (X6 : S32x768.Idx → Elt F .f32) (X7 : S32x5120.Idx → Elt F .f32) : sProp (MT nD τ sig Unit (Elt F) ℕ U ℕ) :=
  iprop(words2 c arg0 (q 0) E ∗ words2 c arg1 (q 1) A ∗ owns (c : Thread nD τ) arg2 (q 2) X2 ∗ owns (c : Thread nD τ) arg3 (q 3) X3 ∗ owns (c : Thread nD τ) arg4 (q 4) X4
    ∗ owns (c : Thread nD τ) arg5 (q 5) X5 ∗ owns (c : Thread nD τ) arg6 (q 6) X6 ∗ owns (c : Thread nD τ) arg7 (q 7) X7)

/-- The kernel's own buffers, its semaphores at rest and the arrays its copies read. -/
def Own : sProp (MT nD τ sig Unit (Elt F) ℕ U ℕ) :=
  iprop((anyAt (c : Thread nD τ) arg15 ∗ owns (c : Thread nD τ) arg8 fullShare V.xu ∗ cells c arg24)
    ∗ (anyAt (c : Thread nD τ) arg16 ∗ owns (c : Thread nD τ) arg9 fullShare V.xd ∗ cells c arg25)
    ∗ ((anyAt (c : Thread nD τ) arg17 ∗ anyAt (c : Thread nD τ) arg18) ∗ (owns (c : Thread nD τ) arg10 fullShare V.xa ∗ owns (c : Thread nD τ) arg11 fullShare V.xb) ∗ cells c arg26)
    ∗ anyAt (c : Thread nD τ) arg19 ∗ anyAt (c : Thread nD τ) arg20 ∗ anyAt (c : Thread nD τ) arg21 ∗ anyAt (c : Thread nD τ) arg22 ∗ anyAt (c : Thread nD τ) arg23)

/-- Take the first of four, to be put back as something else. -/
theorem swap0 (f g : Fin 4 → sProp (MT nD τ sig Unit (Elt F) ℕ U ℕ)) :
    (BI.bigSep Finset.univ f : sProp 𝕄) ⊢ iprop(f 0 ∗ (g 0 -∗ BI.bigSep Finset.univ (fun s => if s = 0 then g s else f s))) :=
  bigSep_swap4 (0 : Fin 4) f (fun s => if s = 0 then g s else f s) (fun b hb => by rw [if_neg hb])

include EC in
/-- The kernel, from its windows and its own buffers to the three results. -/
theorem wp_kernel {q : Fin 8 → PosShare TreeShare} {E A : ℕ → ℕ → BitVec 32} {X2 : S8x32.Idx → Elt F .i32} {X3 : S8x32.Idx → Elt F .f32} {X4 : S32x1.Idx → Elt F .i32}
    {X5 : S32x5120.Idx → Elt F .bf16} {X6 : S32x768.Idx → Elt F .f32} {X7 : S32x5120.Idx → Elt F .f32}
    (hE : ∀ k t, k < 8 → t < 32 → (E k t).toNat < 32)
    (Pacc : (ℕ → BitVec 32) → ℕ → (S32x5120.Idx → Elt F .f32) → Prop) (h0 : ∀ O0, Pacc O0 0 (k0_pay35 (F := F)))
    (hstep : ∀ O0 j acc A' B, j < (order (masks E A 32) (E 0 0) O0 32).1.toNat → ∀ hv : ((order (masks E A 32) (E 0 0) O0 32).2 j).toNat < 32, Pacc O0 j acc →
      FactA V (fin32 ((order (masks E A 32) (E 0 0) O0 32).2 j)) (masks E A 32 ((order (masks E A 32) (E 0 0) O0 32).2 j).toNat) A' → FactB V (fin32 ((order (masks E A 32) (E 0 0) O0 32).2 j)) (masks E A 32 ((order (masks E A 32) (E 0 0) O0 32).2 j).toNat) B →
      Pacc O0 (j + 1) (stepAcc (scaleOf X5) (k0_pay1 k0_pay36 X4) (k0_pay33 (k0_pay32 (F := F) X2)) (k0_pay34 X3) (codesOf X5) X5 ((order (masks E A 32) (E 0 0) O0 32).2 j)
        (upVal V (fin32 ((order (masks E A 32) (E 0 0) O0 32).2 j))) (dnVal V (fin32 ((order (masks E A 32) (E 0 0) O0 32).2 j))) (row6 X6 ((order (masks E A 32) (E 0 0) O0 32).2 j) hv) (row7 X7 ((order (masks E A 32) (E 0 0) O0 32).2 j) hv) A' B acc))
    {W : Waits sig Unit} {Q : PUnit → sProp (MT nD τ sig Unit (Elt F) ℕ U ℕ)} :
    iprop(Reads c arg0 arg1 arg2 arg3 arg4 arg5 arg6 arg7 q E A X2 X3 X4 X5 X6 X7 ∗ Own c V arg8 arg9 arg10 arg11 arg15 arg16 arg17 arg18 arg19 arg20 arg21 arg22 arg23 arg24 arg25 arg26 ∗ anyAt (c : Thread nD τ) arg12 ∗ anyAt (c : Thread nD τ) arg13 ∗ anyAt (c : Thread nD τ) arg14 ∗ owes (c : Thread nD τ) 0 W)
      ⊢ iprop((∀ O0 acc, iprop(⌜Pacc O0 (order (masks E A 32) (E 0 0) O0 32).1.toNat acc⌝ ∗ Reads c arg0 arg1 arg2 arg3 arg4 arg5 arg6 arg7 q E A X2 X3 X4 X5 X6 X7 ∗ Own c V arg8 arg9 arg10 arg11 arg15 arg16 arg17 arg18 arg19 arg20 arg21 arg22 arg23 arg24 arg25 arg26 ∗ owns (c : Thread nD τ) arg12 fullShare (k0_pay4 acc)
            ∗ owns (c : Thread nD τ) arg13 fullShare (codesOf X5) ∗ owns (c : Thread nD τ) arg14 fullShare (scaleOf X5) ∗ (∃ W', owes (c : Thread nD τ) 0 W')) -∗ Q ⟨⟩) -∗
        wp frame (wpE defs 𝒱 (c : Thread nD τ) bd) Set.univ (cc0__moe_kernel (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 arg25 arg26) Q) := by
  rw [cc0__moe_kernel_eq_skeleton]
  have hE0 := hE 0 0 (by decide) (by decide)
  unfold Reads Own
  iintro ⟨⟨H0, H1, H2, H3, H4, H5, H6, H7⟩, ⟨HU, HD, ⟨⟨H17, H18⟩, HAB, HC⟩, H19, H20, H21, H22, H23⟩, H12, H13, H14, Ho⟩ HQ
  ihave HU := (idleU_all c (Bufs.mk arg8 arg9 arg10 arg11 arg15 arg16 arg17 arg18 arg24 arg25 arg26) V).1 $$ HU
  icases HU with ⟨HU, HUr⟩
  ihave HD := (idleD_all c (Bufs.mk arg8 arg9 arg10 arg11 arg15 arg16 arg17 arg18 arg24 arg25 arg26) V).1 $$ HD
  icases HD with ⟨HD, HDr⟩
  ihave HU := (swap0 (fun s => IdleU c (Bufs.mk arg8 arg9 arg10 arg11 arg15 arg16 arg17 arg18 arg24 arg25 arg26) V qs s) (fun s => BusyU c EC (Bufs.mk arg8 arg9 arg10 arg11 arg15 arg16 arg17 arg18 arg24 arg25 arg26) V qs s (fin32 (E 0 0)))) $$ HU
  icases HU with ⟨HU, HUw⟩
  ihave HD := (swap0 (fun s => IdleD c (Bufs.mk arg8 arg9 arg10 arg11 arg15 arg16 arg17 arg18 arg24 arg25 arg26) V qs s) (fun s => BusyD c EC (Bufs.mk arg8 arg9 arg10 arg11 arg15 arg16 arg17 arg18 arg24 arg25 arg26) V qs s (fin32 (E 0 0)))) $$ HD
  icases HD with ⟨HD, HDw⟩
  sl_unfold [cc0__moe_kernel_skel]
  iapply (wp_seq 𝒱 c bd)
  iapply (wp_part14 𝒱 c bd EC V arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 arg25 arg26 hE) $$ [H0 H1 H22 H23 H18 HU HD]
  · isplitl [H0]
    · iexact H0
    isplitl [H1]
    · iexact H1
    isplitl [H22]
    · iexact H22
    isplitl [H23]
    · iexact H23
    isplitl [H18]
    · iexact H18
    isplitl [HU]
    · iexact HU
    · iexact HD
  iintro %O0 ⟨H0, H1, H22, H23, H18, HU, HD⟩
  ihave HU := HUw $$ HU
  ihave HD := HDw $$ HD
  ihave HL : iprop((anyAt (c : Thread nD τ) arg17 ∗ anyAt (c : Thread nD τ) arg18) ∗ (owns (c : Thread nD τ) arg10 fullShare V.xa ∗ owns (c : Thread nD τ) arg11 fullShare V.xb) ∗ cells c arg26) $$ [H17 H18 HAB HC]
  · isplitl [H17 H18]
    · isplitl [H17]
      · iexact H17
      · iexact H18
    isplitl [HAB]
    · iexact HAB
    · iexact HC
  ihave HL := (idleL_all c (Bufs.mk arg8 arg9 arg10 arg11 arg15 arg16 arg17 arg18 arg24 arg25 arg26) V).1 $$ HL
  icases HL with ⟨HL, HLr⟩
  ihave HL := (swap0 (fun s => IdleL c (Bufs.mk arg8 arg9 arg10 arg11 arg15 arg16 arg17 arg18 arg24 arg25 arg26) V qLs s) (fun s => Waiting c EC (Bufs.mk arg8 arg9 arg10 arg11 arg15 arg16 arg17 arg18 arg24 arg25 arg26) V qLs s (fin32 (E 0 0)) (masks E A 32 (E 0 0).toNat) 0)) $$ HL
  icases HL with ⟨HL, HLw⟩
  imod (start_zero c EC (Bufs.mk arg8 arg9 arg10 arg11 arg15 arg16 arg17 arg18 arg24 arg25 arg26) V qLs 0 (fin32 (E 0 0)) (masks E A 32 (E 0 0).toNat)) $$ HL with HS
  have hn := order_le (masks E A 32) (E 0 0) O0 32 (le_refl _)
  have hO := order_lt (masks E A 32) (E 0 0) O0 hE0 32 (le_refl _)
  have hz := order_zero (masks E A 32) (E 0 0) O0 32 (le_refl _)
  iapply (wp_seq 𝒱 c bd)
  iapply (wp_part15 𝒱 c bd EC V arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 arg25 arg26 hE0) $$ [H22 H23 HS]
  · isplitl [H22]
    · iexact H22
    isplitl [H23]
    · iexact H23
    · iexact HS
  iintro ⟨H22, H23, HS⟩
  iapply (wp_seq 𝒱 c bd)
  iapply (wp_part16 𝒱 c bd EC V arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 arg25 arg26 hE0 hn.1 hn.2 hO) $$ [H22 H23 HS HLw HU HD H5]
  · isplitl [H22]
    · iexact H22
    isplitl [H23]
    · iexact H23
    isplitl [HS]
    · iexact HS
    isplitr [H5]
    · iintro HS
      ihave HL := HLw $$ HS
      iapply (ring_one c EC (Bufs.mk arg8 arg9 arg10 arg11 arg15 arg16 arg17 arg18 arg24 arg25 arg26) V (order (masks E A 32) (E 0 0) O0 32).1.toNat (fun j => fin32 ((order (masks E A 32) (E 0 0) O0 32).2 j)) (fun e => masks E A 32 e.val) (lt_of_lt_of_le Nat.one_pos hn.1))
      isplitl [HU]
      · iapply (show (BI.bigSep Finset.univ (fun s => if s = 0 then BusyU c EC (Bufs.mk arg8 arg9 arg10 arg11 arg15 arg16 arg17 arg18 arg24 arg25 arg26) V qs s (fin32 (E 0 0)) else IdleU c (Bufs.mk arg8 arg9 arg10 arg11 arg15 arg16 arg17 arg18 arg24 arg25 arg26) V qs s) : sProp 𝕄)
          ⊢ BI.bigSep Finset.univ (fun s => if s = 0 then BusyU c EC (Bufs.mk arg8 arg9 arg10 arg11 arg15 arg16 arg17 arg18 arg24 arg25 arg26) V qs s (fin32 ((order (masks E A 32) (E 0 0) O0 32).2 0)) else IdleU c (Bufs.mk arg8 arg9 arg10 arg11 arg15 arg16 arg17 arg18 arg24 arg25 arg26) V qs s) from Entails.of_eq (by rw [hz]))
        iexact HU
      isplitl [HD]
      · iapply (show (BI.bigSep Finset.univ (fun s => if s = 0 then BusyD c EC (Bufs.mk arg8 arg9 arg10 arg11 arg15 arg16 arg17 arg18 arg24 arg25 arg26) V qs s (fin32 (E 0 0)) else IdleD c (Bufs.mk arg8 arg9 arg10 arg11 arg15 arg16 arg17 arg18 arg24 arg25 arg26) V qs s) : sProp 𝕄)
          ⊢ BI.bigSep Finset.univ (fun s => if s = 0 then BusyD c EC (Bufs.mk arg8 arg9 arg10 arg11 arg15 arg16 arg17 arg18 arg24 arg25 arg26) V qs s (fin32 ((order (masks E A 32) (E 0 0) O0 32).2 0)) else IdleD c (Bufs.mk arg8 arg9 arg10 arg11 arg15 arg16 arg17 arg18 arg24 arg25 arg26) V qs s) from Entails.of_eq (by rw [hz]))
        iexact HD
      · iapply (show (BI.bigSep Finset.univ (fun s => if s = 0 then Waiting c EC (Bufs.mk arg8 arg9 arg10 arg11 arg15 arg16 arg17 arg18 arg24 arg25 arg26) V qLs s (fin32 (E 0 0)) (masks E A 32 (E 0 0).toNat) 0 else IdleL c (Bufs.mk arg8 arg9 arg10 arg11 arg15 arg16 arg17 arg18 arg24 arg25 arg26) V qLs s) : sProp 𝕄)
          ⊢ BI.bigSep Finset.univ (fun s => if s = 0 then Waiting c EC (Bufs.mk arg8 arg9 arg10 arg11 arg15 arg16 arg17 arg18 arg24 arg25 arg26) V qLs s (fin32 ((order (masks E A 32) (E 0 0) O0 32).2 0)) (masks E A 32 (fin32 ((order (masks E A 32) (E 0 0) O0 32).2 0)).val) 0 else IdleL c (Bufs.mk arg8 arg9 arg10 arg11 arg15 arg16 arg17 arg18 arg24 arg25 arg26) V qLs s)
          from Entails.of_eq (by rw [hz, fin32_val _ hE0]))
        iexact HL
    · iexact H5
  iintro ⟨H22, H23, HR, H5⟩
  iapply (wp_seq 𝒱 c bd)
  iapply (wp_part17 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 arg25 arg26) $$ [H13 H14 H2]
  · isplitl [H13]
    · iexact H13
    isplitl [H14]
    · iexact H14
    · iexact H2
  iintro ⟨H13, H14, H2⟩
  iapply (wp_seq 𝒱 c bd)
  iapply (wp_part18 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 arg25 arg26) $$ [H19 H20 H21 H3 H4]
  · isplitl [H19]
    · iexact H19
    isplitl [H20]
    · iexact H20
    isplitl [H21]
    · iexact H21
    isplitl [H3]
    · iexact H3
    · iexact H4
  iintro ⟨H19, H20, H21, H3, H4⟩
  ihave HH : Held c arg5 arg6 arg7 arg13 arg19 arg20 arg22 arg23 fullShare (q 5) (q 6) (q 7) (masks E A 32) (order (masks E A 32) (E 0 0) O0 32).2 X5 X6 X7 (codesOf X5) (k0_pay33 (k0_pay32 (F := F) X2)) (k0_pay34 X3) $$ [H22 H23 H5 H6 H7 H13 H19 H20]
  · unfold Held
    isplitl [H22]
    · iexact H22
    isplitl [H23]
    · iexact H23
    isplitl [H5]
    · iexact H5
    isplitl [H6]
    · iexact H6
    isplitl [H7]
    · iexact H7
    isplitl [H13]
    · iexact H13
    isplitl [H19]
    · iexact H19
    · iexact H20
  iapply (wp_seq 𝒱 c bd)
  iapply (wp_t4 𝒱 c bd EC V arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 arg25 arg26 hn.2 hO (Pacc O0) (hstep O0) (h0 O0)) $$ [HH HR Ho H21]
  · isplitl [HH]
    · iexact HH
    isplitl [HR]
    · iexact HR
    isplitl [Ho]
    · iexact Ho
    · iexact H21
  iintro %a ⟨HH, HR, ⟨%W1, Ho⟩, ⟨%acc, %hacc, H21⟩⟩
  iapply (wp_seq 𝒱 c bd)
  iapply (wp_t5 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 arg25 arg26 hn.2)
  iintro %a
  iapply (wp_loadAll 𝒱 c bd zero2) $$ H21
  iintro H21
  ihave H12 := (owns_of_anyAt c arg12) $$ H12
  icases H12 with ⟨%X12, H12⟩
  iapply (wp_loadAll 𝒱 c bd zero2) $$ H12
  iintro H12
  iapply (wp_storeAll 𝒱 c bd zero2) $$ H12
  iintro H12
  iapply (wp_done 𝒱 c bd)
  ihave HH := (show Held c arg5 arg6 arg7 arg13 arg19 arg20 arg22 arg23 fullShare (q 5) (q 6) (q 7) (masks E A 32) (order (masks E A 32) (E 0 0) O0 32).2 X5 X6 X7 (codesOf X5) (k0_pay33 (k0_pay32 (F := F) X2)) (k0_pay34 X3) ⊢ iprop(words c arg22 fullShare (masks E A 32) ∗ words c arg23 fullShare (order (masks E A 32) (E 0 0) O0 32).2 ∗ owns (c : Thread nD τ) arg5 (q 5) X5 ∗ owns (c : Thread nD τ) arg6 (q 6) X6 ∗ owns (c : Thread nD τ) arg7 (q 7) X7
    ∗ owns (c : Thread nD τ) arg13 fullShare (codesOf X5) ∗ owns (c : Thread nD τ) arg19 fullShare (k0_pay33 (k0_pay32 (F := F) X2)) ∗ owns (c : Thread nD τ) arg20 fullShare (k0_pay34 X3)) from .rfl) $$ HH
  icases HH with ⟨H22, H23, H5, H6, H7, H13, H19, H20⟩
  ihave HR := (Entails.of_eq (ring_idle c EC (Bufs.mk arg8 arg9 arg10 arg11 arg15 arg16 arg17 arg18 arg24 arg25 arg26) V (order (masks E A 32) (E 0 0) O0 32).1.toNat (fun j => fin32 ((order (masks E A 32) (E 0 0) O0 32).2 j)) (fun e => masks E A 32 e.val) (order (masks E A 32) (E 0 0) O0 32).1.toNat ((order (masks E A 32) (E 0 0) O0 32).1.toNat + 3) (Or.inl (le_refl _)))) $$ HR
  ihave HR := (Entails.of_eq (idle_all c (Bufs.mk arg8 arg9 arg10 arg11 arg15 arg16 arg17 arg18 arg24 arg25 arg26) V)) $$ HR
  icases HR with ⟨HU, HD, HL⟩
  ihave HU := (idleU_all c (Bufs.mk arg8 arg9 arg10 arg11 arg15 arg16 arg17 arg18 arg24 arg25 arg26) V).2 $$ [HU HUr]
  · isplitl [HU]
    · iexact HU
    · iexact HUr
  ihave HD := (idleD_all c (Bufs.mk arg8 arg9 arg10 arg11 arg15 arg16 arg17 arg18 arg24 arg25 arg26) V).2 $$ [HD HDr]
  · isplitl [HD]
    · iexact HD
    · iexact HDr
  ihave HL := (idleL_all c (Bufs.mk arg8 arg9 arg10 arg11 arg15 arg16 arg17 arg18 arg24 arg25 arg26) V).2 $$ [HL HLr]
  · isplitl [HL]
    · iexact HL
    · iexact HLr
  ispecialize HQ $$ %O0 %acc
  iapply HQ
  isplitr
  · ipureintro; exact hacc
  isplitl [H0 H1 H2 H3 H4 H5 H6 H7]
  · isplitl [H0]
    · iexact H0
    isplitl [H1]
    · iexact H1
    isplitl [H2]
    · iexact H2
    isplitl [H3]
    · iexact H3
    isplitl [H4]
    · iexact H4
    isplitl [H5]
    · iexact H5
    isplitl [H6]
    · iexact H6
    · iexact H7
  isplitl [HU HD HL H19 H20 H21 H22 H23]
  · isplitl [HU]
    · iexact HU
    isplitl [HD]
    · iexact HD
    isplitl [HL]
    · iexact HL
    isplitl [H19]
    · iapply (anyAt_of (c : Thread nD τ) arg19); iexact H19
    isplitl [H20]
    · iapply (anyAt_of (c : Thread nD τ) arg20); iexact H20
    isplitl [H21]
    · iapply (anyAt_of (c : Thread nD τ) arg21); iexact H21
    isplitl [H22]
    · iapply (words_anyAt c arg22); iexact H22
    · iapply (words_anyAt c arg23); iexact H23
  isplitl [H12]
  · iexact H12
  isplitl [H13]
  · iexact H13
  isplitl [H14]
  · iexact H14
  · iexists W1; iexact Ho

end Cert.Proof.K
-- ==== Proof.K.Run.lean ====
module

public import proofs.«01_k».proof.Proof.K.Body
public import proofs.«01_k».proof.Proof.Gen.Kernel.Frame
public import Idealize.ShloMosaic.Lib.Pipeline.FrameSuffixR

@[expose] public section

/-!
# The program's run

The launch around the kernel: what the region's data are, the kernel's body at its one point, and the run of the whole program.
-/

set_option maxRecDepth 16384

noncomputable section

namespace Cert.Proof.K

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat BodyObligationLoose UD ΦD)
open Cert.Proof.Copies Cert.Proof.Words Cert.Proof.Tables Cert.Proof.Slots Cert.Proof.RingState Cert.Proof.Nums
open Cert.Kernel Cert.Kernel.Gen

variable {F : FTy → Type} [FloatOps F]

local notation "𝕄" => MT nD τ sig Unit (Elt F) ℕ (UD sig nD τ) ℕ

variable (m : (ℓ : Loc nD τ sig) → Buf (Elt F) ℓ) (ρ : Dev nD → PrngReg)

/-! ## The buffers and semaphores the kernel uses itself -/

/-- The arrays the kernel's own copies read. -/
abbrev Hbm : Finset (Ref sig .tc) := {main_arg4, main_arg6, main_v7, main_v8}
/-- The arrays the lines after the region write. -/
abbrev Tail : Finset (Ref sig .tc) := {main_v13, main_v14, main_v15}

/-- The semaphores of the three rings, slot by slot. -/
abbrev osem : Fin 12 → SemLoc sig
  | 0 => .dma (cell cc0_scratch9 0) | 1 => .dma (cell cc0_scratch9 1) | 2 => .dma (cell cc0_scratch9 2) | 3 => .dma (cell cc0_scratch9 3)
  | 4 => .dma (cell cc0_scratch10 0) | 5 => .dma (cell cc0_scratch10 1) | 6 => .dma (cell cc0_scratch10 2) | 7 => .dma (cell cc0_scratch10 3)
  | 8 => .dma (cell cc0_scratch11 0) | 9 => .dma (cell cc0_scratch11 1) | 10 => .dma (cell cc0_scratch11 2) | 11 => .dma (cell cc0_scratch11 3)

theorem ownSemFacts : Pipeline.OwnSemFacts spec0 osem := by decide
theorem hbm_sub : Hbm ⊆ Pipeline.restRefs sig spec0 := by decide

/-- What the rings read. -/
abbrev vals (c : Dev nD) : Vals (Elt F) := ⟨V m c main_arg4, V m c main_arg6, V m c main_v7, V m c main_v8⟩

theorem four (f : Fin 4 → sProp 𝕄) : BI.bigSep Finset.univ f = iprop(f 0 ∗ f 1 ∗ f 2 ∗ f 3) :=
  bigSep_univ_eq_bigSepL [(0 : Fin 4), 1, 2, 3] (by decide) (by decide) f

theorem twelve (f : Fin 12 → sProp 𝕄) : BI.bigSep Finset.univ f = iprop(f 0 ∗ f 1 ∗ f 2 ∗ f 3 ∗ f 4 ∗ f 5 ∗ f 6 ∗ f 7 ∗ f 8 ∗ f 9 ∗ f 10 ∗ f 11) :=
  bigSep_univ_eq_bigSepL [(0 : Fin 12), 1, 2, 3, 4, 5, 6, 7, 8, 9, 10, 11] (by decide) (by decide) f

theorem hbm_eq (f : Ref sig .tc → sProp 𝕄) : BI.bigSep Hbm f = iprop(f main_arg4 ∗ f main_arg6 ∗ f main_v7 ∗ f main_v8) :=
  bigSep_eq_bigSepL_of_eq [main_arg4, main_arg6, main_v7, main_v8] (by decide) (by decide) f

theorem whole_in (c : Dev nD) (b : Ref sig .tc) (X : b.ty.Contents (Elt F)) :
    (((c : Thread nD τ).loc b) ↦{fullShare} X : sProp 𝕄) ⊢ owns (c : Thread nD τ) (Memref.whole b) fullShare X :=
  Entails.of_eq (owns_whole (c : Thread nD τ) b fullShare X).symm
theorem whole_out (c : Dev nD) (b : Ref sig .tc) (X : b.ty.Contents (Elt F)) :
    (owns (c : Thread nD τ) (Memref.whole b) fullShare X : sProp 𝕄) ⊢ (((c : Thread nD τ).loc b) ↦{fullShare} X) :=
  Entails.of_eq (owns_whole (c : Thread nD τ) b fullShare X)
theorem any_in (c : Dev nD) (b : Ref sig .tc) :
    (iprop(∃ f : Buf (Elt F) ((c : Thread nD τ).loc b), ((c : Thread nD τ).loc b) ↦{fullShare} f) : sProp 𝕄) ⊢ anyAt (c : Thread nD τ) (Memref.whole b) := by
  unfold anyAt; iintro ⟨%f, H⟩; iexists f; iapply (whole_in c b f); iexact H
theorem any_out (c : Dev nD) (b : Ref sig .tc) :
    (anyAt (c : Thread nD τ) (Memref.whole b) : sProp 𝕄) ⊢ iprop(∃ f : Buf (Elt F) ((c : Thread nD τ).loc b), ((c : Thread nD τ).loc b) ↦{fullShare} f) := by
  unfold anyAt; iintro ⟨%f, H⟩; iexists f; iapply (whole_out c b f); iexact H

/-- What the kernel owns beside its windows. -/
abbrev Mine (c : Dev nD) : sProp 𝕄 :=
  Own c (vals m c) (Memref.whole main_arg4) (Memref.whole main_arg6) (Memref.whole main_v7) (Memref.whole main_v8)
    (Memref.whole cc0_scratch0) (Memref.whole cc0_scratch1) (Memref.whole cc0_scratch2) (Memref.whole cc0_scratch3) (Memref.whole cc0_scratch4)
    (Memref.whole cc0_scratch5) (Memref.whole cc0_scratch6) (Memref.whole cc0_scratch7) (Memref.whole cc0_scratch8) cc0_scratch9 cc0_scratch10 cc0_scratch11

/-- The region's invariant is that and the generator register. -/
theorem mine_in (c : Dev nD) : (ΦD osem spec0 Hbm (V m) c : sProp 𝕄) ⊢ iprop((∃ r, prngReg c r) ∗ Mine m c) := by
  rw [Pipeline.ΦD_eq, scopedRest0_eq, hbm_eq]
  unfold Pipeline.ownSems0
  rw [twelve]
  unfold Mine Own cells
  rw [four, four, four]
  iintro ⟨⟨S0, S1, S2, S3, S4, S5, S6, S7, S8⟩, Hp, ⟨C0, C1, C2, C3, C4, C5, C6, C7, C8, C9, C10, C11⟩, A4, A6, A7, A8⟩
  isplitl [Hp]; · iexact Hp
  isplitl [S0 A4 C0 C1 C2 C3]
  · isplitl [S0]; · iapply (any_in c cc0_scratch0); iexact S0
    isplitl [A4]; · iapply (whole_in c main_arg4 (V m c main_arg4)); iexact A4
    isplitl [C0]; · iexact C0
    isplitl [C1]; · iexact C1
    isplitl [C2]; · iexact C2
    iexact C3
  isplitl [S1 A6 C4 C5 C6 C7]
  · isplitl [S1]; · iapply (any_in c cc0_scratch1); iexact S1
    isplitl [A6]; · iapply (whole_in c main_arg6 (V m c main_arg6)); iexact A6
    isplitl [C4]; · iexact C4
    isplitl [C5]; · iexact C5
    isplitl [C6]; · iexact C6
    iexact C7
  isplitl [S2 S3 A7 A8 C8 C9 C10 C11]
  · isplitl [S2 S3]
    · isplitl [S2]; · iapply (any_in c cc0_scratch2); iexact S2
      iapply (any_in c cc0_scratch3); iexact S3
    isplitl [A7 A8]
    · isplitl [A7]; · iapply (whole_in c main_v7 (V m c main_v7)); iexact A7
      iapply (whole_in c main_v8 (V m c main_v8)); iexact A8
    isplitl [C8]; · iexact C8
    isplitl [C9]; · iexact C9
    isplitl [C10]; · iexact C10
    iexact C11
  isplitl [S4]; · iapply (any_in c cc0_scratch4); iexact S4
  isplitl [S5]; · iapply (any_in c cc0_scratch5); iexact S5
  isplitl [S6]; · iapply (any_in c cc0_scratch6); iexact S6
  isplitl [S7]; · iapply (any_in c cc0_scratch7); iexact S7
  iapply (any_in c cc0_scratch8); iexact S8

theorem mine_out (c : Dev nD) : (iprop((∃ r, prngReg c r) ∗ Mine m c) : sProp 𝕄) ⊢ ΦD osem spec0 Hbm (V m) c := by
  rw [Pipeline.ΦD_eq, scopedRest0_eq, hbm_eq]
  unfold Pipeline.ownSems0
  rw [twelve]
  unfold Mine Own cells
  rw [four, four, four]
  iintro ⟨Hp, ⟨S0, A4, C0, C1, C2, C3⟩, ⟨S1, A6, C4, C5, C6, C7⟩, ⟨⟨S2, S3⟩, ⟨A7, A8⟩, C8, C9, C10, C11⟩, S4, S5, S6, S7, S8⟩
  isplitl [S0 S1 S2 S3 S4 S5 S6 S7 S8]
  · isplitl [S0]; · iapply (any_out c cc0_scratch0); iexact S0
    isplitl [S1]; · iapply (any_out c cc0_scratch1); iexact S1
    isplitl [S2]; · iapply (any_out c cc0_scratch2); iexact S2
    isplitl [S3]; · iapply (any_out c cc0_scratch3); iexact S3
    isplitl [S4]; · iapply (any_out c cc0_scratch4); iexact S4
    isplitl [S5]; · iapply (any_out c cc0_scratch5); iexact S5
    isplitl [S6]; · iapply (any_out c cc0_scratch6); iexact S6
    isplitl [S7]; · iapply (any_out c cc0_scratch7); iexact S7
    iapply (any_out c cc0_scratch8); iexact S8
  isplitl [Hp]; · iexact Hp
  isplitl [C0 C1 C2 C3 C4 C5 C6 C7 C8 C9 C10 C11]
  · isplitl [C0]; · iexact C0
    isplitl [C1]; · iexact C1
    isplitl [C2]; · iexact C2
    isplitl [C3]; · iexact C3
    isplitl [C4]; · iexact C4
    isplitl [C5]; · iexact C5
    isplitl [C6]; · iexact C6
    isplitl [C7]; · iexact C7
    isplitl [C8]; · iexact C8
    isplitl [C9]; · iexact C9
    isplitl [C10]; · iexact C10
    iexact C11
  isplitl [A4]; · iapply (whole_out c main_arg4 (V m c main_arg4)); iexact A4
  isplitl [A6]; · iapply (whole_out c main_arg6 (V m c main_arg6)); iexact A6
  isplitl [A7]; · iapply (whole_out c main_v7 (V m c main_v7)); iexact A7
  iapply (whole_out c main_v8 (V m c main_v8)); iexact A8

/-! ## What the windows hold -/

/-- The input windows' blocks. -/
abbrev W0 (c : Dev nD) : S8x32.Idx → Elt F .i32 := iblk m c 0 t0_0
abbrev W1 (c : Dev nD) : S1x32.Idx → Elt F .i32 := iblk m c 1 t0_0
abbrev W2 (c : Dev nD) : S8x32.Idx → Elt F .i32 := iblk m c 2 t0_0
abbrev W3 (c : Dev nD) : S8x32.Idx → Elt F .f32 := iblk m c 3 t0_0
abbrev W4 (c : Dev nD) : S32x1.Idx → Elt F .i32 := iblk m c 4 t0_0
abbrev W5 (c : Dev nD) : S32x5120.Idx → Elt F .bf16 := iblk m c 5 t0_0
abbrev W6 (c : Dev nD) : S32x768.Idx → Elt F .f32 := iblk m c 6 t0_0
abbrev W7 (c : Dev nD) : S32x5120.Idx → Elt F .f32 := iblk m c 7 t0_0

/-- A table's words by row and column. -/
def tab {a b : ℕ} (X : Shape.Idx ⟨2, ![a, b]⟩ → BitVec 32) (k t : ℕ) : BitVec 32 :=
  if h : k < a ∧ t < b then X (ValueIdx.ix2 ⟨k, h.1⟩ ⟨t, h.2⟩) else 0

theorem tab_eq {a b : ℕ} (X : Shape.Idx ⟨2, ![a, b]⟩ → BitVec 32) : X = fun i => tab X (i 0).val (i 1).val := by
  funext i
  have h0 : (i 0).val < a := (i 0).isLt
  have h1 : (i 1).val < b := (i 1).isLt
  unfold tab
  rw [dif_pos ⟨h0, h1⟩]
  congr 1
  funext k
  fin_cases k <;> rfl

/-- The expert of choice `k` of token `t`, and token `t`'s adapter, as words. -/
abbrev eTab (c : Dev nD) : ℕ → ℕ → BitVec 32 := tab (W0 m c)
abbrev aTab (c : Dev nD) : ℕ → ℕ → BitVec 32 := tab (W1 m c)

/-- What the precondition is used for in the run: every expert number is one. -/
def RangeOK : Prop := ∀ c k t, k < 8 → t < 32 → (eTab m c k t).toNat < 32

/-! ## The region's data -/

/-- The region's data: the inputs keep their blocks; the results hold `y`, the codes and the scale of the tokens. -/
def dats (y : Dev nD → S32x5120.Idx → Elt F .bf16) (_ : Fin 1) (c : Dev nD) : Dat τ (Elt F) Unit ℕ (UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => y c
    | ⟨9, _⟩ => codesOf (W5 m c)
    | ⟨10, _⟩ => scaleOf (W5 m c)
  Φ _ := ΦD osem spec0 Hbm (V m) c
  q w := Pipeline.shareOf spec0 w
  owed _ := 0

section Before
variable (y : Dev nD → S32x5120.Idx → Elt F .bf16) (c : Dev nD) (t : Fin cfg0.N)
theorem before_0 (d) : (dats m y 0 c).before 0 t d = iblk m c 0 t := by
  unfold Dat.before; rw [if_pos (fetch0_0 t)]; unfold Dat.fetched Dat.blockOf iblk; dsimp only [dats]; rfl
theorem before_1 (d) : (dats m y 0 c).before 1 t d = iblk m c 1 t := by
  unfold Dat.before; rw [if_pos (fetch0_1 t)]; unfold Dat.fetched Dat.blockOf iblk; dsimp only [dats]; rfl
theorem before_2 (d) : (dats m y 0 c).before 2 t d = iblk m c 2 t := by
  unfold Dat.before; rw [if_pos (fetch0_2 t)]; unfold Dat.fetched Dat.blockOf iblk; dsimp only [dats]; rfl
theorem before_3 (d) : (dats m y 0 c).before 3 t d = iblk m c 3 t := by
  unfold Dat.before; rw [if_pos (fetch0_3 t)]; unfold Dat.fetched Dat.blockOf iblk; dsimp only [dats]; rfl
theorem before_4 (d) : (dats m y 0 c).before 4 t d = iblk m c 4 t := by
  unfold Dat.before; rw [if_pos (fetch0_4 t)]; unfold Dat.fetched Dat.blockOf iblk; dsimp only [dats]; rfl
theorem before_5 (d) : (dats m y 0 c).before 5 t d = iblk m c 5 t := by
  unfold Dat.before; rw [if_pos (fetch0_5 t)]; unfold Dat.fetched Dat.blockOf iblk; dsimp only [dats]; rfl
theorem before_6 (d) : (dats m y 0 c).before 6 t d = iblk m c 6 t := by
  unfold Dat.before; rw [if_pos (fetch0_6 t)]; unfold Dat.fetched Dat.blockOf iblk; dsimp only [dats]; rfl
theorem before_7 (d) : (dats m y 0 c).before 7 t d = iblk m c 7 t := by
  unfold Dat.before; rw [if_pos (fetch0_7 t)]; unfold Dat.fetched Dat.blockOf iblk; dsimp only [dats]; rfl
end Before

/-! ## The body at the region's one point -/

/-- The kernel on the staging buffers of point `t`. -/
theorem defs_tc : (defs₀ (F := F)) .tc cfg0.body
    = fun a => cc0__moe_kernel (F := F) (win0_0.stage (a.2 0)) (hstage0_0 0) (win0_1.stage (a.2 1)) (hstage0_1 0) (win0_2.stage (a.2 2)) (hstage0_2 0) (win0_3.stage (a.2 3)) (hstage0_3 0)
      (win0_4.stage (a.2 4)) (hstage0_4 0) (win0_5.stage (a.2 5)) (hstage0_5 0) (win0_6.stage (a.2 6)) (hstage0_6 0) (win0_7.stage (a.2 7)) (hstage0_7 0)
      (Memref.whole main_arg4) (Memref.isWhole_whole _) (Memref.whole main_arg6) (Memref.isWhole_whole _) (Memref.whole main_v7) (Memref.isWhole_whole _) (Memref.whole main_v8) (Memref.isWhole_whole _)
      (win0_8.stage (a.2 8)) (hstage0_8 0) (win0_9.stage (a.2 9)) (hstage0_9 0) (win0_10.stage (a.2 10)) (hstage0_10 0)
      (Memref.whole cc0_scratch0) (Memref.isWhole_whole _) (Memref.whole cc0_scratch1) (Memref.isWhole_whole _) (Memref.whole cc0_scratch2) (Memref.isWhole_whole _)
      (Memref.whole cc0_scratch3) (Memref.isWhole_whole _) (Memref.whole cc0_scratch4) (Memref.isWhole_whole _) (Memref.whole cc0_scratch5) (Memref.isWhole_whole _)
      (Memref.whole cc0_scratch6) (Memref.isWhole_whole _) (Memref.whole cc0_scratch7) (Memref.isWhole_whole _) (Memref.whole cc0_scratch8) (Memref.isWhole_whole _)
      cc0_scratch9 cc0_scratch10 cc0_scratch11 := rfl
theorem prog_eq (t : Fin cfg0.N) : (defs₀ (F := F)) .tc cfg0.body (cfg0.bodyArgs t (cfg0.slots t)) = bodyAt0 t :=
  (congrFun defs_tc _).trans rfl

/-- The input windows at point `t`, as the kernel reads them. -/
abbrev Ins (c : Dev nD) : sProp 𝕄 :=
  Reads c (st0_0 t0_0) (st0_1 t0_0) (st0_2 t0_0) (st0_3 t0_0) (st0_4 t0_0) (st0_5 t0_0) (st0_6 t0_0) (st0_7 t0_0) (fun _ => fullShare)
    (eTab m c) (aTab m c) (W2 m c) (W3 m c) (W4 m c) (W5 m c) (W6 m c) (W7 m c)

/-- A statement about the sum the kernel gathers, kept by every trip. -/
structure Kept (c : Dev nD) (P : (ℕ → BitVec 32) → ℕ → (S32x5120.Idx → Elt F .f32) → Prop) : Prop where
  zero : ∀ O0, P O0 0 (k0_pay35 (F := F))
  step : ∀ O0 j acc A' B, j < (order (masks (eTab m c) (aTab m c) 32) (eTab m c 0 0) O0 32).1.toNat →
      ∀ hv : ((order (masks (eTab m c) (aTab m c) 32) (eTab m c 0 0) O0 32).2 j).toNat < 32, P O0 j acc →
      FactA (vals m c) (fin32 ((order (masks (eTab m c) (aTab m c) 32) (eTab m c 0 0) O0 32).2 j)) (masks (eTab m c) (aTab m c) 32 ((order (masks (eTab m c) (aTab m c) 32) (eTab m c 0 0) O0 32).2 j).toNat) A' →
      FactB (vals m c) (fin32 ((order (masks (eTab m c) (aTab m c) 32) (eTab m c 0 0) O0 32).2 j)) (masks (eTab m c) (aTab m c) 32 ((order (masks (eTab m c) (aTab m c) 32) (eTab m c 0 0) O0 32).2 j).toNat) B →
      P O0 (j + 1) (stepAcc (scaleOf (W5 m c)) (k0_pay1 k0_pay36 (W4 m c)) (k0_pay33 (k0_pay32 (F := F) (W2 m c))) (k0_pay34 (W3 m c)) (codesOf (W5 m c)) (W5 m c)
        ((order (masks (eTab m c) (aTab m c) 32) (eTab m c 0 0) O0 32).2 j)
        (upVal (vals m c) (fin32 ((order (masks (eTab m c) (aTab m c) 32) (eTab m c 0 0) O0 32).2 j))) (dnVal (vals m c) (fin32 ((order (masks (eTab m c) (aTab m c) 32) (eTab m c 0 0) O0 32).2 j)))
        (row6 (W6 m c) ((order (masks (eTab m c) (aTab m c) 32) (eTab m c 0 0) O0 32).2 j) hv) (row7 (W7 m c) ((order (masks (eTab m c) (aTab m c) 32) (eTab m c 0 0) O0 32).2 j) hv) A' B acc)

theorem bodyRun (hR : RangeOK m) (c : Dev nD) (P : (ℕ → BitVec 32) → ℕ → (S32x5120.Idx → Elt F .f32) → Prop) (hP : Kept m c P) {W : Waits sig Unit} {Q : PUnit → sProp 𝕄} :
    iprop(Ins m c ∗ Mine m c ∗ anyAt (c : Thread nD τ) (st0_8 t0_0) ∗ anyAt (c : Thread nD τ) (st0_9 t0_0) ∗ anyAt (c : Thread nD τ) (st0_10 t0_0) ∗ owes (c : Thread nD τ) 0 W)
      ⊢ iprop((∀ O0 acc, iprop(⌜P O0 (order (masks (eTab m c) (aTab m c) 32) (eTab m c 0 0) O0 32).1.toNat acc⌝ ∗ Ins m c ∗ Mine m c ∗ owns (c : Thread nD τ) (st0_8 t0_0) fullShare (k0_pay4 acc)
            ∗ owns (c : Thread nD τ) (st0_9 t0_0) fullShare (codesOf (W5 m c)) ∗ owns (c : Thread nD τ) (st0_10 t0_0) fullShare (scaleOf (W5 m c)) ∗ (∃ W', owes (c : Thread nD τ) 0 W')) -∗ Q ⟨⟩) -∗
        wp frame (wpE (defs₀ (F := F)) Variants.none (c : Thread nD τ) none) Set.univ (bodyAt0 (F := F) t0_0) Q) :=
  wp_kernel Variants.none c none countersEmb (vals m c) _ _ _ _ _ _ _ _ _ _ _ _ _ _ _ _ _ _ _ _ _ _ _ _ _ _ _ _ _ _ _ _ _ _ _ _ _ _ _ _ _ _ _ _ _ _ _ _ _ _ _ (hR c) P hP.zero hP.step

theorem ins_eq (c : Dev nD) : (iprop(owns (c : Thread nD τ) (st0_0 t0_0) fullShare (iblk m c 0 t0_0) ∗ owns (c : Thread nD τ) (st0_1 t0_0) fullShare (iblk m c 1 t0_0)
      ∗ owns (c : Thread nD τ) (st0_2 t0_0) fullShare (iblk m c 2 t0_0) ∗ owns (c : Thread nD τ) (st0_3 t0_0) fullShare (iblk m c 3 t0_0)
      ∗ owns (c : Thread nD τ) (st0_4 t0_0) fullShare (iblk m c 4 t0_0) ∗ owns (c : Thread nD τ) (st0_5 t0_0) fullShare (iblk m c 5 t0_0)
      ∗ owns (c : Thread nD τ) (st0_6 t0_0) fullShare (iblk m c 6 t0_0) ∗ owns (c : Thread nD τ) (st0_7 t0_0) fullShare (iblk m c 7 t0_0)) : sProp 𝕄) = Ins m c := by
  unfold Ins Reads words2
  rw [← tab_eq (W0 m c), ← tab_eq (W1 m c)]

theorem ins_in (c : Dev nD) : (iprop(owns (c : Thread nD τ) (st0_0 t0_0) fullShare (iblk m c 0 t0_0) ∗ owns (c : Thread nD τ) (st0_1 t0_0) fullShare (iblk m c 1 t0_0)
      ∗ owns (c : Thread nD τ) (st0_2 t0_0) fullShare (iblk m c 2 t0_0) ∗ owns (c : Thread nD τ) (st0_3 t0_0) fullShare (iblk m c 3 t0_0)
      ∗ owns (c : Thread nD τ) (st0_4 t0_0) fullShare (iblk m c 4 t0_0) ∗ owns (c : Thread nD τ) (st0_5 t0_0) fullShare (iblk m c 5 t0_0)
      ∗ owns (c : Thread nD τ) (st0_6 t0_0) fullShare (iblk m c 6 t0_0) ∗ owns (c : Thread nD τ) (st0_7 t0_0) fullShare (iblk m c 7 t0_0)) : sProp 𝕄) ⊢ Ins m c := Entails.of_eq (ins_eq m c)
theorem ins_out (c : Dev nD) : Ins m c ⊢ (iprop(owns (c : Thread nD τ) (st0_0 t0_0) fullShare (iblk m c 0 t0_0) ∗ owns (c : Thread nD τ) (st0_1 t0_0) fullShare (iblk m c 1 t0_0)
      ∗ owns (c : Thread nD τ) (st0_2 t0_0) fullShare (iblk m c 2 t0_0) ∗ owns (c : Thread nD τ) (st0_3 t0_0) fullShare (iblk m c 3 t0_0)
      ∗ owns (c : Thread nD τ) (st0_4 t0_0) fullShare (iblk m c 4 t0_0) ∗ owns (c : Thread nD τ) (st0_5 t0_0) fullShare (iblk m c 5 t0_0)
      ∗ owns (c : Thread nD τ) (st0_6 t0_0) fullShare (iblk m c 6 t0_0) ∗ owns (c : Thread nD τ) (st0_7 t0_0) fullShare (iblk m c 7 t0_0)) : sProp 𝕄) := Entails.of_eq (ins_eq m c).symm

/-! ## @main around the region -/

set_option maxHeartbeats 800000 in
theorem hmainD : Pipeline.HMainK (Ix := Unit) (Name := ℕ) (U := UD sig nD τ) (Lvl := ℕ) cfgs 0 defs₀ Variants.none m (main (F := F)) (V m)
      (fun _ => Pipeline.chain ([hostOps1].map StableHlo.seq)) :=
  Pipeline.hmain_around cfgs 0 defs₀ Variants.none m main [hostOps0] [hostOps1] (by simp only [List.Forall]; exact hostOps0_sub)
    (by simp only [List.Forall]; exact hostOps0_fresh) main_chain

/-- The lines after the region touch none of the arrays the kernel's copies read. -/
theorem sfx_but : ∀ ops ∈ ([hostOps1] : List (List (HloOp τ sig (Elt F)))), ∀ op ∈ ops,
    op.bufs ⊆ Pipeline.tailRefsBut sig Pipeline.Prefetch.none spec0 Hbm := by
  intro ops hops op hop
  simp only [List.mem_cons, List.mem_nil_iff, or_false] at hops
  rcases hops with rfl
  refine Pipeline.sub_tailRefsBut Pipeline.Prefetch.none spec0 Hbm op ((List.forall_iff_forall_mem.mp hostOps1_sub) op hop) (fun j => j.elim0) ?_
  simp only [hostOps1, List.mem_cons, List.mem_nil_iff, or_false] at hop
  rcases hop with rfl | rfl | rfl
  all_goals intro b hb; simp only [Hbm, Finset.mem_insert, Finset.mem_singleton] at hb
  all_goals rcases hb with rfl | rfl | rfl | rfl <;>
    simp only [StableHlo.reshape_bufs, Finset.mem_insert, Finset.mem_singleton, not_or] <;> and_intros <;> exact StableHlo.devRef_ne_of_ne (by decide)

theorem sfx_writes : ∀ ops ∈ ([hostOps1] : List (List (HloOp τ sig (Elt F)))), ∀ op ∈ ops,
    ∀ b : Ref sig .tc, Proc.devRef .tc b ∈ op.writes → b ∈ Tail := by
  intro ops hops op hop
  simp only [List.mem_cons, List.mem_nil_iff, or_false] at hops
  rcases hops with rfl
  simp only [hostOps1, List.mem_cons, List.mem_nil_iff, or_false] at hop
  rcases hop with rfl | rfl | rfl
  all_goals intro b hb; simp only [StableHlo.reshape_writes, Finset.mem_singleton] at hb; cases Proc.devRef_injective _ hb; decide

end Cert.Proof.K

end
-- ==== Proof.K.Arrays.lean ====
module

public import proofs.«01_k».proof.Proof.K.Run
public import Idealize.ShloMosaic.Lib.StableHlo.ReadAt
public import Idealize.ShloMosaic.Lib.ValueLayout
public import Idealize.ShloMosaic.Lib.Pipeline.ValueKit.Geometry

@[expose] public section

/-!
# What the kernel's windows and rings read, element by element, from the program's arguments
-/

set_option maxRecDepth 16384

noncomputable section

namespace Cert.Proof.K

open Idealize.ShloMosaic hiding ix1 ix2 ix3 ix4
open Idealize.ShloMosaic.TcCoe Idealize.ShloMosaic.Tactic
open Idealize.SL Idealize.SL.Sem
open Idealize.ShloMosaic.ValueIdx
open Cert.Proof.Slots
open Cert.Kernel Cert.Kernel.Gen

variable {F : FTy → Type} [FloatOps F]
variable (m : (ℓ : Loc nD τ sig) → Buf (Elt F) ℓ) (c : Dev nD)

/-- The arguments. -/
abbrev argX : S32x1x5120.Idx → Elt F .bf16 := m ((c : Thread nD τ).loc main_arg0)
abbrev argE : S32x1x8.Idx → Elt F .i32 := m ((c : Thread nD τ).loc main_arg1)
abbrev argW : S32x1x8.Idx → Elt F .f32 := m ((c : Thread nD τ).loc main_arg2)
abbrev argA : S32.Idx → Elt F .i32 := m ((c : Thread nD τ).loc main_arg3)
abbrev argU : S32x5120x768.Idx → Elt F .fp8e4m3 := m ((c : Thread nD τ).loc main_arg4)
abbrev argUs : S32x768.Idx → Elt F .f32 := m ((c : Thread nD τ).loc main_arg5)
abbrev argD : S32x768x5120.Idx → Elt F .fp8e4m3 := m ((c : Thread nD τ).loc main_arg6)
abbrev argDs : S32x5120.Idx → Elt F .f32 := m ((c : Thread nD τ).loc main_arg7)
abbrev argLa : S32x8x5120x16.Idx → Elt F .bf16 := m ((c : Thread nD τ).loc main_arg8)
abbrev argLb : S32x8x16x768.Idx → Elt F .bf16 := m ((c : Thread nD τ).loc main_arg9)

theorem v1_at (k : Fin 8) (t : Fin 32) : V m c main_v1 (ix2 k t) = argE m c (ix3 t 0 k) := by
  unfold V V0
  after_reads_at
  rfl
theorem v3_at (k : Fin 8) (t : Fin 32) : V m c main_v3 (ix2 k t) = argW m c (ix3 t 0 k) := by
  unfold V V0
  after_reads_at
  rfl
theorem v9_at (t : Fin 32) : V m c main_v9 (ix2 (0 : Fin 1) t) = argA m c (ix1 t) := by
  unfold V V0
  after_reads_at
  rfl
theorem v10_at (t : Fin 32) : V m c main_v10 (ix2 t (0 : Fin 1)) = argA m c (ix1 t) := by
  unfold V V0
  after_reads_at
  rfl
theorem v11_at (t : Fin 32) (d : Fin 5120) : V m c main_v11 (ix2 t d) = argX m c (ix3 t 0 d) := by
  unfold V V0
  after_reads_at
  rfl
theorem v7_at (e : Fin 32) (a : Fin 8) (r : Fin 16) (d : Fin 5120) : V m c main_v7 (ix3 (rowNo e a) r d) = argLa m c (ix4 e a d r) := by
  unfold V V0
  after_reads_at
  have h : (rowNo e a).val = e.val * 8 + a.val := rfl
  refine congrArg (argLa m c) (funext fun i => ?_)
  match i with
  | ⟨0, _⟩ => exact Fin.ext (show (rowNo e a).val / 8 = e.val by omega)
  | ⟨1, _⟩ => exact Fin.ext (show (rowNo e a).val % 8 = a.val by omega)
  | ⟨2, _⟩ => rfl
  | ⟨3, _⟩ => rfl
theorem v8_at (e : Fin 32) (a : Fin 8) (r : Fin 16) (d : Fin 768) : V m c main_v8 (ix3 (rowNo e a) r d) = argLb m c (ix4 e a r d) := by
  unfold V V0
  after_reads_at
  have h : (rowNo e a).val = e.val * 8 + a.val := rfl
  refine congrArg (argLb m c) (funext fun i => ?_)
  match i with
  | ⟨0, _⟩ => exact Fin.ext (show (rowNo e a).val / 8 = e.val by omega)
  | ⟨1, _⟩ => exact Fin.ext (show (rowNo e a).val % 8 = a.val by omega)
  | ⟨2, _⟩ => rfl
  | ⟨3, _⟩ => rfl
theorem W0_at (k : Fin 8) (t : Fin 32) : W0 m c (ix2 k t) = argE m c (ix3 t 0 k) := by
  refine Eq.trans ?_ (v1_at m c k t)
  unfold W0
  blk_simp [iblk]
  refine congrArg _ (funext fun a => Fin.ext ?_)
  blk_simp
  fin_cases a <;> simp <;> rfl
theorem W1_at (t : Fin 32) : W1 m c (ix2 (0 : Fin 1) t) = argA m c (ix1 t) := by
  refine Eq.trans ?_ (v9_at m c t)
  unfold W1
  blk_simp [iblk]
  refine congrArg _ (funext fun a => Fin.ext ?_)
  blk_simp
  fin_cases a <;> simp <;> rfl
theorem W2_at (k : Fin 8) (t : Fin 32) : W2 m c (ix2 k t) = argE m c (ix3 t 0 k) := by
  refine Eq.trans ?_ (v1_at m c k t)
  unfold W2
  blk_simp [iblk]
  refine congrArg _ (funext fun a => Fin.ext ?_)
  blk_simp
  fin_cases a <;> simp <;> rfl
theorem W3_at (k : Fin 8) (t : Fin 32) : W3 m c (ix2 k t) = argW m c (ix3 t 0 k) := by
  refine Eq.trans ?_ (v3_at m c k t)
  unfold W3
  blk_simp [iblk]
  refine congrArg _ (funext fun a => Fin.ext ?_)
  blk_simp
  fin_cases a <;> simp <;> rfl
theorem W4_at (t : Fin 32) : W4 m c (ix2 t (0 : Fin 1)) = argA m c (ix1 t) := by
  refine Eq.trans ?_ (v10_at m c t)
  unfold W4
  blk_simp [iblk]
  refine congrArg _ (funext fun a => Fin.ext ?_)
  blk_simp
  fin_cases a <;> simp <;> rfl
theorem W5_at (t : Fin 32) (d : Fin 5120) : W5 m c (ix2 t d) = argX m c (ix3 t 0 d) := by
  refine Eq.trans ?_ (v11_at m c t d)
  unfold W5
  blk_simp [iblk]
  refine congrArg _ (funext fun a => Fin.ext ?_)
  blk_simp
  fin_cases a <;> simp <;> rfl
theorem W6_at (t : Fin 32) (d : Fin 768) : W6 m c (ix2 t d) = argUs m c (ix2 t d) := by
  refine Eq.trans ?_ ((congrFun (V_main_arg5 m c) _))
  unfold W6
  blk_simp [iblk]
  refine congrArg _ (funext fun a => Fin.ext ?_)
  blk_simp
  fin_cases a <;> simp <;> rfl
theorem W7_at (t : Fin 32) (d : Fin 5120) : W7 m c (ix2 t d) = argDs m c (ix2 t d) := by
  refine Eq.trans ?_ ((congrFun (V_main_arg7 m c) _))
  unfold W7
  blk_simp [iblk]
  refine congrArg _ (funext fun a => Fin.ext ?_)
  blk_simp
  fin_cases a <;> simp <;> rfl

end Cert.Proof.K

end
-- ==== Proof.Routing.lean ====
module

public import proofs.«01_k».proof.Pre_routing_ok
public import Idealize.ShloMosaic.Lib.ValueLayout

@[expose] public section

/-!
# What the precondition says of the routing arrays

The predicate `routing_ok` all ones: the expert numbers are below 32, the adapter numbers between -1 and 7, and the
eight expert numbers of a token are different ones.
-/

noncomputable section

namespace Cert.Proof.Routing

open Idealize.ShloMosaic
open Idealize.ShloMosaic.ValueIdx
open Cert.Pre_routing_ok

/-- The routing in words: expert `E t k` of token `t`'s place `k`, adapter `A t` of token `t`. -/
structure Ok (E : Fin 32 → Fin 8 → BitVec 32) (A : Fin 32 → BitVec 32) : Prop where
  expert : ∀ t k, (E t k).toNat < 32
  adapter : ∀ t, -1 ≤ (A t).toInt ∧ (A t).toInt < 8
  distinct : ∀ t i j, i ≠ j → E t i ≠ E t j

theorem cmp_places : ∀ i j : Fin 8, IntOp.cmpi .eq (BitVec.ofNat 32 i) (BitVec.ofNat 32 j) = BitVec.ofBool (decide (i = j)) := by decide

theorem ok_of_fn [Facts] {F : FTy → Type} [FloatOps F] (a0 : FVec F S32x1x5120 .bf16) (a1 : IVec S32x1x8 32) (a2 : FVec F S32x1x8 .f32)
    (a3 : IVec S32 32) (a4 : FVec F S32x5120x768 .fp8e4m3) (a5 : FVec F S32x768 .f32) (a6 : FVec F S32x768x5120 .fp8e4m3)
    (a7 : FVec F S32x5120 .f32) (a8 : FVec F S32x8x5120x16 .bf16) (a9 : FVec F S32x8x16x768 .bf16)
    (h : fn a0 a1 a2 a3 a4 a5 a6 a7 a8 a9 = fun _ => 1#1) : Ok (fun t k => a1 (ix3 t 0 k)) (fun t => a3 (ix1 t)) := by
  have ha : ∀ (p q : Bool), IntOp.andi (BitVec.ofBool p) (BitVec.ofBool q) = BitVec.ofBool (p && q) := by
    intro p q; cases p <;> cases q <;> decide
  have hr : ∀ (p q : Bool), IntOp.ori (BitVec.ofBool p) (BitVec.ofBool q) = BitVec.ofBool (p || q) := by
    intro p q; cases p <;> cases q <;> decide
  have ho : ∀ p : Bool, (BitVec.ofBool p = 1#1) ↔ p = true := fun p => by cases p <;> decide
  have key : ∀ (t : Fin 32) (i j : Fin 8), ((0 ≤ (a1 (ix3 t 0 i)).toInt ∧ (a1 (ix3 t 0 i)).toInt < 32) ∧ (-1 ≤ (a3 (ix1 t)).toInt ∧ (a3 (ix1 t)).toInt < 8))
      ∧ (a1 (ix3 t 0 i) ≠ a1 (ix3 t 0 j) ∨ i = j) := by
    intro t i j
    have e := congrFun h (ix4 t 0 i j)
    have e1 : ∀ (w : BitVec 32), IntOp.cmpi .sge w 0#32 = BitVec.ofBool (decide (0 ≤ w.toInt)) := fun w => by
      simp [IntOp.cmpi, BitVec.sle_eq_decide]
    have e2 : ∀ (w : BitVec 32), IntOp.cmpi .slt w 32#32 = BitVec.ofBool (decide (w.toInt < 32)) := fun w => by
      simp [IntOp.cmpi, BitVec.slt_eq_decide]
    have e3 : ∀ (w : BitVec 32), IntOp.cmpi .sge w 4294967295#32 = BitVec.ofBool (decide (-1 ≤ w.toInt)) := fun w => by
      simp [IntOp.cmpi, BitVec.sle_eq_decide]
    have e4 : ∀ (w : BitVec 32), IntOp.cmpi .slt w 8#32 = BitVec.ofBool (decide (w.toInt < 8)) := fun w => by
      simp [IntOp.cmpi, BitVec.slt_eq_decide]
    simp only [fn, fn_part1, andi, ori, cmpi, broadcastInDim, constantI, iotaInDim] at e
    have e' : IntOp.andi (IntOp.andi (IntOp.andi (IntOp.cmpi .sge (a1 (ix3 t 0 i)) 0#32) (IntOp.cmpi .slt (a1 (ix3 t 0 i)) 32#32))
        (IntOp.andi (IntOp.cmpi .sge (a3 (ix1 t)) 4294967295#32) (IntOp.cmpi .slt (a3 (ix1 t)) 8#32)))
        (IntOp.ori (IntOp.cmpi .ne (a1 (ix3 t 0 i)) (a1 (ix3 t 0 j))) (IntOp.cmpi .eq (BitVec.ofNat 32 i) (BitVec.ofNat 32 j))) = 1#1 := by
      refine Eq.trans ?_ e
      refine congrArg₂ IntOp.andi (congrArg₂ IntOp.andi (congrArg₂ IntOp.andi (congrArg (IntOp.cmpi .sge · 0#32) (congrArg a1 ?_))
        (congrArg (IntOp.cmpi .slt · 32#32) (congrArg a1 ?_))) (congrArg₂ IntOp.andi (congrArg (IntOp.cmpi .sge · 4294967295#32) (congrArg a3 ?_))
        (congrArg (IntOp.cmpi .slt · 8#32) (congrArg a3 ?_)))) (congrArg₂ IntOp.ori (congrArg₂ (IntOp.cmpi .ne) (congrArg a1 ?_) (congrArg a1 ?_)) ?_)
      all_goals first | rfl | (funext a; fin_cases a <;> rfl)
    have e5 : IntOp.cmpi .ne (a1 (ix3 t 0 i)) (a1 (ix3 t 0 j)) = BitVec.ofBool (decide (a1 (ix3 t 0 i) ≠ a1 (ix3 t 0 j))) := by
      simp [IntOp.cmpi, bne, Bool.beq_eq_decide_eq]
    have e6 : IntOp.cmpi .eq (BitVec.ofNat 32 i) (BitVec.ofNat 32 j) = BitVec.ofBool (decide (i = j)) := by
      exact cmp_places i j
    simpa only [e1, e2, e3, e4, e5, e6, ha, hr, ho, Bool.and_eq_true, Bool.or_eq_true, decide_eq_true_eq] using e'
  refine ⟨fun t k => ?_, fun t => (key t 0 0).1.2, fun t i j hij => (key t i j).2.resolve_right hij⟩
  have := (key t k k).1.1
  have hw := (a1 (ix3 t 0 k)).isLt
  rw [BitVec.toInt_eq_toNat_cond] at this
  split at this <;> omega

end Cert.Proof.Routing

end
-- ==== Proof.K.Given.lean ====
module

public import proofs.«01_k».proof.Proof.K.Arrays
public import proofs.«01_k».proof.Proof.Routing

@[expose] public section

/-!
# The precondition, read at the program's arguments
-/

set_option maxRecDepth 16384

noncomputable section

namespace Cert.Proof.K

open Idealize.ShloMosaic hiding ix1 ix2 ix3 ix4
open Idealize.ShloMosaic.TcCoe Idealize.ShloMosaic.Tactic
open Idealize.ShloMosaic.ValueIdx
open Cert.Kernel Cert.Kernel.Gen

variable {F : FTy → Type} [FloatOps F] [Cert.Pre_routing_ok.Facts]
variable (m : (ℓ : Loc nD τ sig) → Buf (Elt F) ℓ)

/-- The predicate `routing_ok` is all ones of the arguments. -/
def Given : Prop := ∀ c : Dev nD, Cert.Pre_routing_ok.fn (F := F) (argX m c) (argE m c) (argW m c) (argA m c) (argU m c) (argUs m c) (argD m c)
  (argDs m c) (argLa m c) (argLb m c) = fun _ => 1#1

variable {m}

theorem routing (h : Given m) (c : Dev nD) : Routing.Ok (fun t k => argE m c (ix3 t 0 k)) (fun t => argA m c (ix1 t)) :=
  Routing.ok_of_fn _ _ _ _ _ _ _ _ _ _ (h c)

theorem eTab_at (c : Dev nD) (k t : ℕ) (hk : k < 8) (ht : t < 32) : eTab m c k t = argE m c (ix3 ⟨t, ht⟩ 0 ⟨k, hk⟩) := by
  show tab (W0 m c) k t = _
  unfold tab
  rw [dif_pos ⟨hk, ht⟩]
  exact W0_at m c ⟨k, hk⟩ ⟨t, ht⟩

theorem aTab_at (c : Dev nD) (t : ℕ) (ht : t < 32) : aTab m c 0 t = argA m c (ix1 ⟨t, ht⟩) := by
  show tab (W1 m c) 0 t = _
  unfold tab
  rw [dif_pos ⟨Nat.one_pos, ht⟩]
  exact W1_at m c ⟨t, ht⟩

theorem rangeOK (h : Given m) : RangeOK m := fun c k t hk ht => by
  rw [eTab_at c k t hk ht]
  exact (routing h c).expert ⟨t, ht⟩ ⟨k, hk⟩

end Cert.Proof.K

end
-- ==== Proof.K.Forget.lean ====
module

public import proofs.«01_k».proof.Proof.K.Run
public import proofs.«01_k».proof.Proof.Gen.Kernel.Frame
public import Idealize.ShloMosaic.Lib.Pipeline.FrameSuffixR

@[expose] public section

/-!
# The kernel's run, its results not named
-/

set_option maxRecDepth 16384

noncomputable section

namespace Cert.Proof.K

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat BodyObligationLoose UD ΦD)
open Cert.Proof.Copies Cert.Proof.Words Cert.Proof.Tables Cert.Proof.Slots Cert.Proof.RingState Cert.Proof.Nums
open Cert.Kernel Cert.Kernel.Gen

variable {F : FTy → Type} [FloatOps F]

local notation "𝕄" => MT nD τ sig Unit (Elt F) ℕ (UD sig nD τ) ℕ

variable (m : (ℓ : Loc nD τ sig) → Buf (Elt F) ℓ) (ρ : Dev nD → PrngReg)

/-- Nothing is said of the three results. -/
def forgets : Fin 11 → Bool := fun w => decide (8 ≤ w.val)
theorem forgets_lo : forgets 0 = false ∧ forgets 1 = false ∧ forgets 2 = false ∧ forgets 3 = false ∧ forgets 4 = false ∧ forgets 5 = false ∧ forgets 6 = false ∧ forgets 7 = false := by decide
theorem forgets_hi : forgets 8 = true ∧ forgets 9 = true ∧ forgets 10 = true := by decide

variable (y : Dev nD → S32x5120.Idx → Elt F .bf16)

theorem kept_true (c : Dev nD) : Kept m c (fun _ _ _ => True) := ⟨fun _ => trivial, fun _ _ _ _ _ _ _ _ _ _ => trivial⟩

set_option backward.isDefEq.respectTransparency.types false in
theorem obligation (hR : RangeOK m) (c : Dev nD) : BodyObligationLoose (dats (F := F) m y 0 c) (defs₀ (F := F)) Variants.none () Set.univ forgets := fun t => by
  obtain rfl : t = t0_0 := fin_N0 t
  rw [bigSep_W0, bigSep_W0]
  dsimp only
  simp only [forgets_lo, forgets_hi]
  simp only [before_0, before_1, before_2, before_3, before_4, before_5, before_6, before_7]
  rw [show (dats m y 0 c).Φ t0_0.castSucc = ΦD osem spec0 Hbm (V m) c from rfl, show (dats m y 0 c).Φ t0_0.succ = ΦD osem spec0 Hbm (V m) c from rfl]
  unfold Dat.owesAt Pipeline.owesWithin
  rw [show (dats m y 0 c).owed t0_0.castSucc = 0 from rfl, show (dats m y 0 c).owed t0_0.succ = 0 from rfl]
  iintro ⟨HΦ, ⟨%W, -, HW⟩, ⟨%d0, I0⟩, ⟨%d1, I1⟩, ⟨%d2, I2⟩, ⟨%d3, I3⟩, ⟨%d4, I4⟩, ⟨%d5, I5⟩, ⟨%d6, I6⟩, ⟨%d7, I7⟩, ⟨%X8, O8⟩, ⟨%X9, O9⟩, ⟨%X10, O10⟩⟩
  ihave HΦ := (mine_in m c) $$ HΦ
  icases HΦ with ⟨Hp, HM⟩
  sl_rw [prog_eq t0_0]
  iapply (bodyRun m hR c _ (kept_true m c)) $$ [I0 I1 I2 I3 I4 I5 I6 I7 O8 O9 O10 HM HW]
  · isplitl [I0 I1 I2 I3 I4 I5 I6 I7]
    · iapply (ins_in m c)
      isplitl [I0]; · iexact I0
      isplitl [I1]; · iexact I1
      isplitl [I2]; · iexact I2
      isplitl [I3]; · iexact I3
      isplitl [I4]; · iexact I4
      isplitl [I5]; · iexact I5
      isplitl [I6]; · iexact I6
      iexact I7
    isplitl [HM]; · iexact HM
    isplitl [O8]; · iapply (anyAt_of (c : Thread nD τ) (st0_8 t0_0) _); iexact O8
    isplitl [O9]; · iapply (anyAt_of (c : Thread nD τ) (st0_9 t0_0) _); iexact O9
    isplitl [O10]; · iapply (anyAt_of (c : Thread nD τ) (st0_10 t0_0) _); iexact O10
    iexact HW
  iintro %O0 %acc ⟨%hacc, HI, HM, O8, O9, O10, HW⟩
  ihave HI := (ins_out m c) $$ HI
  icases HI with ⟨I0, I1, I2, I3, I4, I5, I6, I7⟩
  isplitl [HM Hp]
  · iapply (mine_out m c)
    isplitl [Hp]; · iexact Hp
    iexact HM
  isplitl [HW]
  · icases HW with ⟨%W', HW⟩
    iexists W'; isplitr; · ipureintro; exact fun _ _ => Or.inl trivial
    iexact HW
  isplitl [I0]; · iexact I0
  isplitl [I1]; · iexact I1
  isplitl [I2]; · iexact I2
  isplitl [I3]; · iexact I3
  isplitl [I4]; · iexact I4
  isplitl [I5]; · iexact I5
  isplitl [I6]; · iexact I6
  isplitl [I7]; · iexact I7
  isplitl [O8]; · iexists _; iexact O8
  isplitl [O9]; · iexists _; iexact O9
  iexists _; iexact O10

set_option backward.isDefEq.respectTransparency.types false in
/-- From any memory whose expert numbers are in range the program runs to its end, every semaphore back at zero and every argument unchanged. -/
theorem run_main (hR : RangeOK m) : θ_run defs (onTc (τ := τ) (main (F := F))) (s₀ m ρ)
    (fun r => RDat.FramePostR cfg0 (fun c => (dats m y 0 c).toRForget forgets) Tail (fun c b => V0 m c (Proc.devRef .tc b)) r ∧ r.2.sem = fun _ => 0) :=
  Pipeline.θ_run_frame_dma_around_T_forget_shared cfgs (dats m y) (0 : Fin 1) launch₀0 osem defs₀ Variants.none forgets ownSemFacts Hbm Tail hbm_sub m ρ main
    (hbody := fun c => obligation m y hR c) (hq := fun _ _ _ => rfl) (howed := fun _ _ => rfl) (V₀ := V0 m) (opss := [hostOps1])
    (hsub := sfx_but) (hfresh := sfx_fresh) (hkeep := sfx_keeps) (hT := sfx_writes) (hmain := hmainD m) (hA := fun _ _ => rfl)
    (hin := fun _ => .rfl) (hout := fun _ => .rfl) (Q' := fun r => RDat.FramePostR cfg0 (fun c => (dats m y 0 c).toRForget forgets) Tail (fun c b => V0 m c (Proc.devRef .tc b)) r ∧ r.2.sem = fun _ => 0) (hQ' := fun _ h => h)

theorem frame (hR : RangeOK m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  (θ_run defs _ _).mono (fun _ h => ⟨fun c => ⟨
      ((h.1 c).2 main_arg0 (by decide)).trans (V_main_arg0 m c),
      ((h.1 c).2 main_arg1 (by decide)).trans (V_main_arg1 m c),
      ((h.1 c).2 main_arg2 (by decide)).trans (V_main_arg2 m c),
      ((h.1 c).2 main_arg3 (by decide)).trans (V_main_arg3 m c),
      ((h.1 c).2 main_arg4 (by decide)).trans (V_main_arg4 m c),
      (RDat.FramePostR.arr_in h.1 c 6 rfl).trans (V_main_arg5 m c),
      ((h.1 c).2 main_arg6 (by decide)).trans (V_main_arg6 m c),
      (RDat.FramePostR.arr_in h.1 c 7 rfl).trans (V_main_arg7 m c),
      ((h.1 c).2 main_arg8 (by decide)).trans (V_main_arg8 m c),
      ((h.1 c).2 main_arg9 (by decide)).trans (V_main_arg9 m c)⟩, h.2⟩) (run_main m ρ (fun _ _ => Scalar.ofBits .bf16 0) hR)

end Cert.Proof.K

end
-- ==== Proof.KI.Control.lean ====
module

public import proofs.«01_k».proof.Proof.Words
public import proofs.«01_k».proof.Proof.Tables
public import proofs.«01_k».proof.Proof.RingState
public import proofs.«01_k».proof.Proof.Gen.KernelIdeal.Skeleton

@[expose] public section

/-!
# The loops that build the adapter masks and the order of the experts
-/

set_option maxRecDepth 16384

noncomputable section

namespace Cert.Proof.KI

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Proof.Copies Cert.Proof.Words Cert.Proof.Tables Cert.Proof.Slots Cert.Proof.RingState
open Cert.KernelIdeal Cert.KernelIdeal.Gen

variable {F : FTy → Type} [FloatOps F] {U : Type} [URA U]

local notation "𝕄" => MT nD τ sig Unit (Elt F) ℕ U ℕ

variable {defs : Defs nD τ sig (Elt F) Λ₀} (𝒱 : Variants) (c : Dev nD) (bd : Option 𝒱.V)
variable (arg0 : Memref sig .tc .smem S8x32 .i32) (harg0 : arg0.IsWhole) (arg1 : Memref sig .tc .smem S1x32 .i32) (harg1 : arg1.IsWhole) (arg2 : Memref sig .tc .vmem S8x32 .i32) (harg2 : arg2.IsWhole) (arg3 : Memref sig .tc .vmem S8x32 .f32) (harg3 : arg3.IsWhole) (arg4 : Memref sig .tc .vmem S32x1 .i32) (harg4 : arg4.IsWhole) (arg5 : Memref sig .tc .vmem S32x5120 .bf16) (harg5 : arg5.IsWhole) (arg6 : Memref sig .tc .vmem S32x768 .f32) (harg6 : arg6.IsWhole) (arg7 : Memref sig .tc .vmem S32x5120 .f32) (harg7 : arg7.IsWhole) (arg8 : Memref sig .tc .hbm S32x5120x768 .fp8e4m3) (harg8 : arg8.IsWhole) (arg9 : Memref sig .tc .hbm S32x768x5120 .fp8e4m3) (harg9 : arg9.IsWhole) (arg10 : Memref sig .tc .hbm S256x16x5120 .bf16) (harg10 : arg10.IsWhole) (arg11 : Memref sig .tc .hbm S256x16x768 .bf16) (harg11 : arg11.IsWhole) (arg12 : Memref sig .tc .vmem S32x5120 .bf16) (harg12 : arg12.IsWhole) (arg13 : Memref sig .tc .vmem S32x5120 .fp8e4m3) (harg13 : arg13.IsWhole) (arg14 : Memref sig .tc .vmem S32x1 .f32) (harg14 : arg14.IsWhole) (arg15 : Memref sig .tc .vmem S4x5120x768 .fp8e4m3) (harg15 : arg15.IsWhole) (arg16 : Memref sig .tc .vmem S4x768x5120 .fp8e4m3) (harg16 : arg16.IsWhole) (arg17 : Memref sig .tc .vmem S4x8x16x5120 .bf16) (harg17 : arg17.IsWhole) (arg18 : Memref sig .tc .vmem S4x8x16x768 .bf16) (harg18 : arg18.IsWhole) (arg19 : Memref sig .tc .vmem S32x8 .i32) (harg19 : arg19.IsWhole) (arg20 : Memref sig .tc .vmem S32x8 .f32) (harg20 : arg20.IsWhole) (arg21 : Memref sig .tc .vmem S32x5120 .f32) (harg21 : arg21.IsWhole) (arg22 : Memref sig .tc .smem S32 .i32) (harg22 : arg22.IsWhole) (arg23 : Memref sig .tc .smem S33 .i32) (harg23 : arg23.IsWhole) (arg24 : DmaSems sig S4) (arg25 : DmaSems sig S4) (arg26 : DmaSems sig S4)

theorem t1_trips : k0_t1_loop.trips = 32 := by decide
theorem t2_trips : k0_t2_loop.trips = 32 := by decide
theorem t3_trips : k0_t3_loop.trips = 32 := by decide

/-- The first loop writes zero to every mask. -/
theorem wp_t1 {Q : Unit → sProp (MT nD τ sig Unit (Elt F) ℕ U ℕ)} :
    (anyAt (c : Thread nD τ) arg22 : sProp 𝕄)
      ⊢ iprop((words c arg22 fullShare (fun _ => (0#32 : BitVec 32)) -∗ Q ()) -∗
        wp frame (wpE defs 𝒱 (c : Thread nD τ) bd) Set.univ (Scf.Loop.for k0_t1_loop k0_t1_ok ⟨⟩ (k0_t1_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 arg25 arg26)) Q) := by
  have hstep : ∀ (t : Fin (Scf.trips k0_t1_loop.lb k0_t1_loop.ub k0_t1_loop.st)) (a : Unit), iprop(∃ M : ℕ → BitVec 32, ⌜∀ j, j < t.val → M j = 0#32⌝ ∗ words c arg22 fullShare M)
      ⊢ wp frame (wpE defs 𝒱 (c : Thread nD τ) bd) Set.univ (k0_t1_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 arg25 arg26 t a)
        (fun _ => iprop(∃ M : ℕ → BitVec 32, ⌜∀ j, j < t.val + 1 → M j = 0#32⌝ ∗ (words c arg22 fullShare M : sProp 𝕄))) := by
    intro t _
    iintro ⟨%M, %hM, H⟩
    sl_unfold [k0_t1_body]
    iapply (wp_word 𝒱 c bd) $$ H
    iintro H
    iapply (wp_setWord 𝒱 c bd) $$ H
    iintro H
    iapply (wp_done 𝒱 c bd ())
    iexists _
    isplitr
    rotate_left
    · iexact H
    · ipureintro
      have ht : t.val < 32 := lt_of_lt_of_eq t.isLt t1_trips
      have ho : k0_off3 t 0 = t.val := iv01 t.val ht
      rw [ho]
      intro j hj
      by_cases h : j = t.val
      · subst h; rw [Function.update_self]
      · rw [Function.update_of_ne h]; exact hM j (by omega)
  iintro H HQ
  ihave H := (anyAt_words c arg22) $$ H
  icases H with ⟨%M0, H⟩
  iapply (Scf.wp_for frame (wpE defs 𝒱 (c : Thread nD τ) bd) Set.univ k0_t1_loop.lb k0_t1_loop.ub k0_t1_loop.st k0_t1_ok ⟨⟩ (k0_t1_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 arg25 arg26)
    (fun t _ => iprop(∃ M : ℕ → BitVec 32, ⌜∀ j, j < t → M j = 0#32⌝ ∗ words c arg22 fullShare M)) hstep)
  isplitl [H]
  · iexists M0
    isplitr
    · ipureintro; intro j hj; omega
    · iexact H
  · iintro %a ⟨%M, %hM, H⟩
    iapply HQ
    iapply (words_congr c arg22 fullShare M (fun _ => 0#32) (fun j hj => hM j (by have := t1_trips; change j < k0_t1_loop.trips; omega)))
    iexact H

/-- One word's bits go into a mask. -/
theorem wp_or {α : Type} {Q : α → sProp (MT nD τ sig Unit (Elt F) ℕ U ℕ)} {m : Memref sig .tc .smem S32 .i32} {off : Fin 1 → ℕ} {inb} {M : ℕ → BitVec 32} {e w : BitVec 32}
    {k : PUnit → Prog (TpuEff nD τ sig (Elt F) Λ₀ (c : Thread nD τ).2) α} (he : off 0 = e.toNat) :
    (words c m fullShare M : sProp 𝕄)
      ⊢ iprop((words c m fullShare (orAt M e w) -∗ wp frame (wpE defs 𝒱 (c : Thread nD τ) bd) Set.univ (k ⟨⟩) Q) -∗
        wp frame (wpE defs 𝒱 (c : Thread nD τ) bd) Set.univ
          (smemLoad m (Rect.unit (s := S32) off S1.size inb) numel1_S1 rfl >>= fun v =>
            smemLoad m (Rect.unit (s := S32) off S1.size inb) numel1_S1 rfl >>= fun _ =>
              .op (.store m (Rect.unit (s := S32) off S1.size inb) (fun _ => (Scalar.ori v w : BitVec 32)) Finset.univ (View.stores_smem_one rfl numel1_S1) (.inl rfl)) k) Q) := by
  iintro H HQ
  iapply (wp_word 𝒱 c bd) $$ H
  iintro H
  iapply (wp_word 𝒱 c bd) $$ H
  iintro H
  iapply (wp_setWord 𝒱 c bd) $$ H
  iintro H
  have h : Function.update M (off 0) (Scalar.ori (M (off 0)) w) = orAt M e w := by unfold orAt; rw [he]
  iapply HQ
  ihave H := (show words c m fullShare (Function.update M (off 0) (Scalar.ori (M (off 0)) w)) ⊢ (words c m fullShare (orAt M e w) : sProp 𝕄) from by rw [h]) $$ H
  iexact H

theorem chk_of (e : BitVec 32) (h : e.toNat < 32) : ∀ a : Fin 1, (![e.toNat] : Fin 1 → ℕ) a + S1.size a ≤ S32.size a := by
  intro a; fin_cases a; show e.toNat + 1 ≤ 32; omega

/-- The second loop sets, token by token, the token's bit in the masks of its experts. -/
theorem wp_t2 {Q : Unit → sProp (MT nD τ sig Unit (Elt F) ℕ U ℕ)} (q0 q1 : PosShare TreeShare) (E A : ℕ → ℕ → BitVec 32) (hE : ∀ k t, k < 8 → t < 32 → (E k t).toNat < 32) :
    (iprop(words2 c arg0 q0 E ∗ words2 c arg1 q1 A ∗ words c arg22 fullShare (fun _ => (0#32 : BitVec 32))) : sProp 𝕄)
      ⊢ iprop((iprop(words2 c arg0 q0 E ∗ words2 c arg1 q1 A ∗ words c arg22 fullShare (masks E A 32)) -∗ Q ()) -∗
        wp frame (wpE defs 𝒱 (c : Thread nD τ) bd) Set.univ (Scf.Loop.for k0_t2_loop k0_t2_ok ⟨⟩ (k0_t2_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 arg25 arg26)) Q) := by
  have hstep : ∀ (t : Fin (Scf.trips k0_t2_loop.lb k0_t2_loop.ub k0_t2_loop.st)) (a : Unit),
      iprop(words2 c arg0 q0 E ∗ words2 c arg1 q1 A ∗ words c arg22 fullShare (masks E A t.val))
      ⊢ wp frame (wpE defs 𝒱 (c : Thread nD τ) bd) Set.univ (k0_t2_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 arg25 arg26 t a)
        (fun _ => iprop(words2 c arg0 q0 E ∗ words2 c arg1 q1 A ∗ (words c arg22 fullShare (masks E A (t.val + 1)) : sProp 𝕄))) := by
    intro t _
    have ht : t.val < 32 := lt_of_lt_of_eq t.isLt t2_trips
    have hiv : (iv t.val).toNat = t.val := iv01 t.val ht
    have hw : A 0 (iv t.val).toNat = A 0 t.val := by rw [hiv]
    have hk : ∀ k, E k (iv t.val).toNat = E k t.val := by intro k; rw [hiv]
    have hlt : ∀ k, k < 8 → (E k (iv t.val).toNat).toNat < 32 := by intro k h; rw [hiv]; exact hE k _ h ht
    have hend : orAt (orAt (orAt (orAt (orAt (orAt (orAt (orAt (masks E A t.val) (E 0 (iv t.val).toNat) (bitOf (A 0 (iv t.val).toNat))) (E 1 (iv t.val).toNat) (bitOf (A 0 (iv t.val).toNat))) (E 2 (iv t.val).toNat) (bitOf (A 0 (iv t.val).toNat)))
        (E 3 (iv t.val).toNat) (bitOf (A 0 (iv t.val).toNat))) (E 4 (iv t.val).toNat) (bitOf (A 0 (iv t.val).toNat))) (E 5 (iv t.val).toNat) (bitOf (A 0 (iv t.val).toNat))) (E 6 (iv t.val).toNat) (bitOf (A 0 (iv t.val).toNat))) (E 7 (iv t.val).toNat) (bitOf (A 0 (iv t.val).toNat))
        = masks E A (t.val + 1) := by rw [hw, hk, hk, hk, hk, hk, hk, hk, hk]; rfl
    iintro ⟨H0, H1, H⟩
    sl_unfold [k0_t2_body]
    irw [wp_bind]
    irw [k0_part1_eq_skeleton]
    sl_unfold [k0_part1_skel]
    iapply (wp_word2 𝒱 c bd) $$ H1
    iintro H1
    iapply (wp_word2 𝒱 c bd) $$ H0
    iintro H0
    iapply (wp_assume 𝒱 (c : Thread nD τ) bd Set.univ (chk_of _ (hlt 0 (by decide))))
    iapply (wp_or 𝒱 c bd (e := E 0 (iv t.val).toNat) (w := bitOf (A 0 (iv t.val).toNat)) rfl) $$ H
    iintro H
    iapply (wp_word2 𝒱 c bd) $$ H0
    iintro H0
    iapply (wp_assume 𝒱 (c : Thread nD τ) bd Set.univ (chk_of _ (hlt 1 (by decide))))
    iapply (wp_or 𝒱 c bd (e := E 1 (iv t.val).toNat) (w := bitOf (A 0 (iv t.val).toNat)) rfl) $$ H
    iintro H
    iapply (wp_word2 𝒱 c bd) $$ H0
    iintro H0
    iapply (wp_assume 𝒱 (c : Thread nD τ) bd Set.univ (chk_of _ (hlt 2 (by decide))))
    iapply (wp_or 𝒱 c bd (e := E 2 (iv t.val).toNat) (w := bitOf (A 0 (iv t.val).toNat)) rfl) $$ H
    iintro H
    iapply (wp_word2 𝒱 c bd) $$ H0
    iintro H0
    iapply (wp_assume 𝒱 (c : Thread nD τ) bd Set.univ (chk_of _ (hlt 3 (by decide))))
    iapply (wp_or 𝒱 c bd (e := E 3 (iv t.val).toNat) (w := bitOf (A 0 (iv t.val).toNat)) rfl) $$ H
    iintro H
    iapply (wp_word2 𝒱 c bd) $$ H0
    iintro H0
    iapply (wp_assume 𝒱 (c : Thread nD τ) bd Set.univ (chk_of _ (hlt 4 (by decide))))
    iapply (wp_or 𝒱 c bd (e := E 4 (iv t.val).toNat) (w := bitOf (A 0 (iv t.val).toNat)) rfl) $$ H
    iintro H
    iapply (wp_done 𝒱 c bd)
    iapply (wp_word2 𝒱 c bd) $$ H0
    iintro H0
    iapply (wp_assume 𝒱 (c : Thread nD τ) bd Set.univ (chk_of _ (hlt 5 (by decide))))
    iapply (wp_or 𝒱 c bd (e := E 5 (iv t.val).toNat) (w := bitOf (A 0 (iv t.val).toNat)) rfl) $$ H
    iintro H
    iapply (wp_word2 𝒱 c bd) $$ H0
    iintro H0
    iapply (wp_assume 𝒱 (c : Thread nD τ) bd Set.univ (chk_of _ (hlt 6 (by decide))))
    iapply (wp_or 𝒱 c bd (e := E 6 (iv t.val).toNat) (w := bitOf (A 0 (iv t.val).toNat)) rfl) $$ H
    iintro H
    iapply (wp_word2 𝒱 c bd) $$ H0
    iintro H0
    iapply (wp_assume 𝒱 (c : Thread nD τ) bd Set.univ (chk_of _ (hlt 7 (by decide))))
    iapply (wp_or 𝒱 c bd (e := E 7 (iv t.val).toNat) (w := bitOf (A 0 (iv t.val).toNat)) rfl) $$ H
    iintro H
    iapply (wp_done 𝒱 c bd ())
    isplitl [H0]
    · iexact H0
    isplitl [H1]
    · iexact H1
    · ihave H := (Entails.of_eq (congrArg (fun M => (words c arg22 fullShare M : sProp 𝕄)) hend)) $$ H
      iexact H
  iintro ⟨H0, H1, H⟩ HQ
  iapply (Scf.wp_for frame (wpE defs 𝒱 (c : Thread nD τ) bd) Set.univ k0_t2_loop.lb k0_t2_loop.ub k0_t2_loop.st k0_t2_ok ⟨⟩ (k0_t2_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 arg25 arg26)
    (fun t _ => iprop(words2 c arg0 q0 E ∗ words2 c arg1 q1 A ∗ words c arg22 fullShare (masks E A t))) hstep)
  isplitl [H0 H1 H]
  · isplitl [H0]
    · iexact H0
    isplitl [H1]
    · iexact H1
    · iexact H
  · iintro %a ⟨H0, H1, H⟩
    iapply HQ
    isplitl [H0]
    · iexact H0
    isplitl [H1]
    · iexact H1
    · iexact H

theorem chk10_of (n : BitVec 32) (h : n.toNat < 33) : k0_chk10 n := by
  intro a
  fin_cases a
  show n.toNat + 1 ≤ 33
  exact h

/-- The third loop lists the experts that have work: `v0` first, then the others by number. -/
theorem wp_t3 {q2 : PosShare TreeShare} {M O0 : ℕ → BitVec 32} {v0 : BitVec 32} {hw : k0_chk1 v0} {Q : BitVec 32 → sProp (MT nD τ sig Unit (Elt F) ℕ U ℕ)} :
    iprop(words c arg22 q2 M ∗ words c arg23 fullShare (Function.update O0 0 v0))
      ⊢ iprop((words c arg22 q2 M ∗ words c arg23 fullShare (order M v0 O0 32).2 -∗ Q (order M v0 O0 32).1) -∗
        wp frame (wpE defs 𝒱 (c : Thread nD τ) bd) Set.univ (Scf.Loop.for k0_t3_loop k0_t3_ok 1#32 (k0_t3_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 arg25 arg26 v0 hw 1#32 0#32 1#32)) Q) := by
  have hstep : ∀ (t : Fin (Scf.trips k0_t3_loop.lb k0_t3_loop.ub k0_t3_loop.st)) (a : BitVec 32),
      iprop(⌜a = (order M v0 O0 t.val).1⌝ ∗ words c arg22 q2 M ∗ words c arg23 fullShare (order M v0 O0 t.val).2)
      ⊢ wp frame (wpE defs 𝒱 (c : Thread nD τ) bd) Set.univ (k0_t3_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 arg25 arg26 v0 hw 1#32 0#32 1#32 t a)
        (fun a => iprop(⌜a = (order M v0 O0 (t.val + 1)).1⌝ ∗ words c arg22 q2 M ∗ (words c arg23 fullShare (order M v0 O0 (t.val + 1)).2 : sProp 𝕄))) := by
    intro t a
    have ht : t.val < 32 := lt_of_lt_of_eq t.isLt t3_trips
    have ho := order_le M v0 O0 t.val (by omega)
    have hs : Scalar.addi (order M v0 O0 t.val).1 (Scalar.select (Scalar.andi (Scalar.cmpi .ne (M (k0_off22 t 0)) 0#32) (Scalar.cmpi .ne (iv t.val) v0)) 1#32 0#32)
        = (order M v0 O0 (t.val + 1)).1 := by
      have ho : k0_off22 t 0 = t.val := iv01 t.val ht
      rw [ho]
      rfl
    have he : Function.update (order M v0 O0 t.val).2 (k0_off21 (order M v0 O0 t.val).1 0) (iv t.val) = (order M v0 O0 (t.val + 1)).2 := rfl
    iintro ⟨%ha, HM, H⟩
    subst ha
    sl_unfold [k0_t3_body]
    iapply (wp_assume 𝒱 (c : Thread nD τ) bd Set.univ (chk10_of _ (by omega)))
    iapply (wp_word 𝒱 c bd) $$ H
    iintro H
    iapply (wp_setWord 𝒱 c bd) $$ H
    iintro H
    iapply (wp_word 𝒱 c bd) $$ HM
    iintro HM
    iapply (wp_done 𝒱 c bd)
    isplitr
    · ipureintro
      exact hs
    isplitl [HM]
    · iexact HM
    · ihave H := (Entails.of_eq (congrArg (fun M => (words c arg23 fullShare M : sProp 𝕄)) he)) $$ H
      iexact H
  iintro ⟨HM, H⟩ HQ
  iapply (Scf.wp_for frame (wpE defs 𝒱 (c : Thread nD τ) bd) Set.univ k0_t3_loop.lb k0_t3_loop.ub k0_t3_loop.st k0_t3_ok (1#32 : BitVec 32) (k0_t3_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 arg25 arg26 v0 hw 1#32 0#32 1#32)
    (fun t a => iprop(⌜a = (order M v0 O0 t).1⌝ ∗ words c arg22 q2 M ∗ words c arg23 fullShare (order M v0 O0 t).2)) hstep)
  isplitl [H HM]
  · isplitr
    · ipureintro; rfl
    isplitl [HM]
    · iexact HM
    · iexact H
  · iintro %a ⟨%ha, HM, H⟩
    have ha' : a = (order M v0 O0 32).1 := ha
    subst ha'
    iapply HQ
    isplitl [HM]
    · iexact HM
    · iexact H

end Cert.Proof.KI
-- ==== Proof.KI.Checks.lean ====
module

public import proofs.«01_k».proof.Proof.Nums
public import proofs.«01_k».proof.Proof.Gen.KernelIdeal.Skeleton

@[expose] public section

/-!
# The side conditions of the kernel's offsets

They hold for expert ids below 32 and at most 33 experts in the order.
-/

set_option maxRecDepth 16384

noncomputable section

namespace Cert.Proof.KI

open Idealize.ShloMosaic
open Cert.Proof.Tables Cert.Proof.Nums
open Cert.KernelIdeal Cert.KernelIdeal.Gen

theorem t4_trips (v : BitVec 32) (h : v.toNat < 34) : (k0_t4_loop v).trips = v.toNat := by
  have : ∀ n : Fin 34, (k0_t4_loop (BitVec.ofNat 32 n.val)).trips = n.val := by decide
  have := this ⟨v.toNat, h⟩
  rwa [ofNat_toNat] at this

theorem t5_trips (v : BitVec 32) (h : v.toNat < 34) : (k0_t5_loop v).trips = 0 := by
  have : ∀ n : Fin 34, (k0_t5_loop (BitVec.ofNat 32 n.val)).trips = 0 := by decide
  have := this ⟨v.toNat, h⟩
  rwa [ofNat_toNat] at this

theorem t4_ok (v : BitVec 32) (h : v.toNat < 34) : (k0_t4_loop v).OK := by
  have : ∀ n : Fin 34, (k0_t4_loop (BitVec.ofNat 32 n.val)).OK := by decide
  have := this ⟨v.toNat, h⟩
  rwa [ofNat_toNat] at this

theorem t5_ok (v : BitVec 32) (h : v.toNat < 34) : (k0_t5_loop v).OK := by
  have : ∀ n : Fin 34, (k0_t5_loop (BitVec.ofNat 32 n.val)).OK := by decide
  have := this ⟨v.toNat, h⟩
  rwa [ofNat_toNat] at this

theorem chk1 (v : BitVec 32) (hv : v.toNat < 32) : k0_chk1 v := by
  have h : v.toNat + 1 ≤ 32 := hv
  unfold k0_chk1
  repeat' refine And.intro ?_ ?_
  all_goals intros
  all_goals first
    | exact Affine.words_rows (by decide) rfl rfl
    | (rename_i a; fin_cases a <;> first | exact Nat.le_of_eq rfl | exact Nat.le_of_ble_eq_true rfl | exact h)

theorem chk11 (v m : BitVec 32) (hv : v.toNat < 32) : k0_chk11 v m := by
  have r0 := row_le v hv 0 (by decide)
  have r1 := row_le v hv 1 (by decide)
  have r2 := row_le v hv 2 (by decide)
  have r3 := row_le v hv 3 (by decide)
  have r4 := row_le v hv 4 (by decide)
  have r5 := row_le v hv 5 (by decide)
  have r6 := row_le v hv 6 (by decide)
  have r7 := row_le v hv 7 (by decide)
  unfold k0_chk11
  repeat' refine And.intro ?_ ?_
  all_goals intros
  all_goals first
    | exact Affine.words_rows (by decide) rfl rfl
    | (rename_i a; fin_cases a <;> first | exact Nat.le_of_eq rfl | exact Nat.le_of_ble_eq_true rfl | exact r0 | exact r1 | exact r2 | exact r3 | exact r4 | exact r5 | exact r6 | exact r7)

theorem chk12 (n v : BitVec 32) (hv : v.toNat < 32) : k0_chk12 n v := by
  have h : v.toNat + 1 ≤ 32 := hv
  unfold k0_chk12
  repeat' refine And.intro ?_ ?_
  all_goals intros
  all_goals first
    | exact Affine.words_rows (by decide) rfl rfl
    | (rename_i a; fin_cases a <;> first | exact Nat.le_of_eq rfl | exact Nat.le_of_ble_eq_true rfl | exact h)

set_option maxHeartbeats 2000000 in
theorem chk14 (n v : BitVec 32) (hv : v.toNat < 32) : k0_chk14 n v := by
  have h : v.toNat + 1 ≤ 32 := hv
  unfold k0_chk14
  repeat' refine And.intro ?_ ?_
  all_goals intros
  all_goals first
    | exact Affine.words_rows (by decide) rfl rfl
    | (rename_i a; fin_cases a <;> first | exact Nat.le_of_eq rfl | exact Nat.le_of_ble_eq_true rfl | exact h)

set_option maxHeartbeats 2000000 in
theorem chk13 (n v m : BitVec 32) (hv : v.toNat < 32) : k0_chk13 n v m := by
  have r0 := row_le v hv 0 (by decide)
  have r1 := row_le v hv 1 (by decide)
  have r2 := row_le v hv 2 (by decide)
  have r3 := row_le v hv 3 (by decide)
  have r4 := row_le v hv 4 (by decide)
  have r5 := row_le v hv 5 (by decide)
  have r6 := row_le v hv 6 (by decide)
  have r7 := row_le v hv 7 (by decide)
  unfold k0_chk13
  repeat' refine And.intro ?_ ?_
  all_goals intros
  all_goals first
    | exact Affine.words_rows (by decide) rfl rfl
    | (rename_i a; fin_cases a <;> first | exact Nat.le_of_eq rfl | exact Nat.le_of_ble_eq_true rfl | exact r0 | exact r1 | exact r2 | exact r3 | exact r4 | exact r5 | exact r6 | exact r7)

set_option maxHeartbeats 2000000 in
theorem chk15 (n v m : BitVec 32) (hv : v.toNat < 32) : k0_chk15 n v m := by
  have r0 := row_le v hv 0 (by decide)
  have r1 := row_le v hv 1 (by decide)
  have r2 := row_le v hv 2 (by decide)
  have r3 := row_le v hv 3 (by decide)
  have r4 := row_le v hv 4 (by decide)
  have r5 := row_le v hv 5 (by decide)
  have r6 := row_le v hv 6 (by decide)
  have r7 := row_le v hv 7 (by decide)
  unfold k0_chk15
  repeat' refine And.intro ?_ ?_
  all_goals intros
  all_goals first
    | exact Affine.words_rows (by decide) rfl rfl
    | (rename_i a; fin_cases a <;> first | exact Nat.le_of_eq rfl | exact Nat.le_of_ble_eq_true rfl | exact r0 | exact r1 | exact r2 | exact r3 | exact r4 | exact r5 | exact r6 | exact r7)

set_option maxHeartbeats 2000000 in
theorem chk17 (n : BitVec 32) (hn : n.toNat ≤ 33) (t : Fin (k0_t4_loop n).trips) (v : BitVec 32) (hv : v.toNat < 32) : k0_chk17 n t v := by
  have ht : t.val < 33 := lt_of_lt_of_le t.isLt (by rw [t4_trips n (by omega)]; omega)
  have s0 : (Scalar.remsi (iv t.val) 4#32).toNat + 1 ≤ 4 := by rw [slot_now t.val (by omega)]; omega
  have s3 : (Scalar.remsi (Scalar.subi (Scalar.addi (iv t.val) 4#32) 1#32) 4#32).toNat + 1 ≤ 4 := by rw [slot_next t.val (by omega)]; omega
  have h : v.toNat + 1 ≤ 32 := hv
  unfold k0_chk17
  repeat' refine And.intro ?_ ?_
  all_goals intros
  all_goals first
    | exact Affine.words_rows (by decide) rfl rfl
    | (rename_i a; fin_cases a <;> first | exact Nat.le_of_eq rfl | exact Nat.le_of_ble_eq_true rfl | exact h | exact s3)

theorem chk19 (v : BitVec 32) (hv : v.toNat < 32) : k0_chk19 v := by
  have h : v.toNat + 1 ≤ 32 := hv
  unfold k0_chk19
  repeat' refine And.intro ?_ ?_
  all_goals intros
  all_goals first
    | exact Affine.words_rows (by decide) rfl rfl
    | (rename_i a; fin_cases a <;> first | exact Nat.le_of_eq rfl | exact Nat.le_of_ble_eq_true rfl | exact h)

set_option maxHeartbeats 2000000 in
theorem chk18 (n : BitVec 32) (hn : n.toNat ≤ 33) (t : Fin (k0_t4_loop n).trips) (v : BitVec 32) (hv : v.toNat < 32) (m : BitVec 32) : k0_chk18 n t v m := by
  have ht : t.val < 33 := lt_of_lt_of_le t.isLt (by rw [t4_trips n (by omega)]; omega)
  have s0 : (Scalar.remsi (iv t.val) 4#32).toNat + 1 ≤ 4 := by rw [slot_now t.val (by omega)]; omega
  have s3 : (Scalar.remsi (Scalar.subi (Scalar.addi (iv t.val) 4#32) 1#32) 4#32).toNat + 1 ≤ 4 := by rw [slot_next t.val (by omega)]; omega
  have h : v.toNat + 1 ≤ 32 := hv
  have r0 := row_le v hv 0 (by decide)
  have r1 := row_le v hv 1 (by decide)
  have r2 := row_le v hv 2 (by decide)
  have r3 := row_le v hv 3 (by decide)
  have r4 := row_le v hv 4 (by decide)
  have r5 := row_le v hv 5 (by decide)
  have r6 := row_le v hv 6 (by decide)
  have r7 := row_le v hv 7 (by decide)
  unfold k0_chk18 k0_chk18_0 k0_chk18_1 k0_chk18_2
  repeat' refine And.intro ?_ ?_
  all_goals intros
  all_goals first
    | exact Affine.words_rows (by decide) rfl rfl
    | (rename_i a; fin_cases a <;> first | exact Nat.le_of_eq rfl | exact Nat.le_of_ble_eq_true rfl | exact h | exact s3 | exact r0 | exact r1 | exact r2 | exact r3 | exact r4 | exact r5 | exact r6 | exact r7)

set_option maxHeartbeats 2000000 in
theorem chk20 (n : BitVec 32) (hn : n.toNat ≤ 33) (t : Fin (k0_t4_loop n).trips) (v : BitVec 32) (hv : v.toNat < 32) (m : BitVec 32) : k0_chk20 n t v m := by
  have ht : t.val < 33 := lt_of_lt_of_le t.isLt (by rw [t4_trips n (by omega)]; omega)
  have s0 : (Scalar.remsi (iv t.val) 4#32).toNat + 1 ≤ 4 := by rw [slot_now t.val (by omega)]; omega
  have s3 : (Scalar.remsi (Scalar.subi (Scalar.addi (iv t.val) 4#32) 1#32) 4#32).toNat + 1 ≤ 4 := by rw [slot_next t.val (by omega)]; omega
  have h : v.toNat + 1 ≤ 32 := hv
  have r0 := row_le v hv 0 (by decide)
  have r1 := row_le v hv 1 (by decide)
  have r2 := row_le v hv 2 (by decide)
  have r3 := row_le v hv 3 (by decide)
  have r4 := row_le v hv 4 (by decide)
  have r5 := row_le v hv 5 (by decide)
  have r6 := row_le v hv 6 (by decide)
  have r7 := row_le v hv 7 (by decide)
  unfold k0_chk20 k0_chk20_0 k0_chk20_1 k0_chk20_2
  repeat' refine And.intro ?_ ?_
  all_goals intros
  all_goals first
    | exact Affine.words_rows (by decide) rfl rfl
    | (rename_i a; fin_cases a <;> first | exact Nat.le_of_eq rfl | exact Nat.le_of_ble_eq_true rfl | exact h | exact s0 | exact r0 | exact r1 | exact r2 | exact r3 | exact r4 | exact r5 | exact r6 | exact r7)

set_option maxHeartbeats 2000000 in
theorem chk16 (n : BitVec 32) (hn : n.toNat ≤ 33) : k0_chk16 n := by
  have hs : ∀ t : Fin (k0_t4_loop n).trips, t.val < n.toNat ∧ (iv t.val).toNat + 1 ≤ 33 ∧ (Scalar.remsi (iv t.val) 4#32).toNat + 1 ≤ 4
      ∧ (Scalar.remsi (Scalar.subi (Scalar.addi (iv t.val) 4#32) 1#32) 4#32).toNat + 1 ≤ 4
      ∧ (k0_cond27 n t = 1#1 → (Scalar.subi (Scalar.addi (iv t.val) 4#32) 1#32).toNat + 1 ≤ 33) := by
    intro t
    have ht : t.val < n.toNat := lt_of_lt_of_le t.isLt (by rw [t4_trips n (by omega)])
    refine ⟨ht, ?_, ?_, ?_, ?_⟩
    · rw [iv_eq, BitVec.toNat_ofNat]; omega
    · rw [slot_now t.val (by omega)]; omega
    · rw [slot_next t.val (by omega)]; omega
    · intro h
      have := (more t.val (by omega) n (by omega)).mp h
      rw [next t.val (by omega)]; omega
  have h5' : ∀ t : Fin (k0_t5_loop n).trips, False := fun t => absurd (lt_of_lt_of_eq t.isLt (t5_trips n (by omega))) (Nat.not_lt_zero _)
  unfold k0_chk16 k0_chk16_0 k0_chk16_1
  rw [eq_true (t4_ok n (by omega)), eq_true (t5_ok n (by omega))]
  repeat' refine And.intro ?_ ?_
  all_goals first
    | exact True.intro
    | (intro t; with_reducible exact (h5' t).elim)
    | skip
  all_goals intro t
  all_goals obtain ⟨-, h1, h2, h3, h4⟩ := hs t
  all_goals intros
  all_goals first
    | exact Affine.words_rows (by decide) rfl rfl
    | (rename_i hc a; replace h4 := h4 hc; fin_cases a <;> first | exact Nat.le_of_eq rfl | exact Nat.le_of_ble_eq_true rfl | exact h1 | exact h2 | exact h3 | exact h4)
    | (rename_i a; fin_cases a <;> first | exact Nat.le_of_eq rfl | exact Nat.le_of_ble_eq_true rfl | exact h1 | exact h2 | exact h3)

end Cert.Proof.KI
-- ==== Proof.KI.Start.lean ====
module

public import proofs.«01_k».proof.Proof.KI.Control
public import proofs.«01_k».proof.Proof.KI.Checks
public import proofs.«01_k».proof.Proof.Pairs

@[expose] public section

/-!
# The kernel up to its loop over experts: the copies of the first expert
-/

set_option maxRecDepth 16384

noncomputable section

namespace Cert.Proof.KI

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Proof.Copies Cert.Proof.Words Cert.Proof.Tables Cert.Proof.Slots Cert.Proof.RingState Cert.Proof.Nums
open Cert.KernelIdeal Cert.KernelIdeal.Gen

variable {F : FTy → Type} [FloatOps F] {U : Type} [URA U]

local notation "𝕄" => MT nD τ sig Unit (Elt F) ℕ U ℕ

variable {defs : Defs nD τ sig (Elt F) Λ₀} (𝒱 : Variants) (c : Dev nD) (bd : Option 𝒱.V)
variable (EC : UEmb Counters (MT nD τ sig Unit (Elt F) ℕ U ℕ)) [EC.LandsIn (upEmb : UEmb _ (MT nD τ sig Unit (Elt F) ℕ U ℕ))]
variable (V : Vals (Elt F))
variable (arg0 : Memref sig .tc .smem S8x32 .i32) (harg0 : arg0.IsWhole) (arg1 : Memref sig .tc .smem S1x32 .i32) (harg1 : arg1.IsWhole) (arg2 : Memref sig .tc .vmem S8x32 .i32) (harg2 : arg2.IsWhole) (arg3 : Memref sig .tc .vmem S8x32 .f32) (harg3 : arg3.IsWhole) (arg4 : Memref sig .tc .vmem S32x1 .i32) (harg4 : arg4.IsWhole) (arg5 : Memref sig .tc .vmem S32x5120 .bf16) (harg5 : arg5.IsWhole) (arg6 : Memref sig .tc .vmem S32x768 .f32) (harg6 : arg6.IsWhole) (arg7 : Memref sig .tc .vmem S32x5120 .f32) (harg7 : arg7.IsWhole) (arg8 : Memref sig .tc .hbm S32x5120x768 .fp8e4m3) (harg8 : arg8.IsWhole) (arg9 : Memref sig .tc .hbm S32x768x5120 .fp8e4m3) (harg9 : arg9.IsWhole) (arg10 : Memref sig .tc .hbm S256x16x5120 .bf16) (harg10 : arg10.IsWhole) (arg11 : Memref sig .tc .hbm S256x16x768 .bf16) (harg11 : arg11.IsWhole) (arg12 : Memref sig .tc .vmem S32x5120 .bf16) (harg12 : arg12.IsWhole) (arg13 : Memref sig .tc .vmem S32x5120 .fp8e4m3) (harg13 : arg13.IsWhole) (arg14 : Memref sig .tc .vmem S32x1 .f32) (harg14 : arg14.IsWhole) (arg15 : Memref sig .tc .vmem S4x5120x768 .fp8e4m3) (harg15 : arg15.IsWhole) (arg16 : Memref sig .tc .vmem S4x768x5120 .fp8e4m3) (harg16 : arg16.IsWhole) (arg17 : Memref sig .tc .vmem S4x8x16x5120 .bf16) (harg17 : arg17.IsWhole) (arg18 : Memref sig .tc .vmem S4x8x16x768 .bf16) (harg18 : arg18.IsWhole) (arg19 : Memref sig .tc .vmem S32x8 .i32) (harg19 : arg19.IsWhole) (arg20 : Memref sig .tc .vmem S32x8 .f32) (harg20 : arg20.IsWhole) (arg21 : Memref sig .tc .vmem S32x5120 .f32) (harg21 : arg21.IsWhole) (arg22 : Memref sig .tc .smem S32 .i32) (harg22 : arg22.IsWhole) (arg23 : Memref sig .tc .smem S33 .i32) (harg23 : arg23.IsWhole) (arg24 : DmaSems sig S4) (arg25 : DmaSems sig S4) (arg26 : DmaSems sig S4)

theorem owns_of_anyAt {sp : Space} {sh : Shape} {e : EltTy} (m : Memref sig .tc sp sh e) :
    (anyAt (c : Thread nD τ) m : sProp 𝕄) ⊢ iprop(∃ X, owns (c : Thread nD τ) m fullShare X) := .rfl

theorem wp_part14 {q0 q1 : PosShare TreeShare} {E A : ℕ → ℕ → BitVec 32} (hE : ∀ k t, k < 8 → t < 32 → (E k t).toNat < 32)
    {Q : (Σ' (v0 : Elt F .i32) (k0_hw1 : k0_chk1 v0) (c1_i32_23 : BitVec 32) (c0_i32_24 : BitVec 32), BitVec 32) → sProp (MT nD τ sig Unit (Elt F) ℕ U ℕ)} :
    iprop(words2 c arg0 q0 E ∗ words2 c arg1 q1 A ∗ anyAt (c : Thread nD τ) arg22 ∗ anyAt (c : Thread nD τ) arg23 ∗ anyAt (c : Thread nD τ) arg18
        ∗ IdleU c (Bufs.mk arg8 arg9 arg10 arg11 arg15 arg16 arg17 arg18 arg24 arg25 arg26) V qs 0 ∗ IdleD c (Bufs.mk arg8 arg9 arg10 arg11 arg15 arg16 arg17 arg18 arg24 arg25 arg26) V qs 0)
      ⊢ iprop((∀ O0 : ℕ → BitVec 32, words2 c arg0 q0 E ∗ words2 c arg1 q1 A ∗ words c arg22 fullShare (masks E A 32)
            ∗ words c arg23 fullShare (Function.update O0 0 (E 0 0)) ∗ anyAt (c : Thread nD τ) arg18
            ∗ BusyU c EC (Bufs.mk arg8 arg9 arg10 arg11 arg15 arg16 arg17 arg18 arg24 arg25 arg26) V qs 0 (fin32 (E 0 0)) ∗ BusyD c EC (Bufs.mk arg8 arg9 arg10 arg11 arg15 arg16 arg17 arg18 arg24 arg25 arg26) V qs 0 (fin32 (E 0 0))
            -∗ Q ⟨E 0 0, chk1 _ (hE 0 0 (by decide) (by decide)), 1#32, 0#32, 1#32⟩) -∗
        wp frame (wpE defs 𝒱 (c : Thread nD τ) bd) Set.univ (k0_part14 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 arg25 arg26) Q) := by
  have h0 := hE 0 0 (by decide) (by decide)
  have ho1 : k0_off1 (E 0 0) = ![(fin32 (E 0 0)).val, 0, 0] := by rw [fin32_val _ h0]; rfl
  have ho2 : k0_off2 (E 0 0) = ![(fin32 (E 0 0)).val, 0, 0] := by rw [fin32_val _ h0]; rfl
  rw [k0_part14_eq_skeleton]
  iintro ⟨H0, H1, H22, H23, H18, HU, HD⟩ HQ
  sl_unfold [k0_part14_skel]
  iapply (wp_word2 𝒱 c bd) $$ H0
  iintro H0
  iapply (wp_assume 𝒱 (c : Thread nD τ) bd Set.univ (chk1 _ h0))
  iapply (wp_startU 𝒱 c bd EC (Bufs.mk arg8 arg9 arg10 arg11 arg15 arg16 arg17 arg18 arg24 arg25 arg26) V qs 0 (fin32 (E 0 0)) ho1 rfl rfl) $$ HU
  iintro HU
  iapply (wp_startD 𝒱 c bd EC (Bufs.mk arg8 arg9 arg10 arg11 arg15 arg16 arg17 arg18 arg24 arg25 arg26) V qs 0 (fin32 (E 0 0)) ho2 rfl rfl) $$ HD
  iintro HD
  ihave H18 := (owns_of_anyAt c arg18) $$ H18
  icases H18 with ⟨%X, H18⟩
  iapply (wp_load_owns 𝒱 (c : Thread nD τ) bd) $$ H18
  iintro H18
  iapply (wp_store_owns 𝒱 (c : Thread nD τ) bd (fun _ => rfl)) $$ H18
  iintro H18
  iapply (wp_retBind 𝒱 c bd)
  iapply (wp_seq 𝒱 c bd)
  iapply (wp_t1 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 arg25 arg26) $$ H22
  iintro H22
  iapply (wp_seq 𝒱 c bd)
  iapply (wp_t2 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 arg25 arg26 q0 q1 E A hE) $$ [H0 H1 H22]
  · isplitl [H0]
    · iexact H0
    isplitl [H1]
    · iexact H1
    · iexact H22
  iintro ⟨H0, H1, H22⟩
  ihave H23 := (anyAt_words c arg23) $$ H23
  icases H23 with ⟨%O0, H23⟩
  iapply (wp_word 𝒱 c bd) $$ H23
  iintro H23
  iapply (wp_setWord 𝒱 c bd) $$ H23
  iintro H23
  iapply (wp_done 𝒱 c bd)
  iapply (show Q ⟨E 0 0, chk1 _ h0, 1#32, 0#32, 1#32⟩ ⊢ Q ⟨E ((![0, 0] : Fin 2 → ℕ) 0) ((![0, 0] : Fin 2 → ℕ) 1), chk1 _ h0, 1#32, 0#32, 1#32⟩ from .rfl)
  iapply HQ
  isplitl [H0]
  · iexact H0
  isplitl [H1]
  · iexact H1
  isplitl [H22]
  · iexact H22
  isplitl [H23]
  · iexact H23
  isplitl [H18]
  · iapply (anyAt_of (c : Thread nD τ) arg18) $$ H18
  isplitl [HU]
  · iexact HU
  · iexact HD

theorem wp_part15 {q2 : PosShare TreeShare} {M O0 : ℕ → BitVec 32} {v0 : BitVec 32} (h0 : v0.toNat < 32) {hw : k0_chk1 v0}
    {Q : (Σ' (v21 : BitVec 32) (k0_hw16 : k0_chk16 v21) (v23 : Elt F .i32) (k0_hw11 : k0_chk11 v0 v23), BitVec 32) → sProp (MT nD τ sig Unit (Elt F) ℕ U ℕ)} :
    iprop(words c arg22 q2 M ∗ words c arg23 fullShare (Function.update O0 0 v0)
        ∗ Starting c EC (Bufs.mk arg8 arg9 arg10 arg11 arg15 arg16 arg17 arg18 arg24 arg25 arg26) V qLs 0 (fin32 v0) (M v0.toNat) 0)
      ⊢ iprop((words c arg22 q2 M ∗ words c arg23 fullShare (order M v0 O0 32).2
            ∗ Starting c EC (Bufs.mk arg8 arg9 arg10 arg11 arg15 arg16 arg17 arg18 arg24 arg25 arg26) V qLs 0 (fin32 v0) (M v0.toNat) 5
            -∗ Q ⟨(order M v0 O0 32).1, chk16 _ (order_le M v0 O0 32 (le_refl _)).2, M (k0_off23 v0 0), chk11 _ _ h0,
              Scalar.andi (Scalar.shrsi (M (k0_off23 v0 0)) 6#32) 1#32⟩) -∗
        wp frame (wpE defs 𝒱 (c : Thread nD τ) bd) Set.univ (k0_part15 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 arg25 arg26 v0 hw 1#32 0#32 1#32) Q) := by
  rw [k0_part15_eq_skeleton]
  iintro ⟨H22, H23, HS⟩ HQ
  sl_unfold [k0_part15_skel]
  iapply (wp_seq 𝒱 c bd)
  iapply (wp_t3 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 arg25 arg26) $$ [H22 H23]
  · isplitl [H22]
    · iexact H22
    · iexact H23
  iintro ⟨H22, H23⟩
  iapply (wp_assume 𝒱 (c : Thread nD τ) bd Set.univ (chk16 _ (order_le M v0 O0 32 (le_refl _)).2))
  iapply (wp_word 𝒱 c bd) $$ H22
  iintro H22
  iapply (wp_assume 𝒱 (c : Thread nD τ) bd Set.univ (chk11 _ _ h0))
  iapply (wp_retBind 𝒱 c bd)
  iapply (wp_startNo 𝒱 c bd EC (Bufs.mk arg8 arg9 arg10 arg11 arg15 arg16 arg17 arg18 arg24 arg25 arg26) V qLs 0 (fin32 v0) (M v0.toNat) 0 1 (by decide) rfl (C := k0_cond1 (M (k0_off23 v0 0)) = 1#1) Iff.rfl
    (oA := k0_off24 v0) (oB := k0_off25 v0) (pA := ![0, 0, 0, 0]) (pB := ![0, 0, 0, 0]) (oS := ![0]) (oS' := ![0])
    (fun _ => row_off v0 h0 0 (by decide)) (fun _ => row_off v0 h0 0 (by decide)) (fun _ => rfl) (fun _ => rfl) (fun _ => rfl) (fun _ => rfl)) $$ HS
  iintro HS
  iapply (wp_retBind 𝒱 c bd)
  iapply (wp_startNo 𝒱 c bd EC (Bufs.mk arg8 arg9 arg10 arg11 arg15 arg16 arg17 arg18 arg24 arg25 arg26) V qLs 0 (fin32 v0) (M v0.toNat) 1 2 (by decide) rfl (C := k0_cond2 (M (k0_off23 v0 0)) = 1#1) Iff.rfl
    (oA := k0_off26 v0) (oB := k0_off27 v0) (pA := ![0, 1, 0, 0]) (pB := ![0, 1, 0, 0]) (oS := ![0]) (oS' := ![0])
    (fun _ => row_off v0 h0 1 (by decide)) (fun _ => row_off v0 h0 1 (by decide)) (fun _ => rfl) (fun _ => rfl) (fun _ => rfl) (fun _ => rfl)) $$ HS
  iintro HS
  iapply (wp_retBind 𝒱 c bd)
  iapply (wp_startNo 𝒱 c bd EC (Bufs.mk arg8 arg9 arg10 arg11 arg15 arg16 arg17 arg18 arg24 arg25 arg26) V qLs 0 (fin32 v0) (M v0.toNat) 2 3 (by decide) rfl (C := k0_cond3 (M (k0_off23 v0 0)) = 1#1) Iff.rfl
    (oA := k0_off28 v0) (oB := k0_off29 v0) (pA := ![0, 2, 0, 0]) (pB := ![0, 2, 0, 0]) (oS := ![0]) (oS' := ![0])
    (fun _ => row_off v0 h0 2 (by decide)) (fun _ => row_off v0 h0 2 (by decide)) (fun _ => rfl) (fun _ => rfl) (fun _ => rfl) (fun _ => rfl)) $$ HS
  iintro HS
  iapply (wp_retBind 𝒱 c bd)
  iapply (wp_startNo 𝒱 c bd EC (Bufs.mk arg8 arg9 arg10 arg11 arg15 arg16 arg17 arg18 arg24 arg25 arg26) V qLs 0 (fin32 v0) (M v0.toNat) 3 4 (by decide) rfl (C := k0_cond4 (M (k0_off23 v0 0)) = 1#1) Iff.rfl
    (oA := k0_off30 v0) (oB := k0_off31 v0) (pA := ![0, 3, 0, 0]) (pB := ![0, 3, 0, 0]) (oS := ![0]) (oS' := ![0])
    (fun _ => row_off v0 h0 3 (by decide)) (fun _ => row_off v0 h0 3 (by decide)) (fun _ => rfl) (fun _ => rfl) (fun _ => rfl) (fun _ => rfl)) $$ HS
  iintro HS
  iapply (wp_retBind 𝒱 c bd)
  iapply (wp_startNo 𝒱 c bd EC (Bufs.mk arg8 arg9 arg10 arg11 arg15 arg16 arg17 arg18 arg24 arg25 arg26) V qLs 0 (fin32 v0) (M v0.toNat) 4 5 (by decide) rfl (C := k0_cond5 (M (k0_off23 v0 0)) = 1#1) Iff.rfl
    (oA := k0_off32 v0) (oB := k0_off33 v0) (pA := ![0, 4, 0, 0]) (pB := ![0, 4, 0, 0]) (oS := ![0]) (oS' := ![0])
    (fun _ => row_off v0 h0 4 (by decide)) (fun _ => row_off v0 h0 4 (by decide)) (fun _ => rfl) (fun _ => rfl) (fun _ => rfl) (fun _ => rfl)) $$ HS
  iintro HS
  iapply (wp_retBind 𝒱 c bd)
  iapply (wp_done 𝒱 c bd)
  iapply HQ
  isplitl [H22]
  · iexact H22
  isplitl [H23]
  · iexact H23
  · iexact HS

end Cert.Proof.KI
-- ==== Proof.KI.Second.lean ====
module

public import proofs.«01_k».proof.Proof.KI.Start

@[expose] public section

/-!
# The kernel up to its loop over experts: the copies of the second and the third expert
-/

set_option maxRecDepth 16384

noncomputable section

namespace Cert.Proof.KI

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Proof.Copies Cert.Proof.Words Cert.Proof.Tables Cert.Proof.Slots Cert.Proof.RingState Cert.Proof.Nums
open Cert.KernelIdeal Cert.KernelIdeal.Gen

variable {F : FTy → Type} [FloatOps F] {U : Type} [URA U]

local notation "𝕄" => MT nD τ sig Unit (Elt F) ℕ U ℕ

variable {defs : Defs nD τ sig (Elt F) Λ₀} (𝒱 : Variants) (c : Dev nD) (bd : Option 𝒱.V)
variable (EC : UEmb Counters (MT nD τ sig Unit (Elt F) ℕ U ℕ)) [EC.LandsIn (upEmb : UEmb _ (MT nD τ sig Unit (Elt F) ℕ U ℕ))]
variable (V : Vals (Elt F))
variable (arg0 : Memref sig .tc .smem S8x32 .i32) (harg0 : arg0.IsWhole) (arg1 : Memref sig .tc .smem S1x32 .i32) (harg1 : arg1.IsWhole) (arg2 : Memref sig .tc .vmem S8x32 .i32) (harg2 : arg2.IsWhole) (arg3 : Memref sig .tc .vmem S8x32 .f32) (harg3 : arg3.IsWhole) (arg4 : Memref sig .tc .vmem S32x1 .i32) (harg4 : arg4.IsWhole) (arg5 : Memref sig .tc .vmem S32x5120 .bf16) (harg5 : arg5.IsWhole) (arg6 : Memref sig .tc .vmem S32x768 .f32) (harg6 : arg6.IsWhole) (arg7 : Memref sig .tc .vmem S32x5120 .f32) (harg7 : arg7.IsWhole) (arg8 : Memref sig .tc .hbm S32x5120x768 .fp8e4m3) (harg8 : arg8.IsWhole) (arg9 : Memref sig .tc .hbm S32x768x5120 .fp8e4m3) (harg9 : arg9.IsWhole) (arg10 : Memref sig .tc .hbm S256x16x5120 .bf16) (harg10 : arg10.IsWhole) (arg11 : Memref sig .tc .hbm S256x16x768 .bf16) (harg11 : arg11.IsWhole) (arg12 : Memref sig .tc .vmem S32x5120 .bf16) (harg12 : arg12.IsWhole) (arg13 : Memref sig .tc .vmem S32x5120 .fp8e4m3) (harg13 : arg13.IsWhole) (arg14 : Memref sig .tc .vmem S32x1 .f32) (harg14 : arg14.IsWhole) (arg15 : Memref sig .tc .vmem S4x5120x768 .fp8e4m3) (harg15 : arg15.IsWhole) (arg16 : Memref sig .tc .vmem S4x768x5120 .fp8e4m3) (harg16 : arg16.IsWhole) (arg17 : Memref sig .tc .vmem S4x8x16x5120 .bf16) (harg17 : arg17.IsWhole) (arg18 : Memref sig .tc .vmem S4x8x16x768 .bf16) (harg18 : arg18.IsWhole) (arg19 : Memref sig .tc .vmem S32x8 .i32) (harg19 : arg19.IsWhole) (arg20 : Memref sig .tc .vmem S32x8 .f32) (harg20 : arg20.IsWhole) (arg21 : Memref sig .tc .vmem S32x5120 .f32) (harg21 : arg21.IsWhole) (arg22 : Memref sig .tc .smem S32 .i32) (harg22 : arg22.IsWhole) (arg23 : Memref sig .tc .smem S33 .i32) (harg23 : arg23.IsWhole) (arg24 : DmaSems sig S4) (arg25 : DmaSems sig S4) (arg26 : DmaSems sig S4)

theorem wp_part2 {q2 : PosShare TreeShare} {M O : ℕ → BitVec 32} {n : BitVec 32} {hc : k0_cond9 n = 1#1} (hv : (O ((![1] : Fin 1 → ℕ) 0)).toNat < 32) {m : BitVec 32} (hm : M (O ((![1] : Fin 1 → ℕ) 0)).toNat = m)
    {Q : (Σ' (v177 : Elt F .i32) (k0_hw12 : k0_chk12 n v177) (v186 : Elt F .i32), k0_chk13 n v177 v186) → sProp (MT nD τ sig Unit (Elt F) ℕ U ℕ)} :
    iprop(words c arg22 q2 M ∗ words c arg23 fullShare O ∗ IdleU c (Bufs.mk arg8 arg9 arg10 arg11 arg15 arg16 arg17 arg18 arg24 arg25 arg26) V qs 1 ∗ Starting c EC (Bufs.mk arg8 arg9 arg10 arg11 arg15 arg16 arg17 arg18 arg24 arg25 arg26) V qLs 1 (fin32 (O ((![1] : Fin 1 → ℕ) 0))) m 0)
      ⊢ iprop((words c arg22 q2 M ∗ words c arg23 fullShare O ∗ BusyU c EC (Bufs.mk arg8 arg9 arg10 arg11 arg15 arg16 arg17 arg18 arg24 arg25 arg26) V qs 1 (fin32 (O ((![1] : Fin 1 → ℕ) 0)))
            ∗ Starting c EC (Bufs.mk arg8 arg9 arg10 arg11 arg15 arg16 arg17 arg18 arg24 arg25 arg26) V qLs 1 (fin32 (O ((![1] : Fin 1 → ℕ) 0))) m 4
            -∗ Q ⟨(O ((![1] : Fin 1 → ℕ) 0)), chk12 _ _ hv, M (k0_off43 (O ((![1] : Fin 1 → ℕ) 0)) 0), chk13 _ _ _ hv⟩) -∗
        wp frame (wpE defs 𝒱 (c : Thread nD τ) bd) Set.univ (k0_part2 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 arg25 arg26 n hc) Q) := by
  rw [k0_part2_eq_skeleton]
  iintro ⟨H22, H23, HU, HS⟩ HQ
  sl_unfold [k0_part2_skel]
  iapply (wp_word 𝒱 c bd) $$ H23
  iintro H23
  iapply (wp_assume 𝒱 (c : Thread nD τ) bd Set.univ (chk12 _ _ hv))
  iapply (wp_startU 𝒱 c bd EC (Bufs.mk arg8 arg9 arg10 arg11 arg15 arg16 arg17 arg18 arg24 arg25 arg26) V qs 1 (fin32 (O ((![1] : Fin 1 → ℕ) 0))) (oX := k0_off42 (O ((![1] : Fin 1 → ℕ) 0))) (oD := k0_off41) (oS := k0_off40) (eta3 (fin32_val _ hv).symm) (eta3 slot1) (eta1 slot1)) $$ HU
  iintro HU
  iapply (wp_word 𝒱 c bd) $$ H22
  iintro H22
  iapply (wp_assume 𝒱 (c : Thread nD τ) bd Set.univ (chk13 _ _ _ hv))
  iapply (wp_retBind 𝒱 c bd)
  iapply (wp_startNo 𝒱 c bd EC (Bufs.mk arg8 arg9 arg10 arg11 arg15 arg16 arg17 arg18 arg24 arg25 arg26) V qLs 1 (fin32 (O ((![1] : Fin 1 → ℕ) 0))) m 0 1 (by decide) rfl (C := k0_cond10 (M (k0_off43 (O ((![1] : Fin 1 → ℕ) 0)) 0)) = 1#1) (by subst hm; exact Iff.rfl)
    (oA := (k0_off46 (O ((![1] : Fin 1 → ℕ) 0)))) (oB := (k0_off48 (O ((![1] : Fin 1 → ℕ) 0)))) (pA := k0_off45) (pB := k0_off47) (oS := k0_off44) (oS' := k0_off44)
    (fun _ => row_off (O ((![1] : Fin 1 → ℕ) 0)) hv 0 (by decide)) (fun _ => row_off (O ((![1] : Fin 1 → ℕ) 0)) hv 0 (by decide)) (fun _ => eta4' slot1) (fun _ => eta4' slot1) (fun _ => eta1 slot1) (fun _ => eta1 slot1)) $$ HS
  iintro HS
  iapply (wp_retBind 𝒱 c bd)
  iapply (wp_startNo 𝒱 c bd EC (Bufs.mk arg8 arg9 arg10 arg11 arg15 arg16 arg17 arg18 arg24 arg25 arg26) V qLs 1 (fin32 (O ((![1] : Fin 1 → ℕ) 0))) m 1 2 (by decide) rfl (C := k0_cond11 (M (k0_off43 (O ((![1] : Fin 1 → ℕ) 0)) 0)) = 1#1) (by subst hm; exact Iff.rfl)
    (oA := (k0_off51 (O ((![1] : Fin 1 → ℕ) 0)))) (oB := (k0_off53 (O ((![1] : Fin 1 → ℕ) 0)))) (pA := k0_off50) (pB := k0_off52) (oS := k0_off49) (oS' := k0_off49)
    (fun _ => row_off (O ((![1] : Fin 1 → ℕ) 0)) hv 1 (by decide)) (fun _ => row_off (O ((![1] : Fin 1 → ℕ) 0)) hv 1 (by decide)) (fun _ => eta4 slot1) (fun _ => eta4 slot1) (fun _ => eta1 slot1) (fun _ => eta1 slot1)) $$ HS
  iintro HS
  iapply (wp_retBind 𝒱 c bd)
  iapply (wp_startNo 𝒱 c bd EC (Bufs.mk arg8 arg9 arg10 arg11 arg15 arg16 arg17 arg18 arg24 arg25 arg26) V qLs 1 (fin32 (O ((![1] : Fin 1 → ℕ) 0))) m 2 3 (by decide) rfl (C := k0_cond12 (M (k0_off43 (O ((![1] : Fin 1 → ℕ) 0)) 0)) = 1#1) (by subst hm; exact Iff.rfl)
    (oA := (k0_off56 (O ((![1] : Fin 1 → ℕ) 0)))) (oB := (k0_off58 (O ((![1] : Fin 1 → ℕ) 0)))) (pA := k0_off55) (pB := k0_off57) (oS := k0_off54) (oS' := k0_off54)
    (fun _ => row_off (O ((![1] : Fin 1 → ℕ) 0)) hv 2 (by decide)) (fun _ => row_off (O ((![1] : Fin 1 → ℕ) 0)) hv 2 (by decide)) (fun _ => eta4 slot1) (fun _ => eta4 slot1) (fun _ => eta1 slot1) (fun _ => eta1 slot1)) $$ HS
  iintro HS
  iapply (wp_retBind 𝒱 c bd)
  iapply (wp_startNo 𝒱 c bd EC (Bufs.mk arg8 arg9 arg10 arg11 arg15 arg16 arg17 arg18 arg24 arg25 arg26) V qLs 1 (fin32 (O ((![1] : Fin 1 → ℕ) 0))) m 3 4 (by decide) rfl (C := k0_cond13 (M (k0_off43 (O ((![1] : Fin 1 → ℕ) 0)) 0)) = 1#1) (by subst hm; exact Iff.rfl)
    (oA := (k0_off61 (O ((![1] : Fin 1 → ℕ) 0)))) (oB := (k0_off63 (O ((![1] : Fin 1 → ℕ) 0)))) (pA := k0_off60) (pB := k0_off62) (oS := k0_off59) (oS' := k0_off59)
    (fun _ => row_off (O ((![1] : Fin 1 → ℕ) 0)) hv 3 (by decide)) (fun _ => row_off (O ((![1] : Fin 1 → ℕ) 0)) hv 3 (by decide)) (fun _ => eta4 slot1) (fun _ => eta4 slot1) (fun _ => eta1 slot1) (fun _ => eta1 slot1)) $$ HS
  iintro HS
  iapply (wp_retBind 𝒱 c bd)
  iapply (wp_done 𝒱 c bd)
  iapply HQ
  isplitl [H22]
  · iexact H22
  isplitl [H23]
  · iexact H23
  isplitl [HU]
  · iexact HU
  · iexact HS

theorem wp_part3 {q2 : PosShare TreeShare} {M O : ℕ → BitVec 32} {n : BitVec 32} {hc : k0_cond18 n = 1#1} (hv : (O ((![2] : Fin 1 → ℕ) 0)).toNat < 32) {m : BitVec 32} (hm : M (O ((![2] : Fin 1 → ℕ) 0)).toNat = m)
    {Q : (Σ' (v177 : Elt F .i32) (k0_hw12 : k0_chk14 n v177) (v186 : Elt F .i32), k0_chk15 n v177 v186) → sProp (MT nD τ sig Unit (Elt F) ℕ U ℕ)} :
    iprop(words c arg22 q2 M ∗ words c arg23 fullShare O ∗ IdleU c (Bufs.mk arg8 arg9 arg10 arg11 arg15 arg16 arg17 arg18 arg24 arg25 arg26) V qs 2 ∗ Starting c EC (Bufs.mk arg8 arg9 arg10 arg11 arg15 arg16 arg17 arg18 arg24 arg25 arg26) V qLs 2 (fin32 (O ((![2] : Fin 1 → ℕ) 0))) m 0)
      ⊢ iprop((words c arg22 q2 M ∗ words c arg23 fullShare O ∗ BusyU c EC (Bufs.mk arg8 arg9 arg10 arg11 arg15 arg16 arg17 arg18 arg24 arg25 arg26) V qs 2 (fin32 (O ((![2] : Fin 1 → ℕ) 0)))
            ∗ Starting c EC (Bufs.mk arg8 arg9 arg10 arg11 arg15 arg16 arg17 arg18 arg24 arg25 arg26) V qLs 2 (fin32 (O ((![2] : Fin 1 → ℕ) 0))) m 4
            -∗ Q ⟨(O ((![2] : Fin 1 → ℕ) 0)), chk14 _ _ hv, M (k0_off90 (O ((![2] : Fin 1 → ℕ) 0)) 0), chk15 _ _ _ hv⟩) -∗
        wp frame (wpE defs 𝒱 (c : Thread nD τ) bd) Set.univ (k0_part3 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 arg25 arg26 n hc) Q) := by
  rw [k0_part3_eq_skeleton]
  iintro ⟨H22, H23, HU, HS⟩ HQ
  sl_unfold [k0_part3_skel]
  iapply (wp_word 𝒱 c bd) $$ H23
  iintro H23
  iapply (wp_assume 𝒱 (c : Thread nD τ) bd Set.univ (chk14 _ _ hv))
  iapply (wp_startU 𝒱 c bd EC (Bufs.mk arg8 arg9 arg10 arg11 arg15 arg16 arg17 arg18 arg24 arg25 arg26) V qs 2 (fin32 (O ((![2] : Fin 1 → ℕ) 0))) (oX := k0_off89 (O ((![2] : Fin 1 → ℕ) 0))) (oD := k0_off88) (oS := k0_off87) (eta3 (fin32_val _ hv).symm) (eta3 slot2) (eta1 slot2)) $$ HU
  iintro HU
  iapply (wp_word 𝒱 c bd) $$ H22
  iintro H22
  iapply (wp_assume 𝒱 (c : Thread nD τ) bd Set.univ (chk15 _ _ _ hv))
  iapply (wp_retBind 𝒱 c bd)
  iapply (wp_startNo 𝒱 c bd EC (Bufs.mk arg8 arg9 arg10 arg11 arg15 arg16 arg17 arg18 arg24 arg25 arg26) V qLs 2 (fin32 (O ((![2] : Fin 1 → ℕ) 0))) m 0 1 (by decide) rfl (C := k0_cond19 (M (k0_off90 (O ((![2] : Fin 1 → ℕ) 0)) 0)) = 1#1) (by subst hm; exact Iff.rfl)
    (oA := (k0_off93 (O ((![2] : Fin 1 → ℕ) 0)))) (oB := (k0_off95 (O ((![2] : Fin 1 → ℕ) 0)))) (pA := k0_off92) (pB := k0_off94) (oS := k0_off91) (oS' := k0_off91)
    (fun _ => row_off (O ((![2] : Fin 1 → ℕ) 0)) hv 0 (by decide)) (fun _ => row_off (O ((![2] : Fin 1 → ℕ) 0)) hv 0 (by decide)) (fun _ => eta4' slot2) (fun _ => eta4' slot2) (fun _ => eta1 slot2) (fun _ => eta1 slot2)) $$ HS
  iintro HS
  iapply (wp_retBind 𝒱 c bd)
  iapply (wp_startNo 𝒱 c bd EC (Bufs.mk arg8 arg9 arg10 arg11 arg15 arg16 arg17 arg18 arg24 arg25 arg26) V qLs 2 (fin32 (O ((![2] : Fin 1 → ℕ) 0))) m 1 2 (by decide) rfl (C := k0_cond20 (M (k0_off90 (O ((![2] : Fin 1 → ℕ) 0)) 0)) = 1#1) (by subst hm; exact Iff.rfl)
    (oA := (k0_off98 (O ((![2] : Fin 1 → ℕ) 0)))) (oB := (k0_off100 (O ((![2] : Fin 1 → ℕ) 0)))) (pA := k0_off97) (pB := k0_off99) (oS := k0_off96) (oS' := k0_off96)
    (fun _ => row_off (O ((![2] : Fin 1 → ℕ) 0)) hv 1 (by decide)) (fun _ => row_off (O ((![2] : Fin 1 → ℕ) 0)) hv 1 (by decide)) (fun _ => eta4 slot2) (fun _ => eta4 slot2) (fun _ => eta1 slot2) (fun _ => eta1 slot2)) $$ HS
  iintro HS
  iapply (wp_retBind 𝒱 c bd)
  iapply (wp_startNo 𝒱 c bd EC (Bufs.mk arg8 arg9 arg10 arg11 arg15 arg16 arg17 arg18 arg24 arg25 arg26) V qLs 2 (fin32 (O ((![2] : Fin 1 → ℕ) 0))) m 2 3 (by decide) rfl (C := k0_cond21 (M (k0_off90 (O ((![2] : Fin 1 → ℕ) 0)) 0)) = 1#1) (by subst hm; exact Iff.rfl)
    (oA := (k0_off103 (O ((![2] : Fin 1 → ℕ) 0)))) (oB := (k0_off105 (O ((![2] : Fin 1 → ℕ) 0)))) (pA := k0_off102) (pB := k0_off104) (oS := k0_off101) (oS' := k0_off101)
    (fun _ => row_off (O ((![2] : Fin 1 → ℕ) 0)) hv 2 (by decide)) (fun _ => row_off (O ((![2] : Fin 1 → ℕ) 0)) hv 2 (by decide)) (fun _ => eta4 slot2) (fun _ => eta4 slot2) (fun _ => eta1 slot2) (fun _ => eta1 slot2)) $$ HS
  iintro HS
  iapply (wp_retBind 𝒱 c bd)
  iapply (wp_startNo 𝒱 c bd EC (Bufs.mk arg8 arg9 arg10 arg11 arg15 arg16 arg17 arg18 arg24 arg25 arg26) V qLs 2 (fin32 (O ((![2] : Fin 1 → ℕ) 0))) m 3 4 (by decide) rfl (C := k0_cond22 (M (k0_off90 (O ((![2] : Fin 1 → ℕ) 0)) 0)) = 1#1) (by subst hm; exact Iff.rfl)
    (oA := (k0_off108 (O ((![2] : Fin 1 → ℕ) 0)))) (oB := (k0_off110 (O ((![2] : Fin 1 → ℕ) 0)))) (pA := k0_off107) (pB := k0_off109) (oS := k0_off106) (oS' := k0_off106)
    (fun _ => row_off (O ((![2] : Fin 1 → ℕ) 0)) hv 3 (by decide)) (fun _ => row_off (O ((![2] : Fin 1 → ℕ) 0)) hv 3 (by decide)) (fun _ => eta4 slot2) (fun _ => eta4 slot2) (fun _ => eta1 slot2) (fun _ => eta1 slot2)) $$ HS
  iintro HS
  iapply (wp_retBind 𝒱 c bd)
  iapply (wp_done 𝒱 c bd)
  iapply HQ
  isplitl [H22]
  · iexact H22
  isplitl [H23]
  · iexact H23
  isplitl [HU]
  · iexact HU
  · iexact HS

theorem wp_part16 {q2 q5 : PosShare TreeShare} {M O : ℕ → BitVec 32} {n v0 v50 : BitVec 32} {hw11 : k0_chk11 v0 (M (k0_off23 v0 0))} (hv0 : v0.toNat < 32)
    (hn1 : 1 ≤ n.toNat) (hn : n.toNat ≤ 33) (hO : ∀ j, j < n.toNat → (O j).toNat < 32) {X5 : S32x5120.Idx → Elt F .bf16}
    {Q : (Σ' (v72 : FVec F S32x5120 .f32) (v78 : IVec S32x256 32) (v83 : IVec S32x256 1), IVec S32x256 1) → sProp (MT nD τ sig Unit (Elt F) ℕ U ℕ)} :
    iprop(words c arg22 q2 M ∗ words c arg23 fullShare O ∗ Starting c EC (Bufs.mk arg8 arg9 arg10 arg11 arg15 arg16 arg17 arg18 arg24 arg25 arg26) V qLs 0 (fin32 v0) (M v0.toNat) 5
        ∗ (Waiting c EC (Bufs.mk arg8 arg9 arg10 arg11 arg15 arg16 arg17 arg18 arg24 arg25 arg26) V qLs 0 (fin32 v0) (M v0.toNat) 0 -∗ RingSt c EC (Bufs.mk arg8 arg9 arg10 arg11 arg15 arg16 arg17 arg18 arg24 arg25 arg26) V n.toNat (fun j => fin32 (O j)) (fun e => M e.val) 0 1)
        ∗ owns (c : Thread nD τ) arg5 q5 X5)
      ⊢ iprop((words c arg22 q2 M ∗ words c arg23 fullShare O ∗ RingSt c EC (Bufs.mk arg8 arg9 arg10 arg11 arg15 arg16 arg17 arg18 arg24 arg25 arg26) V n.toNat (fun j => fin32 (O j)) (fun e => M e.val) 0 3 ∗ owns (c : Thread nD τ) arg5 q5 X5
            -∗ Q ⟨k0_pay26 X5, iota .tc S32x256 32 [1] iota_S32x256_d1_w32, k0_pay27 X5, k0_pay28⟩) -∗
        wp frame (wpE defs 𝒱 (c : Thread nD τ) bd) Set.univ (k0_part16 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 arg25 arg26 v0 n (M (k0_off23 v0 0)) hw11 v50) Q) := by
  rw [k0_part16_eq_skeleton]
  have e1 := sgt1 n (by omega)
  have e2 := sgt2 n (by omega)
  iintro ⟨H22, H23, HS, HR, H5⟩ HQ
  sl_unfold [k0_part16_skel]
  iapply (wp_startNo 𝒱 c bd EC (Bufs.mk arg8 arg9 arg10 arg11 arg15 arg16 arg17 arg18 arg24 arg25 arg26) V qLs 0 (fin32 v0) (M v0.toNat) 5 6 (by decide) rfl (C := k0_cond6 (M (k0_off23 v0 0)) = 1#1) Iff.rfl
    (oA := k0_off34 v0) (oB := k0_off35 v0) (pA := ![0, 5, 0, 0]) (pB := ![0, 5, 0, 0]) (oS := ![0]) (oS' := ![0])
    (fun _ => row_off v0 hv0 5 (by decide)) (fun _ => row_off v0 hv0 5 (by decide)) (fun _ => rfl) (fun _ => rfl) (fun _ => rfl) (fun _ => rfl)) $$ HS
  iintro HS
  iapply (wp_retBind 𝒱 c bd)
  iapply (wp_startNo 𝒱 c bd EC (Bufs.mk arg8 arg9 arg10 arg11 arg15 arg16 arg17 arg18 arg24 arg25 arg26) V qLs 0 (fin32 v0) (M v0.toNat) 6 7 (by decide) rfl (C := k0_cond7 (M (k0_off23 v0 0)) = 1#1) Iff.rfl
    (oA := k0_off36 v0) (oB := k0_off37 v0) (pA := ![0, 6, 0, 0]) (pB := ![0, 6, 0, 0]) (oS := ![0]) (oS' := ![0])
    (fun _ => row_off v0 hv0 6 (by decide)) (fun _ => row_off v0 hv0 6 (by decide)) (fun _ => rfl) (fun _ => rfl) (fun _ => rfl) (fun _ => rfl)) $$ HS
  iintro HS
  iapply (wp_retBind 𝒱 c bd)
  iapply (wp_startNo 𝒱 c bd EC (Bufs.mk arg8 arg9 arg10 arg11 arg15 arg16 arg17 arg18 arg24 arg25 arg26) V qLs 0 (fin32 v0) (M v0.toNat) 7 8 (by decide) rfl (C := k0_cond8 (M (k0_off23 v0 0)) = 1#1) Iff.rfl
    (oA := k0_off38 v0) (oB := k0_off39 v0) (pA := ![0, 7, 0, 0]) (pB := ![0, 7, 0, 0]) (oS := ![0]) (oS' := ![0])
    (fun _ => row_off v0 hv0 7 (by decide)) (fun _ => row_off v0 hv0 7 (by decide)) (fun _ => rfl) (fun _ => rfl) (fun _ => rfl) (fun _ => rfl)) $$ HS
  iintro HS
  iapply (wp_retBind 𝒱 c bd)
  ihave HS := (start_eight c EC (Bufs.mk arg8 arg9 arg10 arg11 arg15 arg16 arg17 arg18 arg24 arg25 arg26) V qLs 0 (fin32 v0) (M v0.toNat)) $$ HS
  ihave HR := HR $$ HS
  by_cases c1 : 1 < n.toNat
  · have h1 : (O ((![1] : Fin 1 → ℕ) 0)).toNat < 32 := hO 1 c1
    iapply (wp_ifPos 𝒱 c bd (C := k0_cond9 n = 1#1) (e1.mpr c1))
    ihave HR := (ring_take_idle c EC (Bufs.mk arg8 arg9 arg10 arg11 arg15 arg16 arg17 arg18 arg24 arg25 arg26) V n.toNat (fun j => fin32 (O j)) (fun e => M e.val) 0 1 (by omega) (by omega) (by omega)) $$ HR
    icases HR with ⟨HI, HR⟩
    ihave HI := (show (Idle c (Bufs.mk arg8 arg9 arg10 arg11 arg15 arg16 arg17 arg18 arg24 arg25 arg26) V qs qLs (slot 1) : sProp 𝕄) ⊢ iprop(IdleU c (Bufs.mk arg8 arg9 arg10 arg11 arg15 arg16 arg17 arg18 arg24 arg25 arg26) V qs 1 ∗ IdleD c (Bufs.mk arg8 arg9 arg10 arg11 arg15 arg16 arg17 arg18 arg24 arg25 arg26) V qs 1 ∗ IdleL c (Bufs.mk arg8 arg9 arg10 arg11 arg15 arg16 arg17 arg18 arg24 arg25 arg26) V qLs 1) from .rfl) $$ HI
    icases HI with ⟨HU, HD, HL⟩
    imod (start_zero c EC (Bufs.mk arg8 arg9 arg10 arg11 arg15 arg16 arg17 arg18 arg24 arg25 arg26) V qLs 1 (fin32 (O ((![1] : Fin 1 → ℕ) 0))) (M (fin32 (O ((![1] : Fin 1 → ℕ) 0))).val)) $$ HL with HS
    iapply (wp_seq 𝒱 c bd)
    iapply (wp_part2 𝒱 c bd EC V arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 arg25 arg26 h1 (congrArg M (fin32_val (O ((![1] : Fin 1 → ℕ) 0)) h1).symm)) $$ [H22 H23 HU HS]
    · isplitl [H22]
      · iexact H22
      isplitl [H23]
      · iexact H23
      isplitl [HU]
      · iexact HU
      · iexact HS
    iintro ⟨H22, H23, HU, HS⟩
    iapply (wp_startNo 𝒱 c bd EC (Bufs.mk arg8 arg9 arg10 arg11 arg15 arg16 arg17 arg18 arg24 arg25 arg26) V qLs 1 (fin32 (O ((![1] : Fin 1 → ℕ) 0))) (M (fin32 (O ((![1] : Fin 1 → ℕ) 0))).val) 4 5 (by decide) rfl (C := k0_cond14 (M (k0_off43 (O ((![1] : Fin 1 → ℕ) 0)) 0)) = 1#1) (by rw [fin32_val (O ((![1] : Fin 1 → ℕ) 0)) h1]; exact Iff.rfl)
      (oA := (k0_off66 (O ((![1] : Fin 1 → ℕ) 0)))) (oB := (k0_off68 (O ((![1] : Fin 1 → ℕ) 0)))) (pA := k0_off65) (pB := k0_off67) (oS := k0_off64) (oS' := k0_off64)
      (fun _ => row_off (O ((![1] : Fin 1 → ℕ) 0)) h1 4 (by decide)) (fun _ => row_off (O ((![1] : Fin 1 → ℕ) 0)) h1 4 (by decide)) (fun _ => eta4 slot1) (fun _ => eta4 slot1) (fun _ => eta1 slot1) (fun _ => eta1 slot1)) $$ HS
    iintro HS
    iapply (wp_retBind 𝒱 c bd)
    iapply (wp_startNo 𝒱 c bd EC (Bufs.mk arg8 arg9 arg10 arg11 arg15 arg16 arg17 arg18 arg24 arg25 arg26) V qLs 1 (fin32 (O ((![1] : Fin 1 → ℕ) 0))) (M (fin32 (O ((![1] : Fin 1 → ℕ) 0))).val) 5 6 (by decide) rfl (C := k0_cond15 (M (k0_off43 (O ((![1] : Fin 1 → ℕ) 0)) 0)) = 1#1) (by rw [fin32_val (O ((![1] : Fin 1 → ℕ) 0)) h1]; exact Iff.rfl)
      (oA := (k0_off71 (O ((![1] : Fin 1 → ℕ) 0)))) (oB := (k0_off73 (O ((![1] : Fin 1 → ℕ) 0)))) (pA := k0_off70) (pB := k0_off72) (oS := k0_off69) (oS' := k0_off69)
      (fun _ => row_off (O ((![1] : Fin 1 → ℕ) 0)) h1 5 (by decide)) (fun _ => row_off (O ((![1] : Fin 1 → ℕ) 0)) h1 5 (by decide)) (fun _ => eta4 slot1) (fun _ => eta4 slot1) (fun _ => eta1 slot1) (fun _ => eta1 slot1)) $$ HS
    iintro HS
    iapply (wp_retBind 𝒱 c bd)
    iapply (wp_startNo 𝒱 c bd EC (Bufs.mk arg8 arg9 arg10 arg11 arg15 arg16 arg17 arg18 arg24 arg25 arg26) V qLs 1 (fin32 (O ((![1] : Fin 1 → ℕ) 0))) (M (fin32 (O ((![1] : Fin 1 → ℕ) 0))).val) 6 7 (by decide) rfl (C := k0_cond16 (M (k0_off43 (O ((![1] : Fin 1 → ℕ) 0)) 0)) = 1#1) (by rw [fin32_val (O ((![1] : Fin 1 → ℕ) 0)) h1]; exact Iff.rfl)
      (oA := (k0_off76 (O ((![1] : Fin 1 → ℕ) 0)))) (oB := (k0_off78 (O ((![1] : Fin 1 → ℕ) 0)))) (pA := k0_off75) (pB := k0_off77) (oS := k0_off74) (oS' := k0_off74)
      (fun _ => row_off (O ((![1] : Fin 1 → ℕ) 0)) h1 6 (by decide)) (fun _ => row_off (O ((![1] : Fin 1 → ℕ) 0)) h1 6 (by decide)) (fun _ => eta4 slot1) (fun _ => eta4 slot1) (fun _ => eta1 slot1) (fun _ => eta1 slot1)) $$ HS
    iintro HS
    iapply (wp_retBind 𝒱 c bd)
    iapply (wp_startNo 𝒱 c bd EC (Bufs.mk arg8 arg9 arg10 arg11 arg15 arg16 arg17 arg18 arg24 arg25 arg26) V qLs 1 (fin32 (O ((![1] : Fin 1 → ℕ) 0))) (M (fin32 (O ((![1] : Fin 1 → ℕ) 0))).val) 7 8 (by decide) rfl (C := k0_cond17 (M (k0_off43 (O ((![1] : Fin 1 → ℕ) 0)) 0)) = 1#1) (by rw [fin32_val (O ((![1] : Fin 1 → ℕ) 0)) h1]; exact Iff.rfl)
      (oA := (k0_off81 (O ((![1] : Fin 1 → ℕ) 0)))) (oB := (k0_off83 (O ((![1] : Fin 1 → ℕ) 0)))) (pA := k0_off80) (pB := k0_off82) (oS := k0_off79) (oS' := k0_off79)
      (fun _ => row_off (O ((![1] : Fin 1 → ℕ) 0)) h1 7 (by decide)) (fun _ => row_off (O ((![1] : Fin 1 → ℕ) 0)) h1 7 (by decide)) (fun _ => eta4 slot1) (fun _ => eta4 slot1) (fun _ => eta1 slot1) (fun _ => eta1 slot1)) $$ HS
    iintro HS
    iapply (wp_retBind 𝒱 c bd)
    iapply (wp_startD 𝒱 c bd EC (Bufs.mk arg8 arg9 arg10 arg11 arg15 arg16 arg17 arg18 arg24 arg25 arg26) V qs 1 (fin32 (O ((![1] : Fin 1 → ℕ) 0))) (oX := k0_off86 (O ((![1] : Fin 1 → ℕ) 0))) (oD := k0_off85) (oS := k0_off84) (eta3 (fin32_val _ h1).symm) (eta3 slot1) (eta1 slot1)) $$ HD
    iintro HD
    ihave HS := (start_eight c EC (Bufs.mk arg8 arg9 arg10 arg11 arg15 arg16 arg17 arg18 arg24 arg25 arg26) V qLs 1 (fin32 (O ((![1] : Fin 1 → ℕ) 0))) (M (fin32 (O ((![1] : Fin 1 → ℕ) 0))).val)) $$ HS
    ihave HR := HR $$ [HU HD HS]
    · iapply (show iprop(BusyU c EC (Bufs.mk arg8 arg9 arg10 arg11 arg15 arg16 arg17 arg18 arg24 arg25 arg26) V qs 1 (fin32 (O ((![1] : Fin 1 → ℕ) 0))) ∗ BusyD c EC (Bufs.mk arg8 arg9 arg10 arg11 arg15 arg16 arg17 arg18 arg24 arg25 arg26) V qs 1 (fin32 (O ((![1] : Fin 1 → ℕ) 0))) ∗ Waiting c EC (Bufs.mk arg8 arg9 arg10 arg11 arg15 arg16 arg17 arg18 arg24 arg25 arg26) V qLs 1 (fin32 (O ((![1] : Fin 1 → ℕ) 0))) (M (fin32 (O ((![1] : Fin 1 → ℕ) 0))).val) 0)
        ⊢ (Busy c EC (Bufs.mk arg8 arg9 arg10 arg11 arg15 arg16 arg17 arg18 arg24 arg25 arg26) V qs qLs (slot 1) (fin32 (O 1)) (M (fin32 (O 1)).val) : sProp 𝕄) from .rfl)
      isplitl [HU]
      · iexact HU
      isplitl [HD]
      · iexact HD
      · iexact HS
    iapply (wp_retBind 𝒱 c bd)
    by_cases c2 : 2 < n.toNat
    · have h2 : (O ((![2] : Fin 1 → ℕ) 0)).toNat < 32 := hO 2 c2
      iapply (wp_ifPos 𝒱 c bd (C := k0_cond18 n = 1#1) (e2.mpr c2))
      ihave HR := (ring_take_idle c EC (Bufs.mk arg8 arg9 arg10 arg11 arg15 arg16 arg17 arg18 arg24 arg25 arg26) V n.toNat (fun j => fin32 (O j)) (fun e => M e.val) 0 2 (by omega) (by omega) (by omega)) $$ HR
      icases HR with ⟨HI, HR⟩
      ihave HI := (show (Idle c (Bufs.mk arg8 arg9 arg10 arg11 arg15 arg16 arg17 arg18 arg24 arg25 arg26) V qs qLs (slot 2) : sProp 𝕄) ⊢ iprop(IdleU c (Bufs.mk arg8 arg9 arg10 arg11 arg15 arg16 arg17 arg18 arg24 arg25 arg26) V qs 2 ∗ IdleD c (Bufs.mk arg8 arg9 arg10 arg11 arg15 arg16 arg17 arg18 arg24 arg25 arg26) V qs 2 ∗ IdleL c (Bufs.mk arg8 arg9 arg10 arg11 arg15 arg16 arg17 arg18 arg24 arg25 arg26) V qLs 2) from .rfl) $$ HI
      icases HI with ⟨HU, HD, HL⟩
      imod (start_zero c EC (Bufs.mk arg8 arg9 arg10 arg11 arg15 arg16 arg17 arg18 arg24 arg25 arg26) V qLs 2 (fin32 (O ((![2] : Fin 1 → ℕ) 0))) (M (fin32 (O ((![2] : Fin 1 → ℕ) 0))).val)) $$ HL with HS
      iapply (wp_seq 𝒱 c bd)
      iapply (wp_part3 𝒱 c bd EC V arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 arg25 arg26 h2 (congrArg M (fin32_val (O ((![2] : Fin 1 → ℕ) 0)) h2).symm)) $$ [H22 H23 HU HS]
      · isplitl [H22]
        · iexact H22
        isplitl [H23]
        · iexact H23
        isplitl [HU]
        · iexact HU
        · iexact HS
      iintro ⟨H22, H23, HU, HS⟩
      iapply (wp_startNo 𝒱 c bd EC (Bufs.mk arg8 arg9 arg10 arg11 arg15 arg16 arg17 arg18 arg24 arg25 arg26) V qLs 2 (fin32 (O ((![2] : Fin 1 → ℕ) 0))) (M (fin32 (O ((![2] : Fin 1 → ℕ) 0))).val) 4 5 (by decide) rfl (C := k0_cond23 (M (k0_off90 (O ((![2] : Fin 1 → ℕ) 0)) 0)) = 1#1) (by rw [fin32_val (O ((![2] : Fin 1 → ℕ) 0)) h2]; exact Iff.rfl)
        (oA := (k0_off113 (O ((![2] : Fin 1 → ℕ) 0)))) (oB := (k0_off115 (O ((![2] : Fin 1 → ℕ) 0)))) (pA := k0_off112) (pB := k0_off114) (oS := k0_off111) (oS' := k0_off111)
        (fun _ => row_off (O ((![2] : Fin 1 → ℕ) 0)) h2 4 (by decide)) (fun _ => row_off (O ((![2] : Fin 1 → ℕ) 0)) h2 4 (by decide)) (fun _ => eta4 slot2) (fun _ => eta4 slot2) (fun _ => eta1 slot2) (fun _ => eta1 slot2)) $$ HS
      iintro HS
      iapply (wp_retBind 𝒱 c bd)
      iapply (wp_startNo 𝒱 c bd EC (Bufs.mk arg8 arg9 arg10 arg11 arg15 arg16 arg17 arg18 arg24 arg25 arg26) V qLs 2 (fin32 (O ((![2] : Fin 1 → ℕ) 0))) (M (fin32 (O ((![2] : Fin 1 → ℕ) 0))).val) 5 6 (by decide) rfl (C := k0_cond24 (M (k0_off90 (O ((![2] : Fin 1 → ℕ) 0)) 0)) = 1#1) (by rw [fin32_val (O ((![2] : Fin 1 → ℕ) 0)) h2]; exact Iff.rfl)
        (oA := (k0_off118 (O ((![2] : Fin 1 → ℕ) 0)))) (oB := (k0_off120 (O ((![2] : Fin 1 → ℕ) 0)))) (pA := k0_off117) (pB := k0_off119) (oS := k0_off116) (oS' := k0_off116)
        (fun _ => row_off (O ((![2] : Fin 1 → ℕ) 0)) h2 5 (by decide)) (fun _ => row_off (O ((![2] : Fin 1 → ℕ) 0)) h2 5 (by decide)) (fun _ => eta4 slot2) (fun _ => eta4 slot2) (fun _ => eta1 slot2) (fun _ => eta1 slot2)) $$ HS
      iintro HS
      iapply (wp_retBind 𝒱 c bd)
      iapply (wp_startNo 𝒱 c bd EC (Bufs.mk arg8 arg9 arg10 arg11 arg15 arg16 arg17 arg18 arg24 arg25 arg26) V qLs 2 (fin32 (O ((![2] : Fin 1 → ℕ) 0))) (M (fin32 (O ((![2] : Fin 1 → ℕ) 0))).val) 6 7 (by decide) rfl (C := k0_cond25 (M (k0_off90 (O ((![2] : Fin 1 → ℕ) 0)) 0)) = 1#1) (by rw [fin32_val (O ((![2] : Fin 1 → ℕ) 0)) h2]; exact Iff.rfl)
        (oA := (k0_off123 (O ((![2] : Fin 1 → ℕ) 0)))) (oB := (k0_off125 (O ((![2] : Fin 1 → ℕ) 0)))) (pA := k0_off122) (pB := k0_off124) (oS := k0_off121) (oS' := k0_off121)
        (fun _ => row_off (O ((![2] : Fin 1 → ℕ) 0)) h2 6 (by decide)) (fun _ => row_off (O ((![2] : Fin 1 → ℕ) 0)) h2 6 (by decide)) (fun _ => eta4 slot2) (fun _ => eta4 slot2) (fun _ => eta1 slot2) (fun _ => eta1 slot2)) $$ HS
      iintro HS
      iapply (wp_retBind 𝒱 c bd)
      iapply (wp_startNo 𝒱 c bd EC (Bufs.mk arg8 arg9 arg10 arg11 arg15 arg16 arg17 arg18 arg24 arg25 arg26) V qLs 2 (fin32 (O ((![2] : Fin 1 → ℕ) 0))) (M (fin32 (O ((![2] : Fin 1 → ℕ) 0))).val) 7 8 (by decide) rfl (C := k0_cond26 (M (k0_off90 (O ((![2] : Fin 1 → ℕ) 0)) 0)) = 1#1) (by rw [fin32_val (O ((![2] : Fin 1 → ℕ) 0)) h2]; exact Iff.rfl)
        (oA := (k0_off128 (O ((![2] : Fin 1 → ℕ) 0)))) (oB := (k0_off130 (O ((![2] : Fin 1 → ℕ) 0)))) (pA := k0_off127) (pB := k0_off129) (oS := k0_off126) (oS' := k0_off126)
        (fun _ => row_off (O ((![2] : Fin 1 → ℕ) 0)) h2 7 (by decide)) (fun _ => row_off (O ((![2] : Fin 1 → ℕ) 0)) h2 7 (by decide)) (fun _ => eta4 slot2) (fun _ => eta4 slot2) (fun _ => eta1 slot2) (fun _ => eta1 slot2)) $$ HS
      iintro HS
      iapply (wp_retBind 𝒱 c bd)
      iapply (wp_startD 𝒱 c bd EC (Bufs.mk arg8 arg9 arg10 arg11 arg15 arg16 arg17 arg18 arg24 arg25 arg26) V qs 2 (fin32 (O ((![2] : Fin 1 → ℕ) 0))) (oX := k0_off133 (O ((![2] : Fin 1 → ℕ) 0))) (oD := k0_off132) (oS := k0_off131) (eta3 (fin32_val _ h2).symm) (eta3 slot2) (eta1 slot2)) $$ HD
      iintro HD
      ihave HS := (start_eight c EC (Bufs.mk arg8 arg9 arg10 arg11 arg15 arg16 arg17 arg18 arg24 arg25 arg26) V qLs 2 (fin32 (O ((![2] : Fin 1 → ℕ) 0))) (M (fin32 (O ((![2] : Fin 1 → ℕ) 0))).val)) $$ HS
      ihave HR := HR $$ [HU HD HS]
      · iapply (show iprop(BusyU c EC (Bufs.mk arg8 arg9 arg10 arg11 arg15 arg16 arg17 arg18 arg24 arg25 arg26) V qs 2 (fin32 (O ((![2] : Fin 1 → ℕ) 0))) ∗ BusyD c EC (Bufs.mk arg8 arg9 arg10 arg11 arg15 arg16 arg17 arg18 arg24 arg25 arg26) V qs 2 (fin32 (O ((![2] : Fin 1 → ℕ) 0))) ∗ Waiting c EC (Bufs.mk arg8 arg9 arg10 arg11 arg15 arg16 arg17 arg18 arg24 arg25 arg26) V qLs 2 (fin32 (O ((![2] : Fin 1 → ℕ) 0))) (M (fin32 (O ((![2] : Fin 1 → ℕ) 0))).val) 0)
          ⊢ (Busy c EC (Bufs.mk arg8 arg9 arg10 arg11 arg15 arg16 arg17 arg18 arg24 arg25 arg26) V qs qLs (slot 2) (fin32 (O 2)) (M (fin32 (O 2)).val) : sProp 𝕄) from .rfl)
        isplitl [HU]
        · iexact HU
        isplitl [HD]
        · iexact HD
        · iexact HS
      iapply (wp_retBind 𝒱 c bd)
      iapply (wp_loadAll 𝒱 c bd zero2) $$ H5
      iintro H5
      iapply (wp_done 𝒱 c bd)
      iapply HQ
      isplitl [H22]
      · iexact H22
      isplitl [H23]
      · iexact H23
      isplitl [HR]
      · iexact HR
      · iexact H5
    · iapply (wp_ifNeg 𝒱 c bd (C := k0_cond18 n = 1#1) (fun h => c2 (e2.mp h)))
      ihave HR := (Entails.of_eq (ring_skip c EC (Bufs.mk arg8 arg9 arg10 arg11 arg15 arg16 arg17 arg18 arg24 arg25 arg26) V n.toNat (fun j => fin32 (O j)) (fun e => M e.val) 0 2 (by omega))) $$ HR
      iapply (wp_loadAll 𝒱 c bd zero2) $$ H5
      iintro H5
      iapply (wp_done 𝒱 c bd)
      iapply HQ
      isplitl [H22]
      · iexact H22
      isplitl [H23]
      · iexact H23
      isplitl [HR]
      · iexact HR
      · iexact H5
  · iapply (wp_ifNeg 𝒱 c bd (C := k0_cond9 n = 1#1) (fun h => c1 (e1.mp h)))
    iapply (wp_ifNeg 𝒱 c bd (C := k0_cond18 n = 1#1) (fun h => c1 (lt_trans (by decide) (e2.mp h))))
    ihave HR := (Entails.of_eq (ring_skip c EC (Bufs.mk arg8 arg9 arg10 arg11 arg15 arg16 arg17 arg18 arg24 arg25 arg26) V n.toNat (fun j => fin32 (O j)) (fun e => M e.val) 0 1 (by omega))) $$ HR
    ihave HR := (Entails.of_eq (ring_skip c EC (Bufs.mk arg8 arg9 arg10 arg11 arg15 arg16 arg17 arg18 arg24 arg25 arg26) V n.toNat (fun j => fin32 (O j)) (fun e => M e.val) 0 2 (by omega))) $$ HR
    iapply (wp_loadAll 𝒱 c bd zero2) $$ H5
    iintro H5
    iapply (wp_done 𝒱 c bd)
    iapply HQ
    isplitl [H22]
    · iexact H22
    isplitl [H23]
    · iexact H23
    isplitl [HR]
    · iexact HR
    · iexact H5

end Cert.Proof.KI
-- ==== Proof.KI.Trip.lean ====
module

public import proofs.«01_k».proof.Proof.KI.Start
public import proofs.«01_k».proof.Proof.Adapters

@[expose] public section

/-!
# One trip of the loop over experts
-/

set_option maxRecDepth 16384

noncomputable section

namespace Cert.Proof.KI

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Proof.Copies Cert.Proof.Words Cert.Proof.Tables Cert.Proof.Slots Cert.Proof.RingState Cert.Proof.Nums
open Cert.KernelIdeal Cert.KernelIdeal.Gen

variable {F : FTy → Type} [FloatOps F] {U : Type} [URA U]

local notation "𝕄" => MT nD τ sig Unit (Elt F) ℕ U ℕ

variable {defs : Defs nD τ sig (Elt F) Λ₀} (𝒱 : Variants) (c : Dev nD) (bd : Option 𝒱.V)
variable (EC : UEmb Counters (MT nD τ sig Unit (Elt F) ℕ U ℕ)) [EC.LandsIn (upEmb : UEmb _ (MT nD τ sig Unit (Elt F) ℕ U ℕ))]
variable (V : Vals (Elt F))
variable (arg0 : Memref sig .tc .smem S8x32 .i32) (harg0 : arg0.IsWhole) (arg1 : Memref sig .tc .smem S1x32 .i32) (harg1 : arg1.IsWhole) (arg2 : Memref sig .tc .vmem S8x32 .i32) (harg2 : arg2.IsWhole) (arg3 : Memref sig .tc .vmem S8x32 .f32) (harg3 : arg3.IsWhole) (arg4 : Memref sig .tc .vmem S32x1 .i32) (harg4 : arg4.IsWhole) (arg5 : Memref sig .tc .vmem S32x5120 .bf16) (harg5 : arg5.IsWhole) (arg6 : Memref sig .tc .vmem S32x768 .f32) (harg6 : arg6.IsWhole) (arg7 : Memref sig .tc .vmem S32x5120 .f32) (harg7 : arg7.IsWhole) (arg8 : Memref sig .tc .hbm S32x5120x768 .fp8e4m3) (harg8 : arg8.IsWhole) (arg9 : Memref sig .tc .hbm S32x768x5120 .fp8e4m3) (harg9 : arg9.IsWhole) (arg10 : Memref sig .tc .hbm S256x16x5120 .bf16) (harg10 : arg10.IsWhole) (arg11 : Memref sig .tc .hbm S256x16x768 .bf16) (harg11 : arg11.IsWhole) (arg12 : Memref sig .tc .vmem S32x5120 .bf16) (harg12 : arg12.IsWhole) (arg13 : Memref sig .tc .vmem S32x5120 .fp8e4m3) (harg13 : arg13.IsWhole) (arg14 : Memref sig .tc .vmem S32x1 .f32) (harg14 : arg14.IsWhole) (arg15 : Memref sig .tc .vmem S4x5120x768 .fp8e4m3) (harg15 : arg15.IsWhole) (arg16 : Memref sig .tc .vmem S4x768x5120 .fp8e4m3) (harg16 : arg16.IsWhole) (arg17 : Memref sig .tc .vmem S4x8x16x5120 .bf16) (harg17 : arg17.IsWhole) (arg18 : Memref sig .tc .vmem S4x8x16x768 .bf16) (harg18 : arg18.IsWhole) (arg19 : Memref sig .tc .vmem S32x8 .i32) (harg19 : arg19.IsWhole) (arg20 : Memref sig .tc .vmem S32x8 .f32) (harg20 : arg20.IsWhole) (arg21 : Memref sig .tc .vmem S32x5120 .f32) (harg21 : arg21.IsWhole) (arg22 : Memref sig .tc .smem S32 .i32) (harg22 : arg22.IsWhole) (arg23 : Memref sig .tc .smem S33 .i32) (harg23 : arg23.IsWhole) (arg24 : DmaSems sig S4) (arg25 : DmaSems sig S4) (arg26 : DmaSems sig S4)

theorem wp_part4 {q2 : PosShare TreeShare} {M O : ℕ → BitVec 32} {n : BitVec 32} {hw16 : k0_chk16 n} (t : Fin (k0_t4_loop n).trips) (ht : t.val < n.toNat) (hn : n.toNat ≤ 33) {arg27 : BitVec 32} {hc : k0_cond27 n t = 1#1}
    (hv : (O (k0_off135 n t 0)).toNat < 32) {m : BitVec 32} (hm : M (O (k0_off135 n t 0)).toNat = m)
    {Q : (Σ' (v357 : Elt F .i32) (k0_hw17 : k0_chk17 n t v357) (v366 : Elt F .i32) (k0_hw18 : k0_chk18 n t v357 v366), BitVec 32) → sProp (MT nD τ sig Unit (Elt F) ℕ U ℕ)} :
    iprop(words c arg22 q2 M ∗ words c arg23 fullShare O ∗ IdleU c (Bufs.mk arg8 arg9 arg10 arg11 arg15 arg16 arg17 arg18 arg24 arg25 arg26) V qs (slot (t.val + 3)) ∗ Starting c EC (Bufs.mk arg8 arg9 arg10 arg11 arg15 arg16 arg17 arg18 arg24 arg25 arg26) V qLs (slot (t.val + 3)) (fin32 (O (k0_off135 n t 0))) m 0)
      ⊢ iprop((words c arg22 q2 M ∗ words c arg23 fullShare O ∗ BusyU c EC (Bufs.mk arg8 arg9 arg10 arg11 arg15 arg16 arg17 arg18 arg24 arg25 arg26) V qs (slot (t.val + 3)) (fin32 (O (k0_off135 n t 0)))
            ∗ Starting c EC (Bufs.mk arg8 arg9 arg10 arg11 arg15 arg16 arg17 arg18 arg24 arg25 arg26) V qLs (slot (t.val + 3)) (fin32 (O (k0_off135 n t 0))) m 3
            -∗ Q ⟨(O (k0_off135 n t 0)), chk17 n hn t _ hv, M (k0_off139 (O (k0_off135 n t 0)) 0), chk18 n hn t _ hv _, Scalar.extui (Scalar.cmpi .eq (Scalar.andi (Scalar.shrsi (M (k0_off139 (O (k0_off135 n t 0)) 0)) 4#32) 1#32) 1#32)⟩) -∗
        wp frame (wpE defs 𝒱 (c : Thread nD τ) bd) Set.univ (k0_part4 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 arg25 arg26 n hw16 t arg27 hc) Q) := by
  rw [k0_part4_eq_skeleton]
  iintro ⟨H22, H23, HU, HS⟩ HQ
  sl_unfold [k0_part4_skel]
  iapply (wp_word 𝒱 c bd) $$ H23
  iintro H23
  iapply (wp_assume 𝒱 (c : Thread nD τ) bd Set.univ (chk17 n hn t _ hv))
  iapply (wp_startU 𝒱 c bd EC (Bufs.mk arg8 arg9 arg10 arg11 arg15 arg16 arg17 arg18 arg24 arg25 arg26) V qs (slot (t.val + 3)) (fin32 (O (k0_off135 n t 0))) (oX := k0_off138 (O (k0_off135 n t 0))) (oD := k0_off137 n t) (oS := k0_off136 n t) (eta3 (fin32_val _ hv).symm) (eta3 (slot_next t.val (by omega))) (eta1 (slot_next t.val (by omega)))) $$ HU
  iintro HU
  iapply (wp_word 𝒱 c bd) $$ H22
  iintro H22
  iapply (wp_assume 𝒱 (c : Thread nD τ) bd Set.univ (chk18 n hn t _ hv _))
  iapply (wp_retBind 𝒱 c bd)
  iapply (wp_startNo 𝒱 c bd EC (Bufs.mk arg8 arg9 arg10 arg11 arg15 arg16 arg17 arg18 arg24 arg25 arg26) V qLs (slot (t.val + 3)) (fin32 (O (k0_off135 n t 0))) m 0 1 (by decide) rfl (C := k0_cond28 (M (k0_off139 (O (k0_off135 n t 0)) 0)) = 1#1) (by subst hm; exact Iff.rfl)
    (oA := (k0_off142 (O (k0_off135 n t 0)))) (oB := (k0_off144 (O (k0_off135 n t 0)))) (pA := k0_off141 n t) (pB := k0_off143 n t) (oS := k0_off140 n t) (oS' := k0_off140 n t)
    (fun _ => row_off (O (k0_off135 n t 0)) hv 0 (by decide)) (fun _ => row_off (O (k0_off135 n t 0)) hv 0 (by decide)) (fun _ => eta4' (slot_next t.val (by omega))) (fun _ => eta4' (slot_next t.val (by omega))) (fun _ => eta1 (slot_next t.val (by omega))) (fun _ => eta1 (slot_next t.val (by omega)))) $$ HS
  iintro HS
  iapply (wp_retBind 𝒱 c bd)
  iapply (wp_startNo 𝒱 c bd EC (Bufs.mk arg8 arg9 arg10 arg11 arg15 arg16 arg17 arg18 arg24 arg25 arg26) V qLs (slot (t.val + 3)) (fin32 (O (k0_off135 n t 0))) m 1 2 (by decide) rfl (C := k0_cond29 (M (k0_off139 (O (k0_off135 n t 0)) 0)) = 1#1) (by subst hm; exact Iff.rfl)
    (oA := (k0_off147 (O (k0_off135 n t 0)))) (oB := (k0_off149 (O (k0_off135 n t 0)))) (pA := k0_off146 n t) (pB := k0_off148 n t) (oS := k0_off145 n t) (oS' := k0_off145 n t)
    (fun _ => row_off (O (k0_off135 n t 0)) hv 1 (by decide)) (fun _ => row_off (O (k0_off135 n t 0)) hv 1 (by decide)) (fun _ => eta4 (slot_next t.val (by omega))) (fun _ => eta4 (slot_next t.val (by omega))) (fun _ => eta1 (slot_next t.val (by omega))) (fun _ => eta1 (slot_next t.val (by omega)))) $$ HS
  iintro HS
  iapply (wp_retBind 𝒱 c bd)
  iapply (wp_startNo 𝒱 c bd EC (Bufs.mk arg8 arg9 arg10 arg11 arg15 arg16 arg17 arg18 arg24 arg25 arg26) V qLs (slot (t.val + 3)) (fin32 (O (k0_off135 n t 0))) m 2 3 (by decide) rfl (C := k0_cond30 (M (k0_off139 (O (k0_off135 n t 0)) 0)) = 1#1) (by subst hm; exact Iff.rfl)
    (oA := (k0_off152 (O (k0_off135 n t 0)))) (oB := (k0_off154 (O (k0_off135 n t 0)))) (pA := k0_off151 n t) (pB := k0_off153 n t) (oS := k0_off150 n t) (oS' := k0_off150 n t)
    (fun _ => row_off (O (k0_off135 n t 0)) hv 2 (by decide)) (fun _ => row_off (O (k0_off135 n t 0)) hv 2 (by decide)) (fun _ => eta4 (slot_next t.val (by omega))) (fun _ => eta4 (slot_next t.val (by omega))) (fun _ => eta1 (slot_next t.val (by omega))) (fun _ => eta1 (slot_next t.val (by omega)))) $$ HS
  iintro HS
  iapply (wp_retBind 𝒱 c bd)
  iapply (wp_done 𝒱 c bd)
  iapply HQ
  isplitl [H22]
  · iexact H22
  isplitl [H23]
  · iexact H23
  isplitl [HU]
  · iexact HU
  · iexact HS

theorem wp_part5 {q2 : PosShare TreeShare} {M O : ℕ → BitVec 32} {n : BitVec 32} {hw16 : k0_chk16 n} (t : Fin (k0_t4_loop n).trips) (ht : t.val < n.toNat) (hn : n.toNat ≤ 33) {v107 : FVec F S32x1 .f32} (hv : (O (k0_off134 n t 0)).toNat < 32) (hO : ∀ j, j < n.toNat → (O j).toNat < 32)
    {W : Waits sig Unit} {X19 : S32x8.Idx → Elt F .i32} {X20 : S32x8.Idx → Elt F .f32} {X13 : S32x5120.Idx → Elt F .fp8e4m3}
    {Q : (Σ' (v178 : Elt F .i32) (k0_hw19 : k0_chk19 v178) (v179 : BitVec 32) (v192 : IVec S32x1 1) (v197 : FVec F S32x1 .f32), FVec F S32x768 .f32) → sProp (MT nD τ sig Unit (Elt F) ℕ U ℕ)} :
    iprop(words c arg22 q2 M ∗ words c arg23 fullShare O ∗ RingSt c EC (Bufs.mk arg8 arg9 arg10 arg11 arg15 arg16 arg17 arg18 arg24 arg25 arg26) V n.toNat (fun j => fin32 (O j)) (fun e => M e.val) t.val (t.val + 3) ∗ owes (c : Thread nD τ) 0 W
        ∗ owns (c : Thread nD τ) arg19 fullShare X19 ∗ owns (c : Thread nD τ) arg20 fullShare X20 ∗ owns (c : Thread nD τ) arg13 fullShare X13)
      ⊢ iprop((words c arg22 q2 M ∗ words c arg23 fullShare O ∗ LandU c (Bufs.mk arg8 arg9 arg10 arg11 arg15 arg16 arg17 arg18 arg24 arg25 arg26) V qs (slot t.val) (fin32 (O (k0_off134 n t 0))) ∗ BusyD c EC (Bufs.mk arg8 arg9 arg10 arg11 arg15 arg16 arg17 arg18 arg24 arg25 arg26) V qs (slot t.val) (fin32 (O (k0_off134 n t 0)))
            ∗ Waiting c EC (Bufs.mk arg8 arg9 arg10 arg11 arg15 arg16 arg17 arg18 arg24 arg25 arg26) V qLs (slot t.val) (fin32 (O (k0_off134 n t 0))) (M (O (k0_off134 n t 0)).toNat) 0
            ∗ (Idle c (Bufs.mk arg8 arg9 arg10 arg11 arg15 arg16 arg17 arg18 arg24 arg25 arg26) V qs qLs (slot t.val) -∗ RingSt c EC (Bufs.mk arg8 arg9 arg10 arg11 arg15 arg16 arg17 arg18 arg24 arg25 arg26) V n.toNat (fun j => fin32 (O j)) (fun e => M e.val) (t.val + 1) (t.val + 4)) ∗ (∃ W', owes (c : Thread nD τ) 0 W')
            ∗ owns (c : Thread nD τ) arg19 fullShare X19 ∗ owns (c : Thread nD τ) arg20 fullShare X20 ∗ owns (c : Thread nD τ) arg13 fullShare X13
            -∗ Q ⟨(O (k0_off134 n t 0)), chk19 _ hv, Scalar.remsi (Scf.iv 0#32 1#32 t) 4#32, k0_pay6 (O (k0_off134 n t 0)) X19, k0_pay7 (O (k0_off134 n t 0)) X19 X20, k0_pay8 v107 X13 (upVal V (fin32 (O (k0_off134 n t 0))))⟩) -∗
        wp frame (wpE defs 𝒱 (c : Thread nD τ) bd) Set.univ (k0_part5 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 arg25 arg26 n hw16 v107 0#32 1#32 t) Q) := by
  rw [k0_part5_eq_skeleton]
  have e0 : k0_off134 n t 0 = t.val := by
    show (iv t.val).toNat = t.val
    rw [iv_eq, BitVec.toNat_ofNat]; omega
  have eO : O t.val = (O (k0_off134 n t 0)) := by rw [e0]
  iintro ⟨H22, H23, HR, Ho, H19, H20, H13⟩ HQ
  sl_unfold [k0_part5_skel]
  iapply (wp_word 𝒱 c bd) $$ H23
  iintro H23
  iapply (wp_assume 𝒱 (c : Thread nD τ) bd Set.univ (chk19 _ hv))
  iapply (wp_retBind 𝒱 c bd)
  by_cases h3 : t.val + 3 < n.toNat
  · have hc : k0_cond27 n t = 1#1 := (more t.val (by omega) n (by omega)).mpr h3
    have e3 : k0_off135 n t 0 = t.val + 3 := next t.val (by omega)
    have eO3 : O (t.val + 3) = (O (k0_off135 n t 0)) := by rw [e3]
    have hv3 : (O (k0_off135 n t 0)).toNat < 32 := eO3 ▸ hO _ h3
    iapply (wp_ifPos 𝒱 c bd (C := k0_cond27 n t = 1#1) hc)
    ihave HR := (ring_take_idle c EC (Bufs.mk arg8 arg9 arg10 arg11 arg15 arg16 arg17 arg18 arg24 arg25 arg26) V n.toNat (fun j => fin32 (O j)) (fun e => M e.val) t.val (t.val + 3) (by omega) (by omega) h3) $$ HR
    icases HR with ⟨HI, HR⟩
    ihave HI := (show (Idle c (Bufs.mk arg8 arg9 arg10 arg11 arg15 arg16 arg17 arg18 arg24 arg25 arg26) V qs qLs (slot (t.val + 3)) : sProp 𝕄) ⊢ iprop(IdleU c (Bufs.mk arg8 arg9 arg10 arg11 arg15 arg16 arg17 arg18 arg24 arg25 arg26) V qs (slot (t.val + 3)) ∗ IdleD c (Bufs.mk arg8 arg9 arg10 arg11 arg15 arg16 arg17 arg18 arg24 arg25 arg26) V qs (slot (t.val + 3)) ∗ IdleL c (Bufs.mk arg8 arg9 arg10 arg11 arg15 arg16 arg17 arg18 arg24 arg25 arg26) V qLs (slot (t.val + 3))) from .rfl) $$ HI
    icases HI with ⟨HU, HD, HL⟩
    imod (start_zero c EC (Bufs.mk arg8 arg9 arg10 arg11 arg15 arg16 arg17 arg18 arg24 arg25 arg26) V qLs (slot (t.val + 3)) (fin32 (O (k0_off135 n t 0))) (M (O (k0_off135 n t 0)).toNat)) $$ HL with HS
    iapply (wp_seq 𝒱 c bd)
    iapply (wp_part4 𝒱 c bd EC V arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 arg25 arg26 t ht hn hv3 rfl) $$ [H22 H23 HU HS]
    · isplitl [H22]
      · iexact H22
      isplitl [H23]
      · iexact H23
      isplitl [HU]
      · iexact HU
      · iexact HS
    iintro ⟨H22, H23, HU, HS⟩
    iapply (wp_startNo 𝒱 c bd EC (Bufs.mk arg8 arg9 arg10 arg11 arg15 arg16 arg17 arg18 arg24 arg25 arg26) V qLs (slot (t.val + 3)) (fin32 (O (k0_off135 n t 0))) (M (O (k0_off135 n t 0)).toNat) 3 4 (by decide) rfl (C := k0_cond31 (M (k0_off139 (O (k0_off135 n t 0)) 0)) = 1#1) Iff.rfl
      (oA := (k0_off157 (O (k0_off135 n t 0)))) (oB := (k0_off159 (O (k0_off135 n t 0)))) (pA := k0_off156 n t) (pB := k0_off158 n t) (oS := k0_off155 n t) (oS' := k0_off155 n t)
      (fun _ => row_off (O (k0_off135 n t 0)) hv3 3 (by decide)) (fun _ => row_off (O (k0_off135 n t 0)) hv3 3 (by decide)) (fun _ => eta4 (slot_next t.val (by omega))) (fun _ => eta4 (slot_next t.val (by omega))) (fun _ => eta1 (slot_next t.val (by omega))) (fun _ => eta1 (slot_next t.val (by omega)))) $$ HS
    iintro HS
    iapply (wp_retBind 𝒱 c bd)
    iapply (wp_startNo 𝒱 c bd EC (Bufs.mk arg8 arg9 arg10 arg11 arg15 arg16 arg17 arg18 arg24 arg25 arg26) V qLs (slot (t.val + 3)) (fin32 (O (k0_off135 n t 0))) (M (O (k0_off135 n t 0)).toNat) 4 5 (by decide) rfl (C := k0_cond32 (M (k0_off139 (O (k0_off135 n t 0)) 0)) = 1#1) Iff.rfl
      (oA := (k0_off162 (O (k0_off135 n t 0)))) (oB := (k0_off164 (O (k0_off135 n t 0)))) (pA := k0_off161 n t) (pB := k0_off163 n t) (oS := k0_off160 n t) (oS' := k0_off160 n t)
      (fun _ => row_off (O (k0_off135 n t 0)) hv3 4 (by decide)) (fun _ => row_off (O (k0_off135 n t 0)) hv3 4 (by decide)) (fun _ => eta4 (slot_next t.val (by omega))) (fun _ => eta4 (slot_next t.val (by omega))) (fun _ => eta1 (slot_next t.val (by omega))) (fun _ => eta1 (slot_next t.val (by omega)))) $$ HS
    iintro HS
    iapply (wp_retBind 𝒱 c bd)
    iapply (wp_startNo 𝒱 c bd EC (Bufs.mk arg8 arg9 arg10 arg11 arg15 arg16 arg17 arg18 arg24 arg25 arg26) V qLs (slot (t.val + 3)) (fin32 (O (k0_off135 n t 0))) (M (O (k0_off135 n t 0)).toNat) 5 6 (by decide) rfl (C := k0_cond33 (M (k0_off139 (O (k0_off135 n t 0)) 0)) = 1#1) Iff.rfl
      (oA := (k0_off167 (O (k0_off135 n t 0)))) (oB := (k0_off169 (O (k0_off135 n t 0)))) (pA := k0_off166 n t) (pB := k0_off168 n t) (oS := k0_off165 n t) (oS' := k0_off165 n t)
      (fun _ => row_off (O (k0_off135 n t 0)) hv3 5 (by decide)) (fun _ => row_off (O (k0_off135 n t 0)) hv3 5 (by decide)) (fun _ => eta4 (slot_next t.val (by omega))) (fun _ => eta4 (slot_next t.val (by omega))) (fun _ => eta1 (slot_next t.val (by omega))) (fun _ => eta1 (slot_next t.val (by omega)))) $$ HS
    iintro HS
    iapply (wp_retBind 𝒱 c bd)
    iapply (wp_startNo 𝒱 c bd EC (Bufs.mk arg8 arg9 arg10 arg11 arg15 arg16 arg17 arg18 arg24 arg25 arg26) V qLs (slot (t.val + 3)) (fin32 (O (k0_off135 n t 0))) (M (O (k0_off135 n t 0)).toNat) 6 7 (by decide) rfl (C := k0_cond34 (M (k0_off139 (O (k0_off135 n t 0)) 0)) = 1#1) Iff.rfl
      (oA := (k0_off172 (O (k0_off135 n t 0)))) (oB := (k0_off174 (O (k0_off135 n t 0)))) (pA := k0_off171 n t) (pB := k0_off173 n t) (oS := k0_off170 n t) (oS' := k0_off170 n t)
      (fun _ => row_off (O (k0_off135 n t 0)) hv3 6 (by decide)) (fun _ => row_off (O (k0_off135 n t 0)) hv3 6 (by decide)) (fun _ => eta4 (slot_next t.val (by omega))) (fun _ => eta4 (slot_next t.val (by omega))) (fun _ => eta1 (slot_next t.val (by omega))) (fun _ => eta1 (slot_next t.val (by omega)))) $$ HS
    iintro HS
    iapply (wp_retBind 𝒱 c bd)
    iapply (wp_startNo 𝒱 c bd EC (Bufs.mk arg8 arg9 arg10 arg11 arg15 arg16 arg17 arg18 arg24 arg25 arg26) V qLs (slot (t.val + 3)) (fin32 (O (k0_off135 n t 0))) (M (O (k0_off135 n t 0)).toNat) 7 8 (by decide) rfl (C := k0_cond35 (M (k0_off139 (O (k0_off135 n t 0)) 0)) = 1#1) Iff.rfl
      (oA := (k0_off177 (O (k0_off135 n t 0)))) (oB := (k0_off179 (O (k0_off135 n t 0)))) (pA := k0_off176 n t) (pB := k0_off178 n t) (oS := k0_off175 n t) (oS' := k0_off175 n t)
      (fun _ => row_off (O (k0_off135 n t 0)) hv3 7 (by decide)) (fun _ => row_off (O (k0_off135 n t 0)) hv3 7 (by decide)) (fun _ => eta4 (slot_next t.val (by omega))) (fun _ => eta4 (slot_next t.val (by omega))) (fun _ => eta1 (slot_next t.val (by omega))) (fun _ => eta1 (slot_next t.val (by omega)))) $$ HS
    iintro HS
    iapply (wp_retBind 𝒱 c bd)
    iapply (wp_startD 𝒱 c bd EC (Bufs.mk arg8 arg9 arg10 arg11 arg15 arg16 arg17 arg18 arg24 arg25 arg26) V qs (slot (t.val + 3)) (fin32 (O (k0_off135 n t 0))) (oX := k0_off182 (O (k0_off135 n t 0))) (oD := k0_off181 n t) (oS := k0_off180 n t) (eta3 (fin32_val _ hv3).symm) (eta3 (slot_next t.val (by omega))) (eta1 (slot_next t.val (by omega)))) $$ HD
    iintro HD
    ihave HS := (start_eight c EC (Bufs.mk arg8 arg9 arg10 arg11 arg15 arg16 arg17 arg18 arg24 arg25 arg26) V qLs (slot (t.val + 3)) (fin32 (O (k0_off135 n t 0))) (M (O (k0_off135 n t 0)).toNat)) $$ HS
    ihave HR := HR $$ [HU HD HS]
    · iapply (show iprop(BusyU c EC (Bufs.mk arg8 arg9 arg10 arg11 arg15 arg16 arg17 arg18 arg24 arg25 arg26) V qs (slot (t.val + 3)) (fin32 (O (k0_off135 n t 0))) ∗ BusyD c EC (Bufs.mk arg8 arg9 arg10 arg11 arg15 arg16 arg17 arg18 arg24 arg25 arg26) V qs (slot (t.val + 3)) (fin32 (O (k0_off135 n t 0))) ∗ Waiting c EC (Bufs.mk arg8 arg9 arg10 arg11 arg15 arg16 arg17 arg18 arg24 arg25 arg26) V qLs (slot (t.val + 3)) (fin32 (O (k0_off135 n t 0))) (M (O (k0_off135 n t 0)).toNat) 0)
        ⊢ (Busy c EC (Bufs.mk arg8 arg9 arg10 arg11 arg15 arg16 arg17 arg18 arg24 arg25 arg26) V qs qLs (slot (t.val + 3)) (fin32 (O (t.val + 3))) (M (fin32 (O (t.val + 3))).val) : sProp 𝕄) from
          Entails.of_eq (by rw [fin32_val (O (t.val + 3)) (hO _ h3), eO3]; rfl))
      isplitl [HU]
      · iexact HU
      isplitl [HD]
      · iexact HD
      · iexact HS
    iapply (wp_retBind 𝒱 c bd)
    iapply (wp_loadAll 𝒱 c bd zero2) $$ H19
    iintro H19
    iapply (wp_loadAll 𝒱 c bd zero2) $$ H20
    iintro H20
    ihave HR := (ring_take_busy c EC (Bufs.mk arg8 arg9 arg10 arg11 arg15 arg16 arg17 arg18 arg24 arg25 arg26) V n.toNat (fun j => fin32 (O j)) (fun e => M e.val) t.val (t.val + 4) (by omega) (by omega) ht) $$ HR
    icases HR with ⟨HB, HR⟩
    ihave HB := (show (Busy c EC (Bufs.mk arg8 arg9 arg10 arg11 arg15 arg16 arg17 arg18 arg24 arg25 arg26) V qs qLs (slot t.val) (fin32 (O t.val)) (M (fin32 (O t.val)).val) : sProp 𝕄)
        ⊢ iprop(BusyU c EC (Bufs.mk arg8 arg9 arg10 arg11 arg15 arg16 arg17 arg18 arg24 arg25 arg26) V qs (slot t.val) (fin32 (O (k0_off134 n t 0))) ∗ BusyD c EC (Bufs.mk arg8 arg9 arg10 arg11 arg15 arg16 arg17 arg18 arg24 arg25 arg26) V qs (slot t.val) (fin32 (O (k0_off134 n t 0))) ∗ Waiting c EC (Bufs.mk arg8 arg9 arg10 arg11 arg15 arg16 arg17 arg18 arg24 arg25 arg26) V qLs (slot t.val) (fin32 (O (k0_off134 n t 0))) (M (O (k0_off134 n t 0)).toNat) 0)
        from Entails.of_eq (by rw [fin32_val (O t.val) (eO ▸ hv), eO]; rfl)) $$ HB
    icases HB with ⟨HU, HD, HS⟩
    ihave HUo : iprop(BusyU c EC (Bufs.mk arg8 arg9 arg10 arg11 arg15 arg16 arg17 arg18 arg24 arg25 arg26) V qs (slot t.val) (fin32 (O (k0_off134 n t 0))) ∗ owes (c : Thread nD τ) 0 W) $$ [HU Ho]
    · isplitl [HU]
      · iexact HU
      · iexact Ho
    iapply (wp_awaitU 𝒱 c bd EC (Bufs.mk arg8 arg9 arg10 arg11 arg15 arg16 arg17 arg18 arg24 arg25 arg26) V qs (slot t.val) (fin32 (O (k0_off134 n t 0))) (oD := k0_off184 n t) (oS := k0_off183 n t) (eta3 (slot_now t.val (by omega))) (eta1 (slot_now t.val (by omega)))) $$ HUo
    iintro ⟨HU, Ho⟩
    iapply (wp_loadAll 𝒱 c bd zero2) $$ H13
    iintro H13
    ihave HU := (show (LandU c (Bufs.mk arg8 arg9 arg10 arg11 arg15 arg16 arg17 arg18 arg24 arg25 arg26) V qs (slot t.val) (fin32 (O (k0_off134 n t 0))) : sProp 𝕄) ⊢ iprop(owns (c : Thread nD τ) (upSl (Bufs.mk arg8 arg9 arg10 arg11 arg15 arg16 arg17 arg18 arg24 arg25 arg26) (slot t.val)) fullShare (upVal V (fin32 (O (k0_off134 n t 0)))) ∗ (owns (c : Thread nD τ) (upSl (Bufs.mk arg8 arg9 arg10 arg11 arg15 arg16 arg17 arg18 arg24 arg25 arg26) (slot t.val)) fullShare (upVal V (fin32 (O (k0_off134 n t 0)))) -∗ LandU c (Bufs.mk arg8 arg9 arg10 arg11 arg15 arg16 arg17 arg18 arg24 arg25 arg26) V qs (slot t.val) (fin32 (O (k0_off134 n t 0)))))
        from by unfold LandU; iintro ⟨H, HX⟩; isplitl [H]; { iexact H }; iintro H; isplitl [H]; { iexact H }; iexact HX) $$ HU
    icases HU with ⟨HU, HUw⟩
    iapply (wp_load_upSlot 𝒱 c bd (Bufs.mk arg8 arg9 arg10 arg11 arg15 arg16 arg17 arg18 arg24 arg25 arg26) (slot t.val) (o := k0_off186 n t) (eta3 (slot_now t.val (by omega)))) $$ HU
    iintro HU
    ihave HU := HUw $$ HU
    iapply (wp_done 𝒱 c bd)
    iapply HQ
    isplitl [H22]
    · iexact H22
    isplitl [H23]
    · iexact H23
    isplitl [HU]
    · iexact HU
    isplitl [HD]
    · iexact HD
    isplitl [HS]
    · iexact HS
    isplitl [HR]
    · iexact HR
    isplitl [Ho]
    · iexact Ho
    isplitl [H19]
    · iexact H19
    isplitl [H20]
    · iexact H20
    · iexact H13
  · have hc : ¬ k0_cond27 n t = 1#1 := fun h => h3 ((more t.val (by omega) n (by omega)).mp h)
    iapply (wp_ifNeg 𝒱 c bd (C := k0_cond27 n t = 1#1) hc)
    ihave HR := (Entails.of_eq (ring_skip c EC (Bufs.mk arg8 arg9 arg10 arg11 arg15 arg16 arg17 arg18 arg24 arg25 arg26) V n.toNat (fun j => fin32 (O j)) (fun e => M e.val) t.val (t.val + 3) (by omega))) $$ HR
    iapply (wp_loadAll 𝒱 c bd zero2) $$ H19
    iintro H19
    iapply (wp_loadAll 𝒱 c bd zero2) $$ H20
    iintro H20
    ihave HR := (ring_take_busy c EC (Bufs.mk arg8 arg9 arg10 arg11 arg15 arg16 arg17 arg18 arg24 arg25 arg26) V n.toNat (fun j => fin32 (O j)) (fun e => M e.val) t.val (t.val + 4) (by omega) (by omega) ht) $$ HR
    icases HR with ⟨HB, HR⟩
    ihave HB := (show (Busy c EC (Bufs.mk arg8 arg9 arg10 arg11 arg15 arg16 arg17 arg18 arg24 arg25 arg26) V qs qLs (slot t.val) (fin32 (O t.val)) (M (fin32 (O t.val)).val) : sProp 𝕄)
        ⊢ iprop(BusyU c EC (Bufs.mk arg8 arg9 arg10 arg11 arg15 arg16 arg17 arg18 arg24 arg25 arg26) V qs (slot t.val) (fin32 (O (k0_off134 n t 0))) ∗ BusyD c EC (Bufs.mk arg8 arg9 arg10 arg11 arg15 arg16 arg17 arg18 arg24 arg25 arg26) V qs (slot t.val) (fin32 (O (k0_off134 n t 0))) ∗ Waiting c EC (Bufs.mk arg8 arg9 arg10 arg11 arg15 arg16 arg17 arg18 arg24 arg25 arg26) V qLs (slot t.val) (fin32 (O (k0_off134 n t 0))) (M (O (k0_off134 n t 0)).toNat) 0)
        from Entails.of_eq (by rw [fin32_val (O t.val) (eO ▸ hv), eO]; rfl)) $$ HB
    icases HB with ⟨HU, HD, HS⟩
    ihave HUo : iprop(BusyU c EC (Bufs.mk arg8 arg9 arg10 arg11 arg15 arg16 arg17 arg18 arg24 arg25 arg26) V qs (slot t.val) (fin32 (O (k0_off134 n t 0))) ∗ owes (c : Thread nD τ) 0 W) $$ [HU Ho]
    · isplitl [HU]
      · iexact HU
      · iexact Ho
    iapply (wp_awaitU 𝒱 c bd EC (Bufs.mk arg8 arg9 arg10 arg11 arg15 arg16 arg17 arg18 arg24 arg25 arg26) V qs (slot t.val) (fin32 (O (k0_off134 n t 0))) (oD := k0_off184 n t) (oS := k0_off183 n t) (eta3 (slot_now t.val (by omega))) (eta1 (slot_now t.val (by omega)))) $$ HUo
    iintro ⟨HU, Ho⟩
    iapply (wp_loadAll 𝒱 c bd zero2) $$ H13
    iintro H13
    ihave HU := (show (LandU c (Bufs.mk arg8 arg9 arg10 arg11 arg15 arg16 arg17 arg18 arg24 arg25 arg26) V qs (slot t.val) (fin32 (O (k0_off134 n t 0))) : sProp 𝕄) ⊢ iprop(owns (c : Thread nD τ) (upSl (Bufs.mk arg8 arg9 arg10 arg11 arg15 arg16 arg17 arg18 arg24 arg25 arg26) (slot t.val)) fullShare (upVal V (fin32 (O (k0_off134 n t 0)))) ∗ (owns (c : Thread nD τ) (upSl (Bufs.mk arg8 arg9 arg10 arg11 arg15 arg16 arg17 arg18 arg24 arg25 arg26) (slot t.val)) fullShare (upVal V (fin32 (O (k0_off134 n t 0)))) -∗ LandU c (Bufs.mk arg8 arg9 arg10 arg11 arg15 arg16 arg17 arg18 arg24 arg25 arg26) V qs (slot t.val) (fin32 (O (k0_off134 n t 0)))))
        from by unfold LandU; iintro ⟨H, HX⟩; isplitl [H]; { iexact H }; iintro H; isplitl [H]; { iexact H }; iexact HX) $$ HU
    icases HU with ⟨HU, HUw⟩
    iapply (wp_load_upSlot 𝒱 c bd (Bufs.mk arg8 arg9 arg10 arg11 arg15 arg16 arg17 arg18 arg24 arg25 arg26) (slot t.val) (o := k0_off186 n t) (eta3 (slot_now t.val (by omega)))) $$ HU
    iintro HU
    ihave HU := HUw $$ HU
    iapply (wp_done 𝒱 c bd)
    iapply HQ
    isplitl [H22]
    · iexact H22
    isplitl [H23]
    · iexact H23
    isplitl [HU]
    · iexact HU
    isplitl [HD]
    · iexact HD
    isplitl [HS]
    · iexact HS
    isplitl [HR]
    · iexact HR
    isplitl [Ho]
    · iexact Ho
    isplitl [H19]
    · iexact H19
    isplitl [H20]
    · iexact H20
    · iexact H13

theorem wp_part6 {q2 q6 : PosShare TreeShare} {M : ℕ → BitVec 32} {n : BitVec 32} (t : Fin (k0_t4_loop n).trips) (hn : n.toNat ≤ 33) (htn : t.val < 34) {v : BitVec 32} {hw19 : k0_chk19 v} (hv : v.toNat < 32)
    {v211 : FVec F S32x768 .f32} {W0 : Waits sig Unit} {X6 : S32x768.Idx → Elt F .f32}
    {Q : (Σ' (v215 : FVec F S32x768 .f32) (v217 : Elt F .i32) (k0_hw20 : k0_chk20 n t v v217), BitVec 32) → sProp (MT nD τ sig Unit (Elt F) ℕ U ℕ)} :
    iprop(words c arg22 q2 M ∗ owns (c : Thread nD τ) arg6 q6 X6 ∗ Waiting c EC (Bufs.mk arg8 arg9 arg10 arg11 arg15 arg16 arg17 arg18 arg24 arg25 arg26) V qLs (slot t.val) (fin32 v) (M v.toNat) 0 ∗ owes (c : Thread nD τ) 0 W0)
      ⊢ iprop((words c arg22 q2 M ∗ owns (c : Thread nD τ) arg6 q6 X6 ∗ Waiting c EC (Bufs.mk arg8 arg9 arg10 arg11 arg15 arg16 arg17 arg18 arg24 arg25 arg26) V qLs (slot t.val) (fin32 v) (M v.toNat) 5 ∗ (∃ W', owes (c : Thread nD τ) 0 W')
            -∗ Q ⟨k0_pay9 v211 (fun i : (Rect.unit (s := S32x768) (k0_off187 v) S1x768.size (k0_off187_inb v (chk19 v hv))).shape.Idx => X6 ((Rect.unit (s := S32x768) (k0_off187 v) S1x768.size (k0_off187_inb v (chk19 v hv))).emb i)), M (k0_off188 v 0), chk20 n hn t v hv _, Scalar.shrsi (M (k0_off188 v 0)) 6#32⟩) -∗
        wp frame (wpE defs 𝒱 (c : Thread nD τ) bd) Set.univ (k0_part6 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 arg25 arg26 n t v hw19 v211) Q) := by
  rw [k0_part6_eq_skeleton]
  iintro ⟨H22, H6, HS, Ho⟩ HQ
  sl_unfold [k0_part6_skel]
  iapply (wp_load_owns 𝒱 (c : Thread nD τ) bd) $$ H6
  iintro H6
  iapply (wp_word 𝒱 c bd) $$ H22
  iintro H22
  iapply (wp_assume 𝒱 (c : Thread nD τ) bd Set.univ (chk20 n hn t v hv _))
  iapply (wp_retBind 𝒱 c bd)
  ihave HW : iprop(Waiting c EC (Bufs.mk arg8 arg9 arg10 arg11 arg15 arg16 arg17 arg18 arg24 arg25 arg26) V qLs (slot t.val) (fin32 v) (M v.toNat) 0 ∗ owes (c : Thread nD τ) 0 W0) $$ [HS Ho]
  · isplitl [HS]
    · iexact HS
    · iexact Ho
  iapply (wp_waitNo 𝒱 c bd EC (Bufs.mk arg8 arg9 arg10 arg11 arg15 arg16 arg17 arg18 arg24 arg25 arg26) V qLs (slot t.val) (fin32 v) (M v.toNat) 0 1 (by decide) rfl (C := k0_cond36 (M (k0_off188 v 0)) = 1#1) Iff.rfl
    (pA := k0_off190 n t) (pB := k0_off192 n t) (oS := k0_off189 n t) (oS' := k0_off189 n t)
    (fun _ => eta4' (slot_now t.val (by omega))) (fun _ => eta4' (slot_now t.val (by omega))) (fun _ => eta1 (slot_now t.val (by omega))) (fun _ => eta1 (slot_now t.val (by omega)))) $$ HW
  iintro ⟨HS, %W1, Ho⟩
  iapply (wp_retBind 𝒱 c bd)
  ihave HW : iprop(Waiting c EC (Bufs.mk arg8 arg9 arg10 arg11 arg15 arg16 arg17 arg18 arg24 arg25 arg26) V qLs (slot t.val) (fin32 v) (M v.toNat) 1 ∗ owes (c : Thread nD τ) 0 W1) $$ [HS Ho]
  · isplitl [HS]
    · iexact HS
    · iexact Ho
  iapply (wp_waitNo 𝒱 c bd EC (Bufs.mk arg8 arg9 arg10 arg11 arg15 arg16 arg17 arg18 arg24 arg25 arg26) V qLs (slot t.val) (fin32 v) (M v.toNat) 1 2 (by decide) rfl (C := k0_cond37 (M (k0_off188 v 0)) = 1#1) Iff.rfl
    (pA := k0_off195 n t) (pB := k0_off197 n t) (oS := k0_off194 n t) (oS' := k0_off194 n t)
    (fun _ => eta4 (slot_now t.val (by omega))) (fun _ => eta4 (slot_now t.val (by omega))) (fun _ => eta1 (slot_now t.val (by omega))) (fun _ => eta1 (slot_now t.val (by omega)))) $$ HW
  iintro ⟨HS, %W2, Ho⟩
  iapply (wp_retBind 𝒱 c bd)
  ihave HW : iprop(Waiting c EC (Bufs.mk arg8 arg9 arg10 arg11 arg15 arg16 arg17 arg18 arg24 arg25 arg26) V qLs (slot t.val) (fin32 v) (M v.toNat) 2 ∗ owes (c : Thread nD τ) 0 W2) $$ [HS Ho]
  · isplitl [HS]
    · iexact HS
    · iexact Ho
  iapply (wp_waitNo 𝒱 c bd EC (Bufs.mk arg8 arg9 arg10 arg11 arg15 arg16 arg17 arg18 arg24 arg25 arg26) V qLs (slot t.val) (fin32 v) (M v.toNat) 2 3 (by decide) rfl (C := k0_cond38 (M (k0_off188 v 0)) = 1#1) Iff.rfl
    (pA := k0_off200 n t) (pB := k0_off202 n t) (oS := k0_off199 n t) (oS' := k0_off199 n t)
    (fun _ => eta4 (slot_now t.val (by omega))) (fun _ => eta4 (slot_now t.val (by omega))) (fun _ => eta1 (slot_now t.val (by omega))) (fun _ => eta1 (slot_now t.val (by omega)))) $$ HW
  iintro ⟨HS, %W3, Ho⟩
  iapply (wp_retBind 𝒱 c bd)
  ihave HW : iprop(Waiting c EC (Bufs.mk arg8 arg9 arg10 arg11 arg15 arg16 arg17 arg18 arg24 arg25 arg26) V qLs (slot t.val) (fin32 v) (M v.toNat) 3 ∗ owes (c : Thread nD τ) 0 W3) $$ [HS Ho]
  · isplitl [HS]
    · iexact HS
    · iexact Ho
  iapply (wp_waitNo 𝒱 c bd EC (Bufs.mk arg8 arg9 arg10 arg11 arg15 arg16 arg17 arg18 arg24 arg25 arg26) V qLs (slot t.val) (fin32 v) (M v.toNat) 3 4 (by decide) rfl (C := k0_cond39 (M (k0_off188 v 0)) = 1#1) Iff.rfl
    (pA := k0_off205 n t) (pB := k0_off207 n t) (oS := k0_off204 n t) (oS' := k0_off204 n t)
    (fun _ => eta4 (slot_now t.val (by omega))) (fun _ => eta4 (slot_now t.val (by omega))) (fun _ => eta1 (slot_now t.val (by omega))) (fun _ => eta1 (slot_now t.val (by omega)))) $$ HW
  iintro ⟨HS, %W4, Ho⟩
  iapply (wp_retBind 𝒱 c bd)
  ihave HW : iprop(Waiting c EC (Bufs.mk arg8 arg9 arg10 arg11 arg15 arg16 arg17 arg18 arg24 arg25 arg26) V qLs (slot t.val) (fin32 v) (M v.toNat) 4 ∗ owes (c : Thread nD τ) 0 W4) $$ [HS Ho]
  · isplitl [HS]
    · iexact HS
    · iexact Ho
  iapply (wp_waitNo 𝒱 c bd EC (Bufs.mk arg8 arg9 arg10 arg11 arg15 arg16 arg17 arg18 arg24 arg25 arg26) V qLs (slot t.val) (fin32 v) (M v.toNat) 4 5 (by decide) rfl (C := k0_cond40 (M (k0_off188 v 0)) = 1#1) Iff.rfl
    (pA := k0_off210 n t) (pB := k0_off212 n t) (oS := k0_off209 n t) (oS' := k0_off209 n t)
    (fun _ => eta4 (slot_now t.val (by omega))) (fun _ => eta4 (slot_now t.val (by omega))) (fun _ => eta1 (slot_now t.val (by omega))) (fun _ => eta1 (slot_now t.val (by omega)))) $$ HW
  iintro ⟨HS, %W5, Ho⟩
  iapply (wp_retBind 𝒱 c bd)
  iapply (wp_done 𝒱 c bd)
  iapply HQ
  isplitl [H22]
  · iexact H22
  isplitl [H6]
  · iexact H6
  isplitl [HS]
  · iexact HS
  · iexists W5; iexact Ho

theorem wp_part7 {q5 : PosShare TreeShare} {n : BitVec 32} (t : Fin (k0_t4_loop n).trips) (hn : n.toNat ≤ 33) (htn : t.val < 34) {v : BitVec 32} {v21 : BitVec 32} {m : BitVec 32} {hw16 : k0_chk16 n} {v166 : IVec S32x128 1} {v179 : BitVec 32} {v192 : IVec S32x1 1}
    {v215 : FVec F S32x768 .f32} {hw20 : k0_chk20 n t v m} {v243 : BitVec 32} (hv : v.toNat < 32) {W5 : Waits sig Unit} {X5 : S32x5120.Idx → Elt F .bf16}
    {Q : FVec F S32x768 .f32 → sProp (MT nD τ sig Unit (Elt F) ℕ U ℕ)} :
    iprop(owns (c : Thread nD τ) arg5 q5 X5 ∗ Waiting c EC (Bufs.mk arg8 arg9 arg10 arg11 arg15 arg16 arg17 arg18 arg24 arg25 arg26) V qLs (slot t.val) (fin32 v) m 5 ∗ owes (c : Thread nD τ) 0 W5)
      ⊢ iprop((∀ A B, iprop(⌜FactA V (fin32 v) m A ∧ FactB V (fin32 v) m B⌝ ∗ owns (c : Thread nD τ) arg5 q5 X5 ∗ IdleL c (Bufs.mk arg8 arg9 arg10 arg11 arg15 arg16 arg17 arg18 arg24 arg25 arg26) V qLs (slot t.val) ∗ (∃ W', owes (c : Thread nD τ) 0 W'))
            -∗ Q (k0_pay10 v166 v192 v215 A B X5)) -∗
        wp frame (wpE defs 𝒱 (c : Thread nD τ) bd) Set.univ (k0_part7 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 arg25 arg26 n hw16 v166 t v v179 v192 v215 m hw20 v243) Q) := by
  rw [k0_part7_eq_skeleton]
  iintro ⟨H5, HS, Ho⟩ HQ
  sl_unfold [k0_part7_skel]
  ihave HW : iprop(Waiting c EC (Bufs.mk arg8 arg9 arg10 arg11 arg15 arg16 arg17 arg18 arg24 arg25 arg26) V qLs (slot t.val) (fin32 v) m 5 ∗ owes (c : Thread nD τ) 0 W5) $$ [HS Ho]
  · isplitl [HS]
    · iexact HS
    · iexact Ho
  iapply (wp_waitNo 𝒱 c bd EC (Bufs.mk arg8 arg9 arg10 arg11 arg15 arg16 arg17 arg18 arg24 arg25 arg26) V qLs (slot t.val) (fin32 v) m 5 6 (by decide) rfl (C := k0_cond41 m = 1#1) Iff.rfl
    (pA := k0_off215 n t) (pB := k0_off217 n t) (oS := k0_off214 n t) (oS' := k0_off214 n t)
    (fun _ => eta4 (slot_now t.val (by omega))) (fun _ => eta4 (slot_now t.val (by omega))) (fun _ => eta1 (slot_now t.val (by omega))) (fun _ => eta1 (slot_now t.val (by omega)))) $$ HW
  iintro ⟨HS, %W6, Ho⟩
  iapply (wp_retBind 𝒱 c bd)
  ihave HW : iprop(Waiting c EC (Bufs.mk arg8 arg9 arg10 arg11 arg15 arg16 arg17 arg18 arg24 arg25 arg26) V qLs (slot t.val) (fin32 v) m 6 ∗ owes (c : Thread nD τ) 0 W6) $$ [HS Ho]
  · isplitl [HS]
    · iexact HS
    · iexact Ho
  iapply (wp_waitNo 𝒱 c bd EC (Bufs.mk arg8 arg9 arg10 arg11 arg15 arg16 arg17 arg18 arg24 arg25 arg26) V qLs (slot t.val) (fin32 v) m 6 7 (by decide) rfl (C := k0_cond42 m = 1#1) Iff.rfl
    (pA := k0_off220 n t) (pB := k0_off222 n t) (oS := k0_off219 n t) (oS' := k0_off219 n t)
    (fun _ => eta4 (slot_now t.val (by omega))) (fun _ => eta4 (slot_now t.val (by omega))) (fun _ => eta1 (slot_now t.val (by omega))) (fun _ => eta1 (slot_now t.val (by omega)))) $$ HW
  iintro ⟨HS, %W7, Ho⟩
  iapply (wp_retBind 𝒱 c bd)
  ihave HW : iprop(Waiting c EC (Bufs.mk arg8 arg9 arg10 arg11 arg15 arg16 arg17 arg18 arg24 arg25 arg26) V qLs (slot t.val) (fin32 v) m 7 ∗ owes (c : Thread nD τ) 0 W7) $$ [HS Ho]
  · isplitl [HS]
    · iexact HS
    · iexact Ho
  iapply (wp_waitNo 𝒱 c bd EC (Bufs.mk arg8 arg9 arg10 arg11 arg15 arg16 arg17 arg18 arg24 arg25 arg26) V qLs (slot t.val) (fin32 v) m 7 8 (by decide) rfl (C := k0_cond43 m = 1#1) Iff.rfl
    (pA := k0_off225 n t) (pB := k0_off227 n t) (oS := k0_off224 n t) (oS' := k0_off224 n t)
    (fun _ => eta4 (slot_now t.val (by omega))) (fun _ => eta4 (slot_now t.val (by omega))) (fun _ => eta1 (slot_now t.val (by omega))) (fun _ => eta1 (slot_now t.val (by omega)))) $$ HW
  iintro ⟨HS, %W8, Ho⟩
  iapply (wp_retBind 𝒱 c bd)
  imod (landL_of c EC (Bufs.mk arg8 arg9 arg10 arg11 arg15 arg16 arg17 arg18 arg24 arg25 arg26) V qLs (slot t.val) (fin32 v) m) $$ HS with HS
  iapply (wp_load_lora 𝒱 c bd (Bufs.mk arg8 arg9 arg10 arg11 arg15 arg16 arg17 arg18 arg24 arg25 arg26) V qLs (slot t.val) (fin32 v) m (oA := k0_off229 n t) (oB := k0_off230 n t) (eta4' (slot_now t.val (by omega))) (eta4' (slot_now t.val (by omega)))) $$ HS
  iintro %A %B ⟨%hAB, HL⟩
  iapply (wp_loadAll 𝒱 c bd zero2) $$ H5
  iintro H5
  iapply (wp_done 𝒱 c bd)
  ispecialize HQ $$ %A %B
  iapply HQ
  isplitr
  · ipureintro; exact hAB
  isplitl [H5]
  · iexact H5
  isplitl [HL]
  · iexact HL
  · iexists W8; iexact Ho

end Cert.Proof.KI
-- ==== Proof.KI.Loop.lean ====
module

public import proofs.«01_k».proof.Proof.KI.Trip

@[expose] public section

/-!
# The loop over experts
-/

set_option maxRecDepth 16384

noncomputable section

namespace Cert.Proof.KI

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Proof.Copies Cert.Proof.Words Cert.Proof.Tables Cert.Proof.Slots Cert.Proof.RingState Cert.Proof.Nums
open Cert.KernelIdeal Cert.KernelIdeal.Gen

variable {F : FTy → Type} [FloatOps F] {U : Type} [URA U]

local notation "𝕄" => MT nD τ sig Unit (Elt F) ℕ U ℕ

variable {defs : Defs nD τ sig (Elt F) Λ₀} (𝒱 : Variants) (c : Dev nD) (bd : Option 𝒱.V)
variable (EC : UEmb Counters (MT nD τ sig Unit (Elt F) ℕ U ℕ)) [EC.LandsIn (upEmb : UEmb _ (MT nD τ sig Unit (Elt F) ℕ U ℕ))]
variable (V : Vals (Elt F))
variable (arg0 : Memref sig .tc .smem S8x32 .i32) (harg0 : arg0.IsWhole) (arg1 : Memref sig .tc .smem S1x32 .i32) (harg1 : arg1.IsWhole) (arg2 : Memref sig .tc .vmem S8x32 .i32) (harg2 : arg2.IsWhole) (arg3 : Memref sig .tc .vmem S8x32 .f32) (harg3 : arg3.IsWhole) (arg4 : Memref sig .tc .vmem S32x1 .i32) (harg4 : arg4.IsWhole) (arg5 : Memref sig .tc .vmem S32x5120 .bf16) (harg5 : arg5.IsWhole) (arg6 : Memref sig .tc .vmem S32x768 .f32) (harg6 : arg6.IsWhole) (arg7 : Memref sig .tc .vmem S32x5120 .f32) (harg7 : arg7.IsWhole) (arg8 : Memref sig .tc .hbm S32x5120x768 .fp8e4m3) (harg8 : arg8.IsWhole) (arg9 : Memref sig .tc .hbm S32x768x5120 .fp8e4m3) (harg9 : arg9.IsWhole) (arg10 : Memref sig .tc .hbm S256x16x5120 .bf16) (harg10 : arg10.IsWhole) (arg11 : Memref sig .tc .hbm S256x16x768 .bf16) (harg11 : arg11.IsWhole) (arg12 : Memref sig .tc .vmem S32x5120 .bf16) (harg12 : arg12.IsWhole) (arg13 : Memref sig .tc .vmem S32x5120 .fp8e4m3) (harg13 : arg13.IsWhole) (arg14 : Memref sig .tc .vmem S32x1 .f32) (harg14 : arg14.IsWhole) (arg15 : Memref sig .tc .vmem S4x5120x768 .fp8e4m3) (harg15 : arg15.IsWhole) (arg16 : Memref sig .tc .vmem S4x768x5120 .fp8e4m3) (harg16 : arg16.IsWhole) (arg17 : Memref sig .tc .vmem S4x8x16x5120 .bf16) (harg17 : arg17.IsWhole) (arg18 : Memref sig .tc .vmem S4x8x16x768 .bf16) (harg18 : arg18.IsWhole) (arg19 : Memref sig .tc .vmem S32x8 .i32) (harg19 : arg19.IsWhole) (arg20 : Memref sig .tc .vmem S32x8 .f32) (harg20 : arg20.IsWhole) (arg21 : Memref sig .tc .vmem S32x5120 .f32) (harg21 : arg21.IsWhole) (arg22 : Memref sig .tc .smem S32 .i32) (harg22 : arg22.IsWhole) (arg23 : Memref sig .tc .smem S33 .i32) (harg23 : arg23.IsWhole) (arg24 : DmaSems sig S4) (arg25 : DmaSems sig S4) (arg26 : DmaSems sig S4)

/-- The row of the up weights' scales the kernel loads for an expert. -/
def row6 (X6 : S32x768.Idx → Elt F .f32) (v : BitVec 32) (hv : v.toNat < 32) : Vec F S1x768 .f32 :=
  fun i : (Rect.unit (s := S32x768) (k0_off187 v) S1x768.size (k0_off187_inb v (chk19 v hv))).shape.Idx => X6 ((Rect.unit (s := S32x768) (k0_off187 v) S1x768.size (k0_off187_inb v (chk19 v hv))).emb i)
/-- The row of the down weights' scales the kernel loads for an expert. -/
def row7 (X7 : S32x5120.Idx → Elt F .f32) (v : BitVec 32) (hv : v.toNat < 32) : Vec F S1x5120 .f32 :=
  fun i : (Rect.unit (s := S32x5120) (k0_off235 v) S1x5120.size (k0_off235_inb v (chk19 v hv))).shape.Idx => X7 ((Rect.unit (s := S32x5120) (k0_off235 v) S1x5120.size (k0_off235_inb v (chk19 v hv))).emb i)

/-- The gated product of one expert: its up product and the low-rank correction. -/
def hidden (v107 : FVec F S32x1 .f32) (v166 : IVec S32x128 1) (X19 : S32x8.Idx → Elt F .i32) (X13 : S32x5120.Idx → Elt F .fp8e4m3)
    (X5 : S32x5120.Idx → Elt F .bf16) (v : BitVec 32) (UP : S1x5120x768.Idx → Elt F .fp8e4m3) (R6 : Vec F S1x768 .f32)
    (A : S1x8x16x5120.Idx → Elt F .bf16) (B : S1x8x16x768.Idx → Elt F .bf16) : FVec F S32x768 .f32 :=
  k0_pay10 v166 (k0_pay6 v X19) (k0_pay9 (k0_pay8 v107 X13 UP) R6) A B X5

/-- What one trip of the loop over experts makes of the accumulator. -/
def stepAcc (v107 : FVec F S32x1 .f32) (v166 : IVec S32x128 1) (X19 : S32x8.Idx → Elt F .i32) (X20 : S32x8.Idx → Elt F .f32) (X13 : S32x5120.Idx → Elt F .fp8e4m3)
    (X5 : S32x5120.Idx → Elt F .bf16) (v : BitVec 32) (UP : S1x5120x768.Idx → Elt F .fp8e4m3) (DN : S1x768x5120.Idx → Elt F .fp8e4m3) (R6 : Vec F S1x768 .f32) (R7 : Vec F S1x5120 .f32)
    (A : S1x8x16x5120.Idx → Elt F .bf16) (B : S1x8x16x768.Idx → Elt F .bf16) (acc : S32x5120.Idx → Elt F .f32) : S32x5120.Idx → Elt F .f32 :=
  k0_pay2 (k0_pay6 v X19) (k0_pay7 v X19 X20) (k0_pay13 (hidden v107 v166 X19 X13 X5 v UP R6 A B)) (k0_pay14 (hidden v107 v166 X19 X13 X5 v UP R6 A B))
    (Scalar.ofBits .f32 0xC3E00000#32) DN R7 acc

/-- The arrays a trip reads. -/
def Held (q2 q5 q6 q7 : PosShare TreeShare) (M O : ℕ → BitVec 32) (X5 : S32x5120.Idx → Elt F .bf16) (X6 : S32x768.Idx → Elt F .f32) (X7 : S32x5120.Idx → Elt F .f32)
    (X13 : S32x5120.Idx → Elt F .fp8e4m3) (X19 : S32x8.Idx → Elt F .i32) (X20 : S32x8.Idx → Elt F .f32) : sProp (MT nD τ sig Unit (Elt F) ℕ U ℕ) :=
  iprop(words c arg22 q2 M ∗ words c arg23 fullShare O ∗ owns (c : Thread nD τ) arg5 q5 X5 ∗ owns (c : Thread nD τ) arg6 q6 X6 ∗ owns (c : Thread nD τ) arg7 q7 X7
    ∗ owns (c : Thread nD τ) arg13 fullShare X13 ∗ owns (c : Thread nD τ) arg19 fullShare X19 ∗ owns (c : Thread nD τ) arg20 fullShare X20)

theorem wp_part8 {v277 : FVec F S32x768 .f32} {Q : (Σ' (v314 : FVec F S32x1 .f32) (v321 : FVec F S32x768 .f32), F .f32) → sProp (MT nD τ sig Unit (Elt F) ℕ U ℕ)} :
    Q ⟨k0_pay13 v277, k0_pay14 v277, Scalar.ofBits .f32 0xC3E00000#32⟩ ⊢ wp frame (wpE defs 𝒱 (c : Thread nD τ) bd) Set.univ (k0_part8 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 arg25 arg26 v277) Q := by
  rw [k0_part8_eq_skeleton]
  iintro HQ
  sl_unfold [k0_part8_skel]
  iapply (wp_done 𝒱 c bd)
  iexact HQ

variable {q2 q5 q6 q7 : PosShare TreeShare} {M O : ℕ → BitVec 32} {X5 : S32x5120.Idx → Elt F .bf16} {X6 : S32x768.Idx → Elt F .f32} {X7 : S32x5120.Idx → Elt F .f32}
    {X13 : S32x5120.Idx → Elt F .fp8e4m3} {X19 : S32x8.Idx → Elt F .i32} {X20 : S32x8.Idx → Elt F .f32}

theorem wp_trip {n : BitVec 32} {hw16 : k0_chk16 n} (hn : n.toNat ≤ 33) (hO : ∀ j, j < n.toNat → (O j).toNat < 32)
    {v107 : FVec F S32x1 .f32} {v162 : IVec S32x128 32} {v163 : Vec F S32x1 .i32} (Pacc : ℕ → (S32x5120.Idx → Elt F .f32) → Prop)
    (hstep : ∀ j acc A B, j < n.toNat → ∀ hv : (O j).toNat < 32, Pacc j acc → FactA V (fin32 (O j)) (M (O j).toNat) A → FactB V (fin32 (O j)) (M (O j).toNat) B →
      Pacc (j + 1) (stepAcc v107 (k0_pay1 v162 v163) X19 X20 X13 X5 (O j) (upVal V (fin32 (O j))) (dnVal V (fin32 (O j))) (row6 X6 (O j) hv) (row7 X7 (O j) hv) A B acc))
    (t : Fin (k0_t4_loop n).trips) (a : BitVec 32) (ht : t.val < n.toNat) :
    (iprop(Held c arg5 arg6 arg7 arg13 arg19 arg20 arg22 arg23 q2 q5 q6 q7 M O X5 X6 X7 X13 X19 X20 ∗ RingSt c EC (Bufs.mk arg8 arg9 arg10 arg11 arg15 arg16 arg17 arg18 arg24 arg25 arg26) V n.toNat (fun j => fin32 (O j)) (fun e => M e.val) t.val (t.val + 3)
        ∗ (∃ W, owes (c : Thread nD τ) 0 W) ∗ (∃ acc, ⌜Pacc t.val acc⌝ ∗ owns (c : Thread nD τ) arg21 fullShare acc)) : sProp 𝕄)
      ⊢ wp frame (wpE defs 𝒱 (c : Thread nD τ) bd) Set.univ (k0_t4_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 arg25 arg26 n hw16 v107 v162 v163 t a)
        (fun _ => iprop(Held c arg5 arg6 arg7 arg13 arg19 arg20 arg22 arg23 q2 q5 q6 q7 M O X5 X6 X7 X13 X19 X20 ∗ RingSt c EC (Bufs.mk arg8 arg9 arg10 arg11 arg15 arg16 arg17 arg18 arg24 arg25 arg26) V n.toNat (fun j => fin32 (O j)) (fun e => M e.val) (t.val + 1) (t.val + 4)
        ∗ (∃ W, owes (c : Thread nD τ) 0 W) ∗ (∃ acc, ⌜Pacc (t.val + 1) acc⌝ ∗ owns (c : Thread nD τ) arg21 fullShare acc))) := by
  have e0 : k0_off134 n t 0 = t.val := by
    show (iv t.val).toNat = t.val
    rw [iv_eq, BitVec.toNat_ofNat]; omega
  have hv : (O (k0_off134 n t 0)).toNat < 32 := by rw [e0]; exact hO _ ht
  have hstep' : ∀ acc A B, Pacc t.val acc → FactA V (fin32 (O (k0_off134 n t 0))) (M (O (k0_off134 n t 0)).toNat) A → FactB V (fin32 (O (k0_off134 n t 0))) (M (O (k0_off134 n t 0)).toNat) B →
      Pacc (t.val + 1) (stepAcc v107 (k0_pay1 v162 v163) X19 X20 X13 X5 (O (k0_off134 n t 0)) (upVal V (fin32 (O (k0_off134 n t 0)))) (dnVal V (fin32 (O (k0_off134 n t 0)))) (row6 X6 (O (k0_off134 n t 0)) hv) (row7 X7 (O (k0_off134 n t 0)) hv) A B acc) := by
    revert hv
    rw [e0]
    intro hv acc A B h1 h2 h3
    exact hstep t.val acc A B ht hv h1 h2 h3
  unfold Held
  iintro ⟨⟨H22, H23, H5, H6, H7, H13, H19, H20⟩, HR, ⟨%W, Ho⟩, ⟨%acc, %hacc, H21⟩⟩
  sl_unfold [k0_t4_body]
  iapply (wp_seq 𝒱 c bd)
  iapply (wp_part5 𝒱 c bd EC V arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 arg25 arg26 t ht hn hv hO) $$ [H22 H23 HR Ho H19 H20 H13]
  · isplitl [H22]
    · iexact H22
    isplitl [H23]
    · iexact H23
    isplitl [HR]
    · iexact HR
    isplitl [Ho]
    · iexact Ho
    isplitl [H19]
    · iexact H19
    isplitl [H20]
    · iexact H20
    · iexact H13
  iintro ⟨H22, H23, HU, HD, HS, HR, ⟨%W1, Ho⟩, H19, H20, H13⟩
  iapply (wp_seq 𝒱 c bd)
  iapply (wp_part6 𝒱 c bd EC V arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 arg25 arg26 t hn (by omega) hv) $$ [H22 H6 HS Ho]
  · isplitl [H22]
    · iexact H22
    isplitl [H6]
    · iexact H6
    isplitl [HS]
    · iexact HS
    · iexact Ho
  iintro ⟨H22, H6, HS, ⟨%W2, Ho⟩⟩
  iapply (wp_seq 𝒱 c bd)
  iapply (wp_part7 𝒱 c bd EC V arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 arg25 arg26 t hn (by omega) (v := (O (k0_off134 n t 0))) (v21 := n) (m := M (k0_off188 (O (k0_off134 n t 0)) 0)) hv) $$ [H5 HS Ho]
  · isplitl [H5]
    · iexact H5
    isplitl [HS]
    · iexact HS
    · iexact Ho
  iintro %A %B ⟨%hAB, H5, HL, ⟨%W3, Ho⟩⟩
  iapply (wp_seq 𝒱 c bd)
  iapply (wp_part8 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 arg25 arg26)
  ihave HDo : iprop(BusyD c EC (Bufs.mk arg8 arg9 arg10 arg11 arg15 arg16 arg17 arg18 arg24 arg25 arg26) V qs (slot t.val) (fin32 (O (k0_off134 n t 0))) ∗ owes (c : Thread nD τ) 0 W3) $$ [HD Ho]
  · isplitl [HD]
    · iexact HD
    · iexact Ho
  iapply (wp_awaitD 𝒱 c bd EC (Bufs.mk arg8 arg9 arg10 arg11 arg15 arg16 arg17 arg18 arg24 arg25 arg26) V qs (slot t.val) (fin32 (O (k0_off134 n t 0))) (oD := k0_off232 n t) (oS := k0_off231 n t) (eta3 (slot_now t.val (by omega))) (eta1 (slot_now t.val (by omega)))) $$ HDo
  iintro ⟨HD, %W4, Ho⟩
  ihave HD := (show (LandD c (Bufs.mk arg8 arg9 arg10 arg11 arg15 arg16 arg17 arg18 arg24 arg25 arg26) V qs (slot t.val) (fin32 (O (k0_off134 n t 0))) : sProp 𝕄) ⊢ iprop(owns (c : Thread nD τ) (dnSl (Bufs.mk arg8 arg9 arg10 arg11 arg15 arg16 arg17 arg18 arg24 arg25 arg26) (slot t.val)) fullShare (dnVal V (fin32 (O (k0_off134 n t 0)))) ∗ (owns (c : Thread nD τ) (dnSl (Bufs.mk arg8 arg9 arg10 arg11 arg15 arg16 arg17 arg18 arg24 arg25 arg26) (slot t.val)) fullShare (dnVal V (fin32 (O (k0_off134 n t 0)))) -∗ LandD c (Bufs.mk arg8 arg9 arg10 arg11 arg15 arg16 arg17 arg18 arg24 arg25 arg26) V qs (slot t.val) (fin32 (O (k0_off134 n t 0)))))
      from by unfold LandD; iintro ⟨H, HX⟩; isplitl [H]; { iexact H }; iintro H; isplitl [H]; { iexact H }; iexact HX) $$ HD
  icases HD with ⟨HD, HDw⟩
  iapply (wp_load_dnSlot 𝒱 c bd (Bufs.mk arg8 arg9 arg10 arg11 arg15 arg16 arg17 arg18 arg24 arg25 arg26) (slot t.val) (o := k0_off234 n t) (eta3 (slot_now t.val (by omega)))) $$ HD
  iintro HD
  ihave HD := HDw $$ HD
  iapply (wp_load_owns 𝒱 (c : Thread nD τ) bd) $$ H7
  iintro H7
  iapply (wp_loadAll 𝒱 c bd zero2) $$ H21
  iintro H21
  iapply (wp_loadAll 𝒱 c bd zero2) $$ H21
  iintro H21
  iapply (wp_storeAll 𝒱 c bd zero2) $$ H21
  iintro H21
  iapply (wp_done 𝒱 c bd)
  ihave HU := (landU_idle c (Bufs.mk arg8 arg9 arg10 arg11 arg15 arg16 arg17 arg18 arg24 arg25 arg26) V qs (slot t.val) (fin32 (O (k0_off134 n t 0)))) $$ HU
  ihave HD := (landD_idle c (Bufs.mk arg8 arg9 arg10 arg11 arg15 arg16 arg17 arg18 arg24 arg25 arg26) V qs (slot t.val) (fin32 (O (k0_off134 n t 0)))) $$ HD
  ihave HR := HR $$ [HU HD HL]
  · iapply (show iprop(IdleU c (Bufs.mk arg8 arg9 arg10 arg11 arg15 arg16 arg17 arg18 arg24 arg25 arg26) V qs (slot t.val) ∗ IdleD c (Bufs.mk arg8 arg9 arg10 arg11 arg15 arg16 arg17 arg18 arg24 arg25 arg26) V qs (slot t.val) ∗ IdleL c (Bufs.mk arg8 arg9 arg10 arg11 arg15 arg16 arg17 arg18 arg24 arg25 arg26) V qLs (slot t.val)) ⊢ (Idle c (Bufs.mk arg8 arg9 arg10 arg11 arg15 arg16 arg17 arg18 arg24 arg25 arg26) V qs qLs (slot t.val) : sProp 𝕄) from .rfl)
    isplitl [HU]
    · iexact HU
    isplitl [HD]
    · iexact HD
    · iexact HL
  isplitl [H22 H23 H5 H6 H7 H13 H19 H20]
  · isplitl [H22]
    · iexact H22
    isplitl [H23]
    · iexact H23
    isplitl [H5]
    · iexact H5
    isplitl [H6]
    · iexact H6
    isplitl [H7]
    · iexact H7
    isplitl [H13]
    · iexact H13
    isplitl [H19]
    · iexact H19
    · iexact H20
  isplitl [HR]
  · iexact HR
  isplitl [Ho]
  · iexists W4; iexact Ho
  iexists _
  isplitr
  rotate_left
  · iexact H21
  · ipureintro
    exact hstep' acc A B hacc hAB.1 hAB.2

theorem wp_t4 {n : BitVec 32} {hw16 : k0_chk16 n} (hn : n.toNat ≤ 33) (hO : ∀ j, j < n.toNat → (O j).toNat < 32)
    {v107 : FVec F S32x1 .f32} {v162 : IVec S32x128 32} {v163 : Vec F S32x1 .i32} (Pacc : ℕ → (S32x5120.Idx → Elt F .f32) → Prop)
    (hstep : ∀ j acc A B, j < n.toNat → ∀ hv : (O j).toNat < 32, Pacc j acc → FactA V (fin32 (O j)) (M (O j).toNat) A → FactB V (fin32 (O j)) (M (O j).toNat) B →
      Pacc (j + 1) (stepAcc v107 (k0_pay1 v162 v163) X19 X20 X13 X5 (O j) (upVal V (fin32 (O j))) (dnVal V (fin32 (O j))) (row6 X6 (O j) hv) (row7 X7 (O j) hv) A B acc))
    {W : Waits sig Unit} {acc0 : S32x5120.Idx → Elt F .f32} (h0 : Pacc 0 acc0) {Q : BitVec 32 → sProp (MT nD τ sig Unit (Elt F) ℕ U ℕ)} :
    iprop(Held c arg5 arg6 arg7 arg13 arg19 arg20 arg22 arg23 q2 q5 q6 q7 M O X5 X6 X7 X13 X19 X20 ∗ RingSt c EC (Bufs.mk arg8 arg9 arg10 arg11 arg15 arg16 arg17 arg18 arg24 arg25 arg26) V n.toNat (fun j => fin32 (O j)) (fun e => M e.val) 0 3
        ∗ owes (c : Thread nD τ) 0 W ∗ owns (c : Thread nD τ) arg21 fullShare acc0)
      ⊢ iprop((∀ a, iprop(Held c arg5 arg6 arg7 arg13 arg19 arg20 arg22 arg23 q2 q5 q6 q7 M O X5 X6 X7 X13 X19 X20 ∗ RingSt c EC (Bufs.mk arg8 arg9 arg10 arg11 arg15 arg16 arg17 arg18 arg24 arg25 arg26) V n.toNat (fun j => fin32 (O j)) (fun e => M e.val) n.toNat (n.toNat + 3)
        ∗ (∃ W, owes (c : Thread nD τ) 0 W) ∗ (∃ acc, ⌜Pacc n.toNat acc⌝ ∗ owns (c : Thread nD τ) arg21 fullShare acc)) -∗ Q a) -∗
      wp frame (wpE defs 𝒱 (c : Thread nD τ) bd) Set.univ (Scf.Loop.for (k0_t4_loop n) (k0_t4_ok n hw16) 0#32 (k0_t4_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 arg25 arg26 n hw16 v107 v162 v163)) Q) := by
  have htr := t4_trips n (by omega)
  have hbody : ∀ (t : Fin (Scf.trips (k0_t4_loop n).lb (k0_t4_loop n).ub (k0_t4_loop n).st)) (a : BitVec 32),
      (iprop(Held c arg5 arg6 arg7 arg13 arg19 arg20 arg22 arg23 q2 q5 q6 q7 M O X5 X6 X7 X13 X19 X20 ∗ RingSt c EC (Bufs.mk arg8 arg9 arg10 arg11 arg15 arg16 arg17 arg18 arg24 arg25 arg26) V n.toNat (fun j => fin32 (O j)) (fun e => M e.val) t.val (t.val + 3)
        ∗ (∃ W, owes (c : Thread nD τ) 0 W) ∗ (∃ acc, ⌜Pacc t.val acc⌝ ∗ owns (c : Thread nD τ) arg21 fullShare acc)) : sProp 𝕄)
      ⊢ wp frame (wpE defs 𝒱 (c : Thread nD τ) bd) Set.univ (k0_t4_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 arg25 arg26 n hw16 v107 v162 v163 t a)
        (fun _ => iprop(Held c arg5 arg6 arg7 arg13 arg19 arg20 arg22 arg23 q2 q5 q6 q7 M O X5 X6 X7 X13 X19 X20 ∗ RingSt c EC (Bufs.mk arg8 arg9 arg10 arg11 arg15 arg16 arg17 arg18 arg24 arg25 arg26) V n.toNat (fun j => fin32 (O j)) (fun e => M e.val) (t.val + 1) (t.val + 1 + 3)
        ∗ (∃ W, owes (c : Thread nD τ) 0 W) ∗ (∃ acc, ⌜Pacc (t.val + 1) acc⌝ ∗ owns (c : Thread nD τ) arg21 fullShare acc))) := fun t a =>
    wp_trip 𝒱 c bd EC V arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 arg25 arg26 hn hO Pacc hstep t a (htr ▸ t.isLt)
  iintro ⟨HH, HR, Ho, H21⟩ HQ
  iapply (Scf.wp_for frame (wpE defs 𝒱 (c : Thread nD τ) bd) Set.univ (k0_t4_loop n).lb (k0_t4_loop n).ub (k0_t4_loop n).st (k0_t4_ok n hw16) 0#32 (k0_t4_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 arg25 arg26 n hw16 v107 v162 v163)
    (fun t _ => iprop(Held c arg5 arg6 arg7 arg13 arg19 arg20 arg22 arg23 q2 q5 q6 q7 M O X5 X6 X7 X13 X19 X20 ∗ RingSt c EC (Bufs.mk arg8 arg9 arg10 arg11 arg15 arg16 arg17 arg18 arg24 arg25 arg26) V n.toNat (fun j => fin32 (O j)) (fun e => M e.val) t (t + 3)
        ∗ (∃ W, owes (c : Thread nD τ) 0 W) ∗ (∃ acc, ⌜Pacc t acc⌝ ∗ owns (c : Thread nD τ) arg21 fullShare acc))) hbody)
  isplitl [HH HR Ho H21]
  · isplitl [HH]
    · iexact HH
    isplitl [HR]
    · iexact HR
    isplitl [Ho]
    · iexists W; iexact Ho
    iexists acc0
    isplitr
    · ipureintro; exact h0
    · iexact H21
  · iintro %a H
    ispecialize HQ $$ %a
    iapply HQ
    iapply (show iprop(Held c arg5 arg6 arg7 arg13 arg19 arg20 arg22 arg23 q2 q5 q6 q7 M O X5 X6 X7 X13 X19 X20 ∗ RingSt c EC (Bufs.mk arg8 arg9 arg10 arg11 arg15 arg16 arg17 arg18 arg24 arg25 arg26) V n.toNat (fun j => fin32 (O j)) (fun e => M e.val) (k0_t4_loop n).trips ((k0_t4_loop n).trips + 3)
        ∗ (∃ W, owes (c : Thread nD τ) 0 W) ∗ (∃ acc, ⌜Pacc (k0_t4_loop n).trips acc⌝ ∗ owns (c : Thread nD τ) arg21 fullShare acc)) ⊢ (iprop(Held c arg5 arg6 arg7 arg13 arg19 arg20 arg22 arg23 q2 q5 q6 q7 M O X5 X6 X7 X13 X19 X20 ∗ RingSt c EC (Bufs.mk arg8 arg9 arg10 arg11 arg15 arg16 arg17 arg18 arg24 arg25 arg26) V n.toNat (fun j => fin32 (O j)) (fun e => M e.val) n.toNat (n.toNat + 3)
        ∗ (∃ W, owes (c : Thread nD τ) 0 W) ∗ (∃ acc, ⌜Pacc n.toNat acc⌝ ∗ owns (c : Thread nD τ) arg21 fullShare acc)) : sProp 𝕄) from Entails.of_eq (by rw [htr]))
    iexact H

end Cert.Proof.KI
-- ==== Proof.KI.Body.lean ====
module

public import proofs.«01_k».proof.Proof.KI.Second
public import proofs.«01_k».proof.Proof.KI.Loop
public import proofs.«01_k».proof.Proof.Order

@[expose] public section

/-!
# The whole kernel
-/

set_option maxRecDepth 16384

noncomputable section

namespace Cert.Proof.KI

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Proof.Copies Cert.Proof.Words Cert.Proof.Tables Cert.Proof.Slots Cert.Proof.RingState Cert.Proof.Nums
open Cert.KernelIdeal Cert.KernelIdeal.Gen

variable {F : FTy → Type} [FloatOps F] {U : Type} [URA U]

local notation "𝕄" => MT nD τ sig Unit (Elt F) ℕ U ℕ

variable {defs : Defs nD τ sig (Elt F) Λ₀} (𝒱 : Variants) (c : Dev nD) (bd : Option 𝒱.V)
variable (EC : UEmb Counters (MT nD τ sig Unit (Elt F) ℕ U ℕ)) [EC.LandsIn (upEmb : UEmb _ (MT nD τ sig Unit (Elt F) ℕ U ℕ))]
variable (V : Vals (Elt F))
variable (arg0 : Memref sig .tc .smem S8x32 .i32) (harg0 : arg0.IsWhole) (arg1 : Memref sig .tc .smem S1x32 .i32) (harg1 : arg1.IsWhole) (arg2 : Memref sig .tc .vmem S8x32 .i32) (harg2 : arg2.IsWhole) (arg3 : Memref sig .tc .vmem S8x32 .f32) (harg3 : arg3.IsWhole) (arg4 : Memref sig .tc .vmem S32x1 .i32) (harg4 : arg4.IsWhole) (arg5 : Memref sig .tc .vmem S32x5120 .bf16) (harg5 : arg5.IsWhole) (arg6 : Memref sig .tc .vmem S32x768 .f32) (harg6 : arg6.IsWhole) (arg7 : Memref sig .tc .vmem S32x5120 .f32) (harg7 : arg7.IsWhole) (arg8 : Memref sig .tc .hbm S32x5120x768 .fp8e4m3) (harg8 : arg8.IsWhole) (arg9 : Memref sig .tc .hbm S32x768x5120 .fp8e4m3) (harg9 : arg9.IsWhole) (arg10 : Memref sig .tc .hbm S256x16x5120 .bf16) (harg10 : arg10.IsWhole) (arg11 : Memref sig .tc .hbm S256x16x768 .bf16) (harg11 : arg11.IsWhole) (arg12 : Memref sig .tc .vmem S32x5120 .bf16) (harg12 : arg12.IsWhole) (arg13 : Memref sig .tc .vmem S32x5120 .fp8e4m3) (harg13 : arg13.IsWhole) (arg14 : Memref sig .tc .vmem S32x1 .f32) (harg14 : arg14.IsWhole) (arg15 : Memref sig .tc .vmem S4x5120x768 .fp8e4m3) (harg15 : arg15.IsWhole) (arg16 : Memref sig .tc .vmem S4x768x5120 .fp8e4m3) (harg16 : arg16.IsWhole) (arg17 : Memref sig .tc .vmem S4x8x16x5120 .bf16) (harg17 : arg17.IsWhole) (arg18 : Memref sig .tc .vmem S4x8x16x768 .bf16) (harg18 : arg18.IsWhole) (arg19 : Memref sig .tc .vmem S32x8 .i32) (harg19 : arg19.IsWhole) (arg20 : Memref sig .tc .vmem S32x8 .f32) (harg20 : arg20.IsWhole) (arg21 : Memref sig .tc .vmem S32x5120 .f32) (harg21 : arg21.IsWhole) (arg22 : Memref sig .tc .smem S32 .i32) (harg22 : arg22.IsWhole) (arg23 : Memref sig .tc .smem S33 .i32) (harg23 : arg23.IsWhole) (arg24 : DmaSems sig S4) (arg25 : DmaSems sig S4) (arg26 : DmaSems sig S4)

theorem wp_part17 {q2 : PosShare TreeShare} {X2 : S8x32.Idx → Elt F .i32} {v72 : FVec F S32x5120 .f32} {v78 : IVec S32x256 32} {v83 v85 : IVec S32x256 1}
    {Q : (Σ' (v107 : FVec F S32x1 .f32), IVec S32x8 32) → sProp (MT nD τ sig Unit (Elt F) ℕ U ℕ)} :
    iprop(anyAt (c : Thread nD τ) arg13 ∗ anyAt (c : Thread nD τ) arg14 ∗ owns (c : Thread nD τ) arg2 q2 X2)
      ⊢ iprop((owns (c : Thread nD τ) arg13 fullShare (k0_pay31 v72 v78 v83 v85) ∗ owns (c : Thread nD τ) arg14 fullShare (k0_pay30 v78 v83 v85) ∗ owns (c : Thread nD τ) arg2 q2 X2
          -∗ Q ⟨k0_pay30 v78 v83 v85, k0_pay32 X2⟩) -∗
        wp frame (wpE defs 𝒱 (c : Thread nD τ) bd) Set.univ (k0_part17 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 arg25 arg26 v72 v78 v83 v85) Q) := by
  rw [k0_part17_eq_skeleton]
  iintro ⟨H13, H14, H2⟩ HQ
  sl_unfold [k0_part17_skel]
  ihave H13 := (owns_of_anyAt c arg13) $$ H13
  icases H13 with ⟨%X13, H13⟩
  ihave H14 := (owns_of_anyAt c arg14) $$ H14
  icases H14 with ⟨%X14, H14⟩
  iapply (wp_loadAll 𝒱 c bd zero2) $$ H13
  iintro H13
  iapply (wp_storeAll 𝒱 c bd zero2) $$ H13
  iintro H13
  iapply (wp_loadAll 𝒱 c bd zero2) $$ H14
  iintro H14
  iapply (wp_storeAll 𝒱 c bd zero2) $$ H14
  iintro H14
  iapply (wp_loadAll 𝒱 c bd zero2) $$ H2
  iintro H2
  iapply (wp_done 𝒱 c bd)
  iapply HQ
  isplitl [H13]
  · iexact H13
  isplitl [H14]
  · iexact H14
  · iexact H2

theorem wp_part18 {q3 q4 : PosShare TreeShare} {X3 : S8x32.Idx → Elt F .f32} {X4 : S32x1.Idx → Elt F .i32} {v124 : IVec S32x8 32}
    {Q : (Σ' (v162 : IVec S32x128 32), Vec F S32x1 .i32) → sProp (MT nD τ sig Unit (Elt F) ℕ U ℕ)} :
    iprop(anyAt (c : Thread nD τ) arg19 ∗ anyAt (c : Thread nD τ) arg20 ∗ anyAt (c : Thread nD τ) arg21 ∗ owns (c : Thread nD τ) arg3 q3 X3 ∗ owns (c : Thread nD τ) arg4 q4 X4)
      ⊢ iprop((owns (c : Thread nD τ) arg19 fullShare (k0_pay33 v124) ∗ owns (c : Thread nD τ) arg20 fullShare (k0_pay34 X3) ∗ owns (c : Thread nD τ) arg21 fullShare (k0_pay35 (F := F))
          ∗ owns (c : Thread nD τ) arg3 q3 X3 ∗ owns (c : Thread nD τ) arg4 q4 X4
          -∗ Q ⟨k0_pay36, X4⟩) -∗
        wp frame (wpE defs 𝒱 (c : Thread nD τ) bd) Set.univ (k0_part18 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 arg25 arg26 v124) Q) := by
  rw [k0_part18_eq_skeleton]
  iintro ⟨H19, H20, H21, H3, H4⟩ HQ
  sl_unfold [k0_part18_skel]
  ihave H19 := (owns_of_anyAt c arg19) $$ H19
  icases H19 with ⟨%X19, H19⟩
  ihave H20 := (owns_of_anyAt c arg20) $$ H20
  icases H20 with ⟨%X20, H20⟩
  ihave H21 := (owns_of_anyAt c arg21) $$ H21
  icases H21 with ⟨%X21, H21⟩
  iapply (wp_loadAll 𝒱 c bd zero2) $$ H19
  iintro H19
  iapply (wp_storeAll 𝒱 c bd zero2) $$ H19
  iintro H19
  iapply (wp_loadAll 𝒱 c bd zero2) $$ H3
  iintro H3
  iapply (wp_loadAll 𝒱 c bd zero2) $$ H20
  iintro H20
  iapply (wp_storeAll 𝒱 c bd zero2) $$ H20
  iintro H20
  iapply (wp_loadAll 𝒱 c bd zero2) $$ H21
  iintro H21
  iapply (wp_storeAll 𝒱 c bd zero2) $$ H21
  iintro H21
  iapply (wp_loadAll 𝒱 c bd zero2) $$ H4
  iintro H4
  iapply (wp_done 𝒱 c bd)
  iapply HQ
  isplitl [H19]
  · iexact H19
  isplitl [H20]
  · iexact H20
  isplitl [H21]
  · iexact H21
  isplitl [H3]
  · iexact H3
  · iexact H4

/-- The remainder loop makes no trip. -/
theorem wp_t5 {n : BitVec 32} {hw16 : k0_chk16 n} (hn : n.toNat ≤ 33) {v107 : FVec F S32x1 .f32} {v162 : IVec S32x128 32} {v163 : Vec F S32x1 .i32} {v171 a0 : BitVec 32}
    {Q : BitVec 32 → sProp (MT nD τ sig Unit (Elt F) ℕ U ℕ)} :
    (iprop(∀ a, Q a) : sProp 𝕄) ⊢
      wp frame (wpE defs 𝒱 (c : Thread nD τ) bd) Set.univ (Scf.Loop.for (k0_t5_loop n) (k0_t5_ok n hw16) a0 (k0_t5_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 arg25 arg26 n hw16 v107 v162 v163 v171)) Q := by
  have htr := t5_trips n (by omega)
  have hbody : ∀ (t : Fin (Scf.trips (k0_t5_loop n).lb (k0_t5_loop n).ub (k0_t5_loop n).st)) (a : BitVec 32),
      (iprop(∀ a, Q a) : sProp 𝕄)
      ⊢ wp frame (wpE defs 𝒱 (c : Thread nD τ) bd) Set.univ (k0_t5_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 arg25 arg26 n hw16 v107 v162 v163 v171 t a)
        (fun _ => iprop(∀ a, Q a)) := fun t a => absurd (lt_of_lt_of_eq (show t.val < (k0_t5_loop n).trips from t.isLt) htr) (Nat.not_lt_zero _)
  iintro H
  iapply (Scf.wp_for frame (wpE defs 𝒱 (c : Thread nD τ) bd) Set.univ (k0_t5_loop n).lb (k0_t5_loop n).ub (k0_t5_loop n).st (k0_t5_ok n hw16) a0 (k0_t5_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 arg25 arg26 n hw16 v107 v162 v163 v171)
    (fun _ _ => iprop(∀ a, Q a)) hbody)
  isplitl [H]
  · iexact H
  · iintro %a H
    ispecialize H $$ %a
    iexact H

/-- The row scales the kernel computes. -/
def scaleOf (X5 : S32x5120.Idx → Elt F .bf16) : FVec F S32x1 .f32 := k0_pay30 (iota .tc S32x256 32 [1] iota_S32x256_d1_w32) (k0_pay27 X5) k0_pay28
/-- The codes the kernel computes. -/
def codesOf (X5 : S32x5120.Idx → Elt F .bf16) : FVec F S32x5120 .fp8e4m3 := k0_pay31 (k0_pay26 X5) (iota .tc S32x256 32 [1] iota_S32x256_d1_w32) (k0_pay27 X5) k0_pay28

/-- The arrays the kernel only reads. -/
def Reads (q : Fin 8 → PosShare TreeShare) (E A : ℕ → ℕ → BitVec 32) (X2 : S8x32.Idx → Elt F .i32) (X3 : S8x32.Idx → Elt F .f32) (X4 : S32x1.Idx → Elt F .i32)
    (X5 : S32x5120.Idx → Elt F .bf16) (X6 : S32x768.Idx → Elt F .f32) (X7 : S32x5120.Idx → Elt F .f32) : sProp (MT nD τ sig Unit (Elt F) ℕ U ℕ) :=
  iprop(words2 c arg0 (q 0) E ∗ words2 c arg1 (q 1) A ∗ owns (c : Thread nD τ) arg2 (q 2) X2 ∗ owns (c : Thread nD τ) arg3 (q 3) X3 ∗ owns (c : Thread nD τ) arg4 (q 4) X4
    ∗ owns (c : Thread nD τ) arg5 (q 5) X5 ∗ owns (c : Thread nD τ) arg6 (q 6) X6 ∗ owns (c : Thread nD τ) arg7 (q 7) X7)

/-- The kernel's own buffers, its semaphores at rest and the arrays its copies read. -/
def Own : sProp (MT nD τ sig Unit (Elt F) ℕ U ℕ) :=
  iprop((anyAt (c : Thread nD τ) arg15 ∗ owns (c : Thread nD τ) arg8 fullShare V.xu ∗ cells c arg24)
    ∗ (anyAt (c : Thread nD τ) arg16 ∗ owns (c : Thread nD τ) arg9 fullShare V.xd ∗ cells c arg25)
    ∗ ((anyAt (c : Thread nD τ) arg17 ∗ anyAt (c : Thread nD τ) arg18) ∗ (owns (c : Thread nD τ) arg10 fullShare V.xa ∗ owns (c : Thread nD τ) arg11 fullShare V.xb) ∗ cells c arg26)
    ∗ anyAt (c : Thread nD τ) arg19 ∗ anyAt (c : Thread nD τ) arg20 ∗ anyAt (c : Thread nD τ) arg21 ∗ anyAt (c : Thread nD τ) arg22 ∗ anyAt (c : Thread nD τ) arg23)

/-- Take the first of four, to be put back as something else. -/
theorem swap0 (f g : Fin 4 → sProp (MT nD τ sig Unit (Elt F) ℕ U ℕ)) :
    (BI.bigSep Finset.univ f : sProp 𝕄) ⊢ iprop(f 0 ∗ (g 0 -∗ BI.bigSep Finset.univ (fun s => if s = 0 then g s else f s))) :=
  bigSep_swap4 (0 : Fin 4) f (fun s => if s = 0 then g s else f s) (fun b hb => by rw [if_neg hb])

include EC in
/-- The kernel, from its windows and its own buffers to the three results. -/
theorem wp_kernel {q : Fin 8 → PosShare TreeShare} {E A : ℕ → ℕ → BitVec 32} {X2 : S8x32.Idx → Elt F .i32} {X3 : S8x32.Idx → Elt F .f32} {X4 : S32x1.Idx → Elt F .i32}
    {X5 : S32x5120.Idx → Elt F .bf16} {X6 : S32x768.Idx → Elt F .f32} {X7 : S32x5120.Idx → Elt F .f32}
    (hE : ∀ k t, k < 8 → t < 32 → (E k t).toNat < 32)
    (Pacc : (ℕ → BitVec 32) → ℕ → (S32x5120.Idx → Elt F .f32) → Prop) (h0 : ∀ O0, Pacc O0 0 (k0_pay35 (F := F)))
    (hstep : ∀ O0 j acc A' B, j < (order (masks E A 32) (E 0 0) O0 32).1.toNat → ∀ hv : ((order (masks E A 32) (E 0 0) O0 32).2 j).toNat < 32, Pacc O0 j acc →
      FactA V (fin32 ((order (masks E A 32) (E 0 0) O0 32).2 j)) (masks E A 32 ((order (masks E A 32) (E 0 0) O0 32).2 j).toNat) A' → FactB V (fin32 ((order (masks E A 32) (E 0 0) O0 32).2 j)) (masks E A 32 ((order (masks E A 32) (E 0 0) O0 32).2 j).toNat) B →
      Pacc O0 (j + 1) (stepAcc (scaleOf X5) (k0_pay1 k0_pay36 X4) (k0_pay33 (k0_pay32 (F := F) X2)) (k0_pay34 X3) (codesOf X5) X5 ((order (masks E A 32) (E 0 0) O0 32).2 j)
        (upVal V (fin32 ((order (masks E A 32) (E 0 0) O0 32).2 j))) (dnVal V (fin32 ((order (masks E A 32) (E 0 0) O0 32).2 j))) (row6 X6 ((order (masks E A 32) (E 0 0) O0 32).2 j) hv) (row7 X7 ((order (masks E A 32) (E 0 0) O0 32).2 j) hv) A' B acc))
    {W : Waits sig Unit} {Q : PUnit → sProp (MT nD τ sig Unit (Elt F) ℕ U ℕ)} :
    iprop(Reads c arg0 arg1 arg2 arg3 arg4 arg5 arg6 arg7 q E A X2 X3 X4 X5 X6 X7 ∗ Own c V arg8 arg9 arg10 arg11 arg15 arg16 arg17 arg18 arg19 arg20 arg21 arg22 arg23 arg24 arg25 arg26 ∗ anyAt (c : Thread nD τ) arg12 ∗ anyAt (c : Thread nD τ) arg13 ∗ anyAt (c : Thread nD τ) arg14 ∗ owes (c : Thread nD τ) 0 W)
      ⊢ iprop((∀ O0 acc, iprop(⌜Pacc O0 (order (masks E A 32) (E 0 0) O0 32).1.toNat acc⌝ ∗ Reads c arg0 arg1 arg2 arg3 arg4 arg5 arg6 arg7 q E A X2 X3 X4 X5 X6 X7 ∗ Own c V arg8 arg9 arg10 arg11 arg15 arg16 arg17 arg18 arg19 arg20 arg21 arg22 arg23 arg24 arg25 arg26 ∗ owns (c : Thread nD τ) arg12 fullShare (k0_pay4 acc)
            ∗ owns (c : Thread nD τ) arg13 fullShare (codesOf X5) ∗ owns (c : Thread nD τ) arg14 fullShare (scaleOf X5) ∗ (∃ W', owes (c : Thread nD τ) 0 W')) -∗ Q ⟨⟩) -∗
        wp frame (wpE defs 𝒱 (c : Thread nD τ) bd) Set.univ (cc0__moe_kernel (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 arg25 arg26) Q) := by
  rw [cc0__moe_kernel_eq_skeleton]
  have hE0 := hE 0 0 (by decide) (by decide)
  unfold Reads Own
  iintro ⟨⟨H0, H1, H2, H3, H4, H5, H6, H7⟩, ⟨HU, HD, ⟨⟨H17, H18⟩, HAB, HC⟩, H19, H20, H21, H22, H23⟩, H12, H13, H14, Ho⟩ HQ
  ihave HU := (idleU_all c (Bufs.mk arg8 arg9 arg10 arg11 arg15 arg16 arg17 arg18 arg24 arg25 arg26) V).1 $$ HU
  icases HU with ⟨HU, HUr⟩
  ihave HD := (idleD_all c (Bufs.mk arg8 arg9 arg10 arg11 arg15 arg16 arg17 arg18 arg24 arg25 arg26) V).1 $$ HD
  icases HD with ⟨HD, HDr⟩
  ihave HU := (swap0 (fun s => IdleU c (Bufs.mk arg8 arg9 arg10 arg11 arg15 arg16 arg17 arg18 arg24 arg25 arg26) V qs s) (fun s => BusyU c EC (Bufs.mk arg8 arg9 arg10 arg11 arg15 arg16 arg17 arg18 arg24 arg25 arg26) V qs s (fin32 (E 0 0)))) $$ HU
  icases HU with ⟨HU, HUw⟩
  ihave HD := (swap0 (fun s => IdleD c (Bufs.mk arg8 arg9 arg10 arg11 arg15 arg16 arg17 arg18 arg24 arg25 arg26) V qs s) (fun s => BusyD c EC (Bufs.mk arg8 arg9 arg10 arg11 arg15 arg16 arg17 arg18 arg24 arg25 arg26) V qs s (fin32 (E 0 0)))) $$ HD
  icases HD with ⟨HD, HDw⟩
  sl_unfold [cc0__moe_kernel_skel]
  iapply (wp_seq 𝒱 c bd)
  iapply (wp_part14 𝒱 c bd EC V arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 arg25 arg26 hE) $$ [H0 H1 H22 H23 H18 HU HD]
  · isplitl [H0]
    · iexact H0
    isplitl [H1]
    · iexact H1
    isplitl [H22]
    · iexact H22
    isplitl [H23]
    · iexact H23
    isplitl [H18]
    · iexact H18
    isplitl [HU]
    · iexact HU
    · iexact HD
  iintro %O0 ⟨H0, H1, H22, H23, H18, HU, HD⟩
  ihave HU := HUw $$ HU
  ihave HD := HDw $$ HD
  ihave HL : iprop((anyAt (c : Thread nD τ) arg17 ∗ anyAt (c : Thread nD τ) arg18) ∗ (owns (c : Thread nD τ) arg10 fullShare V.xa ∗ owns (c : Thread nD τ) arg11 fullShare V.xb) ∗ cells c arg26) $$ [H17 H18 HAB HC]
  · isplitl [H17 H18]
    · isplitl [H17]
      · iexact H17
      · iexact H18
    isplitl [HAB]
    · iexact HAB
    · iexact HC
  ihave HL := (idleL_all c (Bufs.mk arg8 arg9 arg10 arg11 arg15 arg16 arg17 arg18 arg24 arg25 arg26) V).1 $$ HL
  icases HL with ⟨HL, HLr⟩
  ihave HL := (swap0 (fun s => IdleL c (Bufs.mk arg8 arg9 arg10 arg11 arg15 arg16 arg17 arg18 arg24 arg25 arg26) V qLs s) (fun s => Waiting c EC (Bufs.mk arg8 arg9 arg10 arg11 arg15 arg16 arg17 arg18 arg24 arg25 arg26) V qLs s (fin32 (E 0 0)) (masks E A 32 (E 0 0).toNat) 0)) $$ HL
  icases HL with ⟨HL, HLw⟩
  imod (start_zero c EC (Bufs.mk arg8 arg9 arg10 arg11 arg15 arg16 arg17 arg18 arg24 arg25 arg26) V qLs 0 (fin32 (E 0 0)) (masks E A 32 (E 0 0).toNat)) $$ HL with HS
  have hn := order_le (masks E A 32) (E 0 0) O0 32 (le_refl _)
  have hO := order_lt (masks E A 32) (E 0 0) O0 hE0 32 (le_refl _)
  have hz := order_zero (masks E A 32) (E 0 0) O0 32 (le_refl _)
  iapply (wp_seq 𝒱 c bd)
  iapply (wp_part15 𝒱 c bd EC V arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 arg25 arg26 hE0) $$ [H22 H23 HS]
  · isplitl [H22]
    · iexact H22
    isplitl [H23]
    · iexact H23
    · iexact HS
  iintro ⟨H22, H23, HS⟩
  iapply (wp_seq 𝒱 c bd)
  iapply (wp_part16 𝒱 c bd EC V arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 arg25 arg26 hE0 hn.1 hn.2 hO) $$ [H22 H23 HS HLw HU HD H5]
  · isplitl [H22]
    · iexact H22
    isplitl [H23]
    · iexact H23
    isplitl [HS]
    · iexact HS
    isplitr [H5]
    · iintro HS
      ihave HL := HLw $$ HS
      iapply (ring_one c EC (Bufs.mk arg8 arg9 arg10 arg11 arg15 arg16 arg17 arg18 arg24 arg25 arg26) V (order (masks E A 32) (E 0 0) O0 32).1.toNat (fun j => fin32 ((order (masks E A 32) (E 0 0) O0 32).2 j)) (fun e => masks E A 32 e.val) (lt_of_lt_of_le Nat.one_pos hn.1))
      isplitl [HU]
      · iapply (show (BI.bigSep Finset.univ (fun s => if s = 0 then BusyU c EC (Bufs.mk arg8 arg9 arg10 arg11 arg15 arg16 arg17 arg18 arg24 arg25 arg26) V qs s (fin32 (E 0 0)) else IdleU c (Bufs.mk arg8 arg9 arg10 arg11 arg15 arg16 arg17 arg18 arg24 arg25 arg26) V qs s) : sProp 𝕄)
          ⊢ BI.bigSep Finset.univ (fun s => if s = 0 then BusyU c EC (Bufs.mk arg8 arg9 arg10 arg11 arg15 arg16 arg17 arg18 arg24 arg25 arg26) V qs s (fin32 ((order (masks E A 32) (E 0 0) O0 32).2 0)) else IdleU c (Bufs.mk arg8 arg9 arg10 arg11 arg15 arg16 arg17 arg18 arg24 arg25 arg26) V qs s) from Entails.of_eq (by rw [hz]))
        iexact HU
      isplitl [HD]
      · iapply (show (BI.bigSep Finset.univ (fun s => if s = 0 then BusyD c EC (Bufs.mk arg8 arg9 arg10 arg11 arg15 arg16 arg17 arg18 arg24 arg25 arg26) V qs s (fin32 (E 0 0)) else IdleD c (Bufs.mk arg8 arg9 arg10 arg11 arg15 arg16 arg17 arg18 arg24 arg25 arg26) V qs s) : sProp 𝕄)
          ⊢ BI.bigSep Finset.univ (fun s => if s = 0 then BusyD c EC (Bufs.mk arg8 arg9 arg10 arg11 arg15 arg16 arg17 arg18 arg24 arg25 arg26) V qs s (fin32 ((order (masks E A 32) (E 0 0) O0 32).2 0)) else IdleD c (Bufs.mk arg8 arg9 arg10 arg11 arg15 arg16 arg17 arg18 arg24 arg25 arg26) V qs s) from Entails.of_eq (by rw [hz]))
        iexact HD
      · iapply (show (BI.bigSep Finset.univ (fun s => if s = 0 then Waiting c EC (Bufs.mk arg8 arg9 arg10 arg11 arg15 arg16 arg17 arg18 arg24 arg25 arg26) V qLs s (fin32 (E 0 0)) (masks E A 32 (E 0 0).toNat) 0 else IdleL c (Bufs.mk arg8 arg9 arg10 arg11 arg15 arg16 arg17 arg18 arg24 arg25 arg26) V qLs s) : sProp 𝕄)
          ⊢ BI.bigSep Finset.univ (fun s => if s = 0 then Waiting c EC (Bufs.mk arg8 arg9 arg10 arg11 arg15 arg16 arg17 arg18 arg24 arg25 arg26) V qLs s (fin32 ((order (masks E A 32) (E 0 0) O0 32).2 0)) (masks E A 32 (fin32 ((order (masks E A 32) (E 0 0) O0 32).2 0)).val) 0 else IdleL c (Bufs.mk arg8 arg9 arg10 arg11 arg15 arg16 arg17 arg18 arg24 arg25 arg26) V qLs s)
          from Entails.of_eq (by rw [hz, fin32_val _ hE0]))
        iexact HL
    · iexact H5
  iintro ⟨H22, H23, HR, H5⟩
  iapply (wp_seq 𝒱 c bd)
  iapply (wp_part17 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 arg25 arg26) $$ [H13 H14 H2]
  · isplitl [H13]
    · iexact H13
    isplitl [H14]
    · iexact H14
    · iexact H2
  iintro ⟨H13, H14, H2⟩
  iapply (wp_seq 𝒱 c bd)
  iapply (wp_part18 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 arg25 arg26) $$ [H19 H20 H21 H3 H4]
  · isplitl [H19]
    · iexact H19
    isplitl [H20]
    · iexact H20
    isplitl [H21]
    · iexact H21
    isplitl [H3]
    · iexact H3
    · iexact H4
  iintro ⟨H19, H20, H21, H3, H4⟩
  ihave HH : Held c arg5 arg6 arg7 arg13 arg19 arg20 arg22 arg23 fullShare (q 5) (q 6) (q 7) (masks E A 32) (order (masks E A 32) (E 0 0) O0 32).2 X5 X6 X7 (codesOf X5) (k0_pay33 (k0_pay32 (F := F) X2)) (k0_pay34 X3) $$ [H22 H23 H5 H6 H7 H13 H19 H20]
  · unfold Held
    isplitl [H22]
    · iexact H22
    isplitl [H23]
    · iexact H23
    isplitl [H5]
    · iexact H5
    isplitl [H6]
    · iexact H6
    isplitl [H7]
    · iexact H7
    isplitl [H13]
    · iexact H13
    isplitl [H19]
    · iexact H19
    · iexact H20
  iapply (wp_seq 𝒱 c bd)
  iapply (wp_t4 𝒱 c bd EC V arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 arg25 arg26 hn.2 hO (Pacc O0) (hstep O0) (h0 O0)) $$ [HH HR Ho H21]
  · isplitl [HH]
    · iexact HH
    isplitl [HR]
    · iexact HR
    isplitl [Ho]
    · iexact Ho
    · iexact H21
  iintro %a ⟨HH, HR, ⟨%W1, Ho⟩, ⟨%acc, %hacc, H21⟩⟩
  iapply (wp_seq 𝒱 c bd)
  iapply (wp_t5 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 arg25 arg26 hn.2)
  iintro %a
  iapply (wp_loadAll 𝒱 c bd zero2) $$ H21
  iintro H21
  ihave H12 := (owns_of_anyAt c arg12) $$ H12
  icases H12 with ⟨%X12, H12⟩
  iapply (wp_loadAll 𝒱 c bd zero2) $$ H12
  iintro H12
  iapply (wp_storeAll 𝒱 c bd zero2) $$ H12
  iintro H12
  iapply (wp_done 𝒱 c bd)
  ihave HH := (show Held c arg5 arg6 arg7 arg13 arg19 arg20 arg22 arg23 fullShare (q 5) (q 6) (q 7) (masks E A 32) (order (masks E A 32) (E 0 0) O0 32).2 X5 X6 X7 (codesOf X5) (k0_pay33 (k0_pay32 (F := F) X2)) (k0_pay34 X3) ⊢ iprop(words c arg22 fullShare (masks E A 32) ∗ words c arg23 fullShare (order (masks E A 32) (E 0 0) O0 32).2 ∗ owns (c : Thread nD τ) arg5 (q 5) X5 ∗ owns (c : Thread nD τ) arg6 (q 6) X6 ∗ owns (c : Thread nD τ) arg7 (q 7) X7
    ∗ owns (c : Thread nD τ) arg13 fullShare (codesOf X5) ∗ owns (c : Thread nD τ) arg19 fullShare (k0_pay33 (k0_pay32 (F := F) X2)) ∗ owns (c : Thread nD τ) arg20 fullShare (k0_pay34 X3)) from .rfl) $$ HH
  icases HH with ⟨H22, H23, H5, H6, H7, H13, H19, H20⟩
  ihave HR := (Entails.of_eq (ring_idle c EC (Bufs.mk arg8 arg9 arg10 arg11 arg15 arg16 arg17 arg18 arg24 arg25 arg26) V (order (masks E A 32) (E 0 0) O0 32).1.toNat (fun j => fin32 ((order (masks E A 32) (E 0 0) O0 32).2 j)) (fun e => masks E A 32 e.val) (order (masks E A 32) (E 0 0) O0 32).1.toNat ((order (masks E A 32) (E 0 0) O0 32).1.toNat + 3) (Or.inl (le_refl _)))) $$ HR
  ihave HR := (Entails.of_eq (idle_all c (Bufs.mk arg8 arg9 arg10 arg11 arg15 arg16 arg17 arg18 arg24 arg25 arg26) V)) $$ HR
  icases HR with ⟨HU, HD, HL⟩
  ihave HU := (idleU_all c (Bufs.mk arg8 arg9 arg10 arg11 arg15 arg16 arg17 arg18 arg24 arg25 arg26) V).2 $$ [HU HUr]
  · isplitl [HU]
    · iexact HU
    · iexact HUr
  ihave HD := (idleD_all c (Bufs.mk arg8 arg9 arg10 arg11 arg15 arg16 arg17 arg18 arg24 arg25 arg26) V).2 $$ [HD HDr]
  · isplitl [HD]
    · iexact HD
    · iexact HDr
  ihave HL := (idleL_all c (Bufs.mk arg8 arg9 arg10 arg11 arg15 arg16 arg17 arg18 arg24 arg25 arg26) V).2 $$ [HL HLr]
  · isplitl [HL]
    · iexact HL
    · iexact HLr
  ispecialize HQ $$ %O0 %acc
  iapply HQ
  isplitr
  · ipureintro; exact hacc
  isplitl [H0 H1 H2 H3 H4 H5 H6 H7]
  · isplitl [H0]
    · iexact H0
    isplitl [H1]
    · iexact H1
    isplitl [H2]
    · iexact H2
    isplitl [H3]
    · iexact H3
    isplitl [H4]
    · iexact H4
    isplitl [H5]
    · iexact H5
    isplitl [H6]
    · iexact H6
    · iexact H7
  isplitl [HU HD HL H19 H20 H21 H22 H23]
  · isplitl [HU]
    · iexact HU
    isplitl [HD]
    · iexact HD
    isplitl [HL]
    · iexact HL
    isplitl [H19]
    · iapply (anyAt_of (c : Thread nD τ) arg19); iexact H19
    isplitl [H20]
    · iapply (anyAt_of (c : Thread nD τ) arg20); iexact H20
    isplitl [H21]
    · iapply (anyAt_of (c : Thread nD τ) arg21); iexact H21
    isplitl [H22]
    · iapply (words_anyAt c arg22); iexact H22
    · iapply (words_anyAt c arg23); iexact H23
  isplitl [H12]
  · iexact H12
  isplitl [H13]
  · iexact H13
  isplitl [H14]
  · iexact H14
  · iexists W1; iexact Ho

end Cert.Proof.KI
-- ==== Proof.KI.Run.lean ====
module

public import proofs.«01_k».proof.Proof.KI.Body
public import proofs.«01_k».proof.Proof.Gen.KernelIdeal.Frame
public import Idealize.ShloMosaic.Lib.Pipeline.FrameSuffixR

@[expose] public section

/-!
# The program's run

The launch around the kernel: what the region's data are, the kernel's body at its one point, and the run of the whole program.
-/

set_option maxRecDepth 16384

noncomputable section

namespace Cert.Proof.KI

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat BodyObligationLoose UD ΦD)
open Cert.Proof.Copies Cert.Proof.Words Cert.Proof.Tables Cert.Proof.Slots Cert.Proof.RingState Cert.Proof.Nums
open Cert.KernelIdeal Cert.KernelIdeal.Gen

variable {F : FTy → Type} [FloatOps F]

local notation "𝕄" => MT nD τ sig Unit (Elt F) ℕ (UD sig nD τ) ℕ

variable (m : (ℓ : Loc nD τ sig) → Buf (Elt F) ℓ) (ρ : Dev nD → PrngReg)

/-! ## The buffers and semaphores the kernel uses itself -/

/-- The arrays the kernel's own copies read. -/
abbrev Hbm : Finset (Ref sig .tc) := {main_arg4, main_arg6, main_v7, main_v8}
/-- The arrays the lines after the region write. -/
abbrev Tail : Finset (Ref sig .tc) := {main_v13, main_v14, main_v15}

/-- The semaphores of the three rings, slot by slot. -/
abbrev osem : Fin 12 → SemLoc sig
  | 0 => .dma (cell cc0_scratch9 0) | 1 => .dma (cell cc0_scratch9 1) | 2 => .dma (cell cc0_scratch9 2) | 3 => .dma (cell cc0_scratch9 3)
  | 4 => .dma (cell cc0_scratch10 0) | 5 => .dma (cell cc0_scratch10 1) | 6 => .dma (cell cc0_scratch10 2) | 7 => .dma (cell cc0_scratch10 3)
  | 8 => .dma (cell cc0_scratch11 0) | 9 => .dma (cell cc0_scratch11 1) | 10 => .dma (cell cc0_scratch11 2) | 11 => .dma (cell cc0_scratch11 3)

theorem ownSemFacts : Pipeline.OwnSemFacts spec0 osem := by decide
theorem hbm_sub : Hbm ⊆ Pipeline.restRefs sig spec0 := by decide

/-- What the rings read. -/
abbrev vals (c : Dev nD) : Vals (Elt F) := ⟨V m c main_arg4, V m c main_arg6, V m c main_v7, V m c main_v8⟩

theorem four (f : Fin 4 → sProp 𝕄) : BI.bigSep Finset.univ f = iprop(f 0 ∗ f 1 ∗ f 2 ∗ f 3) :=
  bigSep_univ_eq_bigSepL [(0 : Fin 4), 1, 2, 3] (by decide) (by decide) f

theorem twelve (f : Fin 12 → sProp 𝕄) : BI.bigSep Finset.univ f = iprop(f 0 ∗ f 1 ∗ f 2 ∗ f 3 ∗ f 4 ∗ f 5 ∗ f 6 ∗ f 7 ∗ f 8 ∗ f 9 ∗ f 10 ∗ f 11) :=
  bigSep_univ_eq_bigSepL [(0 : Fin 12), 1, 2, 3, 4, 5, 6, 7, 8, 9, 10, 11] (by decide) (by decide) f

theorem hbm_eq (f : Ref sig .tc → sProp 𝕄) : BI.bigSep Hbm f = iprop(f main_arg4 ∗ f main_arg6 ∗ f main_v7 ∗ f main_v8) :=
  bigSep_eq_bigSepL_of_eq [main_arg4, main_arg6, main_v7, main_v8] (by decide) (by decide) f

theorem whole_in (c : Dev nD) (b : Ref sig .tc) (X : b.ty.Contents (Elt F)) :
    (((c : Thread nD τ).loc b) ↦{fullShare} X : sProp 𝕄) ⊢ owns (c : Thread nD τ) (Memref.whole b) fullShare X :=
  Entails.of_eq (owns_whole (c : Thread nD τ) b fullShare X).symm
theorem whole_out (c : Dev nD) (b : Ref sig .tc) (X : b.ty.Contents (Elt F)) :
    (owns (c : Thread nD τ) (Memref.whole b) fullShare X : sProp 𝕄) ⊢ (((c : Thread nD τ).loc b) ↦{fullShare} X) :=
  Entails.of_eq (owns_whole (c : Thread nD τ) b fullShare X)
theorem any_in (c : Dev nD) (b : Ref sig .tc) :
    (iprop(∃ f : Buf (Elt F) ((c : Thread nD τ).loc b), ((c : Thread nD τ).loc b) ↦{fullShare} f) : sProp 𝕄) ⊢ anyAt (c : Thread nD τ) (Memref.whole b) := by
  unfold anyAt; iintro ⟨%f, H⟩; iexists f; iapply (whole_in c b f); iexact H
theorem any_out (c : Dev nD) (b : Ref sig .tc) :
    (anyAt (c : Thread nD τ) (Memref.whole b) : sProp 𝕄) ⊢ iprop(∃ f : Buf (Elt F) ((c : Thread nD τ).loc b), ((c : Thread nD τ).loc b) ↦{fullShare} f) := by
  unfold anyAt; iintro ⟨%f, H⟩; iexists f; iapply (whole_out c b f); iexact H

/-- What the kernel owns beside its windows. -/
abbrev Mine (c : Dev nD) : sProp 𝕄 :=
  Own c (vals m c) (Memref.whole main_arg4) (Memref.whole main_arg6) (Memref.whole main_v7) (Memref.whole main_v8)
    (Memref.whole cc0_scratch0) (Memref.whole cc0_scratch1) (Memref.whole cc0_scratch2) (Memref.whole cc0_scratch3) (Memref.whole cc0_scratch4)
    (Memref.whole cc0_scratch5) (Memref.whole cc0_scratch6) (Memref.whole cc0_scratch7) (Memref.whole cc0_scratch8) cc0_scratch9 cc0_scratch10 cc0_scratch11

/-- The region's invariant is that and the generator register. -/
theorem mine_in (c : Dev nD) : (ΦD osem spec0 Hbm (V m) c : sProp 𝕄) ⊢ iprop((∃ r, prngReg c r) ∗ Mine m c) := by
  rw [Pipeline.ΦD_eq, scopedRest0_eq, hbm_eq]
  unfold Pipeline.ownSems0
  rw [twelve]
  unfold Mine Own cells
  rw [four, four, four]
  iintro ⟨⟨S0, S1, S2, S3, S4, S5, S6, S7, S8⟩, Hp, ⟨C0, C1, C2, C3, C4, C5, C6, C7, C8, C9, C10, C11⟩, A4, A6, A7, A8⟩
  isplitl [Hp]; · iexact Hp
  isplitl [S0 A4 C0 C1 C2 C3]
  · isplitl [S0]; · iapply (any_in c cc0_scratch0); iexact S0
    isplitl [A4]; · iapply (whole_in c main_arg4 (V m c main_arg4)); iexact A4
    isplitl [C0]; · iexact C0
    isplitl [C1]; · iexact C1
    isplitl [C2]; · iexact C2
    iexact C3
  isplitl [S1 A6 C4 C5 C6 C7]
  · isplitl [S1]; · iapply (any_in c cc0_scratch1); iexact S1
    isplitl [A6]; · iapply (whole_in c main_arg6 (V m c main_arg6)); iexact A6
    isplitl [C4]; · iexact C4
    isplitl [C5]; · iexact C5
    isplitl [C6]; · iexact C6
    iexact C7
  isplitl [S2 S3 A7 A8 C8 C9 C10 C11]
  · isplitl [S2 S3]
    · isplitl [S2]; · iapply (any_in c cc0_scratch2); iexact S2
      iapply (any_in c cc0_scratch3); iexact S3
    isplitl [A7 A8]
    · isplitl [A7]; · iapply (whole_in c main_v7 (V m c main_v7)); iexact A7
      iapply (whole_in c main_v8 (V m c main_v8)); iexact A8
    isplitl [C8]; · iexact C8
    isplitl [C9]; · iexact C9
    isplitl [C10]; · iexact C10
    iexact C11
  isplitl [S4]; · iapply (any_in c cc0_scratch4); iexact S4
  isplitl [S5]; · iapply (any_in c cc0_scratch5); iexact S5
  isplitl [S6]; · iapply (any_in c cc0_scratch6); iexact S6
  isplitl [S7]; · iapply (any_in c cc0_scratch7); iexact S7
  iapply (any_in c cc0_scratch8); iexact S8

theorem mine_out (c : Dev nD) : (iprop((∃ r, prngReg c r) ∗ Mine m c) : sProp 𝕄) ⊢ ΦD osem spec0 Hbm (V m) c := by
  rw [Pipeline.ΦD_eq, scopedRest0_eq, hbm_eq]
  unfold Pipeline.ownSems0
  rw [twelve]
  unfold Mine Own cells
  rw [four, four, four]
  iintro ⟨Hp, ⟨S0, A4, C0, C1, C2, C3⟩, ⟨S1, A6, C4, C5, C6, C7⟩, ⟨⟨S2, S3⟩, ⟨A7, A8⟩, C8, C9, C10, C11⟩, S4, S5, S6, S7, S8⟩
  isplitl [S0 S1 S2 S3 S4 S5 S6 S7 S8]
  · isplitl [S0]; · iapply (any_out c cc0_scratch0); iexact S0
    isplitl [S1]; · iapply (any_out c cc0_scratch1); iexact S1
    isplitl [S2]; · iapply (any_out c cc0_scratch2); iexact S2
    isplitl [S3]; · iapply (any_out c cc0_scratch3); iexact S3
    isplitl [S4]; · iapply (any_out c cc0_scratch4); iexact S4
    isplitl [S5]; · iapply (any_out c cc0_scratch5); iexact S5
    isplitl [S6]; · iapply (any_out c cc0_scratch6); iexact S6
    isplitl [S7]; · iapply (any_out c cc0_scratch7); iexact S7
    iapply (any_out c cc0_scratch8); iexact S8
  isplitl [Hp]; · iexact Hp
  isplitl [C0 C1 C2 C3 C4 C5 C6 C7 C8 C9 C10 C11]
  · isplitl [C0]; · iexact C0
    isplitl [C1]; · iexact C1
    isplitl [C2]; · iexact C2
    isplitl [C3]; · iexact C3
    isplitl [C4]; · iexact C4
    isplitl [C5]; · iexact C5
    isplitl [C6]; · iexact C6
    isplitl [C7]; · iexact C7
    isplitl [C8]; · iexact C8
    isplitl [C9]; · iexact C9
    isplitl [C10]; · iexact C10
    iexact C11
  isplitl [A4]; · iapply (whole_out c main_arg4 (V m c main_arg4)); iexact A4
  isplitl [A6]; · iapply (whole_out c main_arg6 (V m c main_arg6)); iexact A6
  isplitl [A7]; · iapply (whole_out c main_v7 (V m c main_v7)); iexact A7
  iapply (whole_out c main_v8 (V m c main_v8)); iexact A8

/-! ## What the windows hold -/

/-- The input windows' blocks. -/
abbrev W0 (c : Dev nD) : S8x32.Idx → Elt F .i32 := iblk m c 0 t0_0
abbrev W1 (c : Dev nD) : S1x32.Idx → Elt F .i32 := iblk m c 1 t0_0
abbrev W2 (c : Dev nD) : S8x32.Idx → Elt F .i32 := iblk m c 2 t0_0
abbrev W3 (c : Dev nD) : S8x32.Idx → Elt F .f32 := iblk m c 3 t0_0
abbrev W4 (c : Dev nD) : S32x1.Idx → Elt F .i32 := iblk m c 4 t0_0
abbrev W5 (c : Dev nD) : S32x5120.Idx → Elt F .bf16 := iblk m c 5 t0_0
abbrev W6 (c : Dev nD) : S32x768.Idx → Elt F .f32 := iblk m c 6 t0_0
abbrev W7 (c : Dev nD) : S32x5120.Idx → Elt F .f32 := iblk m c 7 t0_0

/-- A table's words by row and column. -/
def tab {a b : ℕ} (X : Shape.Idx ⟨2, ![a, b]⟩ → BitVec 32) (k t : ℕ) : BitVec 32 :=
  if h : k < a ∧ t < b then X (ValueIdx.ix2 ⟨k, h.1⟩ ⟨t, h.2⟩) else 0

theorem tab_eq {a b : ℕ} (X : Shape.Idx ⟨2, ![a, b]⟩ → BitVec 32) : X = fun i => tab X (i 0).val (i 1).val := by
  funext i
  have h0 : (i 0).val < a := (i 0).isLt
  have h1 : (i 1).val < b := (i 1).isLt
  unfold tab
  rw [dif_pos ⟨h0, h1⟩]
  congr 1
  funext k
  fin_cases k <;> rfl

/-- The expert of choice `k` of token `t`, and token `t`'s adapter, as words. -/
abbrev eTab (c : Dev nD) : ℕ → ℕ → BitVec 32 := tab (W0 m c)
abbrev aTab (c : Dev nD) : ℕ → ℕ → BitVec 32 := tab (W1 m c)

/-- What the precondition is used for in the run: every expert number is one. -/
def RangeOK : Prop := ∀ c k t, k < 8 → t < 32 → (eTab m c k t).toNat < 32

/-! ## The region's data -/

/-- The region's data: the inputs keep their blocks; the results hold `y`, the codes and the scale of the tokens. -/
def dats (y : Dev nD → S32x5120.Idx → Elt F .bf16) (_ : Fin 1) (c : Dev nD) : Dat τ (Elt F) Unit ℕ (UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => y c
    | ⟨9, _⟩ => codesOf (W5 m c)
    | ⟨10, _⟩ => scaleOf (W5 m c)
  Φ _ := ΦD osem spec0 Hbm (V m) c
  q w := Pipeline.shareOf spec0 w
  owed _ := 0

section Before
variable (y : Dev nD → S32x5120.Idx → Elt F .bf16) (c : Dev nD) (t : Fin cfg0.N)
theorem before_0 (d) : (dats m y 0 c).before 0 t d = iblk m c 0 t := by
  unfold Dat.before; rw [if_pos (fetch0_0 t)]; unfold Dat.fetched Dat.blockOf iblk; dsimp only [dats]; rfl
theorem before_1 (d) : (dats m y 0 c).before 1 t d = iblk m c 1 t := by
  unfold Dat.before; rw [if_pos (fetch0_1 t)]; unfold Dat.fetched Dat.blockOf iblk; dsimp only [dats]; rfl
theorem before_2 (d) : (dats m y 0 c).before 2 t d = iblk m c 2 t := by
  unfold Dat.before; rw [if_pos (fetch0_2 t)]; unfold Dat.fetched Dat.blockOf iblk; dsimp only [dats]; rfl
theorem before_3 (d) : (dats m y 0 c).before 3 t d = iblk m c 3 t := by
  unfold Dat.before; rw [if_pos (fetch0_3 t)]; unfold Dat.fetched Dat.blockOf iblk; dsimp only [dats]; rfl
theorem before_4 (d) : (dats m y 0 c).before 4 t d = iblk m c 4 t := by
  unfold Dat.before; rw [if_pos (fetch0_4 t)]; unfold Dat.fetched Dat.blockOf iblk; dsimp only [dats]; rfl
theorem before_5 (d) : (dats m y 0 c).before 5 t d = iblk m c 5 t := by
  unfold Dat.before; rw [if_pos (fetch0_5 t)]; unfold Dat.fetched Dat.blockOf iblk; dsimp only [dats]; rfl
theorem before_6 (d) : (dats m y 0 c).before 6 t d = iblk m c 6 t := by
  unfold Dat.before; rw [if_pos (fetch0_6 t)]; unfold Dat.fetched Dat.blockOf iblk; dsimp only [dats]; rfl
theorem before_7 (d) : (dats m y 0 c).before 7 t d = iblk m c 7 t := by
  unfold Dat.before; rw [if_pos (fetch0_7 t)]; unfold Dat.fetched Dat.blockOf iblk; dsimp only [dats]; rfl
end Before

/-! ## The body at the region's one point -/

/-- The kernel on the staging buffers of point `t`. -/
theorem defs_tc : (defs₀ (F := F)) .tc cfg0.body
    = fun a => cc0__moe_kernel (F := F) (win0_0.stage (a.2 0)) (hstage0_0 0) (win0_1.stage (a.2 1)) (hstage0_1 0) (win0_2.stage (a.2 2)) (hstage0_2 0) (win0_3.stage (a.2 3)) (hstage0_3 0)
      (win0_4.stage (a.2 4)) (hstage0_4 0) (win0_5.stage (a.2 5)) (hstage0_5 0) (win0_6.stage (a.2 6)) (hstage0_6 0) (win0_7.stage (a.2 7)) (hstage0_7 0)
      (Memref.whole main_arg4) (Memref.isWhole_whole _) (Memref.whole main_arg6) (Memref.isWhole_whole _) (Memref.whole main_v7) (Memref.isWhole_whole _) (Memref.whole main_v8) (Memref.isWhole_whole _)
      (win0_8.stage (a.2 8)) (hstage0_8 0) (win0_9.stage (a.2 9)) (hstage0_9 0) (win0_10.stage (a.2 10)) (hstage0_10 0)
      (Memref.whole cc0_scratch0) (Memref.isWhole_whole _) (Memref.whole cc0_scratch1) (Memref.isWhole_whole _) (Memref.whole cc0_scratch2) (Memref.isWhole_whole _)
      (Memref.whole cc0_scratch3) (Memref.isWhole_whole _) (Memref.whole cc0_scratch4) (Memref.isWhole_whole _) (Memref.whole cc0_scratch5) (Memref.isWhole_whole _)
      (Memref.whole cc0_scratch6) (Memref.isWhole_whole _) (Memref.whole cc0_scratch7) (Memref.isWhole_whole _) (Memref.whole cc0_scratch8) (Memref.isWhole_whole _)
      cc0_scratch9 cc0_scratch10 cc0_scratch11 := rfl
theorem prog_eq (t : Fin cfg0.N) : (defs₀ (F := F)) .tc cfg0.body (cfg0.bodyArgs t (cfg0.slots t)) = bodyAt0 t :=
  (congrFun defs_tc _).trans rfl

/-- The input windows at point `t`, as the kernel reads them. -/
abbrev Ins (c : Dev nD) : sProp 𝕄 :=
  Reads c (st0_0 t0_0) (st0_1 t0_0) (st0_2 t0_0) (st0_3 t0_0) (st0_4 t0_0) (st0_5 t0_0) (st0_6 t0_0) (st0_7 t0_0) (fun _ => fullShare)
    (eTab m c) (aTab m c) (W2 m c) (W3 m c) (W4 m c) (W5 m c) (W6 m c) (W7 m c)

/-- A statement about the sum the kernel gathers, kept by every trip. -/
structure Kept (c : Dev nD) (P : (ℕ → BitVec 32) → ℕ → (S32x5120.Idx → Elt F .f32) → Prop) : Prop where
  zero : ∀ O0, P O0 0 (k0_pay35 (F := F))
  step : ∀ O0 j acc A' B, j < (order (masks (eTab m c) (aTab m c) 32) (eTab m c 0 0) O0 32).1.toNat →
      ∀ hv : ((order (masks (eTab m c) (aTab m c) 32) (eTab m c 0 0) O0 32).2 j).toNat < 32, P O0 j acc →
      FactA (vals m c) (fin32 ((order (masks (eTab m c) (aTab m c) 32) (eTab m c 0 0) O0 32).2 j)) (masks (eTab m c) (aTab m c) 32 ((order (masks (eTab m c) (aTab m c) 32) (eTab m c 0 0) O0 32).2 j).toNat) A' →
      FactB (vals m c) (fin32 ((order (masks (eTab m c) (aTab m c) 32) (eTab m c 0 0) O0 32).2 j)) (masks (eTab m c) (aTab m c) 32 ((order (masks (eTab m c) (aTab m c) 32) (eTab m c 0 0) O0 32).2 j).toNat) B →
      P O0 (j + 1) (stepAcc (scaleOf (W5 m c)) (k0_pay1 k0_pay36 (W4 m c)) (k0_pay33 (k0_pay32 (F := F) (W2 m c))) (k0_pay34 (W3 m c)) (codesOf (W5 m c)) (W5 m c)
        ((order (masks (eTab m c) (aTab m c) 32) (eTab m c 0 0) O0 32).2 j)
        (upVal (vals m c) (fin32 ((order (masks (eTab m c) (aTab m c) 32) (eTab m c 0 0) O0 32).2 j))) (dnVal (vals m c) (fin32 ((order (masks (eTab m c) (aTab m c) 32) (eTab m c 0 0) O0 32).2 j)))
        (row6 (W6 m c) ((order (masks (eTab m c) (aTab m c) 32) (eTab m c 0 0) O0 32).2 j) hv) (row7 (W7 m c) ((order (masks (eTab m c) (aTab m c) 32) (eTab m c 0 0) O0 32).2 j) hv) A' B acc)

theorem bodyRun (hR : RangeOK m) (c : Dev nD) (P : (ℕ → BitVec 32) → ℕ → (S32x5120.Idx → Elt F .f32) → Prop) (hP : Kept m c P) {W : Waits sig Unit} {Q : PUnit → sProp 𝕄} :
    iprop(Ins m c ∗ Mine m c ∗ anyAt (c : Thread nD τ) (st0_8 t0_0) ∗ anyAt (c : Thread nD τ) (st0_9 t0_0) ∗ anyAt (c : Thread nD τ) (st0_10 t0_0) ∗ owes (c : Thread nD τ) 0 W)
      ⊢ iprop((∀ O0 acc, iprop(⌜P O0 (order (masks (eTab m c) (aTab m c) 32) (eTab m c 0 0) O0 32).1.toNat acc⌝ ∗ Ins m c ∗ Mine m c ∗ owns (c : Thread nD τ) (st0_8 t0_0) fullShare (k0_pay4 acc)
            ∗ owns (c : Thread nD τ) (st0_9 t0_0) fullShare (codesOf (W5 m c)) ∗ owns (c : Thread nD τ) (st0_10 t0_0) fullShare (scaleOf (W5 m c)) ∗ (∃ W', owes (c : Thread nD τ) 0 W')) -∗ Q ⟨⟩) -∗
        wp frame (wpE (defs₀ (F := F)) Variants.none (c : Thread nD τ) none) Set.univ (bodyAt0 (F := F) t0_0) Q) :=
  wp_kernel Variants.none c none countersEmb (vals m c) _ _ _ _ _ _ _ _ _ _ _ _ _ _ _ _ _ _ _ _ _ _ _ _ _ _ _ _ _ _ _ _ _ _ _ _ _ _ _ _ _ _ _ _ _ _ _ _ _ _ _ (hR c) P hP.zero hP.step

theorem ins_eq (c : Dev nD) : (iprop(owns (c : Thread nD τ) (st0_0 t0_0) fullShare (iblk m c 0 t0_0) ∗ owns (c : Thread nD τ) (st0_1 t0_0) fullShare (iblk m c 1 t0_0)
      ∗ owns (c : Thread nD τ) (st0_2 t0_0) fullShare (iblk m c 2 t0_0) ∗ owns (c : Thread nD τ) (st0_3 t0_0) fullShare (iblk m c 3 t0_0)
      ∗ owns (c : Thread nD τ) (st0_4 t0_0) fullShare (iblk m c 4 t0_0) ∗ owns (c : Thread nD τ) (st0_5 t0_0) fullShare (iblk m c 5 t0_0)
      ∗ owns (c : Thread nD τ) (st0_6 t0_0) fullShare (iblk m c 6 t0_0) ∗ owns (c : Thread nD τ) (st0_7 t0_0) fullShare (iblk m c 7 t0_0)) : sProp 𝕄) = Ins m c := by
  unfold Ins Reads words2
  rw [← tab_eq (W0 m c), ← tab_eq (W1 m c)]

theorem ins_in (c : Dev nD) : (iprop(owns (c : Thread nD τ) (st0_0 t0_0) fullShare (iblk m c 0 t0_0) ∗ owns (c : Thread nD τ) (st0_1 t0_0) fullShare (iblk m c 1 t0_0)
      ∗ owns (c : Thread nD τ) (st0_2 t0_0) fullShare (iblk m c 2 t0_0) ∗ owns (c : Thread nD τ) (st0_3 t0_0) fullShare (iblk m c 3 t0_0)
      ∗ owns (c : Thread nD τ) (st0_4 t0_0) fullShare (iblk m c 4 t0_0) ∗ owns (c : Thread nD τ) (st0_5 t0_0) fullShare (iblk m c 5 t0_0)
      ∗ owns (c : Thread nD τ) (st0_6 t0_0) fullShare (iblk m c 6 t0_0) ∗ owns (c : Thread nD τ) (st0_7 t0_0) fullShare (iblk m c 7 t0_0)) : sProp 𝕄) ⊢ Ins m c := Entails.of_eq (ins_eq m c)
theorem ins_out (c : Dev nD) : Ins m c ⊢ (iprop(owns (c : Thread nD τ) (st0_0 t0_0) fullShare (iblk m c 0 t0_0) ∗ owns (c : Thread nD τ) (st0_1 t0_0) fullShare (iblk m c 1 t0_0)
      ∗ owns (c : Thread nD τ) (st0_2 t0_0) fullShare (iblk m c 2 t0_0) ∗ owns (c : Thread nD τ) (st0_3 t0_0) fullShare (iblk m c 3 t0_0)
      ∗ owns (c : Thread nD τ) (st0_4 t0_0) fullShare (iblk m c 4 t0_0) ∗ owns (c : Thread nD τ) (st0_5 t0_0) fullShare (iblk m c 5 t0_0)
      ∗ owns (c : Thread nD τ) (st0_6 t0_0) fullShare (iblk m c 6 t0_0) ∗ owns (c : Thread nD τ) (st0_7 t0_0) fullShare (iblk m c 7 t0_0)) : sProp 𝕄) := Entails.of_eq (ins_eq m c).symm

/-! ## @main around the region -/

set_option maxHeartbeats 800000 in
theorem hmainD : Pipeline.HMainK (Ix := Unit) (Name := ℕ) (U := UD sig nD τ) (Lvl := ℕ) cfgs 0 defs₀ Variants.none m (main (F := F)) (V m)
      (fun _ => Pipeline.chain ([hostOps1].map StableHlo.seq)) :=
  Pipeline.hmain_around cfgs 0 defs₀ Variants.none m main [hostOps0] [hostOps1] (by simp only [List.Forall]; exact hostOps0_sub)
    (by simp only [List.Forall]; exact hostOps0_fresh) main_chain

/-- The lines after the region touch none of the arrays the kernel's copies read. -/
theorem sfx_but : ∀ ops ∈ ([hostOps1] : List (List (HloOp τ sig (Elt F)))), ∀ op ∈ ops,
    op.bufs ⊆ Pipeline.tailRefsBut sig Pipeline.Prefetch.none spec0 Hbm := by
  intro ops hops op hop
  simp only [List.mem_cons, List.mem_nil_iff, or_false] at hops
  rcases hops with rfl
  refine Pipeline.sub_tailRefsBut Pipeline.Prefetch.none spec0 Hbm op ((List.forall_iff_forall_mem.mp hostOps1_sub) op hop) (fun j => j.elim0) ?_
  simp only [hostOps1, List.mem_cons, List.mem_nil_iff, or_false] at hop
  rcases hop with rfl | rfl | rfl
  all_goals intro b hb; simp only [Hbm, Finset.mem_insert, Finset.mem_singleton] at hb
  all_goals rcases hb with rfl | rfl | rfl | rfl <;>
    simp only [StableHlo.reshape_bufs, Finset.mem_insert, Finset.mem_singleton, not_or] <;> and_intros <;> exact StableHlo.devRef_ne_of_ne (by decide)

theorem sfx_writes : ∀ ops ∈ ([hostOps1] : List (List (HloOp τ sig (Elt F)))), ∀ op ∈ ops,
    ∀ b : Ref sig .tc, Proc.devRef .tc b ∈ op.writes → b ∈ Tail := by
  intro ops hops op hop
  simp only [List.mem_cons, List.mem_nil_iff, or_false] at hops
  rcases hops with rfl
  simp only [hostOps1, List.mem_cons, List.mem_nil_iff, or_false] at hop
  rcases hop with rfl | rfl | rfl
  all_goals intro b hb; simp only [StableHlo.reshape_writes, Finset.mem_singleton] at hb; cases Proc.devRef_injective _ hb; decide

end Cert.Proof.KI

end
-- ==== Proof.KI.Arrays.lean ====
module

public import proofs.«01_k».proof.Proof.KI.Run
public import Idealize.ShloMosaic.Lib.StableHlo.ReadAt
public import Idealize.ShloMosaic.Lib.ValueLayout
public import Idealize.ShloMosaic.Lib.Pipeline.ValueKit.Geometry

@[expose] public section

/-!
# What the kernel's windows and rings read, element by element, from the program's arguments
-/

set_option maxRecDepth 16384

noncomputable section

namespace Cert.Proof.KI

open Idealize.ShloMosaic hiding ix1 ix2 ix3 ix4
open Idealize.ShloMosaic.TcCoe Idealize.ShloMosaic.Tactic
open Idealize.SL Idealize.SL.Sem
open Idealize.ShloMosaic.ValueIdx
open Cert.Proof.Slots
open Cert.KernelIdeal Cert.KernelIdeal.Gen

variable {F : FTy → Type} [FloatOps F]
variable (m : (ℓ : Loc nD τ sig) → Buf (Elt F) ℓ) (c : Dev nD)

/-- The arguments. -/
abbrev argX : S32x1x5120.Idx → Elt F .bf16 := m ((c : Thread nD τ).loc main_arg0)
abbrev argE : S32x1x8.Idx → Elt F .i32 := m ((c : Thread nD τ).loc main_arg1)
abbrev argW : S32x1x8.Idx → Elt F .f32 := m ((c : Thread nD τ).loc main_arg2)
abbrev argA : S32.Idx → Elt F .i32 := m ((c : Thread nD τ).loc main_arg3)
abbrev argU : S32x5120x768.Idx → Elt F .fp8e4m3 := m ((c : Thread nD τ).loc main_arg4)
abbrev argUs : S32x768.Idx → Elt F .f32 := m ((c : Thread nD τ).loc main_arg5)
abbrev argD : S32x768x5120.Idx → Elt F .fp8e4m3 := m ((c : Thread nD τ).loc main_arg6)
abbrev argDs : S32x5120.Idx → Elt F .f32 := m ((c : Thread nD τ).loc main_arg7)
abbrev argLa : S32x8x5120x16.Idx → Elt F .bf16 := m ((c : Thread nD τ).loc main_arg8)
abbrev argLb : S32x8x16x768.Idx → Elt F .bf16 := m ((c : Thread nD τ).loc main_arg9)

theorem v1_at (k : Fin 8) (t : Fin 32) : V m c main_v1 (ix2 k t) = argE m c (ix3 t 0 k) := by
  unfold V V0
  after_reads_at
  rfl
theorem v3_at (k : Fin 8) (t : Fin 32) : V m c main_v3 (ix2 k t) = argW m c (ix3 t 0 k) := by
  unfold V V0
  after_reads_at
  rfl
theorem v9_at (t : Fin 32) : V m c main_v9 (ix2 (0 : Fin 1) t) = argA m c (ix1 t) := by
  unfold V V0
  after_reads_at
  rfl
theorem v10_at (t : Fin 32) : V m c main_v10 (ix2 t (0 : Fin 1)) = argA m c (ix1 t) := by
  unfold V V0
  after_reads_at
  rfl
theorem v11_at (t : Fin 32) (d : Fin 5120) : V m c main_v11 (ix2 t d) = argX m c (ix3 t 0 d) := by
  unfold V V0
  after_reads_at
  rfl
theorem v7_at (e : Fin 32) (a : Fin 8) (r : Fin 16) (d : Fin 5120) : V m c main_v7 (ix3 (rowNo e a) r d) = argLa m c (ix4 e a d r) := by
  unfold V V0
  after_reads_at
  have h : (rowNo e a).val = e.val * 8 + a.val := rfl
  refine congrArg (argLa m c) (funext fun i => ?_)
  match i with
  | ⟨0, _⟩ => exact Fin.ext (show (rowNo e a).val / 8 = e.val by omega)
  | ⟨1, _⟩ => exact Fin.ext (show (rowNo e a).val % 8 = a.val by omega)
  | ⟨2, _⟩ => rfl
  | ⟨3, _⟩ => rfl
theorem v8_at (e : Fin 32) (a : Fin 8) (r : Fin 16) (d : Fin 768) : V m c main_v8 (ix3 (rowNo e a) r d) = argLb m c (ix4 e a r d) := by
  unfold V V0
  after_reads_at
  have h : (rowNo e a).val = e.val * 8 + a.val := rfl
  refine congrArg (argLb m c) (funext fun i => ?_)
  match i with
  | ⟨0, _⟩ => exact Fin.ext (show (rowNo e a).val / 8 = e.val by omega)
  | ⟨1, _⟩ => exact Fin.ext (show (rowNo e a).val % 8 = a.val by omega)
  | ⟨2, _⟩ => rfl
  | ⟨3, _⟩ => rfl
theorem W0_at (k : Fin 8) (t : Fin 32) : W0 m c (ix2 k t) = argE m c (ix3 t 0 k) := by
  refine Eq.trans ?_ (v1_at m c k t)
  unfold W0
  blk_simp [iblk]
  refine congrArg _ (funext fun a => Fin.ext ?_)
  blk_simp
  fin_cases a <;> simp <;> rfl
theorem W1_at (t : Fin 32) : W1 m c (ix2 (0 : Fin 1) t) = argA m c (ix1 t) := by
  refine Eq.trans ?_ (v9_at m c t)
  unfold W1
  blk_simp [iblk]
  refine congrArg _ (funext fun a => Fin.ext ?_)
  blk_simp
  fin_cases a <;> simp <;> rfl
theorem W2_at (k : Fin 8) (t : Fin 32) : W2 m c (ix2 k t) = argE m c (ix3 t 0 k) := by
  refine Eq.trans ?_ (v1_at m c k t)
  unfold W2
  blk_simp [iblk]
  refine congrArg _ (funext fun a => Fin.ext ?_)
  blk_simp
  fin_cases a <;> simp <;> rfl
theorem W3_at (k : Fin 8) (t : Fin 32) : W3 m c (ix2 k t) = argW m c (ix3 t 0 k) := by
  refine Eq.trans ?_ (v3_at m c k t)
  unfold W3
  blk_simp [iblk]
  refine congrArg _ (funext fun a => Fin.ext ?_)
  blk_simp
  fin_cases a <;> simp <;> rfl
theorem W4_at (t : Fin 32) : W4 m c (ix2 t (0 : Fin 1)) = argA m c (ix1 t) := by
  refine Eq.trans ?_ (v10_at m c t)
  unfold W4
  blk_simp [iblk]
  refine congrArg _ (funext fun a => Fin.ext ?_)
  blk_simp
  fin_cases a <;> simp <;> rfl
theorem W5_at (t : Fin 32) (d : Fin 5120) : W5 m c (ix2 t d) = argX m c (ix3 t 0 d) := by
  refine Eq.trans ?_ (v11_at m c t d)
  unfold W5
  blk_simp [iblk]
  refine congrArg _ (funext fun a => Fin.ext ?_)
  blk_simp
  fin_cases a <;> simp <;> rfl
theorem W6_at (t : Fin 32) (d : Fin 768) : W6 m c (ix2 t d) = argUs m c (ix2 t d) := by
  refine Eq.trans ?_ ((congrFun (V_main_arg5 m c) _))
  unfold W6
  blk_simp [iblk]
  refine congrArg _ (funext fun a => Fin.ext ?_)
  blk_simp
  fin_cases a <;> simp <;> rfl
theorem W7_at (t : Fin 32) (d : Fin 5120) : W7 m c (ix2 t d) = argDs m c (ix2 t d) := by
  refine Eq.trans ?_ ((congrFun (V_main_arg7 m c) _))
  unfold W7
  blk_simp [iblk]
  refine congrArg _ (funext fun a => Fin.ext ?_)
  blk_simp
  fin_cases a <;> simp <;> rfl

end Cert.Proof.KI

end
-- ==== Proof.KI.Given.lean ====
module

public import proofs.«01_k».proof.Proof.KI.Arrays
public import proofs.«01_k».proof.Proof.Routing

@[expose] public section

/-!
# The precondition, read at the program's arguments
-/

set_option maxRecDepth 16384

noncomputable section

namespace Cert.Proof.KI

open Idealize.ShloMosaic hiding ix1 ix2 ix3 ix4
open Idealize.ShloMosaic.TcCoe Idealize.ShloMosaic.Tactic
open Idealize.ShloMosaic.ValueIdx
open Cert.KernelIdeal Cert.KernelIdeal.Gen

variable {F : FTy → Type} [FloatOps F] [Cert.Pre_routing_ok.Facts]
variable (m : (ℓ : Loc nD τ sig) → Buf (Elt F) ℓ)

/-- The predicate `routing_ok` is all ones of the arguments. -/
def Given : Prop := ∀ c : Dev nD, Cert.Pre_routing_ok.fn (F := F) (argX m c) (argE m c) (argW m c) (argA m c) (argU m c) (argUs m c) (argD m c)
  (argDs m c) (argLa m c) (argLb m c) = fun _ => 1#1

variable {m}

theorem routing (h : Given m) (c : Dev nD) : Routing.Ok (fun t k => argE m c (ix3 t 0 k)) (fun t => argA m c (ix1 t)) :=
  Routing.ok_of_fn _ _ _ _ _ _ _ _ _ _ (h c)

theorem eTab_at (c : Dev nD) (k t : ℕ) (hk : k < 8) (ht : t < 32) : eTab m c k t = argE m c (ix3 ⟨t, ht⟩ 0 ⟨k, hk⟩) := by
  show tab (W0 m c) k t = _
  unfold tab
  rw [dif_pos ⟨hk, ht⟩]
  exact W0_at m c ⟨k, hk⟩ ⟨t, ht⟩

theorem aTab_at (c : Dev nD) (t : ℕ) (ht : t < 32) : aTab m c 0 t = argA m c (ix1 ⟨t, ht⟩) := by
  show tab (W1 m c) 0 t = _
  unfold tab
  rw [dif_pos ⟨Nat.one_pos, ht⟩]
  exact W1_at m c ⟨t, ht⟩

theorem rangeOK (h : Given m) : RangeOK m := fun c k t hk ht => by
  rw [eTab_at c k t hk ht]
  exact (routing h c).expert ⟨t, ht⟩ ⟨k, hk⟩

end Cert.Proof.KI

end
-- ==== Proof.KI.Forget.lean ====
module

public import proofs.«01_k».proof.Proof.KI.Run
public import proofs.«01_k».proof.Proof.Gen.KernelIdeal.Frame
public import Idealize.ShloMosaic.Lib.Pipeline.FrameSuffixR

@[expose] public section

/-!
# The kernel's run, its results not named
-/

set_option maxRecDepth 16384

noncomputable section

namespace Cert.Proof.KI

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat BodyObligationLoose UD ΦD)
open Cert.Proof.Copies Cert.Proof.Words Cert.Proof.Tables Cert.Proof.Slots Cert.Proof.RingState Cert.Proof.Nums
open Cert.KernelIdeal Cert.KernelIdeal.Gen

variable {F : FTy → Type} [FloatOps F]

local notation "𝕄" => MT nD τ sig Unit (Elt F) ℕ (UD sig nD τ) ℕ

variable (m : (ℓ : Loc nD τ sig) → Buf (Elt F) ℓ) (ρ : Dev nD → PrngReg)

/-- Nothing is said of the three results. -/
def forgets : Fin 11 → Bool := fun w => decide (8 ≤ w.val)
theorem forgets_lo : forgets 0 = false ∧ forgets 1 = false ∧ forgets 2 = false ∧ forgets 3 = false ∧ forgets 4 = false ∧ forgets 5 = false ∧ forgets 6 = false ∧ forgets 7 = false := by decide
theorem forgets_hi : forgets 8 = true ∧ forgets 9 = true ∧ forgets 10 = true := by decide

variable (y : Dev nD → S32x5120.Idx → Elt F .bf16)

theorem kept_true (c : Dev nD) : Kept m c (fun _ _ _ => True) := ⟨fun _ => trivial, fun _ _ _ _ _ _ _ _ _ _ => trivial⟩

set_option backward.isDefEq.respectTransparency.types false in
theorem obligation (hR : RangeOK m) (c : Dev nD) : BodyObligationLoose (dats (F := F) m y 0 c) (defs₀ (F := F)) Variants.none () Set.univ forgets := fun t => by
  obtain rfl : t = t0_0 := fin_N0 t
  rw [bigSep_W0, bigSep_W0]
  dsimp only
  simp only [forgets_lo, forgets_hi]
  simp only [before_0, before_1, before_2, before_3, before_4, before_5, before_6, before_7]
  rw [show (dats m y 0 c).Φ t0_0.castSucc = ΦD osem spec0 Hbm (V m) c from rfl, show (dats m y 0 c).Φ t0_0.succ = ΦD osem spec0 Hbm (V m) c from rfl]
  unfold Dat.owesAt Pipeline.owesWithin
  rw [show (dats m y 0 c).owed t0_0.castSucc = 0 from rfl, show (dats m y 0 c).owed t0_0.succ = 0 from rfl]
  iintro ⟨HΦ, ⟨%W, -, HW⟩, ⟨%d0, I0⟩, ⟨%d1, I1⟩, ⟨%d2, I2⟩, ⟨%d3, I3⟩, ⟨%d4, I4⟩, ⟨%d5, I5⟩, ⟨%d6, I6⟩, ⟨%d7, I7⟩, ⟨%X8, O8⟩, ⟨%X9, O9⟩, ⟨%X10, O10⟩⟩
  ihave HΦ := (mine_in m c) $$ HΦ
  icases HΦ with ⟨Hp, HM⟩
  sl_rw [prog_eq t0_0]
  iapply (bodyRun m hR c _ (kept_true m c)) $$ [I0 I1 I2 I3 I4 I5 I6 I7 O8 O9 O10 HM HW]
  · isplitl [I0 I1 I2 I3 I4 I5 I6 I7]
    · iapply (ins_in m c)
      isplitl [I0]; · iexact I0
      isplitl [I1]; · iexact I1
      isplitl [I2]; · iexact I2
      isplitl [I3]; · iexact I3
      isplitl [I4]; · iexact I4
      isplitl [I5]; · iexact I5
      isplitl [I6]; · iexact I6
      iexact I7
    isplitl [HM]; · iexact HM
    isplitl [O8]; · iapply (anyAt_of (c : Thread nD τ) (st0_8 t0_0) _); iexact O8
    isplitl [O9]; · iapply (anyAt_of (c : Thread nD τ) (st0_9 t0_0) _); iexact O9
    isplitl [O10]; · iapply (anyAt_of (c : Thread nD τ) (st0_10 t0_0) _); iexact O10
    iexact HW
  iintro %O0 %acc ⟨%hacc, HI, HM, O8, O9, O10, HW⟩
  ihave HI := (ins_out m c) $$ HI
  icases HI with ⟨I0, I1, I2, I3, I4, I5, I6, I7⟩
  isplitl [HM Hp]
  · iapply (mine_out m c)
    isplitl [Hp]; · iexact Hp
    iexact HM
  isplitl [HW]
  · icases HW with ⟨%W', HW⟩
    iexists W'; isplitr; · ipureintro; exact fun _ _ => Or.inl trivial
    iexact HW
  isplitl [I0]; · iexact I0
  isplitl [I1]; · iexact I1
  isplitl [I2]; · iexact I2
  isplitl [I3]; · iexact I3
  isplitl [I4]; · iexact I4
  isplitl [I5]; · iexact I5
  isplitl [I6]; · iexact I6
  isplitl [I7]; · iexact I7
  isplitl [O8]; · iexists _; iexact O8
  isplitl [O9]; · iexists _; iexact O9
  iexists _; iexact O10

set_option backward.isDefEq.respectTransparency.types false in
/-- From any memory whose expert numbers are in range the program runs to its end, every semaphore back at zero and every argument unchanged. -/
theorem run_main (hR : RangeOK m) : θ_run defs (onTc (τ := τ) (main (F := F))) (s₀ m ρ)
    (fun r => RDat.FramePostR cfg0 (fun c => (dats m y 0 c).toRForget forgets) Tail (fun c b => V0 m c (Proc.devRef .tc b)) r ∧ r.2.sem = fun _ => 0) :=
  Pipeline.θ_run_frame_dma_around_T_forget_shared cfgs (dats m y) (0 : Fin 1) launch₀0 osem defs₀ Variants.none forgets ownSemFacts Hbm Tail hbm_sub m ρ main
    (hbody := fun c => obligation m y hR c) (hq := fun _ _ _ => rfl) (howed := fun _ _ => rfl) (V₀ := V0 m) (opss := [hostOps1])
    (hsub := sfx_but) (hfresh := sfx_fresh) (hkeep := sfx_keeps) (hT := sfx_writes) (hmain := hmainD m) (hA := fun _ _ => rfl)
    (hin := fun _ => .rfl) (hout := fun _ => .rfl) (Q' := fun r => RDat.FramePostR cfg0 (fun c => (dats m y 0 c).toRForget forgets) Tail (fun c b => V0 m c (Proc.devRef .tc b)) r ∧ r.2.sem = fun _ => 0) (hQ' := fun _ h => h)

theorem frame (hR : RangeOK m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  (θ_run defs _ _).mono (fun _ h => ⟨fun c => ⟨
      ((h.1 c).2 main_arg0 (by decide)).trans (V_main_arg0 m c),
      ((h.1 c).2 main_arg1 (by decide)).trans (V_main_arg1 m c),
      ((h.1 c).2 main_arg2 (by decide)).trans (V_main_arg2 m c),
      ((h.1 c).2 main_arg3 (by decide)).trans (V_main_arg3 m c),
      ((h.1 c).2 main_arg4 (by decide)).trans (V_main_arg4 m c),
      (RDat.FramePostR.arr_in h.1 c 6 rfl).trans (V_main_arg5 m c),
      ((h.1 c).2 main_arg6 (by decide)).trans (V_main_arg6 m c),
      (RDat.FramePostR.arr_in h.1 c 7 rfl).trans (V_main_arg7 m c),
      ((h.1 c).2 main_arg8 (by decide)).trans (V_main_arg8 m c),
      ((h.1 c).2 main_arg9 (by decide)).trans (V_main_arg9 m c)⟩, h.2⟩) (run_main m ρ (fun _ _ => Scalar.ofBits .bf16 0) hR)

end Cert.Proof.KI

end
-- ==== Proof.Scale.lean ====
module

public import Idealize.ShloMosaic.Lib.Pointwise

@[expose] public section

/-!
# The exponent of a row's scale

The kernel finds the exponent of a row's scale by counting the powers of two, as bit patterns, that do not exceed the row's quotient. The reference takes
the least exponent whose power of two exceeds it. Both give the same exponent, and the bit patterns made of it are the powers of two the reference writes.
-/

set_option maxRecDepth 16384

noncomputable section

namespace Cert.Proof.Scale

open Idealize.ShloMosaic

/-- A power of two. -/
def pw (e : ℤ) : EReal := (((2 : ℝ) ^ e : ℝ) : EReal)

theorem pw_le {a b : ℤ} (h : a ≤ b) : pw a ≤ pw b := by
  unfold pw
  exact EReal.coe_le_coe_iff.2 (zpow_le_zpow_right₀ (by norm_num) h)

theorem pw_pos (a : ℤ) : 0 < pw a := by
  unfold pw
  exact_mod_cast zpow_pos (by norm_num : (0 : ℝ) < 2) a

/-- The bit pattern with a biased exponent and no fraction. -/
def pat (n : ℕ) : EReal := Ideal.ofBits FTy.f32 (IntOp.shli ArithUnit.vector (BitVec.ofNat 32 n) 23#32)

theorem fields : ∀ n : Fin 256, ((BitVec.ofNat 32 n.val) <<< 23#32).extractLsb' 31 1 = 0#1 ∧ (((BitVec.ofNat 32 n.val) <<< 23#32).extractLsb' 23 8).toNat = n.val
    ∧ (((BitVec.ofNat 32 n.val) <<< 23#32).extractLsb' 0 23).toNat = 0 := by decide

theorem ieee_pow (b : BitVec 32) (n : ℕ) (ha : b.extractLsb' 31 1 = 0#1) (hb : (b.extractLsb' 23 8).toNat = n) (hc : (b.extractLsb' 0 23).toNat = 0)
    (h1 : n ≠ 0) (h : n ≠ 255) : Ideal.ieee 8 23 b = (((2 : ℝ) ^ (23 : ℕ) * (2 : ℝ) ^ ((n : ℤ) - 127 - 23) : ℝ) : EReal) := by
  have e : ∀ (g : BitVec 1) (x f : ℕ), b.extractLsb' 31 1 = g → (b.extractLsb' 23 8).toNat = x → (b.extractLsb' 0 23).toNat = f → ¬ x = 255 → ¬ x = 0 →
      Ideal.ieee 8 23 b = ((((if (g == 1#1) = true then (-1 : ℝ) else 1) * (2 ^ 23 + f : Nat) * (2 : ℝ) ^ ((x : Int) - (2 ^ (8 - 1) - 1) - (23 : ℕ))) : ℝ) : EReal) := by
    intro g x f hg hx hf h5 h0
    subst hg hx hf
    exact (if_neg h5).trans (if_neg h0)
  rw [e _ _ _ ha hb hc h h1]
  have g0 : ((0#1 : BitVec 1) == 1#1) = false := by decide
  rw [g0]
  refine congrArg Real.toEReal ?_
  have : ((n : Int) - (2 ^ (8 - 1) - 1) - (23 : ℕ)) = (n : ℤ) - 127 - 23 := by norm_num
  rw [this]
  push_cast
  norm_num

theorem pat_eq (n : ℕ) (h1 : 1 ≤ n) (h : n < 255) : pat n = pw (n - 127) := by
  obtain ⟨a, b, c⟩ := fields ⟨n, by omega⟩
  refine (ieee_pow _ n a b c (by omega) (by omega)).trans ?_
  unfold pw
  refine congrArg Real.toEReal ?_
  have e : (n : ℤ) - 127 = (23 : ℕ) + ((n : ℤ) - 127 - 23) := by push_cast; ring
  exact (congrArg (fun z : ℤ => (2 : ℝ) ^ z) e |>.trans ((zpow_add₀ (by norm_num) _ _).trans (by rw [zpow_natCast]))).symm

theorem pat_zero : pat 0 = 0 := by
  obtain ⟨a, b, c⟩ := fields ⟨0, by omega⟩
  have e : pat 0 = Ideal.ieee 8 23 ((BitVec.ofNat 32 0) <<< 23#32) := rfl
  rw [e]
  unfold Ideal.ieee
  simp only [] at a b c
  simp only [Nat.reduceAdd, a, b, c]
  norm_num

theorem pat_top : pat 255 = ⊤ := by
  obtain ⟨a, b, c⟩ := fields ⟨255, by omega⟩
  have e : pat 255 = Ideal.ieee 8 23 ((BitVec.ofNat 32 255) <<< 23#32) := rfl
  rw [e]
  unfold Ideal.ieee
  simp only [] at a b c
  simp only [Nat.reduceAdd, a, b, c]
  norm_num

/-- The largest of a family of words. -/
theorem fold_maxsi {n : ℕ} (g : Fin n → BitVec 32) (v : BitVec 32) (j : Fin n) (hj : g j = v) (hle : ∀ x, (g x).toInt ≤ v.toInt) :
    Finset.fold IntOp.maxsi 2147483648#32 g Finset.univ = v := by
  have hm : ∀ a b : BitVec 32, (IntOp.maxsi a b).toInt = max a.toInt b.toInt := by
    intro a b; unfold IntOp.maxsi
    rw [BitVec.slt_eq_decide]; split <;> rename_i h <;> simp at h <;> omega
  apply BitVec.eq_of_toInt_eq
  rw [← Finset.fold_hom (op := IntOp.maxsi) (op' := max) (m := BitVec.toInt) (f := g) (b := 2147483648#32) (s := Finset.univ) (hm := fun a b => hm a b)]
  apply le_antisymm
  · rw [Finset.fold_max_le]
    refine ⟨?_, fun x _ => hle x⟩
    have := BitVec.le_toInt v
    exact this
  · rw [Finset.le_fold_max]
    exact Or.inr ⟨j, Finset.mem_univ _, by rw [hj]⟩

/-- The least of a family of words. -/
theorem fold_minsi {n : ℕ} (g : Fin n → BitVec 32) (v : BitVec 32) (j : Fin n) (hj : g j = v) (hle : ∀ x, v.toInt ≤ (g x).toInt) :
    Finset.fold IntOp.minsi 2147483647#32 g Finset.univ = v := by
  have hm : ∀ a b : BitVec 32, (IntOp.minsi a b).toInt = min a.toInt b.toInt := by
    intro a b; unfold IntOp.minsi
    rw [BitVec.slt_eq_decide]; split <;> rename_i h <;> simp at h <;> omega
  apply BitVec.eq_of_toInt_eq
  rw [← Finset.fold_hom (op := IntOp.minsi) (op' := min) (m := BitVec.toInt) (f := g) (b := 2147483647#32) (s := Finset.univ) (hm := fun a b => hm a b)]
  apply le_antisymm
  · rw [Finset.fold_min_le]
    exact Or.inr ⟨j, Finset.mem_univ _, by rw [hj]⟩
  · rw [Finset.le_fold_min]
    refine ⟨?_, fun x _ => hle x⟩
    have := BitVec.toInt_le (x := v)
    exact this

/-- The kernel's count, a word of its family. -/
def cnt (q : EReal) (x : Fin 256) : BitVec 32 :=
  Scalar.select (IntOp.andi (BitVec.ofBool (decide (Ideal.ofBits FTy.f32 (IntOp.shli ArithUnit.vector (BitVec.ofNat 32 ↑x) 23#32) ≤ q)))
    (IntOp.ori (IntOp.cmpi CmpIPredicate.sle (BitVec.ofNat 32 ↑x) 246#32) (IntOp.cmpi CmpIPredicate.eq (BitVec.ofNat 32 ↑x) 255#32)))
    (BitVec.ofNat 32 ↑x) 0#32

/-- The kernel's exponent. -/
def kexp (q : EReal) : BitVec 32 :=
  Scalar.select (IntOp.ori (IntOp.cmpi CmpIPredicate.eq (Finset.fold IntOp.maxsi 2147483648#32 (cnt q) Finset.univ) 0#32)
      (IntOp.cmpi CmpIPredicate.eq (Finset.fold IntOp.maxsi 2147483648#32 (cnt q) Finset.univ) 255#32))
    0#32 (IntOp.subi (Finset.fold IntOp.maxsi 2147483648#32 (cnt q) Finset.univ) 126#32)

/-- The reference's family. -/
def lst (q : EReal) (x : Fin 246) : BitVec 32 :=
  if q < FloatOps.exp2 (F := Ideal) (φ := .f32) (FloatOps.sitofp FTy.f32 (IntOp.subi (BitVec.ofNat 32 ↑x) 125#32)) then IntOp.subi (BitVec.ofNat 32 ↑x) 125#32 else 120#32

/-- The reference's exponent. -/
def rexp (q : EReal) : BitVec 32 :=
  Scalar.select (IntOp.ori (BitVec.ofBool (decide (q < Ideal.ofBits FTy.f32 8388608#32))) (BitVec.ofBool (decide (q = Ideal.ofBits FTy.f32 2139095040#32))))
    0#32 (Finset.fold IntOp.minsi 2147483647#32 (lst q) Finset.univ)

theorem small : Ideal.ofBits FTy.f32 8388608#32 = pw (-126) := (pat_eq 1 (by omega) (by omega)).trans (by norm_num)
theorem infinite : Ideal.ofBits FTy.f32 2139095040#32 = ⊤ := pat_top

theorem codes_ok : ∀ x : Fin 256, (IntOp.ori (IntOp.cmpi CmpIPredicate.sle (BitVec.ofNat 32 x.val) 246#32) (IntOp.cmpi CmpIPredicate.eq (BitVec.ofNat 32 x.val) 255#32)) =
    BitVec.ofBool (decide (x.val ≤ 246 ∨ x.val = 255)) := by decide

theorem cnt_eq (q : EReal) (x : Fin 256) : cnt q x = if pat x ≤ q ∧ (x.val ≤ 246 ∨ x.val = 255) then BitVec.ofNat 32 x.val else 0#32 := by
  unfold cnt
  rw [codes_ok]
  show Scalar.select (IntOp.andi (BitVec.ofBool (decide (pat x ≤ q))) _) _ _ = _
  by_cases h1 : pat x ≤ q <;> by_cases h2 : x.val ≤ 246 ∨ x.val = 255 <;> simp only [h1, h2, decide_true, decide_false, true_and, and_true, and_false, false_and, if_true, if_false] <;> rfl

theorem toInt_small {n : ℕ} (h : n < 1024) : (BitVec.ofNat 32 n).toInt = n := by
  rw [BitVec.toInt_eq_toNat_of_lt] <;> rw [BitVec.toNat_ofNat, Nat.mod_eq_of_lt (by omega)]
  omega

theorem toInt_lst : ∀ x : Fin 246, (IntOp.subi (BitVec.ofNat 32 x.val) 125#32).toInt = (x.val : ℤ) - 125 := by decide

theorem exp2_word (b : BitVec 32) : FloatOps.exp2 (F := Ideal) (φ := .f32) (FloatOps.sitofp FTy.f32 b) = pw b.toInt := by
  show Ideal.exp2 (((b.toInt : ℝ)) : EReal) = _
  rw [Ideal.exp2_coe]
  unfold pw
  congr 1
  exact Real.rpow_intCast 2 b.toInt

theorem exp2_neg_word (b : BitVec 32) : FloatOps.exp2 (F := Ideal) (φ := .f32) ((0 : EReal) - (FloatOps.sitofp (F := Ideal) FTy.f32 b : EReal)) = pw (- b.toInt) := by
  show Ideal.exp2 ((0 : EReal) - (((b.toInt : ℝ)) : EReal)) = _
  have : (0 : EReal) - (((b.toInt : ℝ)) : EReal) = (((-b.toInt : ℤ) : ℝ) : EReal) := by
    rw [zero_sub]; push_cast; rfl
  rw [this, Ideal.exp2_coe]
  unfold pw
  congr 1
  exact Real.rpow_intCast 2 (-b.toInt)

theorem lst_eq (q : EReal) (x : Fin 246) : lst q x = if q < pw ((x.val : ℤ) - 125) then IntOp.subi (BitVec.ofNat 32 x.val) 125#32 else 120#32 := by
  unfold lst
  rw [exp2_word, toInt_lst]

theorem toInt_zero : (0#32 : BitVec 32).toInt = 0 := by decide

theorem sel_one {α : Type} (a b : α) : Scalar.select 1#1 a b = a := rfl
theorem sel_zero {α : Type} (a b : α) : Scalar.select 0#1 a b = b := rfl
theorem ori_true : ∀ x : BitVec 1, IntOp.ori (BitVec.ofBool true) x = 1#1 := by decide
theorem ori_false_true : IntOp.ori (BitVec.ofBool false) (BitVec.ofBool true) = 1#1 := by decide
theorem ori_false : IntOp.ori (BitVec.ofBool false) (BitVec.ofBool false) = 0#1 := by decide
theorem ori_zero : IntOp.ori 0#1 0#1 = 0#1 := by decide
theorem hsmw : ∀ k : Fin 247, (IntOp.subi (BitVec.ofNat 32 k.val) 126#32).toInt = (k.val : ℤ) - 126 := by decide
theorem hjw : ∀ k : Fin 246, IntOp.subi (BitVec.ofNat 32 k.val) 125#32 = IntOp.subi (BitVec.ofNat 32 (k.val + 1)) 126#32 := by decide
theorem h1w : ∀ k : Fin 247, 1 ≤ k.val → IntOp.cmpi CmpIPredicate.eq (BitVec.ofNat 32 k.val) 0#32 = 0#1 := by decide
theorem h2w : ∀ k : Fin 247, IntOp.cmpi CmpIPredicate.eq (BitVec.ofNat 32 k.val) 255#32 = 0#1 := by decide

set_option maxHeartbeats 1000000 in
/-- The two exponents agree, and lie in a small range. -/
theorem exps (q : EReal) : ∃ n : ℕ, n ≤ 246 ∧ 1 ≤ n ∧ kexp q = rexp q ∧ rexp q = IntOp.subi (BitVec.ofNat 32 n) 126#32 := by
  by_cases h0 : q < pw (-126)
  · have hc : ∀ x, cnt q x = 0#32 := by
      intro x
      rw [cnt_eq]
      split
      · rename_i h
        have hx : x.val = 0 := by
          by_contra hx
          have : pw (-126) ≤ pat x := by
            by_cases h5 : x.val = 255
            · rw [h5, pat_top]; exact le_top
            · rw [pat_eq _ (by omega) (by omega)]; exact pw_le (by omega)
          exact absurd (this.trans h.1) (not_le.2 h0)
        rw [hx]
      · rfl
    have hf : Finset.fold IntOp.maxsi 2147483648#32 (cnt q) Finset.univ = 0#32 := fold_maxsi _ _ 0 (hc 0) (fun x => by rw [hc x])
    refine ⟨126, by omega, by omega, ?_, ?_⟩
    · unfold kexp rexp; rw [hf, small, decide_eq_true h0, ori_true, sel_one, (by decide : IntOp.cmpi CmpIPredicate.eq 0#32 0#32 = BitVec.ofBool true), ori_true, sel_one]
    · unfold rexp; rw [small, decide_eq_true h0, ori_true, sel_one]; decide
  by_cases ht : q = ⊤
  · have hf : Finset.fold IntOp.maxsi 2147483648#32 (cnt q) Finset.univ = 255#32 := by
      refine fold_maxsi _ _ 255 ?_ ?_
      · rw [cnt_eq, if_pos ⟨by rw [ht]; exact le_top, Or.inr rfl⟩]; rfl
      · intro x
        rw [cnt_eq]
        have : (255#32 : BitVec 32).toInt = 255 := by decide
        split
        · rw [toInt_small (by omega), this]; omega
        · rw [toInt_zero, this]; omega
    refine ⟨126, by omega, by omega, ?_, ?_⟩
    · unfold kexp rexp; rw [hf, small, infinite, decide_eq_true ht, decide_eq_false h0, ori_false_true, sel_one,
        (by decide : IntOp.ori (IntOp.cmpi CmpIPredicate.eq 255#32 0#32) (IntOp.cmpi CmpIPredicate.eq 255#32 255#32) = 1#1), sel_one]
    · unfold rexp; rw [small, infinite, decide_eq_true ht, decide_eq_false h0, ori_false_true, sel_one]; decide
  · -- the largest power of two that does not exceed the quotient
    have hex : ∃ n : ℕ, n ≤ 246 ∧ 1 ≤ n ∧ pw ((n : ℤ) - 127) ≤ q ∧ (n = 246 ∨ q < pw ((n : ℤ) - 126)) := by
      let P : ℕ → Prop := fun n => 1 ≤ n ∧ pw ((n : ℤ) - 127) ≤ q
      have hP1 : P 1 := ⟨le_refl _, not_lt.1 h0⟩
      classical
      refine ⟨Nat.findGreatest P 246, Nat.findGreatest_le _, ?_, ?_, ?_⟩
      · exact (Nat.findGreatest_spec (P := P) (m := 1) (by omega) hP1).1
      · exact (Nat.findGreatest_spec (P := P) (m := 1) (by omega) hP1).2
      · by_cases hn : Nat.findGreatest P 246 = 246
        · exact Or.inl hn
        · right
          have hle : Nat.findGreatest P 246 ≤ 246 := Nat.findGreatest_le _
          have := Nat.findGreatest_is_greatest (P := P) (n := 246) (k := Nat.findGreatest P 246 + 1) (by omega) (by omega)
          by_contra hc
          apply this
          refine ⟨by omega, ?_⟩
          have hc := not_lt.1 hc
          refine le_trans (le_of_eq ?_) hc
          congr 1
          push_cast; ring
    obtain ⟨n, hn, hn1, hq, hup⟩ := hex
    have hsm : ∀ k : Fin 247, (IntOp.subi (BitVec.ofNat 32 k.val) 126#32).toInt = (k.val : ℤ) - 126 := hsmw
    have hsmn := hsm ⟨n, by omega⟩
    simp only [] at hsmn
    have hf : Finset.fold IntOp.maxsi 2147483648#32 (cnt q) Finset.univ = BitVec.ofNat 32 n := by
      refine fold_maxsi _ _ ⟨n, by omega⟩ ?_ ?_
      · rw [cnt_eq, if_pos ⟨by simp only []; rw [pat_eq _ (by omega) (by omega)]; exact hq, Or.inl hn⟩]
      · intro x
        rw [cnt_eq, toInt_small (by omega)]
        split
        · rename_i h
          rw [toInt_small (by omega)]
          by_contra hx
          rcases hup with hup | hup
          · have h5 : x.val = 255 := by omega
            rw [h5, pat_top] at h
            exact ht (top_le_iff.1 h.1)
          · have : pw ((n : ℤ) - 126) ≤ pat x := by
              by_cases h5 : x.val = 255
              · rw [h5, pat_top]; exact le_top
              · rw [pat_eq _ (by omega) (by omega)]; exact pw_le (by omega)
            exact absurd (this.trans h.1) (not_le.2 hup)
        · rw [toInt_zero]; omega
    have hr : Finset.fold IntOp.minsi 2147483647#32 (lst q) Finset.univ = IntOp.subi (BitVec.ofNat 32 n) 126#32 := by
      have h120 : (120#32 : BitVec 32).toInt = 120 := by decide
      have hatt : ∃ j, lst q j = IntOp.subi (BitVec.ofNat 32 n) 126#32 := by
        have hj : ∀ k : Fin 246, IntOp.subi (BitVec.ofNat 32 k.val) 125#32 = IntOp.subi (BitVec.ofNat 32 (k.val + 1)) 126#32 := hjw
        refine ⟨⟨n - 1, by omega⟩, ?_⟩
        rw [lst_eq]
        have hjn := hj ⟨n - 1, by omega⟩
        simp only [Nat.sub_add_cancel hn1] at hjn
        split
        · exact hjn
        · rename_i h
          rcases hup with hup | hup
          · rw [hup]; rfl
          · exfalso; apply h
            refine lt_of_lt_of_eq hup ?_
            congr 1
            simp only []
            omega
      obtain ⟨j, hj⟩ := hatt
      refine fold_minsi _ _ j hj ?_
      intro x
      rw [lst_eq, hsmn]
      split
      · rename_i h
        rw [toInt_lst]
        by_contra hx
        exact absurd (hq.trans_lt h) (not_lt.2 (pw_le (by omega)))
      · rw [h120]; omega
    refine ⟨n, hn, hn1, ?_, ?_⟩
    · unfold kexp rexp; rw [hf, hr, small, infinite, decide_eq_false ht, decide_eq_false h0]
      have h1 : IntOp.cmpi CmpIPredicate.eq (BitVec.ofNat 32 n) 0#32 = 0#1 := by
        have : ∀ k : Fin 247, 1 ≤ k.val → IntOp.cmpi CmpIPredicate.eq (BitVec.ofNat 32 k.val) 0#32 = 0#1 := h1w
        exact this ⟨n, by omega⟩ hn1
      have h2 : IntOp.cmpi CmpIPredicate.eq (BitVec.ofNat 32 n) 255#32 = 0#1 := by
        have : ∀ k : Fin 247, IntOp.cmpi CmpIPredicate.eq (BitVec.ofNat 32 k.val) 255#32 = 0#1 := h2w
        exact this ⟨n, by omega⟩
      rw [h1, h2, ori_zero, sel_zero, ori_false, sel_zero]
    · unfold rexp; rw [hr, small, infinite, decide_eq_false ht, decide_eq_false h0, ori_false, sel_zero]

theorem kexp_eq (q : EReal) : kexp q = rexp q := by
  obtain ⟨n, _, _, h, _⟩ := exps q; exact h

/-- The scale the kernel writes as bits is the reference's power of two. -/
theorem scale_eq (q : EReal) : Ideal.ofBits FTy.f32 (IntOp.shli ArithUnit.vector (IntOp.addi (kexp q) 127#32) 23#32) =
    FloatOps.exp2 (F := Ideal) (φ := .f32) (FloatOps.sitofp FTy.f32 (rexp q)) := by
  obtain ⟨n, hn, hn1, h, h'⟩ := exps q
  rw [h, h', exp2_word]
  have hsm : ∀ k : Fin 247, (IntOp.subi (BitVec.ofNat 32 k.val) 126#32).toInt = (k.val : ℤ) - 126 := hsmw
  have hb : ∀ k : Fin 247, IntOp.addi (IntOp.subi (BitVec.ofNat 32 k.val) 126#32) 127#32 = BitVec.ofNat 32 (k.val + 1) := by decide
  have hsmn := hsm ⟨n, by omega⟩
  have hbn := hb ⟨n, by omega⟩
  simp only [] at hsmn hbn
  rw [hsmn, hbn]
  refine (pat_eq (n + 1) (by omega) (by omega)).trans ?_
  congr 1; push_cast; ring

/-- The reciprocal the kernel writes as bits is the reference's power of two. -/
theorem inv_eq (q : EReal) : Ideal.ofBits FTy.f32 (IntOp.shli ArithUnit.vector (IntOp.subi 127#32 (kexp q)) 23#32) =
    FloatOps.exp2 (F := Ideal) (φ := .f32) ((0 : EReal) - (FloatOps.sitofp (F := Ideal) FTy.f32 (rexp q) : EReal)) := by
  obtain ⟨n, hn, hn1, h, h'⟩ := exps q
  rw [h, h', exp2_neg_word]
  have hsm : ∀ k : Fin 247, (IntOp.subi (BitVec.ofNat 32 k.val) 126#32).toInt = (k.val : ℤ) - 126 := hsmw
  have hb : ∀ k : Fin 247, 1 ≤ k.val → IntOp.subi 127#32 (IntOp.subi (BitVec.ofNat 32 k.val) 126#32) = BitVec.ofNat 32 (253 - k.val) := by decide
  have hsmn := hsm ⟨n, by omega⟩
  have hbn := hb ⟨n, by omega⟩ hn1
  simp only [] at hsmn hbn
  rw [hsmn, hbn]
  refine (pat_eq (253 - n) (by omega) (by omega)).trans ?_
  congr 1; omega

end Cert.Proof.Scale

end
-- ==== Proof.Moe.lean ====
module

public import proofs.«01_k».proof.Proof.Scale

@[expose] public section

/-!
# The layer, written down once

The numbers both programs compute, in terms of the data they are given: the codes and the scale of a row, what one expert makes of one token, and the
weighted sum over a token's experts.
-/

noncomputable section

namespace Cert.Proof.Moe

open Idealize.ShloMosaic Cert.Proof.Scale

/-- The largest magnitude of a row, times the reciprocal of the largest code. -/
def quo {n : ℕ} (f : Fin n → EReal) : EReal :=
  Finset.fold max (Ideal.ofBits FTy.f32 4286578688#32) (fun x => FloatOps.absf (F := Ideal) (φ := .f32) (f x)) Finset.univ * Ideal.ofBits FTy.f32 991054117#32
/-- The scale of a row. -/
def scale {n : ℕ} (f : Fin n → EReal) : EReal := FloatOps.exp2 (F := Ideal) (φ := .f32) (FloatOps.sitofp FTy.f32 (rexp (quo f)))
/-- Its reciprocal. -/
def inv {n : ℕ} (f : Fin n → EReal) : EReal := FloatOps.exp2 (F := Ideal) (φ := .f32) ((0 : EReal) - (FloatOps.sitofp (F := Ideal) FTy.f32 (rexp (quo f)) : EReal))
/-- The codes of a row. -/
def code {n : ℕ} (f : Fin n → EReal) (i : Fin n) : EReal := min (Ideal.ofBits FTy.f32 1138753536#32) (max (Ideal.ofBits FTy.f32 3286237184#32) (f i * inv f))

/-- What the layer is given. -/
structure Data where
  x : Fin 32 → Fin 5120 → EReal
  E : Fin 32 → Fin 8 → BitVec 32
  W : Fin 32 → Fin 8 → EReal
  A : Fin 32 → BitVec 32
  U : Fin 32 → Fin 5120 → Fin 768 → EReal
  Us : Fin 32 → Fin 768 → EReal
  Dn : Fin 32 → Fin 768 → Fin 5120 → EReal
  Ds : Fin 32 → Fin 5120 → EReal
  La : Fin 32 → Fin 8 → Fin 5120 → Fin 16 → EReal
  Lb : Fin 32 → Fin 8 → Fin 16 → Fin 768 → EReal

variable (D : Data)

/-- The low-rank product of one expert's adapter. -/
def low (e t : Fin 32) (j : Fin 768) (a : Fin 8) : EReal := ∑ r : Fin 16, (∑ d, D.x t d * D.La e a d r) * D.Lb e a r j
/-- The low-rank correction: that of the token's adapter, or none. -/
def lora (e t : Fin 32) (j : Fin 768) : EReal := ∑ a : Fin 8, if D.A t = BitVec.ofNat 32 a.val then low D e t j a else 0
/-- The up product. -/
def pre (e t : Fin 32) (j : Fin 768) : EReal :=
  (∑ d, code (D.x t) d * D.U e d j) * scale (D.x t) * D.Us e j + Ideal.ofBits FTy.f32 1073741824#32 * lora D e t j
/-- The gated product. -/
def act (e t : Fin 32) (j : Fin 768) : EReal := pre D e t j * Ideal.logistic (pre D e t j)
/-- The down product. -/
def down (e t : Fin 32) (d : Fin 5120) : EReal := (∑ j, code (act D e t) j * D.Dn e j d) * scale (act D e t) * D.Ds e d
/-- The layer's result. -/
def out (t : Fin 32) (d : Fin 5120) : EReal := ∑ k : Fin 8, (∑ e : Fin 32, if BitVec.ofNat 32 e.val = D.E t k then down D e t d else 0) * D.W t k
/-- What one expert adds to it. -/
def part (e t : Fin 32) (d : Fin 5120) : EReal :=
  if ∃ k, D.E t k = BitVec.ofNat 32 e.val then down D e t d * (∑ k, if D.E t k = BitVec.ofNat 32 e.val then D.W t k else 0) else 0

/-- The result is the sum of what the experts add, for a token's experts are distinct. -/
theorem out_eq (hE : ∀ t k, (D.E t k).toNat < 32) (hd : ∀ t i j, i ≠ j → D.E t i ≠ D.E t j) (t : Fin 32) (d : Fin 5120) :
    out D t d = ∑ e, part D e t d := by
  have hone : ∀ k, (∑ e : Fin 32, if BitVec.ofNat 32 e.val = D.E t k then down D e t d else 0) * D.W t k =
      ∑ e : Fin 32, if BitVec.ofNat 32 e.val = D.E t k then down D e t d * D.W t k else 0 := by
    intro k
    have he : ∀ e : Fin 32, BitVec.ofNat 32 e.val = D.E t k ↔ e = ⟨(D.E t k).toNat, hE t k⟩ := by
      intro e
      constructor
      · intro h; apply Fin.ext; simp only []; rw [← h, BitVec.toNat_ofNat, Nat.mod_eq_of_lt (by omega)]
      · intro h; rw [h]; simp
    simp only [he, Finset.sum_ite_eq', Finset.mem_univ, if_true]
  unfold out
  rw [Finset.sum_congr rfl (fun k _ => hone k), Finset.sum_comm]
  refine Finset.sum_congr rfl fun e _ => ?_
  unfold part
  split
  · rename_i h
    obtain ⟨k, hk⟩ := h
    have hk' : ∀ k', D.E t k' = BitVec.ofNat 32 e.val ↔ k' = k := by
      intro k'
      constructor
      · intro h
        by_contra hne
        exact hd t k' k hne (h.trans hk.symm)
      · intro h; rw [h, hk]
    have hk'' : ∀ k', BitVec.ofNat 32 e.val = D.E t k' ↔ k' = k := fun k' => eq_comm.trans (hk' k')
    simp only [hk', hk'', Finset.sum_ite_eq', Finset.mem_univ, if_true]
  · rename_i h
    refine Finset.sum_eq_zero fun k _ => ?_
    rw [if_neg fun hk => h ⟨k, hk.symm⟩]

end Cert.Proof.Moe

end
-- ==== Proof.Used.lean ====
module

public import proofs.«01_k».proof.Proof.Tables
public import proofs.«01_k».proof.Proof.Slots

@[expose] public section

/-!
# Which bits the masks have

A token routed to an expert sets the bit of its adapter in the expert's mask.
-/

noncomputable section

namespace Cert.Proof.Used

open Idealize.ShloMosaic Cert.Proof.Tables Cert.Proof.Slots

theorem orAt_mono (M : ℕ → BitVec 32) (v w : BitVec 32) (e n : ℕ) (h : (M e).getLsbD n = true) : (orAt M v w e).getLsbD n = true := by
  unfold orAt
  by_cases he : e = v.toNat
  · subst he
    rw [Function.update_self]
    show (M v.toNat ||| w).getLsbD n = true
    rw [BitVec.getLsbD_or, h, Bool.true_or]
  · rw [Function.update_of_ne he]; exact h

theorem orAt_new (M : ℕ → BitVec 32) (v w : BitVec 32) (n : ℕ) (h : w.getLsbD n = true) : (orAt M v w v.toNat).getLsbD n = true := by
  unfold orAt
  rw [Function.update_self]
  show (M v.toNat ||| w).getLsbD n = true
  rw [BitVec.getLsbD_or, h, Bool.or_true]

variable (E : ℕ → ℕ → BitVec 32) (A : ℕ → ℕ → BitVec 32)

theorem token_mono (t : ℕ) (M : ℕ → BitVec 32) (e n : ℕ) (h : (M e).getLsbD n = true) : (token E A t M e).getLsbD n = true := by
  unfold token
  exact orAt_mono _ _ _ _ _ (orAt_mono _ _ _ _ _ (orAt_mono _ _ _ _ _ (orAt_mono _ _ _ _ _ (orAt_mono _ _ _ _ _ (orAt_mono _ _ _ _ _ (orAt_mono _ _ _ _ _ (orAt_mono _ _ _ _ _ h)))))))

theorem token_new (t : ℕ) (M : ℕ → BitVec 32) (k n : ℕ) (hk : k < 8) (h : (bitOf (A 0 t)).getLsbD n = true) : (token E A t M (E k t).toNat).getLsbD n = true := by
  unfold token
  interval_cases k
  · exact orAt_mono _ _ _ _ _ (orAt_mono _ _ _ _ _ (orAt_mono _ _ _ _ _ (orAt_mono _ _ _ _ _ (orAt_mono _ _ _ _ _ (orAt_mono _ _ _ _ _ (orAt_mono _ _ _ _ _ (orAt_new _ _ _ _ h)))))))
  · exact orAt_mono _ _ _ _ _ (orAt_mono _ _ _ _ _ (orAt_mono _ _ _ _ _ (orAt_mono _ _ _ _ _ (orAt_mono _ _ _ _ _ (orAt_mono _ _ _ _ _ (orAt_new _ _ _ _ h))))))
  · exact orAt_mono _ _ _ _ _ (orAt_mono _ _ _ _ _ (orAt_mono _ _ _ _ _ (orAt_mono _ _ _ _ _ (orAt_mono _ _ _ _ _ (orAt_new _ _ _ _ h)))))
  · exact orAt_mono _ _ _ _ _ (orAt_mono _ _ _ _ _ (orAt_mono _ _ _ _ _ (orAt_mono _ _ _ _ _ (orAt_new _ _ _ _ h))))
  · exact orAt_mono _ _ _ _ _ (orAt_mono _ _ _ _ _ (orAt_mono _ _ _ _ _ (orAt_new _ _ _ _ h)))
  · exact orAt_mono _ _ _ _ _ (orAt_mono _ _ _ _ _ (orAt_new _ _ _ _ h))
  · exact orAt_mono _ _ _ _ _ (orAt_new _ _ _ _ h)
  · exact orAt_new _ _ _ _ h

theorem masks_bit (T t k n : ℕ) (ht : t < T) (hk : k < 8) (h : (bitOf (A 0 t)).getLsbD n = true) : (masks E A T (E k t).toNat).getLsbD n = true := by
  induction T with
  | zero => omega
  | succ T ih =>
    show (token E A T (masks E A T) (E k t).toNat).getLsbD n = true
    by_cases he : t = T
    · subst he; exact token_new E A t _ k n hk h
    · exact token_mono E A T _ _ n (ih (by omega))

/-- A mask whose bit is set asks for the adapter. -/
theorem used_of_bit (m : BitVec 32) (a : Fin 8) (h : m.getLsbD (a.val + 1) = true) : used m a := by
  unfold used bitCond
  have h1 : Scalar.andi (Scalar.shrsi m (BitVec.ofNat 32 (a.val + 1))) 1#32 = 1#32 := by
    have hs : Scalar.shrsi m (BitVec.ofNat 32 (a.val + 1)) = m.sshiftRight (a.val + 1) := by
      have hn : (BitVec.ofNat 32 (a.val + 1)).toNat = a.val + 1 := by rw [BitVec.toNat_ofNat, Nat.mod_eq_of_lt (by omega)]
      show (if (BitVec.ofNat 32 (a.val + 1)).toNat < 32 then m.sshiftRight' (BitVec.ofNat 32 (a.val + 1)) else _) = _
      rw [if_pos (by omega)]
      show m.sshiftRight _ = _
      rw [hn]
    rw [hs]
    show m.sshiftRight (a.val + 1) &&& 1#32 = 1#32
    rw [BitVec.and_one_eq_setWidth_ofBool_getLsbD, BitVec.getLsbD_sshiftRight]
    simp only [add_zero]
    rw [if_pos (by omega), h]
    rfl
  rw [h1]
  decide

theorem bit_of_adapter : ∀ a : Fin 8, (bitOf (BitVec.ofNat 32 a.val)).getLsbD (a.val + 1) = true := by decide

theorem bit_of_any (a : BitVec 32) (h : -1 ≤ a.toInt ∧ a.toInt < 8) : ∃ n, (bitOf a).getLsbD n = true := by
  have ha : a = BitVec.ofInt 32 a.toInt := (BitVec.ofInt_toInt).symm
  obtain ⟨h1, h2⟩ := h
  generalize a.toInt = z at *
  subst ha
  refine ⟨(z + 1).toNat, ?_⟩
  interval_cases z <;> decide

/-- A token routed to an expert makes its mask other than zero. -/
theorem masks_ne (T t k : ℕ) (ht : t < T) (hk : k < 8) (h : -1 ≤ (A 0 t).toInt ∧ (A 0 t).toInt < 8) : masks E A T (E k t).toNat ≠ 0#32 := by
  obtain ⟨n, hn⟩ := bit_of_any (A 0 t) h
  intro h0
  have := masks_bit E A T t k n ht hk hn
  rw [h0] at this
  simp at this

end Cert.Proof.Used

end
-- ==== Proof.KI.Values.lean ====
module

public import proofs.«01_k».proof.Proof.KI.Given
public import proofs.«01_k».proof.Proof.KI.Run
public import proofs.«01_k».proof.Proof.Moe
public import proofs.«01_k».proof.Proof.Used

@[expose] public section

/-!
# What one trip of the kernel's loop computes

Each payload of the trip read at an index, over the reals, and from them what the trip adds to the accumulator.
-/

set_option maxRecDepth 16384

noncomputable section

namespace Cert.Proof.KI

open Idealize.ShloMosaic
open Cert.KernelIdeal Cert.KernelIdeal.Gen Cert.Proof.Moe Cert.Proof.Slots Cert.Proof.Tables

theorem scaleOf_at (X : S32x5120.Idx → Elt Ideal .bf16) (t : Fin 32) : scaleOf X (ix2 t 0) = scale (fun d => X (ix2 t d)) := by
  pointwise [scaleOf, k0_pay30, k0_pay29, k0_pay28, k0_pay27, k0_pay26]
  exact Scale.scale_eq (quo fun d => X (ix2 t d))
theorem codesOf_at (X : S32x5120.Idx → Elt Ideal .bf16) (t : Fin 32) (d : Fin 5120) : codesOf X (ix2 t d) = code (fun d => X (ix2 t d)) d := by
  pointwise [codesOf, k0_pay31, k0_pay29, k0_pay28, k0_pay27, k0_pay26]
  exact congrArg (fun z => min _ (max _ (X (ix2 t d) * z))) (Scale.inv_eq (quo fun d => X (ix2 t d)))
theorem hscale_at (H : FVec Ideal S32x768 .f32) (t : Fin 32) : k0_pay13 H (ix2 t 0) = scale (fun j => H (ix2 t j) * Ideal.logistic (H (ix2 t j))) := by
  pointwise [k0_pay13, k0_pay12, k0_pay11]
  exact Scale.scale_eq (quo fun d => _)
theorem hcode_at (H : FVec Ideal S32x768 .f32) (t : Fin 32) (j : Fin 768) :
    min (Ideal.ofBits FTy.f32 1138753536#32) (max (Ideal.ofBits FTy.f32 3286237184#32) (k0_pay14 H (ix2 t j))) = code (fun j => H (ix2 t j) * Ideal.logistic (H (ix2 t j))) j := by
  pointwise [k0_pay14, k0_pay12, k0_pay11]
  exact congrArg (fun z => min _ (max _ (_ * z))) (Scale.inv_eq (quo fun d => _))

theorem cmpi_eq (a b : BitVec 32) : IntOp.cmpi CmpIPredicate.eq a b = BitVec.ofBool (decide (a = b)) := rfl

/-- Of a token's experts, whether the expert is one. -/
theorem hit_at (v : BitVec 32) (X19 : S32x8.Idx → BitVec 32) (t : Fin 32) :
    k0_pay6 (F := Ideal) v X19 (ix2 t 0) = BitVec.ofBool (decide (∃ k, X19 (ix2 t k) = v)) := by
  pointwise [k0_pay6, k0_pay5]
  have hg : ∀ k, BitVec.setWidth 32 (IntOp.cmpi CmpIPredicate.eq (X19 (ix2 t k)) v) = if X19 (ix2 t k) = v then 1#32 else 0#32 := by
    intro k
    rw [cmpi_eq]
    by_cases h : X19 (ix2 t k) = v
    · rw [if_pos h, decide_eq_true h]; rfl
    · rw [if_neg h, decide_eq_false h]; rfl
  simp only [hg]
  by_cases h : ∃ k, X19 (ix2 t k) = v
  · obtain ⟨k, hk⟩ := h
    rw [decide_eq_true ⟨k, hk⟩, Scale.fold_maxsi _ 1#32 k (if_pos hk)]
    · rfl
    · intro x; split <;> decide
  · rw [decide_eq_false h]
    have h' : ∀ k, ¬ X19 (ix2 t k) = v := fun k hk => h ⟨k, hk⟩
    rw [Scale.fold_maxsi _ 0#32 0 (if_neg (h' 0))]
    · rfl
    · intro x; rw [if_neg (h' x)]

theorem weight_at (v : BitVec 32) (X19 : S32x8.Idx → BitVec 32) (X20 : S32x8.Idx → EReal) (t : Fin 32) :
    k0_pay7 (F := Ideal) v X19 X20 (ix2 t 0) = ∑ k, if X19 (ix2 t k) = v then X20 (ix2 t k) else 0 := by
  pointwise [k0_pay7, k0_pay5]
  refine Finset.sum_congr rfl fun k _ => ?_
  rw [cmpi_eq]
  by_cases h : X19 (ix2 t k) = v
  · rw [if_pos h, decide_eq_true h]; rfl
  · rw [if_neg h, decide_eq_false h]; rfl

theorem block_words : ∀ j : Fin 128, (Scalar.select
        (IntOp.andi
          (IntOp.cmpi CmpIPredicate.ne
            (IntOp.subi (BitVec.setWidth 32 (IntOp.cmpi CmpIPredicate.sgt (BitVec.ofNat 32 ↑j) 0#32))
              (BitVec.setWidth 32 (IntOp.cmpi CmpIPredicate.slt (BitVec.ofNat 32 ↑j) 0#32)))
            (Scalar.subi (Scalar.extui (Scalar.cmpi CmpIPredicate.sgt 16#32 0#32))
              (Scalar.extui (Scalar.cmpi CmpIPredicate.slt 16#32 0#32))))
          (IntOp.cmpi CmpIPredicate.ne (IntOp.remsi ArithUnit.vector (BitVec.ofNat 32 ↑j) 16#32) 0#32))
        (IntOp.subi (IntOp.divsi ArithUnit.vector (BitVec.ofNat 32 ↑j) 16#32) 1#32)
        (IntOp.divsi ArithUnit.vector (BitVec.ofNat 32 ↑j) 16#32)) = BitVec.ofNat 32 (j.val / 16) := by decide

/-- Whether a column of the stacked adapters belongs to the token's adapter. -/
theorem column_at (X4 : S32x1.Idx → BitVec 32) (t : Fin 32) (j : Fin 128) :
    k0_pay1 (F := Ideal) k0_pay36 X4 (ix2 t j) = BitVec.ofBool (decide (X4 (ix2 t 0) = BitVec.ofNat 32 (j.val / 16))) := by
  pointwise [k0_pay1, k0_pay36]
  rw [block_words]
  unfold IntOp.cmpi
  rfl

theorem hidden_at (v107 : FVec Ideal S32x1 .f32) (v166 : IVec S32x128 1) (X19 : S32x8.Idx → Elt Ideal .i32) (X13 : S32x5120.Idx → Elt Ideal .fp8e4m3)
    (X5 : S32x5120.Idx → Elt Ideal .bf16) (v : BitVec 32) (UP : S1x5120x768.Idx → Elt Ideal .fp8e4m3) (R6 : Vec Ideal S1x768 .f32)
    (A : S1x8x16x5120.Idx → Elt Ideal .bf16) (B : S1x8x16x768.Idx → Elt Ideal .bf16) (t : Fin 32) (j : Fin 768) :
    hidden v107 v166 X19 X13 X5 v UP R6 A B (ix2 t j) = (∑ x, X13 (ix2 t x) * UP (ix3 0 x j)) * v107 (ix2 t 0) * R6 (ix2 0 j) +
      Ideal.ofBits FTy.f32 1073741824#32 *
        ∑ x : Fin 128, Scalar.select (IntOp.andi (v166 (ix2 t x)) (k0_pay6 (F := Ideal) v X19 (ix2 t 0)))
            ((∑ d, X5 (ix2 t d) * A (ix4 0 (x.divNat (m := 8) (n := 16)) (x.modNat (m := 8) (n := 16)) d)) * B (ix4 0 (x.divNat (m := 8) (n := 16)) (x.modNat (m := 8) (n := 16)) j)) 0 := by
  pointwise [hidden, k0_pay10, k0_pay9, k0_pay8]
  rfl

theorem trip_at (v192 : IVec S32x1 1) (v197 v314 : FVec Ideal S32x1 .f32) (v321 : FVec Ideal S32x768 .f32) (v334 : Vec Ideal S1x768x5120 .fp8e4m3) (v340 : Vec Ideal S1x5120 .f32)
    (v343 : Vec Ideal S32x5120 .f32) (t : Fin 32) (d : Fin 5120) :
    k0_pay2 (F := Ideal) v192 v197 v314 v321 (Scalar.ofBits .f32 0xC3E00000#32) v334 v340 v343 (ix2 t d) = v343 (ix2 t d) +
      Scalar.select (v192 (ix2 t 0))
        ((∑ x, min (Ideal.ofBits FTy.f32 1138753536#32) (max (Ideal.ofBits FTy.f32 3286237184#32) (v321 (ix2 t x))) * v334 (ix3 0 x d)) * v314 (ix2 t 0) * v340 (ix2 0 d) * v197 (ix2 t 0)) 0 := by
  pointwise [k0_pay2]
  try rfl

/-- A sum over the columns of the stacked adapters, adapter by adapter. -/
theorem sum_columns (f : Fin 8 → Fin 16 → EReal) : ∑ x : Fin 128, f (x.divNat (m := 8) (n := 16)) (x.modNat (m := 8) (n := 16)) = ∑ a, ∑ r, f a r := by
  rw [← Fintype.sum_prod_type' f]
  exact Equiv.sum_comp (finProdFinEquiv (m := 8) (n := 16)).symm (fun p : Fin 8 × Fin 16 => f p.1 p.2)

end Cert.Proof.KI

end
-- ==== Proof.KI.Named.lean ====
module

public import proofs.«01_k».proof.Proof.KI.Run
public import proofs.«01_k».proof.Proof.Gen.KernelIdeal.Frame
public import Idealize.ShloMosaic.Lib.Pipeline.FrameSuffixR

@[expose] public section

/-!
# The kernel's run, its results named
-/

set_option maxRecDepth 16384

noncomputable section

namespace Cert.Proof.KI

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat BodyObligationLoose UD ΦD)
open Cert.Proof.Copies Cert.Proof.Words Cert.Proof.Tables Cert.Proof.Slots Cert.Proof.RingState Cert.Proof.Nums
open Cert.KernelIdeal Cert.KernelIdeal.Gen

variable {F : FTy → Type} [FloatOps F]

local notation "𝕄" => MT nD τ sig Unit (Elt F) ℕ (UD sig nD τ) ℕ

variable (m : (ℓ : Loc nD τ sig) → Buf (Elt F) ℓ) (ρ : Dev nD → PrngReg)

variable (y : Dev nD → S32x5120.Idx → Elt F .bf16)

/-- The gathered sum, kept by every trip as `P` says, ends as `y`. -/
def Ends (P : Dev nD → (ℕ → BitVec 32) → ℕ → (S32x5120.Idx → Elt F .f32) → Prop) : Prop :=
  ∀ c O0 acc, P c O0 (order (masks (eTab m c) (aTab m c) 32) (eTab m c 0 0) O0 32).1.toNat acc → k0_pay4 acc = y c

set_option backward.isDefEq.respectTransparency.types false in
theorem obligation_named (hR : RangeOK m) (P : Dev nD → (ℕ → BitVec 32) → ℕ → (S32x5120.Idx → Elt F .f32) → Prop) (hP : ∀ c, Kept m c (P c)) (hy : Ends m y P) (c : Dev nD) :
    BodyObligationLoose (dats (F := F) m y 0 c) (defs₀ (F := F)) Variants.none () Set.univ := fun t => by
  obtain rfl : t = t0_0 := fin_N0 t
  rw [bigSep_W0, bigSep_W0]
  dsimp only
  simp only [before_0, before_1, before_2, before_3, before_4, before_5, before_6, before_7]
  rw [show (dats m y 0 c).Φ t0_0.castSucc = ΦD osem spec0 Hbm (V m) c from rfl, show (dats m y 0 c).Φ t0_0.succ = ΦD osem spec0 Hbm (V m) c from rfl]
  unfold Dat.owesAt Pipeline.owesWithin
  rw [show (dats m y 0 c).owed t0_0.castSucc = 0 from rfl, show (dats m y 0 c).owed t0_0.succ = 0 from rfl]
  iintro ⟨HΦ, ⟨%W, -, HW⟩, ⟨%d0, I0⟩, ⟨%d1, I1⟩, ⟨%d2, I2⟩, ⟨%d3, I3⟩, ⟨%d4, I4⟩, ⟨%d5, I5⟩, ⟨%d6, I6⟩, ⟨%d7, I7⟩, ⟨%X8, O8⟩, ⟨%X9, O9⟩, ⟨%X10, O10⟩⟩
  ihave HΦ := (mine_in m c) $$ HΦ
  icases HΦ with ⟨Hp, HM⟩
  sl_rw [prog_eq t0_0]
  iapply (bodyRun m hR c _ (hP c)) $$ [I0 I1 I2 I3 I4 I5 I6 I7 O8 O9 O10 HM HW]
  · isplitl [I0 I1 I2 I3 I4 I5 I6 I7]
    · iapply (ins_in m c)
      isplitl [I0]; · iexact I0
      isplitl [I1]; · iexact I1
      isplitl [I2]; · iexact I2
      isplitl [I3]; · iexact I3
      isplitl [I4]; · iexact I4
      isplitl [I5]; · iexact I5
      isplitl [I6]; · iexact I6
      iexact I7
    isplitl [HM]; · iexact HM
    isplitl [O8]; · iapply (anyAt_of (c : Thread nD τ) (st0_8 t0_0) _); iexact O8
    isplitl [O9]; · iapply (anyAt_of (c : Thread nD τ) (st0_9 t0_0) _); iexact O9
    isplitl [O10]; · iapply (anyAt_of (c : Thread nD τ) (st0_10 t0_0) _); iexact O10
    iexact HW
  iintro %O0 %acc ⟨%hacc, HI, HM, O8, O9, O10, HW⟩
  ihave HI := (ins_out m c) $$ HI
  icases HI with ⟨I0, I1, I2, I3, I4, I5, I6, I7⟩
  isplitl [HM Hp]
  · iapply (mine_out m c)
    isplitl [Hp]; · iexact Hp
    iexact HM
  isplitl [HW]
  · icases HW with ⟨%W', HW⟩
    iexists W'; isplitr; · ipureintro; exact fun _ _ => Or.inl trivial
    iexact HW
  isplitl [I0]; · iexact I0
  isplitl [I1]; · iexact I1
  isplitl [I2]; · iexact I2
  isplitl [I3]; · iexact I3
  isplitl [I4]; · iexact I4
  isplitl [I5]; · iexact I5
  isplitl [I6]; · iexact I6
  isplitl [I7]; · iexact I7
  isplitl [O8]
  · iapply (Entails.of_eq (congrArg (fun Y => (owns (c : Thread nD τ) (st0_8 t0_0) fullShare Y : sProp 𝕄)) (hy c O0 acc hacc))); iexact O8
  isplitl [O9]; · iexact O9
  iexact O10

set_option backward.isDefEq.respectTransparency.types false in
/-- From any memory whose expert numbers are in range the program runs to its end, every semaphore back at zero and every array as the region's data say. -/
theorem run_named (hR : RangeOK m) (P : Dev nD → (ℕ → BitVec 32) → ℕ → (S32x5120.Idx → Elt F .f32) → Prop) (hP : ∀ c, Kept m c (P c)) (hy : Ends m y P) :
    θ_run defs (onTc (τ := τ) (main (F := F))) (s₀ m ρ) (fun r => Pipeline.FramePost cfgs (dats m y) 0 (Pipeline.afterTail₀ cfgs (dats m y) 0 (V0 m) [hostOps1]) r ∧ r.2.sem = fun _ => 0) :=
  Pipeline.θ_run_frame_dma_around_shared cfgs (dats m y) (0 : Fin 1) launch₀0 osem defs₀ Variants.none ownSemFacts Hbm hbm_sub m ρ main
    (hbody := fun c => obligation_named m y hR P hP hy c) (hq := fun _ _ _ => rfl) (howed := fun _ _ => rfl) (V₀ := V0 m) (opss := [hostOps1])
    (hsub := sfx_but) (hfresh := sfx_fresh) (hkeep := sfx_keeps) (hmain := hmainD m) (hA := fun _ _ => rfl)
    (hin := fun _ => .rfl) (hout := fun _ => .rfl) (Q' := fun r => Pipeline.FramePost cfgs (dats m y) 0 (Pipeline.afterTail₀ cfgs (dats m y) 0 (V0 m) [hostOps1]) r ∧ r.2.sem = fun _ => 0) (hQ' := fun _ h => h)

/-- An array neither the region nor a later line writes ends as the region found it. -/
theorem unwritten (b : Ref sig .tc) (hw : b ∉ Tail) (ha : ∀ w, Pipeline.arrRef spec0 w ≠ b) (c : Dev nD) :
    Pipeline.afterTail₀ cfgs (dats m y) 0 (V0 m) [hostOps1] c b = V m c b := by
  unfold Pipeline.afterTail₀
  rw [StableHlo.after_of_forall_not_mem (b := Proc.devRef .tc b) _ _ (fun op hop hb => hw (sfx_writes hostOps1 (by simp) op (by simpa using hop) b hb)),
    Pipeline.withArrays_of_ne _ c (V0 m c) _ b ha]

theorem args_of {r : PUnit × MemSt nD τ sig (Elt F)} (h : Pipeline.FramePost cfgs (dats m y) 0 (Pipeline.afterTail₀ cfgs (dats m y) 0 (V0 m) [hostOps1]) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  ⟨((h c).2 main_arg0 (Pipeline.mem_restRefs_of main_arg0 (by decide) (by decide))).trans ((unwritten m y main_arg0 (by decide) (by decide) c).trans (V_main_arg0 m c)),
    ((h c).2 main_arg1 (Pipeline.mem_restRefs_of main_arg1 (by decide) (by decide))).trans ((unwritten m y main_arg1 (by decide) (by decide) c).trans (V_main_arg1 m c)),
    ((h c).2 main_arg2 (Pipeline.mem_restRefs_of main_arg2 (by decide) (by decide))).trans ((unwritten m y main_arg2 (by decide) (by decide) c).trans (V_main_arg2 m c)),
    ((h c).2 main_arg3 (Pipeline.mem_restRefs_of main_arg3 (by decide) (by decide))).trans ((unwritten m y main_arg3 (by decide) (by decide) c).trans (V_main_arg3 m c)),
    ((h c).2 main_arg4 (Pipeline.mem_restRefs_of main_arg4 (by decide) (by decide))).trans ((unwritten m y main_arg4 (by decide) (by decide) c).trans (V_main_arg4 m c)),
    ((h c).1 6).trans (((dats m y 0 c).arrAt_in 6 rfl _).trans (V_main_arg5 m c)),
    ((h c).2 main_arg6 (Pipeline.mem_restRefs_of main_arg6 (by decide) (by decide))).trans ((unwritten m y main_arg6 (by decide) (by decide) c).trans (V_main_arg6 m c)),
    ((h c).1 7).trans (((dats m y 0 c).arrAt_in 7 rfl _).trans (V_main_arg7 m c)),
    ((h c).2 main_arg8 (Pipeline.mem_restRefs_of main_arg8 (by decide) (by decide))).trans ((unwritten m y main_arg8 (by decide) (by decide) c).trans (V_main_arg8 m c)),
    ((h c).2 main_arg9 (Pipeline.mem_restRefs_of main_arg9 (by decide) (by decide))).trans ((unwritten m y main_arg9 (by decide) (by decide) c).trans (V_main_arg9 m c))⟩

end Cert.Proof.KI

end
-- ==== Proof.KI.Step.lean ====
module

public import proofs.«01_k».proof.Proof.KI.Values
public import proofs.«01_k».proof.Proof.KI.Named
public import proofs.«01_k».proof.Proof.Order

@[expose] public section

/-!
# What the kernel's loop computes

A trip adds to the accumulator what its expert adds to the layer's result; the listed experts are all that add anything.
-/

set_option maxRecDepth 16384

noncomputable section

namespace Cert.Proof.KI

open Idealize.ShloMosaic
open Idealize.ShloMosaic.TcCoe Idealize.ShloMosaic.Tactic
open Cert.KernelIdeal Cert.KernelIdeal.Gen Cert.Proof.Moe Cert.Proof.Slots Cert.Proof.Tables Cert.Proof.Copies Cert.Proof.Words Cert.Proof.Nums

variable (m : (ℓ : Loc nD τ sig) → Buf (Elt Ideal) ℓ) (c : Dev nD)

/-- The layer's data, read off the arguments. -/
def dat : Data where
  x t d := argX m c (ValueIdx.ix3 t 0 d)
  E t k := argE m c (ValueIdx.ix3 t 0 k)
  W t k := argW m c (ValueIdx.ix3 t 0 k)
  A t := argA m c (ValueIdx.ix1 t)
  U e d j := argU m c (ValueIdx.ix3 e d j)
  Us e j := argUs m c (ValueIdx.ix2 e j)
  Dn e j d := argD m c (ValueIdx.ix3 e j d)
  Ds e d := argDs m c (ValueIdx.ix2 e d)
  La e a d r := argLa m c (ValueIdx.ix4 e a d r)
  Lb e a r j := argLb m c (ValueIdx.ix4 e a r j)

theorem x_at (t : Fin 32) (d : Fin 5120) : W5 m c (ix2 t d) = (dat m c).x t d := by
  rw [ix2_eq_valueIdx]; exact W5_at m c t d
theorem ids_at (t : Fin 32) (k : Fin 8) : k0_pay33 (k0_pay32 (F := Ideal) (W2 m c)) (ix2 t k) = (dat m c).E t k := by
  refine Eq.trans ?_ (W2_at m c k t)
  rw [← ix2_eq_valueIdx]
  pointwise [k0_pay33, k0_pay32]
theorem weights_at (t : Fin 32) (k : Fin 8) : k0_pay34 (F := Ideal) (W3 m c) (ix2 t k) = (dat m c).W t k := by
  refine Eq.trans ?_ (W3_at m c k t)
  rw [← ix2_eq_valueIdx]
  pointwise [k0_pay34]
theorem adapters_at (t : Fin 32) : W4 m c (ix2 t 0) = (dat m c).A t := by
  rw [ix2_eq_valueIdx]; exact W4_at m c t

theorem up_at (e : Fin 32) (d : Fin 5120) (j : Fin 768) : upVal (vals m c) e (ix3 0 d j) = (dat m c).U e d j := by
  have h : V m c main_arg4 = argU m c := V_main_arg4 m c
  show V m c main_arg4 ((rHU e).emb (ix3 0 d j)) = _
  rw [h]
  refine congrArg (argU m c) (funext fun a => Fin.ext ?_)
  match a with
  | ⟨0, _⟩ => show e.val + 1 * 0 = e.val; omega
  | ⟨1, _⟩ => show 0 + 1 * d.val = d.val; omega
  | ⟨2, _⟩ => show 0 + 1 * j.val = j.val; omega
theorem down_at (e : Fin 32) (j : Fin 768) (d : Fin 5120) : dnVal (vals m c) e (ix3 0 j d) = (dat m c).Dn e j d := by
  have h : V m c main_arg6 = argD m c := V_main_arg6 m c
  show V m c main_arg6 ((rHD e).emb (ix3 0 j d)) = _
  rw [h]
  refine congrArg (argD m c) (funext fun a => Fin.ext ?_)
  match a with
  | ⟨0, _⟩ => show e.val + 1 * 0 = e.val; omega
  | ⟨1, _⟩ => show 0 + 1 * j.val = j.val; omega
  | ⟨2, _⟩ => show 0 + 1 * d.val = d.val; omega

theorem row6_at (v : BitVec 32) (hv : v.toNat < 32) (j : Fin 768) : row6 (F := Ideal) (W6 m c) v hv (ix2 0 j) = (dat m c).Us (fin32 v) j := by
  refine Eq.trans ?_ (W6_at m c (fin32 v) j)
  refine congrArg (W6 m c) (funext fun a => Fin.ext ?_)
  match a with
  | ⟨0, _⟩ => show v.toNat + 1 * 0 = (fin32 v).val; rw [fin32_val v hv]; omega
  | ⟨1, _⟩ => show 0 + 1 * j.val = j.val; omega
theorem row7_at (v : BitVec 32) (hv : v.toNat < 32) (d : Fin 5120) : row7 (F := Ideal) (W7 m c) v hv (ix2 0 d) = (dat m c).Ds (fin32 v) d := by
  refine Eq.trans ?_ (W7_at m c (fin32 v) d)
  refine congrArg (W7 m c) (funext fun a => Fin.ext ?_)
  match a with
  | ⟨0, _⟩ => show v.toNat + 1 * 0 = (fin32 v).val; rw [fin32_val v hv]; omega
  | ⟨1, _⟩ => show 0 + 1 * d.val = d.val; omega

theorem word_of (v : BitVec 32) (hv : v.toNat < 32) : v = BitVec.ofNat 32 (fin32 v).val := by
  rw [fin32_val v hv]; simp

theorem a_at {e : Fin 32} {M : BitVec 32} {A : S1x8x16x5120.Idx → EReal} (h : FactA (Val := Elt Ideal) (vals m c) e M A) (a : Fin 8) (hu : used M a) (r : Fin 16) (d : Fin 5120) :
    A (ix4 0 a r d) = (dat m c).La e a d r := by
  rw [ix4_eq_valueIdx]; exact (h a hu r d).trans (v7_at m c e a r d)
theorem b_at {e : Fin 32} {M : BitVec 32} {B : S1x8x16x768.Idx → EReal} (h : FactB (Val := Elt Ideal) (vals m c) e M B) (a : Fin 8) (hu : used M a) (r : Fin 16) (j : Fin 768) :
    B (ix4 0 a r j) = (dat m c).Lb e a r j := by
  rw [ix4_eq_valueIdx]; exact (h a hu r j).trans (v8_at m c e a r j)

section Trip

variable (v : BitVec 32) (hv : v.toNat < 32) {M : BitVec 32} {A : S1x8x16x5120.Idx → EReal} {B : S1x8x16x768.Idx → EReal}
variable (hA : FactA (Val := Elt Ideal) (vals m c) (fin32 v) M A) (hB : FactB (Val := Elt Ideal) (vals m c) (fin32 v) M B)

/-- The gated product the trip works with. -/
abbrev hid : FVec Ideal S32x768 .f32 :=
  hidden (F := Ideal) (scaleOf (W5 m c)) (k0_pay1 (F := Ideal) k0_pay36 (W4 m c)) (k0_pay33 (k0_pay32 (F := Ideal) (W2 m c))) (codesOf (W5 m c)) (W5 m c) v
    (upVal (vals m c) (fin32 v)) (row6 (F := Ideal) (W6 m c) v hv) A B

include hA hB in
/-- For a token routed to the expert, the up product is the layer's. -/
theorem hid_at (t : Fin 32) (j : Fin 768) (hit : ∃ k, (dat m c).E t k = v) (hu : ∀ a : Fin 8, (dat m c).A t = BitVec.ofNat 32 a.val → used M a) :
    hid m c v hv (A := A) (B := B) (ix2 t j) = pre (dat m c) (fin32 v) t j := by
  refine (hidden_at _ _ _ _ _ _ _ _ _ _ _ _).trans ?_
  rw [hit_at]
  have hit' : ∃ k, k0_pay33 (k0_pay32 (F := Ideal) (W2 m c)) (ix2 t k) = v := by
    obtain ⟨k, hk⟩ := hit; exact ⟨k, (ids_at m c t k).trans hk⟩
  rw [decide_eq_true hit']
  have e1 : (∑ x, codesOf (W5 m c) (ix2 t x) * upVal (vals m c) (fin32 v) (ix3 0 x j) : EReal) = ∑ d, code ((dat m c).x t) d * (dat m c).U (fin32 v) d j := by
    refine Finset.sum_congr rfl fun d _ => ?_
    rw [codesOf_at, up_at]
    simp only [x_at]
  have e2 : scaleOf (W5 m c) (ix2 t 0) = scale ((dat m c).x t) := by
    rw [scaleOf_at]
    simp only [x_at]
  have e3 : (∑ x : Fin 128, Scalar.select (IntOp.andi (k0_pay1 (F := Ideal) k0_pay36 (W4 m c) (ix2 t x)) (BitVec.ofBool true))
            ((∑ d, W5 m c (ix2 t d) * A (ix4 0 (x.divNat (m := 8) (n := 16)) (x.modNat (m := 8) (n := 16)) d)) * B (ix4 0 (x.divNat (m := 8) (n := 16)) (x.modNat (m := 8) (n := 16)) j)) 0 : EReal)
      = lora (dat m c) (fin32 v) t j := by
    have g : ∀ x : Fin 128, (Scalar.select (IntOp.andi (k0_pay1 (F := Ideal) k0_pay36 (W4 m c) (ix2 t x)) (BitVec.ofBool true))
            ((∑ d, W5 m c (ix2 t d) * A (ix4 0 (x.divNat (m := 8) (n := 16)) (x.modNat (m := 8) (n := 16)) d)) * B (ix4 0 (x.divNat (m := 8) (n := 16)) (x.modNat (m := 8) (n := 16)) j)) 0 : EReal)
        = (fun (a : Fin 8) (r : Fin 16) => if (dat m c).A t = BitVec.ofNat 32 a.val then (∑ d, (dat m c).x t d * (dat m c).La (fin32 v) a d r) * (dat m c).Lb (fin32 v) a r j else 0)
            (x.divNat (m := 8) (n := 16)) (x.modNat (m := 8) (n := 16)) := by
      intro x
      rw [column_at, adapters_at]
      have hx : (x.divNat (m := 8) (n := 16)).val = x.val / 16 := rfl
      by_cases h : (dat m c).A t = BitVec.ofNat 32 (x.val / 16)
      · have hua := hu (x.divNat (m := 8) (n := 16)) h
        rw [decide_eq_true h]
        simp only [hx, if_pos h]
        refine (Scale.sel_one _ _).trans ?_
        rw [b_at m c hB _ hua]
        refine congrArg (· * _) (Finset.sum_congr rfl fun d _ => ?_)
        rw [a_at m c hA _ hua, x_at]
      · rw [decide_eq_false h]
        simp only [hx, if_neg h]
        exact Scale.sel_zero _ _
    refine (Finset.sum_congr rfl fun x _ => g x).trans ((sum_columns (fun (a : Fin 8) (r : Fin 16) => if (dat m c).A t = BitVec.ofNat 32 a.val then (∑ d, (dat m c).x t d * (dat m c).La (fin32 v) a d r) * (dat m c).Lb (fin32 v) a r j else 0)).trans ?_)
    unfold lora low
    refine Finset.sum_congr rfl fun a _ => ?_
    by_cases h : (dat m c).A t = BitVec.ofNat 32 a.val
    · simp only [if_pos h]
    · simp only [if_neg h, Finset.sum_const_zero]
  unfold pre
  exact congrArg₂ (fun p q : EReal => p + Ideal.ofBits FTy.f32 1073741824#32 * q) (congrArg₂ (fun p q : EReal => p * q) (congrArg₂ (fun p q : EReal => p * q) e1 e2) (row6_at m c v hv j)) e3

include hA hB in
/-- A trip adds what its expert adds. -/
theorem step_at (acc : S32x5120.Idx → EReal) (t : Fin 32) (d : Fin 5120)
    (hu : (∃ k, (dat m c).E t k = v) → ∀ a : Fin 8, (dat m c).A t = BitVec.ofNat 32 a.val → used M a) :
    stepAcc (F := Ideal) (scaleOf (W5 m c)) (k0_pay1 (F := Ideal) k0_pay36 (W4 m c)) (k0_pay33 (k0_pay32 (F := Ideal) (W2 m c))) (k0_pay34 (F := Ideal) (W3 m c)) (codesOf (W5 m c)) (W5 m c) v
      (upVal (vals m c) (fin32 v)) (dnVal (vals m c) (fin32 v)) (row6 (F := Ideal) (W6 m c) v hv) (row7 (F := Ideal) (W7 m c) v hv) A B acc (ix2 t d)
    = acc (ix2 t d) + part (dat m c) (fin32 v) t d := by
  unfold stepAcc
  rw [trip_at, hit_at]
  refine congrArg (acc (ix2 t d) + ·) ?_
  simp only [ids_at]
  unfold part
  rw [← word_of v hv]
  by_cases hit : ∃ k, (dat m c).E t k = v
  · rw [decide_eq_true hit, if_pos hit]
    refine (Scale.sel_one _ _).trans ?_
    have hh : ∀ j, hid m c v hv (A := A) (B := B) (ix2 t j) = pre (dat m c) (fin32 v) t j := fun j => hid_at m c v hv hA hB t j hit (hu hit)
    have e1 : ∀ j, min (Ideal.ofBits FTy.f32 1138753536#32) (max (Ideal.ofBits FTy.f32 3286237184#32) (k0_pay14 (F := Ideal) (hid m c v hv (A := A) (B := B)) (ix2 t j)))
        = code (act (dat m c) (fin32 v) t) j := by
      intro j
      rw [hcode_at]
      simp only [hh]
      rfl
    have e2 : k0_pay13 (F := Ideal) (hid m c v hv (A := A) (B := B)) (ix2 t 0) = scale (act (dat m c) (fin32 v) t) := by
      rw [hscale_at]
      simp only [hh]
      rfl
    have e3 : (∑ j, min (Ideal.ofBits FTy.f32 1138753536#32) (max (Ideal.ofBits FTy.f32 3286237184#32) (k0_pay14 (F := Ideal) (hid m c v hv (A := A) (B := B)) (ix2 t j))) * dnVal (vals m c) (fin32 v) (ix3 0 j d) : EReal)
        = ∑ j, code (act (dat m c) (fin32 v) t) j * (dat m c).Dn (fin32 v) j d := by
      refine Finset.sum_congr rfl fun j _ => ?_
      exact congrArg₂ (fun p q : EReal => p * q) (e1 j) (down_at m c (fin32 v) j d)
    have e4 : k0_pay7 (F := Ideal) v (k0_pay33 (k0_pay32 (F := Ideal) (W2 m c))) (k0_pay34 (F := Ideal) (W3 m c)) (ix2 t 0) = ∑ k, if (dat m c).E t k = v then (dat m c).W t k else 0 := by
      rw [weight_at]
      refine Finset.sum_congr rfl fun k _ => ?_
      rw [ids_at, weights_at]
    unfold down
    exact congrArg₂ (fun p q : EReal => p * q) (congrArg₂ (fun p q : EReal => p * q) (congrArg₂ (fun p q : EReal => p * q) e3 e2) (row7_at m c v hv d)) e4
  · rw [decide_eq_false hit, if_neg hit]
    exact Scale.sel_zero _ _

end Trip

end Cert.Proof.KI

end
-- ==== Proof.KI.Sum.lean ====
module

public import proofs.«01_k».proof.Proof.KI.Step
public import proofs.«01_k».proof.Proof.KI.Given
public import proofs.«01_k».proof.Proof.Used

@[expose] public section

/-!
# What the accumulator holds at the end

After so many trips the accumulator is the sum of what the experts listed so far add; the list is every expert some token asks for, so at the end it is the
layer's result.
-/

set_option maxRecDepth 16384

noncomputable section

namespace Cert.Proof.KI

open Idealize.ShloMosaic
open Idealize.ShloMosaic.TcCoe Idealize.ShloMosaic.Tactic
open Cert.KernelIdeal Cert.KernelIdeal.Gen Cert.Proof.Moe Cert.Proof.Slots Cert.Proof.Tables Cert.Proof.Copies Cert.Proof.Words Cert.Proof.Nums Cert.Proof.Used

variable (m : (ℓ : Loc nD τ sig) → Buf (Elt Ideal) ℓ) [Cert.Pre_routing_ok.Facts]

/-- What the expert of a number adds. -/
def adds (c : Dev nD) (t : Fin 32) (d : Fin 5120) (n : ℕ) : EReal := if h : n < 32 then part (dat m c) ⟨n, h⟩ t d else 0

/-- The accumulator after the first trips: the sum of what the experts listed so far add. -/
def Holds (c : Dev nD) (O0 : ℕ → BitVec 32) (j : ℕ) (acc : S32x5120.Idx → EReal) : Prop :=
  ∀ (t : Fin 32) (d : Fin 5120), acc (ix2 t d) = ∑ i ∈ Finset.range j, adds m c t d ((order (masks (eTab m c) (aTab m c) 32) (eTab m c 0 0) O0 32).2 i).toNat

/-- An expert's mask says its tokens' adapters are in use. -/
theorem used_at (c : Dev nD) (v : BitVec 32) (t : Fin 32) (h : ∃ k, (dat m c).E t k = v) (a : Fin 8) (ha : (dat m c).A t = BitVec.ofNat 32 a.val) :
    used (masks (eTab m c) (aTab m c) 32 v.toNat) a := by
  obtain ⟨k, hk⟩ := h
  have e : eTab m c k.val t.val = v := (eTab_at (m := m) c k.val t.val k.isLt t.isLt).trans hk
  have e' : aTab m c 0 t.val = BitVec.ofNat 32 a.val := (aTab_at (m := m) c t.val t.isLt).trans ha
  rw [← e]
  refine used_of_bit _ a (masks_bit (eTab m c) (aTab m c) 32 t.val k.val _ t.isLt k.isLt ?_)
  rw [e']
  exact bit_of_adapter a

theorem kept (c : Dev nD) : Kept (F := Ideal) m c (Holds m c) where
  zero O0 := by
    intro t d
    rw [Finset.sum_range_zero]
    pointwise [k0_pay35]
  step O0 j acc A' B hj hv hacc hA hB := by
    intro t d
    refine (step_at m c _ hv hA hB acc t d fun h a ha => used_at m c _ t h a ha).trans ?_
    rw [Finset.sum_range_succ, ← hacc t d]
    refine congrArg (acc (ix2 t d) + ·) ?_
    unfold adds
    rw [dif_pos hv]
    refine congrArg (fun e => part (dat m c) e t d) (Fin.ext ?_)
    exact Nat.mod_eq_of_lt hv

/-- The layer's result, as the array the accumulator becomes. -/
def result (c : Dev nD) : S32x5120.Idx → EReal := fun i => out (dat m c) (i 0) (i 1)

/-- At the end the accumulator is the layer's result. -/
theorem holds_end (h : Given m) (c : Dev nD) (O0 : ℕ → BitVec 32) (acc : S32x5120.Idx → EReal)
    (hacc : Holds m c O0 (order (masks (eTab m c) (aTab m c) 32) (eTab m c 0 0) O0 32).1.toNat acc) (t : Fin 32) (d : Fin 5120) :
    acc (ix2 t d) = out (dat m c) t d := by
  have hr := routing h c
  rw [hacc t d, order_sum _ _ _ (adds m c t d) 32 le_rfl, out_eq (dat m c) hr.expert hr.distinct t d]
  have h0 : (eTab m c 0 0).toNat < 32 := rangeOK h c 0 0 (by omega) (by omega)
  have hz : ∀ e : Fin 32, masks (eTab m c) (aTab m c) 32 e.val = 0#32 → part (dat m c) e t d = 0 := by
    intro e he
    unfold part
    rw [if_neg]
    rintro ⟨k, hk⟩
    have e1 : eTab m c k.val t.val = BitVec.ofNat 32 e.val := (eTab_at (m := m) c k.val t.val k.isLt t.isLt).trans hk
    have e2 := masks_ne (eTab m c) (aTab m c) 32 t.val k.val t.isLt k.isLt (by rw [aTab_at (m := m) c t.val t.isLt]; exact hr.adapter t)
    rw [e1, BitVec.toNat_ofNat, Nat.mod_eq_of_lt (by omega)] at e2
    exact e2 he
  rw [Finset.sum_range (n := 32)]
  have hs : ∀ e : Fin 32, (if masks (eTab m c) (aTab m c) 32 e.val ≠ 0#32 ∧ e.val ≠ (eTab m c 0 0).toNat then adds m c t d e.val else 0)
      = if e = ⟨_, h0⟩ then 0 else part (dat m c) e t d := by
    intro e
    have ha : adds m c t d e.val = part (dat m c) e t d := by unfold adds; rw [dif_pos e.isLt]
    by_cases he : e = ⟨_, h0⟩
    · rw [if_pos he, if_neg]; rintro ⟨_, hn⟩; exact hn (congrArg Fin.val he)
    · rw [if_neg he, ha]
      have hne : e.val ≠ (eTab m c 0 0).toNat := fun q => he (Fin.ext q)
      by_cases hm : masks (eTab m c) (aTab m c) 32 e.val = 0#32
      · rw [if_neg (fun q => q.1 hm), hz e hm]
      · rw [if_pos ⟨hm, hne⟩]
  rw [Finset.sum_congr rfl fun e _ => hs e, ← Finset.add_sum_erase Finset.univ (fun e => part (dat m c) e t d) (Finset.mem_univ (⟨_, h0⟩ : Fin 32))]
  have ha : adds m c t d (eTab m c 0 0).toNat = part (dat m c) ⟨_, h0⟩ t d := by unfold adds; rw [dif_pos h0]
  rw [ha, ← Finset.add_sum_erase Finset.univ (fun e : Fin 32 => if e = ⟨_, h0⟩ then (0 : EReal) else part (dat m c) e t d) (Finset.mem_univ (⟨_, h0⟩ : Fin 32)), if_pos rfl, zero_add]
  refine congrArg (part (dat m c) ⟨_, h0⟩ t d + ·) (Finset.sum_congr rfl fun e he => ?_)
  rw [if_neg (Finset.ne_of_mem_erase he)]

theorem ends (h : Given m) : Ends (F := Ideal) m (result m) (Holds m) := by
  intro c O0 acc hacc
  funext i
  have hi : i = ix2 (i 0) (i 1) := by funext a; match a with | ⟨0, _⟩ => rfl | ⟨1, _⟩ => rfl
  have hp : ∀ (t : Fin 32) (d : Fin 5120), k0_pay4 (F := Ideal) acc (ix2 t d) = acc (ix2 t d) := by
    intro t d
    pointwise [k0_pay4]
  rw [hi]
  exact (hp (i 0) (i 1)).trans (holds_end m h c O0 acc hacc (i 0) (i 1))

end Cert.Proof.KI

end
-- ==== Proof.Spec.lean ====
module

public import proofs.«01_k».proof.Proof.Moe
public import Idealize.ShloMosaic.Lib.Pointwise

@[expose] public section

/-!
# The layer's results as arrays
-/

noncomputable section

namespace Cert.Proof.Spec

open Idealize.ShloMosaic Cert.Proof.Moe

/-- The shapes of the results: a row for each token, and one number for each token. -/
abbrev S3 : Shape := ⟨3, ![32, 1, 5120]⟩
abbrev S1 : Shape := ⟨3, ![32, 1, 1]⟩

/-- The layer's results as arrays. -/
def ySpec (D : Data) : S3.Idx → EReal := fun i => out D (i 0) (i 2)
def codeSpec (D : Data) : S3.Idx → EReal := fun i => code (D.x (i 0)) (i 2)
def scaleSpec (D : Data) : S1.Idx → EReal := fun i => scale (D.x (i 0))

theorem row_eq (i : S3.Idx) : i = (ix3 (i 0) 0 (i 2) : S3.Idx) := by
  have h : (i 1).val < 1 := (i 1).isLt
  funext a
  match a with
  | ⟨0, _⟩ => rfl
  | ⟨1, _⟩ => exact Fin.ext (show (i 1).val = 0 by omega)
  | ⟨2, _⟩ => rfl
theorem one_eq (i : S1.Idx) : i = (ix3 (i 0) 0 0 : S1.Idx) := by
  have h1 : (i 1).val < 1 := (i 1).isLt
  have h2 : (i 2).val < 1 := (i 2).isLt
  funext a
  match a with
  | ⟨0, _⟩ => rfl
  | ⟨1, _⟩ => exact Fin.ext (show (i 1).val = 0 by omega)
  | ⟨2, _⟩ => exact Fin.ext (show (i 2).val = 0 by omega)

end Cert.Proof.Spec

end
-- ==== Proof.KI.Results.lean ====
module

public import proofs.«01_k».proof.Proof.KI.Sum
public import proofs.«01_k».proof.Proof.Spec
public import Idealize.ShloMosaic.Lib.StableHlo.ReadAt
public import Idealize.ShloMosaic.Lib.Pipeline.ValueKit.Geometry

@[expose] public section

/-!
# The kernel's results

The three result arrays after the run, element by element.
-/

set_option maxRecDepth 16384

noncomputable section

namespace Cert.Proof.KI

open Idealize.ShloMosaic
open Idealize.ShloMosaic.TcCoe Idealize.ShloMosaic.Tactic
open Idealize.SL Idealize.SL.Sem
open Cert.KernelIdeal Cert.KernelIdeal.Gen Cert.Proof.Moe Cert.Proof.Spec

variable (m : (ℓ : Loc nD τ sig) → Buf (Elt Ideal) ℓ) (c : Dev nD)

theorem arr_result : (dats (F := Ideal) m (result m) 0 c).arrAt 8 cfg0.N = result m c :=
  (dats (F := Ideal) m (result m) 0 c).arrAt_eq_of_after_last 8 t0_0 (by decide +kernel) (result m c) fun j => rfl
theorem arr_codes : (dats (F := Ideal) m (result m) 0 c).arrAt 9 cfg0.N = codesOf (W5 m c) :=
  (dats (F := Ideal) m (result m) 0 c).arrAt_eq_of_after_last 9 t0_0 (by decide +kernel) (codesOf (W5 m c)) fun j => rfl
theorem arr_scale : (dats (F := Ideal) m (result m) 0 c).arrAt 10 cfg0.N = scaleOf (W5 m c) :=
  (dats (F := Ideal) m (result m) 0 c).arrAt_eq_of_after_last 10 t0_0 (by decide +kernel) (scaleOf (W5 m c)) fun j => rfl

/-- What the region leaves, buffer by buffer. -/
abbrev left : Valuation τ sig (Elt Ideal) := Pipeline.withArrays spec0 c (V0 m c) fun w => (dats (F := Ideal) m (result m) 0 c).arrAt w cfg0.N

/-- Windows that share an array are inputs, so such an array is as the region found it. -/
theorem shared (w w' : Fin cfg0.W) (hne : w ≠ w') (he : Pipeline.arrRef spec0 w = Pipeline.arrRef spec0 w') :
    (dats (F := Ideal) m (result m) 0 c).arrAt w cfg0.N = V0 m c (Proc.devRef .tc (Pipeline.arrRef spec0 w)) :=
  (dats (F := Ideal) m (result m) 0 c).arrAt_sharedIn sharedIn0 (V0 m c) (fun _ => rfl) _ w w' hne he

theorem left_result : left m c (Proc.devRef .tc main_v12_0) = result m c :=
  (Pipeline.withArrays_arr_shared spec0 c (V0 m c) _ (shared m c) 8).trans (arr_result m c)
theorem left_codes : left m c (Proc.devRef .tc main_v12_1) = codesOf (W5 m c) :=
  (Pipeline.withArrays_arr_shared spec0 c (V0 m c) _ (shared m c) 9).trans (arr_codes m c)
theorem left_scale : left m c (Proc.devRef .tc main_v12_2) = scaleOf (W5 m c) :=
  (Pipeline.withArrays_arr_shared spec0 c (V0 m c) _ (shared m c) 10).trans (arr_scale m c)

theorem after_result (t : Fin 32) (d : Fin 5120) :
    Pipeline.afterTail₀ cfgs (dats m (result m)) 0 (V0 m) [hostOps1] c main_v13 (ix3 t 0 d) = out (dat m c) t d := by
  have e : Pipeline.afterTail₀ cfgs (dats m (result m)) 0 (V0 m) [hostOps1] c main_v13 = StableHlo.after hostOps1 (left m c) (Proc.devRef .tc main_v13) := rfl
  have e' : StableHlo.after hostOps1 (left m c) (Proc.devRef .tc main_v13) (ix3 t 0 d) = left m c (Proc.devRef .tc main_v12_0) (ix2 t d) := by
    generalize left m c = L
    after_reads_at
  rw [e, e', left_result]
  rfl
theorem after_codes (t : Fin 32) (d : Fin 5120) :
    Pipeline.afterTail₀ cfgs (dats m (result m)) 0 (V0 m) [hostOps1] c main_v14 (ix3 t 0 d) = code ((dat m c).x t) d := by
  have e : Pipeline.afterTail₀ cfgs (dats m (result m)) 0 (V0 m) [hostOps1] c main_v14 = StableHlo.after hostOps1 (left m c) (Proc.devRef .tc main_v14) := rfl
  have e' : StableHlo.after hostOps1 (left m c) (Proc.devRef .tc main_v14) (ix3 t 0 d) = left m c (Proc.devRef .tc main_v12_1) (ix2 t d) := by
    generalize left m c = L
    after_reads_at
  rw [e, e', left_codes, codesOf_at]
  simp only [x_at]
theorem after_scale (t : Fin 32) :
    Pipeline.afterTail₀ cfgs (dats m (result m)) 0 (V0 m) [hostOps1] c main_v15 (ix3 t 0 0) = scale ((dat m c).x t) := by
  have e : Pipeline.afterTail₀ cfgs (dats m (result m)) 0 (V0 m) [hostOps1] c main_v15 = StableHlo.after hostOps1 (left m c) (Proc.devRef .tc main_v15) := rfl
  have e' : StableHlo.after hostOps1 (left m c) (Proc.devRef .tc main_v15) (ix3 t 0 0) = left m c (Proc.devRef .tc main_v12_2) (ix2 t 0) := by
    generalize left m c = L
    after_reads_at
  rw [e, e', left_scale, scaleOf_at]
  simp only [x_at]

variable [Cert.Pre_routing_ok.Facts] (ρ : Dev nD → PrngReg)

/-- The kernel runs, ends with the layer's results, and leaves its arguments. -/
theorem run (h : Given m) : θ_run defs (onTc (τ := τ) (main (F := Ideal))) ⟨m, fun _ => 0, ρ⟩ (fun r => ∀ c : Dev nD,
      r.2.mem ((c.tc : Thread nD τ).loc main_v13) = ySpec (dat m c)
      ∧ r.2.mem ((c.tc : Thread nD τ).loc main_v14) = codeSpec (dat m c)
      ∧ r.2.mem ((c.tc : Thread nD τ).loc main_v15) = scaleSpec (dat m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) := by
  refine (θ_run defs _ _).mono (fun r hr c => ⟨?_, ?_, ?_, args_of m (result m) hr.1 c⟩)
    (run_named m ρ (result m) (rangeOK h) (Holds m) (fun c => kept m c) (ends m h))
  · refine ((hr.1 c).2 main_v13 (Pipeline.mem_restRefs_of main_v13 (by decide) (by decide))).trans (funext fun i => ?_)
    exact (congrArg _ (row_eq i)).trans (after_result m c (i 0) (i 2))
  · refine ((hr.1 c).2 main_v14 (Pipeline.mem_restRefs_of main_v14 (by decide) (by decide))).trans (funext fun i => ?_)
    exact (congrArg _ (row_eq i)).trans (after_codes m c (i 0) (i 2))
  · refine ((hr.1 c).2 main_v15 (Pipeline.mem_restRefs_of main_v15 (by decide) (by decide))).trans (funext fun i => ?_)
    exact (congrArg _ (one_eq i)).trans (after_scale m c (i 0))

end Cert.Proof.KI

end
-- ==== Proof.RI.Rows.lean ====
module

public import proofs.«01_k».proof.Proof.Gen.ReferenceIdeal.Value
public import proofs.«01_k».proof.Proof.Moe
public import Idealize.ShloMosaic.Lib.Pointwise
public import Idealize.ShloMosaic.Lib.Pipeline.ValueKit.Acc
public import Idealize.ShloMosaic.Lib.Pipeline.ValueKit.Tiles

@[expose] public section

/-!
# What the reference makes of the rows

The reference's loads, and its scales, codes and up product, read at an index of the blocks it was given.
-/

set_option maxRecDepth 16384

noncomputable section

namespace Cert.Proof.RI

open Idealize.ShloMosaic Cert.ReferenceIdeal Cert.ReferenceIdeal.Gen Cert.Proof.Moe Cert.Proof.Scale

/-- A choice by an equality of words. -/
theorem sel_eq (a b : BitVec 32) (x y : EReal) : (Scalar.select (IntOp.cmpi .eq a b) x y : EReal) = if a = b then x else y := by
  have h : IntOp.cmpi .eq a b = BitVec.ofBool (decide (a = b)) := rfl
  rw [h]
  by_cases e : a = b
  · rw [decide_eq_true e, if_pos e]; exact sel_one _ _
  · rw [decide_eq_false e, if_neg e]; exact sel_zero _ _

section Loads
variable {e : EltTy}

theorem ld_row (X : S32x5120.Idx → Elt Ideal e) : View.ld X r0_0 = X := View.ld_unit_lit' _ X (by decide)
theorem ld_up (X : S32x5120x768.Idx → Elt Ideal e) : View.ld X r0_1 = X := View.ld_unit_lit' _ X (by decide)
theorem ld_upScale (X : S32x768.Idx → Elt Ideal e) : View.ld X r0_2 = X := View.ld_unit_lit' _ X (by decide)
theorem ld_adapter (X : S32x1.Idx → Elt Ideal e) : View.ld X r0_5 = X := View.ld_unit_lit' _ X (by decide)
theorem ld_down (X : S32x768x5120.Idx → Elt Ideal e) : View.ld X r0_20 = X := View.ld_unit_lit' _ X (by decide)

/-- One adapter's first matrix. -/
theorem ld_a (X : S32x8x5120x16.Idx → Elt Ideal e) (off : Fin 4 → ℕ) (inb) (a : Fin 8) (h : off = ![0, a.val, 0, 0]) (i : Fin 32) (d : Fin 5120) (r : Fin 16) :
    View.ld X (Rect.unit (s := S32x8x5120x16) off S32x1x5120x16.size inb) (ix4 i 0 d r) = X (ix4 i a d r) := by
  subst h
  refine View.ld_unit_apply_of _ _ _ _ _ _ fun x => ?_
  fin_cases x <;> simp [ix4]
/-- One adapter's second matrix. -/
theorem ld_b (X : S32x8x16x768.Idx → Elt Ideal e) (off : Fin 4 → ℕ) (inb) (a : Fin 8) (h : off = ![0, a.val, 0, 0]) (i : Fin 32) (r : Fin 16) (j : Fin 768) :
    View.ld X (Rect.unit (s := S32x8x16x768) off S32x1x16x768.size inb) (ix4 i 0 r j) = X (ix4 i a r j) := by
  subst h
  refine View.ld_unit_apply_of _ _ _ _ _ _ fun x => ?_
  fin_cases x <;> simp [ix4]
/-- One column of the experts or of their weights. -/
theorem ld_column (X : S32x8.Idx → Elt Ideal e) (off : Fin 2 → ℕ) (inb) (k : Fin 8) (h : off = ![0, k.val]) (t : Fin 32) :
    View.ld X (Rect.unit (s := S32x8) off S32x1.size inb) (ix2 t 0) = X (ix2 t k) := by
  subst h
  refine View.ld_unit_apply_of _ _ _ _ _ _ fun x => ?_
  fin_cases x <;> simp [ix2]

end Loads

section Blocks
variable (x0 : Vec Ideal S32x5120 .bf16) (x1 : Vec Ideal S32x8 .i32) (x2 : Vec Ideal S32x8 .f32) (x3 : Vec Ideal S32x1 .i32)
  (x4 : Vec Ideal S32x5120x768 .fp8e4m3) (x5 : Vec Ideal S32x768 .f32) (x6 : Vec Ideal S32x768x5120 .fp8e4m3) (x7 : Vec Ideal S32x5120 .f32)
  (x8 : Vec Ideal S32x8x5120x16 .bf16) (x9 : Vec Ideal S32x8x16x768 .bf16)

/-- The layer's data, from the blocks. -/
def given : Data where
  x t d := x0 (ix2 t d)
  E t k := x1 (ix2 t k)
  W t k := x2 (ix2 t k)
  A t := x3 (ix2 t 0)
  U e d j := x4 (ix3 e d j)
  Us e j := x5 (ix2 e j)
  Dn e j d := x6 (ix3 e j d)
  Ds e d := x7 (ix2 e d)
  La e a d r := x8 (ix4 e a d r)
  Lb e a r j := x9 (ix4 e a r j)

/-- What one adapter adds to the correction. -/
def term (D : Data) (e t : Fin 32) (j : Fin 768) (a : Fin 8) : EReal := if D.A t = BitVec.ofNat 32 a.val then low D e t j a else 0

theorem row_at (t : Fin 32) (d : Fin 5120) : k0_pay30 (F := Ideal) x0 x1 x2 x3 x4 x5 x6 x7 x8 x9 (ix2 t d) = x0 (ix2 t d) := by
  unfold k0_pay30
  rw [ld_row]
  pointwise [k0_pay2]

/-- The row's exponent. -/
theorem exp_at (t : Fin 32) : k0_pay4 (F := Ideal) x0 (ix2 t 0) = FloatOps.sitofp (F := Ideal) FTy.f32 (rexp (quo fun d => x0 (ix2 t d))) := by
  pointwise [k0_pay4, k0_pay3, k0_pay2]
  rfl

theorem scale_at (t : Fin 32) : k0_pay31 (F := Ideal) x0 x1 x2 x3 x4 x5 x6 x7 x8 x9 (ix2 t 0) = scale (fun d => x0 (ix2 t d)) := by
  unfold k0_pay31
  rw [ld_row]
  pointwise [k0_pay6]
  rw [exp_at]
  rfl

theorem code_at (t : Fin 32) (d : Fin 5120) : k0_pay5 (F := Ideal) x0 (ix2 t d) = code (fun d => x0 (ix2 t d)) d := by
  pointwise [k0_pay5, k0_pay3, k0_pay2]
  rw [exp_at]
  rfl

/-- The up product of the codes. -/
theorem up_at (e t : Fin 32) (j : Fin 768) : k0_pay32 (F := Ideal) x0 x1 x2 x3 x4 x5 x6 x7 x8 x9 (ix3 e t j) =
    (∑ d, code ((given x0 x1 x2 x3 x4 x5 x6 x7 x8 x9).x t) d * (given x0 x1 x2 x3 x4 x5 x6 x7 x8 x9).U e d j) * scale ((given x0 x1 x2 x3 x4 x5 x6 x7 x8 x9).x t) * (given x0 x1 x2 x3 x4 x5 x6 x7 x8 x9).Us e j := by
  unfold k0_pay32
  rw [ld_row, ld_up, ld_upScale]
  pointwise [k0_pay8, k0_pay7]
  rw [scale_at]
  simp only [code_at]
  rfl

end Blocks

end Cert.Proof.RI

end
-- ==== Proof.RI.Read.lean ====
module

public import proofs.«01_k».proof.Proof.RI.Rows

@[expose] public section

/-!
# What the reference computes

Each vector the reference's body binds is read at an index, and the three it stores are the layer's result, codes and scale of the blocks it was given.
-/

set_option maxRecDepth 16384

noncomputable section

namespace Cert.Proof.RI

open Idealize.ShloMosaic Cert.ReferenceIdeal Cert.ReferenceIdeal.Gen Cert.Proof.Moe Cert.Proof.Scale

section Blocks
variable (x0 : Vec Ideal S32x5120 .bf16) (x1 : Vec Ideal S32x8 .i32) (x2 : Vec Ideal S32x8 .f32) (x3 : Vec Ideal S32x1 .i32)
  (x4 : Vec Ideal S32x5120x768 .fp8e4m3) (x5 : Vec Ideal S32x768 .f32) (x6 : Vec Ideal S32x768x5120 .fp8e4m3) (x7 : Vec Ideal S32x5120 .f32)
  (x8 : Vec Ideal S32x8x5120x16 .bf16) (x9 : Vec Ideal S32x8x16x768 .bf16)

/-- The correction of the first six adapters. -/
theorem six_at (e t : Fin 32) (j : Fin 768) : k0_pay33 (F := Ideal) x0 x1 x2 x3 x4 x5 x6 x7 x8 x9 (ix3 e t j) =
    term (given x0 x1 x2 x3 x4 x5 x6 x7 x8 x9) e t j 0 + term (given x0 x1 x2 x3 x4 x5 x6 x7 x8 x9) e t j 1 + term (given x0 x1 x2 x3 x4 x5 x6 x7 x8 x9) e t j 2 + term (given x0 x1 x2 x3 x4 x5 x6 x7 x8 x9) e t j 3 + term (given x0 x1 x2 x3 x4 x5 x6 x7 x8 x9) e t j 4 + term (given x0 x1 x2 x3 x4 x5 x6 x7 x8 x9) e t j 5 := by
  unfold k0_pay33
  simp only [ld_adapter]
  pointwise [k0_pay9, k0_pay10, k0_pay11, k0_pay12, k0_pay13, k0_pay14, k0_pay15, k0_pay16]
  simp only [sel_eq, row_at]
  rfl

/-- The product of the seventh adapter. -/
theorem seventh_at (e t : Fin 32) (j : Fin 768) : k0_pay34 (F := Ideal) x0 x1 x2 x3 x4 x5 x6 x7 x8 x9 (ix3 e t j) = low (given x0 x1 x2 x3 x4 x5 x6 x7 x8 x9) e t j 6 := by
  unfold k0_pay34
  pointwise [k0_pay17]
  simp only [row_at, ld_a _ _ _ 6 rfl, ld_b _ _ _ 6 rfl]
  rfl

theorem adapter_at (t : Fin 32) : k0_pay35 (F := Ideal) x0 x1 x2 x3 x4 x5 x6 x7 x8 x9 (ix2 t 0) = x3 (ix2 t 0) := by
  unfold k0_pay35
  rw [ld_adapter]
  pointwise [k0_pay18]

/-- The gated product. -/
theorem act_at (e t : Fin 32) (j : Fin 768) :
    k0_pay19 (F := Ideal) (k0_pay30 x0 x1 x2 x3 x4 x5 x6 x7 x8 x9) (k0_pay32 x0 x1 x2 x3 x4 x5 x6 x7 x8 x9) (k0_pay33 x0 x1 x2 x3 x4 x5 x6 x7 x8 x9) (k0_pay34 x0 x1 x2 x3 x4 x5 x6 x7 x8 x9) (k0_pay35 x0 x1 x2 x3 x4 x5 x6 x7 x8 x9) 6#32 (View.ld x8 r0_18) (View.ld x9 r0_19) (View.ld x3 r0_5) (ix3 e t j)
      = act (given x0 x1 x2 x3 x4 x5 x6 x7 x8 x9) e t j := by
  rw [ld_adapter]
  pointwise [k0_pay19]
  simp only [sel_eq, row_at, up_at, six_at, seventh_at, adapter_at, ld_a _ _ _ 7 rfl, ld_b _ _ _ 7 rfl]
  have h : lora (given x0 x1 x2 x3 x4 x5 x6 x7 x8 x9) e t j = term (given x0 x1 x2 x3 x4 x5 x6 x7 x8 x9) e t j 0 + term (given x0 x1 x2 x3 x4 x5 x6 x7 x8 x9) e t j 1 + term (given x0 x1 x2 x3 x4 x5 x6 x7 x8 x9) e t j 2 + term (given x0 x1 x2 x3 x4 x5 x6 x7 x8 x9) e t j 3 + term (given x0 x1 x2 x3 x4 x5 x6 x7 x8 x9) e t j 4 + term (given x0 x1 x2 x3 x4 x5 x6 x7 x8 x9) e t j 5 + term (given x0 x1 x2 x3 x4 x5 x6 x7 x8 x9) e t j 6 + term (given x0 x1 x2 x3 x4 x5 x6 x7 x8 x9) e t j 7 := by
    unfold lora
    rw [Fin.sum_univ_eight]
    rfl
  unfold act pre
  rw [h]
  rfl

/-- Its quotient. -/
theorem quo_at (e t : Fin 32) :
    k0_pay20 (F := Ideal) (k0_pay30 x0 x1 x2 x3 x4 x5 x6 x7 x8 x9) (k0_pay32 x0 x1 x2 x3 x4 x5 x6 x7 x8 x9) (k0_pay33 x0 x1 x2 x3 x4 x5 x6 x7 x8 x9) (k0_pay34 x0 x1 x2 x3 x4 x5 x6 x7 x8 x9) (k0_pay35 x0 x1 x2 x3 x4 x5 x6 x7 x8 x9) 6#32 (View.ld x8 r0_18) (View.ld x9 r0_19) (View.ld x3 r0_5) (ix3 e t 0)
      = quo (act (given x0 x1 x2 x3 x4 x5 x6 x7 x8 x9) e t) := by
  pointwise [k0_pay20]
  simp only [act_at]
  rfl

/-- The down product. -/
theorem down_at (e t : Fin 32) (d : Fin 5120) : k0_pay37 (F := Ideal) x0 x1 x2 x3 x4 x5 x6 x7 x8 x9 (ix3 e t d) = down (given x0 x1 x2 x3 x4 x5 x6 x7 x8 x9) e t d := by
  unfold k0_pay37
  rw [ld_down, ld_row]
  pointwise [k0_pay22, k0_pay21]
  simp only [act_at, quo_at]
  rfl

theorem number_at (e t : Fin 32) : k0_pay36 (F := Ideal) x0 x1 x2 x3 x4 x5 x6 x7 x8 x9 (ix3 e t 0) = BitVec.ofNat 32 e.val := by
  pointwise [k0_pay36]

/-- The layer's result. -/
theorem result_at (t : Fin 32) (d : Fin 5120) : out0_10 (F := Ideal) x0 x1 x2 x3 x4 x5 x6 x7 x8 x9 (ix3 t 0 d) = out (given x0 x1 x2 x3 x4 x5 x6 x7 x8 x9) t d := by
  unfold out0_10
  rw [View.canon_cons_unit_lit' _ _ _ (by decide)]
  pointwise [k0_pay28, k0_pay27, k0_pay26, k0_pay25, k0_pay24, k0_pay23]
  simp only [sel_eq, down_at, number_at]
  unfold out
  rw [Fin.sum_univ_eight]
  rfl

/-- The codes of the rows. -/
theorem codes_at (t : Fin 32) (d : Fin 5120) : out0_11 (F := Ideal) x0 x1 x2 x3 x4 x5 x6 x7 x8 x9 (ix3 t 0 d) = code ((given x0 x1 x2 x3 x4 x5 x6 x7 x8 x9).x t) d := by
  unfold out0_11
  rw [View.canon_cons_unit_lit' _ _ _ (by decide), ld_row]
  pointwise [k0_pay29]
  rw [code_at]
  rfl

/-- The scales of the rows. -/
theorem scales_at (t : Fin 32) : out0_12 (F := Ideal) x0 x1 x2 x3 x4 x5 x6 x7 x8 x9 (ix3 t 0 0) = scale ((given x0 x1 x2 x3 x4 x5 x6 x7 x8 x9).x t) := by
  unfold out0_12
  rw [View.canon_cons_unit_lit' _ _ _ (by decide)]
  pointwise [k0_pay1]
  rw [scale_at]
  rfl

end Blocks

end Cert.Proof.RI

end
-- ==== Proof.RI.Run.lean ====
module

public import proofs.«01_k».proof.Proof.RI.Read
public import proofs.«01_k».proof.Proof.Spec
public import Idealize.ShloMosaic.Lib.StableHlo.ReadAt
public import Idealize.ShloMosaic.Lib.Pipeline.ValueKit.Geometry

@[expose] public section

/-!
# The reference's results

The blocks the reference reads are its arguments, and the three arrays it leaves are the layer's results, codes and scales of them.
-/

set_option maxRecDepth 16384

noncomputable section

namespace Cert.Proof.RI

open Idealize.ShloMosaic
open Idealize.ShloMosaic.TcCoe Idealize.ShloMosaic.Tactic
open Idealize.SL Idealize.SL.Sem
open Cert.ReferenceIdeal Cert.ReferenceIdeal.Gen Cert.Proof.Moe Cert.Proof.Spec

variable (m : (ℓ : Loc nD τ sig) → Buf (Elt Ideal) ℓ) (c : Dev nD)

/-- The arguments. -/
abbrev argX : S32x1x5120.Idx → EReal := m ((c : Thread nD τ).loc main_arg0)
abbrev argE : S32x1x8.Idx → BitVec 32 := m ((c : Thread nD τ).loc main_arg1)
abbrev argW : S32x1x8.Idx → EReal := m ((c : Thread nD τ).loc main_arg2)
abbrev argA : S32.Idx → BitVec 32 := m ((c : Thread nD τ).loc main_arg3)
abbrev argU : S32x5120x768.Idx → EReal := m ((c : Thread nD τ).loc main_arg4)
abbrev argUs : S32x768.Idx → EReal := m ((c : Thread nD τ).loc main_arg5)
abbrev argD : S32x768x5120.Idx → EReal := m ((c : Thread nD τ).loc main_arg6)
abbrev argDs : S32x5120.Idx → EReal := m ((c : Thread nD τ).loc main_arg7)
abbrev argLa : S32x8x5120x16.Idx → EReal := m ((c : Thread nD τ).loc main_arg8)
abbrev argLb : S32x8x16x768.Idx → EReal := m ((c : Thread nD τ).loc main_arg9)

/-- The layer's data, read off the arguments. -/
def dat : Data where
  x t d := argX m c (ix3 t 0 d)
  E t k := argE m c (ix3 t 0 k)
  W t k := argW m c (ix3 t 0 k)
  A t := argA m c (ix1 t)
  U e d j := argU m c (ix3 e d j)
  Us e j := argUs m c (ix2 e j)
  Dn e j d := argD m c (ix3 e j d)
  Ds e d := argDs m c (ix2 e d)
  La e a d r := argLa m c (ix4 e a d r)
  Lb e a r j := argLb m c (ix4 e a r j)

theorem v0_at (t : Fin 32) (d : Fin 5120) : V m c main_v0 (ix2 t d) = argX m c (ix3 t 0 d) := by
  unfold V
  after_reads_at
theorem v1_at (t : Fin 32) (k : Fin 8) : V m c main_v1 (ix2 t k) = argE m c (ix3 t 0 k) := by
  unfold V
  after_reads_at
theorem v2_at (t : Fin 32) (k : Fin 8) : V m c main_v2 (ix2 t k) = argW m c (ix3 t 0 k) := by
  unfold V
  after_reads_at
theorem v5_at (t : Fin 32) : V m c main_v5 (ix2 t 0) = argA m c (ix1 t) := by
  unfold V
  after_reads_at

theorem blk0 : iblk m c 0 t0_0 = V m c main_v0 := by
  funext i
  show V m c main_v0 (((cfg0.win 0).blk t0_0).view.emb i) = _
  refine congrArg _ (funext fun a => Fin.ext ?_)
  blk_simp
  fin_cases a <;> simp <;> rfl
theorem blk1 : iblk m c 1 t0_0 = V m c main_v1 := by
  funext i
  show V m c main_v1 (((cfg0.win 1).blk t0_0).view.emb i) = _
  refine congrArg _ (funext fun a => Fin.ext ?_)
  blk_simp
  fin_cases a <;> simp <;> rfl
theorem blk2 : iblk m c 2 t0_0 = V m c main_v2 := by
  funext i
  show V m c main_v2 (((cfg0.win 2).blk t0_0).view.emb i) = _
  refine congrArg _ (funext fun a => Fin.ext ?_)
  blk_simp
  fin_cases a <;> simp <;> rfl
theorem blk3 : iblk m c 3 t0_0 = V m c main_v5 := by
  funext i
  show V m c main_v5 (((cfg0.win 3).blk t0_0).view.emb i) = _
  refine congrArg _ (funext fun a => Fin.ext ?_)
  blk_simp
  fin_cases a <;> simp <;> rfl
theorem blk4 : iblk m c 4 t0_0 = V m c main_arg4 := by
  funext i
  show V m c main_arg4 (((cfg0.win 4).blk t0_0).view.emb i) = _
  refine congrArg _ (funext fun a => Fin.ext ?_)
  blk_simp
  fin_cases a <;> simp <;> rfl
theorem blk5 : iblk m c 5 t0_0 = V m c main_arg5 := by
  funext i
  show V m c main_arg5 (((cfg0.win 5).blk t0_0).view.emb i) = _
  refine congrArg _ (funext fun a => Fin.ext ?_)
  blk_simp
  fin_cases a <;> simp <;> rfl
theorem blk6 : iblk m c 6 t0_0 = V m c main_arg6 := by
  funext i
  show V m c main_arg6 (((cfg0.win 6).blk t0_0).view.emb i) = _
  refine congrArg _ (funext fun a => Fin.ext ?_)
  blk_simp
  fin_cases a <;> simp <;> rfl
theorem blk7 : iblk m c 7 t0_0 = V m c main_arg7 := by
  funext i
  show V m c main_arg7 (((cfg0.win 7).blk t0_0).view.emb i) = _
  refine congrArg _ (funext fun a => Fin.ext ?_)
  blk_simp
  fin_cases a <;> simp <;> rfl
theorem blk8 : iblk m c 8 t0_0 = V m c main_arg8 := by
  funext i
  show V m c main_arg8 (((cfg0.win 8).blk t0_0).view.emb i) = _
  refine congrArg _ (funext fun a => Fin.ext ?_)
  blk_simp
  fin_cases a <;> simp <;> rfl
theorem blk9 : iblk m c 9 t0_0 = V m c main_arg9 := by
  funext i
  show V m c main_arg9 (((cfg0.win 9).blk t0_0).view.emb i) = _
  refine congrArg _ (funext fun a => Fin.ext ?_)
  blk_simp
  fin_cases a <;> simp <;> rfl

/-- The data of the blocks is that of the arguments. -/
theorem given_eq : given (iblk m c 0 t0_0) (iblk m c 1 t0_0) (iblk m c 2 t0_0) (iblk m c 3 t0_0) (iblk m c 4 t0_0) (iblk m c 5 t0_0) (iblk m c 6 t0_0) (iblk m c 7 t0_0) (iblk m c 8 t0_0) (iblk m c 9 t0_0)
    = dat m c := by
  rw [blk0, blk1, blk2, blk3, blk4, blk5, blk6, blk7, blk8, blk9, V_main_arg4, V_main_arg5, V_main_arg6, V_main_arg7, V_main_arg8, V_main_arg9]
  unfold given dat
  congr 1
  · funext t d; exact v0_at m c t d
  · funext t k; exact v1_at m c t k
  · funext t k; exact v2_at m c t k
  · funext t; exact v5_at m c t

theorem arr10 : (dats (F := Ideal) m 0 c).arrAt 10 cfg0.N = ySpec (dat m c) := by
  refine (dats (F := Ideal) m 0 c).arrAt_eq_of_after_last 10 t0_0 (by decide +kernel) (ySpec (dat m c)) fun i => ?_
  refine (congrFun (after0_10 m c t0_0) i).trans ?_
  refine (congrArg _ (row_eq i)).trans ((result_at _ _ _ _ _ _ _ _ _ _ (i 0) (i 2)).trans ?_)
  rw [given_eq]
  rfl
theorem arr11 : (dats (F := Ideal) m 0 c).arrAt 11 cfg0.N = codeSpec (dat m c) := by
  refine (dats (F := Ideal) m 0 c).arrAt_eq_of_after_last 11 t0_0 (by decide +kernel) (codeSpec (dat m c)) fun i => ?_
  refine (congrFun (after0_11 m c t0_0) i).trans ?_
  refine (congrArg _ (row_eq i)).trans ((codes_at _ _ _ _ _ _ _ _ _ _ (i 0) (i 2)).trans ?_)
  rw [given_eq]
  rfl
theorem arr12 : (dats (F := Ideal) m 0 c).arrAt 12 cfg0.N = scaleSpec (dat m c) := by
  refine (dats (F := Ideal) m 0 c).arrAt_eq_of_after_last 12 t0_0 (by decide +kernel) (scaleSpec (dat m c)) fun i => ?_
  refine (congrFun (after0_12 m c t0_0) i).trans ?_
  refine (congrArg _ (one_eq i)).trans ((scales_at _ _ _ _ _ _ _ _ _ _ (i 0)).trans ?_)
  rw [given_eq]
  rfl

/-- The reference runs, ends with the layer's results, and leaves its arguments. -/
theorem run (ρ : Dev nD → PrngReg) : θ_run defs (onTc (τ := τ) (main (F := Ideal))) ⟨m, fun _ => 0, ρ⟩ (fun r => ∀ c : Dev nD,
      r.2.mem ((c.tc : Thread nD τ).loc main_v6_0) = ySpec (dat m c)
      ∧ r.2.mem ((c.tc : Thread nD τ).loc main_v6_1) = codeSpec (dat m c)
      ∧ r.2.mem ((c.tc : Thread nD τ).loc main_v6_2) = scaleSpec (dat m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨(h c).1.trans (arr10 m c), (h c).2.1.trans (arr11 m c), (h c).2.2.1.trans (arr12 m c), (h c).2.2.2⟩)
    (Cert.ReferenceIdeal.Value.run_blocks m ρ)

end Cert.Proof.RI

end
-- ==== Proof.Equal.lean ====
module

public import proofs.«01_k».proof.Defs
public import proofs.«01_k».proof.Proof.KI.Results
public import proofs.«01_k».proof.Proof.RI.Run

@[expose] public section

/-!
# The kernel and the reference end with equal results

Both end with the layer's results of the data they are given, and they are given the same.
-/

set_option maxRecDepth 16384

noncomputable section

namespace Cert.Proof

open Idealize.ShloMosaic Idealize.SL Idealize.SL.Sem

/-- Equal arguments are equal data. -/
theorem dat_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) :
    KI.dat m c = RI.dat m' c := by
  unfold KI.dat RI.dat
  congr 1
  · funext t d; exact ((congrFun h0 (ix3 t 0 d)).trans (congrArg _ (ix3_eq_valueIdx t 0 d))).symm
  · funext t k; exact ((congrFun h1 (ix3 t 0 k)).trans (congrArg _ (ix3_eq_valueIdx t 0 k))).symm
  · funext t k; exact ((congrFun h2 (ix3 t 0 k)).trans (congrArg _ (ix3_eq_valueIdx t 0 k))).symm
  · funext t; exact ((congrFun h3 (ix1 t)).trans (congrArg _ (ix1_eq_valueIdx t))).symm
  · funext e d j; exact ((congrFun h4 (ix3 e d j)).trans (congrArg _ (ix3_eq_valueIdx e d j))).symm
  · funext e j; exact ((congrFun h5 (ix2 e j)).trans (congrArg _ (ix2_eq_valueIdx e j))).symm
  · funext e j d; exact ((congrFun h6 (ix3 e j d)).trans (congrArg _ (ix3_eq_valueIdx e j d))).symm
  · funext e d; exact ((congrFun h7 (ix2 e d)).trans (congrArg _ (ix2_eq_valueIdx e d))).symm
  · funext e a d r; exact ((congrFun h8 (ix4 e a d r)).trans (congrArg _ (ix4_eq_valueIdx e a d r))).symm
  · funext e a r j; exact ((congrFun h9 (ix4 e a r j)).trans (congrArg _ (ix4_eq_valueIdx e a r j))).symm

theorem algebraic [Cert.Pre_routing_ok.Facts] : Cert.algebraic_KernelIdeal_ReferenceIdeal (hKernelIdeal := Cert.KernelIdeal.Gen.facts) (hReferenceIdeal := Cert.ReferenceIdeal.Gen.facts) := by
  intro m g m' g' hpre hargs
  refine ⟨fun c => Spec.ySpec (KI.dat m c), fun c => Spec.codeSpec (KI.dat m c), fun c => Spec.scaleSpec (KI.dat m c), KI.run m g hpre, ?_⟩
  have hd : ∀ c, KI.dat m c = RI.dat m' c := by
    intro c
    obtain ⟨h0, h1, h2, h3, h4, h5, h6, h7, h8, h9⟩ := hargs c
    exact dat_eq m m' c h0 h1 h2 h3 h4 h5 h6 h7 h8 h9
  simp only [hd]
  exact RI.run m' g'

end Cert.Proof

end
-- ==== Proof.lean ====
module

public import proofs.«01_k».proof.Defs
public import proofs.«01_k».proof.Proof.K.Given
public import proofs.«01_k».proof.Proof.K.Forget
public import proofs.«01_k».proof.Proof.KI.Given
public import proofs.«01_k».proof.Proof.KI.Forget
public import proofs.«01_k».proof.Proof.Gen.ReferenceIdeal.Frame
public import proofs.«01_k».proof.Proof.Equal
public import proofs.«01_k».proof.Proof.Gen.Pre_routing_ok

@[expose] public section

/-!
# The certificate
-/

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_routing_ok.Gen.facts,
    fun m ρ h => K.frame m ρ (K.rangeOK h), fun m ρ h => KI.frame m ρ (KI.rangeOK h),
    fun m ρ _ => Cert.ReferenceIdeal.Gen.frame m ρ, trivial,
    @algebraic Cert.Pre_routing_ok.Gen.facts⟩

end Cert.Proof

end
